-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v82_0)) (v1 : (c : Dev Cert.KernelIdeal.nD) → Buf (Elt Ideal) ((c.tc : Thread Cert.KernelIdeal.nD Cert.KernelIdeal.τ).loc Cert.KernelIdeal.main_v82_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82_0) = v0 c
          ∧ r.2.mem ((c.tc : Thread Cert.KernelIdeal.nD Cert.KernelIdeal.τ).loc Cert.KernelIdeal.main_v82_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v26) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v4_0)) (v1 : (c : Dev Cert.Kernel28Ideal.nD) → Buf (Elt Ideal) ((c.tc : Thread Cert.Kernel28Ideal.nD Cert.Kernel28Ideal.τ).loc Cert.Kernel28Ideal.main_v4_1)) (v2 : (c : Dev Cert.Kernel28Ideal.nD) → Buf (Elt Ideal) ((c.tc : Thread Cert.Kernel28Ideal.nD Cert.Kernel28Ideal.τ).loc Cert.Kernel28Ideal.main_v4_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4_0) = v0 c
          ∧ r.2.mem ((c.tc : Thread Cert.Kernel28Ideal.nD Cert.Kernel28Ideal.τ).loc Cert.Kernel28Ideal.main_v4_1) = v1 c
          ∧ r.2.mem ((c.tc : Thread Cert.Kernel28Ideal.nD Cert.Kernel28Ideal.τ).loc Cert.Kernel28Ideal.main_v4_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v26) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)) (v2 : (c : Dev Cert.Kernel30Ideal.nD) → Buf (Elt Ideal) ((c.tc : Thread Cert.Kernel30Ideal.nD Cert.Kernel30Ideal.τ).loc Cert.Kernel30Ideal.main_v1_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_v1_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v71) = v0 c
          ∧ r.2.mem ((c.tc : Thread Cert.Reference30Ideal.nD Cert.Reference30Ideal.τ).loc Cert.Reference30Ideal.main_v20) = v1 c
          ∧ r.2.mem ((c.tc : Thread Cert.Reference30Ideal.nD Cert.Reference30Ideal.τ).loc Cert.Reference30Ideal.main_v72) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)) (v3 : (c : Dev Cert.Kernel31Ideal.nD) → Buf (Elt Ideal) ((c.tc : Thread Cert.Kernel31Ideal.nD Cert.Kernel31Ideal.τ).loc Cert.Kernel31Ideal.main_v4_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_v4_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v51) = v0 c
          ∧ r.2.mem ((c.tc : Thread Cert.Reference31Ideal.nD Cert.Reference31Ideal.τ).loc Cert.Reference31Ideal.main_v52) = v1 c
          ∧ r.2.mem ((c.tc : Thread Cert.Reference31Ideal.nD Cert.Reference31Ideal.τ).loc Cert.Reference31Ideal.main_v53) = v2 c
          ∧ r.2.mem ((c.tc : Thread Cert.Reference31Ideal.nD Cert.Reference31Ideal.τ).loc Cert.Reference31Ideal.main_v54) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v3_0)) (v1 : (c : Dev Cert.Kernel32Ideal.nD) → Buf (Elt Ideal) ((c.tc : Thread Cert.Kernel32Ideal.nD Cert.Kernel32Ideal.τ).loc Cert.Kernel32Ideal.main_v3_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v3_0) = v0 c
          ∧ r.2.mem ((c.tc : Thread Cert.Kernel32Ideal.nD Cert.Kernel32Ideal.τ).loc Cert.Kernel32Ideal.main_v3_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_v15) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)) →
    ∃ (v0 : (c : Dev Cert.Kernel33Ideal.nD) → Buf (Elt Ideal) ((c.tc : Thread Cert.Kernel33Ideal.nD Cert.Kernel33Ideal.τ).loc Cert.Kernel33Ideal.main_v3_0)) (v1 : (c : Dev Cert.Kernel33Ideal.nD) → Buf (Elt Ideal) ((c.tc : Thread Cert.Kernel33Ideal.nD Cert.Kernel33Ideal.τ).loc Cert.Kernel33Ideal.main_v3_1)) (v2 : (c : Dev Cert.Kernel33Ideal.nD) → Buf (Elt Ideal) ((c.tc : Thread Cert.Kernel33Ideal.nD Cert.Kernel33Ideal.τ).loc Cert.Kernel33Ideal.main_v3_2)) (v3 : (c : Dev Cert.Kernel33Ideal.nD) → Buf (Elt Ideal) ((c.tc : Thread Cert.Kernel33Ideal.nD Cert.Kernel33Ideal.τ).loc Cert.Kernel33Ideal.main_v3_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v3_0) = v0 c
          ∧ r.2.mem ((c.tc : Thread Cert.Kernel33Ideal.nD Cert.Kernel33Ideal.τ).loc Cert.Kernel33Ideal.main_v3_1) = v1 c
          ∧ r.2.mem ((c.tc : Thread Cert.Kernel33Ideal.nD Cert.Kernel33Ideal.τ).loc Cert.Kernel33Ideal.main_v3_2) = v2 c
          ∧ r.2.mem ((c.tc : Thread Cert.Kernel33Ideal.nD Cert.Kernel33Ideal.τ).loc Cert.Kernel33Ideal.main_v3_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v22) = v0 c
          ∧ r.2.mem ((c.tc : Thread Cert.Reference33Ideal.nD Cert.Reference33Ideal.τ).loc Cert.Reference33Ideal.main_v23) = v1 c
          ∧ r.2.mem ((c.tc : Thread Cert.Reference33Ideal.nD Cert.Reference33Ideal.τ).loc Cert.Reference33Ideal.main_v24) = v2 c
          ∧ r.2.mem ((c.tc : Thread Cert.Reference33Ideal.nD Cert.Reference33Ideal.τ).loc Cert.Reference33Ideal.main_v25) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v1) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v13) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)) →
    ∃ (v0 : (c : Dev Cert.Kernel35Ideal.nD) → Buf (Elt Ideal) ((c.tc : Thread Cert.Kernel35Ideal.nD Cert.Kernel35Ideal.τ).loc Cert.Kernel35Ideal.main_v5)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v5) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v27) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v2_0)) (v1 : (c : Dev Cert.Kernel36Ideal.nD) → Buf (Elt Ideal) ((c.tc : Thread Cert.Kernel36Ideal.nD Cert.Kernel36Ideal.τ).loc Cert.Kernel36Ideal.main_v2_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v2_0) = v0 c
          ∧ r.2.mem ((c.tc : Thread Cert.Kernel36Ideal.nD Cert.Kernel36Ideal.τ).loc Cert.Kernel36Ideal.main_v2_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v36) = v0 c
          ∧ r.2.mem ((c.tc : Thread Cert.Reference36Ideal.nD Cert.Reference36Ideal.τ).loc Cert.Reference36Ideal.main_v37) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal_on_summed37 [hKernel37Ideal : Cert.Kernel37Ideal.Facts] [hReference37Ideal : Cert.Reference37Ideal.Facts] [hOn_summed37 : Cert.On_summed37.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          (∀ i : (⟨3, ![4, 512, 256]⟩ : Shape).Idx, (Cert.On_summed37.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1))) i = 1#1 → r.2.mem ((c.tc : Thread Cert.Kernel37Ideal.nD Cert.Kernel37Ideal.τ).loc Cert.Kernel37Ideal.main_v2) i = v0 c i)
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          (∀ i : (⟨3, ![4, 512, 256]⟩ : Shape).Idx, (Cert.On_summed37.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1))) i = 1#1 → r.2.mem ((c.tc : Thread Cert.Reference37Ideal.nD Cert.Reference37Ideal.τ).loc Cert.Reference37Ideal.main_v12) i = v0 c i)
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal_on_summed38 [hKernel38Ideal : Cert.Kernel38Ideal.Facts] [hReference38Ideal : Cert.Reference38Ideal.Facts] [hOn_summed38 : Cert.On_summed38.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          (∀ i : (⟨3, ![4, 1024, 1152]⟩ : Shape).Idx, (Cert.On_summed38.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1))) i = 1#1 → r.2.mem ((c.tc : Thread Cert.Kernel38Ideal.nD Cert.Kernel38Ideal.τ).loc Cert.Kernel38Ideal.main_v2) i = v0 c i)
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          (∀ i : (⟨3, ![4, 1024, 1152]⟩ : Shape).Idx, (Cert.On_summed38.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1))) i = 1#1 → r.2.mem ((c.tc : Thread Cert.Reference38Ideal.nD Cert.Reference38Ideal.τ).loc Cert.Reference38Ideal.main_v12) i = v0 c i)
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal_on_summed39 [hKernel39Ideal : Cert.Kernel39Ideal.Facts] [hReference39Ideal : Cert.Reference39Ideal.Facts] [hOn_summed39 : Cert.On_summed39.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          (∀ i : (⟨3, ![4, 1024, 1408]⟩ : Shape).Idx, (Cert.On_summed39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1))) i = 1#1 → r.2.mem ((c.tc : Thread Cert.Kernel39Ideal.nD Cert.Kernel39Ideal.τ).loc Cert.Kernel39Ideal.main_v2) i = v0 c i)
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          (∀ i : (⟨3, ![4, 1024, 1408]⟩ : Shape).Idx, (Cert.On_summed39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1))) i = 1#1 → r.2.mem ((c.tc : Thread Cert.Reference39Ideal.nD Cert.Reference39Ideal.τ).loc Cert.Reference39Ideal.main_v12) i = v0 c i)
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal_on_summed40 [hKernel40Ideal : Cert.Kernel40Ideal.Facts] [hReference40Ideal : Cert.Reference40Ideal.Facts] [hOn_summed40 : Cert.On_summed40.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          (∀ i : (⟨3, ![4, 704, 1024]⟩ : Shape).Idx, (Cert.On_summed40.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1))) i = 1#1 → r.2.mem ((c.tc : Thread Cert.Kernel40Ideal.nD Cert.Kernel40Ideal.τ).loc Cert.Kernel40Ideal.main_v2) i = v0 c i)
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          (∀ i : (⟨3, ![4, 704, 1024]⟩ : Shape).Idx, (Cert.On_summed40.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1))) i = 1#1 → r.2.mem ((c.tc : Thread Cert.Reference40Ideal.nD Cert.Reference40Ideal.τ).loc Cert.Reference40Ideal.main_v12) i = v0 c i)
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal_on_summed41 [hKernel41Ideal : Cert.Kernel41Ideal.Facts] [hReference41Ideal : Cert.Reference41Ideal.Facts] [hOn_summed41 : Cert.On_summed41.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          (∀ i : (⟨3, ![4, 256, 1024]⟩ : Shape).Idx, (Cert.On_summed41.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1))) i = 1#1 → r.2.mem ((c.tc : Thread Cert.Kernel41Ideal.nD Cert.Kernel41Ideal.τ).loc Cert.Kernel41Ideal.main_v2) i = v0 c i)
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          (∀ i : (⟨3, ![4, 256, 1024]⟩ : Shape).Idx, (Cert.On_summed41.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1))) i = 1#1 → r.2.mem ((c.tc : Thread Cert.Reference41Ideal.nD Cert.Reference41Ideal.τ).loc Cert.Reference41Ideal.main_v12) i = v0 c i)
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal_on_summed42 [hKernel42Ideal : Cert.Kernel42Ideal.Facts] [hReference42Ideal : Cert.Reference42Ideal.Facts] [hOn_summed42 : Cert.On_summed42.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          (∀ i : (⟨3, ![4, 256, 512]⟩ : Shape).Idx, (Cert.On_summed42.fn (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1))) i = 1#1 → r.2.mem ((c.tc : Thread Cert.Kernel42Ideal.nD Cert.Kernel42Ideal.τ).loc Cert.Kernel42Ideal.main_v2) i = v0 c i)
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          (∀ i : (⟨3, ![4, 256, 512]⟩ : Shape).Idx, (Cert.On_summed42.fn (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1))) i = 1#1 → r.2.mem ((c.tc : Thread Cert.Reference42Ideal.nD Cert.Reference42Ideal.τ).loc Cert.Reference42Ideal.main_v12) i = v0 c i)
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal_on_summed43 [hKernel43Ideal : Cert.Kernel43Ideal.Facts] [hReference43Ideal : Cert.Reference43Ideal.Facts] [hOn_summed43 : Cert.On_summed43.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v2)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          (∀ i : (⟨3, ![4, 256, 256]⟩ : Shape).Idx, (Cert.On_summed43.fn (F := Ideal) (m ((c.tc : Thread Cert.Kernel43Ideal.nD Cert.Kernel43Ideal.τ).loc Cert.Kernel43Ideal.main_arg0)) (m ((c.tc : Thread Cert.Kernel43Ideal.nD Cert.Kernel43Ideal.τ).loc Cert.Kernel43Ideal.main_arg1))) i = 1#1 → r.2.mem ((c.tc : Thread Cert.Kernel43Ideal.nD Cert.Kernel43Ideal.τ).loc Cert.Kernel43Ideal.main_v2) i = v0 c i)
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          (∀ i : (⟨3, ![4, 256, 256]⟩ : Shape).Idx, (Cert.On_summed43.fn (F := Ideal) (m ((c.tc : Thread Cert.Kernel43Ideal.nD Cert.Kernel43Ideal.τ).loc Cert.Kernel43Ideal.main_arg0)) (m ((c.tc : Thread Cert.Kernel43Ideal.nD Cert.Kernel43Ideal.τ).loc Cert.Kernel43Ideal.main_arg1))) i = 1#1 → r.2.mem ((c.tc : Thread Cert.Reference43Ideal.nD Cert.Reference43Ideal.τ).loc Cert.Reference43Ideal.main_v12) i = v0 c i)
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hPre_finite : Cert.Pre_finite.Facts) (hPre_finite2 : Cert.Pre_finite2.Facts) (hOn_summed37 : Cert.On_summed37.Facts) (hOn_summed38 : Cert.On_summed38.Facts) (hOn_summed39 : Cert.On_summed39.Facts) (hOn_summed40 : Cert.On_summed40.Facts) (hOn_summed41 : Cert.On_summed41.Facts) (hOn_summed42 : Cert.On_summed42.Facts) (hOn_summed43 : Cert.On_summed43.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel4_Kernel4Ideal
    ∧ algebraic_Kernel4Ideal_Reference4Ideal (hKernel4Ideal := hKernel4Ideal) (hReference4Ideal := hReference4Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal_on_summed37 (hKernel37Ideal := hKernel37Ideal) (hReference37Ideal := hReference37Ideal) (hOn_summed37 := hOn_summed37)
    ∧ preserves_Kernel38_Kernel38Ideal
    ∧ algebraic_Kernel38Ideal_Reference38Ideal_on_summed38 (hKernel38Ideal := hKernel38Ideal) (hReference38Ideal := hReference38Ideal) (hOn_summed38 := hOn_summed38)
    ∧ preserves_Kernel39_Kernel39Ideal
    ∧ algebraic_Kernel39Ideal_Reference39Ideal_on_summed39 (hKernel39Ideal := hKernel39Ideal) (hReference39Ideal := hReference39Ideal) (hOn_summed39 := hOn_summed39)
    ∧ preserves_Kernel40_Kernel40Ideal
    ∧ algebraic_Kernel40Ideal_Reference40Ideal_on_summed40 (hKernel40Ideal := hKernel40Ideal) (hReference40Ideal := hReference40Ideal) (hOn_summed40 := hOn_summed40)
    ∧ preserves_Kernel41_Kernel41Ideal
    ∧ algebraic_Kernel41Ideal_Reference41Ideal_on_summed41 (hKernel41Ideal := hKernel41Ideal) (hReference41Ideal := hReference41Ideal) (hOn_summed41 := hOn_summed41)
    ∧ preserves_Kernel42_Kernel42Ideal
    ∧ algebraic_Kernel42Ideal_Reference42Ideal_on_summed42 (hKernel42Ideal := hKernel42Ideal) (hReference42Ideal := hReference42Ideal) (hOn_summed42 := hOn_summed42)
    ∧ preserves_Kernel43_Kernel43Ideal
    ∧ algebraic_Kernel43Ideal_Reference43Ideal_on_summed43 (hKernel43Ideal := hKernel43Ideal) (hReference43Ideal := hReference43Ideal) (hOn_summed43 := hOn_summed43)
-- ==== On_summed37.lean ====
abbrev S2x4x512x256 : Shape := ⟨4, ![2, 4, 512, 256]⟩
abbrev S3x2x512x256 : Shape := ⟨4, ![3, 2, 512, 256]⟩
abbrev S4x512x256 : Shape := ⟨3, ![4, 512, 256]⟩
abbrev S_ : Shape := ⟨0, ![]⟩

class Facts : Prop where
  bcast_S_S4x512x256 : S_.BroadcastsInDim S4x512x256 (![] : Fin 0 → Fin S4x512x256.rank)

variable [Facts]

def fn {F : FTy → Type} [FloatOps F] (main_arg0 : FVec F S2x4x512x256 .f32) (main_arg1 : FVec F S3x2x512x256 .f32) : IVec S4x512x256 1 :=
  let main_v0 : IVec S4x512x256 32 := iotaInDim S4x512x256 32 0
  let main_c : IVec S_ 32 := constantI S_ 32 2#32
  let main_v1 : IVec S4x512x256 32 := broadcastInDim S4x512x256 ![] bcast_S_S4x512x256 main_c
  let main_v2 : IVec S4x512x256 1 := cmpi .slt main_v0 main_v1
  main_v2
-- ==== On_summed38.lean ====
abbrev S2x4x1024x1152 : Shape := ⟨4, ![2, 4, 1024, 1152]⟩
abbrev S3x2x1024x1152 : Shape := ⟨4, ![3, 2, 1024, 1152]⟩
abbrev S4x1024x1152 : Shape := ⟨3, ![4, 1024, 1152]⟩
abbrev S_ : Shape := ⟨0, ![]⟩

class Facts : Prop where
  bcast_S_S4x1024x1152 : S_.BroadcastsInDim S4x1024x1152 (![] : Fin 0 → Fin S4x1024x1152.rank)

variable [Facts]

def fn {F : FTy → Type} [FloatOps F] (main_arg0 : FVec F S2x4x1024x1152 .f32) (main_arg1 : FVec F S3x2x1024x1152 .f32) : IVec S4x1024x1152 1 :=
  let main_v0 : IVec S4x1024x1152 32 := iotaInDim S4x1024x1152 32 0
  let main_c : IVec S_ 32 := constantI S_ 32 2#32
  let main_v1 : IVec S4x1024x1152 32 := broadcastInDim S4x1024x1152 ![] bcast_S_S4x1024x1152 main_c
  let main_v2 : IVec S4x1024x1152 1 := cmpi .slt main_v0 main_v1
  main_v2
-- ==== On_summed39.lean ====
abbrev S2x4x1024x1408 : Shape := ⟨4, ![2, 4, 1024, 1408]⟩
abbrev S3x2x1024x1408 : Shape := ⟨4, ![3, 2, 1024, 1408]⟩
abbrev S4x1024x1408 : Shape := ⟨3, ![4, 1024, 1408]⟩
abbrev S_ : Shape := ⟨0, ![]⟩

class Facts : Prop where
  bcast_S_S4x1024x1408 : S_.BroadcastsInDim S4x1024x1408 (![] : Fin 0 → Fin S4x1024x1408.rank)

variable [Facts]

def fn {F : FTy → Type} [FloatOps F] (main_arg0 : FVec F S2x4x1024x1408 .f32) (main_arg1 : FVec F S3x2x1024x1408 .f32) : IVec S4x1024x1408 1 :=
  let main_v0 : IVec S4x1024x1408 32 := iotaInDim S4x1024x1408 32 0
  let main_c : IVec S_ 32 := constantI S_ 32 2#32
  let main_v1 : IVec S4x1024x1408 32 := broadcastInDim S4x1024x1408 ![] bcast_S_S4x1024x1408 main_c
  let main_v2 : IVec S4x1024x1408 1 := cmpi .slt main_v0 main_v1
  main_v2
-- ==== On_summed40.lean ====
abbrev S2x4x704x1024 : Shape := ⟨4, ![2, 4, 704, 1024]⟩
abbrev S3x2x704x1024 : Shape := ⟨4, ![3, 2, 704, 1024]⟩
abbrev S4x704x1024 : Shape := ⟨3, ![4, 704, 1024]⟩
abbrev S_ : Shape := ⟨0, ![]⟩

class Facts : Prop where
  bcast_S_S4x704x1024 : S_.BroadcastsInDim S4x704x1024 (![] : Fin 0 → Fin S4x704x1024.rank)

variable [Facts]

def fn {F : FTy → Type} [FloatOps F] (main_arg0 : FVec F S2x4x704x1024 .f32) (main_arg1 : FVec F S3x2x704x1024 .f32) : IVec S4x704x1024 1 :=
  let main_v0 : IVec S4x704x1024 32 := iotaInDim S4x704x1024 32 0
  let main_c : IVec S_ 32 := constantI S_ 32 2#32
  let main_v1 : IVec S4x704x1024 32 := broadcastInDim S4x704x1024 ![] bcast_S_S4x704x1024 main_c
  let main_v2 : IVec S4x704x1024 1 := cmpi .slt main_v0 main_v1
  main_v2
-- ==== On_summed41.lean ====
abbrev S2x4x256x1024 : Shape := ⟨4, ![2, 4, 256, 1024]⟩
abbrev S3x2x256x1024 : Shape := ⟨4, ![3, 2, 256, 1024]⟩
abbrev S4x256x1024 : Shape := ⟨3, ![4, 256, 1024]⟩
abbrev S_ : Shape := ⟨0, ![]⟩

class Facts : Prop where
  bcast_S_S4x256x1024 : S_.BroadcastsInDim S4x256x1024 (![] : Fin 0 → Fin S4x256x1024.rank)

variable [Facts]

def fn {F : FTy → Type} [FloatOps F] (main_arg0 : FVec F S2x4x256x1024 .f32) (main_arg1 : FVec F S3x2x256x1024 .f32) : IVec S4x256x1024 1 :=
  let main_v0 : IVec S4x256x1024 32 := iotaInDim S4x256x1024 32 0
  let main_c : IVec S_ 32 := constantI S_ 32 2#32
  let main_v1 : IVec S4x256x1024 32 := broadcastInDim S4x256x1024 ![] bcast_S_S4x256x1024 main_c
  let main_v2 : IVec S4x256x1024 1 := cmpi .slt main_v0 main_v1
  main_v2
-- ==== On_summed42.lean ====
abbrev S2x4x256x512 : Shape := ⟨4, ![2, 4, 256, 512]⟩
abbrev S3x2x256x512 : Shape := ⟨4, ![3, 2, 256, 512]⟩
abbrev S4x256x512 : Shape := ⟨3, ![4, 256, 512]⟩
abbrev S_ : Shape := ⟨0, ![]⟩

class Facts : Prop where
  bcast_S_S4x256x512 : S_.BroadcastsInDim S4x256x512 (![] : Fin 0 → Fin S4x256x512.rank)

variable [Facts]

def fn {F : FTy → Type} [FloatOps F] (main_arg0 : FVec F S2x4x256x512 .f32) (main_arg1 : FVec F S3x2x256x512 .f32) : IVec S4x256x512 1 :=
  let main_v0 : IVec S4x256x512 32 := iotaInDim S4x256x512 32 0
  let main_c : IVec S_ 32 := constantI S_ 32 2#32
  let main_v1 : IVec S4x256x512 32 := broadcastInDim S4x256x512 ![] bcast_S_S4x256x512 main_c
  let main_v2 : IVec S4x256x512 1 := cmpi .slt main_v0 main_v1
  main_v2
-- ==== On_summed43.lean ====
abbrev S2x4x256x256 : Shape := ⟨4, ![2, 4, 256, 256]⟩
abbrev S3x2x256x256 : Shape := ⟨4, ![3, 2, 256, 256]⟩
abbrev S4x256x256 : Shape := ⟨3, ![4, 256, 256]⟩
abbrev S_ : Shape := ⟨0, ![]⟩

class Facts : Prop where
  bcast_S_S4x256x256 : S_.BroadcastsInDim S4x256x256 (![] : Fin 0 → Fin S4x256x256.rank)

variable [Facts]

def fn {F : FTy → Type} [FloatOps F] (main_arg0 : FVec F S2x4x256x256 .f32) (main_arg1 : FVec F S3x2x256x256 .f32) : IVec S4x256x256 1 :=
  let main_v0 : IVec S4x256x256 32 := iotaInDim S4x256x256 32 0
  let main_c : IVec S_ 32 := constantI S_ 32 2#32
  let main_v1 : IVec S4x256x256 32 := broadcastInDim S4x256x256 ![] bcast_S_S4x256x256 main_c
  let main_v2 : IVec S4x256x256 1 := cmpi .slt main_v0 main_v1
  main_v2
-- ==== Pre_finite.lean ====
abbrev S2x4096x8x64 : Shape := ⟨4, ![2, 4096, 8, 64]⟩
abbrev S2x4096x2x64 : Shape := ⟨4, ![2, 4096, 2, 64]⟩
abbrev S8 : Shape := ⟨1, ![8]⟩
abbrev S2x4096x512 : Shape := ⟨3, ![2, 4096, 512]⟩
abbrev S2x4096x2x4x64 : Shape := ⟨5, ![2, 4096, 2, 4, 64]⟩
abbrev S_ : Shape := ⟨0, ![]⟩
abbrev S2x4096x2x1x64 : Shape := ⟨5, ![2, 4096, 2, 1, 64]⟩
abbrev S1x1x2x4x1 : Shape := ⟨5, ![1, 1, 2, 4, 1]⟩

class Facts : Prop where
  shapeCasts_S2x4096x8x64_S2x4096x2x4x64 : S2x4096x8x64.ShapeCasts S2x4096x2x4x64
  bcast_S_S2x4096x2x4x64 : S_.BroadcastsInDim S2x4096x2x4x64 (![] : Fin 0 → Fin S2x4096x2x4x64.rank)
  shapeCasts_S2x4096x512_S2x4096x2x4x64 : S2x4096x512.ShapeCasts S2x4096x2x4x64
  shapeCasts_S2x4096x2x64_S2x4096x2x1x64 : S2x4096x2x64.ShapeCasts S2x4096x2x1x64
  bcast_S_S2x4096x2x1x64 : S_.BroadcastsInDim S2x4096x2x1x64 (![] : Fin 0 → Fin S2x4096x2x1x64.rank)
  bcast_S2x4096x2x1x64_S2x4096x2x4x64_0_1_2_3_4 : S2x4096x2x1x64.BroadcastsInDim S2x4096x2x4x64 (![0, 1, 2, 3, 4] : Fin 5 → Fin S2x4096x2x4x64.rank)
  shapeCasts_S8_S1x1x2x4x1 : S8.ShapeCasts S1x1x2x4x1
  bcast_S_S1x1x2x4x1 : S_.BroadcastsInDim S1x1x2x4x1 (![] : Fin 0 → Fin S1x1x2x4x1.rank)
  bcast_S1x1x2x4x1_S2x4096x2x4x64_0_1_2_3_4 : S1x1x2x4x1.BroadcastsInDim S2x4096x2x4x64 (![0, 1, 2, 3, 4] : Fin 5 → Fin S2x4096x2x4x64.rank)

variable [Facts]

def fn_part1 {F : FTy → Type} [FloatOps F] (main_arg3 : FVec F S8 .f32) (main_v14 : IVec S2x4096x2x4x64 1) (main_v19 : IVec S2x4096x2x4x64 1) : IVec S2x4096x2x4x64 1 :=
  let main_v20 : IVec S2x4096x2x4x64 1 := andi main_v14 main_v19
  let main_v21 : FVec F S1x1x2x4x1 .f32 := shapeCast S1x1x2x4x1 main_arg3 shapeCasts_S8_S1x1x2x4x1
  let main_v22 : FVec F S1x1x2x4x1 .f32 := Host.absf main_v21
  let main_cst_3 : FVec F S_ .f32 := constant S_ .f32 0x7F800000#32
  let main_v23 : FVec F S1x1x2x4x1 .f32 := broadcastInDim S1x1x2x4x1 ![] bcast_S_S1x1x2x4x1 main_cst_3
  let main_v24 : IVec S1x1x2x4x1 1 := cmpf .olt main_v22 main_v23
  let main_v25 : IVec S2x4096x2x4x64 1 := broadcastInDim S2x4096x2x4x64 ![0, 1, 2, 3, 4] bcast_S1x1x2x4x1_S2x4096x2x4x64_0_1_2_3_4 main_v24
  let main_v26 : IVec S2x4096x2x4x64 1 := andi main_v20 main_v25
  main_v26

def fn {F : FTy → Type} [FloatOps F] (main_arg0 : FVec F S2x4096x8x64 .f32) (main_arg1 : FVec F S2x4096x2x64 .f32) (main_arg2 : FVec F S2x4096x2x64 .f32) (main_arg3 : FVec F S8 .f32) (main_arg4 : FVec F S2x4096x512 .f32) : IVec S2x4096x2x4x64 1 :=
  let main_v0 : FVec F S2x4096x2x4x64 .f32 := shapeCast S2x4096x2x4x64 main_arg0 shapeCasts_S2x4096x8x64_S2x4096x2x4x64
  let main_v1 : FVec F S2x4096x2x4x64 .f32 := Host.absf main_v0
  let main_cst : FVec F S_ .f32 := constant S_ .f32 0x7F800000#32
  let main_v2 : FVec F S2x4096x2x4x64 .f32 := broadcastInDim S2x4096x2x4x64 ![] bcast_S_S2x4096x2x4x64 main_cst
  let main_v3 : IVec S2x4096x2x4x64 1 := cmpf .olt main_v1 main_v2
  let main_v4 : FVec F S2x4096x2x4x64 .f32 := shapeCast S2x4096x2x4x64 main_arg4 shapeCasts_S2x4096x512_S2x4096x2x4x64
  let main_v5 : FVec F S2x4096x2x4x64 .f32 := Host.absf main_v4
  let main_cst_0 : FVec F S_ .f32 := constant S_ .f32 0x7F800000#32
  let main_v6 : FVec F S2x4096x2x4x64 .f32 := broadcastInDim S2x4096x2x4x64 ![] bcast_S_S2x4096x2x4x64 main_cst_0
  let main_v7 : IVec S2x4096x2x4x64 1 := cmpf .olt main_v5 main_v6
  let main_v8 : IVec S2x4096x2x4x64 1 := andi main_v3 main_v7
  let main_v9 : FVec F S2x4096x2x1x64 .f32 := shapeCast S2x4096x2x1x64 main_arg1 shapeCasts_S2x4096x2x64_S2x4096x2x1x64
  let main_v10 : FVec F S2x4096x2x1x64 .f32 := Host.absf main_v9
  let main_cst_1 : FVec F S_ .f32 := constant S_ .f32 0x7F800000#32
  let main_v11 : FVec F S2x4096x2x1x64 .f32 := broadcastInDim S2x4096x2x1x64 ![] bcast_S_S2x4096x2x1x64 main_cst_1
  let main_v12 : IVec S2x4096x2x1x64 1 := cmpf .olt main_v10 main_v11
  let main_v13 : IVec S2x4096x2x4x64 1 := broadcastInDim S2x4096x2x4x64 ![0, 1, 2, 3, 4] bcast_S2x4096x2x1x64_S2x4096x2x4x64_0_1_2_3_4 main_v12
  let main_v14 : IVec S2x4096x2x4x64 1 := andi main_v8 main_v13
  let main_v15 : FVec F S2x4096x2x1x64 .f32 := shapeCast S2x4096x2x1x64 main_arg2 shapeCasts_S2x4096x2x64_S2x4096x2x1x64
  let main_v16 : FVec F S2x4096x2x1x64 .f32 := Host.absf main_v15
  let main_cst_2 : FVec F S_ .f32 := constant S_ .f32 0x7F800000#32
  let main_v17 : FVec F S2x4096x2x1x64 .f32 := broadcastInDim S2x4096x2x1x64 ![] bcast_S_S2x4096x2x1x64 main_cst_2
  let main_v18 : IVec S2x4096x2x1x64 1 := cmpf .olt main_v16 main_v17
  let main_v19 : IVec S2x4096x2x4x64 1 := broadcastInDim S2x4096x2x4x64 ![0, 1, 2, 3, 4] bcast_S2x4096x2x1x64_S2x4096x2x4x64_0_1_2_3_4 main_v18
  fn_part1 (F := F) main_arg3 main_v14 main_v19
-- ==== Pre_finite2.lean ====
abbrev S8192x1024 : Shape := ⟨2, ![8192, 1024]⟩
abbrev S1024x5632 : Shape := ⟨2, ![1024, 5632]⟩
abbrev S8192x2816 : Shape := ⟨2, ![8192, 2816]⟩
abbrev S8192x5632 : Shape := ⟨2, ![8192, 5632]⟩
abbrev S_ : Shape := ⟨0, ![]⟩

class Facts : Prop where
  slices_S8192x5632_S8192x2816_0_0 : S8192x5632.Slices ![0, 0] S8192x2816
  slices_S8192x5632_S8192x2816_0_2816 : S8192x5632.Slices ![0, 2816] S8192x2816
  bcast_S_S8192x2816 : S_.BroadcastsInDim S8192x2816 (![] : Fin 0 → Fin S8192x2816.rank)
  dot_S8192x1024_S1024x5632_S8192x5632_1_0_0_1_n_n_wf : DotDims.WF S8192x1024 S1024x5632 S8192x5632 [1] [0] [0] [1] [] []

variable [Facts]

def dot_S8192x1024_S1024x5632_S8192x5632_1_0_0_1_n_n : DotDims S8192x1024 S1024x5632 S8192x5632 where
  lhsContracting := [1]
  rhsContracting := [0]
  lhsNonContracting := [0]
  rhsNonContracting := [1]
  lhsBatch := []
  rhsBatch := []
  wf := dot_S8192x1024_S1024x5632_S8192x5632_1_0_0_1_n_n_wf
def fn {F : FTy → Type} [FloatOps F] (main_arg0 : FVec F S8192x1024 .f32) (main_arg1 : FVec F S1024x5632 .f32) (main_arg2 : FVec F S8192x2816 .f32) : IVec S8192x2816 1 :=
  let main_v0 : FVec F S8192x5632 .f32 := (fun l r => Host.dotGeneral dot_S8192x1024_S1024x5632_S8192x5632_1_0_0_1_n_n none l r) main_arg0 main_arg1
  let main_v1 : FVec F S8192x2816 .f32 := (extractStridedSlice S8192x2816 ![0, 0] · slices_S8192x5632_S8192x2816_0_0) main_v0
  let main_v2 : FVec F S8192x2816 .f32 := (extractStridedSlice S8192x2816 ![0, 2816] · slices_S8192x5632_S8192x2816_0_2816) main_v0
  let main_v3 : FVec F S8192x2816 .f32 := mulf main_arg2 main_v2
  let main_v4 : FVec F S8192x2816 .f32 := Host.absf main_v3
  let main_cst : FVec F S_ .f32 := constant S_ .f32 0x7F800000#32
  let main_v5 : FVec F S8192x2816 .f32 := broadcastInDim S8192x2816 ![] bcast_S_S8192x2816 main_cst
  let main_v6 : IVec S8192x2816 1 := cmpf .olt main_v4 main_v5
  main_v6
-- ==== Kernel.lean ====
abbrev S2x4096x8x64 : Shape := ⟨4, ![2, 4096, 8, 64]⟩
abbrev S2x4096x2x64 : Shape := ⟨4, ![2, 4096, 2, 64]⟩
abbrev S8 : Shape := ⟨1, ![8]⟩
abbrev S2x4096x512 : Shape := ⟨3, ![2, 4096, 512]⟩
abbrev S2x32x128x2x4x64 : Shape := ⟨6, ![2, 32, 128, 2, 4, 64]⟩
abbrev S2x32x128x2x64 : Shape := ⟨5, ![2, 32, 128, 2, 64]⟩
abbrev S_ : Shape := ⟨0, ![]⟩
abbrev S2x33x128x2x64 : Shape := ⟨5, ![2, 33, 128, 2, 64]⟩
abbrev S2x32x256x2x64 : Shape := ⟨5, ![2, 32, 256, 2, 64]⟩
abbrev S2x32x2x256x128x4 : Shape := ⟨6, ![2, 32, 2, 256, 128, 4]⟩
abbrev S2x32x2x4x128x256 : Shape := ⟨6, ![2, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S2x32x2x4x128 : Shape := ⟨5, ![2, 32, 2, 4, 128]⟩
abbrev S2x32x2x4x128x1 : Shape := ⟨6, ![2, 32, 2, 4, 128, 1]⟩
abbrev S2x32x2x64x4x128 : Shape := ⟨6, ![2, 32, 2, 64, 4, 128]⟩
abbrev S8192x512 : Shape := ⟨2, ![8192, 512]⟩
abbrev S2x4x2x32x128x1 : Shape := ⟨6, ![2, 4, 2, 32, 128, 1]⟩
abbrev S8x8192x1 : Shape := ⟨3, ![8, 8192, 1]⟩
abbrev S8192x128 : Shape := ⟨2, ![8192, 128]⟩
abbrev S8192x768 : Shape := ⟨2, ![8192, 768]⟩
abbrev S8192x12x64 : Shape := ⟨3, ![8192, 12, 64]⟩
abbrev S12x8192x64 : Shape := ⟨3, ![12, 8192, 64]⟩
abbrev S8192x8x64 : Shape := ⟨3, ![8192, 8, 64]⟩
abbrev S8x8192x64 : Shape := ⟨3, ![8, 8192, 64]⟩
abbrev S8x1x1 : Shape := ⟨3, ![8, 1, 1]⟩
abbrev S16x8192x64 : Shape := ⟨3, ![16, 8192, 64]⟩
abbrev S8x128x64 : Shape := ⟨3, ![8, 128, 64]⟩
abbrev S2x128x64 : Shape := ⟨3, ![2, 128, 64]⟩
abbrev S8x128x1 : Shape := ⟨3, ![8, 128, 1]⟩
abbrev S16x128x64 : Shape := ⟨3, ![16, 128, 64]⟩
abbrev S1x128x64 : Shape := ⟨3, ![1, 128, 64]⟩
abbrev S128x64 : Shape := ⟨2, ![128, 64]⟩
abbrev S256x64 : Shape := ⟨2, ![256, 64]⟩
abbrev S4x128x64 : Shape := ⟨3, ![4, 128, 64]⟩
abbrev S512x64 : Shape := ⟨2, ![512, 64]⟩
abbrev S4x128x1 : Shape := ⟨3, ![4, 128, 1]⟩
abbrev S512x256 : Shape := ⟨2, ![512, 256]⟩
abbrev S4x128x256 : Shape := ⟨3, ![4, 128, 256]⟩
abbrev S4x128 : Shape := ⟨2, ![4, 128]⟩
abbrev S4x1x1 : Shape := ⟨3, ![4, 1, 1]⟩
abbrev S4x1 : Shape := ⟨2, ![4, 1]⟩

abbrev nBuf : Space → Nat
  | .hbm => 103
  | .vmem => 20
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x2x64, .f32⟩
  | .hbm, ⟨2, _⟩ => ⟨S2x4096x2x64, .f32⟩
  | .hbm, ⟨3, _⟩ => ⟨S8, .f32⟩
  | .hbm, ⟨4, _⟩ => ⟨S2x4096x512, .f32⟩
  | .hbm, ⟨5, _⟩ => ⟨S2x32x128x2x4x64, .f32⟩
  | .hbm, ⟨6, _⟩ => ⟨S2x32x128x2x64, .f32⟩
  | .hbm, ⟨7, _⟩ => ⟨S_, .f32⟩
  | .hbm, ⟨8, _⟩ => ⟨S2x33x128x2x64, .f32⟩
  | .hbm, ⟨9, _⟩ => ⟨S2x32x128x2x64, .f32⟩
  | .hbm, ⟨10, _⟩ => ⟨S2x32x256x2x64, .f32⟩
  | .hbm, ⟨11, _⟩ => ⟨S2x32x128x2x64, .f32⟩
  | .hbm, ⟨12, _⟩ => ⟨S_, .f32⟩
  | .hbm, ⟨13, _⟩ => ⟨S2x33x128x2x64, .f32⟩
  | .hbm, ⟨14, _⟩ => ⟨S2x32x128x2x64, .f32⟩
  | .hbm, ⟨15, _⟩ => ⟨S2x32x256x2x64, .f32⟩
  | .hbm, ⟨16, _⟩ => ⟨S2x32x2x256x128x4, .f32⟩
  | .hbm, ⟨17, _⟩ => ⟨S2x32x2x4x128x256, .f32⟩
  | .hbm, ⟨18, _⟩ => ⟨S_, .f32⟩
  | .hbm, ⟨19, _⟩ => ⟨S2x32x2x4x128x256, .f32⟩
  | .hbm, ⟨20, _⟩ => ⟨S2x32x2x4x128x256, .f32⟩
  | .hbm, ⟨21, _⟩ => ⟨S128, .i32⟩
  | .hbm, ⟨22, _⟩ => ⟨S128x1, .i32⟩
  | .hbm, ⟨23, _⟩ => ⟨S256, .i32⟩
  | .hbm, ⟨24, _⟩ => ⟨S1x256, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S128x256, .i32⟩
  | .hbm, ⟨29, _⟩ => ⟨S128x256, .i32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i1⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S128x256, .i1⟩
  | .hbm, ⟨38, _⟩ => ⟨S32, .i32⟩
  | .hbm, ⟨39, _⟩ => ⟨S32x1x1, .i32⟩
  | .hbm, ⟨40, _⟩ => ⟨S_, .i32⟩
  | .hbm, ⟨41, _⟩ => ⟨S32x1x1, .i32⟩
  | .hbm, ⟨42, _⟩ => ⟨S32x1x1, .i1⟩
  | .hbm, ⟨43, _⟩ => ⟨S1x1x256, .i32⟩
  | .hbm, ⟨44, _⟩ => ⟨S_, .i32⟩
  | .hbm, ⟨45, _⟩ => ⟨S1x1x256, .i32⟩
  | .hbm, ⟨46, _⟩ => ⟨S1x1x256, .i1⟩
  | .hbm, ⟨47, _⟩ => ⟨S32x1x256, .i1⟩
  | .hbm, ⟨48, _⟩ => ⟨S32x1x256, .i1⟩
  | .hbm, ⟨49, _⟩ => ⟨S32x1x256, .i1⟩
  | .hbm, ⟨50, _⟩ => ⟨S1x128x256, .i1⟩
  | .hbm, ⟨51, _⟩ => ⟨S32x128x256, .i1⟩
  | .hbm, ⟨52, _⟩ => ⟨S32x128x256, .i1⟩
  | .hbm, ⟨53, _⟩ => ⟨S32x128x256, .i1⟩
  | .hbm, ⟨54, _⟩ => ⟨S1x32x1x1x128x256, .i1⟩
  | .hbm, ⟨55, _⟩ => ⟨S_, .f32⟩
  | .hbm, ⟨56, _⟩ => ⟨S_, .f32⟩
  | .hbm, ⟨57, _⟩ => ⟨S2x32x2x4x128x256, .i1⟩
  | .hbm, ⟨58, _⟩ => ⟨S2x32x2x4x128x256, .f32⟩
  | .hbm, ⟨59, _⟩ => ⟨S2x32x2x4x128x256, .f32⟩
  | .hbm, ⟨60, _⟩ => ⟨S2x4, .f32⟩
  | .hbm, ⟨61, _⟩ => ⟨S1x1x2x4x1x1, .f32⟩
  | .hbm, ⟨62, _⟩ => ⟨S_, .f32⟩
  | .hbm, ⟨63, _⟩ => ⟨S2x32x2x4x128, .f32⟩
  | .hbm, ⟨64, _⟩ => ⟨S2x32x2x4x128x1, .f32⟩
  | .hbm, ⟨65, _⟩ => ⟨S2x32x2x4x128x1, .f32⟩
  | .hbm, ⟨66, _⟩ => ⟨S2x32x2x4x128x1, .f32⟩
  | .hbm, ⟨67, _⟩ => ⟨S2x32x2x4x128x256, .f32⟩
  | .hbm, ⟨68, _⟩ => ⟨S2x32x2x4x128x256, .f32⟩
  | .hbm, ⟨69, _⟩ => ⟨S2x32x2x4x128x256, .f32⟩
  | .hbm, ⟨70, _⟩ => ⟨S_, .f32⟩
  | .hbm, ⟨71, _⟩ => ⟨S2x32x2x4x128, .f32⟩
  | .hbm, ⟨72, _⟩ => ⟨S2x32x2x4x128x1, .f32⟩
  | .hbm, ⟨73, _⟩ => ⟨S2x32x2x4x128x1, .f32⟩
  | .hbm, ⟨74, _⟩ => ⟨S2x32x2x4x128x1, .f32⟩
  | .hbm, ⟨75, _⟩ => ⟨S2x32x2x4x128x1, .f32⟩
  | .hbm, ⟨76, _⟩ => ⟨S2x32x2x4x128x1, .f32⟩
  | .hbm, ⟨77, _⟩ => ⟨S2x32x2x4x128x256, .f32⟩
  | .hbm, ⟨78, _⟩ => ⟨S2x32x2x4x128x256, .f32⟩
  | .hbm, ⟨79, _⟩ => ⟨S2x32x2x64x4x128, .f32⟩
  | .hbm, ⟨80, _⟩ => ⟨S2x32x128x2x4x64, .f32⟩
  | .hbm, ⟨81, _⟩ => ⟨S8192x512, .f32⟩
  | .hbm, ⟨82, _⟩ => ⟨S2x32x2x4x128x1, .f32⟩
  | .hbm, ⟨83, _⟩ => ⟨S2x32x2x4x128x1, .f32⟩
  | .hbm, ⟨84, _⟩ => ⟨S2x4x2x32x128x1, .f32⟩
  | .hbm, ⟨85, _⟩ => ⟨S8x8192x1, .f32⟩
  | .hbm, ⟨86, _⟩ => ⟨S8192x512, .f32⟩
  | .hbm, ⟨87, _⟩ => ⟨S8192x128, .f32⟩
  | .hbm, ⟨88, _⟩ => ⟨S8192x128, .f32⟩
  | .hbm, ⟨89, _⟩ => ⟨S8192x768, .f32⟩
  | .hbm, ⟨90, _⟩ => ⟨S8192x768, .bf16⟩
  | .hbm, ⟨91, _⟩ => ⟨S8192x12x64, .bf16⟩
  | .hbm, ⟨92, _⟩ => ⟨S12x8192x64, .bf16⟩
  | .hbm, ⟨93, _⟩ => ⟨S8192x512, .bf16⟩
  | .hbm, ⟨94, _⟩ => ⟨S8192x8x64, .bf16⟩
  | .hbm, ⟨95, _⟩ => ⟨S8x8192x64, .bf16⟩
  | .hbm, ⟨96, _⟩ => ⟨S8192x512, .f32⟩
  | .hbm, ⟨97, _⟩ => ⟨S8192x512, .bf16⟩
  | .hbm, ⟨98, _⟩ => ⟨S8192x8x64, .bf16⟩
  | .hbm, ⟨99, _⟩ => ⟨S8x8192x64, .bf16⟩
  | .hbm, ⟨100, _⟩ => ⟨S8x1x1, .f32⟩
  | .hbm, ⟨101, _⟩ => ⟨S16x8192x64, .f32⟩
  | .hbm, ⟨102, _⟩ => ⟨S8x1x1, .f32⟩
  | .local _ .vmem, ⟨0, _⟩ => ⟨S8x128x64, .bf16⟩
  | .local _ .vmem, ⟨1, _⟩ => ⟨S8x128x64, .bf16⟩
  | .local _ .vmem, ⟨2, _⟩ => ⟨S2x128x64, .bf16⟩
  | .local _ .vmem, ⟨3, _⟩ => ⟨S2x128x64, .bf16⟩
  | .local _ .vmem, ⟨4, _⟩ => ⟨S2x128x64, .bf16⟩
  | .local _ .vmem, ⟨5, _⟩ => ⟨S2x128x64, .bf16⟩
  | .local _ .vmem, ⟨6, _⟩ => ⟨S2x128x64, .bf16⟩
  | .local _ .vmem, ⟨7, _⟩ => ⟨S2x128x64, .bf16⟩
  | .local _ .vmem, ⟨8, _⟩ => ⟨S2x128x64, .bf16⟩
  | .local _ .vmem, ⟨9, _⟩ => ⟨S2x128x64, .bf16⟩
  | .local _ .vmem, ⟨10, _⟩ => ⟨S8x128x64, .bf16⟩
  | .local _ .vmem, ⟨11, _⟩ => ⟨S8x128x64, .bf16⟩
  | .local _ .vmem, ⟨12, _⟩ => ⟨S8x128x64, .bf16⟩
  | .local _ .vmem, ⟨13, _⟩ => ⟨S8x128x64, .bf16⟩
  | .local _ .vmem, ⟨14, _⟩ => ⟨S8x128x1, .f32⟩
  | .local _ .vmem, ⟨15, _⟩ => ⟨S8x128x1, .f32⟩
  | .local _ .vmem, ⟨16, _⟩ => ⟨S8x1x1, .f32⟩
  | .local _ .vmem, ⟨17, _⟩ => ⟨S16x128x64, .f32⟩
  | .local _ .vmem, ⟨18, _⟩ => ⟨S16x128x64, .f32⟩
  | .local _ .vmem, ⟨19, _⟩ => ⟨S8x1x1, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82_0 : Ref sig .tc := ⟨.hbm, 101, rfl⟩
abbrev main_v82_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  let c0_i32_1 : BitVec 32 := 0#32
  ![c4_i32.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c4_i32 : BitVec 32 := 4#32
  let c0_i32_1 : BitVec 32 := 0#32
  let c0_i32_2 : BitVec 32 := 0#32
  ![c4_i32.toNat, v3.toNat, c0_i32_1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  let c0_i32_1 : BitVec 32 := 0#32
  ![c5_i32.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c5_i32 : BitVec 32 := 5#32
  let c0_i32_1 : BitVec 32 := 0#32
  let c0_i32_2 : BitVec 32 := 0#32
  ![c5_i32.toNat, v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S16x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
abbrev S2x4096x8x64 : Shape := ⟨4, ![2, 4096, 8, 64]⟩
abbrev S2x4096x2x64 : Shape := ⟨4, ![2, 4096, 2, 64]⟩
abbrev S8 : Shape := ⟨1, ![8]⟩
abbrev S2x4096x512 : Shape := ⟨3, ![2, 4096, 512]⟩
abbrev S2x32x128x2x4x64 : Shape := ⟨6, ![2, 32, 128, 2, 4, 64]⟩
abbrev S2x32x128x2x64 : Shape := ⟨5, ![2, 32, 128, 2, 64]⟩
abbrev S_ : Shape := ⟨0, ![]⟩
abbrev S2x33x128x2x64 : Shape := ⟨5, ![2, 33, 128, 2, 64]⟩
abbrev S2x32x256x2x64 : Shape := ⟨5, ![2, 32, 256, 2, 64]⟩
abbrev S2x32x2x256x128x4 : Shape := ⟨6, ![2, 32, 2, 256, 128, 4]⟩
abbrev S2x32x2x4x128x256 : Shape := ⟨6, ![2, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S2x32x2x4x128 : Shape := ⟨5, ![2, 32, 2, 4, 128]⟩
abbrev S2x32x2x4x128x1 : Shape := ⟨6, ![2, 32, 2, 4, 128, 1]⟩
abbrev S2x32x2x64x4x128 : Shape := ⟨6, ![2, 32, 2, 64, 4, 128]⟩
abbrev S8192x512 : Shape := ⟨2, ![8192, 512]⟩
abbrev S2x4x2x32x128x1 : Shape := ⟨6, ![2, 4, 2, 32, 128, 1]⟩
abbrev S8x8192x1 : Shape := ⟨3, ![8, 8192, 1]⟩
abbrev S8192x128 : Shape := ⟨2, ![8192, 128]⟩
abbrev S8192x768 : Shape := ⟨2, ![8192, 768]⟩
abbrev S8192x12x64 : Shape := ⟨3, ![8192, 12, 64]⟩
abbrev S12x8192x64 : Shape := ⟨3, ![12, 8192, 64]⟩
abbrev S8192x8x64 : Shape := ⟨3, ![8192, 8, 64]⟩
abbrev S8x8192x64 : Shape := ⟨3, ![8, 8192, 64]⟩
abbrev S8x1x1 : Shape := ⟨3, ![8, 1, 1]⟩
abbrev S16x8192x64 : Shape := ⟨3, ![16, 8192, 64]⟩
abbrev S8x128x64 : Shape := ⟨3, ![8, 128, 64]⟩
abbrev S2x128x64 : Shape := ⟨3, ![2, 128, 64]⟩
abbrev S8x128x1 : Shape := ⟨3, ![8, 128, 1]⟩
abbrev S16x128x64 : Shape := ⟨3, ![16, 128, 64]⟩
abbrev S1x128x64 : Shape := ⟨3, ![1, 128, 64]⟩
abbrev S128x64 : Shape := ⟨2, ![128, 64]⟩
abbrev S256x64 : Shape := ⟨2, ![256, 64]⟩
abbrev S4x128x64 : Shape := ⟨3, ![4, 128, 64]⟩
abbrev S512x64 : Shape := ⟨2, ![512, 64]⟩
abbrev S4x128x1 : Shape := ⟨3, ![4, 128, 1]⟩
abbrev S512x256 : Shape := ⟨2, ![512, 256]⟩
abbrev S4x128x256 : Shape := ⟨3, ![4, 128, 256]⟩
abbrev S4x128 : Shape := ⟨2, ![4, 128]⟩
abbrev S4x1x1 : Shape := ⟨3, ![4, 1, 1]⟩
abbrev S4x1 : Shape := ⟨2, ![4, 1]⟩

abbrev nBuf : Space → Nat
  | .hbm => 103
  | .vmem => 20
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x2x64, .f32⟩
  | .hbm, ⟨2, _⟩ => ⟨S2x4096x2x64, .f32⟩
  | .hbm, ⟨3, _⟩ => ⟨S8, .f32⟩
  | .hbm, ⟨4, _⟩ => ⟨S2x4096x512, .f32⟩
  | .hbm, ⟨5, _⟩ => ⟨S2x32x128x2x4x64, .f32⟩
  | .hbm, ⟨6, _⟩ => ⟨S2x32x128x2x64, .f32⟩
  | .hbm, ⟨7, _⟩ => ⟨S_, .f32⟩
  | .hbm, ⟨8, _⟩ => ⟨S2x33x128x2x64, .f32⟩
  | .hbm, ⟨9, _⟩ => ⟨S2x32x128x2x64, .f32⟩
  | .hbm, ⟨10, _⟩ => ⟨S2x32x256x2x64, .f32⟩
  | .hbm, ⟨11, _⟩ => ⟨S2x32x128x2x64, .f32⟩
  | .hbm, ⟨12, _⟩ => ⟨S_, .f32⟩
  | .hbm, ⟨13, _⟩ => ⟨S2x33x128x2x64, .f32⟩
  | .hbm, ⟨14, _⟩ => ⟨S2x32x128x2x64, .f32⟩
  | .hbm, ⟨15, _⟩ => ⟨S2x32x256x2x64, .f32⟩
  | .hbm, ⟨16, _⟩ => ⟨S2x32x2x256x128x4, .f32⟩
  | .hbm, ⟨17, _⟩ => ⟨S2x32x2x4x128x256, .f32⟩
  | .hbm, ⟨18, _⟩ => ⟨S_, .f32⟩
  | .hbm, ⟨19, _⟩ => ⟨S2x32x2x4x128x256, .f32⟩
  | .hbm, ⟨20, _⟩ => ⟨S2x32x2x4x128x256, .f32⟩
  | .hbm, ⟨21, _⟩ => ⟨S128, .i32⟩
  | .hbm, ⟨22, _⟩ => ⟨S128x1, .i32⟩
  | .hbm, ⟨23, _⟩ => ⟨S256, .i32⟩
  | .hbm, ⟨24, _⟩ => ⟨S1x256, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S128x256, .i32⟩
  | .hbm, ⟨29, _⟩ => ⟨S128x256, .i32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i1⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S128x256, .i1⟩
  | .hbm, ⟨38, _⟩ => ⟨S32, .i32⟩
  | .hbm, ⟨39, _⟩ => ⟨S32x1x1, .i32⟩
  | .hbm, ⟨40, _⟩ => ⟨S_, .i32⟩
  | .hbm, ⟨41, _⟩ => ⟨S32x1x1, .i32⟩
  | .hbm, ⟨42, _⟩ => ⟨S32x1x1, .i1⟩
  | .hbm, ⟨43, _⟩ => ⟨S1x1x256, .i32⟩
  | .hbm, ⟨44, _⟩ => ⟨S_, .i32⟩
  | .hbm, ⟨45, _⟩ => ⟨S1x1x256, .i32⟩
  | .hbm, ⟨46, _⟩ => ⟨S1x1x256, .i1⟩
  | .hbm, ⟨47, _⟩ => ⟨S32x1x256, .i1⟩
  | .hbm, ⟨48, _⟩ => ⟨S32x1x256, .i1⟩
  | .hbm, ⟨49, _⟩ => ⟨S32x1x256, .i1⟩
  | .hbm, ⟨50, _⟩ => ⟨S1x128x256, .i1⟩
  | .hbm, ⟨51, _⟩ => ⟨S32x128x256, .i1⟩
  | .hbm, ⟨52, _⟩ => ⟨S32x128x256, .i1⟩
  | .hbm, ⟨53, _⟩ => ⟨S32x128x256, .i1⟩
  | .hbm, ⟨54, _⟩ => ⟨S1x32x1x1x128x256, .i1⟩
  | .hbm, ⟨55, _⟩ => ⟨S_, .f32⟩
  | .hbm, ⟨56, _⟩ => ⟨S_, .f32⟩
  | .hbm, ⟨57, _⟩ => ⟨S2x32x2x4x128x256, .i1⟩
  | .hbm, ⟨58, _⟩ => ⟨S2x32x2x4x128x256, .f32⟩
  | .hbm, ⟨59, _⟩ => ⟨S2x32x2x4x128x256, .f32⟩
  | .hbm, ⟨60, _⟩ => ⟨S2x4, .f32⟩
  | .hbm, ⟨61, _⟩ => ⟨S1x1x2x4x1x1, .f32⟩
  | .hbm, ⟨62, _⟩ => ⟨S_, .f32⟩
  | .hbm, ⟨63, _⟩ => ⟨S2x32x2x4x128, .f32⟩
  | .hbm, ⟨64, _⟩ => ⟨S2x32x2x4x128x1, .f32⟩
  | .hbm, ⟨65, _⟩ => ⟨S2x32x2x4x128x1, .f32⟩
  | .hbm, ⟨66, _⟩ => ⟨S2x32x2x4x128x1, .f32⟩
  | .hbm, ⟨67, _⟩ => ⟨S2x32x2x4x128x256, .f32⟩
  | .hbm, ⟨68, _⟩ => ⟨S2x32x2x4x128x256, .f32⟩
  | .hbm, ⟨69, _⟩ => ⟨S2x32x2x4x128x256, .f32⟩
  | .hbm, ⟨70, _⟩ => ⟨S_, .f32⟩
  | .hbm, ⟨71, _⟩ => ⟨S2x32x2x4x128, .f32⟩
  | .hbm, ⟨72, _⟩ => ⟨S2x32x2x4x128x1, .f32⟩
  | .hbm, ⟨73, _⟩ => ⟨S2x32x2x4x128x1, .f32⟩
  | .hbm, ⟨74, _⟩ => ⟨S2x32x2x4x128x1, .f32⟩
  | .hbm, ⟨75, _⟩ => ⟨S2x32x2x4x128x1, .f32⟩
  | .hbm, ⟨76, _⟩ => ⟨S2x32x2x4x128x1, .f32⟩
  | .hbm, ⟨77, _⟩ => ⟨S2x32x2x4x128x256, .f32⟩
  | .hbm, ⟨78, _⟩ => ⟨S2x32x2x4x128x256, .f32⟩
  | .hbm, ⟨79, _⟩ => ⟨S2x32x2x64x4x128, .f32⟩
  | .hbm, ⟨80, _⟩ => ⟨S2x32x128x2x4x64, .f32⟩
  | .hbm, ⟨81, _⟩ => ⟨S8192x512, .f32⟩
  | .hbm, ⟨82, _⟩ => ⟨S2x32x2x4x128x1, .f32⟩
  | .hbm, ⟨83, _⟩ => ⟨S2x32x2x4x128x1, .f32⟩
  | .hbm, ⟨84, _⟩ => ⟨S2x4x2x32x128x1, .f32⟩
  | .hbm, ⟨85, _⟩ => ⟨S8x8192x1, .f32⟩
  | .hbm, ⟨86, _⟩ => ⟨S8192x512, .f32⟩
  | .hbm, ⟨87, _⟩ => ⟨S8192x128, .f32⟩
  | .hbm, ⟨88, _⟩ => ⟨S8192x128, .f32⟩
  | .hbm, ⟨89, _⟩ => ⟨S8192x768, .f32⟩
  | .hbm, ⟨90, _⟩ => ⟨S8192x768, .bf16⟩
  | .hbm, ⟨91, _⟩ => ⟨S8192x12x64, .bf16⟩
  | .hbm, ⟨92, _⟩ => ⟨S12x8192x64, .bf16⟩
  | .hbm, ⟨93, _⟩ => ⟨S8192x512, .bf16⟩
  | .hbm, ⟨94, _⟩ => ⟨S8192x8x64, .bf16⟩
  | .hbm, ⟨95, _⟩ => ⟨S8x8192x64, .bf16⟩
  | .hbm, ⟨96, _⟩ => ⟨S8192x512, .f32⟩
  | .hbm, ⟨97, _⟩ => ⟨S8192x512, .bf16⟩
  | .hbm, ⟨98, _⟩ => ⟨S8192x8x64, .bf16⟩
  | .hbm, ⟨99, _⟩ => ⟨S8x8192x64, .bf16⟩
  | .hbm, ⟨100, _⟩ => ⟨S8x1x1, .f32⟩
  | .hbm, ⟨101, _⟩ => ⟨S16x8192x64, .f32⟩
  | .hbm, ⟨102, _⟩ => ⟨S8x1x1, .f32⟩
  | .local _ .vmem, ⟨0, _⟩ => ⟨S8x128x64, .bf16⟩
  | .local _ .vmem, ⟨1, _⟩ => ⟨S8x128x64, .bf16⟩
  | .local _ .vmem, ⟨2, _⟩ => ⟨S2x128x64, .bf16⟩
  | .local _ .vmem, ⟨3, _⟩ => ⟨S2x128x64, .bf16⟩
  | .local _ .vmem, ⟨4, _⟩ => ⟨S2x128x64, .bf16⟩
  | .local _ .vmem, ⟨5, _⟩ => ⟨S2x128x64, .bf16⟩
  | .local _ .vmem, ⟨6, _⟩ => ⟨S2x128x64, .bf16⟩
  | .local _ .vmem, ⟨7, _⟩ => ⟨S2x128x64, .bf16⟩
  | .local _ .vmem, ⟨8, _⟩ => ⟨S2x128x64, .bf16⟩
  | .local _ .vmem, ⟨9, _⟩ => ⟨S2x128x64, .bf16⟩
  | .local _ .vmem, ⟨10, _⟩ => ⟨S8x128x64, .bf16⟩
  | .local _ .vmem, ⟨11, _⟩ => ⟨S8x128x64, .bf16⟩
  | .local _ .vmem, ⟨12, _⟩ => ⟨S8x128x64, .bf16⟩
  | .local _ .vmem, ⟨13, _⟩ => ⟨S8x128x64, .bf16⟩
  | .local _ .vmem, ⟨14, _⟩ => ⟨S8x128x1, .f32⟩
  | .local _ .vmem, ⟨15, _⟩ => ⟨S8x128x1, .f32⟩
  | .local _ .vmem, ⟨16, _⟩ => ⟨S8x1x1, .f32⟩
  | .local _ .vmem, ⟨17, _⟩ => ⟨S16x128x64, .f32⟩
  | .local _ .vmem, ⟨18, _⟩ => ⟨S16x128x64, .f32⟩
  | .local _ .vmem, ⟨19, _⟩ => ⟨S8x1x1, .f32⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82_0 : Ref sig .tc := ⟨.hbm, 101, rfl⟩
abbrev main_v82_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  let c0_i32_1 : BitVec 32 := 0#32
  ![c4_i32.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c4_i32 : BitVec 32 := 4#32
  let c0_i32_1 : BitVec 32 := 0#32
  let c0_i32_2 : BitVec 32 := 0#32
  ![c4_i32.toNat, v3.toNat, c0_i32_1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  let c0_i32_1 : BitVec 32 := 0#32
  ![c5_i32.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c5_i32 : BitVec 32 := 5#32
  let c0_i32_1 : BitVec 32 := 0#32
  let c0_i32_2 : BitVec 32 := 0#32
  ![c5_i32.toNat, v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S16x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S2x4096x8x64 : Shape := ⟨4, ![2, 4096, 8, 64]⟩
abbrev S2x4096x2x64 : Shape := ⟨4, ![2, 4096, 2, 64]⟩
abbrev S8 : Shape := ⟨1, ![8]⟩
abbrev S2x4096x512 : Shape := ⟨3, ![2, 4096, 512]⟩
abbrev S2x32x128x2x4x64 : Shape := ⟨6, ![2, 32, 128, 2, 4, 64]⟩
abbrev S2x32x128x2x64 : Shape := ⟨5, ![2, 32, 128, 2, 64]⟩
abbrev S_ : Shape := ⟨0, ![]⟩
abbrev S2x33x128x2x64 : Shape := ⟨5, ![2, 33, 128, 2, 64]⟩
abbrev S2x32x256x2x64 : Shape := ⟨5, ![2, 32, 256, 2, 64]⟩
abbrev S2x32x2x256x128x4 : Shape := ⟨6, ![2, 32, 2, 256, 128, 4]⟩
abbrev S2x32x2x4x128x256 : Shape := ⟨6, ![2, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S2x32x2x4x128 : Shape := ⟨5, ![2, 32, 2, 4, 128]⟩
abbrev S2x32x2x4x128x1 : Shape := ⟨6, ![2, 32, 2, 4, 128, 1]⟩
abbrev S2x32x2x64x4x128 : Shape := ⟨6, ![2, 32, 2, 64, 4, 128]⟩
abbrev S2x32x2x64x256 : Shape := ⟨5, ![2, 32, 2, 64, 256]⟩
abbrev S2x4x1 : Shape := ⟨3, ![2, 4, 1]⟩
abbrev S2x32x2x128x4x64 : Shape := ⟨6, ![2, 32, 2, 128, 4, 64]⟩
abbrev S2x32x2x256x64 : Shape := ⟨5, ![2, 32, 2, 256, 64]⟩
abbrev S2x4x2x32x128x64 : Shape := ⟨6, ![2, 4, 2, 32, 128, 64]⟩
abbrev S8x8192x64 : Shape := ⟨3, ![8, 8192, 64]⟩
abbrev S2x2x32x128x64 : Shape := ⟨5, ![2, 2, 32, 128, 64]⟩
abbrev S2x8192x64 : Shape := ⟨3, ![2, 8192, 64]⟩
abbrev S16x8192x64 : Shape := ⟨3, ![16, 8192, 64]⟩
abbrev S8x1x1 : Shape := ⟨3, ![8, 1, 1]⟩

abbrev nBuf : Space → Nat
  | .hbm => 188
  | .vmem => 0
  | .smem => 0
  | _ => 0

abbrev hbmTy0_0 (i : Nat) : BufTy := match i % 128 with
  | 0 => ⟨S2x4096x8x64, .f32⟩
  | 1 => ⟨S2x4096x2x64, .f32⟩
  | 2 => ⟨S2x4096x2x64, .f32⟩
  | 3 => ⟨S8, .f32⟩
  | 4 => ⟨S2x4096x512, .f32⟩
  | 5 => ⟨S2x32x128x2x4x64, .f32⟩
  | 6 => ⟨S2x32x128x2x64, .f32⟩
  | 7 => ⟨S_, .f32⟩
  | 8 => ⟨S2x33x128x2x64, .f32⟩
  | 9 => ⟨S2x32x128x2x64, .f32⟩
  | 10 => ⟨S2x32x256x2x64, .f32⟩
  | 11 => ⟨S2x32x128x2x64, .f32⟩
  | 12 => ⟨S_, .f32⟩
  | 13 => ⟨S2x33x128x2x64, .f32⟩
  | 14 => ⟨S2x32x128x2x64, .f32⟩
  | 15 => ⟨S2x32x256x2x64, .f32⟩
  | 16 => ⟨S2x32x2x256x128x4, .f32⟩
  | 17 => ⟨S2x32x2x4x128x256, .f32⟩
  | 18 => ⟨S_, .f32⟩
  | 19 => ⟨S2x32x2x4x128x256, .f32⟩
  | 20 => ⟨S2x32x2x4x128x256, .f32⟩
  | 21 => ⟨S128, .i32⟩
  | 22 => ⟨S128x1, .i32⟩
  | 23 => ⟨S256, .i32⟩
  | 24 => ⟨S1x256, .i32⟩
  | 25 => ⟨S_, .i32⟩
  | 26 => ⟨S128x1, .i32⟩
  | 27 => ⟨S128x1, .i32⟩
  | 28 => ⟨S128x256, .i32⟩
  | 29 => ⟨S128x256, .i32⟩
  | 30 => ⟨S128x256, .i32⟩
  | 31 => ⟨S_, .i32⟩
  | 32 => ⟨S128x256, .i32⟩
  | 33 => ⟨S128x256, .i1⟩
  | 34 => ⟨S_, .i32⟩
  | 35 => ⟨S128x256, .i32⟩
  | 36 => ⟨S128x256, .i1⟩
  | 37 => ⟨S128x256, .i1⟩
  | 38 => ⟨S32, .i32⟩
  | 39 => ⟨S32x1x1, .i32⟩
  | 40 => ⟨S_, .i32⟩
  | 41 => ⟨S32x1x1, .i32⟩
  | 42 => ⟨S32x1x1, .i1⟩
  | 43 => ⟨S1x1x256, .i32⟩
  | 44 => ⟨S_, .i32⟩
  | 45 => ⟨S1x1x256, .i32⟩
  | 46 => ⟨S1x1x256, .i1⟩
  | 47 => ⟨S32x1x256, .i1⟩
  | 48 => ⟨S32x1x256, .i1⟩
  | 49 => ⟨S32x1x256, .i1⟩
  | 50 => ⟨S1x128x256, .i1⟩
  | 51 => ⟨S32x128x256, .i1⟩
  | 52 => ⟨S32x128x256, .i1⟩
  | 53 => ⟨S32x128x256, .i1⟩
  | 54 => ⟨S1x32x1x1x128x256, .i1⟩
  | 55 => ⟨S_, .f32⟩
  | 56 => ⟨S_, .f32⟩
  | 57 => ⟨S2x32x2x4x128x256, .i1⟩
  | 58 => ⟨S2x32x2x4x128x256, .f32⟩
  | 59 => ⟨S2x32x2x4x128x256, .f32⟩
  | 60 => ⟨S_, .f32⟩
  | 61 => ⟨S2x32x2x4x128x256, .f32⟩
  | 62 => ⟨S2x4, .f32⟩
  | 63 => ⟨S1x1x2x4x1x1, .f32⟩
  | 64 => ⟨S_, .f32⟩
  | 65 => ⟨S2x32x2x4x128, .f32⟩
  | 66 => ⟨S2x32x2x4x128x1, .f32⟩
  | 67 => ⟨S2x32x2x4x128x256, .f32⟩
  | 68 => ⟨S2x32x2x4x128x256, .i1⟩
  | 69 => ⟨S2x32x2x4x128x256, .f32⟩
  | 70 => ⟨S_, .f32⟩
  | 71 => ⟨S2x32x2x4x128, .f32⟩
  | 72 => ⟨S2x32x2x4x128x1, .f32⟩
  | 73 => ⟨S2x32x2x4x128x1, .f32⟩
  | 74 => ⟨S2x32x2x4x128x1, .f32⟩
  | 75 => ⟨S2x32x2x4x128x1, .f32⟩
  | 76 => ⟨S2x32x2x4x128x1, .i1⟩
  | 77 => ⟨S2x32x2x4x128x1, .f32⟩
  | 78 => ⟨S2x32x2x4x128x1, .i1⟩
  | 79 => ⟨S_, .f32⟩
  | 80 => ⟨S2x32x2x4x128x1, .f32⟩
  | 81 => ⟨S_, .f32⟩
  | 82 => ⟨S2x32x2x4x128x1, .f32⟩
  | 83 => ⟨S_, .f32⟩
  | 84 => ⟨S2x32x2x4x128x1, .f32⟩
  | 85 => ⟨S2x32x2x4x128x1, .f32⟩
  | 86 => ⟨S2x32x2x4x128x1, .f32⟩
  | 87 => ⟨S2x32x2x4x128x1, .f32⟩
  | 88 => ⟨S2x32x2x4x128x1, .i1⟩
  | 89 => ⟨S2x32x2x4x128x1, .f32⟩
  | 90 => ⟨S2x32x2x4x128x1, .i1⟩
  | 91 => ⟨S_, .f32⟩
  | 92 => ⟨S2x32x2x4x128x1, .f32⟩
  | 93 => ⟨S_, .f32⟩
  | 94 => ⟨S2x32x2x4x128x1, .f32⟩
  | 95 => ⟨S_, .f32⟩
  | 96 => ⟨S2x32x2x4x128x1, .f32⟩
  | 97 => ⟨S2x32x2x4x128x1, .f32⟩
  | 98 => ⟨S2x32x2x4x128x1, .f32⟩
  | 99 => ⟨S2x32x2x4x128x256, .f32⟩
  | 100 => ⟨S2x32x2x4x128x256, .f32⟩
  | 101 => ⟨S2x32x2x4x128x256, .f32⟩
  | 102 => ⟨S_, .f32⟩
  | 103 => ⟨S2x32x2x4x128, .f32⟩
  | 104 => ⟨S2x32x2x4x128x1, .f32⟩
  | 105 => ⟨S2x32x2x4x128x1, .f32⟩
  | 106 => ⟨S2x32x2x4x128x1, .f32⟩
  | 107 => ⟨S2x32x2x4x128x1, .f32⟩
  | 108 => ⟨S2x32x2x4x128x1, .f32⟩
  | 109 => ⟨S2x32x2x4x128x256, .f32⟩
  | 110 => ⟨S2x32x2x4x128x256, .f32⟩
  | 111 => ⟨S2x32x2x4x128x1, .f32⟩
  | 112 => ⟨S_, .f32⟩
  | 113 => ⟨S2x32x2x4x128x1, .f32⟩
  | 114 => ⟨S2x32x2x4x128x1, .f32⟩
  | 115 => ⟨S2x32x2x64x4x128, .f32⟩
  | 116 => ⟨S2x32x128x2x4x64, .f32⟩
  | 117 => ⟨S2x32x128x2x4x64, .f32⟩
  | 118 => ⟨S2x32x2x64x4x128, .f32⟩
  | 119 => ⟨S2x32x2x4x128x256, .f32⟩
  | 120 => ⟨S2x32x2x64x256, .f32⟩
  | 121 => ⟨S2x32x256x2x64, .f32⟩
  | 122 => ⟨S2x32x2x4x128x256, .f32⟩
  | 123 => ⟨S2x32x2x4x128x256, .f32⟩
  | 124 => ⟨S2x32x2x4x128x256, .f32⟩
  | 125 => ⟨S_, .f32⟩
  | 126 => ⟨S2x32x2x4x128, .f32⟩
  | 127 => ⟨S2x32x2x4x128x1, .f32⟩
  | _ => ⟨S2x4096x8x64, .f32⟩

abbrev hbmTy0_1 (i : Nat) : BufTy := match i % 128 with
  | 0 => ⟨S2x32x2x4x128x1, .f32⟩
  | 1 => ⟨S2x32x2x4x128x256, .f32⟩
  | 2 => ⟨S2x32x2x4x128x256, .f32⟩
  | 3 => ⟨S2x32x2x4x128x1, .f32⟩
  | 4 => ⟨S_, .f32⟩
  | 5 => ⟨S2x4x1, .f32⟩
  | 6 => ⟨S1x1x2x4x1x1, .f32⟩
  | 7 => ⟨S2x32x2x4x128x1, .f32⟩
  | 8 => ⟨S_, .f32⟩
  | 9 => ⟨S2x32x2x4x128, .f32⟩
  | 10 => ⟨S2x32x2x4x128x256, .f32⟩
  | 11 => ⟨S2x32x2x4x128x256, .f32⟩
  | 12 => ⟨S2x32x2x4x128x256, .f32⟩
  | 13 => ⟨S2x32x2x4x128x256, .f32⟩
  | 14 => ⟨S_, .f32⟩
  | 15 => ⟨S2x32x2x4x128, .f32⟩
  | 16 => ⟨S2x32x2x4x128x1, .f32⟩
  | 17 => ⟨S2x32x2x4x128x1, .f32⟩
  | 18 => ⟨S2x32x2x4x128x1, .f32⟩
  | 19 => ⟨S_, .f32⟩
  | 20 => ⟨S2x4x1, .f32⟩
  | 21 => ⟨S1x1x2x4x1x1, .f32⟩
  | 22 => ⟨S1x1x2x4x1x1, .f32⟩
  | 23 => ⟨S2x32x2x4x128x1, .f32⟩
  | 24 => ⟨S_, .f32⟩
  | 25 => ⟨S2x32x2x4x128, .f32⟩
  | 26 => ⟨S2x32x2x4x128, .f32⟩
  | 27 => ⟨S2x32x2x4x128x256, .f32⟩
  | 28 => ⟨S2x32x2x4x128x256, .f32⟩
  | 29 => ⟨S2x32x2x4x128x256, .f32⟩
  | 30 => ⟨S_, .f32⟩
  | 31 => ⟨S2x4, .f32⟩
  | 32 => ⟨S8, .f32⟩
  | 33 => ⟨S_, .f32⟩
  | 34 => ⟨S2x32x2x4x128x256, .f32⟩
  | 35 => ⟨S2x32x2x4x128x256, .f32⟩
  | 36 => ⟨S_, .f32⟩
  | 37 => ⟨S2x32x2x4x128x256, .f32⟩
  | 38 => ⟨S2x32x2x4x128x256, .f32⟩
  | 39 => ⟨S2x32x2x256x128x4, .f32⟩
  | 40 => ⟨S2x32x2x128x4x64, .f32⟩
  | 41 => ⟨S2x32x128x2x4x64, .f32⟩
  | 42 => ⟨S2x32x2x256x64, .f32⟩
  | 43 => ⟨S2x32x256x2x64, .f32⟩
  | 44 => ⟨S2x4x2x32x128x64, .f32⟩
  | 45 => ⟨S8x8192x64, .f32⟩
  | 46 => ⟨S2x32x128x2x64, .f32⟩
  | 47 => ⟨S2x2x32x128x64, .f32⟩
  | 48 => ⟨S2x8192x64, .f32⟩
  | 49 => ⟨S2x32x128x2x64, .f32⟩
  | 50 => ⟨S2x2x32x128x64, .f32⟩
  | 51 => ⟨S2x8192x64, .f32⟩
  | 52 => ⟨S2x32x128x2x64, .f32⟩
  | 53 => ⟨S2x2x32x128x64, .f32⟩
  | 54 => ⟨S2x8192x64, .f32⟩
  | 55 => ⟨S2x32x128x2x64, .f32⟩
  | 56 => ⟨S2x2x32x128x64, .f32⟩
  | 57 => ⟨S2x8192x64, .f32⟩
  | 58 => ⟨S16x8192x64, .f32⟩
  | 59 => ⟨S8x1x1, .f32⟩
  | _ => ⟨S2x4096x8x64, .f32⟩

abbrev hbmTy (i : Nat) : BufTy := match i / 128 with
  | 0 => hbmTy0_0 i
  | 1 => hbmTy0_1 i
  | _ => ⟨S2x4096x8x64, .f32⟩

abbrev bufTy : (tb : Table) → Fin (tcTables nBuf tb) → BufTy
  | .hbm, ⟨i, _⟩ => hbmTy i
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_call0_v0 : Ref sig .tc := ⟨.hbm, 56, rfl⟩
abbrev main_v42_1 : Ref sig .tc := ⟨.hbm, 57, rfl⟩
abbrev main_call0_v2 : Ref sig .tc := ⟨.hbm, 58, rfl⟩
abbrev main_v42_0 : Ref sig .tc := ⟨.hbm, 59, rfl⟩
abbrev main_call0_cst : Ref sig .tc := ⟨.hbm, 60, rfl⟩
abbrev main_v42_2 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_17 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_18 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_19 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_20 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_21 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_22 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_23 : Ref sig .tc := ⟨.hbm, 158, rfl⟩
abbrev main_v123 : Ref sig .tc := ⟨.hbm, 159, rfl⟩
abbrev main_v124 : Ref sig .tc := ⟨.hbm, 160, rfl⟩
abbrev main_call1_cst : Ref sig .tc := ⟨.hbm, 161, rfl⟩
abbrev main_call1_v0 : Ref sig .tc := ⟨.hbm, 162, rfl⟩
abbrev main_v125 : Ref sig .tc := ⟨.hbm, 163, rfl⟩
abbrev main_cst_24 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S8192x4608 : Shape := ⟨2, ![8192, 4608]⟩
abbrev S4x1024x1152 : Shape := ⟨3, ![4, 1024, 1152]⟩
abbrev S2048x1024 : Shape := ⟨2, ![2048, 1024]⟩
abbrev S2048x1152 : Shape := ⟨2, ![2048, 1152]⟩
abbrev S1x1024x1152 : Shape := ⟨3, ![1, 1024, 1152]⟩
abbrev S1024x1152 : Shape := ⟨2, ![1024, 1152]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4608, .f32⟩
  | .hbm, ⟨2, _⟩ => ⟨S8192x1024, .bf16⟩
  | .hbm, ⟨3, _⟩ => ⟨S8192x4608, .bf16⟩
  | .hbm, ⟨4, _⟩ => ⟨S4x1024x1152, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1x1024x1152, .bf16⟩
  | .local _ .vmem, ⟨5, _⟩ => ⟨S1x1024x1152, .bf16⟩
  | .local _ .vmem, ⟨6, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩
abbrev S1024x4x1152 : Shape := ⟨3, ![1024, 4, 1152]⟩
abbrev S4x1024x1152 : Shape := ⟨3, ![4, 1024, 1152]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4608, .f32⟩
  | .hbm, ⟨2, _⟩ => ⟨S_, .f32⟩
  | .hbm, ⟨3, _⟩ => ⟨S1024x4608, .f32⟩
  | .hbm, ⟨4, _⟩ => ⟨S8192x4608, .f32⟩
  | .hbm, ⟨5, _⟩ => ⟨S4608x1024, .f32⟩
  | .hbm, ⟨6, _⟩ => ⟨S1024x4608, .f32⟩
  | .hbm, ⟨7, _⟩ => ⟨S1024x4x1152, .f32⟩
  | .hbm, ⟨8, _⟩ => ⟨S4x1024x1152, .f32⟩
  | .hbm, ⟨9, _⟩ => ⟨S4x1024x1152, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x5632 : Shape := ⟨2, ![8192, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S8192x1024 : Shape := ⟨2, ![8192, 1024]⟩
abbrev S1024x4608 : Shape := ⟨2, ![1024, 4608]⟩
abbrev S1024x4x1152 : Shape := ⟨3, ![1024, 4, 1152]⟩
abbrev S4x1024x1152 : Shape := ⟨3, ![4, 1024, 1152]⟩
abbrev S8192x4608 : Shape := ⟨2, ![8192, 4608]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4608, .f32⟩
  | .hbm, ⟨2, _⟩ => ⟨S8192x1024, .bf16⟩
  | .hbm, ⟨3, _⟩ => ⟨S1024x4x1152, .f32⟩
  | .hbm, ⟨4, _⟩ => ⟨S4x1024x1152, .f32⟩
  | .hbm, ⟨5, _⟩ => ⟨S4x1024x1152, .bf16⟩
  | .hbm, ⟨6, _⟩ => ⟨S8192x4608, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .bf16⟩
  | .local _ .vmem, ⟨5, _⟩ => ⟨S1024x1152, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x4608 : Shape := ⟨2, ![1024, 4608]⟩
abbrev S8192x4608 : Shape := ⟨2, ![8192, 4608]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4608, .f32⟩
  | .hbm, ⟨2, _⟩ => ⟨S8192x4608, .f32⟩
  | .hbm, ⟨3, _⟩ => ⟨S8192x4608, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S256x2816 : Shape := ⟨2, ![256, 2816]⟩
abbrev S256x1024 : Shape := ⟨2, ![256, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x5632, .bf16⟩
  | .hbm, ⟨4, _⟩ => ⟨S2816x1024, .bf16⟩
  | .hbm, ⟨5, _⟩ => ⟨S8192x1024, .f32⟩
  | .hbm, ⟨6, _⟩ => ⟨S8192x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x2816, .bf16⟩
  | .local _ .vmem, ⟨10, _⟩ => ⟨S256x2816, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]
-- ==== Reference8Ideal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x1024, .f32⟩
  | .hbm, ⟨16, _⟩ => ⟨S8192x1024, .f32⟩
  | .hbm, ⟨17, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel9.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S2816x1024, .bf16⟩
  | .hbm, ⟨3, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S8192x2816 : Shape := ⟨2, ![8192, 2816]⟩
abbrev S8192x5632 : Shape := ⟨2, ![8192, 5632]⟩
abbrev S1024x4x1408 : Shape := ⟨3, ![1024, 4, 1408]⟩
abbrev S4x1024x1408 : Shape := ⟨3, ![4, 1024, 1408]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x2816, .f32⟩
  | .hbm, ⟨3, _⟩ => ⟨S8192x5632, .f32⟩
  | .hbm, ⟨4, _⟩ => ⟨S8192x5632, .bf16⟩
  | .hbm, ⟨5, _⟩ => ⟨S8192x2816, .bf16⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S8192x1024, .bf16⟩
  | .hbm, ⟨10, _⟩ => ⟨S8192x5632, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S512x1024, .bf16⟩
  | .local _ .vmem, ⟨9, _⟩ => ⟨S512x1024, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v34 : BitVec 1 := Scalar.cmpi .eq arg2 c3_i32
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.addi c2_i32_3 v9
  let c0_i32_4 : BitVec 32 := 0#32
  ![arg0.toNat, v10.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]
-- ==== Reference2Ideal.lean ====
abbrev S8192x1024 : Shape := ⟨2, ![8192, 1024]⟩
abbrev S1024x5632 : Shape := ⟨2, ![1024, 5632]⟩
abbrev S8192x2816 : Shape := ⟨2, ![8192, 2816]⟩
abbrev S8192x5632 : Shape := ⟨2, ![8192, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x2816, .f32⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x5632, .f32⟩
  | .hbm, ⟨27, _⟩ => ⟨S8192x1024, .f32⟩
  | .hbm, ⟨28, _⟩ => ⟨S8192x1024, .bf16⟩
  | .hbm, ⟨29, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x4608 : Shape := ⟨2, ![1024, 4608]⟩
abbrev S8192x4608 : Shape := ⟨2, ![8192, 4608]⟩
abbrev S1024x4x1152 : Shape := ⟨3, ![1024, 4, 1152]⟩
abbrev S4x1024x1152 : Shape := ⟨3, ![4, 1024, 1152]⟩
abbrev S1x1024 : Shape := ⟨2, ![1, 1024]⟩
abbrev S512x4608 : Shape := ⟨2, ![512, 4608]⟩
abbrev S512x1024 : Shape := ⟨2, ![512, 1024]⟩
abbrev S512x1152 : Shape := ⟨2, ![512, 1152]⟩
abbrev S1x1024x1152 : Shape := ⟨3, ![1, 1024, 1152]⟩
abbrev S1024x1152 : Shape := ⟨2, ![1024, 1152]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S8192x4608, .f32⟩
  | .hbm, ⟨4, _⟩ => ⟨S8192x1024, .f32⟩
  | .hbm, ⟨5, _⟩ => ⟨S8192x4608, .bf16⟩
  | .hbm, ⟨6, _⟩ => ⟨S1024x4x1152, .f32⟩
  | .hbm, ⟨7, _⟩ => ⟨S4x1024x1152, .f32⟩
  | .hbm, ⟨8, _⟩ => ⟨S4x1024x1152, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x4608, .bf16⟩
  | .local _ .vmem, ⟨1, _⟩ => ⟨S512x4608, .bf16⟩
  | .local _ .vmem, ⟨2, _⟩ => ⟨S4x1024x1152, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S8192x1024 : Shape := ⟨2, ![8192, 1024]⟩
abbrev S1024 : Shape := ⟨1, ![1024]⟩
abbrev S1024x4608 : Shape := ⟨2, ![1024, 4608]⟩
abbrev S8192x4608 : Shape := ⟨2, ![8192, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S8192x4608, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4608, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel11.lean ====
abbrev S1024x1024 : Shape := ⟨2, ![1024, 1024]⟩
abbrev S8192x1024 : Shape := ⟨2, ![8192, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S512x1024 : Shape := ⟨2, ![512, 1024]⟩
abbrev S8192x1024 : Shape := ⟨2, ![8192, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S8192x1024, .f32⟩
  | .hbm, ⟨2, _⟩ => ⟨S8192x1024, .bf16⟩
  | .hbm, ⟨3, _⟩ => ⟨S512x1024, .bf16⟩
  | .hbm, ⟨4, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S512x1024 : Shape := ⟨2, ![512, 1024]⟩
abbrev S8192x1024 : Shape := ⟨2, ![8192, 1024]⟩
abbrev S_ : Shape := ⟨0, ![]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8192x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x512, .f32⟩
  | .hbm, ⟨6, _⟩ => ⟨S8192x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S256x2048 : Shape := ⟨2, ![256, 2048]⟩
abbrev S8192x2048 : Shape := ⟨2, ![8192, 2048]⟩
abbrev S8192x256 : Shape := ⟨2, ![8192, 256]⟩
abbrev S1024x2048 : Shape := ⟨2, ![1024, 2048]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S8192x2048, .f32⟩
  | .hbm, ⟨2, _⟩ => ⟨S8192x2048, .bf16⟩
  | .hbm, ⟨3, _⟩ => ⟨S256x2048, .bf16⟩
  | .hbm, ⟨4, _⟩ => ⟨S8192x256, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .bf16⟩
  | .local _ .vmem, ⟨4, _⟩ => ⟨S1024x256, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S256x2048 : Shape := ⟨2, ![256, 2048]⟩
abbrev S8192x2048 : Shape := ⟨2, ![8192, 2048]⟩
abbrev S_ : Shape := ⟨0, ![]⟩
abbrev S8192x256 : Shape := ⟨2, ![8192, 256]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S8192x2048, .f32⟩
  | .hbm, ⟨2, _⟩ => ⟨S_, .f32⟩
  | .hbm, ⟨3, _⟩ => ⟨S8192x256, .f32⟩
  | .hbm, ⟨4, _⟩ => ⟨S8192x2048, .f32⟩
  | .hbm, ⟨5, _⟩ => ⟨S8192x256, .f32⟩
  | .hbm, ⟨6, _⟩ => ⟨S8192x256, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S256x1024 : Shape := ⟨2, ![256, 1024]⟩
abbrev S8192x1024 : Shape := ⟨2, ![8192, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S8192x1024, .bf16⟩
  | .hbm, ⟨3, _⟩ => ⟨S256x1024, .bf16⟩
  | .hbm, ⟨4, _⟩ => ⟨S8192x256, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .bf16⟩
  | .local _ .vmem, ⟨4, _⟩ => ⟨S1024x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S256x1024 : Shape := ⟨2, ![256, 1024]⟩
abbrev S8192x1024 : Shape := ⟨2, ![8192, 1024]⟩
abbrev S_ : Shape := ⟨0, ![]⟩
abbrev S8192x256 : Shape := ⟨2, ![8192, 256]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S_, .f32⟩
  | .hbm, ⟨3, _⟩ => ⟨S8192x256, .f32⟩
  | .hbm, ⟨4, _⟩ => ⟨S8192x1024, .f32⟩
  | .hbm, ⟨5, _⟩ => ⟨S8192x256, .f32⟩
  | .hbm, ⟨6, _⟩ => ⟨S8192x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x512, .bf16⟩
  | .hbm, ⟨3, _⟩ => ⟨S512x1024, .bf16⟩
  | .hbm, ⟨4, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8192x256 : Shape := ⟨2, ![8192, 256]⟩
abbrev S8192x2048 : Shape := ⟨2, ![8192, 2048]⟩
abbrev S256x2048 : Shape := ⟨2, ![256, 2048]⟩
abbrev S2048x256 : Shape := ⟨2, ![2048, 256]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S8192x256, .bf16⟩
  | .hbm, ⟨3, _⟩ => ⟨S8192x2048, .bf16⟩
  | .hbm, ⟨4, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S2048x2048, .bf16⟩
  | .local _ .vmem, ⟨4, _⟩ => ⟨S256x2048, .bf16⟩
  | .local _ .vmem, ⟨5, _⟩ => ⟨S256x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x256, .bf16⟩
  | .hbm, ⟨3, _⟩ => ⟨S8192x1024, .bf16⟩
  | .hbm, ⟨4, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .bf16⟩
  | .hbm, ⟨3, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S4x1024x1152 : Shape := ⟨3, ![4, 1024, 1152]⟩
abbrev S4096x1152 : Shape := ⟨2, ![4096, 1152]⟩
abbrev S256x1152 : Shape := ⟨2, ![256, 1152]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1152, .f32⟩
  | .hbm, ⟨1, _⟩ => ⟨S4x1024x1152, .f32⟩
  | .hbm, ⟨2, _⟩ => ⟨S4x1024x1152, .f32⟩
  | .hbm, ⟨3, _⟩ => ⟨S4x1024x1152, .f32⟩
  | .hbm, ⟨4, _⟩ => ⟨S4096x1152, .f32⟩
  | .hbm, ⟨5, _⟩ => ⟨S4096x1152, .f32⟩
  | .hbm, ⟨6, _⟩ => ⟨S4096x1152, .f32⟩
  | .hbm, ⟨7, _⟩ => ⟨S4096x1152, .f32⟩
  | .hbm, ⟨8, _⟩ => ⟨S4096x1152, .f32⟩
  | .hbm, ⟨9, _⟩ => ⟨S4096x1152, .f32⟩
  | .hbm, ⟨10, _⟩ => ⟨S4096x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S4x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel22Ideal.lean ====
abbrev S4x1024x1152 : Shape := ⟨3, ![4, 1024, 1152]⟩
abbrev S4096x1152 : Shape := ⟨2, ![4096, 1152]⟩
abbrev S256x1152 : Shape := ⟨2, ![256, 1152]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1152, .f32⟩
  | .hbm, ⟨1, _⟩ => ⟨S4x1024x1152, .f32⟩
  | .hbm, ⟨2, _⟩ => ⟨S4x1024x1152, .f32⟩
  | .hbm, ⟨3, _⟩ => ⟨S4x1024x1152, .f32⟩
  | .hbm, ⟨4, _⟩ => ⟨S4096x1152, .f32⟩
  | .hbm, ⟨5, _⟩ => ⟨S4096x1152, .f32⟩
  | .hbm, ⟨6, _⟩ => ⟨S4096x1152, .f32⟩
  | .hbm, ⟨7, _⟩ => ⟨S4096x1152, .f32⟩
  | .hbm, ⟨8, _⟩ => ⟨S4096x1152, .f32⟩
  | .hbm, ⟨9, _⟩ => ⟨S4096x1152, .f32⟩
  | .hbm, ⟨10, _⟩ => ⟨S4096x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S4x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference22Ideal.lean ====
abbrev S4x1024x1152 : Shape := ⟨3, ![4, 1024, 1152]⟩
abbrev S_ : Shape := ⟨0, ![]⟩
abbrev S4096x1152 : Shape := ⟨2, ![4096, 1152]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1152, .f32⟩
  | .hbm, ⟨1, _⟩ => ⟨S4x1024x1152, .f32⟩
  | .hbm, ⟨2, _⟩ => ⟨S4x1024x1152, .f32⟩
  | .hbm, ⟨3, _⟩ => ⟨S4x1024x1152, .f32⟩
  | .hbm, ⟨4, _⟩ => ⟨S_, .f32⟩
  | .hbm, ⟨5, _⟩ => ⟨S4x1024x1152, .f32⟩
  | .hbm, ⟨6, _⟩ => ⟨S4x1024x1152, .f32⟩
  | .hbm, ⟨7, _⟩ => ⟨S_, .f32⟩
  | .hbm, ⟨8, _⟩ => ⟨S4x1024x1152, .f32⟩
  | .hbm, ⟨9, _⟩ => ⟨S4x1024x1152, .f32⟩
  | .hbm, ⟨10, _⟩ => ⟨S4x1024x1152, .f32⟩
  | .hbm, ⟨11, _⟩ => ⟨S_, .f32⟩
  | .hbm, ⟨12, _⟩ => ⟨S4x1024x1152, .f32⟩
  | .hbm, ⟨13, _⟩ => ⟨S4x1024x1152, .f32⟩
  | .hbm, ⟨14, _⟩ => ⟨S4x1024x1152, .f32⟩
  | .hbm, ⟨15, _⟩ => ⟨S_, .f32⟩
  | .hbm, ⟨16, _⟩ => ⟨S4x1024x1152, .f32⟩
  | .hbm, ⟨17, _⟩ => ⟨S4x1024x1152, .f32⟩
  | .hbm, ⟨18, _⟩ => ⟨S4x1024x1152, .f32⟩
  | .hbm, ⟨19, _⟩ => ⟨S_, .f32⟩
  | .hbm, ⟨20, _⟩ => ⟨S4x1024x1152, .f32⟩
  | .hbm, ⟨21, _⟩ => ⟨S4x1024x1152, .f32⟩
  | .hbm, ⟨22, _⟩ => ⟨S_, .f32⟩
  | .hbm, ⟨23, _⟩ => ⟨S4x1024x1152, .f32⟩
  | .hbm, ⟨24, _⟩ => ⟨S4x1024x1152, .f32⟩
  | .hbm, ⟨25, _⟩ => ⟨S4x1024x1152, .f32⟩
  | .hbm, ⟨26, _⟩ => ⟨S_, .f32⟩
  | .hbm, ⟨27, _⟩ => ⟨S4x1024x1152, .f32⟩
  | .hbm, ⟨28, _⟩ => ⟨S4x1024x1152, .f32⟩
  | .hbm, ⟨29, _⟩ => ⟨S4x1024x1152, .f32⟩
  | .hbm, ⟨30, _⟩ => ⟨S_, .f32⟩
  | .hbm, ⟨31, _⟩ => ⟨S4x1024x1152, .f32⟩
  | .hbm, ⟨32, _⟩ => ⟨S4x1024x1152, .f32⟩
  | .hbm, ⟨33, _⟩ => ⟨S4x1024x1152, .f32⟩
  | .hbm, ⟨34, _⟩ => ⟨S_, .f32⟩
  | .hbm, ⟨35, _⟩ => ⟨S4x1024x1152, .f32⟩
  | .hbm, ⟨36, _⟩ => ⟨S4x1024x1152, .f32⟩
  | .hbm, ⟨37, _⟩ => ⟨S4096x1152, .f32⟩
  | .hbm, ⟨38, _⟩ => ⟨S4096x1152, .f32⟩
  | .hbm, ⟨39, _⟩ => ⟨S4096x1152, .f32⟩
  | _, _ => ⟨S4x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel23Ideal.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel24Ideal.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel25.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel25Ideal.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference25Ideal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S4x512x256 : Shape := ⟨3, ![4, 512, 256]⟩
abbrev S2048x256 : Shape := ⟨2, ![2048, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel26Ideal.lean ====
abbrev S4x512x256 : Shape := ⟨3, ![4, 512, 256]⟩
abbrev S2048x256 : Shape := ⟨2, ![2048, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference26Ideal.lean ====
abbrev S4x512x256 : Shape := ⟨3, ![4, 512, 256]⟩
abbrev S_ : Shape := ⟨0, ![]⟩
abbrev S2048x256 : Shape := ⟨2, ![2048, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | .hbm, ⟨37, _⟩ => ⟨S2048x256, .f32⟩
  | .hbm, ⟨38, _⟩ => ⟨S2048x256, .f32⟩
  | .hbm, ⟨39, _⟩ => ⟨S2048x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S4x256x512 : Shape := ⟨3, ![4, 256, 512]⟩
abbrev S1024x512 : Shape := ⟨2, ![1024, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel27Ideal.lean ====
abbrev S4x256x512 : Shape := ⟨3, ![4, 256, 512]⟩
abbrev S1024x512 : Shape := ⟨2, ![1024, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference27Ideal.lean ====
abbrev S4x256x512 : Shape := ⟨3, ![4, 256, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S_, .f32⟩
  | .hbm, ⟨5, _⟩ => ⟨S4x256x512, .f32⟩
  | .hbm, ⟨6, _⟩ => ⟨S4x256x512, .f32⟩
  | .hbm, ⟨7, _⟩ => ⟨S_, .f32⟩
  | .hbm, ⟨8, _⟩ => ⟨S4x256x512, .f32⟩
  | .hbm, ⟨9, _⟩ => ⟨S4x256x512, .f32⟩
  | .hbm, ⟨10, _⟩ => ⟨S4x256x512, .f32⟩
  | .hbm, ⟨11, _⟩ => ⟨S_, .f32⟩
  | .hbm, ⟨12, _⟩ => ⟨S4x256x512, .f32⟩
  | .hbm, ⟨13, _⟩ => ⟨S4x256x512, .f32⟩
  | .hbm, ⟨14, _⟩ => ⟨S4x256x512, .f32⟩
  | .hbm, ⟨15, _⟩ => ⟨S_, .f32⟩
  | .hbm, ⟨16, _⟩ => ⟨S4x256x512, .f32⟩
  | .hbm, ⟨17, _⟩ => ⟨S4x256x512, .f32⟩
  | .hbm, ⟨18, _⟩ => ⟨S4x256x512, .f32⟩
  | .hbm, ⟨19, _⟩ => ⟨S_, .f32⟩
  | .hbm, ⟨20, _⟩ => ⟨S4x256x512, .f32⟩
  | .hbm, ⟨21, _⟩ => ⟨S4x256x512, .f32⟩
  | .hbm, ⟨22, _⟩ => ⟨S_, .f32⟩
  | .hbm, ⟨23, _⟩ => ⟨S4x256x512, .f32⟩
  | .hbm, ⟨24, _⟩ => ⟨S4x256x512, .f32⟩
  | .hbm, ⟨25, _⟩ => ⟨S4x256x512, .f32⟩
  | .hbm, ⟨26, _⟩ => ⟨S_, .f32⟩
  | .hbm, ⟨27, _⟩ => ⟨S4x256x512, .f32⟩
  | .hbm, ⟨28, _⟩ => ⟨S4x256x512, .f32⟩
  | .hbm, ⟨29, _⟩ => ⟨S4x256x512, .f32⟩
  | .hbm, ⟨30, _⟩ => ⟨S_, .f32⟩
  | .hbm, ⟨31, _⟩ => ⟨S4x256x512, .f32⟩
  | .hbm, ⟨32, _⟩ => ⟨S4x256x512, .f32⟩
  | .hbm, ⟨33, _⟩ => ⟨S4x256x512, .f32⟩
  | .hbm, ⟨34, _⟩ => ⟨S_, .f32⟩
  | .hbm, ⟨35, _⟩ => ⟨S4x256x512, .f32⟩
  | .hbm, ⟨36, _⟩ => ⟨S4x256x512, .f32⟩
  | .hbm, ⟨37, _⟩ => ⟨S1024x512, .f32⟩
  | .hbm, ⟨38, _⟩ => ⟨S1024x512, .f32⟩
  | .hbm, ⟨39, _⟩ => ⟨S1024x512, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel28.lean ====
abbrev S4x256x256 : Shape := ⟨3, ![4, 256, 256]⟩
abbrev S1024x256 : Shape := ⟨2, ![1024, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel28Ideal.lean ====
abbrev S4x256x256 : Shape := ⟨3, ![4, 256, 256]⟩
abbrev S1024x256 : Shape := ⟨2, ![1024, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference28Ideal.lean ====
abbrev S4x256x256 : Shape := ⟨3, ![4, 256, 256]⟩
abbrev S_ : Shape := ⟨0, ![]⟩
abbrev S1024x256 : Shape := ⟨2, ![1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S_, .f32⟩
  | .hbm, ⟨5, _⟩ => ⟨S4x256x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S_, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S_, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S_, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | .hbm, ⟨37, _⟩ => ⟨S1024x256, .f32⟩
  | .hbm, ⟨38, _⟩ => ⟨S1024x256, .f32⟩
  | .hbm, ⟨39, _⟩ => ⟨S1024x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel29.lean ====
abbrev S2472x128 : Shape := ⟨2, ![2472, 128]⟩

abbrev nBuf : Space → Nat
  | .hbm => 7
  | .vmem => 7
  | .smem => 0
  | _ => 0

abbrev bufTy : (tb : Table) → Fin (tcTables nBuf tb) → BufTy
  | .hbm, ⟨0, _⟩ => ⟨S2472x128, .f32⟩
  | .hbm, ⟨1, _⟩ => ⟨S2472x128, .f32⟩
  | .hbm, ⟨2, _⟩ => ⟨S2472x128, .f32⟩
  | .hbm, ⟨3, _⟩ => ⟨S2472x128, .f32⟩
  | .hbm, ⟨4, _⟩ => ⟨S2472x128, .f32⟩
  | .hbm, ⟨5, _⟩ => ⟨S2472x128, .f32⟩
  | .hbm, ⟨6, _⟩ => ⟨S2472x128, .f32⟩
  | .local _ .vmem, ⟨0, _⟩ => ⟨S2472x128, .f32⟩
  | .local _ .vmem, ⟨1, _⟩ => ⟨S2472x128, .f32⟩
  | .local _ .vmem, ⟨2, _⟩ => ⟨S2472x128, .f32⟩
  | .local _ .vmem, ⟨3, _⟩ => ⟨S2472x128, .f32⟩
  | .local _ .vmem, ⟨4, _⟩ => ⟨S2472x128, .f32⟩
  | .local _ .vmem, ⟨5, _⟩ => ⟨S2472x128, .f32⟩
  | .local _ .vmem, ⟨6, _⟩ => ⟨S2472x128, .f32⟩
  | _, _ => ⟨S2472x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 1 → Memref sig .tc .vmem S2472x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2472x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2472x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S2472x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S2472x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2472x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2472x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference29Ideal.lean ====
abbrev S2472x128 : Shape := ⟨2, ![2472, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2472x128, .f32⟩
  | .hbm, ⟨1, _⟩ => ⟨S2472x128, .f32⟩
  | .hbm, ⟨2, _⟩ => ⟨S2472x128, .f32⟩
  | .hbm, ⟨3, _⟩ => ⟨S2472x128, .f32⟩
  | .hbm, ⟨4, _⟩ => ⟨S_, .f32⟩
  | .hbm, ⟨5, _⟩ => ⟨S2472x128, .f32⟩
  | .hbm, ⟨6, _⟩ => ⟨S2472x128, .f32⟩
  | .hbm, ⟨7, _⟩ => ⟨S_, .f32⟩
  | .hbm, ⟨8, _⟩ => ⟨S2472x128, .f32⟩
  | .hbm, ⟨9, _⟩ => ⟨S2472x128, .f32⟩
  | .hbm, ⟨10, _⟩ => ⟨S2472x128, .f32⟩
  | .hbm, ⟨11, _⟩ => ⟨S_, .f32⟩
  | .hbm, ⟨12, _⟩ => ⟨S2472x128, .f32⟩
  | .hbm, ⟨13, _⟩ => ⟨S2472x128, .f32⟩
  | .hbm, ⟨14, _⟩ => ⟨S2472x128, .f32⟩
  | .hbm, ⟨15, _⟩ => ⟨S_, .f32⟩
  | .hbm, ⟨16, _⟩ => ⟨S2472x128, .f32⟩
  | .hbm, ⟨17, _⟩ => ⟨S2472x128, .f32⟩
  | .hbm, ⟨18, _⟩ => ⟨S2472x128, .f32⟩
  | .hbm, ⟨19, _⟩ => ⟨S_, .f32⟩
  | .hbm, ⟨20, _⟩ => ⟨S2472x128, .f32⟩
  | .hbm, ⟨21, _⟩ => ⟨S2472x128, .f32⟩
  | .hbm, ⟨22, _⟩ => ⟨S_, .f32⟩
  | .hbm, ⟨23, _⟩ => ⟨S2472x128, .f32⟩
  | .hbm, ⟨24, _⟩ => ⟨S2472x128, .f32⟩
  | .hbm, ⟨25, _⟩ => ⟨S2472x128, .f32⟩
  | .hbm, ⟨26, _⟩ => ⟨S_, .f32⟩
  | .hbm, ⟨27, _⟩ => ⟨S2472x128, .f32⟩
  | .hbm, ⟨28, _⟩ => ⟨S2472x128, .f32⟩
  | .hbm, ⟨29, _⟩ => ⟨S2472x128, .f32⟩
  | .hbm, ⟨30, _⟩ => ⟨S_, .f32⟩
  | .hbm, ⟨31, _⟩ => ⟨S2472x128, .f32⟩
  | .hbm, ⟨32, _⟩ => ⟨S2472x128, .f32⟩
  | .hbm, ⟨33, _⟩ => ⟨S2472x128, .f32⟩
  | .hbm, ⟨34, _⟩ => ⟨S_, .f32⟩
  | .hbm, ⟨35, _⟩ => ⟨S2472x128, .f32⟩
  | .hbm, ⟨36, _⟩ => ⟨S2472x128, .f32⟩
  | _, _ => ⟨S2472x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference30Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_cst_12 : Ref sig .tc := ⟨.hbm, 60, rfl⟩
abbrev main_v44 : Ref sig .tc := ⟨.hbm, 61, rfl⟩
abbrev main_cst_13 : Ref sig .tc := ⟨.hbm, 62, rfl⟩
abbrev main_v45 : Ref sig .tc := ⟨.hbm, 63, rfl⟩
abbrev main_cst_14 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_cst_16 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_18 : Ref sig .tc := ⟨.hbm, 79, rfl⟩
abbrev main_v57 : Ref sig .tc := ⟨.hbm, 80, rfl⟩
abbrev main_v58 : Ref sig .tc := ⟨.hbm, 81, rfl⟩
abbrev main_cst_19 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_20 : Ref sig .tc := ⟨.hbm, 88, rfl⟩
abbrev main_v64 : Ref sig .tc := ⟨.hbm, 89, rfl⟩
abbrev main_v65 : Ref sig .tc := ⟨.hbm, 90, rfl⟩
abbrev main_cst_21 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Kernel31.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x1024, .f32⟩
  | .hbm, ⟨6, _⟩ => ⟨S8192x1024, .bf16⟩
  | .hbm, ⟨7, _⟩ => ⟨S8192x1024, .bf16⟩
  | .hbm, ⟨8, _⟩ => ⟨S1x1024, .f32⟩
  | .hbm, ⟨9, _⟩ => ⟨S1024x1024, .bf16⟩
  | .hbm, ⟨10, _⟩ => ⟨S8192x1024, .bf16⟩
  | .hbm, ⟨11, _⟩ => ⟨S8192x1024, .bf16⟩
  | .hbm, ⟨12, _⟩ => ⟨S8192x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference31Ideal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S8192x1024, .bf16⟩
  | .hbm, ⟨71, _⟩ => ⟨S8192x1024, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel32.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S8192x1024, .bf16⟩
  | .hbm, ⟨5, _⟩ => ⟨S1024x1024, .bf16⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference32Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel33.lean ====
abbrev S8192x1024 : Shape := ⟨2, ![8192, 1024]⟩
abbrev S8192x256 : Shape := ⟨2, ![8192, 256]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S1x1024, .f32⟩
  | .hbm, ⟨6, _⟩ => ⟨S256x1024, .bf16⟩
  | .hbm, ⟨7, _⟩ => ⟨S1024x1024, .bf16⟩
  | .hbm, ⟨8, _⟩ => ⟨S8192x1024, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S256x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference33Ideal.lean ====
abbrev S8192x1024 : Shape := ⟨2, ![8192, 1024]⟩
abbrev S8192x256 : Shape := ⟨2, ![8192, 256]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .bf16⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel34.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference34Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel35.lean ====
abbrev S8192x4608 : Shape := ⟨2, ![8192, 4608]⟩
abbrev S3072 : Shape := ⟨1, ![3072]⟩
abbrev S8192x1024 : Shape := ⟨2, ![8192, 1024]⟩
abbrev S8192x2048 : Shape := ⟨2, ![8192, 2048]⟩
abbrev S1x3072 : Shape := ⟨2, ![1, 3072]⟩
abbrev S512x512 : Shape := ⟨2, ![512, 512]⟩
abbrev S1x512 : Shape := ⟨2, ![1, 512]⟩

abbrev nBuf : Space → Nat
  | .hbm => 11
  | .vmem => 22
  | .smem => 0
  | _ => 0

abbrev bufTy : (tb : Table) → Fin (tcTables nBuf tb) → BufTy
  | .hbm, ⟨0, _⟩ => ⟨S8192x4608, .f32⟩
  | .hbm, ⟨1, _⟩ => ⟨S3072, .f32⟩
  | .hbm, ⟨2, _⟩ => ⟨S8192x1024, .f32⟩
  | .hbm, ⟨3, _⟩ => ⟨S8192x2048, .f32⟩
  | .hbm, ⟨4, _⟩ => ⟨S8192x1024, .f32⟩
  | .hbm, ⟨5, _⟩ => ⟨S8192x4608, .bf16⟩
  | .hbm, ⟨6, _⟩ => ⟨S8192x1024, .bf16⟩
  | .hbm, ⟨7, _⟩ => ⟨S8192x2048, .bf16⟩
  | .hbm, ⟨8, _⟩ => ⟨S8192x1024, .bf16⟩
  | .hbm, ⟨9, _⟩ => ⟨S1x3072, .f32⟩
  | .hbm, ⟨10, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c3_i32 : BitVec 32 := 3#32
  let v1 : BitVec 32 := Scalar.addi c3_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c5_i32 : BitVec 32 := 5#32
  let v1 : BitVec 32 := Scalar.addi c5_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c7_i32 : BitVec 32 := 7#32
  let v1 : BitVec 32 := Scalar.addi c7_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let v1 : BitVec 32 := Scalar.addi c2_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference35Ideal.lean ====
abbrev S8192x4608 : Shape := ⟨2, ![8192, 4608]⟩
abbrev S3072 : Shape := ⟨1, ![3072]⟩
abbrev S8192x1024 : Shape := ⟨2, ![8192, 1024]⟩
abbrev S8192x2048 : Shape := ⟨2, ![8192, 2048]⟩
abbrev S_ : Shape := ⟨0, ![]⟩
abbrev S8192x3072 : Shape := ⟨2, ![8192, 3072]⟩
abbrev S1x3072 : Shape := ⟨2, ![1, 3072]⟩

abbrev nBuf : Space → Nat
  | .hbm => 37
  | .vmem => 0
  | .smem => 0
  | _ => 0

abbrev bufTy : (tb : Table) → Fin (tcTables nBuf tb) → BufTy
  | .hbm, ⟨0, _⟩ => ⟨S8192x4608, .f32⟩
  | .hbm, ⟨1, _⟩ => ⟨S3072, .f32⟩
  | .hbm, ⟨2, _⟩ => ⟨S8192x1024, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S_, .f32⟩
  | .hbm, ⟨26, _⟩ => ⟨S8192x3072, .f32⟩
  | .hbm, ⟨27, _⟩ => ⟨S8192x3072, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel36.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .bf16⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference36Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel37.lean ====
abbrev S2x4x512x256 : Shape := ⟨4, ![2, 4, 512, 256]⟩
abbrev S3x2x512x256 : Shape := ⟨4, ![3, 2, 512, 256]⟩
abbrev S4x512x256 : Shape := ⟨3, ![4, 512, 256]⟩
abbrev S1x1x512x256 : Shape := ⟨4, ![1, 1, 512, 256]⟩
abbrev S1x512x256 : Shape := ⟨3, ![1, 512, 256]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S2x4x512x256, .f32⟩
  | .hbm, ⟨1, _⟩ => ⟨S3x2x512x256, .f32⟩
  | .hbm, ⟨2, _⟩ => ⟨S2x4x512x256, .bf16⟩
  | .hbm, ⟨3, _⟩ => ⟨S3x2x512x256, .bf16⟩
  | .hbm, ⟨4, _⟩ => ⟨S4x512x256, .f32⟩
  | .local _ .vmem, ⟨0, _⟩ => ⟨S1x1x512x256, .bf16⟩
  | .local _ .vmem, ⟨1, _⟩ => ⟨S1x1x512x256, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1x512x256, .bf16⟩
  | .local _ .vmem, ⟨5, _⟩ => ⟨S1x1x512x256, .bf16⟩
  | .local _ .vmem, ⟨6, _⟩ => ⟨S1x1x512x256, .bf16⟩
  | .local _ .vmem, ⟨7, _⟩ => ⟨S1x1x512x256, .bf16⟩
  | .local _ .vmem, ⟨8, _⟩ => ⟨S1x512x256, .f32⟩
  | .local _ .vmem, ⟨9, _⟩ => ⟨S1x512x256, .f32⟩
  | _, _ => ⟨S2x4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel37Ideal.lean ====
abbrev S2x4x512x256 : Shape := ⟨4, ![2, 4, 512, 256]⟩
abbrev S3x2x512x256 : Shape := ⟨4, ![3, 2, 512, 256]⟩
abbrev S4x512x256 : Shape := ⟨3, ![4, 512, 256]⟩
abbrev S1x1x512x256 : Shape := ⟨4, ![1, 1, 512, 256]⟩
abbrev S1x512x256 : Shape := ⟨3, ![1, 512, 256]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S2x4x512x256, .f32⟩
  | .hbm, ⟨1, _⟩ => ⟨S3x2x512x256, .f32⟩
  | .hbm, ⟨2, _⟩ => ⟨S2x4x512x256, .bf16⟩
  | .hbm, ⟨3, _⟩ => ⟨S3x2x512x256, .bf16⟩
  | .hbm, ⟨4, _⟩ => ⟨S4x512x256, .f32⟩
  | .local _ .vmem, ⟨0, _⟩ => ⟨S1x1x512x256, .bf16⟩
  | .local _ .vmem, ⟨1, _⟩ => ⟨S1x1x512x256, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1x512x256, .bf16⟩
  | .local _ .vmem, ⟨5, _⟩ => ⟨S1x1x512x256, .bf16⟩
  | .local _ .vmem, ⟨6, _⟩ => ⟨S1x1x512x256, .bf16⟩
  | .local _ .vmem, ⟨7, _⟩ => ⟨S1x1x512x256, .bf16⟩
  | .local _ .vmem, ⟨8, _⟩ => ⟨S1x512x256, .f32⟩
  | .local _ .vmem, ⟨9, _⟩ => ⟨S1x512x256, .f32⟩
  | _, _ => ⟨S2x4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference37Ideal.lean ====
abbrev S2x4x512x256 : Shape := ⟨4, ![2, 4, 512, 256]⟩
abbrev S3x2x512x256 : Shape := ⟨4, ![3, 2, 512, 256]⟩
abbrev S2x1x512x256 : Shape := ⟨4, ![2, 1, 512, 256]⟩
abbrev S2x512x256 : Shape := ⟨3, ![2, 512, 256]⟩
abbrev S1x2x512x256 : Shape := ⟨4, ![1, 2, 512, 256]⟩
abbrev S_ : Shape := ⟨0, ![]⟩
abbrev S4x512x256 : Shape := ⟨3, ![4, 512, 256]⟩

abbrev nBuf : Space → Nat
  | .hbm => 16
  | .vmem => 0
  | .smem => 0
  | _ => 0

abbrev bufTy : (tb : Table) → Fin (tcTables nBuf tb) → BufTy
  | .hbm, ⟨0, _⟩ => ⟨S2x4x512x256, .f32⟩
  | .hbm, ⟨1, _⟩ => ⟨S3x2x512x256, .f32⟩
  | .hbm, ⟨2, _⟩ => ⟨S2x1x512x256, .f32⟩
  | .hbm, ⟨3, _⟩ => ⟨S2x512x256, .f32⟩
  | .hbm, ⟨4, _⟩ => ⟨S1x2x512x256, .f32⟩
  | .hbm, ⟨5, _⟩ => ⟨S2x512x256, .f32⟩
  | .hbm, ⟨6, _⟩ => ⟨S2x512x256, .f32⟩
  | .hbm, ⟨7, _⟩ => ⟨S1x2x512x256, .f32⟩
  | .hbm, ⟨8, _⟩ => ⟨S2x512x256, .f32⟩
  | .hbm, ⟨9, _⟩ => ⟨S2x512x256, .f32⟩
  | .hbm, ⟨10, _⟩ => ⟨S1x2x512x256, .f32⟩
  | .hbm, ⟨11, _⟩ => ⟨S2x512x256, .f32⟩
  | .hbm, ⟨12, _⟩ => ⟨S2x512x256, .f32⟩
  | .hbm, ⟨13, _⟩ => ⟨S_, .f32⟩
  | .hbm, ⟨14, _⟩ => ⟨S2x512x256, .f32⟩
  | .hbm, ⟨15, _⟩ => ⟨S4x512x256, .f32⟩
  | _, _ => ⟨S2x4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel38.lean ====
abbrev S2x4x1024x1152 : Shape := ⟨4, ![2, 4, 1024, 1152]⟩
abbrev S3x2x1024x1152 : Shape := ⟨4, ![3, 2, 1024, 1152]⟩
abbrev S4x1024x1152 : Shape := ⟨3, ![4, 1024, 1152]⟩
abbrev S1x1x512x1152 : Shape := ⟨4, ![1, 1, 512, 1152]⟩
abbrev S1x512x1152 : Shape := ⟨3, ![1, 512, 1152]⟩
abbrev S512x1152 : Shape := ⟨2, ![512, 1152]⟩

abbrev nBuf : Space → Nat
  | .hbm => 5
  | .vmem => 10
  | .smem => 0
  | _ => 0

abbrev bufTy : (tb : Table) → Fin (tcTables nBuf tb) → BufTy
  | .hbm, ⟨0, _⟩ => ⟨S2x4x1024x1152, .f32⟩
  | .hbm, ⟨1, _⟩ => ⟨S3x2x1024x1152, .f32⟩
  | .hbm, ⟨2, _⟩ => ⟨S2x4x1024x1152, .bf16⟩
  | .hbm, ⟨3, _⟩ => ⟨S3x2x1024x1152, .bf16⟩
  | .hbm, ⟨4, _⟩ => ⟨S4x1024x1152, .f32⟩
  | .local _ .vmem, ⟨0, _⟩ => ⟨S1x1x512x1152, .bf16⟩
  | .local _ .vmem, ⟨1, _⟩ => ⟨S1x1x512x1152, .bf16⟩
  | .local _ .vmem, ⟨2, _⟩ => ⟨S1x1x512x1152, .bf16⟩
  | .local _ .vmem, ⟨3, _⟩ => ⟨S1x1x512x1152, .bf16⟩
  | .local _ .vmem, ⟨4, _⟩ => ⟨S1x1x512x1152, .bf16⟩
  | .local _ .vmem, ⟨5, _⟩ => ⟨S1x1x512x1152, .bf16⟩
  | .local _ .vmem, ⟨6, _⟩ => ⟨S1x1x512x1152, .bf16⟩
  | .local _ .vmem, ⟨7, _⟩ => ⟨S1x1x512x1152, .bf16⟩
  | .local _ .vmem, ⟨8, _⟩ => ⟨S1x512x1152, .f32⟩
  | .local _ .vmem, ⟨9, _⟩ => ⟨S1x512x1152, .f32⟩
  | _, _ => ⟨S2x4x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel38Ideal.lean ====
abbrev S2x4x1024x1152 : Shape := ⟨4, ![2, 4, 1024, 1152]⟩
abbrev S3x2x1024x1152 : Shape := ⟨4, ![3, 2, 1024, 1152]⟩
abbrev S4x1024x1152 : Shape := ⟨3, ![4, 1024, 1152]⟩
abbrev S1x1x512x1152 : Shape := ⟨4, ![1, 1, 512, 1152]⟩
abbrev S1x512x1152 : Shape := ⟨3, ![1, 512, 1152]⟩
abbrev S512x1152 : Shape := ⟨2, ![512, 1152]⟩

abbrev nBuf : Space → Nat
  | .hbm => 5
  | .vmem => 10
  | .smem => 0
  | _ => 0

abbrev bufTy : (tb : Table) → Fin (tcTables nBuf tb) → BufTy
  | .hbm, ⟨0, _⟩ => ⟨S2x4x1024x1152, .f32⟩
  | .hbm, ⟨1, _⟩ => ⟨S3x2x1024x1152, .f32⟩
  | .hbm, ⟨2, _⟩ => ⟨S2x4x1024x1152, .bf16⟩
  | .hbm, ⟨3, _⟩ => ⟨S3x2x1024x1152, .bf16⟩
  | .hbm, ⟨4, _⟩ => ⟨S4x1024x1152, .f32⟩
  | .local _ .vmem, ⟨0, _⟩ => ⟨S1x1x512x1152, .bf16⟩
  | .local _ .vmem, ⟨1, _⟩ => ⟨S1x1x512x1152, .bf16⟩
  | .local _ .vmem, ⟨2, _⟩ => ⟨S1x1x512x1152, .bf16⟩
  | .local _ .vmem, ⟨3, _⟩ => ⟨S1x1x512x1152, .bf16⟩
  | .local _ .vmem, ⟨4, _⟩ => ⟨S1x1x512x1152, .bf16⟩
  | .local _ .vmem, ⟨5, _⟩ => ⟨S1x1x512x1152, .bf16⟩
  | .local _ .vmem, ⟨6, _⟩ => ⟨S1x1x512x1152, .bf16⟩
  | .local _ .vmem, ⟨7, _⟩ => ⟨S1x1x512x1152, .bf16⟩
  | .local _ .vmem, ⟨8, _⟩ => ⟨S1x512x1152, .f32⟩
  | .local _ .vmem, ⟨9, _⟩ => ⟨S1x512x1152, .f32⟩
  | _, _ => ⟨S2x4x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference38Ideal.lean ====
abbrev S2x4x1024x1152 : Shape := ⟨4, ![2, 4, 1024, 1152]⟩
abbrev S3x2x1024x1152 : Shape := ⟨4, ![3, 2, 1024, 1152]⟩
abbrev S2x1x1024x1152 : Shape := ⟨4, ![2, 1, 1024, 1152]⟩
abbrev S2x1024x1152 : Shape := ⟨3, ![2, 1024, 1152]⟩
abbrev S1x2x1024x1152 : Shape := ⟨4, ![1, 2, 1024, 1152]⟩
abbrev S_ : Shape := ⟨0, ![]⟩
abbrev S4x1024x1152 : Shape := ⟨3, ![4, 1024, 1152]⟩

abbrev nBuf : Space → Nat
  | .hbm => 16
  | .vmem => 0
  | .smem => 0
  | _ => 0

abbrev bufTy : (tb : Table) → Fin (tcTables nBuf tb) → BufTy
  | .hbm, ⟨0, _⟩ => ⟨S2x4x1024x1152, .f32⟩
  | .hbm, ⟨1, _⟩ => ⟨S3x2x1024x1152, .f32⟩
  | .hbm, ⟨2, _⟩ => ⟨S2x1x1024x1152, .f32⟩
  | .hbm, ⟨3, _⟩ => ⟨S2x1024x1152, .f32⟩
  | .hbm, ⟨4, _⟩ => ⟨S1x2x1024x1152, .f32⟩
  | .hbm, ⟨5, _⟩ => ⟨S2x1024x1152, .f32⟩
  | .hbm, ⟨6, _⟩ => ⟨S2x1024x1152, .f32⟩
  | .hbm, ⟨7, _⟩ => ⟨S1x2x1024x1152, .f32⟩
  | .hbm, ⟨8, _⟩ => ⟨S2x1024x1152, .f32⟩
  | .hbm, ⟨9, _⟩ => ⟨S2x1024x1152, .f32⟩
  | .hbm, ⟨10, _⟩ => ⟨S1x2x1024x1152, .f32⟩
  | .hbm, ⟨11, _⟩ => ⟨S2x1024x1152, .f32⟩
  | .hbm, ⟨12, _⟩ => ⟨S2x1024x1152, .f32⟩
  | .hbm, ⟨13, _⟩ => ⟨S_, .f32⟩
  | .hbm, ⟨14, _⟩ => ⟨S2x1024x1152, .f32⟩
  | .hbm, ⟨15, _⟩ => ⟨S4x1024x1152, .f32⟩
  | _, _ => ⟨S2x4x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel39.lean ====
abbrev S2x4x1024x1408 : Shape := ⟨4, ![2, 4, 1024, 1408]⟩
abbrev S3x2x1024x1408 : Shape := ⟨4, ![3, 2, 1024, 1408]⟩
abbrev S4x1024x1408 : Shape := ⟨3, ![4, 1024, 1408]⟩
abbrev S1x1x512x1408 : Shape := ⟨4, ![1, 1, 512, 1408]⟩
abbrev S1x512x1408 : Shape := ⟨3, ![1, 512, 1408]⟩
abbrev S512x1408 : Shape := ⟨2, ![512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S2x4x1024x1408, .f32⟩
  | .hbm, ⟨1, _⟩ => ⟨S3x2x1024x1408, .f32⟩
  | .hbm, ⟨2, _⟩ => ⟨S2x4x1024x1408, .bf16⟩
  | .hbm, ⟨3, _⟩ => ⟨S3x2x1024x1408, .bf16⟩
  | .hbm, ⟨4, _⟩ => ⟨S4x1024x1408, .f32⟩
  | .local _ .vmem, ⟨0, _⟩ => ⟨S1x1x512x1408, .bf16⟩
  | .local _ .vmem, ⟨1, _⟩ => ⟨S1x1x512x1408, .bf16⟩
  | .local _ .vmem, ⟨2, _⟩ => ⟨S1x1x512x1408, .bf16⟩
  | .local _ .vmem, ⟨3, _⟩ => ⟨S1x1x512x1408, .bf16⟩
  | .local _ .vmem, ⟨4, _⟩ => ⟨S1x1x512x1408, .bf16⟩
  | .local _ .vmem, ⟨5, _⟩ => ⟨S1x1x512x1408, .bf16⟩
  | .local _ .vmem, ⟨6, _⟩ => ⟨S1x1x512x1408, .bf16⟩
  | .local _ .vmem, ⟨7, _⟩ => ⟨S1x1x512x1408, .bf16⟩
  | .local _ .vmem, ⟨8, _⟩ => ⟨S1x512x1408, .f32⟩
  | .local _ .vmem, ⟨9, _⟩ => ⟨S1x512x1408, .f32⟩
  | _, _ => ⟨S2x4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel39Ideal.lean ====
abbrev S2x4x1024x1408 : Shape := ⟨4, ![2, 4, 1024, 1408]⟩
abbrev S3x2x1024x1408 : Shape := ⟨4, ![3, 2, 1024, 1408]⟩
abbrev S4x1024x1408 : Shape := ⟨3, ![4, 1024, 1408]⟩
abbrev S1x1x512x1408 : Shape := ⟨4, ![1, 1, 512, 1408]⟩
abbrev S1x512x1408 : Shape := ⟨3, ![1, 512, 1408]⟩
abbrev S512x1408 : Shape := ⟨2, ![512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S2x4x1024x1408, .f32⟩
  | .hbm, ⟨1, _⟩ => ⟨S3x2x1024x1408, .f32⟩
  | .hbm, ⟨2, _⟩ => ⟨S2x4x1024x1408, .bf16⟩
  | .hbm, ⟨3, _⟩ => ⟨S3x2x1024x1408, .bf16⟩
  | .hbm, ⟨4, _⟩ => ⟨S4x1024x1408, .f32⟩
  | .local _ .vmem, ⟨0, _⟩ => ⟨S1x1x512x1408, .bf16⟩
  | .local _ .vmem, ⟨1, _⟩ => ⟨S1x1x512x1408, .bf16⟩
  | .local _ .vmem, ⟨2, _⟩ => ⟨S1x1x512x1408, .bf16⟩
  | .local _ .vmem, ⟨3, _⟩ => ⟨S1x1x512x1408, .bf16⟩
  | .local _ .vmem, ⟨4, _⟩ => ⟨S1x1x512x1408, .bf16⟩
  | .local _ .vmem, ⟨5, _⟩ => ⟨S1x1x512x1408, .bf16⟩
  | .local _ .vmem, ⟨6, _⟩ => ⟨S1x1x512x1408, .bf16⟩
  | .local _ .vmem, ⟨7, _⟩ => ⟨S1x1x512x1408, .bf16⟩
  | .local _ .vmem, ⟨8, _⟩ => ⟨S1x512x1408, .f32⟩
  | .local _ .vmem, ⟨9, _⟩ => ⟨S1x512x1408, .f32⟩
  | _, _ => ⟨S2x4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference39Ideal.lean ====
abbrev S2x4x1024x1408 : Shape := ⟨4, ![2, 4, 1024, 1408]⟩
abbrev S3x2x1024x1408 : Shape := ⟨4, ![3, 2, 1024, 1408]⟩
abbrev S2x1x1024x1408 : Shape := ⟨4, ![2, 1, 1024, 1408]⟩
abbrev S2x1024x1408 : Shape := ⟨3, ![2, 1024, 1408]⟩
abbrev S1x2x1024x1408 : Shape := ⟨4, ![1, 2, 1024, 1408]⟩
abbrev S_ : Shape := ⟨0, ![]⟩
abbrev S4x1024x1408 : Shape := ⟨3, ![4, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S2x4x1024x1408, .f32⟩
  | .hbm, ⟨1, _⟩ => ⟨S3x2x1024x1408, .f32⟩
  | .hbm, ⟨2, _⟩ => ⟨S2x1x1024x1408, .f32⟩
  | .hbm, ⟨3, _⟩ => ⟨S2x1024x1408, .f32⟩
  | .hbm, ⟨4, _⟩ => ⟨S1x2x1024x1408, .f32⟩
  | .hbm, ⟨5, _⟩ => ⟨S2x1024x1408, .f32⟩
  | .hbm, ⟨6, _⟩ => ⟨S2x1024x1408, .f32⟩
  | .hbm, ⟨7, _⟩ => ⟨S1x2x1024x1408, .f32⟩
  | .hbm, ⟨8, _⟩ => ⟨S2x1024x1408, .f32⟩
  | .hbm, ⟨9, _⟩ => ⟨S2x1024x1408, .f32⟩
  | .hbm, ⟨10, _⟩ => ⟨S1x2x1024x1408, .f32⟩
  | .hbm, ⟨11, _⟩ => ⟨S2x1024x1408, .f32⟩
  | .hbm, ⟨12, _⟩ => ⟨S2x1024x1408, .f32⟩
  | .hbm, ⟨13, _⟩ => ⟨S_, .f32⟩
  | .hbm, ⟨14, _⟩ => ⟨S2x1024x1408, .f32⟩
  | .hbm, ⟨15, _⟩ => ⟨S4x1024x1408, .f32⟩
  | _, _ => ⟨S2x4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel40.lean ====
abbrev S2x4x704x1024 : Shape := ⟨4, ![2, 4, 704, 1024]⟩
abbrev S3x2x704x1024 : Shape := ⟨4, ![3, 2, 704, 1024]⟩
abbrev S4x704x1024 : Shape := ⟨3, ![4, 704, 1024]⟩
abbrev S1x1x352x1024 : Shape := ⟨4, ![1, 1, 352, 1024]⟩
abbrev S1x352x1024 : Shape := ⟨3, ![1, 352, 1024]⟩
abbrev S352x1024 : Shape := ⟨2, ![352, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2x4x704x1024, .f32⟩
  | .hbm, ⟨1, _⟩ => ⟨S3x2x704x1024, .f32⟩
  | .hbm, ⟨2, _⟩ => ⟨S2x4x704x1024, .bf16⟩
  | .hbm, ⟨3, _⟩ => ⟨S3x2x704x1024, .bf16⟩
  | .hbm, ⟨4, _⟩ => ⟨S4x704x1024, .f32⟩
  | .local _ .vmem, ⟨0, _⟩ => ⟨S1x1x352x1024, .bf16⟩
  | .local _ .vmem, ⟨1, _⟩ => ⟨S1x1x352x1024, .bf16⟩
  | .local _ .vmem, ⟨2, _⟩ => ⟨S1x1x352x1024, .bf16⟩
  | .local _ .vmem, ⟨3, _⟩ => ⟨S1x1x352x1024, .bf16⟩
  | .local _ .vmem, ⟨4, _⟩ => ⟨S1x1x352x1024, .bf16⟩
  | .local _ .vmem, ⟨5, _⟩ => ⟨S1x1x352x1024, .bf16⟩
  | .local _ .vmem, ⟨6, _⟩ => ⟨S1x1x352x1024, .bf16⟩
  | .local _ .vmem, ⟨7, _⟩ => ⟨S1x1x352x1024, .bf16⟩
  | .local _ .vmem, ⟨8, _⟩ => ⟨S1x352x1024, .f32⟩
  | .local _ .vmem, ⟨9, _⟩ => ⟨S1x352x1024, .f32⟩
  | _, _ => ⟨S2x4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel40Ideal.lean ====
abbrev S2x4x704x1024 : Shape := ⟨4, ![2, 4, 704, 1024]⟩
abbrev S3x2x704x1024 : Shape := ⟨4, ![3, 2, 704, 1024]⟩
abbrev S4x704x1024 : Shape := ⟨3, ![4, 704, 1024]⟩
abbrev S1x1x352x1024 : Shape := ⟨4, ![1, 1, 352, 1024]⟩
abbrev S1x352x1024 : Shape := ⟨3, ![1, 352, 1024]⟩
abbrev S352x1024 : Shape := ⟨2, ![352, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2x4x704x1024, .f32⟩
  | .hbm, ⟨1, _⟩ => ⟨S3x2x704x1024, .f32⟩
  | .hbm, ⟨2, _⟩ => ⟨S2x4x704x1024, .bf16⟩
  | .hbm, ⟨3, _⟩ => ⟨S3x2x704x1024, .bf16⟩
  | .hbm, ⟨4, _⟩ => ⟨S4x704x1024, .f32⟩
  | .local _ .vmem, ⟨0, _⟩ => ⟨S1x1x352x1024, .bf16⟩
  | .local _ .vmem, ⟨1, _⟩ => ⟨S1x1x352x1024, .bf16⟩
  | .local _ .vmem, ⟨2, _⟩ => ⟨S1x1x352x1024, .bf16⟩
  | .local _ .vmem, ⟨3, _⟩ => ⟨S1x1x352x1024, .bf16⟩
  | .local _ .vmem, ⟨4, _⟩ => ⟨S1x1x352x1024, .bf16⟩
  | .local _ .vmem, ⟨5, _⟩ => ⟨S1x1x352x1024, .bf16⟩
  | .local _ .vmem, ⟨6, _⟩ => ⟨S1x1x352x1024, .bf16⟩
  | .local _ .vmem, ⟨7, _⟩ => ⟨S1x1x352x1024, .bf16⟩
  | .local _ .vmem, ⟨8, _⟩ => ⟨S1x352x1024, .f32⟩
  | .local _ .vmem, ⟨9, _⟩ => ⟨S1x352x1024, .f32⟩
  | _, _ => ⟨S2x4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference40Ideal.lean ====
abbrev S2x4x704x1024 : Shape := ⟨4, ![2, 4, 704, 1024]⟩
abbrev S3x2x704x1024 : Shape := ⟨4, ![3, 2, 704, 1024]⟩
abbrev S2x1x704x1024 : Shape := ⟨4, ![2, 1, 704, 1024]⟩
abbrev S2x704x1024 : Shape := ⟨3, ![2, 704, 1024]⟩
abbrev S1x2x704x1024 : Shape := ⟨4, ![1, 2, 704, 1024]⟩
abbrev S_ : Shape := ⟨0, ![]⟩
abbrev S4x704x1024 : Shape := ⟨3, ![4, 704, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x4x704x1024, .f32⟩
  | .hbm, ⟨1, _⟩ => ⟨S3x2x704x1024, .f32⟩
  | .hbm, ⟨2, _⟩ => ⟨S2x1x704x1024, .f32⟩
  | .hbm, ⟨3, _⟩ => ⟨S2x704x1024, .f32⟩
  | .hbm, ⟨4, _⟩ => ⟨S1x2x704x1024, .f32⟩
  | .hbm, ⟨5, _⟩ => ⟨S2x704x1024, .f32⟩
  | .hbm, ⟨6, _⟩ => ⟨S2x704x1024, .f32⟩
  | .hbm, ⟨7, _⟩ => ⟨S1x2x704x1024, .f32⟩
  | .hbm, ⟨8, _⟩ => ⟨S2x704x1024, .f32⟩
  | .hbm, ⟨9, _⟩ => ⟨S2x704x1024, .f32⟩
  | .hbm, ⟨10, _⟩ => ⟨S1x2x704x1024, .f32⟩
  | .hbm, ⟨11, _⟩ => ⟨S2x704x1024, .f32⟩
  | .hbm, ⟨12, _⟩ => ⟨S2x704x1024, .f32⟩
  | .hbm, ⟨13, _⟩ => ⟨S_, .f32⟩
  | .hbm, ⟨14, _⟩ => ⟨S2x704x1024, .f32⟩
  | .hbm, ⟨15, _⟩ => ⟨S4x704x1024, .f32⟩
  | _, _ => ⟨S2x4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel41.lean ====
abbrev S2x4x256x1024 : Shape := ⟨4, ![2, 4, 256, 1024]⟩
abbrev S3x2x256x1024 : Shape := ⟨4, ![3, 2, 256, 1024]⟩
abbrev S4x256x1024 : Shape := ⟨3, ![4, 256, 1024]⟩
abbrev S1x1x256x1024 : Shape := ⟨4, ![1, 1, 256, 1024]⟩
abbrev S1x256x1024 : Shape := ⟨3, ![1, 256, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2x4x256x1024, .f32⟩
  | .hbm, ⟨1, _⟩ => ⟨S3x2x256x1024, .f32⟩
  | .hbm, ⟨2, _⟩ => ⟨S2x4x256x1024, .bf16⟩
  | .hbm, ⟨3, _⟩ => ⟨S3x2x256x1024, .bf16⟩
  | .hbm, ⟨4, _⟩ => ⟨S4x256x1024, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x256x1024, .f32⟩
  | .local _ .vmem, ⟨9, _⟩ => ⟨S1x256x1024, .f32⟩
  | _, _ => ⟨S2x4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel41Ideal.lean ====
abbrev S2x4x256x1024 : Shape := ⟨4, ![2, 4, 256, 1024]⟩
abbrev S3x2x256x1024 : Shape := ⟨4, ![3, 2, 256, 1024]⟩
abbrev S4x256x1024 : Shape := ⟨3, ![4, 256, 1024]⟩
abbrev S1x1x256x1024 : Shape := ⟨4, ![1, 1, 256, 1024]⟩
abbrev S1x256x1024 : Shape := ⟨3, ![1, 256, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2x4x256x1024, .f32⟩
  | .hbm, ⟨1, _⟩ => ⟨S3x2x256x1024, .f32⟩
  | .hbm, ⟨2, _⟩ => ⟨S2x4x256x1024, .bf16⟩
  | .hbm, ⟨3, _⟩ => ⟨S3x2x256x1024, .bf16⟩
  | .hbm, ⟨4, _⟩ => ⟨S4x256x1024, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x256x1024, .f32⟩
  | .local _ .vmem, ⟨9, _⟩ => ⟨S1x256x1024, .f32⟩
  | _, _ => ⟨S2x4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference41Ideal.lean ====
abbrev S2x4x256x1024 : Shape := ⟨4, ![2, 4, 256, 1024]⟩
abbrev S3x2x256x1024 : Shape := ⟨4, ![3, 2, 256, 1024]⟩
abbrev S2x1x256x1024 : Shape := ⟨4, ![2, 1, 256, 1024]⟩
abbrev S2x256x1024 : Shape := ⟨3, ![2, 256, 1024]⟩
abbrev S1x2x256x1024 : Shape := ⟨4, ![1, 2, 256, 1024]⟩
abbrev S_ : Shape := ⟨0, ![]⟩
abbrev S4x256x1024 : Shape := ⟨3, ![4, 256, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x4x256x1024, .f32⟩
  | .hbm, ⟨1, _⟩ => ⟨S3x2x256x1024, .f32⟩
  | .hbm, ⟨2, _⟩ => ⟨S2x1x256x1024, .f32⟩
  | .hbm, ⟨3, _⟩ => ⟨S2x256x1024, .f32⟩
  | .hbm, ⟨4, _⟩ => ⟨S1x2x256x1024, .f32⟩
  | .hbm, ⟨5, _⟩ => ⟨S2x256x1024, .f32⟩
  | .hbm, ⟨6, _⟩ => ⟨S2x256x1024, .f32⟩
  | .hbm, ⟨7, _⟩ => ⟨S1x2x256x1024, .f32⟩
  | .hbm, ⟨8, _⟩ => ⟨S2x256x1024, .f32⟩
  | .hbm, ⟨9, _⟩ => ⟨S2x256x1024, .f32⟩
  | .hbm, ⟨10, _⟩ => ⟨S1x2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S4x256x1024, .f32⟩
  | _, _ => ⟨S2x4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel42.lean ====
abbrev S2x4x256x512 : Shape := ⟨4, ![2, 4, 256, 512]⟩
abbrev S3x2x256x512 : Shape := ⟨4, ![3, 2, 256, 512]⟩
abbrev S4x256x512 : Shape := ⟨3, ![4, 256, 512]⟩
abbrev S1x1x256x512 : Shape := ⟨4, ![1, 1, 256, 512]⟩
abbrev S1x256x512 : Shape := ⟨3, ![1, 256, 512]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S2x4x256x512, .f32⟩
  | .hbm, ⟨1, _⟩ => ⟨S3x2x256x512, .f32⟩
  | .hbm, ⟨2, _⟩ => ⟨S2x4x256x512, .bf16⟩
  | .hbm, ⟨3, _⟩ => ⟨S3x2x256x512, .bf16⟩
  | .hbm, ⟨4, _⟩ => ⟨S4x256x512, .f32⟩
  | .local _ .vmem, ⟨0, _⟩ => ⟨S1x1x256x512, .bf16⟩
  | .local _ .vmem, ⟨1, _⟩ => ⟨S1x1x256x512, .bf16⟩
  | .local _ .vmem, ⟨2, _⟩ => ⟨S1x1x256x512, .bf16⟩
  | .local _ .vmem, ⟨3, _⟩ => ⟨S1x1x256x512, .bf16⟩
  | .local _ .vmem, ⟨4, _⟩ => ⟨S1x1x256x512, .bf16⟩
  | .local _ .vmem, ⟨5, _⟩ => ⟨S1x1x256x512, .bf16⟩
  | .local _ .vmem, ⟨6, _⟩ => ⟨S1x1x256x512, .bf16⟩
  | .local _ .vmem, ⟨7, _⟩ => ⟨S1x1x256x512, .bf16⟩
  | .local _ .vmem, ⟨8, _⟩ => ⟨S1x256x512, .f32⟩
  | .local _ .vmem, ⟨9, _⟩ => ⟨S1x256x512, .f32⟩
  | _, _ => ⟨S2x4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel42Ideal.lean ====
abbrev S2x4x256x512 : Shape := ⟨4, ![2, 4, 256, 512]⟩
abbrev S3x2x256x512 : Shape := ⟨4, ![3, 2, 256, 512]⟩
abbrev S4x256x512 : Shape := ⟨3, ![4, 256, 512]⟩
abbrev S1x1x256x512 : Shape := ⟨4, ![1, 1, 256, 512]⟩
abbrev S1x256x512 : Shape := ⟨3, ![1, 256, 512]⟩
abbrev S256x512 : Shape := ⟨2, ![256, 512]⟩

abbrev nBuf : Space → Nat
  | .hbm => 5
  | .vmem => 10
  | .smem => 0
  | _ => 0

abbrev bufTy : (tb : Table) → Fin (tcTables nBuf tb) → BufTy
  | .hbm, ⟨0, _⟩ => ⟨S2x4x256x512, .f32⟩
  | .hbm, ⟨1, _⟩ => ⟨S3x2x256x512, .f32⟩
  | .hbm, ⟨2, _⟩ => ⟨S2x4x256x512, .bf16⟩
  | .hbm, ⟨3, _⟩ => ⟨S3x2x256x512, .bf16⟩
  | .hbm, ⟨4, _⟩ => ⟨S4x256x512, .f32⟩
  | .local _ .vmem, ⟨0, _⟩ => ⟨S1x1x256x512, .bf16⟩
  | .local _ .vmem, ⟨1, _⟩ => ⟨S1x1x256x512, .bf16⟩
  | .local _ .vmem, ⟨2, _⟩ => ⟨S1x1x256x512, .bf16⟩
  | .local _ .vmem, ⟨3, _⟩ => ⟨S1x1x256x512, .bf16⟩
  | .local _ .vmem, ⟨4, _⟩ => ⟨S1x1x256x512, .bf16⟩
  | .local _ .vmem, ⟨5, _⟩ => ⟨S1x1x256x512, .bf16⟩
  | .local _ .vmem, ⟨6, _⟩ => ⟨S1x1x256x512, .bf16⟩
  | .local _ .vmem, ⟨7, _⟩ => ⟨S1x1x256x512, .bf16⟩
  | .local _ .vmem, ⟨8, _⟩ => ⟨S1x256x512, .f32⟩
  | .local _ .vmem, ⟨9, _⟩ => ⟨S1x256x512, .f32⟩
  | _, _ => ⟨S2x4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference42Ideal.lean ====
abbrev S2x4x256x512 : Shape := ⟨4, ![2, 4, 256, 512]⟩
abbrev S3x2x256x512 : Shape := ⟨4, ![3, 2, 256, 512]⟩
abbrev S2x1x256x512 : Shape := ⟨4, ![2, 1, 256, 512]⟩
abbrev S2x256x512 : Shape := ⟨3, ![2, 256, 512]⟩
abbrev S1x2x256x512 : Shape := ⟨4, ![1, 2, 256, 512]⟩
abbrev S_ : Shape := ⟨0, ![]⟩
abbrev S4x256x512 : Shape := ⟨3, ![4, 256, 512]⟩

abbrev nBuf : Space → Nat
  | .hbm => 16
  | .vmem => 0
  | .smem => 0
  | _ => 0

abbrev bufTy : (tb : Table) → Fin (tcTables nBuf tb) → BufTy
  | .hbm, ⟨0, _⟩ => ⟨S2x4x256x512, .f32⟩
  | .hbm, ⟨1, _⟩ => ⟨S3x2x256x512, .f32⟩
  | .hbm, ⟨2, _⟩ => ⟨S2x1x256x512, .f32⟩
  | .hbm, ⟨3, _⟩ => ⟨S2x256x512, .f32⟩
  | .hbm, ⟨4, _⟩ => ⟨S1x2x256x512, .f32⟩
  | .hbm, ⟨5, _⟩ => ⟨S2x256x512, .f32⟩
  | .hbm, ⟨6, _⟩ => ⟨S2x256x512, .f32⟩
  | .hbm, ⟨7, _⟩ => ⟨S1x2x256x512, .f32⟩
  | .hbm, ⟨8, _⟩ => ⟨S2x256x512, .f32⟩
  | .hbm, ⟨9, _⟩ => ⟨S2x256x512, .f32⟩
  | .hbm, ⟨10, _⟩ => ⟨S1x2x256x512, .f32⟩
  | .hbm, ⟨11, _⟩ => ⟨S2x256x512, .f32⟩
  | .hbm, ⟨12, _⟩ => ⟨S2x256x512, .f32⟩
  | .hbm, ⟨13, _⟩ => ⟨S_, .f32⟩
  | .hbm, ⟨14, _⟩ => ⟨S2x256x512, .f32⟩
  | .hbm, ⟨15, _⟩ => ⟨S4x256x512, .f32⟩
  | _, _ => ⟨S2x4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel43.lean ====
abbrev S2x4x256x256 : Shape := ⟨4, ![2, 4, 256, 256]⟩
abbrev S3x2x256x256 : Shape := ⟨4, ![3, 2, 256, 256]⟩
abbrev S4x256x256 : Shape := ⟨3, ![4, 256, 256]⟩
abbrev S1x1x256x256 : Shape := ⟨4, ![1, 1, 256, 256]⟩
abbrev S1x256x256 : Shape := ⟨3, ![1, 256, 256]⟩
abbrev S256x256 : Shape := ⟨2, ![256, 256]⟩

abbrev nBuf : Space → Nat
  | .hbm => 5
  | .vmem => 10
  | .smem => 0
  | _ => 0

abbrev bufTy : (tb : Table) → Fin (tcTables nBuf tb) → BufTy
  | .hbm, ⟨0, _⟩ => ⟨S2x4x256x256, .f32⟩
  | .hbm, ⟨1, _⟩ => ⟨S3x2x256x256, .f32⟩
  | .hbm, ⟨2, _⟩ => ⟨S2x4x256x256, .bf16⟩
  | .hbm, ⟨3, _⟩ => ⟨S3x2x256x256, .bf16⟩
  | .hbm, ⟨4, _⟩ => ⟨S4x256x256, .f32⟩
  | .local _ .vmem, ⟨0, _⟩ => ⟨S1x1x256x256, .bf16⟩
  | .local _ .vmem, ⟨1, _⟩ => ⟨S1x1x256x256, .bf16⟩
  | .local _ .vmem, ⟨2, _⟩ => ⟨S1x1x256x256, .bf16⟩
  | .local _ .vmem, ⟨3, _⟩ => ⟨S1x1x256x256, .bf16⟩
  | .local _ .vmem, ⟨4, _⟩ => ⟨S1x1x256x256, .bf16⟩
  | .local _ .vmem, ⟨5, _⟩ => ⟨S1x1x256x256, .bf16⟩
  | .local _ .vmem, ⟨6, _⟩ => ⟨S1x1x256x256, .bf16⟩
  | .local _ .vmem, ⟨7, _⟩ => ⟨S1x1x256x256, .bf16⟩
  | .local _ .vmem, ⟨8, _⟩ => ⟨S1x256x256, .f32⟩
  | .local _ .vmem, ⟨9, _⟩ => ⟨S1x256x256, .f32⟩
  | _, _ => ⟨S2x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference43Ideal.lean ====
abbrev S2x4x256x256 : Shape := ⟨4, ![2, 4, 256, 256]⟩
abbrev S3x2x256x256 : Shape := ⟨4, ![3, 2, 256, 256]⟩
abbrev S2x1x256x256 : Shape := ⟨4, ![2, 1, 256, 256]⟩
abbrev S2x256x256 : Shape := ⟨3, ![2, 256, 256]⟩
abbrev S1x2x256x256 : Shape := ⟨4, ![1, 2, 256, 256]⟩
abbrev S_ : Shape := ⟨0, ![]⟩
abbrev S4x256x256 : Shape := ⟨3, ![4, 256, 256]⟩

abbrev nBuf : Space → Nat
  | .hbm => 16
  | .vmem => 0
  | .smem => 0
  | _ => 0

abbrev bufTy : (tb : Table) → Fin (tcTables nBuf tb) → BufTy
  | .hbm, ⟨0, _⟩ => ⟨S2x4x256x256, .f32⟩
  | .hbm, ⟨1, _⟩ => ⟨S3x2x256x256, .f32⟩
  | .hbm, ⟨2, _⟩ => ⟨S2x1x256x256, .f32⟩
  | .hbm, ⟨3, _⟩ => ⟨S2x256x256, .f32⟩
  | .hbm, ⟨4, _⟩ => ⟨S1x2x256x256, .f32⟩
  | .hbm, ⟨5, _⟩ => ⟨S2x256x256, .f32⟩
  | .hbm, ⟨6, _⟩ => ⟨S2x256x256, .f32⟩
  | .hbm, ⟨7, _⟩ => ⟨S1x2x256x256, .f32⟩
  | .hbm, ⟨8, _⟩ => ⟨S2x256x256, .f32⟩
  | .hbm, ⟨9, _⟩ => ⟨S2x256x256, .f32⟩
  | .hbm, ⟨10, _⟩ => ⟨S1x2x256x256, .f32⟩
  | .hbm, ⟨11, _⟩ => ⟨S2x256x256, .f32⟩
  | .hbm, ⟨12, _⟩ => ⟨S2x256x256, .f32⟩
  | .hbm, ⟨13, _⟩ => ⟨S_, .f32⟩
  | .hbm, ⟨14, _⟩ => ⟨S2x256x256, .f32⟩
  | .hbm, ⟨15, _⟩ => ⟨S4x256x256, .f32⟩
  | _, _ => ⟨S2x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Proof.AttnReal.lean ====
module

public import Idealize.ShloMosaic.Lib.Pointwise

/-!
# The gradient of windowed attention with sinks, over the real numbers

One batch entry `b` is cut into 32 blocks `n` of 128 tokens. A query row `i` of block `n` looks at the 256 keys of the
band made of block `n - 1` followed by block `n`; key `j` of the band is visible to row `i` when its distance
`i + 128 - j` lies in `[0, 128)` and it is not before the first token. A query head is a pair `(a, g)`: the key/value
head `a` that it reads and its place `g` among the four that share it. Each head has a sink, a logit with no value.

Everything here is real-valued; the programs' arrays are shown to be these numbers in other modules.
-/

@[expose] public section

noncomputable section

namespace Cert.Attn

open Idealize.ShloMosaic

/-- The five arguments as real numbers: queries, keys, values, sinks and the gradient of the attention's result. -/
structure Data where
  q : Fin 2 → Fin 4096 → Fin 8 → Fin 64 → ℝ
  k : Fin 2 → Fin 4096 → Fin 2 → Fin 64 → ℝ
  v : Fin 2 → Fin 4096 → Fin 2 → Fin 64 → ℝ
  s : Fin 8 → ℝ
  c : Fin 2 → Fin 4096 → Fin 512 → ℝ

/-- Key `j` of block `n`'s band is visible to row `i`. -/
def ok (n : Fin 32) (i : Fin 128) (j : Fin 256) : Prop :=
  (j : ℕ) ≤ i + 128 ∧ (i : ℕ) < j ∧ (0 < (n : ℕ) ∨ 128 ≤ (j : ℕ))

instance (n : Fin 32) (i : Fin 128) (j : Fin 256) : Decidable (ok n i j) := by unfold ok; infer_instance

/-- The token that row `i` of block `n` is. -/
def tok (n : Fin 32) (i : Fin 128) : Fin 4096 := ⟨n * 128 + i, by omega⟩

/-- The query head `(a, g)`. -/
def hd (a : Fin 2) (g : Fin 4) : Fin 8 := ⟨a * 4 + g, by omega⟩

/-- The place of dimension `d` of head `(a, g)` in a row of the attention's result. -/
def col (a : Fin 2) (g : Fin 4) (d : Fin 64) : Fin 512 := ⟨(a * 4 + g) * 64 + d, by omega⟩

/-- The band of a key or value array: zero before the first token. -/
def band (x : Fin 2 → Fin 4096 → Fin 2 → Fin 64 → ℝ) (b : Fin 2) (n : Fin 32) (a : Fin 2) (j : Fin 256) (d : Fin 64) : ℝ :=
  if (n : ℕ) = 0 ∧ (j : ℕ) < 128 then 0 else x b ⟨(n * 128 + j - 128) % 4096, by omega⟩ a d

/-- The band as the kernel reads it: before the first token stand the rows of block 0 again. -/
def bandK (x : Fin 2 → Fin 4096 → Fin 2 → Fin 64 → ℝ) (b : Fin 2) (n : Fin 32) (a : Fin 2) (j : Fin 256) (d : Fin 64) : ℝ :=
  if (j : ℕ) < 128 then x b ⟨(n - 1) * 128 + j, by omega⟩ a d else x b ⟨n * 128 + (j - 128), by omega⟩ a d

namespace Data

variable (D : Data) (b : Fin 2) (n : Fin 32) (a : Fin 2) (g : Fin 4) (i : Fin 128)

/-- The scaled score of key `j`. -/
def S (j : Fin 256) : ℝ := (∑ d : Fin 64, band D.k b n a j d * D.q b (tok n i) (hd a g) d) * (1 / 8)

/-- The row's normaliser, the sink's term included. -/
def Z : ℝ := (∑ j : Fin 256, if ok n i j then Real.exp (D.S b n a g i j) else 0) + Real.exp (D.s (hd a g))

/-- The logarithm of the row's normaliser. -/
def L : ℝ := Real.log (D.Z b n a g i)

/-- The weight of key `j`. -/
def P (j : Fin 256) : ℝ := if ok n i j then Real.exp (D.S b n a g i j - D.L b n a g i) else 0

/-- The attention's result. -/
def O (d : Fin 64) : ℝ := ∑ j : Fin 256, band D.v b n a j d * D.P b n a g i j

/-- The gradient of the weight of key `j`. -/
def dP (j : Fin 256) : ℝ := ∑ d : Fin 64, D.c b (tok n i) (col a g d) * band D.v b n a j d

/-- The row's mean gradient, the weights being the measure. -/
def M : ℝ := ∑ j : Fin 256, D.dP b n a g i j * D.P b n a g i j

/-- The gradient of the unscaled score of key `j`. -/
def dS (j : Fin 256) : ℝ := D.P b n a g i j * (D.dP b n a g i j - D.M b n a g i) * (1 / 8)

/-- The gradient of the queries. -/
def dq (d : Fin 64) : ℝ := ∑ j : Fin 256, D.dS b n a g i j * band D.k b n a j d

/-- The gradient of the band's keys. -/
def dk (j : Fin 256) (d : Fin 64) : ℝ :=
  ∑ i : Fin 128, ∑ g : Fin 4, D.dS b n a g i j * D.q b (tok n i) (hd a g) d

/-- The gradient of the band's values. -/
def dv (j : Fin 256) (d : Fin 64) : ℝ :=
  ∑ i : Fin 128, ∑ g : Fin 4, D.c b (tok n i) (col a g d) * D.P b n a g i j

/-- The gradient of a sink: minus the sum, over the rows, of the sink's own weight times the row's mean gradient. -/
def dsink : ℝ :=
  -∑ b : Fin 2, ∑ n : Fin 32, ∑ i : Fin 128, Real.exp (D.s (hd a g) - D.L b n a g i) * D.M b n a g i

theorem Z_pos : 0 < D.Z b n a g i := by
  unfold Z
  have h : 0 ≤ ∑ j : Fin 256, if ok n i j then Real.exp (D.S b n a g i j) else 0 :=
    Finset.sum_nonneg fun j _ => by split <;> positivity
  positivity

/-- A number's exponential over the normaliser is the exponential of its difference from `L`. -/
theorem exp_sub_L (x : ℝ) : Real.exp (x - D.L b n a g i) = Real.exp x / D.Z b n a g i := by
  rw [Real.exp_sub, L, Real.exp_log (D.Z_pos b n a g i)]

/-- The normaliser computed after subtracting any `m` from the logits. -/
theorem Z_shift (m : ℝ) :
    (∑ j : Fin 256, if ok n i j then Real.exp (D.S b n a g i j - m) else 0) + Real.exp (D.s (hd a g) - m)
      = D.Z b n a g i / Real.exp m := by
  unfold Z
  rw [add_div, Finset.sum_div, ← Real.exp_sub]
  congr 1
  refine Finset.sum_congr rfl fun j _ => ?_
  split
  · rw [Real.exp_sub]
  · simp

/-- `L` from the shifted normaliser. -/
theorem L_shift (m : ℝ) : m + Real.log (D.Z b n a g i / Real.exp m) = D.L b n a g i := by
  rw [Real.log_div (D.Z_pos b n a g i).ne' (Real.exp_pos m).ne', Real.log_exp, L]; ring

/-- A weight from the shifted exponentials and normaliser. -/
theorem P_shift (m : ℝ) (j : Fin 256) :
    (if ok n i j then Real.exp (D.S b n a g i j - m) else 0) / (D.Z b n a g i / Real.exp m) = D.P b n a g i j := by
  unfold P
  split
  · rw [exp_sub_L, Real.exp_sub]
    have := (Real.exp_pos m).ne'
    have := (D.Z_pos b n a g i).ne'
    field_simp
  · simp

/-- The row's mean gradient is the inner product of the result with its gradient. -/
theorem M_eq : D.M b n a g i = ∑ d : Fin 64, D.c b (tok n i) (col a g d) * D.O b n a g i d := by
  unfold M dP O
  simp only [Finset.sum_mul, Finset.mul_sum]
  rw [Finset.sum_comm]
  exact Finset.sum_congr rfl fun d _ => Finset.sum_congr rfl fun j _ => by ring

/-- The row's scores' gradients add up to minus the sink's: the row's logits shifted together change nothing. -/
theorem row_balance :
    ∑ j : Fin 256, D.P b n a g i j * (D.dP b n a g i j - D.M b n a g i)
      = Real.exp (D.s (hd a g) - D.L b n a g i) * D.M b n a g i := by
  have hP : ∑ j : Fin 256, D.P b n a g i j = 1 - Real.exp (D.s (hd a g) - D.L b n a g i) := by
    have h := D.Z_shift b n a g i (D.L b n a g i)
    have h1 : D.Z b n a g i / Real.exp (D.L b n a g i) = 1 := by
      rw [L, Real.exp_log (D.Z_pos b n a g i)]; exact div_self (D.Z_pos b n a g i).ne'
    rw [h1] at h
    unfold P
    linarith
  simp only [mul_sub, Finset.sum_sub_distrib, ← Finset.sum_mul, hP]
  have : ∑ j : Fin 256, D.P b n a g i j * D.dP b n a g i j = D.M b n a g i := by
    unfold M; exact Finset.sum_congr rfl fun j _ => mul_comm _ _
  rw [this]; ring

/-- A key that is not visible has no weight. -/
theorem P_of_not {j : Fin 256} (h : ¬ ok n i j) : D.P b n a g i j = 0 := if_neg h

theorem dS_of_not {j : Fin 256} (h : ¬ ok n i j) : D.dS b n a g i j = 0 := by rw [dS, P_of_not D b n a g i h]; ring

end Data

/-- Where a key is visible the two bands agree. -/
theorem bandK_eq (x : Fin 2 → Fin 4096 → Fin 2 → Fin 64 → ℝ) (b : Fin 2) {n : Fin 32} (a : Fin 2) {i : Fin 128} {j : Fin 256}
    (d : Fin 64) (h : ok n i j) : bandK x b n a j d = band x b n a j d := by
  obtain ⟨h1, h2, h3⟩ := h
  unfold bandK band
  have h0 : ¬ ((n : ℕ) = 0 ∧ (j : ℕ) < 128) := by omega
  rw [if_neg h0]
  split
  · exact congrArg (fun t => x b t a d) (Fin.ext (by simp only; omega))
  · exact congrArg (fun t => x b t a d) (Fin.ext (by simp only; omega))

/-- A sum of real numbers read as an extended real. -/
theorem coe_sum {ι : Type} (s : Finset ι) (f : ι → ℝ) : ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

/-- The maximum of finitely many extended reals below `⊤`, one of them a real number, is a real number. -/
theorem fold_max_real {ι : Type} [Fintype ι] (f : ι → EReal) (ht : ∀ k, f k ≠ ⊤) (k₀ : ι) (hb : f k₀ ≠ ⊥) :
    ∃ r : ℝ, Finset.univ.fold max ⊥ f = (r : EReal) := by
  have h1 : Finset.univ.fold max ⊥ f ≠ ⊤ := by
    have : Finset.univ.fold max ⊥ f < ⊤ := by
      rw [Finset.fold_max_lt]; exact ⟨bot_lt_top, fun k _ => lt_top_iff_ne_top.mpr (ht k)⟩
    exact this.ne
  have h2 : Finset.univ.fold max ⊥ f ≠ ⊥ := by
    have : f k₀ ≤ Finset.univ.fold max ⊥ f := by
      rw [Finset.le_fold_max]; exact Or.inr ⟨k₀, Finset.mem_univ _, le_rfl⟩
    exact fun h => hb (le_bot_iff.mp (h ▸ this))
  exact ⟨_, (EReal.coe_toReal h1 h2).symm⟩

end Cert.Attn

end
-- ==== Proof.AttnBlock.lean ====
module

public import Idealize.ShloMosaic.Lib.Pointwise
public import proofs.«01_k».proof.Proof.AttnReal
public import proofs.«01_k».proof.Proof.Gen.KernelIdeal.Skeleton

/-!
# What the kernel stores for one block and one key/value head

One point of the grid holds one block of 128 query rows. Its body does the same work twice, once for each key/value head.
The theorems here say what each stored value is at an index when the loaded blocks hold the real numbers of
`Cert.Attn.Data`.
-/

@[expose] public section

set_option maxRecDepth 16384

noncomputable section

namespace Cert.KernelIdeal.Block

open Idealize Idealize.ShloMosaic Cert.KernelIdeal Cert.KernelIdeal.Gen Cert.Attn

/-- The head's place among the four, for row `r` of a 512-row block. -/
def hi (r : Fin 512) : Fin 4 := ⟨r / 128, by omega⟩
/-- The query row, for row `r` of a 512-row block. -/
def lo (r : Fin 512) : Fin 128 := ⟨r % 128, by omega⟩

theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num

/-- A selection by a bit that says whether `p` holds. -/
theorem select_of_iff {α : Type} (w : BitVec 1) (p : Prop) [Decidable p] (h : w = 1#1 ↔ p) (x y : α) :
    Scalar.select w x y = if p then x else y := by
  unfold Scalar.select
  by_cases hp : p
  · rw [if_pos hp, h.mpr hp]; rfl
  · have hw : w = 0#1 := by
      rcases (by decide : ∀ w : BitVec 1, w = 0#1 ∨ w = 1#1) w with e | e
      · exact e
      · exact absurd (h.mp e) hp
    rw [if_neg hp, hw]; rfl

theorem andi_eq_one (x y : BitVec 1) : IntOp.andi x y = 1#1 ↔ x = 1#1 ∧ y = 1#1 := by
  revert x y; decide
theorem ori_eq_one (x y : BitVec 1) : IntOp.ori x y = 1#1 ↔ x = 1#1 ∨ y = 1#1 := by
  revert x y; decide

theorem ofNat_toInt (j : ℕ) (hj : j < 256) : (BitVec.ofNat 32 j).toInt = (j : ℤ) := by
  rw [BitVec.toInt_eq_toNat_cond, BitVec.toNat_ofNat]
  omega

/-- A row's distance to a key, as a signed integer. -/
theorem dist_toInt (i j : ℕ) (hi : i < 128) (hj : j < 256) :
    (IntOp.subi (IntOp.addi (BitVec.ofNat 32 i) 128#32) (BitVec.ofNat 32 j)).toInt = (i : ℤ) + 128 - j := by
  show ((BitVec.ofNat 32 i + BitVec.ofNat 32 128) - BitVec.ofNat 32 j).toInt = _
  rw [BitVec.toInt_sub, BitVec.toInt_add, ofNat_toInt i (by omega), ofNat_toInt j hj, ofNat_toInt 128 (by omega)]
  simp only [Int.bmod]
  omega

theorem ofBool_eq_one (b : Bool) : BitVec.ofBool b = 1#1 ↔ b = true := by revert b; decide

/-- The comparisons of signed integers that the masks make. -/
theorem sge_eq_one (x y : BitVec 32) : IntOp.cmpi CmpIPredicate.sge x y = 1#1 ↔ y.toInt ≤ x.toInt := by
  simp [IntOp.cmpi, ofBool_eq_one, BitVec.sle_eq_decide]
theorem slt_eq_one (x y : BitVec 32) : IntOp.cmpi CmpIPredicate.slt x y = 1#1 ↔ x.toInt < y.toInt := by
  simp [IntOp.cmpi, ofBool_eq_one, BitVec.slt_eq_decide]
theorem sgt_eq_one (x y : BitVec 32) : IntOp.cmpi CmpIPredicate.sgt x y = 1#1 ↔ y.toInt < x.toInt := by
  simp [IntOp.cmpi, ofBool_eq_one, BitVec.slt_eq_decide]

/-- The bit of the kernel's mask. -/
theorem mask_at (n : Fin 32) (c : grid0.Coords) (hc : (c 1).val = (n : ℕ)) (i : Fin 128) (j : Fin 256) :
    k0_pay4 c (ix2 i j) = 1#1 ↔ ok n i j := by
  pointwise [k0_pay4]
  rw [hc]
  change IntOp.andi _ (IntOp.ori (IntOp.cmpi CmpIPredicate.sgt _ _) _) = 1#1 ↔ _
  rw [andi_eq_one, andi_eq_one, ori_eq_one, sge_eq_one, sge_eq_one, slt_eq_one, sgt_eq_one, dist_toInt i j i.isLt j.isLt,
    ofNat_toInt j j.isLt, ofNat_toInt n (by omega)]
  simp only [show (0#32).toInt = 0 from by decide, show (128#32).toInt = 128 from by decide]
  unfold ok
  omega

/-- The band read by the kernel: the previous block's rows, then the current block's. -/
theorem cat_at (x y : Vec Ideal S1x128x64 .bf16) (j : Fin 256) (d : Fin 64) :
    k0_pay5 x y (ix2 j d) = if h : (j : ℕ) < 128 then x (ix3 0 ⟨j, h⟩ d) else y (ix3 0 ⟨j - 128, by omega⟩ d) := by
  pointwise [k0_pay5]

theorem rows_at (x : Vec Ideal S4x128x64 .bf16) (r : Fin 512) (d : Fin 64) : k0_pay7 x (ix2 r d) = x (ix3 (hi r) (lo r) d) := by
  pointwise [k0_pay7]
  rfl

section
variable {D : Data} {b : Fin 2} {n : Fin 32} {a : Fin 2}
variable {v20 : IVec S128x256 1} {v25 v30 : FVec Ideal S256x64 .bf16} {v33 : FVec Ideal S512x64 .bf16}
  {v34 : Vec Ideal S4x128x64 .bf16} {v37 : Vec Ideal S4x128x1 .f32} {v53 : Vec Ideal S4x128x64 .bf16}

/-- The weights. -/
theorem weight_at (hm : ∀ i j, v20 (ix2 i j) = 1#1 ↔ ok n i j)
    (hk : ∀ j d, v25 (ix2 j d) = ↑(bandK D.k b n a j d))
    (hq : ∀ r d, v33 (ix2 r d) = ↑(D.q b (tok n (lo r)) (hd a (hi r)) d))
    (hl : ∀ g i, v37 (ix3 g i 0) = ↑(D.L b n a g i)) (g : Fin 4) (i : Fin 128) (j : Fin 256) :
    k0_pay10 v20 v25 v33 v37 (ix3 g i j) = ↑(D.P b n a g i j) := by
  pointwise [k0_pay10, k0_pay9]
  rw [select_of_iff _ _ (hm i j), Data.P]
  split_ifs with h
  · have e1 : hi (⟨g * 128 + i, by omega⟩ : Fin 512) = g := Fin.ext (by simp only [hi]; omega)
    have e2 : lo (⟨g * 128 + i, by omega⟩ : Fin 512) = i := Fin.ext (by simp only [lo]; omega)
    simp only [hk, hq, hl, e1, e2, eighth_bf16, ← EReal.coe_mul]
    rw [← coe_sum, ← EReal.coe_sub, Ideal.exp_coe]
    congr 3
    rw [Data.S, Finset.sum_mul]
    exact Finset.sum_congr rfl fun d _ => by rw [bandK_eq D.k b a d h]; ring
  · rfl

/-- The row's mean gradient. -/
theorem mean_at (hc : ∀ g i d, v34 (ix3 g i d) = ↑(D.c b (tok n i) (col a g d)))
    (ho : ∀ g i d, v53 (ix3 g i d) = ↑(D.O b n a g i d)) (g : Fin 4) (i : Fin 128) :
    k0_pay11 v34 v53 (ix3 g i 0) = ↑(D.M b n a g i) := by
  pointwise [k0_pay11]
  simp only [hc, ho, ← EReal.coe_mul]
  rw [← coe_sum, Data.M_eq]

/-- The scores' gradient. -/
theorem grad_at (hm : ∀ i j, v20 (ix2 i j) = 1#1 ↔ ok n i j)
    (hk : ∀ j d, v25 (ix2 j d) = ↑(bandK D.k b n a j d)) (hv : ∀ j d, v30 (ix2 j d) = ↑(bandK D.v b n a j d))
    (hq : ∀ r d, v33 (ix2 r d) = ↑(D.q b (tok n (lo r)) (hd a (hi r)) d))
    (hc : ∀ g i d, v34 (ix3 g i d) = ↑(D.c b (tok n i) (col a g d)))
    (hl : ∀ g i, v37 (ix3 g i 0) = ↑(D.L b n a g i))
    (ho : ∀ g i d, v53 (ix3 g i d) = ↑(D.O b n a g i d)) (r : Fin 512) (j : Fin 256) :
    k0_pay12 v20 v25 v30 v33 v34 v37 v34 v53 (ix2 r j) = ↑(D.dS b n a (hi r) (lo r) j) := by
  pointwise [k0_pay12, k0_pay8]
  change k0_pay10 v20 v25 v33 v37 (ix3 (hi r) (lo r) j) * (_ - k0_pay11 v34 v53 (ix3 (hi r) (lo r) 0)) * _ = _
  rw [weight_at hm hk hq hl, mean_at hc ho, eighth_f32]
  simp only [hc, hv, ← EReal.coe_mul]
  rw [← coe_sum, ← EReal.coe_sub, ← EReal.coe_mul, ← EReal.coe_mul, Data.dS]
  by_cases h : ok n (lo r) j
  · congr 4
    rw [Data.dP]
    exact Finset.sum_congr rfl fun d _ => by rw [bandK_eq D.v b a d h]; rfl
  · rw [Data.P_of_not D b n a _ _ h]; simp

/-- The queries' gradient as it is stored. -/
theorem dq_at (hm : ∀ i j, v20 (ix2 i j) = 1#1 ↔ ok n i j)
    (hk : ∀ j d, v25 (ix2 j d) = ↑(bandK D.k b n a j d)) (hv : ∀ j d, v30 (ix2 j d) = ↑(bandK D.v b n a j d))
    (hq : ∀ r d, v33 (ix2 r d) = ↑(D.q b (tok n (lo r)) (hd a (hi r)) d))
    (hc : ∀ g i d, v34 (ix3 g i d) = ↑(D.c b (tok n i) (col a g d)))
    (hl : ∀ g i, v37 (ix3 g i 0) = ↑(D.L b n a g i))
    (ho : ∀ g i d, v53 (ix3 g i d) = ↑(D.O b n a g i d)) (g : Fin 4) (i : Fin 128) (d : Fin 64) :
    k0_pay13 v20 v25 v30 v33 v34 v37 v34 v53 (ix3 g i d) = ↑(D.dq b n a g i d) := by
  pointwise [k0_pay13]
  have e1 : hi (⟨g * 128 + i, by omega⟩ : Fin 512) = g := Fin.ext (by simp only [hi]; omega)
  have e2 : lo (⟨g * 128 + i, by omega⟩ : Fin 512) = i := Fin.ext (by simp only [lo]; omega)
  simp only [grad_at hm hk hv hq hc hl ho, hk, e1, e2, ← EReal.coe_mul]
  rw [← coe_sum, Data.dq]
  congr 1
  refine Finset.sum_congr rfl fun j _ => ?_
  by_cases h : ok n i j
  · rw [bandK_eq D.k b a d h]
  · rw [Data.dS_of_not D b n a _ _ h]; simp

/-- A sum over the 512 rows is a sum over the rows of each of the four heads. -/
theorem sum_rows (f : Fin 4 → Fin 128 → ℝ) : ∑ r : Fin 512, f (hi r) (lo r) = ∑ i : Fin 128, ∑ g : Fin 4, f g i := by
  rw [Finset.sum_comm, ← Finset.sum_product']
  refine Finset.sum_bij' (fun r _ => (hi r, lo r)) (fun p _ => (⟨p.1 * 128 + p.2, by omega⟩ : Fin 512)) ?_ ?_ ?_ ?_ ?_
  · simp
  · simp
  · intro r _; exact Fin.ext (by simp only [hi, lo]; omega)
  · intro p _; exact Prod.ext (Fin.ext (by simp only [hi]; omega)) (Fin.ext (by simp only [lo]; omega))
  · simp

/-- The gradient of the band's keys. -/
theorem dk_at {v67 : FVec Ideal S512x256 .bf16} (hs : ∀ r j, v67 (ix2 r j) = ↑(D.dS b n a (hi r) (lo r) j))
    (hq : ∀ r d, v33 (ix2 r d) = ↑(D.q b (tok n (lo r)) (hd a (hi r)) d)) (j : Fin 256) (d : Fin 64) :
    k0_pay14 v33 v67 (ix2 j d) = ↑(D.dk b n a j d) := by
  pointwise [k0_pay14]
  simp only [hs, hq, ← EReal.coe_mul]
  rw [← coe_sum, Data.dk]
  exact congrArg _ (sum_rows fun g i => D.dS b n a g i j * D.q b (tok n i) (hd a g) d)

/-- The gradient of the band's values. -/
theorem dv_at {v36 : FVec Ideal S512x64 .bf16} {v49 : FVec Ideal S4x128x256 .f32}
    (hp : ∀ g i j, v49 (ix3 g i j) = ↑(D.P b n a g i j))
    (hc : ∀ r d, v36 (ix2 r d) = ↑(D.c b (tok n (lo r)) (col a (hi r) d))) (j : Fin 256) (d : Fin 64) :
    k0_pay15 v36 v49 (ix2 j d) = ↑(D.dv b n a j d) := by
  pointwise [k0_pay15]
  simp only [hp, hc, ← EReal.coe_mul]
  rw [← coe_sum, Data.dv]
  refine congrArg _ (Eq.trans ?_ (sum_rows fun g i => D.c b (tok n i) (col a g d) * D.P b n a g i j))
  exact Finset.sum_congr rfl fun r _ => by rw [mul_comm]; rfl

/-- What one point adds to a sink's gradient. -/
theorem dsink_at {v38 v58 : FVec Ideal S4x128x1 .f32} {v76 v78 : Vec Ideal S4x1x1 .f32} (g : Fin 4)
    (hl : ∀ i, v38 (ix3 g i 0) = ↑(D.L b n a g i)) (hM : ∀ i, v58 (ix3 g i 0) = ↑(D.M b n a g i))
    (hs : v78 (ix3 g 0 0) = ↑(D.s (hd a g))) :
    k0_pay16 v38 v58 v76 v78 (ix3 g 0 0)
      = v76 (ix3 g 0 0) + ↑(-∑ i : Fin 128, Real.exp (D.s (hd a g) - D.L b n a g i) * D.M b n a g i) := by
  pointwise [k0_pay16]
  simp only [hl, hM, hs, ← EReal.coe_sub, Ideal.exp_coe, ← EReal.coe_mul]
  rw [← coe_sum, EReal.coe_neg, zero_sub]

end

end Cert.KernelIdeal.Block

end
-- ==== Proof.AttnHead.lean ====
module

public import Idealize.ShloMosaic.Lib.Pointwise
public import proofs.«01_k».proof.Proof.AttnBlock

/-!
# The stored pieces of one key/value head, from the loaded blocks

The two key/value heads are worked on by the same operations, printed twice; the second head's payloads are the first's
under other names.
-/

@[expose] public section

set_option maxRecDepth 16384

noncomputable section

namespace Cert.KernelIdeal.Block

open Idealize Idealize.ShloMosaic Cert.KernelIdeal Cert.KernelIdeal.Gen Cert.Attn

/-! ## The second head's payloads are the first's -/

section
variable {F : FTy → Type} [FloatOps F]
variable (v20 : IVec S128x256 1) (k v : FVec F S256x64 .bf16) (q : FVec F S512x64 .bf16)
  (c o : Vec F S4x128x64 .bf16) (l : Vec F S4x128x1 .f32)

theorem second_keys (x y : Vec F S1x128x64 .bf16) : k0_pay21 x y = k0_pay5 x y := rfl
theorem second_values (x y : Vec F S1x128x64 .bf16) : k0_pay22 x y = k0_pay5 x y := rfl
theorem first_values (x y : Vec F S1x128x64 .bf16) : k0_pay6 x y = k0_pay5 x y := rfl
theorem second_rows (x : Vec F S4x128x64 .bf16) : k0_pay23 x = k0_pay7 x := rfl
theorem second_dq : k0_pay29 v20 k v q (k0_pay24 c) l c o = k0_pay13 v20 k v q c l c o := rfl
theorem second_dk_prev :
    k0_pay34 (k0_pay30 v20 k v q (k0_pay24 c) l c o) = k0_pay17 q (k0_pay12 v20 k v q c l c o) := rfl
theorem second_dk_cur :
    k0_pay35 (k0_pay30 v20 k v q (k0_pay24 c) l c o) = k0_pay18 q (k0_pay12 v20 k v q c l c o) := rfl
theorem second_dv_prev :
    k0_pay1 (k0_pay36 (k0_pay24 c) (k0_pay31 v20 k q l)) = k0_pay19 (k0_pay15 (k0_pay8 c) (k0_pay10 v20 k q l)) := rfl
theorem second_dv_cur :
    k0_pay2 (k0_pay32 (k0_pay24 c) (k0_pay31 v20 k q l)) = k0_pay20 (k0_pay15 (k0_pay8 c) (k0_pay10 v20 k q l)) := rfl
theorem second_dsink (x y : FVec F S4x128x1 .f32) (z w : Vec F S4x1x1 .f32) : k0_pay33 x y z w = k0_pay16 x y z w := rfl
theorem second_lse (x : Vec F S4x128x1 .f32) : k0_pay25 x = k0_pay9 x := rfl
theorem second_mean (x y : Vec F S4x128x64 .bf16) : k0_pay27 x y = k0_pay11 x y := rfl
end

/-- The blocks loaded for key/value head `a` at block `n` of batch entry `b`: the four query heads' rows (`x0`), the
    previous and the current block of keys (`x1`, `x2`) and of values (`x3`, `x4`), the attention's result (`x5`), its
    gradient (`x6`), the rows' log normalisers (`x7`) and the sinks (`x8`). -/
structure Loaded (D : Data) (b : Fin 2) (n : Fin 32) (a : Fin 2) (x0 : Vec Ideal S4x128x64 .bf16)
    (x1 x2 x3 x4 : Vec Ideal S1x128x64 .bf16) (x5 x6 : Vec Ideal S4x128x64 .bf16) (x7 : Vec Ideal S4x128x1 .f32) : Prop where
  q : ∀ g i d, x0 (ix3 g i d) = ↑(D.q b (tok n i) (hd a g) d)
  kp : ∀ (j : Fin 128) d, x1 (ix3 0 j d) = ↑(D.k b ⟨(n - 1) * 128 + j, by omega⟩ a d)
  kc : ∀ (j : Fin 128) d, x2 (ix3 0 j d) = ↑(D.k b ⟨n * 128 + j, by omega⟩ a d)
  vp : ∀ (j : Fin 128) d, x3 (ix3 0 j d) = ↑(D.v b ⟨(n - 1) * 128 + j, by omega⟩ a d)
  vc : ∀ (j : Fin 128) d, x4 (ix3 0 j d) = ↑(D.v b ⟨n * 128 + j, by omega⟩ a d)
  o : ∀ g i d, x5 (ix3 g i d) = ↑(D.O b n a g i d)
  c : ∀ g i d, x6 (ix3 g i d) = ↑(D.c b (tok n i) (col a g d))
  l : ∀ g i, x7 (ix3 g i 0) = ↑(D.L b n a g i)

namespace Loaded

variable {D : Data} {b : Fin 2} {n : Fin 32} {a : Fin 2} {x0 : Vec Ideal S4x128x64 .bf16}
  {x1 x2 x3 x4 : Vec Ideal S1x128x64 .bf16} {x5 x6 : Vec Ideal S4x128x64 .bf16} {x7 : Vec Ideal S4x128x1 .f32}
  (H : Loaded D b n a x0 x1 x2 x3 x4 x5 x6 x7) {c : grid0.Coords} (hc : (c 1).val = (n : ℕ))
include H

theorem keys (j : Fin 256) (d : Fin 64) : k0_pay5 x1 x2 (ix2 j d) = ↑(bandK D.k b n a j d) := by
  rw [cat_at, bandK]
  split
  · exact H.kp _ _
  · exact H.kc _ _

theorem values (j : Fin 256) (d : Fin 64) : k0_pay5 x3 x4 (ix2 j d) = ↑(bandK D.v b n a j d) := by
  rw [cat_at, bandK]
  split
  · exact H.vp _ _
  · exact H.vc _ _

theorem rows (r : Fin 512) (d : Fin 64) : k0_pay7 x0 (ix2 r d) = ↑(D.q b (tok n (lo r)) (hd a (hi r)) d) := by
  rw [rows_at, H.q]

theorem grads (r : Fin 512) (d : Fin 64) : k0_pay8 x6 (ix2 r d) = ↑(D.c b (tok n (lo r)) (col a (hi r) d)) := by
  show k0_pay7 x6 (ix2 r d) = _
  rw [rows_at, H.c]

include hc

theorem scores (r : Fin 512) (j : Fin 256) :
    k0_pay12 (k0_pay4 c) (k0_pay5 x1 x2) (k0_pay5 x3 x4) (k0_pay7 x0) x6 x7 x6 x5 (ix2 r j)
      = ↑(D.dS b n a (hi r) (lo r) j) :=
  grad_at (mask_at n c hc) H.keys H.values H.rows H.c H.l H.o r j

theorem weights (g : Fin 4) (i : Fin 128) (j : Fin 256) :
    k0_pay10 (k0_pay4 c) (k0_pay5 x1 x2) (k0_pay7 x0) x7 (ix3 g i j) = ↑(D.P b n a g i j) :=
  weight_at (mask_at n c hc) H.keys H.rows H.l g i j

/-- The stored gradient of the queries. -/
theorem dq (x : S4x128x64.Idx) :
    k0_pay13 (k0_pay4 c) (k0_pay5 x1 x2) (k0_pay5 x3 x4) (k0_pay7 x0) x6 x7 x6 x5 x
      = ↑(D.dq b n a (x 0) (x 1) (x 2)) := by
  conv_lhs => rw [eq_ix3 x]
  exact dq_at (mask_at n c hc) H.keys H.values H.rows H.c H.l H.o _ _ _

/-- The stored gradient of the previous block's keys. -/
theorem dk_prev (x : S1x128x64.Idx) :
    k0_pay17 (k0_pay7 x0) (k0_pay12 (k0_pay4 c) (k0_pay5 x1 x2) (k0_pay5 x3 x4) (k0_pay7 x0) x6 x7 x6 x5) x
      = ↑(D.dk b n a ⟨(x 1).val, by have : (x 1).val < 128 := (x 1).isLt; omega⟩ (x 2)) := by
  pointwise [k0_pay17]
  exact dk_at (H.scores hc) H.rows _ _

/-- The stored gradient of the current block's keys. -/
theorem dk_cur (x : S1x128x64.Idx) :
    k0_pay18 (k0_pay7 x0) (k0_pay12 (k0_pay4 c) (k0_pay5 x1 x2) (k0_pay5 x3 x4) (k0_pay7 x0) x6 x7 x6 x5) x
      = ↑(D.dk b n a ⟨128 + (x 1).val, by have : (x 1).val < 128 := (x 1).isLt; omega⟩ (x 2)) := by
  pointwise [k0_pay18]
  exact dk_at (H.scores hc) H.rows _ _

/-- The stored gradient of the previous block's values. -/
theorem dv_prev (x : S1x128x64.Idx) :
    k0_pay19 (k0_pay15 (k0_pay8 x6) (k0_pay10 (k0_pay4 c) (k0_pay5 x1 x2) (k0_pay7 x0) x7)) x
      = ↑(D.dv b n a ⟨(x 1).val, by have : (x 1).val < 128 := (x 1).isLt; omega⟩ (x 2)) := by
  pointwise [k0_pay19]
  exact dv_at (H.weights hc) H.grads _ _

/-- The stored gradient of the current block's values. -/
theorem dv_cur (x : S1x128x64.Idx) :
    k0_pay20 (k0_pay15 (k0_pay8 x6) (k0_pay10 (k0_pay4 c) (k0_pay5 x1 x2) (k0_pay7 x0) x7)) x
      = ↑(D.dv b n a ⟨128 + (x 1).val, by have : (x 1).val < 128 := (x 1).isLt; omega⟩ (x 2)) := by
  pointwise [k0_pay20]
  exact dv_at (H.weights hc) H.grads _ _

omit hc in
/-- The sinks' gradients after a point. -/
theorem dsink (x8 z : Vec Ideal S4x1x1 .f32) (hs : ∀ g, x8 (ix3 g 0 0) = ↑(D.s (hd a g))) (g : Fin 4) :
    k0_pay16 (k0_pay9 x7) (k0_pay11 x6 x5) z x8 (ix3 g 0 0)
      = z (ix3 g 0 0) + ↑(-∑ i : Fin 128, Real.exp (D.s (hd a g) - D.L b n a g i) * D.M b n a g i) :=
  dsink_at (a := a) (b := b) (n := n) _ (fun i => by pointwise [k0_pay9]; exact H.l _ i)
    (fun i => mean_at H.c H.o _ i) (hs _)

end Loaded

end Cert.KernelIdeal.Block

end
-- ==== Proof.AttnTiles.lean ====
module

public import Idealize.ShloMosaic.Lib.Pipeline.ValueKit
public import proofs.«01_k».proof.Proof.AttnHead
public import proofs.«01_k».proof.Proof.Gen.KernelIdeal.Frame

@[expose] public section
set_option maxRecDepth 16384
noncomputable section
namespace Cert.KernelIdeal.Tiles
open Idealize Idealize.ShloMosaic Idealize.ShloMosaic.TcCoe Idealize.SL.Sem Cert.KernelIdeal Cert.KernelIdeal.Gen Cert.Attn Cert.KernelIdeal.Block

variable (m : (ℓ : Loc nD τ sig) → Buf (Elt Ideal) ℓ)

/-- Row `i` of block `n` of batch entry `b`, among all the tokens. -/
def row (b : Fin 2) (n : Fin 32) (i : Fin 128) : Fin 8192 := ⟨(b * 32 + n) * 128 + i, by omega⟩

/-- The arrays that the kernel is given, as the real numbers of `D`. -/
structure Entry (c : Dev nD) (D : Data) : Prop where
  q : ∀ (b : Fin 2) (t : Fin 4096) (h : Fin 8) (d : Fin 64),
    (V m c main_v73 : FVec Ideal S12x8192x64 .bf16) (ix3 ⟨h, by omega⟩ ⟨b * 4096 + t, by omega⟩ d) = ((D.q b t h d : ℝ) : EReal)
  k : ∀ (b : Fin 2) (t : Fin 4096) (a : Fin 2) (d : Fin 64),
    (V m c main_v73 : FVec Ideal S12x8192x64 .bf16) (ix3 ⟨8 + a, by omega⟩ ⟨b * 4096 + t, by omega⟩ d) = ((D.k b t a d : ℝ) : EReal)
  v : ∀ (b : Fin 2) (t : Fin 4096) (a : Fin 2) (d : Fin 64),
    (V m c main_v73 : FVec Ideal S12x8192x64 .bf16) (ix3 ⟨10 + a, by omega⟩ ⟨b * 4096 + t, by omega⟩ d) = ((D.v b t a d : ℝ) : EReal)
  o : ∀ b n a g i d, (V m c main_v76 : FVec Ideal S8x8192x64 .bf16) (ix3 (hd a g) (row b n i) d) = ((D.O b n a g i d : ℝ) : EReal)
  ct : ∀ b n a g i d,
    (V m c main_v80 : FVec Ideal S8x8192x64 .bf16) (ix3 (hd a g) (row b n i) d) = ((D.c b (tok n i) (col a g d) : ℝ) : EReal)
  l : ∀ b n a g i, (V m c main_v66 : FVec Ideal S8x8192x1 .f32) (ix3 (hd a g) (row b n i) 0) = ((D.L b n a g i : ℝ) : EReal)
  s : ∀ h, (V m c main_v81 : FVec Ideal S8x1x1 .f32) (ix3 h 0 0) = ((D.s h : ℝ) : EReal)

/-- The blocks that the windows stage at a point. -/
theorem idx : ∀ t : Fin cfg0.N, win0_0.index t = ![0, t.val, 0]
    ∧ win0_1.index t = ![4, t.val / 32 * 32 + (t.val % 32 - 1), 0]
    ∧ win0_2.index t = ![4, t.val, 0]
    ∧ win0_3.index t = ![5, t.val / 32 * 32 + (t.val % 32 - 1), 0]
    ∧ win0_4.index t = ![5, t.val, 0]
    ∧ win0_5.index t = ![0, t.val, 0]
    ∧ win0_6.index t = ![0, t.val, 0]
    ∧ win0_7.index t = ![0, t.val, 0]
    ∧ win0_8.index t = ![0, 0, 0]
    ∧ win0_9.index t = ![0, t.val, 0]
    ∧ win0_10.index t = ![0, 0, 0] :=
  (by decide +kernel : ∀ t : Fin grid0.N, _)

theorem coord : ∀ t : Fin cfg0.N, (grid0.coords t 1).val = t.val % 32 := (by decide +kernel : ∀ t : Fin grid0.N, _)

/-- The batch entry of a point. -/
def bt (t : Fin cfg0.N) : Fin 2 := ⟨t.val / 32, by have : t.val < 64 := lt_of_lt_of_eq t.isLt N_0; omega⟩
/-- The block of a point. -/
def nt (t : Fin cfg0.N) : Fin 32 := ⟨t.val % 32, by omega⟩

/-- Four heads of a block of eight, loaded from head `o` on. -/
theorem ld4_at {α : EltTy → Type} {e : EltTy} {k : ℕ} (X : (⟨3, ![8, 128, k]⟩ : Shape).Idx → α e) (o : ℕ) (inb) (g : Fin 4) (i : Fin 128) (d : Fin k)
    (h : Fin 8) (hh : h.val = o + g) :
    View.ld (S := ⟨3, ![8, 128, k]⟩) X (Rect.unit ![o, 0, 0] ![4, 128, k] inb) (ix3 g i d) = X (ix3 h i d) := by
  refine congrArg X (funext fun a => Fin.ext ?_)
  fin_cases a
  · show o + 1 * g.val = h.val
    omega
  · show 0 + 1 * i.val = i.val
    omega
  · show 0 + 1 * d.val = d.val
    omega

/-- One head of a block of two. -/
theorem ld1_at {α : EltTy → Type} {e : EltTy} (X : S2x128x64.Idx → α e) (o : ℕ) (inb) (i : Fin 128) (d : Fin 64)
    (h : Fin 2) (hh : h.val = o) :
    View.ld (S := S2x128x64) X (Rect.unit ![o, 0, 0] ![1, 128, 64] inb) (ix3 0 i d) = X (ix3 h i d) := by
  refine congrArg X (funext fun a => Fin.ext ?_)
  fin_cases a
  · show o + 1 * 0 = h.val
    omega
  · show 0 + 1 * i.val = i.val
    omega
  · show 0 + 1 * d.val = d.val
    omega

/-- The query rows of a point's block. -/
theorem x0_at (c : Dev nD) (t : Fin cfg0.N) (g : Fin 8) (i : Fin 128) (d : Fin 64) (h : Fin 12) (r : Fin 8192)
    (hh : h.val = g.val) (hr : r.val = t.val * 128 + i.val) :
    X0_0 m c t (ix3 g i d) = (V m c main_v73 : FVec Ideal S12x8192x64 .bf16) (ix3 h r d) := by
  unfold X0_0 Pipeline.Window.fill
  rw [dif_pos (moved0_0 t _)]
  blk_ext [iblk, idx t]

/-- The preceding block of keys. -/
theorem x1_at (c : Dev nD) (t : Fin cfg0.N) (a : Fin 2) (i : Fin 128) (d : Fin 64) (h : Fin 12) (r : Fin 8192)
    (hh : h.val = 8 + a.val) (hr : r.val = (t.val / 32 * 32 + (t.val % 32 - 1)) * 128 + i.val) :
    iblk m c 1 t (ix3 a i d) = (V m c main_v73 : FVec Ideal S12x8192x64 .bf16) (ix3 h r d) := by
  blk_ext [iblk, idx t]

/-- The preceding block of values. -/
theorem x3_at (c : Dev nD) (t : Fin cfg0.N) (a : Fin 2) (i : Fin 128) (d : Fin 64) (h : Fin 12) (r : Fin 8192)
    (hh : h.val = 10 + a.val) (hr : r.val = (t.val / 32 * 32 + (t.val % 32 - 1)) * 128 + i.val) :
    iblk m c 3 t (ix3 a i d) = (V m c main_v73 : FVec Ideal S12x8192x64 .bf16) (ix3 h r d) := by
  blk_ext [iblk, idx t]

/-- The current block of keys. -/
theorem x2_at (c : Dev nD) (t : Fin cfg0.N) (a : Fin 2) (i : Fin 128) (d : Fin 64) (h : Fin 12) (r : Fin 8192)
    (hh : h.val = 8 + a.val) (hr : r.val = t.val * 128 + i.val) :
    iblk m c 2 t (ix3 a i d) = (V m c main_v73 : FVec Ideal S12x8192x64 .bf16) (ix3 h r d) := by
  blk_ext [iblk, idx t]

/-- The current block of values. -/
theorem x4_at (c : Dev nD) (t : Fin cfg0.N) (a : Fin 2) (i : Fin 128) (d : Fin 64) (h : Fin 12) (r : Fin 8192)
    (hh : h.val = 10 + a.val) (hr : r.val = t.val * 128 + i.val) :
    iblk m c 4 t (ix3 a i d) = (V m c main_v73 : FVec Ideal S12x8192x64 .bf16) (ix3 h r d) := by
  blk_ext [iblk, idx t]

/-- The block of the attention's results. -/
theorem x5_at (c : Dev nD) (t : Fin cfg0.N) (g : Fin 8) (i : Fin 128) (d : Fin 64) (r : Fin 8192)
    (hr : r.val = t.val * 128 + i.val) :
    iblk m c 5 t (ix3 g i d) = (V m c main_v76 : FVec Ideal S8x8192x64 .bf16) (ix3 g r d) := by
  blk_ext [iblk, idx t]

/-- The block of the cotangent. -/
theorem x6_at (c : Dev nD) (t : Fin cfg0.N) (g : Fin 8) (i : Fin 128) (d : Fin 64) (r : Fin 8192)
    (hr : r.val = t.val * 128 + i.val) :
    iblk m c 6 t (ix3 g i d) = (V m c main_v80 : FVec Ideal S8x8192x64 .bf16) (ix3 g r d) := by
  blk_ext [iblk, idx t]

/-- A block of the column array, read at an index. -/
theorem x7_read (t : Fin cfg0.N) (g : Fin 8) (i : Fin 128) (z : Fin 1) (r : Fin 8192)
    (hr : r.val = t.val * 128 + i.val) (A : FVec Ideal S8x8192x1 .f32) :
    (win0_7.blk t).view.read (Elt Ideal) A (ix3 g i z) = A (ix3 g r z) := by
  blk_ext [idx t]

/-- The block of the logarithms of the sums. -/
theorem x7_at (c : Dev nD) (t : Fin cfg0.N) (g : Fin 8) (i : Fin 128) (z : Fin 1) (r : Fin 8192)
    (hr : r.val = t.val * 128 + i.val) :
    iblk m c 7 t (ix3 g i z) = (V m c main_v66 : FVec Ideal S8x8192x1 .f32) (ix3 g r z) := by
  unfold iblk
  exact x7_read t g i z r hr _

/-- The block of the sinks, read at an index. -/
theorem x8_read (t : Fin cfg0.N) (g : Fin 8) (y z : Fin 1) (A : FVec Ideal S8x1x1 .f32) :
    (win0_8.blk t).view.read (Elt Ideal) A (ix3 g y z) = A (ix3 g y z) := by
  blk_ext [idx t]

/-- The block of the sinks. -/
theorem x8_at (c : Dev nD) (t : Fin cfg0.N) (g : Fin 8) (y z : Fin 1) :
    iblk m c 8 t (ix3 g y z) = (V m c main_v81 : FVec Ideal S8x1x1 .f32) (ix3 g y z) := by
  unfold iblk
  exact x8_read t g y z _

variable {m} {c : Dev nD} {D : Data} (E : Entry m c D) (t : Fin cfg0.N)
include E

omit E in
theorem row_at (i : Fin 128) : (row (bt t) (nt t) i).val = t.val * 128 + i.val := by
  show (t.val / 32 * 32 + t.val % 32) * 128 + i.val = _
  omega

omit E in
theorem tok_at (i : Fin 128) : (bt t).val * 4096 + (tok (nt t) i).val = t.val * 128 + i.val := by
  show t.val / 32 * 4096 + (t.val % 32 * 128 + i.val) = _
  omega

omit E in
theorem cur_at (j : Fin 128) : (bt t).val * 4096 + ((nt t).val * 128 + j.val) = t.val * 128 + j.val := by
  show t.val / 32 * 4096 + (t.val % 32 * 128 + j.val) = _
  omega

omit E in
theorem prev_at (j : Fin 128) :
    (bt t).val * 4096 + (((nt t).val - 1) * 128 + j.val) = (t.val / 32 * 32 + (t.val % 32 - 1)) * 128 + j.val := by
  show t.val / 32 * 4096 + ((t.val % 32 - 1) * 128 + j.val) = _
  omega

/-- The blocks loaded for key/value head 0. -/
theorem loaded0 : Loaded D (bt t) (nt t) 0
    (View.ld (X0_0 m c t) (Rect.unit ![0, 0, 0] ![4, 128, 64] inb_S8x128x64_S4x128x64_0_0_0))
    (View.ld (iblk m c 1 t) (Rect.unit ![0, 0, 0] ![1, 128, 64] inb_S2x128x64_S1x128x64_0_0_0))
    (View.ld (iblk m c 2 t) (Rect.unit ![0, 0, 0] ![1, 128, 64] inb_S2x128x64_S1x128x64_0_0_0))
    (View.ld (iblk m c 3 t) (Rect.unit ![0, 0, 0] ![1, 128, 64] inb_S2x128x64_S1x128x64_0_0_0))
    (View.ld (iblk m c 4 t) (Rect.unit ![0, 0, 0] ![1, 128, 64] inb_S2x128x64_S1x128x64_0_0_0))
    (View.ld (iblk m c 5 t) (Rect.unit ![0, 0, 0] ![4, 128, 64] inb_S8x128x64_S4x128x64_0_0_0))
    (View.ld (iblk m c 6 t) (Rect.unit ![0, 0, 0] ![4, 128, 64] inb_S8x128x64_S4x128x64_0_0_0))
    (View.ld (iblk m c 7 t) (Rect.unit ![0, 0, 0] ![4, 128, 1] inb_S8x128x1_S4x128x1_0_0_0)) where
  q g i d := by
    have hh : (⟨0 + g, by omega⟩ : Fin 8) = hd 0 g := Fin.ext (by simp [hd])
    rw [← E.q (bt t) (tok (nt t) i) (hd 0 g) d]
    refine (ld4_at _ 0 _ g i d ⟨0 + g, by omega⟩ rfl).trans ?_
    rw [hh]
    exact x0_at m c t _ i d _ _ rfl (tok_at t i)
  kp j d := (ld1_at _ 0 _ j d 0 rfl).trans ((x1_at m c t _ j d _ _ rfl (prev_at t j)).trans (E.k (bt t) ⟨((nt t).val - 1) * 128 + j, by have := (nt t).isLt; omega⟩ 0 d))
  kc j d := (ld1_at _ 0 _ j d 0 rfl).trans ((x2_at m c t _ j d _ _ rfl (cur_at t j)).trans (E.k (bt t) ⟨(nt t).val * 128 + j, by have := (nt t).isLt; omega⟩ 0 d))
  vp j d := (ld1_at _ 0 _ j d 0 rfl).trans ((x3_at m c t _ j d _ _ rfl (prev_at t j)).trans (E.v (bt t) ⟨((nt t).val - 1) * 128 + j, by have := (nt t).isLt; omega⟩ 0 d))
  vc j d := (ld1_at _ 0 _ j d 0 rfl).trans ((x4_at m c t _ j d _ _ rfl (cur_at t j)).trans (E.v (bt t) ⟨(nt t).val * 128 + j, by have := (nt t).isLt; omega⟩ 0 d))
  o g i d := by
    have hh : (⟨0 + g, by omega⟩ : Fin 8) = hd 0 g := Fin.ext (by simp [hd])
    rw [← E.o (bt t) (nt t) 0 g i d]
    refine (ld4_at _ 0 _ g i d ⟨0 + g, by omega⟩ rfl).trans ?_
    rw [hh]
    exact x5_at m c t _ i d _ (row_at t i)
  c g i d := by
    have hh : (⟨0 + g, by omega⟩ : Fin 8) = hd 0 g := Fin.ext (by simp [hd])
    rw [← E.ct (bt t) (nt t) 0 g i d]
    refine (ld4_at _ 0 _ g i d ⟨0 + g, by omega⟩ rfl).trans ?_
    rw [hh]
    exact x6_at m c t _ i d _ (row_at t i)
  l g i := by
    have hh : (⟨0 + g, by omega⟩ : Fin 8) = hd 0 g := Fin.ext (by simp [hd])
    rw [← E.l (bt t) (nt t) 0 g i]
    refine (ld4_at _ 0 _ g i 0 ⟨0 + g, by omega⟩ rfl).trans ?_
    rw [hh]
    exact x7_at m c t _ i 0 _ (row_at t i)

/-- The blocks loaded for key/value head 1. -/
theorem loaded1 : Loaded D (bt t) (nt t) 1
    (View.ld (X0_0 m c t) (Rect.unit ![4, 0, 0] ![4, 128, 64] inb_S8x128x64_S4x128x64_4_0_0))
    (View.ld (iblk m c 1 t) (Rect.unit ![1, 0, 0] ![1, 128, 64] inb_S2x128x64_S1x128x64_1_0_0))
    (View.ld (iblk m c 2 t) (Rect.unit ![1, 0, 0] ![1, 128, 64] inb_S2x128x64_S1x128x64_1_0_0))
    (View.ld (iblk m c 3 t) (Rect.unit ![1, 0, 0] ![1, 128, 64] inb_S2x128x64_S1x128x64_1_0_0))
    (View.ld (iblk m c 4 t) (Rect.unit ![1, 0, 0] ![1, 128, 64] inb_S2x128x64_S1x128x64_1_0_0))
    (View.ld (iblk m c 5 t) (Rect.unit ![4, 0, 0] ![4, 128, 64] inb_S8x128x64_S4x128x64_4_0_0))
    (View.ld (iblk m c 6 t) (Rect.unit ![4, 0, 0] ![4, 128, 64] inb_S8x128x64_S4x128x64_4_0_0))
    (View.ld (iblk m c 7 t) (Rect.unit ![4, 0, 0] ![4, 128, 1] inb_S8x128x1_S4x128x1_4_0_0)) where
  q g i d := by
    have hh : (⟨4 + g, by omega⟩ : Fin 8) = hd 1 g := Fin.ext (by simp [hd])
    rw [← E.q (bt t) (tok (nt t) i) (hd 1 g) d]
    refine (ld4_at _ 4 _ g i d ⟨4 + g, by omega⟩ rfl).trans ?_
    rw [hh]
    exact x0_at m c t _ i d _ _ rfl (tok_at t i)
  kp j d := (ld1_at _ 1 _ j d 1 rfl).trans ((x1_at m c t _ j d _ _ rfl (prev_at t j)).trans (E.k (bt t) ⟨((nt t).val - 1) * 128 + j, by have := (nt t).isLt; omega⟩ 1 d))
  kc j d := (ld1_at _ 1 _ j d 1 rfl).trans ((x2_at m c t _ j d _ _ rfl (cur_at t j)).trans (E.k (bt t) ⟨(nt t).val * 128 + j, by have := (nt t).isLt; omega⟩ 1 d))
  vp j d := (ld1_at _ 1 _ j d 1 rfl).trans ((x3_at m c t _ j d _ _ rfl (prev_at t j)).trans (E.v (bt t) ⟨((nt t).val - 1) * 128 + j, by have := (nt t).isLt; omega⟩ 1 d))
  vc j d := (ld1_at _ 1 _ j d 1 rfl).trans ((x4_at m c t _ j d _ _ rfl (cur_at t j)).trans (E.v (bt t) ⟨(nt t).val * 128 + j, by have := (nt t).isLt; omega⟩ 1 d))
  o g i d := by
    have hh : (⟨4 + g, by omega⟩ : Fin 8) = hd 1 g := Fin.ext (by simp [hd])
    rw [← E.o (bt t) (nt t) 1 g i d]
    refine (ld4_at _ 4 _ g i d ⟨4 + g, by omega⟩ rfl).trans ?_
    rw [hh]
    exact x5_at m c t _ i d _ (row_at t i)
  c g i d := by
    have hh : (⟨4 + g, by omega⟩ : Fin 8) = hd 1 g := Fin.ext (by simp [hd])
    rw [← E.ct (bt t) (nt t) 1 g i d]
    refine (ld4_at _ 4 _ g i d ⟨4 + g, by omega⟩ rfl).trans ?_
    rw [hh]
    exact x6_at m c t _ i d _ (row_at t i)
  l g i := by
    have hh : (⟨4 + g, by omega⟩ : Fin 8) = hd 1 g := Fin.ext (by simp [hd])
    rw [← E.l (bt t) (nt t) 1 g i]
    refine (ld4_at _ 4 _ g i 0 ⟨4 + g, by omega⟩ rfl).trans ?_
    rw [hh]
    exact x7_at m c t _ i 0 _ (row_at t i)

end Cert.KernelIdeal.Tiles
end
-- ==== Proof.AttnEntry.lean ====
module
public import Idealize.ShloMosaic.Lib.Pipeline.ValueKit
public import Idealize.ShloMosaic.Lib.StableHlo.RunRead
public import proofs.«01_k».proof.Proof.AttnTiles
public import proofs.«01_k».proof.Proof.Gen.ReferenceIdeal.Read

@[expose] public section
set_option maxRecDepth 16384
noncomputable section

/-! The arrays that the host code prepares for the kernel, as expressions of the arguments. -/

namespace Cert.KernelIdeal.Entry
open Idealize Idealize.ShloMosaic Idealize.ShloMosaic.TcCoe Idealize.SL.Sem Cert.KernelIdeal Cert.KernelIdeal.Gen Cert.Attn

/-- Queries, keys and values, heads first. -/
def qkvArr (x0 : FVec Ideal S2x4096x8x64 .f32) (x1 x2 : FVec Ideal S2x4096x2x64 .f32) : FVec Ideal S12x8192x64 .bf16 :=
  transpose S12x8192x64 [1, 0, 2] (shapeCast S8192x12x64 (truncf .bf16 (concatenate S8192x768 1
    [⟨S8192x512, shapeCast S8192x512 x0 shapeCasts_S2x4096x8x64_S8192x512⟩,
      ⟨S8192x128, shapeCast S8192x128 x1 shapeCasts_S2x4096x2x64_S8192x128⟩,
      ⟨S8192x128, shapeCast S8192x128 x2 shapeCasts_S2x4096x2x64_S8192x128⟩] concatenates_S8192x512_S8192x128_S8192x128_S8192x768_d1) bitsLt_bf16_f32)
    shapeCasts_S8192x768_S8192x12x64) transposes_S8192x12x64_S12x8192x64_1_0_2

/-- Rows of eight heads, heads first. -/
def heads (z : FVec Ideal S8192x512 .f32) : FVec Ideal S8x8192x64 .bf16 :=
  transpose S8x8192x64 [1, 0, 2] (shapeCast S8192x8x64 (truncf .bf16 z bitsLt_bf16_f32) shapeCasts_S8192x512_S8192x8x64)
    transposes_S8192x8x64_S8x8192x64_1_0_2

/-- A column per row and head, heads first. -/
def cols (z : FVec Ideal S2x32x2x4x128x1 .f32) : FVec Ideal S8x8192x1 .f32 :=
  shapeCast S8x8192x1 (transpose S2x4x2x32x128x1 [2, 3, 0, 1, 4, 5] z transposes_S2x32x2x4x128x1_S2x4x2x32x128x1_2_3_0_1_4_5)
    shapeCasts_S2x4x2x32x128x1_S8x8192x1

section Read
variable (m : (ℓ : Loc nD τ sig) → Buf (Elt Ideal) ℓ) (c : Dev nD)

theorem sinks_eq : (V m c main_v81 : FVec Ideal S8x1x1 .f32) = shapeCast S8x1x1 (m (c, main_arg3) : FVec Ideal S8 .f32) shapeCasts_S8_S8x1x1 := by
  unfold V
  after_reads_simp
  rfl

theorem grads_eq : (V m c main_v80 : FVec Ideal S8x8192x64 .bf16)
    = heads (shapeCast S8192x512 (m (c, main_arg4) : FVec Ideal S2x4096x512 .f32) shapeCasts_S2x4096x512_S8192x512) := by
  unfold V
  after_reads_simp
  rfl

theorem qkv_eq : (V m c main_v73 : FVec Ideal S12x8192x64 .bf16) = qkvArr (m (c, main_arg0)) (m (c, main_arg1)) (m (c, main_arg2)) := by
  unfold V
  after_reads_simp
  rfl

theorem out_eq : (V m c main_v76 : FVec Ideal S8x8192x64 .bf16)
    = heads (shapeCast S8192x512 (ReferenceIdeal.Read.val_main_v87 (F := Ideal) (m (c, main_arg0)) (m (c, main_arg1)) (m (c, main_arg2)) (m (c, main_arg3)))
        shapeCasts_S2x32x128x2x4x64_S8192x512) := by
  unfold V
  after_reads_simp
  rfl

theorem lse_eq : (V m c main_v66 : FVec Ideal S8x8192x1 .f32)
    = cols (addf (ReferenceIdeal.Read.val_main_v53 (F := Ideal) (m (c, main_arg0)) (m (c, main_arg1)) (m (c, main_arg3)))
        (Host.log (ReferenceIdeal.Read.val_main_v80 (F := Ideal) (m (c, main_arg0)) (m (c, main_arg1)) (m (c, main_arg3))))) := by
  unfold V
  after_reads_simp
  rfl
end Read

end Cert.KernelIdeal.Entry
end
-- ==== Proof.AttnLayout.lean ====
module
public import Idealize.ShloMosaic.Lib.Pipeline.ValueKit
public import proofs.«01_k».proof.Proof.AttnEntry

@[expose] public section
set_option maxRecDepth 16384
noncomputable section

/-! The arrays that the host code prepares for the kernel, at an index. -/

namespace Cert.KernelIdeal.Entry
open Idealize Idealize.ShloMosaic Idealize.ShloMosaic.TcCoe Idealize.SL.Sem Cert.KernelIdeal Cert.KernelIdeal.Gen Cert.Attn

section Points
variable (x0 : FVec Ideal S2x4096x8x64 .f32) (x1 x2 : FVec Ideal S2x4096x2x64 .f32)

/-- The attention's result, heads first. -/
theorem heads_out_at (z : FVec Ideal S2x32x128x2x4x64 .f32) (b : Fin 2) (n : Fin 32) (a : Fin 2) (g : Fin 4) (i : Fin 128) (d : Fin 64) :
    heads (shapeCast S8192x512 z shapeCasts_S2x32x128x2x4x64_S8192x512) (ix3 (hd a g) (Tiles.row b n i) d) = z (ix6 b n i a g d) := by
  delta heads
  pointwise []
  congr 1
  congr 1 <;> (apply Fin.ext; simp only [Tiles.row, hd]; omega)

/-- The cotangent, heads first. -/
theorem heads_ct_at (z : FVec Ideal S2x4096x512 .f32) (b : Fin 2) (n : Fin 32) (a : Fin 2) (g : Fin 4) (i : Fin 128) (d : Fin 64) :
    heads (shapeCast S8192x512 z shapeCasts_S2x4096x512_S8192x512) (ix3 (hd a g) (Tiles.row b n i) d) = z (ix3 b (tok n i) (col a g d)) := by
  delta heads
  pointwise []
  congr 1
  congr 1 <;> (apply Fin.ext; simp only [Tiles.row, hd, tok, col]; try omega)

/-- A number per row, heads first. -/
theorem cols_at (z : FVec Ideal S2x32x2x4x128x1 .f32) (b : Fin 2) (n : Fin 32) (a : Fin 2) (g : Fin 4) (i : Fin 128) :
    cols z (ix3 (hd a g) (Tiles.row b n i) 0) = z (ix6 b n a g i 0) := by
  delta cols
  pointwise []
  congr 1
  congr 1 <;> (apply Fin.ext; simp only [Tiles.row, hd]; omega)

/-- The sinks, one to a head. -/
theorem sink_at (z : FVec Ideal S8 .f32) (h : Fin 8) : shapeCast S8x1x1 z shapeCasts_S8_S8x1x1 (ix3 h 0 0) = z (ix1 h) := by
  pointwise []

/-- The first eight heads are the queries. -/
theorem q_at (b : Fin 2) (t : Fin 4096) (h : Fin 8) (d : Fin 64) :
    qkvArr x0 x1 x2 (ix3 ⟨h, by omega⟩ ⟨b * 4096 + t, by omega⟩ d) = x0 (ix4 b t h d) := by
  delta qkvArr
  pointwise []
  rw [dif_pos (by omega)]

/-- The next two are the keys. -/
theorem k_at (b : Fin 2) (t : Fin 4096) (a : Fin 2) (d : Fin 64) :
    qkvArr x0 x1 x2 (ix3 ⟨8 + a, by omega⟩ ⟨b * 4096 + t, by omega⟩ d) = x1 (ix4 b t a d) := by
  delta qkvArr
  pointwise []
  rw [dif_neg (by omega), dif_pos (by omega)]
  congr 1
  congr 1 <;> (apply Fin.ext; simp only []; omega)

/-- The last two are the values. -/
theorem v_at (b : Fin 2) (t : Fin 4096) (a : Fin 2) (d : Fin 64) :
    qkvArr x0 x1 x2 (ix3 ⟨10 + a, by omega⟩ ⟨b * 4096 + t, by omega⟩ d) = x2 (ix4 b t a d) := by
  delta qkvArr
  pointwise []
  rw [dif_neg (by omega), dif_neg (by omega)]
  congr 1
  congr 1 <;> (apply Fin.ext; simp only []; omega)
end Points
end Cert.KernelIdeal.Entry
end
-- ==== Proof.AttnForward.lean ====
module
public import Idealize.ShloMosaic.Lib.Pipeline.ValueKit
public import proofs.«01_k».proof.Proof.AttnBlock
public import proofs.«01_k».proof.Proof.Gen.ReferenceIdeal.Read

@[expose] public section
set_option maxRecDepth 16384
noncomputable section

/-! The reference's forward half: bands, mask, scores, the row's largest logit, weights and result, as the real numbers of
`Cert.Attn.Data`. -/

namespace Cert.ReferenceIdeal.Stage
open Idealize Idealize.ShloMosaic Idealize.ShloMosaic.TcCoe Idealize.SL.Sem Cert.ReferenceIdeal Cert.ReferenceIdeal.Read Cert.Attn
open Cert.KernelIdeal.Block (select_of_iff andi_eq_one ori_eq_one sge_eq_one slt_eq_one sgt_eq_one dist_toInt ofNat_toInt eighth_f32)

/-- The five arguments hold the real numbers of `D`. -/
structure Holds (D : Data) (x0 : FVec Ideal S2x4096x8x64 .f32) (x1 x2 : FVec Ideal S2x4096x2x64 .f32) (x3 : FVec Ideal S8 .f32)
    (x4 : FVec Ideal S2x4096x512 .f32) : Prop where
  q : ∀ (b : Fin 2) (t : Fin 4096) (h : Fin 8) (d : Fin 64), x0 (ix4 b t h d) = ((D.q b t h d : ℝ) : EReal)
  k : ∀ (b : Fin 2) (t : Fin 4096) (a : Fin 2) (d : Fin 64), x1 (ix4 b t a d) = ((D.k b t a d : ℝ) : EReal)
  v : ∀ (b : Fin 2) (t : Fin 4096) (a : Fin 2) (d : Fin 64), x2 (ix4 b t a d) = ((D.v b t a d : ℝ) : EReal)
  s : ∀ h : Fin 8, x3 (ix1 h) = ((D.s h : ℝ) : EReal)
  c : ∀ (b : Fin 2) (t : Fin 4096) (e : Fin 512), x4 (ix3 b t e) = ((D.c b t e : ℝ) : EReal)

theorem zero_f32 : Ideal.ofBits .f32 0x00000000#32 = 0 := by simp [Ideal.ofBits, Ideal.ieee]
theorem one_f32 : Ideal.ofBits .f32 0x3F800000#32 = ((1 : ℝ) : EReal) := by simp [Ideal.ofBits, Ideal.ieee, -EReal.coe_mul]; norm_num
theorem bot_f32 : Ideal.ofBits .f32 0xFF800000#32 = ⊥ := by simp [Ideal.ofBits, Ideal.ieee]

/-- Two indices with six equal coordinates are one. -/
theorem six {n0 n1 n2 n3 n4 n5 : ℕ} (x y : Shape.Idx ⟨6, ![n0, n1, n2, n3, n4, n5]⟩) (h0 : x 0 = y 0) (h1 : x 1 = y 1) (h2 : x 2 = y 2)
    (h3 : x 3 = y 3) (h4 : x 4 = y 4) (h5 : x 5 = y 5) : x = y := by
  funext c
  match c with | ⟨0, _⟩ => exact h0 | ⟨1, _⟩ => exact h1 | ⟨2, _⟩ => exact h2 | ⟨3, _⟩ => exact h3 | ⟨4, _⟩ => exact h4 | ⟨5, _⟩ => exact h5

/-- A number plus the logarithm of a positive number. -/
theorem log_add (u w : FVec Ideal S2x32x2x4x128x1 .f32) (p : S2x32x2x4x128x1.Idx) {r z : ℝ} (hu : u p = ((r : ℝ) : EReal))
    (hw : w p = ((z : ℝ) : EReal)) (hz : 0 < z) : (addf u (Host.log w) : FVec Ideal S2x32x2x4x128x1 .f32) p
      = ((r + Real.log z : ℝ) : EReal) := by
  have h : Ideal.log ((z : ℝ) : EReal) = ((Real.log z : ℝ) : EReal) := if_neg (not_le.mpr hz)
  show u p + Ideal.log (w p) = _
  rw [hu, hw, h, EReal.coe_add]

/-- A fold of maxima over an index set is its start or is attained. -/
theorem fold_max_mem {ι : Type} (s : Finset ι) (f : ι → EReal) :
    s.fold max ⊥ f = ⊥ ∨ ∃ k ∈ s, s.fold max ⊥ f = f k := by
  classical
  induction s using Finset.induction_on with
  | empty => exact Or.inl rfl
  | insert x s hx ih =>
    rw [Finset.fold_insert hx]
    rcases max_choice (f x) (s.fold max ⊥ f) with h | h
    · exact Or.inr ⟨x, Finset.mem_insert_self _ _, h⟩
    · rw [h]
      rcases ih with h0 | ⟨k, hk, e⟩
      · exact Or.inl h0
      · exact Or.inr ⟨k, Finset.mem_insert_of_mem hk, e⟩

section
variable {D : Data} {x0 : FVec Ideal S2x4096x8x64 .f32} {x1 x2 : FVec Ideal S2x4096x2x64 .f32} {x3 : FVec Ideal S8 .f32}
  {x4 : FVec Ideal S2x4096x512 .f32} (H : Holds D x0 x1 x2 x3 x4)
variable (b : Fin 2) (n : Fin 32) (a : Fin 2) (g : Fin 4) (i : Fin 128) (j : Fin 256) (d : Fin 64)
include H

theorem query_at : val_main_v0 (F := Ideal) x0 (ix6 b n i a g d) = ((D.q b (tok n i) (hd a g) d : ℝ) : EReal) := by
  delta val_main_v0
  pointwise []
  exact H.q b (tok n i) (hd a g) d

theorem grad_at : val_main_v88 (F := Ideal) x4 (ix6 b n i a g d) = ((D.c b (tok n i) (col a g d) : ℝ) : EReal) := by
  delta val_main_v88
  pointwise []
  rw [← H.c b (tok n i) (col a g d)]
  congr 1
  congr 1
  apply Fin.ext; simp only [col]; omega

/-- The keys that block `n` reads: those of the block before and its own. -/
theorem keys_at : val_main_v4 (F := Ideal) x1 (ix5 b n j a d) = ((band D.k b n a j d : ℝ) : EReal) := by
  delta val_main_v4 val_main_v3 val_main_v2 val_main_v1
  pointwise []
  unfold band
  split
  · rename_i h
    split
    · rename_i h1
      have h2 : ¬ ((n : ℕ) = 0 ∧ (j : ℕ) < 128) := by omega
      rw [if_neg h2, H.k]
      exact congrArg (fun t => ((D.k b t a d : ℝ) : EReal)) (Fin.ext (by simp only; omega))
    · have h2 : (n : ℕ) = 0 ∧ (j : ℕ) < 128 := by omega
      rw [if_pos h2]
      exact zero_f32
  · rename_i h
    have h2 : ¬ ((n : ℕ) = 0 ∧ (j : ℕ) < 128) := by omega
    rw [if_neg h2, H.k]
    exact congrArg (fun t => ((D.k b t a d : ℝ) : EReal)) (Fin.ext (by simp only; omega))

/-- The values that block `n` reads. -/
theorem values_at : val_main_v8 (F := Ideal) x2 (ix5 b n j a d) = ((band D.v b n a j d : ℝ) : EReal) := by
  delta val_main_v8 val_main_v7 val_main_v6 val_main_v5
  pointwise []
  unfold band
  split
  · rename_i h
    split
    · rename_i h1
      have h2 : ¬ ((n : ℕ) = 0 ∧ (j : ℕ) < 128) := by omega
      rw [if_neg h2, H.v]
      exact congrArg (fun t => ((D.v b t a d : ℝ) : EReal)) (Fin.ext (by simp only; omega))
    · have h2 : (n : ℕ) = 0 ∧ (j : ℕ) < 128 := by omega
      rw [if_pos h2]
      exact zero_f32
  · rename_i h
    have h2 : ¬ ((n : ℕ) = 0 ∧ (j : ℕ) < 128) := by omega
    rw [if_neg h2, H.v]
    exact congrArg (fun t => ((D.v b t a d : ℝ) : EReal)) (Fin.ext (by simp only; omega))

/-- The scaled scores. -/
theorem score_at : val_main_v12 (F := Ideal) x0 x1 (ix6 b n a g i j) = ((D.S b n a g i j : ℝ) : EReal) := by
  have h9 : val_main_v9 (F := Ideal) x0 x1 (ix6 b n a j i g)
      = ((∑ d : Fin 64, band D.k b n a j d * D.q b (tok n i) (hd a g) d : ℝ) : EReal) := by
    delta val_main_v9
    pointwise []
    rw [coe_sum]
    refine Finset.sum_congr rfl fun d _ => ?_
    rw [keys_at H, query_at H, ← EReal.coe_mul]
  delta val_main_v12 val_main_v11 val_main_v10
  pointwise []
  rw [h9]
  exact (congrArg (fun u : EReal => _ * u) eighth_f32).trans (EReal.coe_mul _ _).symm

omit H in
/-- The mask's bit says whether the key is visible. -/
theorem mask_at : val_main_v42_1 (F := Ideal) (ix6 b n a g i j) = 1#1 ↔ ok n i j := by
  delta val_main_v42_1 val_main_v41 val_main_v40 val_main_v39 val_main_v38 val_main_v37 val_main_v36 val_main_v35 val_main_v34
    val_main_v33 val_main_v32 val_main_v31 val_main_v30 val_main_v29 val_main_v28 val_main_v27 val_main_v26 val_main_v25
    val_main_v24 val_main_v23 val_main_v22 val_main_v21 val_main_v20 val_main_v19 val_main_v18 val_main_v17 val_main_v16
    val_main_v15 val_main_v14 val_main_v13
  pointwise []
  change IntOp.andi (IntOp.andi (IntOp.cmpi CmpIPredicate.sge _ 0#32) (IntOp.cmpi CmpIPredicate.slt _ 128#32))
    (IntOp.ori (IntOp.cmpi CmpIPredicate.sgt _ 0#32) (IntOp.cmpi CmpIPredicate.sge _ 128#32)) = 1#1 ↔ _
  rw [andi_eq_one, andi_eq_one, ori_eq_one, sge_eq_one, slt_eq_one, sgt_eq_one, sge_eq_one]
  have h := dist_toInt i j i.isLt j.isLt
  change (IntOp.subi (IntOp.addi (BitVec.ofNat 32 ↑i) (val_main_c (F := Ideal) ix0)) (BitVec.ofNat 32 ↑j)).toInt = _ at h
  rw [h, ofNat_toInt n (by omega), ofNat_toInt j j.isLt]
  show ((0 : ℤ) ≤ _ ∧ _ < (128 : ℤ)) ∧ ((0 : ℤ) < _ ∨ (128 : ℤ) ≤ _) ↔ _
  unfold ok
  omega

/-- The masked scores: −∞ where the key is not visible. -/
theorem masked_at : val_main_v42_0 (F := Ideal) x0 x1 (ix6 b n a g i j)
    = if ok n i j then ((D.S b n a g i j : ℝ) : EReal) else ⊥ := by
  rw [val_main_v42_0_apply, select_of_iff _ _ (mask_at b n a g i j), score_at H]
  have h : val_main_call0_v2 (F := Ideal) (ix6 b n a g i j) = ⊥ := by
    delta val_main_call0_v2 val_main_call0_v0
    pointwise []
    exact bot_f32
  rw [h]

theorem sink_at : val_main_v44 (F := Ideal) x3 (ix6 0 0 a g 0 0) = ((D.s (hd a g) : ℝ) : EReal) := by
  delta val_main_v44 val_main_v43
  pointwise []
  exact H.s (hd a g)

/-- The row's largest score is a real number, and it is one of the scores. -/
theorem top_at : ∃ r : ℝ, val_main_v45 (F := Ideal) x0 x1 (ix5 b n a g i) = ((r : ℝ) : EReal)
    ∧ ∃ j : Fin 256, val_main_v42_0 (F := Ideal) x0 x1 (ix6 b n a g i j) = ((r : ℝ) : EReal) := by
  have e : val_main_v45 (F := Ideal) x0 x1 (ix5 b n a g i)
      = (Finset.univ : Finset (Fin 256)).fold max ⊥ fun j => val_main_v42_0 (F := Ideal) x0 x1 (ix6 b n a g i j) := by
    delta val_main_v45
    pointwise []
    rw [Shape.ReducesTo.drop_eq_drop _ (by decide : S2x32x2x4x128x256.Reduces [5] S2x32x2x4x128), Shape.Reduces.fold_filter_drop_single]
    rw [show val_main_cst_7 (F := Ideal) (Shape.Idx.first Gen.h_S_) = ⊥ from bot_f32]
    refine Finset.fold_congr fun j _ => ?_
    exact congrArg (val_main_v42_0 (F := Ideal) x0 x1) (funext fun c => Fin.ext (by
      match c with | ⟨0, _⟩ => rfl | ⟨1, _⟩ => rfl | ⟨2, _⟩ => rfl | ⟨3, _⟩ => rfl | ⟨4, _⟩ => rfl | ⟨5, _⟩ => rfl))
  obtain ⟨r, hr⟩ := fold_max_real (fun j => val_main_v42_0 (F := Ideal) x0 x1 (ix6 b n a g i j))
    (fun j => by rw [masked_at H]; split <;> simp) ⟨i + 128, by omega⟩
    (by rw [masked_at H, if_pos (by unfold ok; simp only; omega)]; simp)
  refine ⟨r, e.trans hr, ?_⟩
  rcases fold_max_mem Finset.univ (fun j => val_main_v42_0 (F := Ideal) x0 x1 (ix6 b n a g i j)) with h | ⟨j, _, h⟩
  · rw [hr] at h; exact absurd h (EReal.coe_ne_bot r)
  · exact ⟨j, h.symm.trans hr⟩
end

/-- The row's largest logit, the sink included. -/
def mx (x0 : FVec Ideal S2x4096x8x64 .f32) (x1 : FVec Ideal S2x4096x2x64 .f32) (x3 : FVec Ideal S8 .f32)
    (b : Fin 2) (n : Fin 32) (a : Fin 2) (g : Fin 4) (i : Fin 128) : ℝ :=
  (val_main_v53 (F := Ideal) x0 x1 x3 (ix6 b n a g i 0)).toReal

section
variable {D : Data} {x0 : FVec Ideal S2x4096x8x64 .f32} {x1 x2 : FVec Ideal S2x4096x2x64 .f32} {x3 : FVec Ideal S8 .f32}
  {x4 : FVec Ideal S2x4096x512 .f32} (H : Holds D x0 x1 x2 x3 x4)
variable (b : Fin 2) (n : Fin 32) (a : Fin 2) (g : Fin 4) (i : Fin 128) (j : Fin 256) (d : Fin 64)
include H

theorem max_at : val_main_v53 (F := Ideal) x0 x1 x3 (ix6 b n a g i 0) = ((mx x0 x1 x3 b n a g i : ℝ) : EReal) := by
  obtain ⟨r, hr, _⟩ := top_at H b n a g i
  have h : val_main_v53 (F := Ideal) x0 x1 x3 (ix6 b n a g i 0) = ((max r (D.s (hd a g)) : ℝ) : EReal) := by
    have h51 : val_main_v51 (F := Ideal) x0 x1 (ix6 b n a g i 0) = ((r : ℝ) : EReal) := by
      delta val_main_v51
      pointwise []
      exact hr
    have h52 : val_main_v52 (F := Ideal) x3 (ix6 b n a g i 0) = ((D.s (hd a g) : ℝ) : EReal) := by
      delta val_main_v52
      pointwise []
      exact sink_at H a g
    rw [val_main_v53_apply, h51, h52]
    exact (EReal.coe_strictMono.monotone.map_max).symm
  unfold mx
  rw [h, EReal.toReal_coe]

/-- A key's exponential, shifted by the row's largest logit. -/
theorem exp_at : val_main_v74 (F := Ideal) x0 x1 x3 (ix6 b n a g i j)
    = (((if ok n i j then Real.exp (D.S b n a g i j - mx x0 x1 x3 b n a g i) else 0) : ℝ) : EReal) := by
  delta val_main_v74 val_main_v73 val_main_v72
  pointwise []
  rw [max_at H, masked_at H]
  generalize mx x0 x1 x3 b n a g i = r
  split
  · rw [← EReal.coe_sub]; rfl
  · exact congrArg Ideal.exp (EReal.bot_sub _)

theorem sinkExp_at : val_main_v79 (F := Ideal) x0 x1 x3 (ix6 b n a g i 0)
    = ((Real.exp (D.s (hd a g) - mx x0 x1 x3 b n a g i) : ℝ) : EReal) := by
  delta val_main_v79 val_main_v78 val_main_v77
  pointwise []
  rw [max_at H, sink_at H, ← EReal.coe_sub]
  generalize mx x0 x1 x3 b n a g i = r
  rfl

/-- The shifted normaliser. -/
theorem denom_at : val_main_v80 (F := Ideal) x0 x1 x3 (ix6 b n a g i 0)
    = ((D.Z b n a g i / Real.exp (mx x0 x1 x3 b n a g i) : ℝ) : EReal) := by
  have h75 : val_main_v75 (F := Ideal) x0 x1 x3 (ix5 b n a g i)
      = ((∑ j : Fin 256, if ok n i j then Real.exp (D.S b n a g i j - mx x0 x1 x3 b n a g i) else 0 : ℝ) : EReal) := by
    rw [val_main_v75_apply, show val_main_cst_15 (F := Ideal) (Shape.Idx.first Gen.h_S_) = 0 from zero_f32, zero_add, coe_sum]
    refine Finset.sum_congr rfl fun j _ => ?_
    rw [show idx_main_v75 (ix5 b n a g i) j = ix6 b n a g i j from six _ _ rfl rfl rfl rfl rfl rfl, exp_at H]
  delta val_main_v80 val_main_v76
  pointwise []
  rw [h75, sinkExp_at H, ← EReal.coe_add, D.Z_shift]

theorem denom_pos : 0 < D.Z b n a g i / Real.exp (mx x0 x1 x3 b n a g i) := div_pos (D.Z_pos b n a g i) (Real.exp_pos _)

/-- The logarithm of the normaliser, as the program saves it. -/
theorem logSum_at : (addf (val_main_v53 (F := Ideal) x0 x1 x3) (Host.log (val_main_v80 (F := Ideal) x0 x1 x3)) :
      FVec Ideal S2x32x2x4x128x1 .f32) (ix6 b n a g i 0)
    = ((D.L b n a g i : ℝ) : EReal) := by
  have hp := denom_pos H b n a g i
  have h1 := max_at H b n a g i
  have h2 := denom_at H b n a g i
  rw [← D.L_shift b n a g i (mx x0 x1 x3 b n a g i)]
  generalize D.Z b n a g i / Real.exp (mx x0 x1 x3 b n a g i) = z at hp h2 ⊢
  generalize mx x0 x1 x3 b n a g i = r at h1 ⊢
  generalize val_main_v53 (F := Ideal) x0 x1 x3 = u at h1 ⊢
  generalize val_main_v80 (F := Ideal) x0 x1 x3 = w at h2 ⊢
  exact log_add u w _ h1 h2 hp

/-- The weights. -/
theorem weight_at : val_main_v82 (F := Ideal) x0 x1 x3 (ix6 b n a g i j) = ((D.P b n a g i j : ℝ) : EReal) := by
  delta val_main_v82 val_main_v81
  pointwise []
  have hp := denom_pos H b n a g i
  rw [exp_at H, denom_at H, ← D.P_shift b n a g i (mx x0 x1 x3 b n a g i) j]
  generalize D.Z b n a g i / Real.exp (mx x0 x1 x3 b n a g i) = z at hp ⊢
  generalize (if ok n i j then Real.exp (D.S b n a g i j - mx x0 x1 x3 b n a g i) else 0) = e
  refine (Ideal.div_coe hp.ne' _).trans ?_
  rw [← EReal.coe_mul, mul_one_div]

/-- The attention's result. -/
theorem out_at : val_main_v87 (F := Ideal) x0 x1 x2 x3 (ix6 b n i a g d) = ((D.O b n a g i d : ℝ) : EReal) := by
  delta val_main_v87 val_main_v86
  pointwise []
  unfold Data.O
  rw [coe_sum]
  refine Finset.sum_congr rfl fun j _ => ?_
  rw [values_at H, weight_at H, ← EReal.coe_mul]
end
end Cert.ReferenceIdeal.Stage
end
-- ==== Proof.AttnGiven.lean ====
module
public import Idealize.ShloMosaic.Lib.Pipeline.ValueKit
public import proofs.«01_k».proof.Proof.AttnLayout
public import proofs.«01_k».proof.Proof.AttnForward

@[expose] public section
set_option maxRecDepth 16384
noncomputable section

/-! What the kernel is given, when the arguments hold real numbers. -/

namespace Cert.KernelIdeal.Entry
open Idealize Idealize.ShloMosaic Idealize.ShloMosaic.TcCoe Idealize.SL.Sem Cert.KernelIdeal Cert.KernelIdeal.Gen Cert.Attn
open Cert.ReferenceIdeal.Stage (Holds)

/-- The host code hands the kernel the numbers of `D`. -/
theorem given (m : (ℓ : Loc nD τ sig) → Buf (Elt Ideal) ℓ) (c : Dev nD) (D : Data)
    (H : Holds D (m (c, main_arg0)) (m (c, main_arg1)) (m (c, main_arg2)) (m (c, main_arg3)) (m (c, main_arg4))) :
    Tiles.Entry m c D where
  q b t h d := by rw [qkv_eq, q_at]; exact H.q b t h d
  k b t a d := by rw [qkv_eq, k_at]; exact H.k b t a d
  v b t a d := by rw [qkv_eq, v_at]; exact H.v b t a d
  o b n a g i d := by rw [out_eq, heads_out_at]; exact ReferenceIdeal.Stage.out_at H b n a g i d
  ct b n a g i d := by rw [grads_eq, heads_ct_at]; exact H.c b (tok n i) (col a g d)
  l b n a g i := by rw [lse_eq, cols_at]; exact ReferenceIdeal.Stage.logSum_at H b n a g i
  s h := by rw [sinks_eq, sink_at]; exact H.s h
end Cert.KernelIdeal.Entry
end
-- ==== Proof.AttnBackward.lean ====
module
public import Idealize.ShloMosaic.Lib.Pipeline.ValueKit
public import Idealize.ShloMosaic.Lib.TwoAxisContraction
public import proofs.«01_k».proof.Proof.AttnForward

@[expose] public section
set_option maxRecDepth 16384
noncomputable section

/-! The reference's backward half, row by row: the transposed forward computation ends in the gradients of
`Cert.Attn.Data`. The terms that pass through the row's largest logit cancel. -/

namespace Cert.ReferenceIdeal.Stage
open Idealize Idealize.ShloMosaic Idealize.ShloMosaic.TcCoe Idealize.SL.Sem Cert.ReferenceIdeal Cert.ReferenceIdeal.Read Cert.Attn
open Cert.KernelIdeal.Block (select_of_iff eighth_f32)

section
variable {D : Data} {x0 : FVec Ideal S2x4096x8x64 .f32} {x1 x2 : FVec Ideal S2x4096x2x64 .f32} {x3 : FVec Ideal S8 .f32}
  {x4 : FVec Ideal S2x4096x512 .f32} (H : Holds D x0 x1 x2 x3 x4)
variable (b : Fin 2) (n : Fin 32) (a : Fin 2) (g : Fin 4) (i : Fin 128) (j : Fin 256) (d : Fin 64)
include H

/-- The cotangent, with the contracted axis before the rows. -/
theorem cotangent_at : val_main_v89 (F := Ideal) x4 (ix6 b n a d g i) = ((D.c b (tok n i) (col a g d) : ℝ) : EReal) := by
  delta val_main_v89
  pointwise []
  exact grad_at H b n a g i d

/-- The gradient of a weight. -/
theorem dP_at : val_main_v90 (F := Ideal) x2 x4 (ix6 b n a g i j) = ((D.dP b n a g i j : ℝ) : EReal) := by
  delta val_main_v90
  pointwise []
  unfold Data.dP
  rw [coe_sum]
  refine Finset.sum_congr rfl fun d _ => ?_
  rw [cotangent_at H, values_at H, ← EReal.coe_mul]

/-- The gradient of the band's values. -/
theorem dv_at : val_main_v92 (F := Ideal) x0 x1 x3 x4 (ix5 b n j a d) = ((D.dv b n a j d : ℝ) : EReal) := by
  delta val_main_v92 val_main_v91
  pointwise []
  unfold Data.dv
  rw [Finset.sum_comm, coe_sum]
  refine Finset.sum_congr rfl fun i _ => ?_
  rw [coe_sum]
  refine Finset.sum_congr rfl fun g _ => ?_
  rw [cotangent_at H, weight_at H, ← EReal.coe_mul]

/-- The reciprocal of the normaliser's square. -/
theorem recip_at : val_main_v85 (F := Ideal) x0 x1 x3 (ix6 b n a g i 0)
    = ((1 / ((D.Z b n a g i / Real.exp (mx x0 x1 x3 b n a g i)) * (D.Z b n a g i / Real.exp (mx x0 x1 x3 b n a g i))) : ℝ) : EReal) := by
  have hp := denom_pos H b n a g i
  have h80 := denom_at H b n a g i
  delta val_main_v85 val_main_v84 val_main_v83
  pointwise []
  rw [h80]
  generalize D.Z b n a g i / Real.exp (mx x0 x1 x3 b n a g i) = z at hp ⊢
  rw [show val_main_cst_16 (F := Ideal) ix0 = ((1 : ℝ) : EReal) from one_f32, ← EReal.coe_mul]
  refine (Ideal.div_coe (mul_pos hp hp).ne' _).trans ?_
  rw [← EReal.coe_mul, one_mul]

/-- The gradient of the normaliser. -/
theorem dDenom_at : val_main_v98 (F := Ideal) x0 x1 x2 x3 x4 (ix6 b n a g i 0)
    = ((-(D.M b n a g i / (D.Z b n a g i / Real.exp (mx x0 x1 x3 b n a g i))) : ℝ) : EReal) := by
  have hp := denom_pos H b n a g i
  have h95 : ∀ j, val_main_v95 (F := Ideal) x0 x1 x2 x3 x4 (ix6 b n a g i j)
      = ((D.dP b n a g i j * D.P b n a g i j / (D.Z b n a g i / Real.exp (mx x0 x1 x3 b n a g i)) : ℝ) : EReal) := fun j => by
    have h85 := recip_at H b n a g i
    have h90 := dP_at H b n a g i j
    have h74 := exp_at H b n a g i j
    have hP := D.P_shift b n a g i (mx x0 x1 x3 b n a g i) j
    delta val_main_v95 val_main_v94 val_main_v93
    pointwise []
    rw [h85, h90, h74, ← hP, ← EReal.coe_mul, ← EReal.coe_mul]
    generalize D.Z b n a g i / Real.exp (mx x0 x1 x3 b n a g i) = z at hp ⊢
    congr 1
    have := hp.ne'
    field_simp
  have h96 : val_main_v96 (F := Ideal) x0 x1 x2 x3 x4 (ix5 b n a g i)
      = ((D.M b n a g i / (D.Z b n a g i / Real.exp (mx x0 x1 x3 b n a g i)) : ℝ) : EReal) := by
    rw [val_main_v96_apply, show val_main_cst_17 (F := Ideal) (Shape.Idx.first Gen.h_S_) = 0 from zero_f32, zero_add, Data.M,
      Finset.sum_div, coe_sum]
    refine Finset.sum_congr rfl fun j _ => ?_
    rw [show idx_main_v96 (ix5 b n a g i) j = ix6 b n a g i j from six _ _ rfl rfl rfl rfl rfl rfl, h95]
  delta val_main_v98 val_main_v97
  pointwise []
  rw [h96]
  exact (EReal.coe_neg _).symm

/-- The gradient of the sink, at one row. -/
theorem dSinkRow_at : val_main_v101 (F := Ideal) x0 x1 x2 x3 x4 (ix6 b n a g i 0)
    = ((-(Real.exp (D.s (hd a g) - D.L b n a g i) * D.M b n a g i) : ℝ) : EReal) := by
  have h98 := dDenom_at H b n a g i
  have h79 := sinkExp_at H b n a g i
  delta val_main_v101
  pointwise []
  rw [h98, h79, ← EReal.coe_mul, D.exp_sub_L, Real.exp_sub]
  have := D.Z_pos b n a g i
  have := Real.exp_pos (mx x0 x1 x3 b n a g i)
  generalize mx x0 x1 x3 b n a g i = r at *
  congr 1
  field_simp

/-- The gradient of a score, before the terms that pass through the maximum. -/
theorem dRaw_at : val_main_v108 (F := Ideal) x0 x1 x2 x3 x4 (ix6 b n a g i j)
    = ((D.P b n a g i j * (D.dP b n a g i j - D.M b n a g i) : ℝ) : EReal) := by
  have hp := denom_pos H b n a g i
  have h98 := dDenom_at H b n a g i
  have h80 := denom_at H b n a g i
  have h90 := dP_at H b n a g i j
  have h74 := exp_at H b n a g i j
  have hP := D.P_shift b n a g i (mx x0 x1 x3 b n a g i) j
  have h100 : val_main_v100 (F := Ideal) x0 x1 x2 x3 x4 (ix6 b n a g i j)
      = ((D.dP b n a g i j / (D.Z b n a g i / Real.exp (mx x0 x1 x3 b n a g i)) : ℝ) : EReal) := by
    delta val_main_v100 val_main_v99
    pointwise []
    rw [h80, h90]
    generalize D.Z b n a g i / Real.exp (mx x0 x1 x3 b n a g i) = z at hp ⊢
    refine (Ideal.div_coe hp.ne' _).trans ?_
    rw [← EReal.coe_mul, mul_one_div]
  have h105 : val_main_v105 (F := Ideal) x0 x1 x2 x3 x4 (ix5 b n a g i)
      = ((-(D.M b n a g i / (D.Z b n a g i / Real.exp (mx x0 x1 x3 b n a g i))) : ℝ) : EReal) := by
    rw [val_main_v105_apply, show val_main_cst_19 (F := Ideal) (Shape.Idx.first Gen.h_S_) = 0 from zero_f32, zero_add, Fin.sum_univ_one,
      show idx_main_v105 (ix5 b n a g i) 0 = ix6 b n a g i 0 from six _ _ rfl rfl rfl rfl rfl rfl, h98]
  delta val_main_v108 val_main_v107 val_main_v106
  pointwise []
  rw [h100, h105, h74, ← hP, ← EReal.coe_add, ← EReal.coe_mul]
  generalize D.Z b n a g i / Real.exp (mx x0 x1 x3 b n a g i) = z at hp ⊢
  congr 1
  have := hp.ne'
  field_simp
  ring

/-- The terms that pass through the row's maximum cancel. -/
theorem balance_at : val_main_v112 (F := Ideal) x0 x1 x2 x3 x4 (ix6 b n a g i 0) = 0 := by
  have h101 := dSinkRow_at H b n a g i
  have h110 : val_main_v110 (F := Ideal) x0 x1 x2 x3 x4 (ix5 b n a g i)
      = ((-(∑ j : Fin 256, D.P b n a g i j * (D.dP b n a g i j - D.M b n a g i)) : ℝ) : EReal) := by
    rw [val_main_v110_apply, show val_main_cst_20 (F := Ideal) (Shape.Idx.first Gen.h_S_) = 0 from zero_f32, zero_add,
      ← Finset.sum_neg_distrib, coe_sum]
    refine Finset.sum_congr rfl fun j _ => ?_
    rw [show idx_main_v110 (ix5 b n a g i) j = ix6 b n a g i j from six _ _ rfl rfl rfl rfl rfl rfl, val_main_v109_apply, dRaw_at H]
    exact (EReal.coe_neg _).symm
  delta val_main_v112 val_main_v111 val_main_v104
  pointwise []
  rw [h110, h101, D.row_balance]
  generalize Real.exp (D.s (hd a g) - D.L b n a g i) * D.M b n a g i = y
  show -((-y : ℝ) : EReal) + ((-y : ℝ) : EReal) = 0
  rw [← EReal.coe_neg, ← EReal.coe_add, neg_neg, add_neg_cancel, EReal.coe_zero]

/-- How many scores equal the row's largest: at least one. -/
theorem count_ne : val_main_v50 (F := Ideal) x0 x1 (ix5 b n a g i) ≠ 0 := by
  obtain ⟨r, hr, j, hj⟩ := top_at H b n a g i
  have h49 : ∀ j, ∃ w : BitVec 1, val_main_v49 (F := Ideal) x0 x1 (ix6 b n a g i j) = ((w.toNat : ℝ) : EReal) :=
    fun j => ⟨_, rfl⟩
  have h1 : val_main_v49 (F := Ideal) x0 x1 (ix6 b n a g i j) = ((1 : ℝ) : EReal) := by
    have h47 : val_main_v47 (F := Ideal) x0 x1 (ix6 b n a g i j) = ((r : ℝ) : EReal) := by
      delta val_main_v47 val_main_v46
      pointwise []
      exact hr
    rw [val_main_v49_apply, val_main_v48_apply, hj, h47]
    have : Ideal.cmp .oeq ((r : ℝ) : EReal) ((r : ℝ) : EReal) = 1#1 := by simp [Ideal.cmp]
    show (((Ideal.cmp .oeq ((r : ℝ) : EReal) ((r : ℝ) : EReal)).toNat : ℝ) : EReal) = _
    rw [this]; simp
  rw [val_main_v50_apply, show val_main_cst_8 (F := Ideal) (Shape.Idx.first Gen.h_S_) = 0 from zero_f32, zero_add]
  have h0 : ∀ j : Fin 256, 0 ≤ val_main_v49 (F := Ideal) x0 x1 (idx_main_v50 (ix5 b n a g i) j) := fun j => by
    rw [show idx_main_v50 (ix5 b n a g i) j = ix6 b n a g i j from six _ _ rfl rfl rfl rfl rfl rfl]
    obtain ⟨w, hw⟩ := h49 j
    rw [hw]; exact EReal.coe_nonneg.mpr (Nat.cast_nonneg _)
  have hle : val_main_v49 (F := Ideal) x0 x1 (idx_main_v50 (ix5 b n a g i) j) ≤ _ :=
    Finset.single_le_sum (fun j _ => h0 j) (Finset.mem_univ j)
  rw [show idx_main_v50 (ix5 b n a g i) j = ix6 b n a g i j from six _ _ rfl rfl rfl rfl rfl rfl, h1] at hle
  intro hz
  rw [hz] at hle
  exact absurd hle (by norm_num)

/-- So the share of the largest logit is nothing. -/
theorem share_at : val_main_v121 (F := Ideal) x0 x1 x2 x3 x4 (ix6 b n a g i j) = 0 := by
  have h112 := balance_at H b n a g i
  have h50 := count_ne H b n a g i
  have h118 : val_main_v118 (F := Ideal) x0 x1 x2 x3 x4 (ix5 b n a g i) = 0 := by
    rw [val_main_v118_apply, show val_main_cst_22 (F := Ideal) (Shape.Idx.first Gen.h_S_) = 0 from zero_f32, zero_add, Fin.sum_univ_one,
      show idx_main_v118 (ix5 b n a g i) 0 = ix6 b n a g i 0 from six _ _ rfl rfl rfl rfl rfl rfl, val_main_v117_apply, h112]
    exact zero_mul _
  have h119 : val_main_v119 (F := Ideal) x0 x1 x2 x3 x4 (ix5 b n a g i) = 0 := by
    rw [val_main_v119_apply, h118]
    generalize val_main_v50 (F := Ideal) x0 x1 (ix5 b n a g i) = y at h50
    show Ideal.div 0 y = 0
    rw [Ideal.div, if_neg h50, zero_mul]
  delta val_main_v121 val_main_v120
  pointwise []
  rw [h119, zero_mul]

/-- The gradient of an unscaled score. -/
theorem dS_at : val_main_v127 (F := Ideal) x0 x1 x2 x3 x4 (ix6 b n a g i j) = ((D.dS b n a g i j : ℝ) : EReal) := by
  have h121 := share_at H b n a g i j
  have h108 := dRaw_at H b n a g i j
  have h122 : val_main_v122 (F := Ideal) x0 x1 x2 x3 x4 (ix6 b n a g i j)
      = ((D.P b n a g i j * (D.dP b n a g i j - D.M b n a g i) : ℝ) : EReal) := by
    rw [val_main_v122_apply, h121, h108]
    exact add_zero _
  have h125 : val_main_v125 (F := Ideal) x0 x1 x2 x3 x4 (ix6 b n a g i j)
      = ((D.P b n a g i j * (D.dP b n a g i j - D.M b n a g i) : ℝ) : EReal) := by
    rw [val_main_v125_apply, select_of_iff _ _ (mask_at b n a g i j), h122]
    have hz : val_main_call1_v0 (F := Ideal) (ix6 b n a g i j) = 0 := by
      delta val_main_call1_v0
      pointwise []
      exact zero_f32
    rw [hz]
    split
    · rfl
    · rename_i h
      rw [D.P_of_not b n a g i h, zero_mul, EReal.coe_zero]
  have h126 : val_main_v126 (F := Ideal) (ix6 b n a g i j) = ((1 / 8 : ℝ) : EReal) := by
    delta val_main_v126
    pointwise []
    exact eighth_f32
  rw [val_main_v127_apply, h125, h126, Data.dS]
  exact (EReal.coe_mul _ _).symm

theorem dSt_at : val_main_v128 (F := Ideal) x0 x1 x2 x3 x4 (ix6 b n a j i g) = ((D.dS b n a g i j : ℝ) : EReal) := by
  delta val_main_v128
  pointwise []
  exact dS_at H b n a g i j

/-- The gradient of the queries. -/
theorem dq_at : val_main_v130 (F := Ideal) x0 x1 x2 x3 x4 (ix6 b n i a g d) = ((D.dq b n a g i d : ℝ) : EReal) := by
  delta val_main_v130 val_main_v129
  pointwise []
  unfold Data.dq
  rw [coe_sum]
  refine Finset.sum_congr rfl fun j _ => ?_
  rw [dSt_at H, keys_at H, ← EReal.coe_mul]

/-- The gradient of the band's keys. -/
theorem dk_at : val_main_v132 (F := Ideal) x0 x1 x2 x3 x4 (ix5 b n j a d) = ((D.dk b n a j d : ℝ) : EReal) := by
  delta val_main_v132 val_main_v131
  pointwise []
  unfold Data.dk
  rw [coe_sum]
  refine Finset.sum_congr rfl fun i _ => ?_
  rw [coe_sum]
  refine Finset.sum_congr rfl fun g _ => ?_
  rw [dSt_at H, query_at H, ← EReal.coe_mul]
end
end Cert.ReferenceIdeal.Stage
end
-- ==== Proof.AttnSums.lean ====
module
public import Idealize.ShloMosaic.Lib.Pipeline.ValueKit
public import proofs.«01_k».proof.Proof.AttnForward

@[expose] public section
set_option maxRecDepth 16384
noncomputable section

/-! Sums of the reference over several axes. -/

namespace Cert.ReferenceIdeal.Stage
open Idealize Idealize.ShloMosaic Idealize.ShloMosaic.TcCoe Idealize.SL.Sem Cert.ReferenceIdeal Cert.ReferenceIdeal.Read Cert.Attn

/-- The sum over sequences, blocks and rows. -/
theorem sum3 (x : FVec Ideal S2x32x2x4x128x1 .f32) (z : EReal) (a : Fin 2) (g : Fin 4) :
    Ideal.hostReduceAdd Gen.reducesTo_S2x32x2x4x128x1_S2x4x1_d0_1_4 x z (ix3 a g 0)
      = z + ∑ b : Fin 2, ∑ n : Fin 32, ∑ i : Fin 128, x (ix6 b n a g i 0) := by
  unfold Ideal.hostReduceAdd
  congr 1
  simp only [← Finset.sum_product', Finset.univ_product_univ]
  refine Finset.sum_bij' (fun p _ => ((p 0 : Fin 2), (p 1 : Fin 32), (p 4 : Fin 128))) (fun p _ => ix6 p.1 p.2.1 a g p.2.2 0)
    ?_ ?_ ?_ ?_ ?_
  · intro p _; exact Finset.mem_univ _
  · intro p _
    refine Finset.mem_filter.mpr ⟨Finset.mem_univ _, ?_⟩
    funext c
    match c with | ⟨0, _⟩ => rfl | ⟨1, _⟩ => rfl | ⟨2, _⟩ => rfl
  · intro p hp
    have h := (Finset.mem_filter.mp hp).2
    have h2 : p 2 = a := congrFun h 0
    have h3 : p 3 = g := congrFun h 1
    exact six _ _ rfl rfl h2.symm h3.symm rfl (Subsingleton.elim (α := Fin 1) _ _)
  · intro p _; rfl
  · intro p hp
    have h := (Finset.mem_filter.mp hp).2
    have h2 : p 2 = a := congrFun h 0
    have h3 : p 3 = g := congrFun h 1
    exact congrArg x (six _ _ rfl rfl h2 h3 rfl (Subsingleton.elim (α := Fin 1) _ _))

/-- The sum over four axes of one element each. -/
theorem sum1 (x : FVec Ideal S1x1x2x4x1x1 .f32) (z : EReal) (a : Fin 2) (g : Fin 4) :
    Ideal.hostReduceAdd Gen.reducesTo_S1x1x2x4x1x1_S2x4_d0_1_4_5 x z (ix2 a g) = z + x (ix6 0 0 a g 0 0) := by
  unfold Ideal.hostReduceAdd
  congr 1
  refine Finset.sum_eq_single_of_mem _ (Finset.mem_filter.mpr ⟨Finset.mem_univ _, ?_⟩) fun p hp hne => absurd ?_ hne
  · funext c
    match c with | ⟨0, _⟩ => rfl | ⟨1, _⟩ => rfl
  · have h := (Finset.mem_filter.mp hp).2
    have h2 : p 2 = a := congrFun h 0
    have h3 : p 3 = g := congrFun h 1
    exact six _ _ (Subsingleton.elim (α := Fin 1) _ _) (Subsingleton.elim (α := Fin 1) _ _) h2 h3
      (Subsingleton.elim (α := Fin 1) _ _) (Subsingleton.elim (α := Fin 1) _ _)
end Cert.ReferenceIdeal.Stage
end
-- ==== Proof.AttnOut.lean ====
module

public import Idealize.ShloMosaic.Lib.Pipeline.ValueKit
public import proofs.«01_k».proof.Proof.AttnTiles

@[expose] public section
set_option maxRecDepth 16384
noncomputable section

/-! The first result of the kernel, block by block: sixteen heads of gradients (eight of the queries, then two each of
the current keys, the current values, the preceding keys and the preceding values). -/

namespace Cert.Attn
variable (D : Data) (b : Fin 2) (n : Fin 32)

/-- Row `i` of block `n` of the sixteen heads. -/
def out9 (r : Fin 16) (i : Fin 128) (d : Fin 64) : ℝ :=
  if h : r.val < 8 then D.dq b n ⟨r / 4, by omega⟩ ⟨r % 4, by omega⟩ i d
  else if h : r.val < 10 then D.dk b n ⟨r - 8, by omega⟩ ⟨128 + i, by omega⟩ d
  else if h : r.val < 12 then D.dv b n ⟨r - 10, by omega⟩ ⟨128 + i, by omega⟩ d
  else if h : r.val < 14 then D.dk b n ⟨r - 12, by omega⟩ ⟨i, by omega⟩ d
  else D.dv b n ⟨r - 14, by omega⟩ ⟨i, by omega⟩ d

variable {D b n} (r : Fin 16) (i : Fin 128) (d : Fin 64)

theorem out9_dq (a : Fin 2) (g : Fin 4) (i' : Fin 128) (d' : Fin 64) (hr : r.val = a.val * 4 + g.val) (hi : i.val = i'.val)
    (hd : d.val = d'.val) : out9 D b n r i d = D.dq b n a g i' d' := by
  obtain rfl := Fin.ext hi
  obtain rfl := Fin.ext hd
  have e1 : (⟨r / 4, by omega⟩ : Fin 2) = a := Fin.ext (by show r.val / 4 = a.val; omega)
  have e2 : (⟨r % 4, by omega⟩ : Fin 4) = g := Fin.ext (by show r.val % 4 = g.val; omega)
  rw [out9, dif_pos (by omega), e1, e2]

theorem out9_dk_cur (a : Fin 2) (j : Fin 256) (d' : Fin 64) (hr : r.val = 8 + a.val) (hi : j.val = 128 + i.val)
    (hd : d.val = d'.val) : out9 D b n r i d = D.dk b n a j d' := by
  obtain rfl := Fin.ext hd
  have e1 : (⟨r - 8, by omega⟩ : Fin 2) = a := Fin.ext (by show r.val - 8 = a.val; omega)
  have e2 : (⟨128 + i, by omega⟩ : Fin 256) = j := Fin.ext (by show 128 + i.val = j.val; omega)
  rw [out9, dif_neg (by omega), dif_pos (by omega), e1, e2]

theorem out9_dv_cur (a : Fin 2) (j : Fin 256) (d' : Fin 64) (hr : r.val = 10 + a.val) (hi : j.val = 128 + i.val)
    (hd : d.val = d'.val) : out9 D b n r i d = D.dv b n a j d' := by
  obtain rfl := Fin.ext hd
  have e1 : (⟨r - 10, by omega⟩ : Fin 2) = a := Fin.ext (by show r.val - 10 = a.val; omega)
  have e2 : (⟨128 + i, by omega⟩ : Fin 256) = j := Fin.ext (by show 128 + i.val = j.val; omega)
  rw [out9, dif_neg (by omega), dif_neg (by omega), dif_pos (by omega), e1, e2]

theorem out9_dk_prev (a : Fin 2) (j : Fin 256) (d' : Fin 64) (hr : r.val = 12 + a.val) (hi : j.val = i.val)
    (hd : d.val = d'.val) : out9 D b n r i d = D.dk b n a j d' := by
  obtain rfl := Fin.ext hd
  have e1 : (⟨r - 12, by omega⟩ : Fin 2) = a := Fin.ext (by show r.val - 12 = a.val; omega)
  have e2 : (⟨i, by omega⟩ : Fin 256) = j := Fin.ext (by show i.val = j.val; omega)
  rw [out9, dif_neg (by omega), dif_neg (by omega), dif_neg (by omega), dif_pos (by omega), e1, e2]

theorem out9_dv_prev (a : Fin 2) (j : Fin 256) (d' : Fin 64) (hr : r.val = 14 + a.val) (hi : j.val = i.val)
    (hd : d.val = d'.val) : out9 D b n r i d = D.dv b n a j d' := by
  obtain rfl := Fin.ext hd
  have e1 : (⟨r - 14, by omega⟩ : Fin 2) = a := Fin.ext (by show r.val - 14 = a.val; omega)
  have e2 : (⟨i, by omega⟩ : Fin 256) = j := Fin.ext (by show i.val = j.val; omega)
  rw [out9, dif_neg (by omega), dif_neg (by omega), dif_neg (by omega), dif_neg (by omega), e1, e2]

end Cert.Attn

namespace Cert.KernelIdeal.Tiles
open Idealize Idealize.ShloMosaic Idealize.ShloMosaic.TcCoe Idealize.SL.Sem Cert.KernelIdeal Cert.KernelIdeal.Gen Cert.Attn Cert.KernelIdeal.Block

variable {m : (ℓ : Loc nD τ sig) → Buf (Elt Ideal) ℓ} {c : Dev nD} {D : Data} (E : Entry m c D) (t : Fin cfg0.N)
include E

/-- What a point leaves in the first result's block. -/
theorem point9 (y : S16x128x64.Idx) :
    (outsAt0 m c t.val t.isLt).1 y = ((out9 D (bt t) (nt t) (y 0) (y 1) (y 2) : ℝ) : EReal) := by
  by_cases h0 : t.val % 64 = 0
  · rw [outsAt0_A m c t h0]
    frame_out
    clear h0
    canon_tiles x h using View.cover_of_tiledBy _ ![1, 128, 64] (by sl_kernel_rfl) y
    case piece0 =>
      rw [second_dv_cur]
      exact ((loaded1 E t).dv_cur (coord t) x).trans (congrArg _ (out9_dv_cur (y 0) (y 1) (y 2) 1 _ (x 2) (by simp; omega) (congrArg (128 + ·) h1.symm) h2).symm)
    case piece1 =>
      rw [second_dv_prev]
      exact ((loaded1 E t).dv_prev (coord t) x).trans (congrArg _ (out9_dv_prev (y 0) (y 1) (y 2) 1 _ (x 2) (by simp; omega) h1.symm h2).symm)
    case piece2 =>
      rw [second_dk_cur]
      exact ((loaded1 E t).dk_cur (coord t) x).trans (congrArg _ (out9_dk_cur (y 0) (y 1) (y 2) 1 _ (x 2) (by simp; omega) (congrArg (128 + ·) h1.symm) h2).symm)
    case piece3 =>
      rw [second_dk_prev]
      exact ((loaded1 E t).dk_prev (coord t) x).trans (congrArg _ (out9_dk_prev (y 0) (y 1) (y 2) 1 _ (x 2) (by simp; omega) h1.symm h2).symm)
    case piece4 =>
      rw [second_dq]
      exact ((loaded1 E t).dq (coord t) x).trans (congrArg _ (out9_dq (y 0) (y 1) (y 2) 1 (x 0) (x 1) (x 2) (by show _ = _ * 4 + _; simp; omega) h1 h2).symm)
    case piece5 =>
      exact ((loaded0 E t).dv_cur (coord t) x).trans (congrArg _ (out9_dv_cur (y 0) (y 1) (y 2) 0 _ (x 2) (by simp; omega) (congrArg (128 + ·) h1.symm) h2).symm)
    case piece6 =>
      exact ((loaded0 E t).dv_prev (coord t) x).trans (congrArg _ (out9_dv_prev (y 0) (y 1) (y 2) 0 _ (x 2) (by simp; omega) h1.symm h2).symm)
    case piece7 =>
      exact ((loaded0 E t).dk_cur (coord t) x).trans (congrArg _ (out9_dk_cur (y 0) (y 1) (y 2) 0 _ (x 2) (by simp; omega) (congrArg (128 + ·) h1.symm) h2).symm)
    case piece8 =>
      exact ((loaded0 E t).dk_prev (coord t) x).trans (congrArg _ (out9_dk_prev (y 0) (y 1) (y 2) 0 _ (x 2) (by simp; omega) h1.symm h2).symm)
    case piece9 =>
      exact ((loaded0 E t).dq (coord t) x).trans (congrArg _ (out9_dq (y 0) (y 1) (y 2) 0 (x 0) (x 1) (x 2) (by show _ = _ * 4 + _; simp; omega) h1 h2).symm)
    all_goals decide
  · rw [outsAt0_B m c t h0]
    frame_out
    clear h0
    canon_tiles x h using View.cover_of_tiledBy _ ![1, 128, 64] (by sl_kernel_rfl) y
    case piece0 =>
      rw [second_dv_cur]
      exact ((loaded1 E t).dv_cur (coord t) x).trans (congrArg _ (out9_dv_cur (y 0) (y 1) (y 2) 1 _ (x 2) (by simp; omega) (congrArg (128 + ·) h1.symm) h2).symm)
    case piece1 =>
      rw [second_dv_prev]
      exact ((loaded1 E t).dv_prev (coord t) x).trans (congrArg _ (out9_dv_prev (y 0) (y 1) (y 2) 1 _ (x 2) (by simp; omega) h1.symm h2).symm)
    case piece2 =>
      rw [second_dk_cur]
      exact ((loaded1 E t).dk_cur (coord t) x).trans (congrArg _ (out9_dk_cur (y 0) (y 1) (y 2) 1 _ (x 2) (by simp; omega) (congrArg (128 + ·) h1.symm) h2).symm)
    case piece3 =>
      rw [second_dk_prev]
      exact ((loaded1 E t).dk_prev (coord t) x).trans (congrArg _ (out9_dk_prev (y 0) (y 1) (y 2) 1 _ (x 2) (by simp; omega) h1.symm h2).symm)
    case piece4 =>
      rw [second_dq]
      exact ((loaded1 E t).dq (coord t) x).trans (congrArg _ (out9_dq (y 0) (y 1) (y 2) 1 (x 0) (x 1) (x 2) (by show _ = _ * 4 + _; simp; omega) h1 h2).symm)
    case piece5 =>
      exact ((loaded0 E t).dv_cur (coord t) x).trans (congrArg _ (out9_dv_cur (y 0) (y 1) (y 2) 0 _ (x 2) (by simp; omega) (congrArg (128 + ·) h1.symm) h2).symm)
    case piece6 =>
      exact ((loaded0 E t).dv_prev (coord t) x).trans (congrArg _ (out9_dv_prev (y 0) (y 1) (y 2) 0 _ (x 2) (by simp; omega) h1.symm h2).symm)
    case piece7 =>
      exact ((loaded0 E t).dk_cur (coord t) x).trans (congrArg _ (out9_dk_cur (y 0) (y 1) (y 2) 0 _ (x 2) (by simp; omega) (congrArg (128 + ·) h1.symm) h2).symm)
    case piece8 =>
      exact ((loaded0 E t).dk_prev (coord t) x).trans (congrArg _ (out9_dk_prev (y 0) (y 1) (y 2) 0 _ (x 2) (by simp; omega) h1.symm h2).symm)
    case piece9 =>
      exact ((loaded0 E t).dq (coord t) x).trans (congrArg _ (out9_dq (y 0) (y 1) (y 2) 0 (x 0) (x 1) (x 2) (by show _ = _ * 4 + _; simp; omega) h1 h2).symm)
    all_goals decide

end Cert.KernelIdeal.Tiles
end
-- ==== Proof.AttnSum.lean ====
module

public import Idealize.ShloMosaic.Lib.Pipeline.ValueKit
public import Idealize.ShloMosaic.Lib.Pipeline.ReadBack
public import proofs.«01_k».proof.Proof.AttnOut

@[expose] public section
set_option maxRecDepth 16384
noncomputable section

namespace Cert.KernelIdeal.Tiles
open Idealize Idealize.ShloMosaic Idealize.ShloMosaic.TcCoe Idealize.SL.Sem Cert.KernelIdeal Cert.KernelIdeal.Gen Cert.Attn Cert.KernelIdeal.Block

variable {m : (ℓ : Loc nD τ sig) → Buf (Elt Ideal) ℓ} {c : Dev nD} {D : Data}

/-- The first result: the sixteen heads of gradients, over all the tokens. -/
def ref9 (D : Data) : FVec Ideal S16x8192x64 .f32 := fun i =>
  ((out9 D ⟨(i 1).val / 4096, by have : (i 1).val < 8192 := (i 1).isLt; omega⟩ ⟨(i 1).val / 128 % 32, by omega⟩ (i 0)
    ⟨(i 1).val % 128, by omega⟩ (i 2) : ℝ) : EReal)

theorem final9 (E : Entry m c D) : (dats m 0 c).arrAt 9 (cfgs 0).N = ref9 D := by
  refine (dats m 0 c).arrAt_eq_of_covers 9 _ (by decide +kernel) fun t hf y => ?_
  blk_simp
  rw [after0_9]
  refine (point9 E t y).trans ?_
  idx_bounds y
  have ht : t.val < 64 := lt_of_lt_of_eq t.isLt N_0
  have e0 : ((win0_9.blk t).view.emb y 0).val = (y 0).val := by blk_simp [idx t]
  have e1 : ((win0_9.blk t).view.emb y 1).val = t.val * 128 + (y 1).val := by blk_simp [idx t]
  have e2 : ((win0_9.blk t).view.emb y 2).val = (y 2).val := by blk_simp [idx t]
  have hy : (y 1).val < 128 := (y 1).isLt
  refine congrArg (Real.toEReal) ?_
  congr 1
  · exact Fin.ext (by show t.val / 32 = _ / 4096; rw [e1]; omega)
  · exact Fin.ext (by show t.val % 32 = _ / 128 % 32; rw [e1]; omega)
  · exact Fin.ext e0.symm
  · exact Fin.ext (by show (y 1).val = _ % 128; rw [e1]; omega)
  · exact Fin.ext e2.symm

/-- What a point adds to the gradient of the sink of head `(a, g)`. -/
def part (D : Data) (t : Fin cfg0.N) (a : Fin 2) (g : Fin 4) : ℝ :=
  -∑ i : Fin 128, Real.exp (D.s (hd a g) - D.L (bt t) (nt t) a g i) * D.M (bt t) (nt t) a g i

/-- The same, by the head's number. -/
def term (D : Data) (t : Fin cfg0.N) (h : Fin 8) : ℝ := part D t ⟨h / 4, by omega⟩ ⟨h % 4, by omega⟩

theorem term_hd (D : Data) (t : Fin cfg0.N) (h : Fin 8) (a : Fin 2) (g : Fin 4) (e : h.val = a.val * 4 + g.val) :
    term D t h = part D t a g := by
  have e1 : (⟨h / 4, by omega⟩ : Fin 2) = a := Fin.ext (by show h.val / 4 = a.val; omega)
  have e2 : (⟨h % 4, by omega⟩ : Fin 4) = g := Fin.ext (by show h.val % 4 = g.val; omega)
  rw [term, e1, e2]

/-- An index of a column of four. -/
theorem col4 (x : S4x1x1.Idx) : ∃ g : Fin 4, x = ix3 g 0 0 :=
  ⟨x 0, funext fun a => by
    fin_cases a
    · rfl
    · exact Subsingleton.elim (α := Fin 1) _ _
    · exact Subsingleton.elim (α := Fin 1) _ _⟩

/-- An index of a column of eight. -/
theorem col8 (x : S8x1x1.Idx) : ∃ g : Fin 8, x = ix3 g 0 0 :=
  ⟨x 0, funext fun a => by
    fin_cases a
    · rfl
    · exact Subsingleton.elim (α := Fin 1) _ _
    · exact Subsingleton.elim (α := Fin 1) _ _⟩

/-- Four heads of a column of eight, loaded from head `o` on. -/
theorem ldcol_at {α : EltTy → Type} {e : EltTy} (X : S8x1x1.Idx → α e) (o : ℕ) (inb) (g : Fin 4) (h : Fin 8) (hh : h.val = o + g) :
    View.ld (S := S8x1x1) X (Rect.unit ![o, 0, 0] ![4, 1, 1] inb) (ix3 g 0 0) = X (ix3 h 0 0) := by
  refine congrArg X (funext fun a => Fin.ext ?_)
  fin_cases a
  · show o + 1 * g.val = h.val
    omega
  · rfl
  · rfl

/-- Two stores over a third that cover the index together. -/
theorem canon_two {S : Shape} {e : EltTy} (p q r : View.Piece (Elt Ideal) S e) (y : S.Idx) (v : Elt Ideal e)
    (hc : ∃ z ∈ [p, q], y ∈ z.1.set) (hp : ∀ x, p.1.emb x = y → p.2 x = v) (hq : ∀ x, q.1.emb x = y → q.2 x = v) :
    View.canon [p, q, r] y = v := by
  by_cases h1 : y ∈ p.1.set
  · obtain ⟨x, rfl⟩ := p.1.exists_idx_of_mem h1
    rw [show p.1.idx x = p.1.emb x from rfl, View.canon_cons_emb]
    exact hp x rfl
  · rw [View.canon_cons_of_not_mem _ _ h1]
    have h2 : y ∈ q.1.set := by
      obtain ⟨z, hz, hy⟩ := hc
      rcases List.mem_cons.mp hz with rfl | hz
      · exact absurd hy h1
      · rcases List.mem_cons.mp hz with rfl | hz
        · exact hy
        · exact absurd hz List.not_mem_nil
    obtain ⟨x, rfl⟩ := q.1.exists_idx_of_mem h2
    rw [show q.1.idx x = q.1.emb x from rfl, View.canon_cons_emb]
    exact hq x rfl

/-- The array of zeros. -/
theorem zero_at (x : S8x1x1.Idx) : k0_pay3 (F := Ideal) x = (0 : EReal) := by
  pointwise [k0_pay3]

variable (E : Entry m c D) (t : Fin cfg0.N)
include E

/-- The stored sum for key/value head 0: what it held, plus the point's part. -/
theorem add0 (z : Vec Ideal S4x1x1 .f32) (g : Fin 4) :
    k0_pay16 (k0_pay9 (View.ld (iblk m c 7 t) (Rect.unit ![0, 0, 0] ![4, 128, 1] inb_S8x128x1_S4x128x1_0_0_0)))
      (k0_pay11 (View.ld (iblk m c 6 t) (Rect.unit ![0, 0, 0] ![4, 128, 64] inb_S8x128x64_S4x128x64_0_0_0))
        (View.ld (iblk m c 5 t) (Rect.unit ![0, 0, 0] ![4, 128, 64] inb_S8x128x64_S4x128x64_0_0_0)))
      z (View.ld (iblk m c 8 t) (Rect.unit ![0, 0, 0] ![4, 1, 1] inb_S8x1x1_S4x1x1_0_0_0)) (ix3 g 0 0)
      = z (ix3 g 0 0) + ((part D t 0 g : ℝ) : EReal) :=
  (loaded0 E t).dsink _ z (fun g => (ldcol_at _ 0 _ g (hd 0 g) rfl).trans ((x8_at m c t _ 0 0).trans (E.s _))) g

/-- The stored sum for key/value head 1: what it held, plus the point's part. -/
theorem add1 (z : Vec Ideal S4x1x1 .f32) (g : Fin 4) :
    k0_pay16 (k0_pay9 (View.ld (iblk m c 7 t) (Rect.unit ![4, 0, 0] ![4, 128, 1] inb_S8x128x1_S4x128x1_4_0_0)))
      (k0_pay11 (View.ld (iblk m c 6 t) (Rect.unit ![4, 0, 0] ![4, 128, 64] inb_S8x128x64_S4x128x64_4_0_0))
        (View.ld (iblk m c 5 t) (Rect.unit ![4, 0, 0] ![4, 128, 64] inb_S8x128x64_S4x128x64_4_0_0)))
      z (View.ld (iblk m c 8 t) (Rect.unit ![4, 0, 0] ![4, 1, 1] inb_S8x1x1_S4x1x1_4_0_0)) (ix3 g 0 0)
      = z (ix3 g 0 0) + ((part D t 1 g : ℝ) : EReal) :=
  (loaded1 E t).dsink _ z (fun g => (ldcol_at _ 4 _ g (hd 1 g) rfl).trans ((x8_at m c t _ 0 0).trans (E.s _))) g

theorem point10_A (h0 : t.val % 64 = 0) (y : S8x1x1.Idx) :
    (outsAt0 m c t.val t.isLt).2 y = (0 : EReal) + ((term D t (y 0) : ℝ) : EReal) := by
  rw [outsAt0_A m c t h0]
  frame_out
  clear h0
  refine canon_two _ _ _ y _ (View.cover_of_tiledBy _ ![4, 1, 1] (by sl_kernel_rfl) y) (fun x h => ?_) (fun x h => ?_)
  · obtain ⟨g, rfl⟩ := col4 x
    subst h
    rw [View.readCov_skip _ _ _ _ _ (by decide), View.readCov_fill _ _ _ _ _ (by decide)]
    refine (add1 E t _ g).trans ?_
    exact congrArg₂ (fun u v : EReal => u + v) (zero_at _) (congrArg Real.toEReal (term_hd D t _ 1 g (by show 4 + 1 * g.val = 1 * 4 + g.val; omega)).symm)
  · obtain ⟨g, rfl⟩ := col4 x
    subst h
    rw [View.readCov_fill _ _ _ _ _ (by decide)]
    refine (add0 E t _ g).trans ?_
    exact congrArg₂ (fun u v : EReal => u + v) (zero_at _) (congrArg Real.toEReal (term_hd D t _ 0 g (by show 0 + 1 * g.val = 0 * 4 + g.val; omega)).symm)

theorem point10_B (h0 : ¬ t.val % 64 = 0) (y : S8x1x1.Idx) :
    (outsAt0 m c t.val t.isLt).2 y
      = ((outsAt0 m c (t.val - 1) (Nat.lt_of_le_of_lt (Nat.sub_le _ _) t.isLt)).2 y : EReal) + ((term D t (y 0) : ℝ) : EReal) := by
  rw [outsAt0_B m c t h0]
  frame_out
  clear h0
  canon_tiles x h using View.cover_of_tiledBy _ ![4, 1, 1] (by sl_kernel_rfl) y
  case piece0 =>
    obtain ⟨g, rfl⟩ := col4 x
    obtain ⟨k, rfl⟩ := col8 y
    have hk : k.val = 4 + g.val := h0
    refine (add1 E t _ g).trans ?_
    exact congrArg₂ (fun u v : EReal => u + v) (ldcol_at _ 4 _ g k (by omega))
      (congrArg Real.toEReal (term_hd D t k 1 g (by show k.val = 1 * 4 + g.val; omega)).symm)
  case piece1 =>
    obtain ⟨g, rfl⟩ := col4 x
    obtain ⟨k, rfl⟩ := col8 y
    have hk : k.val = g.val := h0
    refine (add0 E t _ g).trans ?_
    exact congrArg₂ (fun u v : EReal => u + v) (ldcol_at _ 0 _ g k (by omega))
      (congrArg Real.toEReal (term_hd D t k 0 g (by show k.val = 0 * 4 + g.val; omega)).symm)

omit E in
/-- The second result: the gradients of the sinks. -/
def ref10 (D : Data) : FVec Ideal S8x1x1 .f32 := fun i =>
  ((D.dsink ⟨(i 0).val / 4, by have : (i 0).val < 8 := (i 0).isLt; omega⟩ ⟨(i 0).val % 4, by omega⟩ : ℝ) : EReal)

omit E in
/-- The points' parts of a sink's gradient, summed. -/
theorem sum_term (D : Data) (h : Fin 8) :
    ∑ t : Fin 64, term D t h = D.dsink ⟨h / 4, by omega⟩ ⟨h % 4, by omega⟩ := by
  rw [Data.dsink, Fin.sum_divmod_congr (A := 2) (S := 32)
    (f := fun b n => -∑ i : Fin 128, Real.exp (D.s (hd ⟨h / 4, by omega⟩ ⟨h % 4, by omega⟩) - D.L b n ⟨h / 4, by omega⟩ ⟨h % 4, by omega⟩ i)
      * D.M b n ⟨h / 4, by omega⟩ ⟨h % 4, by omega⟩ i) (fun t ha hs => rfl)]
  simp only [Finset.sum_neg_distrib]

theorem final10 : (dats m 0 c).arrAt 10 (cfgs 0).N = ref10 D := by
  refine (dats m 0 c).arrAt_eq_of_covers 10 _ (by decide +kernel) fun t hf y => ?_
  blk_simp
  rw [after0_10, Pipeline.eq_sum_fin_of_reset_step_apply_of_flush (M := EReal) (fun n h => (outsAt0 m c n h).2) 64 (fun _ => 0)
    (fun t y => ((term D t (y 0) : ℝ) : EReal)) (fun t h y => point10_A E t h y) (fun t h y => point10_B E t h y) t ((flush0_10 t).mp hf) _,
    zero_add]
  have ht : t.val < 64 := lt_of_lt_of_eq t.isLt N_0
  have e0 : ((win0_10.blk t).view.emb y 0).val = (y 0).val := by blk_simp [idx t]
  have hs : ∀ s : Fin 64, (⟨64 * (t.val / 64) + s.val, Pipeline.run_point_lt_of_flush t ((flush0_10 t).mp hf) s⟩ : Fin cfg0.N) = s :=
    fun s => Fin.ext (by show 64 * (t.val / 64) + s.val = s.val; omega)
  refine (Finset.sum_congr rfl fun s _ => congrArg (fun u => ((term D u (y 0) : ℝ) : EReal)) (hs s)).trans ?_
  refine (coe_sum _ _).symm.trans ?_
  refine congrArg Real.toEReal ((sum_term D (y 0)).trans ?_)
  congr 1
  · exact Fin.ext (congrArg (· / 4) e0.symm)
  · exact Fin.ext (congrArg (· % 4) e0.symm)

end Cert.KernelIdeal.Tiles
end
-- ==== Proof.AttnResult.lean ====
module
public import Idealize.ShloMosaic.Lib.Pipeline.ValueKit
public import proofs.«01_k».proof.Proof.AttnBackward
public import proofs.«01_k».proof.Proof.AttnSums
public import proofs.«01_k».proof.Proof.AttnSum

@[expose] public section
set_option maxRecDepth 16384
noncomputable section

/-! The reference's two results, as the arrays that the kernel leaves. -/

namespace Cert.ReferenceIdeal.Stage
open Idealize Idealize.ShloMosaic Idealize.ShloMosaic.TcCoe Idealize.SL.Sem Cert.ReferenceIdeal Cert.ReferenceIdeal.Read Cert.Attn

section
variable {D : Data} {x0 : FVec Ideal S2x4096x8x64 .f32} {x1 x2 : FVec Ideal S2x4096x2x64 .f32} {x3 : FVec Ideal S8 .f32}
  {x4 : FVec Ideal S2x4096x512 .f32} (H : Holds D x0 x1 x2 x3 x4)
include H

/-- The sinks' gradient. -/
theorem result10 : val_main_v148 (F := Ideal) x0 x1 x2 x3 x4 = Cert.KernelIdeal.Tiles.ref10 D := by
  have h103 : ∀ a g, val_main_v102 (F := Ideal) x0 x1 x2 x3 x4 (ix3 a g 0) = ((D.dsink a g : ℝ) : EReal) := fun a g => by
    have h101 := fun b n i => dSinkRow_at H b n a g i
    delta val_main_v102
    pointwise []
    rw [sum3, show val_main_cst_18 (F := Ideal) (Shape.Idx.first Gen.h_S_) = 0 from zero_f32, zero_add]
    simp only [h101, ← coe_sum]
    unfold Data.dsink
    simp only [Finset.sum_neg_distrib]
  have h114 : ∀ a g, val_main_v114 (F := Ideal) x0 x1 x2 x3 x4 (ix3 a g 0) = 0 := fun a g => by
    have h113 : ∀ b n i, val_main_v113 (F := Ideal) x0 x1 x2 x3 x4 (ix6 b n a g i 0) = 0 := fun b n i => by
      rw [val_main_v113_apply, balance_at H]
      exact zero_mul _
    delta val_main_v114
    pointwise []
    rw [sum3, show val_main_cst_21 (F := Ideal) (Shape.Idx.first Gen.h_S_) = 0 from zero_f32, zero_add]
    simp only [h113, Finset.sum_const_zero]
  have h116 : ∀ a g, val_main_v116 (F := Ideal) x0 x1 x2 x3 x4 (ix6 0 0 a g 0 0) = ((D.dsink a g : ℝ) : EReal) := fun a g => by
    delta val_main_v116 val_main_v115 val_main_v103
    pointwise []
    rw [h103, h114, add_zero]
  have h123 : ∀ a g, val_main_v123 (F := Ideal) x0 x1 x2 x3 x4 (ix2 a g) = ((D.dsink a g : ℝ) : EReal) := fun a g => by
    delta val_main_v123
    pointwise []
    rw [sum1, h116, show val_main_cst_23 (F := Ideal) (Shape.Idx.first Gen.h_S_) = 0 from zero_f32, zero_add]
  have h148 : ∀ (h : Fin 8) (y z : Fin 1), val_main_v148 (F := Ideal) x0 x1 x2 x3 x4 (ix3 h y z)
      = ((D.dsink ⟨h / 4, by omega⟩ ⟨h % 4, by omega⟩ : ℝ) : EReal) := fun h y z => by
    delta val_main_v148 val_main_v124
    pointwise []
    exact h123 _ _
  funext p
  refine Eq.trans (congrArg _ ?_) (h148 (p 0) (p 1) (p 2))
  funext c
  match c with | ⟨0, _⟩ => rfl | ⟨1, _⟩ => rfl | ⟨2, _⟩ => rfl

/-- The sixteen heads of gradients. -/
theorem result9 : val_main_v147 (F := Ideal) x0 x1 x2 x3 x4 = Cert.KernelIdeal.Tiles.ref9 D := by
  have hq : ∀ (h : Fin 8) (r : Fin 8192) (d : Fin 64), val_main_v134 (F := Ideal) x0 x1 x2 x3 x4 (ix3 h r d)
      = ((D.dq ⟨r / 4096, by omega⟩ ⟨r / 128 % 32, by omega⟩ ⟨h / 4, by omega⟩ ⟨h % 4, by omega⟩ ⟨r % 128, by omega⟩ d : ℝ) : EReal) :=
    fun h r d => by
      delta val_main_v134 val_main_v133
      pointwise []
      exact dq_at H _ _ _ _ _ _
  have hk : ∀ (h : Fin 2) (r : Fin 8192) (d : Fin 64), val_main_v137 (F := Ideal) x0 x1 x2 x3 x4 (ix3 h r d)
      = ((D.dk ⟨r / 4096, by omega⟩ ⟨r / 128 % 32, by omega⟩ h ⟨128 + r % 128, by omega⟩ d : ℝ) : EReal) :=
    fun h r d => by
      delta val_main_v137 val_main_v136 val_main_v135
      pointwise []
      exact dk_at H _ _ _ _ _
  have hv : ∀ (h : Fin 2) (r : Fin 8192) (d : Fin 64), val_main_v140 (F := Ideal) x0 x1 x3 x4 (ix3 h r d)
      = ((D.dv ⟨r / 4096, by omega⟩ ⟨r / 128 % 32, by omega⟩ h ⟨128 + r % 128, by omega⟩ d : ℝ) : EReal) :=
    fun h r d => by
      delta val_main_v140 val_main_v139 val_main_v138
      pointwise []
      exact dv_at H _ _ _ _ _
  have hk' : ∀ (h : Fin 2) (r : Fin 8192) (d : Fin 64), val_main_v143 (F := Ideal) x0 x1 x2 x3 x4 (ix3 h r d)
      = ((D.dk ⟨r / 4096, by omega⟩ ⟨r / 128 % 32, by omega⟩ h ⟨r % 128, by omega⟩ d : ℝ) : EReal) :=
    fun h r d => by
      delta val_main_v143 val_main_v142 val_main_v141
      pointwise []
      exact dk_at H _ _ _ _ _
  have hv' : ∀ (h : Fin 2) (r : Fin 8192) (d : Fin 64), val_main_v146 (F := Ideal) x0 x1 x3 x4 (ix3 h r d)
      = ((D.dv ⟨r / 4096, by omega⟩ ⟨r / 128 % 32, by omega⟩ h ⟨r % 128, by omega⟩ d : ℝ) : EReal) :=
    fun h r d => by
      delta val_main_v146 val_main_v145 val_main_v144
      pointwise []
      exact dv_at H _ _ _ _ _
  have h147 : ∀ (h : Fin 16) (r : Fin 8192) (d : Fin 64), val_main_v147 (F := Ideal) x0 x1 x2 x3 x4 (ix3 h r d)
      = ((out9 D ⟨r / 4096, by omega⟩ ⟨r / 128 % 32, by omega⟩ h ⟨r % 128, by omega⟩ d : ℝ) : EReal) := fun h r d => by
    delta val_main_v147
    pointwise []
    split
    · rename_i h1
      rw [out9_dq h ⟨r % 128, by omega⟩ d ⟨h / 4, by omega⟩ ⟨h % 4, by omega⟩ ⟨r % 128, by omega⟩ d (by simp only; omega) rfl rfl]
      exact hq _ _ _
    split
    · rename_i h1 h2
      rw [out9_dk_cur h ⟨r % 128, by omega⟩ d ⟨h - 8, by omega⟩ ⟨128 + r % 128, by omega⟩ d (by simp only; omega) rfl rfl]
      exact hk _ _ _
    split
    · rename_i h1 h2 h3
      rw [out9_dv_cur h ⟨r % 128, by omega⟩ d ⟨h - 8 - 2, by omega⟩ ⟨128 + r % 128, by omega⟩ d (by simp only; omega) rfl rfl]
      exact hv _ _ _
    split
    · rename_i h1 h2 h3 h4
      rw [out9_dk_prev h ⟨r % 128, by omega⟩ d ⟨h - 8 - 2 - 2, by omega⟩ ⟨r % 128, by omega⟩ d (by simp only; omega) rfl rfl]
      exact hk' _ _ _
    · rename_i h1 h2 h3 h4
      rw [out9_dv_prev h ⟨r % 128, by omega⟩ d ⟨h - 8 - 2 - 2 - 2, by omega⟩ ⟨r % 128, by omega⟩ d (by simp only; omega) rfl rfl]
      exact hv' _ _ _
  funext p
  refine Eq.trans (congrArg _ ?_) (h147 (p 0) (p 1) (p 2))
  funext c
  match c with | ⟨0, _⟩ => rfl | ⟨1, _⟩ => rfl | ⟨2, _⟩ => rfl
end
end Cert.ReferenceIdeal.Stage
end
-- ==== Proof.AttnPre.lean ====
module
public import Idealize.ShloMosaic.Lib.Pipeline.ValueKit
public import proofs.«01_k».proof.Pre_finite
public import proofs.«01_k».proof.Proof.AttnForward

@[expose] public section
set_option maxRecDepth 16384
noncomputable section

/-! The precondition: an argument array whose entries are all smaller than infinity in size holds real numbers. -/

namespace Cert.Pre_finite
open Idealize Idealize.ShloMosaic Cert.Attn
open Cert.KernelIdeal.Block (andi_eq_one)

/-- The shape relations that the predicate's operations take. -/
theorem facts : Facts where
  shapeCasts_S2x4096x8x64_S2x4096x2x4x64 := by decide
  bcast_S_S2x4096x2x4x64 := by decide
  shapeCasts_S2x4096x512_S2x4096x2x4x64 := by decide
  shapeCasts_S2x4096x2x64_S2x4096x2x1x64 := by decide
  bcast_S_S2x4096x2x1x64 := by decide
  bcast_S2x4096x2x1x64_S2x4096x2x4x64_0_1_2_3_4 := by decide
  shapeCasts_S8_S1x1x2x4x1 := by decide
  bcast_S_S1x1x2x4x1 := by decide
  bcast_S1x1x2x4x1_S2x4096x2x4x64_0_1_2_3_4 := by decide

theorem top_f32 : Ideal.ofBits .f32 0x7F800000#32 = ⊤ := by simp [Ideal.ofBits, Ideal.ieee]

/-- A number whose size is below infinity is real. -/
theorem real_of_lt (x : EReal) (h : Ideal.cmp .olt (max x (-x)) (Ideal.ofBits .f32 0x7F800000#32) = 1#1) : x = ((x.toReal : ℝ) : EReal) := by
  rw [top_f32] at h
  induction x with
  | bot => simp [Ideal.cmp] at h
  | top => simp [Ideal.cmp] at h
  | coe r => rfl

variable [Facts] (x0 : FVec Ideal S2x4096x8x64 .f32) (x1 x2 : FVec Ideal S2x4096x2x64 .f32) (x3 : FVec Ideal S8 .f32)
  (x4 : FVec Ideal S2x4096x512 .f32)

/-- The head of query group `a` with number `g`. -/
def head (a : Fin 2) (g : Fin 4) : Fin 8 := ⟨a.val * 4 + g.val, by omega⟩
/-- The column of head `a, g` and entry `d`. -/
def column (a : Fin 2) (g : Fin 4) (d : Fin 64) : Fin 512 := ⟨a.val * 256 + g.val * 64 + d.val, by omega⟩

/-- The predicate's bit at an index is one exactly if the five entries that it reads are smaller than infinity in size. -/
theorem bit (b : Fin 2) (t : Fin 4096) (a : Fin 2) (g : Fin 4) (d : Fin 64) (h : fn (F := Ideal) x0 x1 x2 x3 x4 (ix5 b t a g d) = 1#1) :
    x0 (ix4 b t (head a g) d) = (((x0 (ix4 b t (head a g) d)).toReal : ℝ) : EReal)
    ∧ x4 (ix3 b t (column a g d)) = (((x4 (ix3 b t (column a g d))).toReal : ℝ) : EReal)
    ∧ x1 (ix4 b t a d) = (((x1 (ix4 b t a d)).toReal : ℝ) : EReal)
    ∧ x2 (ix4 b t a d) = (((x2 (ix4 b t a d)).toReal : ℝ) : EReal)
    ∧ x3 (ix1 (head a g)) = (((x3 (ix1 (head a g))).toReal : ℝ) : EReal) := by
  revert h
  delta fn fn_part1
  pointwise []
  intro h
  rw [andi_eq_one, andi_eq_one, andi_eq_one, andi_eq_one] at h
  obtain ⟨⟨⟨⟨h0, h4⟩, h1⟩, h2⟩, h3⟩ := h
  exact ⟨real_of_lt _ h0, real_of_lt _ h4, real_of_lt _ h1, real_of_lt _ h2, real_of_lt _ h3⟩

/-- The real numbers that five arrays of real entries hold. -/
def data : Data where
  q b t h d := (x0 (ix4 b t h d)).toReal
  k b t a d := (x1 (ix4 b t a d)).toReal
  v b t a d := (x2 (ix4 b t a d)).toReal
  s h := (x3 (ix1 h)).toReal
  c b t e := (x4 (ix3 b t e)).toReal

/-- Under the precondition the five arrays hold real numbers. -/
theorem holds (H : fn (F := Ideal) x0 x1 x2 x3 x4 = fun _ => 1#1) : Cert.ReferenceIdeal.Stage.Holds (data x0 x1 x2 x3 x4) x0 x1 x2 x3 x4 where
  q b t h d := by
    have e := (bit x0 x1 x2 x3 x4 b t ⟨h.val / 4, by omega⟩ ⟨h.val % 4, by omega⟩ d (congrFun H _)).1
    rwa [show head ⟨h.val / 4, by omega⟩ ⟨h.val % 4, by omega⟩ = h from Fin.ext (by simp only [head]; omega)] at e
  k b t a d := (bit x0 x1 x2 x3 x4 b t a 0 d (congrFun H _)).2.2.1
  v b t a d := (bit x0 x1 x2 x3 x4 b t a 0 d (congrFun H _)).2.2.2.1
  s h := by
    have e := (bit x0 x1 x2 x3 x4 0 0 ⟨h.val / 4, by omega⟩ ⟨h.val % 4, by omega⟩ 0 (congrFun H _)).2.2.2.2
    rwa [show head ⟨h.val / 4, by omega⟩ ⟨h.val % 4, by omega⟩ = h from Fin.ext (by simp only [head]; omega)] at e
  c b t e := by
    have h := (bit x0 x1 x2 x3 x4 b t ⟨e.val / 256, by omega⟩ ⟨e.val / 64 % 4, by omega⟩ ⟨e.val % 64, by omega⟩ (congrFun H _)).2.1
    rwa [show column ⟨e.val / 256, by omega⟩ ⟨e.val / 64 % 4, by omega⟩ ⟨e.val % 64, by omega⟩ = e from
      Fin.ext (by simp only [column]; omega)] at h

end Cert.Pre_finite

end
-- ==== Proof.FfnInGrad.lean ====
module
public import Idealize.ShloMosaic.Lib.Pipeline.ValueKit
public import Idealize.ShloMosaic.Lib.StableHlo.RunRead
public import proofs.«01_k».proof.Proof.Gen.Kernel3Ideal.Value
public import proofs.«01_k».proof.Proof.Gen.Reference3Ideal.Read

@[expose] public section
set_option maxRecDepth 16384
noncomputable section

/-! The gradient of the SwiGLU's input weights: a product over the tokens, summed block by block over the grid. -/

namespace Cert.Kernel3Ideal.Prod
open Idealize Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The blocks that the windows stage at a point. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The rows as the host hands them over. -/
def rows : FVec Ideal S8192x1024 .bf16 := truncf .bf16 (m (c, main_arg0) : FVec Ideal S8192x1024 .f32) bitsLt_bf16_f32

/-- The gradients as the host hands them over. -/
def cols : FVec Ideal S8192x5632 .bf16 := truncf .bf16 (m (c, main_arg1) : FVec Ideal S8192x5632 .f32) bitsLt_bf16_f32

/-- What the host hands over is `rows`. -/
theorem rows_eq : V m c main_v0 = rows m c := by
  unfold V
  after_reads_simp
  try rfl

/-- What the host hands over is `cols`. -/
theorem cols_eq : V m c main_v1 = cols m c := by
  unfold V
  after_reads_simp
  try rfl

/-- A block of the rows, read from the argument. -/
theorem rows_at (t : Fin cfg0.N) (k : Fin 2048) (i : Fin 1024) (r : Fin 8192) (hr : r.val = t.val % 4 * 2048 + k) :
    iblk m c 0 t (ix2 k i) = (m (c, main_arg0) : FVec Ideal S8192x1024 .f32) (ix2 r i) := by
  have e : iblk m c 0 t (ix2 k i) = (V m c main_v0 : FVec Ideal S8192x1024 .bf16) (ix2 r i) := by
    blk_ext [iblk, idx t]
  rw [e, rows_eq]
  delta rows
  pointwise []

/-- A block of the gradients, read from the argument. -/
theorem cols_at (t : Fin cfg0.N) (k : Fin 2048) (j : Fin 1408) (r : Fin 8192) (s : Fin 5632) (hr : r.val = t.val % 4 * 2048 + k)
    (hs : s.val = t.val / 4 * 1408 + j) :
    iblk m c 1 t (ix2 k j) = (m (c, main_arg1) : FVec Ideal S8192x5632 .f32) (ix2 r s) := by
  have e : iblk m c 1 t (ix2 k j) = (V m c main_v1 : FVec Ideal S8192x5632 .bf16) (ix2 r s) := by
    blk_ext [iblk, idx t]
  rw [e, cols_eq]
  delta cols
  pointwise []

/-- The product of two blocks. -/
theorem prod_at (a : FVec Ideal S2048x1024 .bf16) (b : FVec Ideal S2048x1408 .bf16) (i : Fin 1024) (j : Fin 1408) :
    k0_pay1 (F := Ideal) a b (ix2 i j) = ∑ k : Fin 2048, a (ix2 k i) * b (ix2 k j) := by
  delta k0_pay1
  pointwise []

/-- The first block's product is kept as it is. -/
theorem first_at (a : FVec Ideal S2048x1024 .bf16) (b : FVec Ideal S2048x1408 .bf16) (i : Fin 1024) (j : Fin 1408) :
    k0_pay2 (F := Ideal) a b (ix2 i j) = k0_pay1 (F := Ideal) a b (ix2 i j) := by
  delta k0_pay2
  generalize k0_pay1 (F := Ideal) a b = p
  pointwise []

/-- A later block's product is added. -/
theorem next_at (a : FVec Ideal S2048x1024 .bf16) (b : FVec Ideal S2048x1408 .bf16) (z : FVec Ideal S1024x1408 .f32) (i : Fin 1024) (j : Fin 1408) :
    k0_pay3 (F := Ideal) a b z (ix2 i j) = z (ix2 i j) + k0_pay1 (F := Ideal) a b (ix2 i j) := by
  delta k0_pay3
  generalize k0_pay1 (F := Ideal) a b = p
  pointwise []

/-- The sum is written out unchanged. -/
theorem last_at (z : FVec Ideal S1024x1408 .f32) (u : Fin 1) (i : Fin 1024) (j : Fin 1408) :
    k0_pay4 (F := Ideal) z (ix3 u i j) = z (ix2 i j) := by
  delta k0_pay4
  pointwise []

/-- One token's part of the gradient of a weight. -/
def term (x : FVec Ideal S8192x1024 .f32) (g : FVec Ideal S8192x5632 .f32) (r : Fin 8192) (i : Fin 1024) (s : Fin 5632) : EReal :=
  x (ix2 r i) * g (ix2 r s)

/-- A point's part. -/
def part (t : Fin cfg0.N) (y : S1024x1408.Idx) : EReal :=
  ∑ k : Fin 2048, term (m (c, main_arg0)) (m (c, main_arg1)) ⟨t.val % 4 * 2048 + k.val, by omega⟩ (y 0)
    ⟨t.val / 4 * 1408 + (y 1).val, by have h1 : t.val < 16 := lt_of_lt_of_eq t.isLt N_0; have h2 : (y 1).val < 1408 := (y 1).isLt; omega⟩

/-- A point's part at an index. -/
theorem part_at (t : Fin cfg0.N) (i : Fin 1024) (j : Fin 1408) :
    k0_pay1 (F := Ideal) (iblk m c 0 t) (iblk m c 1 t) (ix2 i j) = part m c t (ix2 i j) :=
  (prod_at _ _ i j).trans (Finset.sum_congr rfl fun k _ =>
    congrArg₂ (fun u v : EReal => u * v) (rows_at m c t k i _ rfl) (cols_at m c t k j _ _ rfl rfl))

/-- The running sum after the first of a tile's points. -/
theorem point_A (t : Fin cfg0.N) (h0 : t.val % 4 = 0) (y : S1024x1408.Idx) :
    (outsAt0 m c t.val t.isLt).2 y = (0 : EReal) + part m c t y := by
  obtain ⟨i, j, rfl⟩ : ∃ (i : Fin 1024) (j : Fin 1408), y = ix2 i j := ⟨y 0, y 1, by ext a; fin_cases a <;> rfl⟩
  rw [outsAt0_A m c t h0 (by omega) (by omega), zero_add]
  frame_out
  exact (first_at _ _ i j).trans (part_at m c t i j)

/-- The running sum after a later point. -/
theorem point_B (t : Fin cfg0.N) (h0 : ¬ t.val % 4 = 0) (y : S1024x1408.Idx) :
    (outsAt0 m c t.val t.isLt).2 y
      = ((outsAt0 m c (t.val - 1) (Nat.lt_of_le_of_lt (Nat.sub_le _ _) t.isLt)).2 y : EReal) + part m c t y := by
  obtain ⟨i, j, rfl⟩ : ∃ (i : Fin 1024) (j : Fin 1408), y = ix2 i j := ⟨y 0, y 1, by ext a; fin_cases a <;> rfl⟩
  by_cases h2 : t.val % 4 = 3
  · rw [outsAt0_C m c t h0 (by omega) h2]
    frame_out
    refine (next_at _ _ _ i j).trans (congrArg₂ (fun u v : EReal => u + v) ?_ (part_at m c t i j))
    exact congrFun (Memref.IsWhole.read_unread _ _) _
  · rw [outsAt0_B m c t h0 (by omega) h2]
    frame_out
    refine (next_at _ _ _ i j).trans (congrArg₂ (fun u v : EReal => u + v) ?_ (part_at m c t i j))
    exact congrFun (Memref.IsWhole.read_unread _ _) _

/-- What the last of a tile's points writes out is the running sum. -/
theorem point_C (t : Fin cfg0.N) (h2 : t.val % 4 = 3) (u : Fin 1) (i : Fin 1024) (j : Fin 1408) :
    ((outsAt0 m c t.val t.isLt).1 (ix3 u i j) : EReal) = (outsAt0 m c t.val t.isLt).2 (ix2 i j) := by
  rw [outsAt0_C m c t (by omega) (by omega) h2]
  frame_out
  exact last_at _ u i j

/-- The reference's gradient at an index. -/
theorem ref_at (x : FVec Ideal S8192x1024 .f32) (g : FVec Ideal S8192x5632 .f32) (q : Fin 4) (i : Fin 1024) (j : Fin 1408) :
    Reference3Ideal.Read.val_main_v6 (F := Ideal) x g (ix3 q i j)
      = ∑ r : Fin 8192, g (ix2 r ⟨q.val * 1408 + j.val, by omega⟩) * x (ix2 r i) := by
  delta Reference3Ideal.Read.val_main_v6 Reference3Ideal.Read.val_main_v5 Reference3Ideal.Read.val_main_v4 Reference3Ideal.Read.val_main_v3 Reference3Ideal.Read.val_main_v2
  pointwise []

/-- The four points' parts together are the sum over all tokens. -/
theorem sum_parts (q : Fin 4) (i : Fin 1024) (j : Fin 1408) (p : Fin 4 → Fin cfg0.N) (hp : ∀ s, (p s).val = 4 * q.val + s.val) :
    ∑ s : Fin 4, part m c (p s) (ix2 i j)
      = Reference3Ideal.Read.val_main_v6 (F := Ideal) (m (c, main_arg0)) (m (c, main_arg1)) (ix3 q i j) := by
  rw [ref_at]
  refine Eq.trans ?_ (Finset.sum_congr rfl fun r _ => mul_comm _ _)
  refine Eq.trans ?_ (Fin.sum_divmod_congr (A := 4) (S := 2048) (f := fun s k => term (m (c, main_arg0)) (m (c, main_arg1))
    ⟨s.val * 2048 + k.val, by omega⟩ i ⟨q.val * 1408 + j.val, by omega⟩) (fun r ha hs => ?_)).symm
  · refine Finset.sum_congr rfl fun s _ => Finset.sum_congr rfl fun k _ => ?_
    have h1 : (⟨(p s).val % 4 * 2048 + k.val, by omega⟩ : Fin 8192) = ⟨s.val * 2048 + k.val, by omega⟩ := Fin.ext (by
      show (p s).val % 4 * 2048 + k.val = s.val * 2048 + k.val
      rw [hp]; omega)
    have h2 : (⟨(p s).val / 4 * 1408 + j.val, by rw [hp]; omega⟩ : Fin 5632) = ⟨q.val * 1408 + j.val, by omega⟩ := Fin.ext (by
      show (p s).val / 4 * 1408 + j.val = q.val * 1408 + j.val
      rw [hp]; omega)
    exact congrArg₂ (fun u v => term (m (c, main_arg0)) (m (c, main_arg1)) u i v) h1 h2
  · have h1 : (⟨r.val / 2048 * 2048 + r.val % 2048, by omega⟩ : Fin 8192) = r := Fin.ext (Nat.div_add_mod' _ _)
    exact (congrArg (fun u => term (m (c, main_arg0)) (m (c, main_arg1)) u i ⟨q.val * 1408 + j.val, by omega⟩) h1).symm

/-- The tile that the last of its points writes out is the reference's. -/
theorem tile (t : Fin cfg0.N) (hm : t.val % 4 = 3) (y : S1x1024x1408.Idx) (z : S4x1024x1408.Idx) (e0 : (z 0).val = t.val / 4 + (y 0).val)
    (e1 : (z 1).val = (y 1).val) (e2 : (z 2).val = (y 2).val) :
    (outsAt0 m c t.val t.isLt).1 y = Reference3Ideal.Read.val_main_v6 (F := Ideal) (m (c, main_arg0)) (m (c, main_arg1)) z := by
  have ht : t.val < 16 := lt_of_lt_of_eq t.isLt N_0
  obtain ⟨u, i, j, rfl⟩ : ∃ (u : Fin 1) (i : Fin 1024) (j : Fin 1408), y = ix3 u i j := ⟨y 0, y 1, y 2, by ext a; fin_cases a <;> rfl⟩
  have hz : z = ix3 (⟨t.val / 4, by omega⟩ : Fin 4) i j := by
    ext a
    fin_cases a
    · exact e0.trans (by show t.val / 4 + u.val = t.val / 4; omega)
    · exact e1
    · exact e2
  rw [hz]
  refine (point_C m c t hm u i j).trans ?_
  rw [Pipeline.eq_sum_fin_of_reset_step_apply_of_flush (M := EReal) (fun n h => (outsAt0 m c n h).2) 4 (fun _ => 0)
    (fun t y => part m c t y) (fun t h y => point_A m c t h y) (fun t h y => point_B m c t h y) t hm _, zero_add]
  exact sum_parts m c ⟨t.val / 4, by omega⟩ i j _ (fun s => rfl)

/-- The array after the last point. -/
theorem final : (dats m 0 c).arrAt 2 (cfgs 0).N = Reference3Ideal.Read.val_main_v6 (F := Ideal) (m (c, main_arg0)) (m (c, main_arg1)) := by
  refine (dats m 0 c).arrAt_eq_of_covers 2 _ (by decide +kernel) fun t hf y => ?_
  blk_simp
  rw [after0_2]
  exact tile m c t ((flush0_2 t).mp hf) y _ (by blk_simp [idx t]) (by blk_simp [idx t]) (by blk_simp [idx t])

end Cert.Kernel3Ideal.Prod
end
-- ==== Proof.InGrad.lean ====
module
public import Idealize.ShloMosaic.Lib.Pipeline.ValueKit
public import Idealize.ShloMosaic.Lib.StableHlo.RunRead
public import proofs.«01_k».proof.Proof.Gen.Kernel5Ideal.Value
public import proofs.«01_k».proof.Proof.Gen.Reference5Ideal.Read

@[expose] public section
set_option maxRecDepth 16384
noncomputable section

/-! The gradient of the block's input weights: a product over the tokens, summed block by block over the grid. -/

namespace Cert.Kernel5Ideal.Prod
open Idealize Idealize.ShloMosaic Idealize.ShloMosaic.TcCoe Idealize.SL.Sem Cert.Kernel5Ideal Cert.Kernel5Ideal.Gen

variable (m : (ℓ : Loc nD τ sig) → Buf (Elt Ideal) ℓ) (c : Dev nD)

/-- The blocks that the windows stage at a point. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The rows as the host hands them over. -/
def rows : FVec Ideal S8192x1024 .bf16 := truncf .bf16 (m (c, main_arg0) : FVec Ideal S8192x1024 .f32) bitsLt_bf16_f32

/-- The gradients as the host hands them over. -/
def cols : FVec Ideal S8192x4608 .bf16 := truncf .bf16 (m (c, main_arg1) : FVec Ideal S8192x4608 .f32) bitsLt_bf16_f32

/-- What the host hands over is `rows`. -/
theorem rows_eq : V m c main_v0 = rows m c := by
  unfold V
  after_reads_simp
  try rfl

/-- What the host hands over is `cols`. -/
theorem cols_eq : V m c main_v1 = cols m c := by
  unfold V
  after_reads_simp
  try rfl

/-- A block of the rows, read from the argument. -/
theorem rows_at (t : Fin cfg0.N) (k : Fin 2048) (i : Fin 1024) (r : Fin 8192) (hr : r.val = t.val % 4 * 2048 + k) :
    iblk m c 0 t (ix2 k i) = (m (c, main_arg0) : FVec Ideal S8192x1024 .f32) (ix2 r i) := by
  have e : iblk m c 0 t (ix2 k i) = (V m c main_v0 : FVec Ideal S8192x1024 .bf16) (ix2 r i) := by
    blk_ext [iblk, idx t]
  rw [e, rows_eq]
  delta rows
  pointwise []

/-- A block of the gradients, read from the argument. -/
theorem cols_at (t : Fin cfg0.N) (k : Fin 2048) (j : Fin 1152) (r : Fin 8192) (s : Fin 4608) (hr : r.val = t.val % 4 * 2048 + k)
    (hs : s.val = t.val / 4 * 1152 + j) :
    iblk m c 1 t (ix2 k j) = (m (c, main_arg1) : FVec Ideal S8192x4608 .f32) (ix2 r s) := by
  have e : iblk m c 1 t (ix2 k j) = (V m c main_v1 : FVec Ideal S8192x4608 .bf16) (ix2 r s) := by
    blk_ext [iblk, idx t]
  rw [e, cols_eq]
  delta cols
  pointwise []

/-- The product of two blocks. -/
theorem prod_at (a : FVec Ideal S2048x1024 .bf16) (b : FVec Ideal S2048x1152 .bf16) (i : Fin 1024) (j : Fin 1152) :
    k0_pay1 (F := Ideal) a b (ix2 i j) = ∑ k : Fin 2048, a (ix2 k i) * b (ix2 k j) := by
  delta k0_pay1
  pointwise []

/-- The first block's product is kept as it is. -/
theorem first_at (a : FVec Ideal S2048x1024 .bf16) (b : FVec Ideal S2048x1152 .bf16) (i : Fin 1024) (j : Fin 1152) :
    k0_pay2 (F := Ideal) a b (ix2 i j) = k0_pay1 (F := Ideal) a b (ix2 i j) := by
  delta k0_pay2
  generalize k0_pay1 (F := Ideal) a b = p
  pointwise []

/-- A later block's product is added. -/
theorem next_at (a : FVec Ideal S2048x1024 .bf16) (b : FVec Ideal S2048x1152 .bf16) (z : FVec Ideal S1024x1152 .f32) (i : Fin 1024) (j : Fin 1152) :
    k0_pay3 (F := Ideal) a b z (ix2 i j) = z (ix2 i j) + k0_pay1 (F := Ideal) a b (ix2 i j) := by
  delta k0_pay3
  generalize k0_pay1 (F := Ideal) a b = p
  pointwise []

/-- The sum is written out unchanged. -/
theorem last_at (z : FVec Ideal S1024x1152 .f32) (u : Fin 1) (i : Fin 1024) (j : Fin 1152) :
    k0_pay4 (F := Ideal) z (ix3 u i j) = z (ix2 i j) := by
  delta k0_pay4
  pointwise []

/-- One token's part of the gradient of a weight. -/
def term (x : FVec Ideal S8192x1024 .f32) (g : FVec Ideal S8192x4608 .f32) (r : Fin 8192) (i : Fin 1024) (s : Fin 4608) : EReal :=
  x (ix2 r i) * g (ix2 r s)

/-- A point's part. -/
def part (t : Fin cfg0.N) (y : S1024x1152.Idx) : EReal :=
  ∑ k : Fin 2048, term (m (c, main_arg0)) (m (c, main_arg1)) ⟨t.val % 4 * 2048 + k.val, by omega⟩ (y 0)
    ⟨t.val / 4 * 1152 + (y 1).val, by have h1 : t.val < 16 := lt_of_lt_of_eq t.isLt N_0; have h2 : (y 1).val < 1152 := (y 1).isLt; omega⟩

/-- A point's part at an index. -/
theorem part_at (t : Fin cfg0.N) (i : Fin 1024) (j : Fin 1152) :
    k0_pay1 (F := Ideal) (iblk m c 0 t) (iblk m c 1 t) (ix2 i j) = part m c t (ix2 i j) :=
  (prod_at _ _ i j).trans (Finset.sum_congr rfl fun k _ =>
    congrArg₂ (fun u v : EReal => u * v) (rows_at m c t k i _ rfl) (cols_at m c t k j _ _ rfl rfl))

/-- The running sum after the first of a tile's points. -/
theorem point_A (t : Fin cfg0.N) (h0 : t.val % 4 = 0) (y : S1024x1152.Idx) :
    (outsAt0 m c t.val t.isLt).2 y = (0 : EReal) + part m c t y := by
  obtain ⟨i, j, rfl⟩ : ∃ (i : Fin 1024) (j : Fin 1152), y = ix2 i j := ⟨y 0, y 1, by ext a; fin_cases a <;> rfl⟩
  rw [outsAt0_A m c t h0 (by omega) (by omega), zero_add]
  frame_out
  exact (first_at _ _ i j).trans (part_at m c t i j)

/-- The running sum after a later point. -/
theorem point_B (t : Fin cfg0.N) (h0 : ¬ t.val % 4 = 0) (y : S1024x1152.Idx) :
    (outsAt0 m c t.val t.isLt).2 y
      = ((outsAt0 m c (t.val - 1) (Nat.lt_of_le_of_lt (Nat.sub_le _ _) t.isLt)).2 y : EReal) + part m c t y := by
  obtain ⟨i, j, rfl⟩ : ∃ (i : Fin 1024) (j : Fin 1152), y = ix2 i j := ⟨y 0, y 1, by ext a; fin_cases a <;> rfl⟩
  by_cases h2 : t.val % 4 = 3
  · rw [outsAt0_C m c t h0 (by omega) h2]
    frame_out
    refine (next_at _ _ _ i j).trans (congrArg₂ (fun u v : EReal => u + v) ?_ (part_at m c t i j))
    exact congrFun (Memref.IsWhole.read_unread _ _) _
  · rw [outsAt0_B m c t h0 (by omega) h2]
    frame_out
    refine (next_at _ _ _ i j).trans (congrArg₂ (fun u v : EReal => u + v) ?_ (part_at m c t i j))
    exact congrFun (Memref.IsWhole.read_unread _ _) _

/-- What the last of a tile's points writes out is the running sum. -/
theorem point_C (t : Fin cfg0.N) (h2 : t.val % 4 = 3) (u : Fin 1) (i : Fin 1024) (j : Fin 1152) :
    ((outsAt0 m c t.val t.isLt).1 (ix3 u i j) : EReal) = (outsAt0 m c t.val t.isLt).2 (ix2 i j) := by
  rw [outsAt0_C m c t (by omega) (by omega) h2]
  frame_out
  exact last_at _ u i j

/-- The reference's gradient at an index. -/
theorem ref_at (x : FVec Ideal S8192x1024 .f32) (g : FVec Ideal S8192x4608 .f32) (q : Fin 4) (i : Fin 1024) (j : Fin 1152) :
    Reference5Ideal.Read.val_main_v6 (F := Ideal) x g (ix3 q i j)
      = ∑ r : Fin 8192, g (ix2 r ⟨q.val * 1152 + j.val, by omega⟩) * x (ix2 r i) := by
  delta Reference5Ideal.Read.val_main_v6 Reference5Ideal.Read.val_main_v5 Reference5Ideal.Read.val_main_v4 Reference5Ideal.Read.val_main_v3 Reference5Ideal.Read.val_main_v2
  pointwise []

/-- The four points' parts together are the sum over all tokens. -/
theorem sum_parts (q : Fin 4) (i : Fin 1024) (j : Fin 1152) (p : Fin 4 → Fin cfg0.N) (hp : ∀ s, (p s).val = 4 * q.val + s.val) :
    ∑ s : Fin 4, part m c (p s) (ix2 i j)
      = Reference5Ideal.Read.val_main_v6 (F := Ideal) (m (c, main_arg0)) (m (c, main_arg1)) (ix3 q i j) := by
  rw [ref_at]
  refine Eq.trans ?_ (Finset.sum_congr rfl fun r _ => mul_comm _ _)
  refine Eq.trans ?_ (Fin.sum_divmod_congr (A := 4) (S := 2048) (f := fun s k => term (m (c, main_arg0)) (m (c, main_arg1))
    ⟨s.val * 2048 + k.val, by omega⟩ i ⟨q.val * 1152 + j.val, by omega⟩) (fun r ha hs => ?_)).symm
  · refine Finset.sum_congr rfl fun s _ => Finset.sum_congr rfl fun k _ => ?_
    have h1 : (⟨(p s).val % 4 * 2048 + k.val, by omega⟩ : Fin 8192) = ⟨s.val * 2048 + k.val, by omega⟩ := Fin.ext (by
      show (p s).val % 4 * 2048 + k.val = s.val * 2048 + k.val
      rw [hp]; omega)
    have h2 : (⟨(p s).val / 4 * 1152 + j.val, by rw [hp]; omega⟩ : Fin 4608) = ⟨q.val * 1152 + j.val, by omega⟩ := Fin.ext (by
      show (p s).val / 4 * 1152 + j.val = q.val * 1152 + j.val
      rw [hp]; omega)
    exact congrArg₂ (fun u v => term (m (c, main_arg0)) (m (c, main_arg1)) u i v) h1 h2
  · have h1 : (⟨r.val / 2048 * 2048 + r.val % 2048, by omega⟩ : Fin 8192) = r := Fin.ext (Nat.div_add_mod' _ _)
    exact (congrArg (fun u => term (m (c, main_arg0)) (m (c, main_arg1)) u i ⟨q.val * 1152 + j.val, by omega⟩) h1).symm

/-- The tile that the last of its points writes out is the reference's. -/
theorem tile (t : Fin cfg0.N) (hm : t.val % 4 = 3) (y : S1x1024x1152.Idx) (z : S4x1024x1152.Idx) (e0 : (z 0).val = t.val / 4 + (y 0).val)
    (e1 : (z 1).val = (y 1).val) (e2 : (z 2).val = (y 2).val) :
    (outsAt0 m c t.val t.isLt).1 y = Reference5Ideal.Read.val_main_v6 (F := Ideal) (m (c, main_arg0)) (m (c, main_arg1)) z := by
  have ht : t.val < 16 := lt_of_lt_of_eq t.isLt N_0
  obtain ⟨u, i, j, rfl⟩ : ∃ (u : Fin 1) (i : Fin 1024) (j : Fin 1152), y = ix3 u i j := ⟨y 0, y 1, y 2, by ext a; fin_cases a <;> rfl⟩
  have hz : z = ix3 (⟨t.val / 4, by omega⟩ : Fin 4) i j := by
    ext a
    fin_cases a
    · exact e0.trans (by show t.val / 4 + u.val = t.val / 4; omega)
    · exact e1
    · exact e2
  rw [hz]
  refine (point_C m c t hm u i j).trans ?_
  rw [Pipeline.eq_sum_fin_of_reset_step_apply_of_flush (M := EReal) (fun n h => (outsAt0 m c n h).2) 4 (fun _ => 0)
    (fun t y => part m c t y) (fun t h y => point_A m c t h y) (fun t h y => point_B m c t h y) t hm _, zero_add]
  exact sum_parts m c ⟨t.val / 4, by omega⟩ i j _ (fun s => rfl)

/-- The array after the last point. -/
theorem final : (dats m 0 c).arrAt 2 (cfgs 0).N = Reference5Ideal.Read.val_main_v6 (F := Ideal) (m (c, main_arg0)) (m (c, main_arg1)) := by
  refine (dats m 0 c).arrAt_eq_of_covers 2 _ (by decide +kernel) fun t hf y => ?_
  blk_simp
  rw [after0_2]
  exact tile m c t ((flush0_2 t).mp hf) y _ (by blk_simp [idx t]) (by blk_simp [idx t]) (by blk_simp [idx t])

end Cert.Kernel5Ideal.Prod
end
-- ==== Proof.FfnIn.lean ====
module
public import Idealize.ShloMosaic.Lib.Pipeline.ValueKit
public import Idealize.ShloMosaic.Lib.StableHlo.RunRead
public import proofs.«01_k».proof.Proof.Gen.Kernel6Ideal.Value
public import proofs.«01_k».proof.Proof.Gen.Reference6Ideal.Read

@[expose] public section
set_option maxRecDepth 16384
noncomputable section

/-! The forward product of the SwiGLU's input weights, tile by tile. -/

namespace Cert.Kernel6Ideal.Prod
open Idealize Idealize.ShloMosaic Idealize.ShloMosaic.TcCoe Idealize.SL.Sem Cert.Kernel6Ideal Cert.Kernel6Ideal.Gen

variable (m : (ℓ : Loc nD τ sig) → Buf (Elt Ideal) ℓ) (c : Dev nD)

/-- The blocks that the windows stage at a point. -/
theorem idx : ∀ t : Fin cfg0.N, win0_0.index t = ![t.val % 8, 0] ∧ win0_1.index t = ![t.val / 8, 0, 0] ∧ win0_2.index t = ![t.val % 8, t.val / 8] :=
  (by decide +kernel : ∀ t : Fin grid0.N, _)

/-- The rows as the host hands them over. -/
def rows : FVec Ideal S8192x1024 .bf16 := truncf .bf16 (m (c, main_arg0) : FVec Ideal S8192x1024 .f32) bitsLt_bf16_f32

/-- The weights as the host hands them over: the columns of one chip after those of another. -/
def cols : FVec Ideal S4x1024x1408 .bf16 := truncf .bf16 (transpose S4x1024x1408 [1, 0, 2]
    (shapeCast S1024x4x1408 (m (c, main_arg1) : FVec Ideal S1024x5632 .f32) shapeCasts_S1024x5632_S1024x4x1408) transposes_S1024x4x1408_S4x1024x1408_1_0_2) bitsLt_bf16_f32

/-- What the host hands over is `rows`. -/
theorem rows_eq : V m c main_v0 = rows m c := by
  unfold V
  after_reads_simp
  try rfl

/-- What the host hands over is `cols`. -/
theorem cols_eq : V m c main_v3 = cols m c := by
  unfold V
  after_reads_simp
  try rfl

/-- A block of the rows, read from the argument. -/
theorem rows_at (t : Fin cfg0.N) (i : Fin 1024) (k : Fin 1024) (r : Fin 8192) (hr : r.val = t.val % 8 * 1024 + i) :
    iblk m c 0 t (ix2 i k) = (m (c, main_arg0) : FVec Ideal S8192x1024 .f32) (ix2 r k) := by
  have e : iblk m c 0 t (ix2 i k) = (V m c main_v0 : FVec Ideal S8192x1024 .bf16) (ix2 r k) := by
    blk_ext [iblk, idx t]
  rw [e, rows_eq]
  delta rows
  pointwise []

/-- A block of the weights, read from the argument. -/
theorem cols_at (t : Fin cfg0.N) (z : Fin 1) (k : Fin 1024) (j : Fin 1408) (s : Fin 5632) (hs : s.val = t.val / 8 * 1408 + j) :
    iblk m c 1 t (ix3 z k j) = (m (c, main_arg1) : FVec Ideal S1024x5632 .f32) (ix2 k s) := by
  have ht : t.val < 32 := lt_of_lt_of_eq t.isLt N_0
  have e : iblk m c 1 t (ix3 z k j) = (V m c main_v3 : FVec Ideal S4x1024x1408 .bf16) (ix3 (⟨t.val / 8, by omega⟩ : Fin 4) k j) := by
    blk_ext [iblk, idx t]
  rw [e, cols_eq]
  delta cols
  pointwise []
  exact congrArg (fun u => (m (c, main_arg1) : FVec Ideal S1024x5632 .f32) (ix2 k u)) (Fin.ext hs.symm)

/-- What a point stores: the product of its blocks. -/
theorem out_at (a : FVec Ideal S1024x1024 .bf16) (b : FVec Ideal S1x1024x1408 .bf16) (i : Fin 1024) (j : Fin 1408) :
    k0_pay1 (F := Ideal) a b (ix2 i j) = ∑ k : Fin 1024, a (ix2 i k) * b (ix3 0 k j) := by
  delta k0_pay1
  pointwise []

/-- The reference's product at an index. -/
theorem ref_at (x : FVec Ideal S8192x1024 .f32) (w : FVec Ideal S1024x5632 .f32) (r : Fin 8192) (s : Fin 5632) :
    Reference6Ideal.Read.val_main_v1 (F := Ideal) x w (ix2 r s) = ∑ k : Fin 1024, x (ix2 r k) * w (ix2 k s) := by
  delta Reference6Ideal.Read.val_main_v1 Reference6Ideal.Read.val_main_v0
  pointwise []

/-- A point's tile is the reference's. -/
theorem tile (t : Fin cfg0.N) (y : S1024x1408.Idx) (z : S8192x5632.Idx) (e0 : (z 0).val = t.val % 8 * 1024 + (y 0).val)
    (e1 : (z 1).val = t.val / 8 * 1408 + (y 1).val) :
    out0_2 (iblk m c 0 t) (iblk m c 1 t) y = Reference6Ideal.Read.val_main_v1 (F := Ideal) (m (c, main_arg0)) (m (c, main_arg1)) z := by
  obtain ⟨i, j, rfl⟩ : ∃ (i : Fin 1024) (j : Fin 1408), y = ix2 i j := ⟨y 0, y 1, by ext a; fin_cases a <;> rfl⟩
  obtain ⟨r, s, rfl⟩ : ∃ (r : Fin 8192) (s : Fin 5632), z = ix2 r s := ⟨z 0, z 1, by ext a; fin_cases a <;> rfl⟩
  unfold out0_2
  rw [View.canon_cons_unit_zero (by decide), View.ld_unit_zero (by decide), View.ld_unit_zero (by decide)]
  refine (out_at _ _ _ _).trans (Eq.trans ?_ (ref_at _ _ _ _).symm)
  exact Finset.sum_congr rfl fun k _ => congrArg₂ (fun u v : EReal => u * v) (rows_at m c t i k r e0) (cols_at m c t 0 k j s e1)

/-- The array after the last point. -/
theorem final : (dats m 0 c).arrAt 2 (cfgs 0).N = Reference6Ideal.Read.val_main_v1 (F := Ideal) (m (c, main_arg0)) (m (c, main_arg1)) := by
  refine (dats m 0 c).arrAt_eq_of_covers 2 _ (by decide +kernel) fun t hf y => ?_
  blk_simp
  rw [after0_2]
  exact tile m c t y _ (by blk_simp [idx t]) (by blk_simp [idx t])

end Cert.Kernel6Ideal.Prod
end
-- ==== Proof.In.lean ====
module
public import Idealize.ShloMosaic.Lib.Pipeline.ValueKit
public import Idealize.ShloMosaic.Lib.StableHlo.RunRead
public import proofs.«01_k».proof.Proof.Gen.Kernel7Ideal.Value
public import proofs.«01_k».proof.Proof.Gen.Reference7Ideal.Read

@[expose] public section
set_option maxRecDepth 16384
noncomputable section

/-! The forward product of the block's input weights, tile by tile. -/

namespace Cert.Kernel7Ideal.Prod
open Idealize Idealize.ShloMosaic Idealize.ShloMosaic.TcCoe Idealize.SL.Sem Cert.Kernel7Ideal Cert.Kernel7Ideal.Gen

variable (m : (ℓ : Loc nD τ sig) → Buf (Elt Ideal) ℓ) (c : Dev nD)

/-- The blocks that the windows stage at a point. -/
theorem idx : ∀ t : Fin cfg0.N, win0_0.index t = ![t.val % 8, 0] ∧ win0_1.index t = ![t.val / 8, 0, 0] ∧ win0_2.index t = ![t.val % 8, t.val / 8] :=
  (by decide +kernel : ∀ t : Fin grid0.N, _)

/-- The rows as the host hands them over. -/
def rows : FVec Ideal S8192x1024 .bf16 := truncf .bf16 (m (c, main_arg0) : FVec Ideal S8192x1024 .f32) bitsLt_bf16_f32

/-- The weights as the host hands them over: the columns of one chip after those of another. -/
def cols : FVec Ideal S4x1024x1152 .bf16 := truncf .bf16 (transpose S4x1024x1152 [1, 0, 2]
    (shapeCast S1024x4x1152 (m (c, main_arg1) : FVec Ideal S1024x4608 .f32) shapeCasts_S1024x4608_S1024x4x1152) transposes_S1024x4x1152_S4x1024x1152_1_0_2) bitsLt_bf16_f32

/-- What the host hands over is `rows`. -/
theorem rows_eq : V m c main_v0 = rows m c := by
  unfold V
  after_reads_simp
  try rfl

/-- What the host hands over is `cols`. -/
theorem cols_eq : V m c main_v3 = cols m c := by
  unfold V
  after_reads_simp
  try rfl

/-- A block of the rows, read from the argument. -/
theorem rows_at (t : Fin cfg0.N) (i : Fin 1024) (k : Fin 1024) (r : Fin 8192) (hr : r.val = t.val % 8 * 1024 + i) :
    iblk m c 0 t (ix2 i k) = (m (c, main_arg0) : FVec Ideal S8192x1024 .f32) (ix2 r k) := by
  have e : iblk m c 0 t (ix2 i k) = (V m c main_v0 : FVec Ideal S8192x1024 .bf16) (ix2 r k) := by
    blk_ext [iblk, idx t]
  rw [e, rows_eq]
  delta rows
  pointwise []

/-- A block of the weights, read from the argument. -/
theorem cols_at (t : Fin cfg0.N) (z : Fin 1) (k : Fin 1024) (j : Fin 1152) (s : Fin 4608) (hs : s.val = t.val / 8 * 1152 + j) :
    iblk m c 1 t (ix3 z k j) = (m (c, main_arg1) : FVec Ideal S1024x4608 .f32) (ix2 k s) := by
  have ht : t.val < 32 := lt_of_lt_of_eq t.isLt N_0
  have e : iblk m c 1 t (ix3 z k j) = (V m c main_v3 : FVec Ideal S4x1024x1152 .bf16) (ix3 (⟨t.val / 8, by omega⟩ : Fin 4) k j) := by
    blk_ext [iblk, idx t]
  rw [e, cols_eq]
  delta cols
  pointwise []
  exact congrArg (fun u => (m (c, main_arg1) : FVec Ideal S1024x4608 .f32) (ix2 k u)) (Fin.ext hs.symm)

/-- What a point stores: the product of its blocks. -/
theorem out_at (a : FVec Ideal S1024x1024 .bf16) (b : FVec Ideal S1x1024x1152 .bf16) (i : Fin 1024) (j : Fin 1152) :
    k0_pay1 (F := Ideal) a b (ix2 i j) = ∑ k : Fin 1024, a (ix2 i k) * b (ix3 0 k j) := by
  delta k0_pay1
  pointwise []

/-- The reference's product at an index. -/
theorem ref_at (x : FVec Ideal S8192x1024 .f32) (w : FVec Ideal S1024x4608 .f32) (r : Fin 8192) (s : Fin 4608) :
    Reference7Ideal.Read.val_main_v1 (F := Ideal) x w (ix2 r s) = ∑ k : Fin 1024, x (ix2 r k) * w (ix2 k s) := by
  delta Reference7Ideal.Read.val_main_v1 Reference7Ideal.Read.val_main_v0
  pointwise []

/-- A point's tile is the reference's. -/
theorem tile (t : Fin cfg0.N) (y : S1024x1152.Idx) (z : S8192x4608.Idx) (e0 : (z 0).val = t.val % 8 * 1024 + (y 0).val)
    (e1 : (z 1).val = t.val / 8 * 1152 + (y 1).val) :
    out0_2 (iblk m c 0 t) (iblk m c 1 t) y = Reference7Ideal.Read.val_main_v1 (F := Ideal) (m (c, main_arg0)) (m (c, main_arg1)) z := by
  obtain ⟨i, j, rfl⟩ : ∃ (i : Fin 1024) (j : Fin 1152), y = ix2 i j := ⟨y 0, y 1, by ext a; fin_cases a <;> rfl⟩
  obtain ⟨r, s, rfl⟩ : ∃ (r : Fin 8192) (s : Fin 4608), z = ix2 r s := ⟨z 0, z 1, by ext a; fin_cases a <;> rfl⟩
  unfold out0_2
  rw [View.canon_cons_unit_zero (by decide), View.ld_unit_zero (by decide), View.ld_unit_zero (by decide)]
  refine (out_at _ _ _ _).trans (Eq.trans ?_ (ref_at _ _ _ _).symm)
  exact Finset.sum_congr rfl fun k _ => congrArg₂ (fun u v : EReal => u * v) (rows_at m c t i k r e0) (cols_at m c t 0 k j s e1)

/-- The array after the last point. -/
theorem final : (dats m 0 c).arrAt 2 (cfgs 0).N = Reference7Ideal.Read.val_main_v1 (F := Ideal) (m (c, main_arg0)) (m (c, main_arg1)) := by
  refine (dats m 0 c).arrAt_eq_of_covers 2 _ (by decide +kernel) fun t hf y => ?_
  blk_simp
  rw [after0_2]
  exact tile m c t y _ (by blk_simp [idx t]) (by blk_simp [idx t])

end Cert.Kernel7Ideal.Prod
end
-- ==== Proof.FfnOut.lean ====
module
public import Idealize.ShloMosaic.Lib.Pipeline.ValueKit
public import Idealize.ShloMosaic.Lib.StableHlo.RunRead
public import proofs.«01_k».proof.Proof.Gen.Kernel8Ideal.Value
public import proofs.«01_k».proof.Proof.Gen.Reference8Ideal.Read

@[expose] public section
set_option maxRecDepth 16384
noncomputable section

/-! The forward product of the SwiGLU's output weights, with the activation and the residual sum inside, tile by tile. -/

namespace Cert.Kernel8Ideal.Prod
open Idealize Idealize.ShloMosaic Idealize.ShloMosaic.TcCoe Idealize.SL.Sem Cert.Kernel8Ideal Cert.Kernel8Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![t.val, 1] ∧ win0_2.index t = ![0, 0]
    ∧ win0_3.index t = ![t.val, 0] ∧ win0_4.index t = ![t.val, 0] ∧ win0_5.index t = ![t.val, 0] :=
  (by decide +kernel : ∀ t : Fin grid0.N, _)

/-- The pre-activations as the host hands them over. -/
def pres : FVec Ideal S8192x5632 .bf16 := truncf .bf16 (m (c, main_arg0) : FVec Ideal S8192x5632 .f32) bitsLt_bf16_f32

/-- The weights as the host hands them over. -/
def cols : FVec Ideal S2816x1024 .bf16 := truncf .bf16 (m (c, main_arg1) : FVec Ideal S2816x1024 .f32) bitsLt_bf16_f32

/-- What the host hands over is `pres`. -/
theorem pres_eq : V m c main_v0 = pres m c := by
  unfold V
  after_reads_simp
  try rfl

/-- What the host hands over is `cols`. -/
theorem cols_eq : V m c main_v1 = cols m c := by
  unfold V
  after_reads_simp
  try rfl

/-- The residual is handed over as it is. -/
theorem res_eq : V m c main_arg2 = m (c, main_arg2) := by
  unfold V
  after_reads_simp
  try rfl

/-- A block of the gates, read from the argument. -/
theorem gate_at (t : Fin cfg0.N) (i : Fin 256) (k : Fin 2816) (r : Fin 8192) (s : Fin 5632) (hr : r.val = t.val * 256 + i) (hs : s.val = k) :
    iblk m c 0 t (ix2 i k) = (m (c, main_arg0) : FVec Ideal S8192x5632 .f32) (ix2 r s) := by
  have e : iblk m c 0 t (ix2 i k) = (V m c main_v0 : FVec Ideal S8192x5632 .bf16) (ix2 r s) := by
    blk_ext [iblk, idx t]
  rw [e, pres_eq]
  delta pres
  pointwise []

/-- A block of the values to be gated, read from the argument. -/
theorem up_at (t : Fin cfg0.N) (i : Fin 256) (k : Fin 2816) (r : Fin 8192) (s : Fin 5632) (hr : r.val = t.val * 256 + i) (hs : s.val = 2816 + k) :
    iblk m c 1 t (ix2 i k) = (m (c, main_arg0) : FVec Ideal S8192x5632 .f32) (ix2 r s) := by
  have e : iblk m c 1 t (ix2 i k) = (V m c main_v0 : FVec Ideal S8192x5632 .bf16) (ix2 r s) := by
    blk_ext [iblk, idx t]
  rw [e, pres_eq]
  delta pres
  pointwise []

/-- The weights, read from the argument. -/
theorem cols_at (t : Fin cfg0.N) (k : Fin 2816) (j : Fin 1024) :
    iblk m c 2 t (ix2 k j) = (m (c, main_arg1) : FVec Ideal S2816x1024 .f32) (ix2 k j) := by
  have e : iblk m c 2 t (ix2 k j) = (V m c main_v1 : FVec Ideal S2816x1024 .bf16) (ix2 k j) := by
    blk_ext [iblk, idx t]
  rw [e, cols_eq]
  delta cols
  pointwise []

/-- A block of the residual, read from the argument. -/
theorem res_at (t : Fin cfg0.N) (i : Fin 256) (j : Fin 1024) (r : Fin 8192) (hr : r.val = t.val * 256 + i) :
    iblk m c 3 t (ix2 i j) = (m (c, main_arg2) : FVec Ideal S8192x1024 .f32) (ix2 r j) := by
  have e : iblk m c 3 t (ix2 i j) = (V m c main_arg2 : FVec Ideal S8192x1024 .f32) (ix2 r j) := by
    blk_ext [iblk, idx t]
  rw [e, res_eq]

/-- The activation of a gate and a value. -/
def act (a b : EReal) : EReal := k0_pay1 (F := Ideal) (fun _ => a) (fun _ => b) (ix2 0 0)

/-- A point's activation at an index. -/
theorem act_at (a b : FVec Ideal S256x2816 .bf16) (i : Fin 256) (k : Fin 2816) : k0_pay1 (F := Ideal) a b (ix2 i k) = act (a (ix2 i k)) (b (ix2 i k)) := by
  delta act k0_pay1
  pointwise []

/-- The reference's activation at an index. -/
theorem ref_act_at (f : FVec Ideal S8192x5632 .f32) (r : Fin 8192) (k : Fin 2816) :
    Reference8Ideal.Read.val_main_v3 (F := Ideal) f (ix2 r k) = act (f (ix2 r ⟨k.val, by omega⟩)) (f (ix2 r ⟨2816 + k.val, by omega⟩)) := by
  delta act k0_pay1 Reference8Ideal.Read.val_main_v3 Reference8Ideal.Read.val_main_v2 Reference8Ideal.Read.val_main_v1 Reference8Ideal.Read.val_main_v0
    Reference8Ideal.Read.val_main_call0_v5 Reference8Ideal.Read.val_main_call0_v4 Reference8Ideal.Read.val_main_call0_v3 Reference8Ideal.Read.val_main_call0_v2
    Reference8Ideal.Read.val_main_call0_v1 Reference8Ideal.Read.val_main_call0_v0 Reference8Ideal.Read.val_main_call0_cst Reference8Ideal.Read.val_main_call0_cst_0
  pointwise []
  rfl

/-- The activation is written out as it is. -/
theorem act_out_at (a b : FVec Ideal S256x2816 .bf16) (i : Fin 256) (k : Fin 2816) : k0_pay2 (F := Ideal) a b (ix2 i k) = k0_pay1 (F := Ideal) a b (ix2 i k) := by
  delta k0_pay2
  generalize k0_pay1 (F := Ideal) a b = p
  pointwise []

/-- What a point stores: the activations against the weights, plus the residual. -/
theorem out_at (a b : FVec Ideal S256x2816 .bf16) (w : FVec Ideal S2816x1024 .bf16) (x : FVec Ideal S256x1024 .f32) (i : Fin 256) (j : Fin 1024) :
    k0_pay3 (F := Ideal) a b w x (ix2 i j) = (∑ k : Fin 2816, k0_pay1 (F := Ideal) a b (ix2 i k) * w (ix2 k j)) + x (ix2 i j) := by
  delta k0_pay3
  generalize k0_pay1 (F := Ideal) a b = p
  pointwise []

/-- The reference's first result at an index. -/
theorem ref_out_at (f : FVec Ideal S8192x5632 .f32) (w : FVec Ideal S2816x1024 .f32) (x : FVec Ideal S8192x1024 .f32) (r : Fin 8192) (j : Fin 1024) :
    Reference8Ideal.Read.val_main_v5 (F := Ideal) f w x (ix2 r j)
      = x (ix2 r j) + ∑ k : Fin 2816, Reference8Ideal.Read.val_main_v3 (F := Ideal) f (ix2 r k) * w (ix2 k j) := by
  delta Reference8Ideal.Read.val_main_v5 Reference8Ideal.Read.val_main_v4
  generalize Reference8Ideal.Read.val_main_v3 (F := Ideal) f = p
  pointwise []

/-- The reference's second result is its activation. -/
theorem ref_act_out_at (f : FVec Ideal S8192x5632 .f32) (r : Fin 8192) (k : Fin 2816) :
    Reference8Ideal.Read.val_main_v6 (F := Ideal) f (ix2 r k) = Reference8Ideal.Read.val_main_v3 (F := Ideal) f (ix2 r k) := by
  delta Reference8Ideal.Read.val_main_v6
  generalize Reference8Ideal.Read.val_main_v3 (F := Ideal) f = p
  pointwise []

/-- A point's activations are the reference's. -/
theorem act_eq (t : Fin cfg0.N) (i : Fin 256) (k : Fin 2816) (r : Fin 8192) (hr : r.val = t.val * 256 + i) :
    k0_pay1 (F := Ideal) (iblk m c 0 t) (iblk m c 1 t) (ix2 i k) = Reference8Ideal.Read.val_main_v3 (F := Ideal) (m (c, main_arg0)) (ix2 r k) := by
  refine (act_at _ _ i k).trans (Eq.trans ?_ (ref_act_at _ r k).symm)
  exact congrArg₂ act (gate_at m c t i k r ⟨k.val, by omega⟩ hr rfl) (up_at m c t i k r ⟨2816 + k.val, by omega⟩ hr rfl)

/-- A point's tile of the first result is the reference's. -/
theorem tile4 (t : Fin cfg0.N) (y : S256x1024.Idx) (z : S8192x1024.Idx) (e0 : (z 0).val = t.val * 256 + (y 0).val) (e1 : (z 1).val = (y 1).val) :
    out0_4 (iblk m c 0 t) (iblk m c 1 t) (iblk m c 2 t) (iblk m c 3 t) y
      = Reference8Ideal.Read.val_main_v5 (F := Ideal) (m (c, main_arg0)) (m (c, main_arg1)) (m (c, main_arg2)) z := by
  obtain ⟨i, j, rfl⟩ : ∃ (i : Fin 256) (j : Fin 1024), y = ix2 i j := ⟨y 0, y 1, by ext a; fin_cases a <;> rfl⟩
  obtain ⟨r, s, rfl⟩ : ∃ (r : Fin 8192) (s : Fin 1024), z = ix2 r s := ⟨z 0, z 1, by ext a; fin_cases a <;> rfl⟩
  obtain rfl : s = j := Fin.ext e1
  unfold out0_4
  rw [View.canon_cons_unit_zero (by decide), View.ld_unit_zero (by decide), View.ld_unit_zero (by decide), View.ld_unit_zero (by decide),
    View.ld_unit_zero (by decide)]
  refine (out_at _ _ _ _ i s).trans (Eq.trans ?_ (ref_out_at _ _ _ r s).symm)
  refine (add_comm _ _).trans (congrArg₂ (fun u v : EReal => u + v) (res_at m c t i s r e0) ?_)
  exact Finset.sum_congr rfl fun k _ => congrArg₂ (fun u v : EReal => u * v) (act_eq m c t i k r e0) (cols_at m c t k s)

/-- A point's tile of the second result is the reference's. -/
theorem tile5 (t : Fin cfg0.N) (y : S256x2816.Idx) (z : S8192x2816.Idx) (e0 : (z 0).val = t.val * 256 + (y 0).val) (e1 : (z 1).val = (y 1).val) :
    out0_5 (iblk m c 0 t) (iblk m c 1 t) (iblk m c 2 t) (iblk m c 3 t) y = Reference8Ideal.Read.val_main_v6 (F := Ideal) (m (c, main_arg0)) z := by
  obtain ⟨i, j, rfl⟩ : ∃ (i : Fin 256) (j : Fin 2816), y = ix2 i j := ⟨y 0, y 1, by ext a; fin_cases a <;> rfl⟩
  obtain ⟨r, s, rfl⟩ : ∃ (r : Fin 8192) (s : Fin 2816), z = ix2 r s := ⟨z 0, z 1, by ext a; fin_cases a <;> rfl⟩
  obtain rfl : s = j := Fin.ext e1
  unfold out0_5
  rw [View.canon_cons_unit_zero (by decide), View.ld_unit_zero (by decide), View.ld_unit_zero (by decide)]
  exact (act_out_at _ _ i s).trans ((act_eq m c t i s r e0).trans (ref_act_out_at _ r s).symm)

/-- The first array after the last point. -/
theorem final4 : (dats m 0 c).arrAt 4 (cfgs 0).N
    = Reference8Ideal.Read.val_main_v5 (F := Ideal) (m (c, main_arg0)) (m (c, main_arg1)) (m (c, main_arg2)) := by
  refine (dats m 0 c).arrAt_eq_of_covers 4 _ (by decide +kernel) fun t hf y => ?_
  blk_simp
  rw [after0_4]
  exact tile4 m c t y _ (by blk_simp [idx t]) (by blk_simp [idx t])

/-- The second array after the last point. -/
theorem final5 : (dats m 0 c).arrAt 5 (cfgs 0).N = Reference8Ideal.Read.val_main_v6 (F := Ideal) (m (c, main_arg0)) := by
  refine (dats m 0 c).arrAt_eq_of_covers 5 _ (by decide +kernel) fun t hf y => ?_
  blk_simp
  rw [after0_5]
  exact tile5 m c t y _ (by blk_simp [idx t]) (by blk_simp [idx t])

end Cert.Kernel8Ideal.Prod
end
-- ==== Proof.FfnOutBack.lean ====
module
public import Idealize.ShloMosaic.Lib.Pipeline.ValueKit
public import Idealize.ShloMosaic.Lib.StableHlo.RunRead
public import proofs.«01_k».proof.Proof.Gen.Kernel9Ideal.Value
public import proofs.«01_k».proof.Proof.Gen.Reference9Ideal.Read

@[expose] public section
set_option maxRecDepth 16384
noncomputable section

/-! The backward product of the SwiGLU's output weights, tile by tile. -/

namespace Cert.Kernel9Ideal.Prod
open Idealize Idealize.ShloMosaic Idealize.ShloMosaic.TcCoe Idealize.SL.Sem Cert.Kernel9Ideal Cert.Kernel9Ideal.Gen

variable (m : (ℓ : Loc nD τ sig) → Buf (Elt Ideal) ℓ) (c : Dev nD)

/-- The blocks that the windows stage at a point. -/
theorem idx : ∀ t : Fin cfg0.N, win0_0.index t = ![t.val % 8, 0] ∧ win0_1.index t = ![t.val / 8, 0] ∧ win0_2.index t = ![t.val % 8, t.val / 8] :=
  (by decide +kernel : ∀ t : Fin grid0.N, _)

/-- The weights as the host hands them over. -/
def cols : FVec Ideal S2816x1024 .bf16 := truncf .bf16 (m (c, main_arg0) : FVec Ideal S2816x1024 .f32) bitsLt_bf16_f32

/-- What the host hands over is `cols`. -/
theorem cols_eq : V m c main_v0 = cols m c := by
  unfold V
  after_reads_simp
  try rfl

/-- The argument is handed over as it is. -/
theorem rows_eq : V m c main_arg1 = m (c, main_arg1) := by
  unfold V
  after_reads_simp
  try rfl

/-- A block of the rows, read from the argument. -/
theorem rows_at (t : Fin cfg0.N) (i : Fin 1024) (k : Fin 1024) (r : Fin 8192) (hr : r.val = t.val % 8 * 1024 + i) :
    iblk m c 0 t (ix2 i k) = (m (c, main_arg1) : FVec Ideal S8192x1024 .f32) (ix2 r k) := by
  have e : iblk m c 0 t (ix2 i k) = (V m c main_arg1 : FVec Ideal S8192x1024 .f32) (ix2 r k) := by
    blk_ext [iblk, idx t]
  rw [e, rows_eq]

/-- A block of the weights, read from the argument. -/
theorem cols_at (t : Fin cfg0.N) (j : Fin 1408) (k : Fin 1024) (s : Fin 2816) (hs : s.val = t.val / 8 * 1408 + j) :
    iblk m c 1 t (ix2 j k) = (m (c, main_arg0) : FVec Ideal S2816x1024 .f32) (ix2 s k) := by
  have e : iblk m c 1 t (ix2 j k) = (V m c main_v0 : FVec Ideal S2816x1024 .bf16) (ix2 s k) := by
    blk_ext [iblk, idx t]
  rw [e, cols_eq]
  delta cols
  pointwise []

/-- What a point stores: rows against rows. -/
theorem out_at (a : FVec Ideal S1024x1024 .f32) (b : FVec Ideal S1408x1024 .bf16) (i : Fin 1024) (j : Fin 1408) :
    k0_pay1 (F := Ideal) a b (ix2 i j) = ∑ k : Fin 1024, a (ix2 i k) * b (ix2 j k) := by
  delta k0_pay1
  pointwise []

/-- The reference's product at an index. -/
theorem ref_at (w : FVec Ideal S2816x1024 .f32) (x : FVec Ideal S8192x1024 .f32) (r : Fin 8192) (s : Fin 2816) :
    Reference9Ideal.Read.val_main_v3 (F := Ideal) w x (ix2 r s) = ∑ k : Fin 1024, x (ix2 r k) * w (ix2 s k) := by
  delta Reference9Ideal.Read.val_main_v3 Reference9Ideal.Read.val_main_v2
  pointwise []

/-- A point's tile is the reference's. -/
theorem tile (t : Fin cfg0.N) (y : S1024x1408.Idx) (z : S8192x2816.Idx) (e0 : (z 0).val = t.val % 8 * 1024 + (y 0).val)
    (e1 : (z 1).val = t.val / 8 * 1408 + (y 1).val) :
    out0_2 (iblk m c 0 t) (iblk m c 1 t) y = Reference9Ideal.Read.val_main_v3 (F := Ideal) (m (c, main_arg0)) (m (c, main_arg1)) z := by
  obtain ⟨i, j, rfl⟩ : ∃ (i : Fin 1024) (j : Fin 1408), y = ix2 i j := ⟨y 0, y 1, by ext a; fin_cases a <;> rfl⟩
  obtain ⟨r, s, rfl⟩ : ∃ (r : Fin 8192) (s : Fin 2816), z = ix2 r s := ⟨z 0, z 1, by ext a; fin_cases a <;> rfl⟩
  unfold out0_2
  rw [View.canon_cons_unit_zero (by decide), View.ld_unit_zero (by decide), View.ld_unit_zero (by decide)]
  refine (out_at _ _ _ _).trans (Eq.trans ?_ (ref_at _ _ _ _).symm)
  exact Finset.sum_congr rfl fun k _ => congrArg₂ (fun u v : EReal => u * v) (rows_at m c t i k r e0) (cols_at m c t j k s e1)

/-- The array after the last point. -/
theorem final : (dats m 0 c).arrAt 2 (cfgs 0).N = Reference9Ideal.Read.val_main_v3 (F := Ideal) (m (c, main_arg0)) (m (c, main_arg1)) := by
  refine (dats m 0 c).arrAt_eq_of_covers 2 _ (by decide +kernel) fun t hf y => ?_
  blk_simp
  rw [after0_2]
  exact tile m c t y _ (by blk_simp [idx t]) (by blk_simp [idx t])

end Cert.Kernel9Ideal.Prod
end
-- ==== Proof.FfnOutGrad.lean ====
module
public import Idealize.ShloMosaic.Lib.Pipeline.ValueKit
public import Idealize.ShloMosaic.Lib.StableHlo.RunRead
public import proofs.«01_k».proof.Proof.Gen.Kernel10Ideal.Value
public import proofs.«01_k».proof.Proof.Gen.Reference10Ideal.Read

@[expose] public section
set_option maxRecDepth 16384
noncomputable section

/-! The gradient of the SwiGLU's output weights: a product over the tokens, summed block by block over the grid. -/

namespace Cert.Kernel10Ideal.Prod
open Idealize Idealize.ShloMosaic Idealize.ShloMosaic.TcCoe Idealize.SL.Sem Cert.Kernel10Ideal Cert.Kernel10Ideal.Gen

variable (m : (ℓ : Loc nD τ sig) → Buf (Elt Ideal) ℓ) (c : Dev nD)

/-- The blocks that the windows stage at a point. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The rows as the host hands them over. -/
def rows : FVec Ideal S8192x2816 .bf16 := truncf .bf16 (m (c, main_arg0) : FVec Ideal S8192x2816 .f32) bitsLt_bf16_f32

/-- What the host hands over is `rows`. -/
theorem rows_eq : V m c main_v0 = rows m c := by
  unfold V
  after_reads_simp
  try rfl

/-- The argument is handed over as it is. -/
theorem cols_eq : V m c main_arg1 = m (c, main_arg1) := by
  unfold V
  after_reads_simp
  try rfl

/-- A block of the rows, read from the argument. -/
theorem rows_at (t : Fin cfg0.N) (k : Fin 1024) (i : Fin 1408) (r : Fin 8192) (s : Fin 2816) (hr : r.val = t.val % 8 * 1024 + k)
    (hs : s.val = t.val / 8 * 1408 + i) :
    iblk m c 0 t (ix2 k i) = (m (c, main_arg0) : FVec Ideal S8192x2816 .f32) (ix2 r s) := by
  have e : iblk m c 0 t (ix2 k i) = (V m c main_v0 : FVec Ideal S8192x2816 .bf16) (ix2 r s) := by
    blk_ext [iblk, idx t]
  rw [e, rows_eq]
  delta rows
  pointwise []

/-- A block of the gradients, read from the argument. -/
theorem cols_at (t : Fin cfg0.N) (k : Fin 1024) (j : Fin 1024) (r : Fin 8192) (hr : r.val = t.val % 8 * 1024 + k) :
    iblk m c 1 t (ix2 k j) = (m (c, main_arg1) : FVec Ideal S8192x1024 .f32) (ix2 r j) := by
  have e : iblk m c 1 t (ix2 k j) = (V m c main_arg1 : FVec Ideal S8192x1024 .f32) (ix2 r j) := by
    blk_ext [iblk, idx t]
  rw [e, cols_eq]

/-- The product of two blocks. -/
theorem prod_at (a : FVec Ideal S1024x1408 .bf16) (b : FVec Ideal S1024x1024 .f32) (i : Fin 1408) (j : Fin 1024) :
    k0_pay1 (F := Ideal) a b (ix2 i j) = ∑ k : Fin 1024, a (ix2 k i) * b (ix2 k j) := by
  delta k0_pay1
  pointwise []

/-- The first block's product is kept as it is. -/
theorem first_at (a : FVec Ideal S1024x1408 .bf16) (b : FVec Ideal S1024x1024 .f32) (i : Fin 1408) (j : Fin 1024) :
    k0_pay2 (F := Ideal) a b (ix2 i j) = k0_pay1 (F := Ideal) a b (ix2 i j) := by
  delta k0_pay2
  generalize k0_pay1 (F := Ideal) a b = p
  pointwise []

/-- A later block's product is added. -/
theorem next_at (a : FVec Ideal S1024x1408 .bf16) (b : FVec Ideal S1024x1024 .f32) (z : FVec Ideal S1408x1024 .f32) (i : Fin 1408) (j : Fin 1024) :
    k0_pay3 (F := Ideal) a b z (ix2 i j) = z (ix2 i j) + k0_pay1 (F := Ideal) a b (ix2 i j) := by
  delta k0_pay3
  generalize k0_pay1 (F := Ideal) a b = p
  pointwise []

/-- The sum is written out unchanged. -/
theorem last_at (z : FVec Ideal S1408x1024 .f32) (i : Fin 1408) (j : Fin 1024) : k0_pay4 (F := Ideal) z (ix2 i j) = z (ix2 i j) := by
  delta k0_pay4
  pointwise []

/-- One token's part of the gradient of a weight. -/
def term (x : FVec Ideal S8192x2816 .f32) (g : FVec Ideal S8192x1024 .f32) (r : Fin 8192) (s : Fin 2816) (j : Fin 1024) : EReal :=
  x (ix2 r s) * g (ix2 r j)

/-- A point's part. -/
def part (t : Fin cfg0.N) (y : S1408x1024.Idx) : EReal :=
  ∑ k : Fin 1024, term (m (c, main_arg0)) (m (c, main_arg1)) ⟨t.val % 8 * 1024 + k.val, by omega⟩
    ⟨t.val / 8 * 1408 + (y 0).val, by have h1 : t.val < 16 := lt_of_lt_of_eq t.isLt N_0; have h2 : (y 0).val < 1408 := (y 0).isLt; omega⟩ (y 1)

/-- A point's part at an index. -/
theorem part_at (t : Fin cfg0.N) (i : Fin 1408) (j : Fin 1024) :
    k0_pay1 (F := Ideal) (iblk m c 0 t) (iblk m c 1 t) (ix2 i j) = part m c t (ix2 i j) :=
  (prod_at _ _ i j).trans (Finset.sum_congr rfl fun k _ =>
    congrArg₂ (fun u v : EReal => u * v) (rows_at m c t k i _ _ rfl rfl) (cols_at m c t k j _ rfl))

/-- The running sum after the first of a tile's points. -/
theorem point_A (t : Fin cfg0.N) (h0 : t.val % 8 = 0) (y : S1408x1024.Idx) :
    (outsAt0 m c t.val t.isLt).2 y = (0 : EReal) + part m c t y := by
  obtain ⟨i, j, rfl⟩ : ∃ (i : Fin 1408) (j : Fin 1024), y = ix2 i j := ⟨y 0, y 1, by ext a; fin_cases a <;> rfl⟩
  rw [outsAt0_A m c t h0 (by omega) (by omega), zero_add]
  frame_out
  exact (first_at _ _ i j).trans (part_at m c t i j)

/-- The running sum after a later point. -/
theorem point_B (t : Fin cfg0.N) (h0 : ¬ t.val % 8 = 0) (y : S1408x1024.Idx) :
    (outsAt0 m c t.val t.isLt).2 y
      = ((outsAt0 m c (t.val - 1) (Nat.lt_of_le_of_lt (Nat.sub_le _ _) t.isLt)).2 y : EReal) + part m c t y := by
  obtain ⟨i, j, rfl⟩ : ∃ (i : Fin 1408) (j : Fin 1024), y = ix2 i j := ⟨y 0, y 1, by ext a; fin_cases a <;> rfl⟩
  by_cases h2 : t.val % 8 = 7
  · rw [outsAt0_C m c t h0 (by omega) h2]
    frame_out
    refine (next_at _ _ _ i j).trans (congrArg₂ (fun u v : EReal => u + v) ?_ (part_at m c t i j))
    exact congrFun (Memref.IsWhole.read_unread _ _) _
  · rw [outsAt0_B m c t h0 (by omega) h2]
    frame_out
    refine (next_at _ _ _ i j).trans (congrArg₂ (fun u v : EReal => u + v) ?_ (part_at m c t i j))
    exact congrFun (Memref.IsWhole.read_unread _ _) _

/-- What the last of a tile's points writes out is the running sum. -/
theorem point_C (t : Fin cfg0.N) (h2 : t.val % 8 = 7) (i : Fin 1408) (j : Fin 1024) :
    ((outsAt0 m c t.val t.isLt).1 (ix2 i j) : EReal) = (outsAt0 m c t.val t.isLt).2 (ix2 i j) := by
  rw [outsAt0_C m c t (by omega) (by omega) h2]
  frame_out
  exact last_at _ i j

/-- The reference's gradient at an index. -/
theorem ref_at (x : FVec Ideal S8192x2816 .f32) (g : FVec Ideal S8192x1024 .f32) (s : Fin 2816) (j : Fin 1024) :
    Reference10Ideal.Read.val_main_v4 (F := Ideal) x g (ix2 s j) = ∑ r : Fin 8192, g (ix2 r j) * x (ix2 r s) := by
  delta Reference10Ideal.Read.val_main_v4 Reference10Ideal.Read.val_main_v3 Reference10Ideal.Read.val_main_v2
  pointwise []

/-- The eight points' parts together are the sum over all tokens. -/
theorem sum_parts (q : Fin 2) (i : Fin 1408) (j : Fin 1024) (p : Fin 8 → Fin cfg0.N) (hp : ∀ s, (p s).val = 8 * q.val + s.val) :
    ∑ s : Fin 8, part m c (p s) (ix2 i j)
      = Reference10Ideal.Read.val_main_v4 (F := Ideal) (m (c, main_arg0)) (m (c, main_arg1)) (ix2 (⟨q.val * 1408 + i.val, by omega⟩ : Fin 2816) j) := by
  rw [ref_at]
  refine Eq.trans ?_ (Finset.sum_congr rfl fun r _ => mul_comm _ _)
  refine Eq.trans ?_ (Fin.sum_divmod_congr (A := 8) (S := 1024) (f := fun s k => term (m (c, main_arg0)) (m (c, main_arg1))
    ⟨s.val * 1024 + k.val, by omega⟩ ⟨q.val * 1408 + i.val, by omega⟩ j) (fun r ha hs => ?_)).symm
  · refine Finset.sum_congr rfl fun s _ => Finset.sum_congr rfl fun k _ => ?_
    have h1 : (⟨(p s).val % 8 * 1024 + k.val, by omega⟩ : Fin 8192) = ⟨s.val * 1024 + k.val, by omega⟩ := Fin.ext (by
      show (p s).val % 8 * 1024 + k.val = s.val * 1024 + k.val
      rw [hp]; omega)
    have h2 : (⟨(p s).val / 8 * 1408 + i.val, by rw [hp]; omega⟩ : Fin 2816) = ⟨q.val * 1408 + i.val, by omega⟩ := Fin.ext (by
      show (p s).val / 8 * 1408 + i.val = q.val * 1408 + i.val
      rw [hp]; omega)
    exact congrArg₂ (fun u v => term (m (c, main_arg0)) (m (c, main_arg1)) u v j) h1 h2
  · have h1 : (⟨r.val / 1024 * 1024 + r.val % 1024, by omega⟩ : Fin 8192) = r := Fin.ext (Nat.div_add_mod' _ _)
    exact (congrArg (fun u => term (m (c, main_arg0)) (m (c, main_arg1)) u ⟨q.val * 1408 + i.val, by omega⟩ j) h1).symm

/-- The tile that the last of its points writes out is the reference's. -/
theorem tile (t : Fin cfg0.N) (hm : t.val % 8 = 7) (y : S1408x1024.Idx) (z : S2816x1024.Idx) (e0 : (z 0).val = t.val / 8 * 1408 + (y 0).val)
    (e1 : (z 1).val = (y 1).val) :
    (outsAt0 m c t.val t.isLt).1 y = Reference10Ideal.Read.val_main_v4 (F := Ideal) (m (c, main_arg0)) (m (c, main_arg1)) z := by
  have ht : t.val < 16 := lt_of_lt_of_eq t.isLt N_0
  obtain ⟨i, j, rfl⟩ : ∃ (i : Fin 1408) (j : Fin 1024), y = ix2 i j := ⟨y 0, y 1, by ext a; fin_cases a <;> rfl⟩
  have hz : z = ix2 (⟨t.val / 8 * 1408 + i.val, by omega⟩ : Fin 2816) j := by
    ext a
    fin_cases a
    · exact e0
    · exact e1
  rw [hz]
  refine (point_C m c t hm i j).trans ?_
  rw [Pipeline.eq_sum_fin_of_reset_step_apply_of_flush (M := EReal) (fun n h => (outsAt0 m c n h).2) 8 (fun _ => 0)
    (fun t y => part m c t y) (fun t h y => point_A m c t h y) (fun t h y => point_B m c t h y) t hm _, zero_add]
  exact sum_parts m c ⟨t.val / 8, by omega⟩ i j _ (fun s => rfl)

/-- The array after the last point. -/
theorem final : (dats m 0 c).arrAt 2 (cfgs 0).N = Reference10Ideal.Read.val_main_v4 (F := Ideal) (m (c, main_arg0)) (m (c, main_arg1)) := by
  refine (dats m 0 c).arrAt_eq_of_covers 2 _ (by decide +kernel) fun t hf y => ?_
  blk_simp
  rw [after0_2]
  exact tile m c t ((flush0_2 t).mp hf) y _ (by blk_simp [idx t]) (by blk_simp [idx t])

end Cert.Kernel10Ideal.Prod
end
-- ==== Proof.Finite.lean ====
module
public import Idealize.ShloMosaic.Lib.Pipeline.ValueKit

@[expose] public section
noncomputable section

/-! Numbers that are neither of the two infinities. -/

namespace Cert.Finite
open Idealize Idealize.ShloMosaic

/-- The word that stands for infinity. -/
theorem infinity : Ideal.ofBits .f32 0x7F800000#32 = ⊤ := by simp [Ideal.ofBits, Ideal.ieee]

/-- A number whose size is below infinity is real. -/
theorem real_of_lt (x : EReal) (h : Ideal.cmp .olt (max x (-x)) (Ideal.ofBits .f32 0x7F800000#32) = 1#1) : x = ((x.toReal : ℝ) : EReal) := by
  rw [infinity] at h
  induction x with
  | bot => simp [Ideal.cmp] at h
  | top => simp [Ideal.cmp] at h
  | coe r => rfl

end Cert.Finite
end
-- ==== Proof.FfnInBack.lean ====
module
public import Idealize.ShloMosaic.Lib.Pipeline.ValueKit
public import Idealize.ShloMosaic.Lib.StableHlo.RunRead
public import proofs.«01_k».proof.Pre_finite2
public import proofs.«01_k».proof.Proof.Finite
public import proofs.«01_k».proof.Proof.Gen.Kernel2Ideal.Value
public import proofs.«01_k».proof.Proof.Gen.Reference2Ideal.Read

@[expose] public section
set_option maxRecDepth 16384
noncomputable section

/-! The backward product of the SwiGLU's input weights, with the derivative of the activation inside: each point makes a block of the
derivative, writes it out and adds its product with one chip's weights. -/

namespace Cert.Pre_finite2
open Idealize Idealize.ShloMosaic

/-- The shape relations that the predicate's operations take. -/
theorem facts : Facts where
  slices_S8192x5632_S8192x2816_0_0 := by decide
  slices_S8192x5632_S8192x2816_0_2816 := by decide
  bcast_S_S8192x2816 := by decide
  dot_S8192x1024_S1024x5632_S8192x5632_1_0_0_1_n_n_wf := by decide

/-- Under the precondition the cotangent times what is gated is a real number. -/
theorem real [Facts] (x : FVec Ideal S8192x1024 .f32) (w : FVec Ideal S1024x5632 .f32) (d : FVec Ideal S8192x2816 .f32)
    (H : fn (F := Ideal) x w d = fun _ => 1#1) (r : Fin 8192) (k : Fin 2816) (f : FVec Ideal S8192x5632 .f32)
    (hf : f = Host.dotGeneral dot_S8192x1024_S1024x5632_S8192x5632_1_0_0_1_n_n none x w) :
    ∃ e : ℝ, d (ix2 r k) * f (ix2 r ⟨2816 + k.val, by omega⟩) = e := by
  have h := congrFun H (ix2 r k)
  revert h
  delta fn
  dsimp only
  rw [← hf]
  pointwise []
  intro h
  exact ⟨_, Finite.real_of_lt _ h⟩

end Cert.Pre_finite2

namespace Cert.Kernel2Ideal.Prod
open Idealize Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The blocks that the windows stage at a point. -/
theorem idx : ∀ t : Fin cfg0.N, win0_0.index t = ![t.val / 4, t.val % 2] ∧ win0_1.index t = ![t.val / 4, t.val % 2]
    ∧ win0_2.index t = ![t.val / 4, 2 + t.val % 2] ∧ win0_3.index t = ![t.val % 4, 0, 0] ∧ win0_4.index t = ![t.val / 4, 0]
    ∧ win0_5.index t = ![t.val / 4, t.val % 4] :=
  (by decide +kernel : ∀ t : Fin grid0.N, _)

/-- The third coordinate of a point. -/
theorem coord : ∀ t : Fin cfg0.N, (grid0.coords t 2).val = t.val % 4 := (by decide +kernel : ∀ t : Fin grid0.N, _)

/-- The pre-activations as the host hands them over. -/
def pres : FVec Ideal S8192x5632 .bf16 :=
  truncf .bf16 (Reference2Ideal.Read.val_main_v0 (F := Ideal) (m (c, main_arg0)) (m (c, main_arg1))) bitsLt_bf16_f32

/-- The cotangents as the host hands them over. -/
def cots : FVec Ideal S8192x2816 .bf16 := truncf .bf16 (m (c, main_arg2) : FVec Ideal S8192x2816 .f32) bitsLt_bf16_f32

/-- The weights as the host hands them over: the columns of one chip after those of another. -/
def cols : FVec Ideal S4x1024x1408 .bf16 := truncf .bf16 (transpose S4x1024x1408 [1, 0, 2]
  (shapeCast S1024x4x1408 (m (c, main_arg1) : FVec Ideal S1024x5632 .f32) shapeCasts_S1024x5632_S1024x4x1408) transposes_S1024x4x1408_S4x1024x1408_1_0_2) bitsLt_bf16_f32

/-- What the host hands over is `pres`. -/
theorem pres_eq : V m c main_v1 = pres m c := by
  unfold V
  after_reads_simp
  try rfl

/-- What the host hands over is `cots`. -/
theorem cots_eq : V m c main_v2 = cots m c := by
  unfold V
  after_reads_simp
  try rfl

/-- What the host hands over is `cols`. -/
theorem cols_eq : V m c main_v5 = cols m c := by
  unfold V
  after_reads_simp
  try rfl

/-- The pre-activation that the reference takes. -/
def pre (r : Fin 8192) (s : Fin 5632) : EReal := Reference2Ideal.Read.val_main_v0 (F := Ideal) (m (c, main_arg0)) (m (c, main_arg1)) (ix2 r s)

/-- The cotangent. -/
def cot (r : Fin 8192) (s : Fin 2816) : EReal := (m (c, main_arg2) : FVec Ideal S8192x2816 .f32) (ix2 r s)

/-- The weight. -/
def wt (j : Fin 1024) (s : Fin 5632) : EReal := (m (c, main_arg1) : FVec Ideal S1024x5632 .f32) (ix2 j s)

/-- An entry of the handed pre-activations. -/
theorem pres_at (r : Fin 8192) (s : Fin 5632) : pres m c (ix2 r s) = pre m c r s := by
  delta pres pre
  generalize Reference2Ideal.Read.val_main_v0 (F := Ideal) (m (c, main_arg0)) (m (c, main_arg1)) = f
  pointwise []

/-- A block of the cotangents, read from the argument. -/
theorem cot_at (t : Fin cfg0.N) (i : Fin 512) (k : Fin 1408) (r : Fin 8192) (s : Fin 2816) (hr : r.val = t.val / 4 * 512 + i)
    (hs : s.val = t.val % 2 * 1408 + k) : iblk m c 0 t (ix2 i k) = cot m c r s := by
  have e : iblk m c 0 t (ix2 i k) = (V m c main_v2 : FVec Ideal S8192x2816 .bf16) (ix2 r s) := by
    blk_ext [iblk, idx t]
  rw [e, cots_eq]
  delta cots cot
  pointwise []

/-- A block of the gates, read from the pre-activations. -/
theorem gate_at (t : Fin cfg0.N) (i : Fin 512) (k : Fin 1408) (r : Fin 8192) (s : Fin 5632) (hr : r.val = t.val / 4 * 512 + i)
    (hs : s.val = t.val % 2 * 1408 + k) : iblk m c 1 t (ix2 i k) = pre m c r s := by
  have e : iblk m c 1 t (ix2 i k) = (V m c main_v1 : FVec Ideal S8192x5632 .bf16) (ix2 r s) := by
    blk_ext [iblk, idx t]
  rw [e, pres_eq, pres_at]

/-- A block of what is gated, read from the pre-activations. -/
theorem up_at (t : Fin cfg0.N) (i : Fin 512) (k : Fin 1408) (r : Fin 8192) (s : Fin 5632) (hr : r.val = t.val / 4 * 512 + i)
    (hs : s.val = (2 + t.val % 2) * 1408 + k) : iblk m c 2 t (ix2 i k) = pre m c r s := by
  have e : iblk m c 2 t (ix2 i k) = (V m c main_v1 : FVec Ideal S8192x5632 .bf16) (ix2 r s) := by
    blk_ext [iblk, idx t]
  rw [e, pres_eq, pres_at]

/-- One chip's weights, read from the argument. -/
theorem cols_at (t : Fin cfg0.N) (z : Fin 1) (j : Fin 1024) (k : Fin 1408) (s : Fin 5632) (hs : s.val = t.val % 4 * 1408 + k) :
    iblk m c 3 t (ix3 z j k) = wt m c j s := by
  have e : iblk m c 3 t (ix3 z j k) = (V m c main_v5 : FVec Ideal S4x1024x1408 .bf16) (ix3 (⟨t.val % 4, by omega⟩ : Fin 4) j k) := by
    blk_ext [iblk, idx t]
  rw [e, cols_eq]
  delta cols wt
  pointwise []
  exact congrArg (fun u => (m (c, main_arg1) : FVec Ideal S1024x5632 .f32) (ix2 j u)) (Fin.ext hs.symm)

/-- The kernel's derivative by a gate. -/
def dgate (d g u : EReal) : EReal := d * u * (Ideal.logistic g * (1 + g * (1 - Ideal.logistic g)))

/-- The kernel's derivative by what is gated. -/
def dup (d g : EReal) : EReal := d * g * Ideal.logistic g

/-- The first half of the points makes derivatives by the gates. -/
theorem pay_gate (i : grid0.Coords) (hi : (i 2).val < 2) (d g u : FVec Ideal S512x1408 .bf16) (a : Fin 512) (k : Fin 1408) :
    k0_pay2 (F := Ideal) i d g u (ix2 a k) = dgate (d (ix2 a k)) (g (ix2 a k)) (u (ix2 a k)) := by
  have hc : Scalar.cmpi .slt (BitVec.ofNat 32 (i 2).val) 2#32 = 1#1 := by
    generalize (i 2).val = n at hi
    interval_cases n <;> decide
  delta k0_pay2 dgate
  dsimp only
  rw [hc]
  pointwise []
  try rfl

/-- The second half makes derivatives by what is gated. -/
theorem pay_up (i : grid0.Coords) (hi : ¬ (i 2).val < 2) (d g u : FVec Ideal S512x1408 .bf16) (a : Fin 512) (k : Fin 1408) :
    k0_pay2 (F := Ideal) i d g u (ix2 a k) = dup (d (ix2 a k)) (g (ix2 a k)) := by
  have hc : Scalar.cmpi .slt (BitVec.ofNat 32 (i 2).val) 2#32 = 0#1 := by
    have h4 : (i 2).val < 4 := (i 2).isLt
    generalize (i 2).val = n at hi h4
    interval_cases n <;> decide
  delta k0_pay2 dup
  dsimp only
  rw [hc]
  pointwise []
  try rfl

/-- The derivative is written out as it is. -/
theorem pay_out (i : grid0.Coords) (d g u : FVec Ideal S512x1408 .bf16) (a : Fin 512) (k : Fin 1408) :
    k0_pay3 (F := Ideal) i d g u (ix2 a k) = k0_pay2 (F := Ideal) i d g u (ix2 a k) := by
  delta k0_pay3
  generalize k0_pay2 (F := Ideal) i d g u = p
  pointwise []

/-- The derivative against one chip's weights. -/
theorem prod_at (i : grid0.Coords) (d g u : FVec Ideal S512x1408 .bf16) (w : FVec Ideal S1x1024x1408 .bf16) (a : Fin 512) (j : Fin 1024) :
    k0_pay4 (F := Ideal) i d g u w (ix2 a j) = ∑ k : Fin 1408, k0_pay2 (F := Ideal) i d g u (ix2 a k) * w (ix3 0 j k) := by
  delta k0_pay4
  generalize k0_pay2 (F := Ideal) i d g u = p
  pointwise []

/-- The first block's product is kept as it is. -/
theorem first_at (i : grid0.Coords) (d g u : FVec Ideal S512x1408 .bf16) (w : FVec Ideal S1x1024x1408 .bf16) (a : Fin 512) (j : Fin 1024) :
    k0_pay5 (F := Ideal) i d g u w (ix2 a j) = k0_pay4 (F := Ideal) i d g u w (ix2 a j) := by
  delta k0_pay5
  generalize k0_pay4 (F := Ideal) i d g u w = p
  pointwise []

/-- A later block's product is added. -/
theorem next_at (i : grid0.Coords) (d g u : FVec Ideal S512x1408 .bf16) (w : FVec Ideal S1x1024x1408 .bf16) (z : FVec Ideal S512x1024 .f32)
    (a : Fin 512) (j : Fin 1024) :
    k0_pay6 (F := Ideal) i d g u w z (ix2 a j) = z (ix2 a j) + k0_pay4 (F := Ideal) i d g u w (ix2 a j) := by
  delta k0_pay6
  generalize k0_pay4 (F := Ideal) i d g u w = p
  pointwise []

/-- The sum is written out unchanged. -/
theorem last_at (z : FVec Ideal S512x1024 .f32) (a : Fin 512) (j : Fin 1024) : k0_pay1 (F := Ideal) z (ix2 a j) = z (ix2 a j) := by
  delta k0_pay1
  pointwise []

/-- The reference's derivative by a gate. -/
def refgate (d g u : EReal) : EReal :=
  d * u * Ideal.logistic g + g * (d * u) * (Ideal.logistic g * (1 - Ideal.logistic g))

/-- The reference's derivative at a gate's index. -/
theorem ref_gate (x : FVec Ideal S8192x1024 .f32) (w : FVec Ideal S1024x5632 .f32) (d : FVec Ideal S8192x2816 .f32) (r : Fin 8192) (k : Fin 2816) :
    Reference2Ideal.Read.val_main_v7 (F := Ideal) x w d (ix2 r k) = refgate (d (ix2 r k))
      (Reference2Ideal.Read.val_main_v0 (F := Ideal) x w (ix2 r ⟨k.val, by omega⟩))
      (Reference2Ideal.Read.val_main_v0 (F := Ideal) x w (ix2 r ⟨2816 + k.val, by omega⟩)) := by
  delta refgate Reference2Ideal.Read.val_main_v7 Reference2Ideal.Read.val_main_call1_v1 Reference2Ideal.Read.val_main_call1_v2
    Reference2Ideal.Read.val_main_call1_v0 Reference2Ideal.Read.val_main_v6 Reference2Ideal.Read.val_main_v3_1 Reference2Ideal.Read.val_main_call0_v7
    Reference2Ideal.Read.val_main_call0_v6 Reference2Ideal.Read.val_main_call0_cst_1 Reference2Ideal.Read.val_main_v3_2
    Reference2Ideal.Read.val_main_call0_v4 Reference2Ideal.Read.val_main_call0_v3 Reference2Ideal.Read.val_main_call0_v2
    Reference2Ideal.Read.val_main_call0_v1 Reference2Ideal.Read.val_main_call0_v0 Reference2Ideal.Read.val_main_call0_cst
    Reference2Ideal.Read.val_main_call0_cst_0 Reference2Ideal.Read.val_main_v1 Reference2Ideal.Read.val_main_v2
  generalize Reference2Ideal.Read.val_main_v0 (F := Ideal) x w = f
  pointwise []
  try rfl

/-- The reference's derivative at the index of what is gated. -/
theorem ref_up (x : FVec Ideal S8192x1024 .f32) (w : FVec Ideal S1024x5632 .f32) (d : FVec Ideal S8192x2816 .f32) (r : Fin 8192) (k : Fin 2816) :
    Reference2Ideal.Read.val_main_v5 (F := Ideal) x w d (ix2 r k)
      = Reference2Ideal.Read.val_main_v0 (F := Ideal) x w (ix2 r ⟨k.val, by omega⟩)
        * Ideal.logistic (Reference2Ideal.Read.val_main_v0 (F := Ideal) x w (ix2 r ⟨k.val, by omega⟩)) * d (ix2 r k) := by
  delta Reference2Ideal.Read.val_main_v5 Reference2Ideal.Read.val_main_v3_0 Reference2Ideal.Read.val_main_v3_2
    Reference2Ideal.Read.val_main_call0_v4 Reference2Ideal.Read.val_main_call0_v3 Reference2Ideal.Read.val_main_call0_v2
    Reference2Ideal.Read.val_main_call0_v1 Reference2Ideal.Read.val_main_call0_v0 Reference2Ideal.Read.val_main_call0_cst
    Reference2Ideal.Read.val_main_call0_cst_0 Reference2Ideal.Read.val_main_v1
  generalize Reference2Ideal.Read.val_main_v0 (F := Ideal) x w = f
  pointwise []
  try rfl

/-- The derivatives by the gates come first. -/
theorem ref_low (x : FVec Ideal S8192x1024 .f32) (w : FVec Ideal S1024x5632 .f32) (d : FVec Ideal S8192x2816 .f32) (r : Fin 8192) (k : Fin 2816)
    (s : Fin 5632) (hs : s.val = k.val) :
    Reference2Ideal.Read.val_main_v8 (F := Ideal) x w d (ix2 r s) = Reference2Ideal.Read.val_main_v7 (F := Ideal) x w d (ix2 r k) := by
  delta Reference2Ideal.Read.val_main_v8
  generalize Reference2Ideal.Read.val_main_v7 (F := Ideal) x w d = p
  generalize Reference2Ideal.Read.val_main_v5 (F := Ideal) x w d = q
  pointwise []
  rw [dif_pos (by omega)]
  exact congrArg (fun u => p (ix2 r u)) (Fin.ext hs)

/-- The derivatives by what is gated come after them. -/
theorem ref_high (x : FVec Ideal S8192x1024 .f32) (w : FVec Ideal S1024x5632 .f32) (d : FVec Ideal S8192x2816 .f32) (r : Fin 8192) (k : Fin 2816)
    (s : Fin 5632) (hs : s.val = 2816 + k.val) :
    Reference2Ideal.Read.val_main_v8 (F := Ideal) x w d (ix2 r s) = Reference2Ideal.Read.val_main_v5 (F := Ideal) x w d (ix2 r k) := by
  delta Reference2Ideal.Read.val_main_v8
  generalize Reference2Ideal.Read.val_main_v7 (F := Ideal) x w d = p
  generalize Reference2Ideal.Read.val_main_v5 (F := Ideal) x w d = q
  pointwise []
  rw [dif_neg (by omega)]
  exact congrArg (fun u => q (ix2 r u)) (Fin.ext (by show s.val - 2816 = k.val; omega))

/-- The two derivatives by a gate are the same number, where the cotangent times what is gated is real. -/
theorem gate_eq {d g u : EReal} {e : ℝ} (he : d * u = e) : dgate d g u = refgate d g u := by
  unfold dgate refgate
  rw [he]
  induction g with
  | bot =>
    have h2 : (1 : EReal) + ⊤ = ⊤ := EReal.coe_add_top 1
    have h : Ideal.logistic ⊥ = 0 := by simp [Ideal.logistic, Ideal.div, h2]
    simp [h]
  | top =>
    have h : Ideal.logistic ⊤ = 1 := by simp [Ideal.logistic, Ideal.div]
    have h1 : (1 : EReal) - 1 = 0 := by rw [← EReal.coe_one, ← EReal.coe_sub]; simp
    simp [h, h1]
  | coe a =>
    rw [Ideal.logistic_coe, ← EReal.coe_one]
    norm_cast
    ring

/-- What the precondition says: the cotangents times what is gated are real. -/
def Given : Prop := ∀ (r : Fin 8192) (k : Fin 2816), ∃ e : ℝ, cot m c r k * pre m c r ⟨2816 + k.val, by omega⟩ = e

/-- The reference's derivative. -/
def df (r : Fin 8192) (s : Fin 5632) : EReal :=
  Reference2Ideal.Read.val_main_v8 (F := Ideal) (m (c, main_arg0)) (m (c, main_arg1)) (m (c, main_arg2)) (ix2 r s)

/-- A point's block of the derivative is the reference's. -/
theorem df_at (H : Given m c) (t : Fin cfg0.N) (i : Fin 512) (k : Fin 1408) (r : Fin 8192) (s : Fin 5632) (hr : r.val = t.val / 4 * 512 + i)
    (hs : s.val = t.val % 4 * 1408 + k) :
    k0_pay2 (F := Ideal) (grid0.coords t) (iblk m c 0 t) (iblk m c 1 t) (iblk m c 2 t) (ix2 i k) = df m c r s := by
  by_cases h : t.val % 4 < 2
  · have hk : s.val < 2816 := by omega
    refine (pay_gate (grid0.coords t) (by rw [coord]; exact h) _ _ _ i k).trans ?_
    rw [cot_at m c t i k r ⟨s.val, hk⟩ hr (by show s.val = _; omega), gate_at m c t i k r s hr (by omega),
      up_at m c t i k r ⟨2816 + s.val, by omega⟩ hr (by show 2816 + s.val = _; omega)]
    refine Eq.trans ?_ ((ref_low _ _ _ r ⟨s.val, hk⟩ s rfl).trans (ref_gate _ _ _ r ⟨s.val, hk⟩)).symm
    obtain ⟨e, he⟩ := H r ⟨s.val, hk⟩
    exact gate_eq he
  · have hk : 2816 ≤ s.val := by omega
    refine (pay_up (grid0.coords t) (by rw [coord]; exact h) _ _ _ i k).trans ?_
    rw [cot_at m c t i k r ⟨s.val - 2816, by omega⟩ hr (by show s.val - 2816 = _; omega),
      gate_at m c t i k r ⟨s.val - 2816, by omega⟩ hr (by show s.val - 2816 = _; omega)]
    refine Eq.trans ?_ ((ref_high _ _ _ r ⟨s.val - 2816, by omega⟩ s (by show s.val = 2816 + (s.val - 2816); omega)).trans
      (ref_up _ _ _ r ⟨s.val - 2816, by omega⟩)).symm
    exact (mul_assoc _ _ _).trans (mul_comm _ _)

/-- One column's part of the product. -/
def term (r : Fin 8192) (j : Fin 1024) (s : Fin 5632) : EReal := df m c r s * wt m c j s

/-- A point's part. -/
def part (t : Fin cfg0.N) (y : S512x1024.Idx) : EReal :=
  ∑ k : Fin 1408, term m c ⟨t.val / 4 * 512 + (y 0).val, by have h1 : t.val < 64 := lt_of_lt_of_eq t.isLt N_0; have h2 : (y 0).val < 512 := (y 0).isLt; omega⟩
    (y 1) ⟨t.val % 4 * 1408 + k.val, by omega⟩

/-- A point's part at an index. -/
theorem part_at (H : Given m c) (t : Fin cfg0.N) (i : Fin 512) (j : Fin 1024) :
    k0_pay4 (F := Ideal) (grid0.coords t) (iblk m c 0 t) (iblk m c 1 t) (iblk m c 2 t) (iblk m c 3 t) (ix2 i j) = part m c t (ix2 i j) :=
  (prod_at _ _ _ _ _ i j).trans (Finset.sum_congr rfl fun k _ =>
    congrArg₂ (fun u v : EReal => u * v) (df_at m c H t i k _ _ rfl rfl) (cols_at m c t 0 j k _ rfl))

/-- The running sum after the first of a tile's points. -/
theorem point_A (H : Given m c) (t : Fin cfg0.N) (h0 : t.val % 4 = 0) (y : S512x1024.Idx) :
    (outsAt0 m c t.val t.isLt).2.2 y = (0 : EReal) + part m c t y := by
  obtain ⟨i, j, rfl⟩ : ∃ (i : Fin 512) (j : Fin 1024), y = ix2 i j := ⟨y 0, y 1, by ext a; fin_cases a <;> rfl⟩
  rw [outsAt0_A m c t h0 (by omega) (by omega), zero_add]
  frame_out
  exact (first_at _ _ _ _ _ i j).trans (part_at m c H t i j)

/-- The running sum after a later point. -/
theorem point_B (H : Given m c) (t : Fin cfg0.N) (h0 : ¬ t.val % 4 = 0) (y : S512x1024.Idx) :
    (outsAt0 m c t.val t.isLt).2.2 y
      = ((outsAt0 m c (t.val - 1) (Nat.lt_of_le_of_lt (Nat.sub_le _ _) t.isLt)).2.2 y : EReal) + part m c t y := by
  obtain ⟨i, j, rfl⟩ : ∃ (i : Fin 512) (j : Fin 1024), y = ix2 i j := ⟨y 0, y 1, by ext a; fin_cases a <;> rfl⟩
  by_cases h2 : t.val % 4 = 3
  · rw [outsAt0_C m c t h0 (by omega) h2]
    frame_out
    refine (next_at _ _ _ _ _ _ i j).trans (congrArg₂ (fun u v : EReal => u + v) ?_ (part_at m c H t i j))
    exact congrFun (Memref.IsWhole.read_unread _ _) _
  · rw [outsAt0_B m c t h0 (by omega) h2]
    frame_out
    refine (next_at _ _ _ _ _ _ i j).trans (congrArg₂ (fun u v : EReal => u + v) ?_ (part_at m c H t i j))
    exact congrFun (Memref.IsWhole.read_unread _ _) _

/-- What the last of a tile's points writes out is the running sum. -/
theorem point_C (t : Fin cfg0.N) (h2 : t.val % 4 = 3) (i : Fin 512) (j : Fin 1024) :
    ((outsAt0 m c t.val t.isLt).1 (ix2 i j) : EReal) = (outsAt0 m c t.val t.isLt).2.2 (ix2 i j) := by
  rw [outsAt0_C m c t (by omega) (by omega) h2]
  frame_out
  exact last_at _ i j

/-- Every point writes its block of the derivative. -/
theorem point_df (t : Fin cfg0.N) (i : Fin 512) (k : Fin 1408) :
    ((outsAt0 m c t.val t.isLt).2.1 (ix2 i k) : EReal)
      = k0_pay2 (F := Ideal) (grid0.coords t) (iblk m c 0 t) (iblk m c 1 t) (iblk m c 2 t) (ix2 i k) := by
  by_cases h0 : t.val % 4 = 0
  · rw [outsAt0_A m c t h0 (by omega) (by omega)]
    frame_out
    exact pay_out _ _ _ _ i k
  · by_cases h2 : t.val % 4 = 3
    · rw [outsAt0_C m c t h0 (by omega) h2]
      frame_out
      exact pay_out _ _ _ _ i k
    · rw [outsAt0_B m c t h0 (by omega) h2]
      frame_out
      exact pay_out _ _ _ _ i k

/-- The reference's product at an index. -/
theorem ref_at (x : FVec Ideal S8192x1024 .f32) (w : FVec Ideal S1024x5632 .f32) (d : FVec Ideal S8192x2816 .f32) (r : Fin 8192) (j : Fin 1024) :
    Reference2Ideal.Read.val_main_v10 (F := Ideal) x w d (ix2 r j)
      = ∑ s : Fin 5632, Reference2Ideal.Read.val_main_v8 (F := Ideal) x w d (ix2 r s) * w (ix2 j s) := by
  delta Reference2Ideal.Read.val_main_v10 Reference2Ideal.Read.val_main_v9
  generalize Reference2Ideal.Read.val_main_v8 (F := Ideal) x w d = p
  pointwise []

/-- The reference's second result is its derivative. -/
theorem ref_df (x : FVec Ideal S8192x1024 .f32) (w : FVec Ideal S1024x5632 .f32) (d : FVec Ideal S8192x2816 .f32) (r : Fin 8192) (s : Fin 5632) :
    Reference2Ideal.Read.val_main_v11 (F := Ideal) x w d (ix2 r s) = Reference2Ideal.Read.val_main_v8 (F := Ideal) x w d (ix2 r s) := by
  delta Reference2Ideal.Read.val_main_v11
  generalize Reference2Ideal.Read.val_main_v8 (F := Ideal) x w d = p
  pointwise []

/-- The four points' parts together are the sum over all columns. -/
theorem sum_parts (r : Fin 8192) (q : Fin 16) (i : Fin 512) (j : Fin 1024) (hr : r.val = q.val * 512 + i.val) (p : Fin 4 → Fin cfg0.N)
    (hp : ∀ s, (p s).val = 4 * q.val + s.val) :
    ∑ s : Fin 4, part m c (p s) (ix2 i j)
      = Reference2Ideal.Read.val_main_v10 (F := Ideal) (m (c, main_arg0)) (m (c, main_arg1)) (m (c, main_arg2)) (ix2 r j) := by
  rw [ref_at]
  refine Eq.trans ?_ (Fin.sum_divmod_congr (A := 4) (S := 1408) (f := fun s k => term m c r j
    ⟨s.val * 1408 + k.val, by omega⟩) (fun s ha hs => ?_)).symm
  · refine Finset.sum_congr rfl fun s _ => Finset.sum_congr rfl fun k _ => ?_
    have h1 : (⟨(p s).val / 4 * 512 + i.val, by rw [hp]; omega⟩ : Fin 8192) = r := Fin.ext (by
      show (p s).val / 4 * 512 + i.val = r.val
      rw [hp]; omega)
    have h2 : (⟨(p s).val % 4 * 1408 + k.val, by omega⟩ : Fin 5632) = ⟨s.val * 1408 + k.val, by omega⟩ := Fin.ext (by
      show (p s).val % 4 * 1408 + k.val = s.val * 1408 + k.val
      rw [hp]; omega)
    exact congrArg₂ (fun u v => term m c u j v) h1 h2
  · have h1 : (⟨s.val / 1408 * 1408 + s.val % 1408, by omega⟩ : Fin 5632) = s := Fin.ext (Nat.div_add_mod' _ _)
    exact (congrArg (fun u => term m c r j u) h1).symm

/-- The tile that the last of its points writes out is the reference's. -/
theorem tile4 (H : Given m c) (t : Fin cfg0.N) (hm : t.val % 4 = 3) (y : S512x1024.Idx) (z : S8192x1024.Idx)
    (e0 : (z 0).val = t.val / 4 * 512 + (y 0).val) (e1 : (z 1).val = (y 1).val) :
    (outsAt0 m c t.val t.isLt).1 y
      = Reference2Ideal.Read.val_main_v10 (F := Ideal) (m (c, main_arg0)) (m (c, main_arg1)) (m (c, main_arg2)) z := by
  have ht : t.val < 64 := lt_of_lt_of_eq t.isLt N_0
  obtain ⟨i, j, rfl⟩ : ∃ (i : Fin 512) (j : Fin 1024), y = ix2 i j := ⟨y 0, y 1, by ext a; fin_cases a <;> rfl⟩
  obtain ⟨r, s, rfl⟩ : ∃ (r : Fin 8192) (s : Fin 1024), z = ix2 r s := ⟨z 0, z 1, by ext a; fin_cases a <;> rfl⟩
  obtain rfl : s = j := Fin.ext e1
  refine (point_C m c t hm i s).trans ?_
  rw [Pipeline.eq_sum_fin_of_reset_step_apply_of_flush (M := EReal) (fun n h => (outsAt0 m c n h).2.2) 4 (fun _ => 0)
    (fun t y => part m c t y) (fun t h y => point_A m c H t h y) (fun t h y => point_B m c H t h y) t hm _, zero_add]
  exact sum_parts m c r ⟨t.val / 4, by omega⟩ i s e0 _ (fun s => rfl)

/-- A point's block of the second result is the reference's. -/
theorem tile5 (H : Given m c) (t : Fin cfg0.N) (y : S512x1408.Idx) (z : S8192x5632.Idx) (e0 : (z 0).val = t.val / 4 * 512 + (y 0).val)
    (e1 : (z 1).val = t.val % 4 * 1408 + (y 1).val) :
    (outsAt0 m c t.val t.isLt).2.1 y
      = Reference2Ideal.Read.val_main_v11 (F := Ideal) (m (c, main_arg0)) (m (c, main_arg1)) (m (c, main_arg2)) z := by
  obtain ⟨i, k, rfl⟩ : ∃ (i : Fin 512) (k : Fin 1408), y = ix2 i k := ⟨y 0, y 1, by ext a; fin_cases a <;> rfl⟩
  obtain ⟨r, s, rfl⟩ : ∃ (r : Fin 8192) (s : Fin 5632), z = ix2 r s := ⟨z 0, z 1, by ext a; fin_cases a <;> rfl⟩
  exact (point_df m c t i k).trans ((df_at m c H t i k r s e0 e1).trans (ref_df _ _ _ r s).symm)

/-- The first array after the last point. -/
theorem final4 (H : Given m c) : (dats m 0 c).arrAt 4 (cfgs 0).N
    = Reference2Ideal.Read.val_main_v10 (F := Ideal) (m (c, main_arg0)) (m (c, main_arg1)) (m (c, main_arg2)) := by
  refine (dats m 0 c).arrAt_eq_of_covers 4 _ (by decide +kernel) fun t hf y => ?_
  blk_simp
  rw [after0_4]
  exact tile4 m c H t ((flush0_4 t).mp hf) y _ (by blk_simp [idx t]) (by blk_simp [idx t])

/-- The second array after the last point. -/
theorem final5 (H : Given m c) : (dats m 0 c).arrAt 5 (cfgs 0).N
    = Reference2Ideal.Read.val_main_v11 (F := Ideal) (m (c, main_arg0)) (m (c, main_arg1)) (m (c, main_arg2)) := by
  refine (dats m 0 c).arrAt_eq_of_covers 5 _ (by decide +kernel) fun t hf y => ?_
  blk_simp
  rw [after0_5]
  exact tile5 m c H t y _ (by blk_simp [idx t]) (by blk_simp [idx t])

end Cert.Kernel2Ideal.Prod
end
-- ==== Proof.InBack.lean ====
module
public import Idealize.ShloMosaic.Lib.Pipeline.ValueKit
public import Idealize.ShloMosaic.Lib.StableHlo.RunRead
public import proofs.«01_k».proof.Proof.Gen.Kernel4Ideal.Value
public import proofs.«01_k».proof.Proof.Gen.Reference4Ideal.Read

@[expose] public section
set_option maxRecDepth 16384
noncomputable section

/-! The backward product of the mixer's input weights with the derivative of the norm before it: each point makes a block of rows and
adds its part of the gain's gradient. -/

namespace Cert.Kernel4Ideal.Prod
open Idealize Idealize.ShloMosaic Idealize.ShloMosaic.TcCoe Idealize.SL.Sem Cert.Kernel4Ideal Cert.Kernel4Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The rows' gradients as the host hands them over. -/
def grads : FVec Ideal S8192x4608 .bf16 := truncf .bf16 (m (c, main_arg3) : FVec Ideal S8192x4608 .f32) bitsLt_bf16_f32

/-- The weights as the host hands them over: the columns of one chip after those of another. -/
def cols : FVec Ideal S4x1024x1152 .bf16 := truncf .bf16 (transpose S4x1024x1152 [1, 0, 2]
  (shapeCast S1024x4x1152 (m (c, main_arg2) : FVec Ideal S1024x4608 .f32) shapeCasts_S1024x4608_S1024x4x1152) transposes_S1024x4x1152_S4x1024x1152_1_0_2) bitsLt_bf16_f32

/-- The gain as the host hands it over. -/
def gain : FVec Ideal S1x1024 .f32 := shapeCast S1x1024 (m (c, main_arg1) : FVec Ideal S1024 .f32) shapeCasts_S1024_S1x1024

/-- What the host hands over is `grads`. -/
theorem grads_eq : V m c main_v0 = grads m c := by
  unfold V
  after_reads_simp
  try rfl

/-- What the host hands over is `cols`. -/
theorem cols_eq : V m c main_v3 = cols m c := by
  unfold V
  after_reads_simp
  try rfl

/-- What the host hands over is `gain`. -/
theorem gain_eq : V m c main_v4 = gain m c := by
  unfold V
  after_reads_simp
  try rfl

/-- The rows are handed over as they are. -/
theorem rows_eq : V m c main_arg0 = m (c, main_arg0) := by
  unfold V
  after_reads_simp
  try rfl

/-- The residual's gradients are handed over as they are. -/
theorem res_eq : V m c main_arg4 = m (c, main_arg4) := by
  unfold V
  after_reads_simp
  try rfl

/-- The gradient of a pre-activation. -/
def dz (r : Fin 8192) (s : Fin 4608) : EReal := (m (c, main_arg3) : FVec Ideal S8192x4608 .f32) (ix2 r s)

/-- The weight. -/
def wt (j : Fin 1024) (s : Fin 4608) : EReal := (m (c, main_arg2) : FVec Ideal S1024x4608 .f32) (ix2 j s)

/-- The row's element. -/
def row (r : Fin 8192) (j : Fin 1024) : EReal := (m (c, main_arg0) : FVec Ideal S8192x1024 .f32) (ix2 r j)

/-- The gain of a column. -/
def gn (j : Fin 1024) : EReal := (m (c, main_arg1) : FVec Ideal S1024 .f32) (ix1 j)

/-- The residual's gradient. -/
def res (r : Fin 8192) (j : Fin 1024) : EReal := (m (c, main_arg4) : FVec Ideal S8192x1024 .f32) (ix2 r j)

/-- A block of the gradients, read from the argument. -/
theorem grads_at (t : Fin cfg0.N) (i : Fin 512) (s : Fin 4608) (r : Fin 8192) (hr : r.val = t.val * 512 + i) :
    iblk m c 0 t (ix2 i s) = dz m c r s := by
  have e : iblk m c 0 t (ix2 i s) = (V m c main_v0 : FVec Ideal S8192x4608 .bf16) (ix2 r s) := by
    blk_ext [iblk, idx t]
  rw [e, grads_eq]
  delta grads dz
  pointwise []

/-- One chip's weights, read from the argument. -/
theorem cols_at (t : Fin cfg0.N) (z : Fin 4) (j : Fin 1024) (k : Fin 1152) (s : Fin 4608) (hs : s.val = z.val * 1152 + k) :
    iblk m c 1 t (ix3 z j k) = wt m c j s := by
  have e : iblk m c 1 t (ix3 z j k) = (V m c main_v3 : FVec Ideal S4x1024x1152 .bf16) (ix3 z j k) := by
    blk_ext [iblk, idx t]
  rw [e, cols_eq]
  delta cols wt
  pointwise []
  exact congrArg (fun u => (m (c, main_arg2) : FVec Ideal S1024x4608 .f32) (ix2 j u)) (Fin.ext hs.symm)

/-- A block of the rows, read from the argument. -/
theorem rows_at (t : Fin cfg0.N) (i : Fin 512) (j : Fin 1024) (r : Fin 8192) (hr : r.val = t.val * 512 + i) :
    iblk m c 2 t (ix2 i j) = row m c r j := by
  have e : iblk m c 2 t (ix2 i j) = (V m c main_arg0 : FVec Ideal S8192x1024 .f32) (ix2 r j) := by
    blk_ext [iblk, idx t]
  rw [e, rows_eq]
  rfl

/-- A block of the residual's gradients, read from the argument. -/
theorem res_at (t : Fin cfg0.N) (i : Fin 512) (j : Fin 1024) (r : Fin 8192) (hr : r.val = t.val * 512 + i) :
    iblk m c 3 t (ix2 i j) = res m c r j := by
  have e : iblk m c 3 t (ix2 i j) = (V m c main_arg4 : FVec Ideal S8192x1024 .f32) (ix2 r j) := by
    blk_ext [iblk, idx t]
  rw [e, res_eq]
  rfl

/-- The gain, read from the argument. -/
theorem gain_at (t : Fin cfg0.N) (z : Fin 1) (j : Fin 1024) : iblk m c 4 t (ix2 z j) = gn m c j := by
  have e : iblk m c 4 t (ix2 z j) = (V m c main_v4 : FVec Ideal S1x1024 .f32) (ix2 z j) := by
    blk_ext [iblk, idx t]
  rw [e, gain_eq]
  delta gain gn
  pointwise []

/-- The gradient of the normalised rows: the four chips' products, one after another. -/
theorem prod_at (d0 : FVec Ideal S512x1152 .bf16) (w0 : FVec Ideal S1x1024x1152 .bf16) (d1 : FVec Ideal S512x1152 .bf16)
    (w1 : FVec Ideal S1x1024x1152 .bf16) (d2 : FVec Ideal S512x1152 .bf16) (w2 : FVec Ideal S1x1024x1152 .bf16)
    (d3 : FVec Ideal S512x1152 .bf16) (w3 : FVec Ideal S1x1024x1152 .bf16) (i : Fin 512) (j : Fin 1024) :
    k0_pay7 (F := Ideal) d0 w0 d1 w1 d2 w2 d3 w3 (ix2 i j)
      = (∑ k : Fin 1152, d0 (ix2 i k) * w0 (ix3 0 j k)) + (∑ k : Fin 1152, d1 (ix2 i k) * w1 (ix3 0 j k))
        + (∑ k : Fin 1152, d2 (ix2 i k) * w2 (ix3 0 j k)) + ∑ k : Fin 1152, d3 (ix2 i k) * w3 (ix3 0 j k) := by
  delta k0_pay7
  pointwise []
  try rw [zero_add]

/-- The mean of a row's squares, with the constant that the norm adds. -/
def mean (x : Fin 1024 → EReal) : EReal :=
  Ideal.div (∑ k, x k * x k) (Ideal.ofBits .f32 0x44800000#32) + Ideal.ofBits .f32 0x358637BD#32

/-- The root that a row is divided by. -/
theorem root_at (x : FVec Ideal S512x1024 .f32) (i : Fin 512) :
    k0_pay2 (F := Ideal) x (ix2 i 0) = Ideal.rsqrt (mean fun k => x (ix2 i k)) := by
  delta k0_pay2 mean
  pointwise []

/-- The normalised row. -/
theorem norm_at (x : FVec Ideal S512x1024 .f32) (i : Fin 512) (j : Fin 1024) :
    k0_pay3 (F := Ideal) x (ix2 i j) = x (ix2 i j) * k0_pay2 (F := Ideal) x (ix2 i 0) := by
  delta k0_pay3
  generalize k0_pay2 (F := Ideal) x = p
  pointwise []

/-- A row of the result. -/
theorem out_at (d : FVec Ideal S512x1024 .bf16) (x z : FVec Ideal S512x1024 .f32) (g : FVec Ideal S1x1024 .f32) (i : Fin 512) (j : Fin 1024) :
    k0_pay4 (F := Ideal) d x z g (ix2 i j) = z (ix2 i j) + k0_pay2 (F := Ideal) x (ix2 i 0) * (d (ix2 i j) * g (ix2 0 j)
      - k0_pay3 (F := Ideal) x (ix2 i j) * Ideal.div (∑ k : Fin 1024, d (ix2 i k) * g (ix2 0 k) * k0_pay3 (F := Ideal) x (ix2 i k))
        (Ideal.ofBits .f32 0x44800000#32)) := by
  delta k0_pay4 k0_pay1
  generalize k0_pay3 (F := Ideal) x = q
  generalize k0_pay2 (F := Ideal) x = p
  pointwise []

/-- A row of the result, from the rows of the blocks. -/
theorem out_row (d : FVec Ideal S512x1024 .bf16) (x z : FVec Ideal S512x1024 .f32) (g : FVec Ideal S1x1024 .f32) (i : Fin 512) (j : Fin 1024)
    (d' x' z' g' : Fin 1024 → EReal) (hd : ∀ k, d (ix2 i k) = d' k) (hx : ∀ k, x (ix2 i k) = x' k) (hz : ∀ k, z (ix2 i k) = z' k)
    (hg : ∀ k, g (ix2 0 k) = g' k) :
    k0_pay4 (F := Ideal) d x z g (ix2 i j) = z' j + Ideal.rsqrt (mean x') * (d' j * g' j - x' j * Ideal.rsqrt (mean x')
        * Ideal.div (∑ k, d' k * g' k * (x' k * Ideal.rsqrt (mean x'))) (Ideal.ofBits .f32 0x44800000#32)) := by
  rw [out_at]
  simp only [norm_at, root_at, hd, hx, hz, hg]

/-- The gain's gradient after a point. -/
theorem gain_out (d : FVec Ideal S512x1024 .bf16) (x : FVec Ideal S512x1024 .f32) (a : FVec Ideal S1x1024 .f32) (z : Fin 1) (j : Fin 1024) :
    k0_pay5 (F := Ideal) d x a (ix2 z j) = a (ix2 z j) + ∑ k : Fin 512, d (ix2 k j) * k0_pay3 (F := Ideal) x (ix2 k j) := by
  delta k0_pay5 k0_pay1
  generalize k0_pay3 (F := Ideal) x = q
  pointwise []

/-- Before the first point it is zero. -/
theorem zero_at (y : S1x1024.Idx) : k0_pay6 (F := Ideal) y = (0 : EReal) := by
  delta k0_pay6
  pointwise []

/-- The gradient of a normalised row. -/
def dh (r : Fin 8192) (j : Fin 1024) : EReal :=
  Reference4Ideal.Read.val_main_v17 (F := Ideal) (m (c, main_arg2)) (m (c, main_arg3)) (ix2 r j)

/-- It is the product of the pre-activations' gradients with the weights. -/
theorem dh_at (r : Fin 8192) (j : Fin 1024) : dh m c r j = ∑ s : Fin 4608, dz m c r s * wt m c j s := by
  delta dh Reference4Ideal.Read.val_main_v17 dz wt
  pointwise []

/-- A point's gradient of the normalised rows. -/
def pay (t : Fin cfg0.N) : FVec Ideal S512x1024 .bf16 :=
  k0_pay7 (F := Ideal) (View.ld (iblk m c 0 t) (Rect.unit ![0, 0] ![512, 1152] inb_S512x4608_S512x1152_0_0))
    (View.ld (iblk m c 1 t) (Rect.unit ![0, 0, 0] ![1, 1024, 1152] inb_S4x1024x1152_S1x1024x1152_0_0_0))
    (View.ld (iblk m c 0 t) (Rect.unit ![0, 1152] ![512, 1152] inb_S512x4608_S512x1152_0_1152))
    (View.ld (iblk m c 1 t) (Rect.unit ![1, 0, 0] ![1, 1024, 1152] inb_S4x1024x1152_S1x1024x1152_1_0_0))
    (View.ld (iblk m c 0 t) (Rect.unit ![0, 2304] ![512, 1152] inb_S512x4608_S512x1152_0_2304))
    (View.ld (iblk m c 1 t) (Rect.unit ![2, 0, 0] ![1, 1024, 1152] inb_S4x1024x1152_S1x1024x1152_2_0_0))
    (View.ld (iblk m c 0 t) (Rect.unit ![0, 3456] ![512, 1152] inb_S512x4608_S512x1152_0_3456))
    (View.ld (iblk m c 1 t) (Rect.unit ![3, 0, 0] ![1, 1024, 1152] inb_S4x1024x1152_S1x1024x1152_3_0_0))

/-- One chip's columns of the gradients, as the body reads them. -/
theorem grads_ld (t : Fin cfg0.N) (o : Nat) (inb) (i : Fin 512) (k : Fin 1152) (r : Fin 8192) (s : Fin 4608) (hr : r.val = t.val * 512 + i)
    (hs : s.val = o + k) : View.ld (iblk m c 0 t) (Rect.unit (s := S512x4608) ![0, o] ![512, 1152] inb) (ix2 i k) = dz m c r s := by
  refine Eq.trans (congrArg (iblk m c 0 t) ?_) (grads_at m c t i s r hr)
  ext a
  fin_cases a
  · show 0 + 1 * i.val = i.val
    omega
  · show o + 1 * k.val = s.val
    omega

/-- One chip's weights, as the body reads them. -/
theorem cols_ld (t : Fin cfg0.N) (o : Fin 4) (q : Nat) (hq : q = o.val) (inb) (j : Fin 1024) (k : Fin 1152) (s : Fin 4608)
    (hs : s.val = o.val * 1152 + k) : View.ld (iblk m c 1 t) (Rect.unit (s := S4x1024x1152) ![q, 0, 0] ![1, 1024, 1152] inb) (ix3 0 j k) = wt m c j s := by
  refine Eq.trans (congrArg (iblk m c 1 t) ?_) (cols_at m c t o j k s hs)
  ext a
  fin_cases a
  · show q + 1 * 0 = o.val
    omega
  · show 0 + 1 * j.val = j.val
    omega
  · show 0 + 1 * k.val = k.val
    omega

/-- One chip's part of a normalised row's gradient. -/
def part (r : Fin 8192) (j : Fin 1024) (o : Fin 4) : EReal := ∑ k : Fin 1152, dz m c r ⟨o.val * 1152 + k.val, by omega⟩ * wt m c j ⟨o.val * 1152 + k.val, by omega⟩

/-- The parts together are the whole. -/
theorem parts (r : Fin 8192) (j : Fin 1024) : ∑ o : Fin 4, part m c r j o = dh m c r j := by
  rw [dh_at]
  refine (Fin.sum_divmod_congr (A := 4) (S := 1152) (f := fun o k => dz m c r ⟨o.val * 1152 + k.val, by omega⟩ * wt m c j ⟨o.val * 1152 + k.val, by omega⟩)
    (fun s ha hs => ?_)).symm
  have h1 : (⟨s.val / 1152 * 1152 + s.val % 1152, by omega⟩ : Fin 4608) = s := Fin.ext (Nat.div_add_mod' _ _)
  exact (congrArg (fun u => dz m c r u * wt m c j u) h1).symm

/-- One chip's product. -/
theorem chip_at (d : FVec Ideal S512x1152 .bf16) (w : FVec Ideal S1x1024x1152 .bf16) (i : Fin 512) (j : Fin 1024) (r : Fin 8192) (o : Fin 4)
    (hd : ∀ (k : Fin 1152) (s : Fin 4608), s.val = o.val * 1152 + k → d (ix2 i k) = dz m c r s)
    (hw : ∀ (k : Fin 1152) (s : Fin 4608), s.val = o.val * 1152 + k → w (ix3 0 j k) = wt m c j s) :
    ∑ k : Fin 1152, d (ix2 i k) * w (ix3 0 j k) = part m c r j o :=
  Finset.sum_congr rfl fun k _ => congrArg₂ (fun u v : EReal => u * v) (hd k _ rfl) (hw k _ rfl)

/-- A point's gradient of the normalised rows is the reference's. -/
theorem pay_at (t : Fin cfg0.N) (i : Fin 512) (j : Fin 1024) (r : Fin 8192) (hr : r.val = t.val * 512 + i) : pay m c t (ix2 i j) = dh m c r j := by
  rw [← parts, Fin.sum_univ_four]
  refine (prod_at _ _ _ _ _ _ _ _ i j).trans ?_
  rw [chip_at m c _ _ i j r 0 (fun k s h => grads_ld m c t 0 _ i k r s hr (by rw [h]; rfl)) (fun k s h => cols_ld m c t 0 0 rfl _ j k s h),
    chip_at m c _ _ i j r 1 (fun k s h => grads_ld m c t 1152 _ i k r s hr (by rw [h]; rfl)) (fun k s h => cols_ld m c t 1 1 rfl _ j k s h),
    chip_at m c _ _ i j r 2 (fun k s h => grads_ld m c t 2304 _ i k r s hr (by rw [h]; rfl)) (fun k s h => cols_ld m c t 2 2 rfl _ j k s h),
    chip_at m c _ _ i j r 3 (fun k s h => grads_ld m c t 3456 _ i k r s hr (by rw [h]; rfl)) (fun k s h => cols_ld m c t 3 3 rfl _ j k s h)]

/-- The reference's mean of squares. -/
theorem ref_mean (x : FVec Ideal S8192x1024 .f32) (r : Fin 8192) :
    Reference4Ideal.Read.val_main_v6 (F := Ideal) x (ix2 r 0) = mean fun k => x (ix2 r k) := by
  delta Reference4Ideal.Read.val_main_v6 Reference4Ideal.Read.val_main_v5 Reference4Ideal.Read.val_main_v4 Reference4Ideal.Read.val_main_v3
    Reference4Ideal.Read.val_main_v2 Reference4Ideal.Read.val_main_v1 Reference4Ideal.Read.val_main_v0 Reference4Ideal.Read.val_main_cst
    Reference4Ideal.Read.val_main_cst_0 Reference4Ideal.Read.val_main_cst_1 mean
  pointwise []

/-- The reference's root. -/
theorem ref_root (x : FVec Ideal S8192x1024 .f32) (r : Fin 8192) :
    Reference4Ideal.Read.val_main_v7 (F := Ideal) x (ix2 r 0) = Ideal.rsqrt (mean fun k => x (ix2 r k)) := by
  rw [← ref_mean]
  delta Reference4Ideal.Read.val_main_v7
  generalize Reference4Ideal.Read.val_main_v6 (F := Ideal) x = p
  pointwise []

/-- What the reference adds twice to a row's gradient, of the sum of the row against its gradient. -/
def back (S p v : EReal) : EReal := Ideal.div (S * (Ideal.ofBits .f32 0xBF000000#32 * Ideal.div p v)) (Ideal.ofBits .f32 0x44800000#32)

/-- The reference's gradient of the row, through the mean. -/
theorem ref_back (x : FVec Ideal S8192x1024 .f32) (g : FVec Ideal S1024 .f32) (w : FVec Ideal S1024x4608 .f32) (d : FVec Ideal S8192x4608 .f32)
    (r : Fin 8192) (j : Fin 1024) : Reference4Ideal.Read.val_main_v33 (F := Ideal) x g w d (ix2 r j)
      = back (∑ k : Fin 1024, x (ix2 r k) * (Reference4Ideal.Read.val_main_v17 (F := Ideal) w d (ix2 r k) * g (ix1 k)))
        (Reference4Ideal.Read.val_main_v7 (F := Ideal) x (ix2 r 0)) (Reference4Ideal.Read.val_main_v6 (F := Ideal) x (ix2 r 0)) := by
  delta back Reference4Ideal.Read.val_main_v33 Reference4Ideal.Read.val_main_v32 Reference4Ideal.Read.val_main_v31 Reference4Ideal.Read.val_main_v30
    Reference4Ideal.Read.val_main_v29 Reference4Ideal.Read.val_main_v26 Reference4Ideal.Read.val_main_v25 Reference4Ideal.Read.val_main_v24
    Reference4Ideal.Read.val_main_v22 Reference4Ideal.Read.val_main_v21 Reference4Ideal.Read.val_main_v13 Reference4Ideal.Read.val_main_v10
    Reference4Ideal.Read.val_main_v9 Reference4Ideal.Read.val_main_v8 Reference4Ideal.Read.val_main_cst_2 Reference4Ideal.Read.val_main_cst_5
    Reference4Ideal.Read.val_main_cst_6 Reference4Ideal.Read.val_main_cst_7
  generalize Reference4Ideal.Read.val_main_v17 (F := Ideal) w d = q
  generalize Reference4Ideal.Read.val_main_v7 (F := Ideal) x = p
  generalize Reference4Ideal.Read.val_main_v6 (F := Ideal) x = v
  pointwise []
  rw [Fin.sum_univ_one]

/-- The reference's first result. -/
theorem ref_out (x : FVec Ideal S8192x1024 .f32) (g : FVec Ideal S1024 .f32) (w : FVec Ideal S1024x4608 .f32) (d : FVec Ideal S8192x4608 .f32)
    (z : FVec Ideal S8192x1024 .f32) (r : Fin 8192) (j : Fin 1024) : Reference4Ideal.Read.val_main_v38 (F := Ideal) x g w d z (ix2 r j)
      = z (ix2 r j) + (Reference4Ideal.Read.val_main_v17 (F := Ideal) w d (ix2 r j) * g (ix1 j) * Reference4Ideal.Read.val_main_v7 (F := Ideal) x (ix2 r 0)
        + x (ix2 r j) * Reference4Ideal.Read.val_main_v33 (F := Ideal) x g w d (ix2 r j)
        + Reference4Ideal.Read.val_main_v33 (F := Ideal) x g w d (ix2 r j) * x (ix2 r j)) := by
  delta Reference4Ideal.Read.val_main_v38 Reference4Ideal.Read.val_main_v37 Reference4Ideal.Read.val_main_v36 Reference4Ideal.Read.val_main_v35
    Reference4Ideal.Read.val_main_v34 Reference4Ideal.Read.val_main_v28 Reference4Ideal.Read.val_main_v27 Reference4Ideal.Read.val_main_v22
    Reference4Ideal.Read.val_main_v21 Reference4Ideal.Read.val_main_v13
  generalize Reference4Ideal.Read.val_main_v33 (F := Ideal) x g w d = y
  generalize Reference4Ideal.Read.val_main_v17 (F := Ideal) w d = q
  generalize Reference4Ideal.Read.val_main_v7 (F := Ideal) x = p
  pointwise []

/-- The reference's second result. -/
theorem ref_gain (x : FVec Ideal S8192x1024 .f32) (w : FVec Ideal S1024x4608 .f32) (d : FVec Ideal S8192x4608 .f32)
    (z : Fin 1) (j : Fin 1024) : Reference4Ideal.Read.val_main_v39 (F := Ideal) x w d (ix2 z j)
      = ∑ r : Fin 8192, x (ix2 r j) * Reference4Ideal.Read.val_main_v7 (F := Ideal) x (ix2 r 0) * Reference4Ideal.Read.val_main_v17 (F := Ideal) w d (ix2 r j) := by
  delta Reference4Ideal.Read.val_main_v39 Reference4Ideal.Read.val_main_v23 Reference4Ideal.Read.val_main_v20 Reference4Ideal.Read.val_main_v19
    Reference4Ideal.Read.val_main_v18 Reference4Ideal.Read.val_main_v12 Reference4Ideal.Read.val_main_v11 Reference4Ideal.Read.val_main_cst_3
    Reference4Ideal.Read.val_main_cst_4
  generalize Reference4Ideal.Read.val_main_v17 (F := Ideal) w d = q
  generalize Reference4Ideal.Read.val_main_v7 (F := Ideal) x = p
  pointwise []
  rw [Fin.sum_univ_one]

/-- The number of a row's elements. -/
theorem count : Ideal.ofBits .f32 0x44800000#32 = ((1024 : ℝ) : EReal) := by
  simp [Ideal.ofBits, Ideal.ieee]
  rw [← EReal.coe_mul]
  norm_num

/-- Minus a half. -/
theorem half : Ideal.ofBits .f32 0xBF000000#32 = ((-(1 / 2) : ℝ) : EReal) := by
  simp [Ideal.ofBits, Ideal.ieee]
  rw [← EReal.coe_mul]
  norm_num

/-- The constant that the norm adds is a positive number. -/
theorem eps : ∃ e : ℝ, 0 < e ∧ Ideal.ofBits .f32 0x358637BD#32 = (e : EReal) := by
  refine ⟨_, ?_, by simp [Ideal.ofBits, Ideal.ieee]; rfl⟩
  norm_num

/-- Division by the number of elements. -/
theorem div_count (z : EReal) : Ideal.div z (Ideal.ofBits .f32 0x44800000#32) = z * ((1024⁻¹ : ℝ) : EReal) := by
  rw [count, Ideal.div, if_neg (by norm_num), EReal.coe_inv]

/-- A square is not negative. -/
theorem square (x : EReal) : 0 ≤ x * x := by
  induction x with
  | bot => simp
  | top => simp
  | coe a => exact_mod_cast mul_self_nonneg a

/-- The mean is positive. -/
theorem mean_pos (x : Fin 1024 → EReal) : 0 < mean x := by
  obtain ⟨e, he, h⟩ := eps
  unfold mean
  rw [div_count, h]
  have h0 : (0 : EReal) ≤ (∑ k, x k * x k) * ((1024⁻¹ : ℝ) : EReal) :=
    EReal.mul_nonneg (Finset.sum_nonneg fun k _ => square _) (by exact_mod_cast (by norm_num : (0 : ℝ) ≤ 1024⁻¹))
  calc (0 : EReal) < e := by exact_mod_cast he
    _ = 0 + e := (zero_add _).symm
    _ ≤ _ := add_le_add_left h0 _

/-- The root is a number that is not negative, and divided by the mean it is its cube. -/
theorem root (v : EReal) (hv : 0 < v) : ∃ p : ℝ, 0 ≤ p ∧ Ideal.rsqrt v = p ∧ Ideal.div (p : EReal) v = ((p * (p * p) : ℝ) : EReal) := by
  induction v with
  | bot => simp at hv
  | top => exact ⟨0, le_rfl, by simp, by simp [Ideal.div]⟩
  | coe a =>
    have ha : 0 < a := by exact_mod_cast hv
    refine ⟨(Real.sqrt a)⁻¹, by positivity, ?_, ?_⟩
    · rw [Ideal.rsqrt_coe, if_neg (by linarith), if_neg ha.ne']
    · rw [Ideal.div, if_neg (by exact_mod_cast ha.ne'), ← EReal.coe_inv, ← EReal.coe_mul]
      congr 2
      rw [← mul_inv, Real.mul_self_sqrt ha.le]

/-- A number that is not negative can be taken out of a sum. -/
theorem out_sum {n : Nat} (p : ℝ) (hp : 0 ≤ p) (f : Fin n → EReal) : ∑ k, (p : EReal) * f k = p * ∑ k, f k := by
  induction (Finset.univ : Finset (Fin n)) using Finset.induction_on with
  | empty => simp
  | insert a s h ih =>
    rw [Finset.sum_insert h, Finset.sum_insert h, ih, EReal.left_distrib_of_nonneg_of_ne_top (by exact_mod_cast hp) (EReal.coe_ne_top _)]

/-- Two halves of an extended number with a sign. -/
theorem halves (z : EReal) : z * ((-(1 / 2) : ℝ) : EReal) + z * ((-(1 / 2) : ℝ) : EReal) = -z := by
  induction z with
  | bot => rw [EReal.bot_mul_coe_of_neg (by norm_num)]; rfl
  | top => rw [EReal.top_mul_coe_of_neg (by norm_num)]; rfl
  | coe a =>
    norm_cast
    ring

/-- The kernel's form of the norm's derivative is the reference's. -/
theorem forms (a x s z : EReal) (p n : ℝ) (hp : 0 ≤ p) :
    z + (p : EReal) * (a - x * p * ((p * s) * (n : EReal)))
      = z + (a * p + x * (s * (((-(1 / 2) : ℝ) : EReal) * ((p * (p * p) : ℝ) : EReal)) * (n : EReal))
        + s * (((-(1 / 2) : ℝ) : EReal) * ((p * (p * p) : ℝ) : EReal)) * (n : EReal) * x) := by
  rw [EReal.mul_sub_of_nonneg_of_ne_top (by exact_mod_cast hp) (EReal.coe_ne_top _), sub_eq_add_neg, add_assoc (a * _)]
  have e1 : (p : EReal) * (x * p * ((p * s) * (n : EReal))) = x * s * (p * (p * p)) * (n : EReal) := by ac_rfl
  have e2 : x * (s * (((-(1 / 2) : ℝ) : EReal) * ((p * (p * p) : ℝ) : EReal)) * (n : EReal))
      = x * s * (p * (p * p)) * (n : EReal) * ((-(1 / 2) : ℝ) : EReal) := by
    rw [EReal.coe_mul, EReal.coe_mul]
    ac_rfl
  rw [mul_comm _ x, e2, halves, e1, mul_comm (p : EReal) a]

/-- A row's derivative, as the kernel makes it, is the reference's. -/
theorem row_eq (d x g : Fin 1024 → EReal) (z : EReal) (j : Fin 1024) :
    z + Ideal.rsqrt (mean x) * (d j * g j - x j * Ideal.rsqrt (mean x)
        * Ideal.div (∑ k, d k * g k * (x k * Ideal.rsqrt (mean x))) (Ideal.ofBits .f32 0x44800000#32))
      = z + (d j * g j * Ideal.rsqrt (mean x) + x j * back (∑ k, x k * (d k * g k)) (Ideal.rsqrt (mean x)) (mean x)
        + back (∑ k, x k * (d k * g k)) (Ideal.rsqrt (mean x)) (mean x) * x j) := by
  obtain ⟨p, hp, h1, h2⟩ := root (mean x) (mean_pos x)
  have hs : ∑ k, d k * g k * (x k * (p : EReal)) = p * ∑ k, x k * (d k * g k) := by
    rw [← out_sum p hp]
    refine Finset.sum_congr rfl fun k _ => ?_
    ac_rfl
  unfold back
  rw [h1, h2, hs, div_count, div_count, half]
  exact forms (d j * g j) (x j) (∑ k, x k * (d k * g k)) z p 1024⁻¹ hp

/-- A point's block of rows. -/
theorem point_row (t : Fin cfg0.N) (i : Fin 512) (j : Fin 1024) :
    (outsAt0 m c t.val t.isLt).1 (ix2 i j) = k0_pay4 (F := Ideal) (pay m c t) (iblk m c 2 t) (iblk m c 3 t) (iblk m c 4 t) (ix2 i j) := by
  by_cases h0 : t.val % 16 = 0
  · rw [outsAt0_A m c t h0]
    frame_out
    rfl
  · rw [outsAt0_B m c t h0]
    frame_out
    rfl

/-- A point's block of rows is the reference's. -/
theorem tile5 (t : Fin cfg0.N) (y : S512x1024.Idx) (z : S8192x1024.Idx) (e0 : (z 0).val = t.val * 512 + (y 0).val)
    (e1 : (z 1).val = (y 1).val) : (outsAt0 m c t.val t.isLt).1 y
      = Reference4Ideal.Read.val_main_v38 (F := Ideal) (m (c, main_arg0)) (m (c, main_arg1)) (m (c, main_arg2)) (m (c, main_arg3)) (m (c, main_arg4)) z := by
  obtain ⟨i, j, rfl⟩ : ∃ (i : Fin 512) (j : Fin 1024), y = ix2 i j := ⟨y 0, y 1, by ext a; fin_cases a <;> rfl⟩
  obtain ⟨r, s, rfl⟩ : ∃ (r : Fin 8192) (s : Fin 1024), z = ix2 r s := ⟨z 0, z 1, by ext a; fin_cases a <;> rfl⟩
  obtain rfl : s = j := Fin.ext e1
  refine (point_row m c t i s).trans ((out_row _ _ _ _ i s (dh m c r) (row m c r) (res m c r) (gn m c) (fun k => pay_at m c t i k r e0)
    (fun k => rows_at m c t i k r e0) (fun k => res_at m c t i k r e0) (fun k => gain_at m c t 0 k)).trans ?_)
  refine Eq.trans ?_ (ref_out _ _ _ _ _ r s).symm
  rw [ref_back, ref_root, ref_mean]
  exact row_eq (dh m c r) (row m c r) (gn m c) (res m c r s) s

/-- One row's part of the gain's gradient. -/
def term (r : Fin 8192) (j : Fin 1024) : EReal := dh m c r j * (row m c r j * Ideal.rsqrt (mean (row m c r)))

/-- A point's part. -/
def gpart (t : Fin cfg0.N) (y : S1x1024.Idx) : EReal :=
  ∑ k : Fin 512, term m c ⟨t.val * 512 + k.val, by have h1 : t.val < 16 := lt_of_lt_of_eq t.isLt N_0; omega⟩ (y 1)

/-- A point's part at an index. -/
theorem gpart_at (t : Fin cfg0.N) (z : Fin 1) (j : Fin 1024) :
    ∑ k : Fin 512, (pay m c t (ix2 k j) : EReal) * k0_pay3 (F := Ideal) (iblk m c 2 t) (ix2 k j) = gpart m c t (ix2 z j) := by
  refine Finset.sum_congr rfl fun k _ => ?_
  have h1 : t.val < 16 := lt_of_lt_of_eq t.isLt N_0
  rw [norm_at, root_at, pay_at m c t k j ⟨t.val * 512 + k.val, by omega⟩ rfl]
  simp only [rows_at m c t k _ ⟨t.val * 512 + k.val, by omega⟩ rfl]
  rfl

/-- The running sum after the first point. -/
theorem point_A (t : Fin cfg0.N) (h0 : t.val % 16 = 0) (y : S1x1024.Idx) :
    (outsAt0 m c t.val t.isLt).2 y = (0 : EReal) + gpart m c t y := by
  obtain ⟨z, j, rfl⟩ : ∃ (z : Fin 1) (j : Fin 1024), y = ix2 z j := ⟨y 0, y 1, by ext a; fin_cases a <;> rfl⟩
  rw [outsAt0_A m c t h0]
  frame_out
  refine (gain_out _ _ _ z j).trans (congrArg₂ (fun u v : EReal => u + v) ?_ (gpart_at m c t z j))
  exact zero_at _

/-- The running sum after a later point. -/
theorem point_B (t : Fin cfg0.N) (h0 : ¬ t.val % 16 = 0) (y : S1x1024.Idx) :
    (outsAt0 m c t.val t.isLt).2 y
      = ((outsAt0 m c (t.val - 1) (Nat.lt_of_le_of_lt (Nat.sub_le _ _) t.isLt)).2 y : EReal) + gpart m c t y := by
  obtain ⟨z, j, rfl⟩ : ∃ (z : Fin 1) (j : Fin 1024), y = ix2 z j := ⟨y 0, y 1, by ext a; fin_cases a <;> rfl⟩
  rw [outsAt0_B m c t h0]
  frame_out
  refine (gain_out _ _ _ z j).trans (congrArg₂ (fun u v : EReal => u + v) ?_ (gpart_at m c t z j))
  rfl

/-- A sum over the points of sums over their rows is the sum over all rows. -/
theorem sum_rows (f : Fin 8192 → EReal) (p : Fin 16 → Nat) (hp : ∀ s, p s = s.val) :
    ∑ s : Fin 16, ∑ k : Fin 512, f ⟨p s * 512 + k.val, by rw [hp]; omega⟩ = ∑ r : Fin 8192, f r := by
  refine Eq.trans ?_ (Fin.sum_divmod_congr (A := 16) (S := 512) (f := fun s k => f ⟨s.val * 512 + k.val, by omega⟩) (fun r ha hs => ?_)).symm
  · refine Finset.sum_congr rfl fun s _ => Finset.sum_congr rfl fun k _ => congrArg f (Fin.ext ?_)
    show p s * 512 + k.val = s.val * 512 + k.val
    rw [hp]
  · have h1 : (⟨r.val / 512 * 512 + r.val % 512, by omega⟩ : Fin 8192) = r := Fin.ext (Nat.div_add_mod' _ _)
    exact (congrArg f h1).symm

/-- The points' parts together are the sum over all rows. -/
theorem sum_parts (z : Fin 1) (j : Fin 1024) (p : Fin 16 → Fin cfg0.N) (hp : ∀ s, (p s).val = s.val) :
    ∑ s : Fin 16, gpart m c (p s) (ix2 z j)
      = Reference4Ideal.Read.val_main_v39 (F := Ideal) (m (c, main_arg0)) (m (c, main_arg2)) (m (c, main_arg3)) (ix2 z j) := by
  rw [ref_gain]
  refine (sum_rows (fun r => term m c r j) (fun s => (p s).val) hp).trans (Finset.sum_congr rfl fun r _ => ?_)
  rw [ref_root]
  exact mul_comm _ _

/-- What the last point leaves of the second result is the reference's. -/
theorem tile6 (t : Fin cfg0.N) (hm : t.val % 16 = 15) (y z : S1x1024.Idx) (e1 : (z 1).val = (y 1).val) : (outsAt0 m c t.val t.isLt).2 y
      = Reference4Ideal.Read.val_main_v39 (F := Ideal) (m (c, main_arg0)) (m (c, main_arg2)) (m (c, main_arg3)) z := by
  have ht : t.val < 16 := lt_of_lt_of_eq t.isLt N_0
  obtain ⟨a, j, rfl⟩ : ∃ (a : Fin 1) (j : Fin 1024), y = ix2 a j := ⟨y 0, y 1, by ext a; fin_cases a <;> rfl⟩
  obtain ⟨b, s, rfl⟩ : ∃ (b : Fin 1) (s : Fin 1024), z = ix2 b s := ⟨z 0, z 1, by ext a; fin_cases a <;> rfl⟩
  obtain rfl : s = j := Fin.ext e1
  obtain rfl : b = a := Subsingleton.elim _ _
  rw [Pipeline.eq_sum_fin_of_reset_step_apply_of_flush (M := EReal) (fun n h => (outsAt0 m c n h).2) 16 (fun _ => 0)
    (fun t y => gpart m c t y) (fun t h y => point_A m c t h y) (fun t h y => point_B m c t h y) t hm _, zero_add]
  exact sum_parts m c b s _ (fun s => by show 16 * (t.val / 16) + s.val = s.val; omega)

/-- The first array after the last point. -/
theorem final5 : (dats m 0 c).arrAt 5 (cfgs 0).N
    = Reference4Ideal.Read.val_main_v38 (F := Ideal) (m (c, main_arg0)) (m (c, main_arg1)) (m (c, main_arg2)) (m (c, main_arg3)) (m (c, main_arg4)) := by
  refine (dats m 0 c).arrAt_eq_of_covers 5 _ (by decide +kernel) fun t hf y => ?_
  blk_simp
  rw [after0_5]
  exact tile5 m c t y _ (by blk_simp [idx t]) (by blk_simp [idx t])

/-- The second array after the last point. -/
theorem final6 : (dats m 0 c).arrAt 6 (cfgs 0).N
    = Reference4Ideal.Read.val_main_v39 (F := Ideal) (m (c, main_arg0)) (m (c, main_arg2)) (m (c, main_arg3)) := by
  refine (dats m 0 c).arrAt_eq_of_covers 6 _ (by decide +kernel) fun t hf y => ?_
  blk_simp
  rw [after0_6]
  exact tile6 m c t ((flush0_6 t).mp hf) y _ (by blk_simp [idx t])

end Cert.Kernel4Ideal.Prod
end
-- ==== Proof.MixBack.lean ====
module
public import Idealize.ShloMosaic.Lib.Pipeline.ValueKit
public import Idealize.ShloMosaic.Lib.StableHlo.RunRead
public import proofs.«01_k».proof.Proof.Gen.Kernel11Ideal.Value
public import proofs.«01_k».proof.Proof.Gen.Reference11Ideal.Read

@[expose] public section
set_option maxRecDepth 16384
noncomputable section

/-! The backward product of the mixer's output weights, tile by tile. -/

namespace Cert.Kernel11Ideal.Prod
open Idealize Idealize.ShloMosaic Idealize.ShloMosaic.TcCoe Idealize.SL.Sem Cert.Kernel11Ideal Cert.Kernel11Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![0, 0] ∧ win0_2.index t = ![t.val, 0] :=
  (by decide +kernel : ∀ t : Fin grid0.N, _)

/-- The host hands the gradients over as they are. -/
theorem rows_eq : (V m c main_arg1 : S8192x1024.Idx → EReal) = m (c, main_arg1) := by
  unfold V
  after_reads_simp
  try rfl

/-- The host hands the weights over as they are. -/
theorem cols_eq : (V m c main_v0 : S1024x1024.Idx → EReal) = m (c, main_arg0) := by
  unfold V
  after_reads_simp
  try rfl

/-- A block of the gradients, read from the argument. -/
theorem rows_at (t : Fin cfg0.N) (i : Fin 1024) (k : Fin 1024) (r : Fin 8192) (hr : r.val = t.val * 1024 + i) :
    iblk m c 0 t (ix2 i k) = (m (c, main_arg1) : S8192x1024.Idx → EReal) (ix2 r k) := by
  refine Eq.trans ?_ (congrFun (rows_eq m c) _)
  blk_ext [iblk, idx t]

/-- The weights, read from the argument. -/
theorem cols_at (t : Fin cfg0.N) (j : Fin 1024) (k : Fin 1024) :
    iblk m c 1 t (ix2 j k) = (m (c, main_arg0) : S1024x1024.Idx → EReal) (ix2 j k) := by
  refine Eq.trans ?_ (congrFun (cols_eq m c) _)
  blk_ext [iblk, idx t]

/-- What a point stores: rows against rows. -/
theorem out_at (a : FVec Ideal S1024x1024 .f32) (b : FVec Ideal S1024x1024 .bf16) (i : Fin 1024) (j : Fin 1024) :
    k0_pay1 (F := Ideal) a b (ix2 i j) = ∑ k : Fin 1024, a (ix2 i k) * b (ix2 j k) := by
  delta k0_pay1
  pointwise []

/-- The reference's product at an index. -/
theorem ref_at (w : FVec Ideal S1024x1024 .f32) (x : FVec Ideal S8192x1024 .f32) (r : Fin 8192) (s : Fin 1024) :
    Reference11Ideal.Read.val_main_v3 (F := Ideal) w x (ix2 r s) = ∑ k : Fin 1024, x (ix2 r k) * w (ix2 s k) := by
  delta Reference11Ideal.Read.val_main_v3 Reference11Ideal.Read.val_main_v2
  pointwise []

/-- A point's tile is the reference's. -/
theorem tile (t : Fin cfg0.N) (y : S1024x1024.Idx) (z : S8192x1024.Idx) (e0 : (z 0).val = t.val * 1024 + (y 0).val) (e1 : (z 1).val = (y 1).val) :
    out0_2 (iblk m c 0 t) (iblk m c 1 t) y = Reference11Ideal.Read.val_main_v3 (F := Ideal) (m (c, main_arg0)) (m (c, main_arg1)) z := by
  obtain ⟨i, j, rfl⟩ : ∃ (i : Fin 1024) (j : Fin 1024), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_2
  rw [View.canon_cons_unit_zero (by decide), View.ld_unit_zero (by decide), View.ld_unit_zero (by decide)]
  refine (out_at _ _ _ _).trans (Eq.trans ?_ (ref_at _ _ _ _).symm)
  exact Finset.sum_congr rfl fun k _ => congrArg₂ (fun u v : EReal => u * v) (rows_at m c t i k r e0) (cols_at m c t j k)

/-- The array after the last point. -/
theorem final : (dats m 0 c).arrAt 2 (cfgs 0).N = Reference11Ideal.Read.val_main_v3 (F := Ideal) (m (c, main_arg0)) (m (c, main_arg1)) := by
  refine (dats m 0 c).arrAt_eq_of_covers 2 _ (by decide +kernel) fun t hf y => ?_
  blk_simp
  rw [after0_2]
  exact tile m c t y _ (by blk_simp [idx t]) (by blk_simp [idx t])

end Cert.Kernel11Ideal.Prod
end
-- ==== Proof.AttnOutBack.lean ====
module
public import Idealize.ShloMosaic.Lib.Pipeline.ValueKit
public import Idealize.ShloMosaic.Lib.StableHlo.RunRead
public import proofs.«01_k».proof.Proof.Gen.Kernel12Ideal.Value
public import proofs.«01_k».proof.Proof.Gen.Reference12Ideal.Read

@[expose] public section
set_option maxRecDepth 16384
noncomputable section

/-! The backward product of the attention's output weights, tile by tile. -/

namespace Cert.Kernel12Ideal.Prod
open Idealize Idealize.ShloMosaic Idealize.ShloMosaic.TcCoe Idealize.SL.Sem Cert.Kernel12Ideal Cert.Kernel12Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![0, 0] ∧ win0_2.index t = ![t.val, 0] :=
  (by decide +kernel : ∀ t : Fin grid0.N, _)

/-- The host hands the gradients over as they are. -/
theorem rows_eq : (V m c main_v0 : S8192x1024.Idx → EReal) = m (c, main_arg1) := by
  unfold V
  after_reads_simp
  try rfl

/-- The host hands the weights over as they are. -/
theorem cols_eq : (V m c main_v1 : S512x1024.Idx → EReal) = m (c, main_arg0) := by
  unfold V
  after_reads_simp
  try rfl

/-- A block of the gradients, read from the argument. -/
theorem rows_at (t : Fin cfg0.N) (i : Fin 1024) (k : Fin 1024) (r : Fin 8192) (hr : r.val = t.val * 1024 + i) :
    iblk m c 0 t (ix2 i k) = (m (c, main_arg1) : S8192x1024.Idx → EReal) (ix2 r k) := by
  refine Eq.trans ?_ (congrFun (rows_eq m c) _)
  blk_ext [iblk, idx t]

/-- The weights, read from the argument. -/
theorem cols_at (t : Fin cfg0.N) (j : Fin 512) (k : Fin 1024) :
    iblk m c 1 t (ix2 j k) = (m (c, main_arg0) : S512x1024.Idx → EReal) (ix2 j k) := by
  refine Eq.trans ?_ (congrFun (cols_eq m c) _)
  blk_ext [iblk, idx t]

/-- What a point stores: rows against rows. -/
theorem out_at (a : FVec Ideal S1024x1024 .bf16) (b : FVec Ideal S512x1024 .bf16) (i : Fin 1024) (j : Fin 512) :
    k0_pay1 (F := Ideal) a b (ix2 i j) = ∑ k : Fin 1024, a (ix2 i k) * b (ix2 j k) := by
  delta k0_pay1
  pointwise []

/-- The reference's product at an index. -/
theorem ref_at (w : FVec Ideal S512x1024 .f32) (x : FVec Ideal S8192x1024 .f32) (r : Fin 8192) (s : Fin 512) :
    Reference12Ideal.Read.val_main_v3 (F := Ideal) w x (ix2 r s) = ∑ k : Fin 1024, x (ix2 r k) * w (ix2 s k) := by
  delta Reference12Ideal.Read.val_main_v3 Reference12Ideal.Read.val_main_v2
  pointwise []

/-- A point's tile is the reference's. -/
theorem tile (t : Fin cfg0.N) (y : S1024x512.Idx) (z : S8192x512.Idx) (e0 : (z 0).val = t.val * 1024 + (y 0).val) (e1 : (z 1).val = (y 1).val) :
    out0_2 (iblk m c 0 t) (iblk m c 1 t) y = Reference12Ideal.Read.val_main_v3 (F := Ideal) (m (c, main_arg0)) (m (c, main_arg1)) z := by
  obtain ⟨i, j, rfl⟩ : ∃ (i : Fin 1024) (j : Fin 512), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_2
  rw [View.canon_cons_unit_zero (by decide), View.ld_unit_zero (by decide), View.ld_unit_zero (by decide)]
  refine (out_at _ _ _ _).trans (Eq.trans ?_ (ref_at _ _ _ _).symm)
  exact Finset.sum_congr rfl fun k _ => congrArg₂ (fun u v : EReal => u * v) (rows_at m c t i k r e0) (cols_at m c t j k)

/-- The array after the last point. -/
theorem final : (dats m 0 c).arrAt 2 (cfgs 0).N = Reference12Ideal.Read.val_main_v3 (F := Ideal) (m (c, main_arg0)) (m (c, main_arg1)) := by
  refine (dats m 0 c).arrAt_eq_of_covers 2 _ (by decide +kernel) fun t hf y => ?_
  blk_simp
  rw [after0_2]
  exact tile m c t y _ (by blk_simp [idx t]) (by blk_simp [idx t])

end Cert.Kernel12Ideal.Prod
end
-- ==== Proof.GluBack.lean ====
module
public import Idealize.ShloMosaic.Lib.Pipeline.ValueKit
public import Idealize.ShloMosaic.Lib.StableHlo.RunRead
public import proofs.«01_k».proof.Proof.Gen.Kernel13Ideal.Value
public import proofs.«01_k».proof.Proof.Gen.Reference13Ideal.Read

@[expose] public section
set_option maxRecDepth 16384
noncomputable section

/-! The backward product of the S5's gate weights, tile by tile. -/

namespace Cert.Kernel13Ideal.Prod
open Idealize Idealize.ShloMosaic Idealize.ShloMosaic.TcCoe Idealize.SL.Sem Cert.Kernel13Ideal Cert.Kernel13Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![0, 0] ∧ win0_2.index t = ![t.val, 0] :=
  (by decide +kernel : ∀ t : Fin grid0.N, _)

/-- The host hands the gradients over as they are. -/
theorem rows_eq : (V m c main_v0 : S8192x2048.Idx → EReal) = m (c, main_arg1) := by
  unfold V
  after_reads_simp
  try rfl

/-- The host hands the weights over as they are. -/
theorem cols_eq : (V m c main_v1 : S256x2048.Idx → EReal) = m (c, main_arg0) := by
  unfold V
  after_reads_simp
  try rfl

/-- A block of the gradients, read from the argument. -/
theorem rows_at (t : Fin cfg0.N) (i : Fin 1024) (k : Fin 2048) (r : Fin 8192) (hr : r.val = t.val * 1024 + i) :
    iblk m c 0 t (ix2 i k) = (m (c, main_arg1) : S8192x2048.Idx → EReal) (ix2 r k) := by
  refine Eq.trans ?_ (congrFun (rows_eq m c) _)
  blk_ext [iblk, idx t]

/-- The weights, read from the argument. -/
theorem cols_at (t : Fin cfg0.N) (j : Fin 256) (k : Fin 2048) :
    iblk m c 1 t (ix2 j k) = (m (c, main_arg0) : S256x2048.Idx → EReal) (ix2 j k) := by
  refine Eq.trans ?_ (congrFun (cols_eq m c) _)
  blk_ext [iblk, idx t]

/-- What a point stores: rows against rows. -/
theorem out_at (a : FVec Ideal S1024x2048 .bf16) (b : FVec Ideal S256x2048 .bf16) (i : Fin 1024) (j : Fin 256) :
    k0_pay1 (F := Ideal) a b (ix2 i j) = ∑ k : Fin 2048, a (ix2 i k) * b (ix2 j k) := by
  delta k0_pay1
  pointwise []

/-- The reference's product at an index. -/
theorem ref_at (w : FVec Ideal S256x2048 .f32) (x : FVec Ideal S8192x2048 .f32) (r : Fin 8192) (s : Fin 256) :
    Reference13Ideal.Read.val_main_v3 (F := Ideal) w x (ix2 r s) = ∑ k : Fin 2048, x (ix2 r k) * w (ix2 s k) := by
  delta Reference13Ideal.Read.val_main_v3 Reference13Ideal.Read.val_main_v2
  pointwise []

/-- A point's tile is the reference's. -/
theorem tile (t : Fin cfg0.N) (y : S1024x256.Idx) (z : S8192x256.Idx) (e0 : (z 0).val = t.val * 1024 + (y 0).val) (e1 : (z 1).val = (y 1).val) :
    out0_2 (iblk m c 0 t) (iblk m c 1 t) y = Reference13Ideal.Read.val_main_v3 (F := Ideal) (m (c, main_arg0)) (m (c, main_arg1)) z := by
  obtain ⟨i, j, rfl⟩ : ∃ (i : Fin 1024) (j : Fin 256), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_2
  rw [View.canon_cons_unit_zero (by decide), View.ld_unit_zero (by decide), View.ld_unit_zero (by decide)]
  refine (out_at _ _ _ _).trans (Eq.trans ?_ (ref_at _ _ _ _).symm)
  exact Finset.sum_congr rfl fun k _ => congrArg₂ (fun u v : EReal => u * v) (rows_at m c t i k r e0) (cols_at m c t j k)

/-- The array after the last point. -/
theorem final : (dats m 0 c).arrAt 2 (cfgs 0).N = Reference13Ideal.Read.val_main_v3 (F := Ideal) (m (c, main_arg0)) (m (c, main_arg1)) := by
  refine (dats m 0 c).arrAt_eq_of_covers 2 _ (by decide +kernel) fun t hf y => ?_
  blk_simp
  rw [after0_2]
  exact tile m c t y _ (by blk_simp [idx t]) (by blk_simp [idx t])

end Cert.Kernel13Ideal.Prod
end
-- ==== Proof.ConvOutBack.lean ====
module
public import Idealize.ShloMosaic.Lib.Pipeline.ValueKit
public import Idealize.ShloMosaic.Lib.StableHlo.RunRead
public import proofs.«01_k».proof.Proof.Gen.Kernel14Ideal.Value
public import proofs.«01_k».proof.Proof.Gen.Reference14Ideal.Read

@[expose] public section
set_option maxRecDepth 16384
noncomputable section

/-! The backward product of the convolution's output weights, tile by tile. -/

namespace Cert.Kernel14Ideal.Prod
open Idealize Idealize.ShloMosaic Idealize.ShloMosaic.TcCoe Idealize.SL.Sem Cert.Kernel14Ideal Cert.Kernel14Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![0, 0] ∧ win0_2.index t = ![t.val, 0] :=
  (by decide +kernel : ∀ t : Fin grid0.N, _)

/-- The host hands the gradients over as they are. -/
theorem rows_eq : (V m c main_v0 : S8192x1024.Idx → EReal) = m (c, main_arg1) := by
  unfold V
  after_reads_simp
  try rfl

/-- The host hands the weights over as they are. -/
theorem cols_eq : (V m c main_v1 : S256x1024.Idx → EReal) = m (c, main_arg0) := by
  unfold V
  after_reads_simp
  try rfl

/-- A block of the gradients, read from the argument. -/
theorem rows_at (t : Fin cfg0.N) (i : Fin 1024) (k : Fin 1024) (r : Fin 8192) (hr : r.val = t.val * 1024 + i) :
    iblk m c 0 t (ix2 i k) = (m (c, main_arg1) : S8192x1024.Idx → EReal) (ix2 r k) := by
  refine Eq.trans ?_ (congrFun (rows_eq m c) _)
  blk_ext [iblk, idx t]

/-- The weights, read from the argument. -/
theorem cols_at (t : Fin cfg0.N) (j : Fin 256) (k : Fin 1024) :
    iblk m c 1 t (ix2 j k) = (m (c, main_arg0) : S256x1024.Idx → EReal) (ix2 j k) := by
  refine Eq.trans ?_ (congrFun (cols_eq m c) _)
  blk_ext [iblk, idx t]

/-- What a point stores: rows against rows. -/
theorem out_at (a : FVec Ideal S1024x1024 .bf16) (b : FVec Ideal S256x1024 .bf16) (i : Fin 1024) (j : Fin 256) :
    k0_pay1 (F := Ideal) a b (ix2 i j) = ∑ k : Fin 1024, a (ix2 i k) * b (ix2 j k) := by
  delta k0_pay1
  pointwise []

/-- The reference's product at an index. -/
theorem ref_at (w : FVec Ideal S256x1024 .f32) (x : FVec Ideal S8192x1024 .f32) (r : Fin 8192) (s : Fin 256) :
    Reference14Ideal.Read.val_main_v3 (F := Ideal) w x (ix2 r s) = ∑ k : Fin 1024, x (ix2 r k) * w (ix2 s k) := by
  delta Reference14Ideal.Read.val_main_v3 Reference14Ideal.Read.val_main_v2
  pointwise []

/-- A point's tile is the reference's. -/
theorem tile (t : Fin cfg0.N) (y : S1024x256.Idx) (z : S8192x256.Idx) (e0 : (z 0).val = t.val * 1024 + (y 0).val) (e1 : (z 1).val = (y 1).val) :
    out0_2 (iblk m c 0 t) (iblk m c 1 t) y = Reference14Ideal.Read.val_main_v3 (F := Ideal) (m (c, main_arg0)) (m (c, main_arg1)) z := by
  obtain ⟨i, j, rfl⟩ : ∃ (i : Fin 1024) (j : Fin 256), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_2
  rw [View.canon_cons_unit_zero (by decide), View.ld_unit_zero (by decide), View.ld_unit_zero (by decide)]
  refine (out_at _ _ _ _).trans (Eq.trans ?_ (ref_at _ _ _ _).symm)
  exact Finset.sum_congr rfl fun k _ => congrArg₂ (fun u v : EReal => u * v) (rows_at m c t i k r e0) (cols_at m c t j k)

/-- The array after the last point. -/
theorem final : (dats m 0 c).arrAt 2 (cfgs 0).N = Reference14Ideal.Read.val_main_v3 (F := Ideal) (m (c, main_arg0)) (m (c, main_arg1)) := by
  refine (dats m 0 c).arrAt_eq_of_covers 2 _ (by decide +kernel) fun t hf y => ?_
  blk_simp
  rw [after0_2]
  exact tile m c t y _ (by blk_simp [idx t]) (by blk_simp [idx t])

end Cert.Kernel14Ideal.Prod
end
-- ==== Proof.AttnOutProd.lean ====
module
public import Idealize.ShloMosaic.Lib.Pipeline.ValueKit
public import Idealize.ShloMosaic.Lib.StableHlo.RunRead
public import proofs.«01_k».proof.Proof.Gen.Kernel15Ideal.Value
public import proofs.«01_k».proof.Proof.Gen.Reference15Ideal.Read

@[expose] public section
set_option maxRecDepth 16384
noncomputable section

/-! The forward product of the attention's output weights, tile by tile. -/

namespace Cert.Kernel15Ideal.Prod
open Idealize Idealize.ShloMosaic Idealize.ShloMosaic.TcCoe Idealize.SL.Sem Cert.Kernel15Ideal Cert.Kernel15Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![0, 0] ∧ win0_2.index t = ![t.val, 0] :=
  (by decide +kernel : ∀ t : Fin grid0.N, _)

/-- The host hands the rows over as they are. -/
theorem rows_eq : (V m c main_v0 : S8192x512.Idx → EReal) = m (c, main_arg0) := by
  unfold V
  after_reads_simp
  try rfl

/-- The host hands the weights over as they are. -/
theorem cols_eq : (V m c main_v1 : S512x1024.Idx → EReal) = m (c, main_arg1) := by
  unfold V
  after_reads_simp
  try rfl

/-- A block of the rows, read from the argument. -/
theorem rows_at (t : Fin cfg0.N) (i : Fin 1024) (k : Fin 512) (r : Fin 8192) (hr : r.val = t.val * 1024 + i) :
    iblk m c 0 t (ix2 i k) = (m (c, main_arg0) : S8192x512.Idx → EReal) (ix2 r k) := by
  refine Eq.trans ?_ (congrFun (rows_eq m c) _)
  blk_ext [iblk, idx t]

/-- The weights, read from the argument. -/
theorem cols_at (t : Fin cfg0.N) (j : Fin 1024) (k : Fin 512) :
    iblk m c 1 t (ix2 k j) = (m (c, main_arg1) : S512x1024.Idx → EReal) (ix2 k j) := by
  refine Eq.trans ?_ (congrFun (cols_eq m c) _)
  blk_ext [iblk, idx t]

/-- What a point stores: rows against columns. -/
theorem out_at (a : FVec Ideal S1024x512 .bf16) (b : FVec Ideal S512x1024 .bf16) (i : Fin 1024) (j : Fin 1024) :
    k0_pay1 (F := Ideal) a b (ix2 i j) = ∑ k : Fin 512, a (ix2 i k) * b (ix2 k j) := by
  delta k0_pay1
  pointwise []

/-- The reference's product at an index. -/
theorem ref_at (x : FVec Ideal S8192x512 .f32) (w : FVec Ideal S512x1024 .f32) (r : Fin 8192) (s : Fin 1024) :
    Reference15Ideal.Read.val_main_v1 (F := Ideal) x w (ix2 r s) = ∑ k : Fin 512, x (ix2 r k) * w (ix2 k s) := by
  delta Reference15Ideal.Read.val_main_v1 Reference15Ideal.Read.val_main_v0
  pointwise []

/-- A point's tile is the reference's. -/
theorem tile (t : Fin cfg0.N) (y : S1024x1024.Idx) (z : S8192x1024.Idx) (e0 : (z 0).val = t.val * 1024 + (y 0).val) (e1 : (z 1).val = (y 1).val) :
    out0_2 (iblk m c 0 t) (iblk m c 1 t) y = Reference15Ideal.Read.val_main_v1 (F := Ideal) (m (c, main_arg0)) (m (c, main_arg1)) z := by
  obtain ⟨i, j, rfl⟩ : ∃ (i : Fin 1024) (j : Fin 1024), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_2
  rw [View.canon_cons_unit_zero (by decide), View.ld_unit_zero (by decide), View.ld_unit_zero (by decide)]
  refine (out_at _ _ _ _).trans (Eq.trans ?_ (ref_at _ _ _ _).symm)
  exact Finset.sum_congr rfl fun k _ => congrArg₂ (fun u v : EReal => u * v) (rows_at m c t i k r e0) (cols_at m c t j k)

/-- The array after the last point. -/
theorem final : (dats m 0 c).arrAt 2 (cfgs 0).N = Reference15Ideal.Read.val_main_v1 (F := Ideal) (m (c, main_arg0)) (m (c, main_arg1)) := by
  refine (dats m 0 c).arrAt_eq_of_covers 2 _ (by decide +kernel) fun t hf y => ?_
  blk_simp
  rw [after0_2]
  exact tile m c t y _ (by blk_simp [idx t]) (by blk_simp [idx t])

end Cert.Kernel15Ideal.Prod
end
-- ==== Proof.Tokens.lean ====
module
public import Idealize.ShloMosaic.Lib.Pipeline.ValueKit

@[expose] public section
noncomputable section

/-! A sum over the tokens, taken block by block. -/

namespace Cert.Tokens

/-- A running sum that starts with the first block's sum and adds a block's at a time is the sum over all the blocks' elements. -/
theorem running {N : ℕ} (B : ℕ) (F : ℕ → EReal) (o : ∀ n, n < N → EReal) (h0 : ∀ h, o 0 h = ∑ k : Fin B, F k.val)
    (hs : ∀ n (h : n + 1 < N), o (n + 1) h = o n (Nat.lt_of_succ_lt h) + ∑ k : Fin B, F ((n + 1) * B + k.val)) :
    ∀ n (h : n < N), o n h = ∑ r : Fin ((n + 1) * B), F r.val := by
  intro n
  induction n with
  | zero =>
    intro h
    rw [h0, Finset.sum_range (fun k => F k) |>.symm, Finset.sum_range (fun k => F k) |>.symm, Nat.zero_add, Nat.one_mul]
  | succ n ih =>
    intro h
    rw [hs n h, ih, ← Finset.sum_range (fun k => F k), ← Finset.sum_range (fun k => F k), ← Finset.sum_range (fun k => F ((n + 1) * B + k)),
      Nat.add_mul (n + 1), Nat.one_mul, Finset.sum_range_add]

/-- A token's part of a sum of products, nothing past the last token. -/
def term {T : ℕ} (x g : Fin T → EReal) (r : ℕ) : EReal := if h : r < T then g ⟨r, h⟩ * x ⟨r, h⟩ else 0

/-- All the tokens' parts. -/
theorem total {T : ℕ} (x g : Fin T → EReal) : ∑ r : Fin T, term x g r.val = ∑ r : Fin T, g r * x r :=
  Finset.sum_congr rfl fun r _ => dif_pos r.isLt

/-- A block's sum of products is its tokens' parts. -/
theorem block {T B : ℕ} (x g : Fin T → EReal) (a b : Fin B → EReal) (t : ℕ) (h : ∀ k : Fin B, t * B + k.val < T)
    (ha : ∀ k, a k = x ⟨_, h k⟩) (hb : ∀ k, b k = g ⟨_, h k⟩) : ∑ k, a k * b k = ∑ k : Fin B, term x g (t * B + k.val) :=
  Finset.sum_congr rfl fun k _ => by rw [ha, hb, term, dif_pos (h k), mul_comm]

end Cert.Tokens
end
-- ==== Proof.MixGrad.lean ====
module
public import Idealize.ShloMosaic.Lib.Pipeline.ValueKit
public import Idealize.ShloMosaic.Lib.StableHlo.RunRead
public import proofs.«01_k».proof.Proof.Gen.Kernel16Ideal.Value
public import proofs.«01_k».proof.Proof.Gen.Reference16Ideal.Read
public import proofs.«01_k».proof.Proof.Tokens

@[expose] public section
set_option maxRecDepth 16384
noncomputable section

/-! The gradient of the mixer's output weights: a product over the tokens, summed block by block over the grid. -/

namespace Cert.Kernel16Ideal.Prod
open Idealize Idealize.ShloMosaic Idealize.ShloMosaic.TcCoe Idealize.SL.Sem Cert.Kernel16Ideal Cert.Kernel16Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![t.val, 0] ∧ win0_2.index t = ![0, 0] :=
  (by decide +kernel : ∀ t : Fin grid0.N, _)

/-- The host hands the rows over as they are. -/
theorem rows_eq : (V m c main_v0 : S8192x1024.Idx → EReal) = m (c, main_arg0) := by
  unfold V
  after_reads_simp
  try rfl

/-- The host hands the gradients over as they are. -/
theorem cols_eq : (V m c main_arg1 : S8192x1024.Idx → EReal) = m (c, main_arg1) := by
  unfold V
  after_reads_simp
  try rfl

/-- The rows' entries that a weight meets, token by token. -/
def xs (i : Fin 1024) (r : Fin 8192) : EReal := (m (c, main_arg0) : S8192x1024.Idx → EReal) (ix2 r i)

/-- The gradients' entries that a weight meets, token by token. -/
def gs (j : Fin 1024) (r : Fin 8192) : EReal := (m (c, main_arg1) : S8192x1024.Idx → EReal) (ix2 r j)

/-- The product of two blocks. -/
theorem prod_at (a : FVec Ideal S1024x1024 .bf16) (b : FVec Ideal S1024x1024 .f32) (i : Fin 1024) (j : Fin 1024) :
    k0_pay1 (F := Ideal) a b (ix2 i j) = ∑ k : Fin 1024, a (ix2 k i) * b (ix2 k j) := by
  delta k0_pay1
  pointwise []

/-- A point's product is its tokens' parts. -/
theorem part_at (t : Fin cfg0.N) (i : Fin 1024) (j : Fin 1024) :
    k0_pay1 (F := Ideal) (iblk m c 0 t) (iblk m c 1 t) (ix2 i j) = ∑ k : Fin 1024, Tokens.term (xs m c i) (gs m c j) (t.val * 1024 + k.val) := by
  refine (prod_at _ _ i j).trans (Tokens.block (xs m c i) (gs m c j) _ _ t.val (fun k => ?_) (fun k => ?_) (fun k => ?_))
  · have h1 : t.val < 8 := lt_of_lt_of_eq t.isLt N_0
    omega
  · refine Eq.trans ?_ (congrFun (rows_eq m c) _)
    blk_ext [iblk, idx t]
  · refine Eq.trans ?_ (congrFun (cols_eq m c) _)
    blk_ext [iblk, idx t]

/-- The first block's product is kept as it is. -/
theorem first_at (a : FVec Ideal S1024x1024 .bf16) (b : FVec Ideal S1024x1024 .f32) (i : Fin 1024) (j : Fin 1024) :
    k0_pay2 (F := Ideal) a b (ix2 i j) = k0_pay1 (F := Ideal) a b (ix2 i j) := by
  delta k0_pay2
  generalize k0_pay1 (F := Ideal) a b = p
  pointwise []

/-- A later block's product is added. -/
theorem next_at (a : FVec Ideal S1024x1024 .bf16) (b : FVec Ideal S1024x1024 .f32) (z : FVec Ideal S1024x1024 .f32) (i : Fin 1024) (j : Fin 1024) :
    k0_pay3 (F := Ideal) a b z (ix2 i j) = z (ix2 i j) + k0_pay1 (F := Ideal) a b (ix2 i j) := by
  delta k0_pay3
  generalize k0_pay1 (F := Ideal) a b = p
  pointwise []

/-- The sum is written out unchanged. -/
theorem last_at (z : FVec Ideal S1024x1024 .f32) (i : Fin 1024) (j : Fin 1024) : k0_pay4 (F := Ideal) z (ix2 i j) = z (ix2 i j) := by
  delta k0_pay4
  pointwise []

/-- The running sum after a point is over the tokens so far. -/
theorem run (i : Fin 1024) (j : Fin 1024) : ∀ n (h : n < cfg0.N),
    ((outsAt0 m c n h).2 (ix2 i j) : EReal) = ∑ r : Fin ((n + 1) * 1024), Tokens.term (xs m c i) (gs m c j) r.val := by
  refine Tokens.running 1024 (Tokens.term (xs m c i) (gs m c j)) (fun n h => (outsAt0 m c n h).2 (ix2 i j)) (fun h => ?_) (fun n h => ?_)
  · rw [outsAt0_A m c ⟨0, h⟩ rfl (by show ¬ 1 ≤ 0; decide) (by show ¬ 0 % 8 = 7; decide)]
    frame_out
    refine ((first_at _ _ i j).trans (part_at m c ⟨0, h⟩ i j)).trans ?_
    simp only [Nat.zero_mul, Nat.zero_add]
  · have hn : n + 1 < 8 := lt_of_lt_of_eq h N_0
    by_cases h2 : (n + 1) % 8 = 7
    · rw [outsAt0_C m c ⟨n + 1, h⟩ (by show ¬ (n + 1) % 8 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _
    · rw [outsAt0_B m c ⟨n + 1, h⟩ (by show ¬ (n + 1) % 8 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _

/-- What the last point writes out is the running sum. -/
theorem written (t : Fin cfg0.N) (h2 : t.val % 8 = 7) (i : Fin 1024) (j : Fin 1024) :
    ((outsAt0 m c t.val t.isLt).1 (ix2 i j) : EReal) = (outsAt0 m c t.val t.isLt).2 (ix2 i j) := by
  rw [outsAt0_C m c t (by omega) (by omega) h2]
  frame_out
  exact last_at _ i j

/-- The reference's gradient at an index. -/
theorem ref_at (x : FVec Ideal S8192x1024 .f32) (g : FVec Ideal S8192x1024 .f32) (i : Fin 1024) (j : Fin 1024) :
    Reference16Ideal.Read.val_main_v4 (F := Ideal) x g (ix2 i j) = ∑ r : Fin 8192, g (ix2 r j) * x (ix2 r i) := by
  delta Reference16Ideal.Read.val_main_v4 Reference16Ideal.Read.val_main_v3 Reference16Ideal.Read.val_main_v2
  pointwise []

/-- What the last point writes out is the reference's gradient. -/
theorem tile (t : Fin cfg0.N) (h2 : t.val % 8 = 7) (y z : S1024x1024.Idx) (e0 : (z 0).val = (y 0).val) (e1 : (z 1).val = (y 1).val) :
    (outsAt0 m c t.val t.isLt).1 y = Reference16Ideal.Read.val_main_v4 (F := Ideal) (m (c, main_arg0)) (m (c, main_arg1)) z := by
  obtain ⟨i, j, rfl⟩ : ∃ (i : Fin 1024) (j : Fin 1024), y = ix2 i j := ⟨y 0, y 1, by ext a; fin_cases a <;> rfl⟩
  obtain rfl : z = ix2 i j := by ext a; fin_cases a; exacts [e0, e1]
  have ht : t = (⟨7, lt_of_lt_of_eq (by decide) N_0.symm⟩ : Fin cfg0.N) := Fin.ext (by have := lt_of_lt_of_eq t.isLt N_0; show t.val = 7; omega)
  subst ht
  refine (written m c _ h2 i j).trans ((run m c i j 7 _).trans (Eq.trans ?_ (ref_at _ _ i j).symm))
  exact Tokens.total (xs m c i) (gs m c j)

/-- The array after the last point. -/
theorem final : (dats m 0 c).arrAt 2 (cfgs 0).N = Reference16Ideal.Read.val_main_v4 (F := Ideal) (m (c, main_arg0)) (m (c, main_arg1)) := by
  refine (dats m 0 c).arrAt_eq_of_covers 2 _ (by decide +kernel) fun t hf y => ?_
  blk_simp
  rw [after0_2]
  exact tile m c t ((flush0_2 t).mp hf) y _ (by blk_simp [idx t]) (by blk_simp [idx t])

end Cert.Kernel16Ideal.Prod
end
-- ==== Proof.AttnOutGrad.lean ====
module
public import Idealize.ShloMosaic.Lib.Pipeline.ValueKit
public import Idealize.ShloMosaic.Lib.StableHlo.RunRead
public import proofs.«01_k».proof.Proof.Gen.Kernel17Ideal.Value
public import proofs.«01_k».proof.Proof.Gen.Reference17Ideal.Read
public import proofs.«01_k».proof.Proof.Tokens

@[expose] public section
set_option maxRecDepth 16384
noncomputable section

/-! The gradient of the attention's output weights: a product over the tokens, summed block by block over the grid. -/

namespace Cert.Kernel17Ideal.Prod
open Idealize Idealize.ShloMosaic Idealize.ShloMosaic.TcCoe Idealize.SL.Sem Cert.Kernel17Ideal Cert.Kernel17Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![t.val, 0] ∧ win0_2.index t = ![0, 0] :=
  (by decide +kernel : ∀ t : Fin grid0.N, _)

/-- The host hands the rows over as they are. -/
theorem rows_eq : (V m c main_v0 : S8192x512.Idx → EReal) = m (c, main_arg0) := by
  unfold V
  after_reads_simp
  try rfl

/-- The host hands the gradients over as they are. -/
theorem cols_eq : (V m c main_v1 : S8192x1024.Idx → EReal) = m (c, main_arg1) := by
  unfold V
  after_reads_simp
  try rfl

/-- The rows' entries that a weight meets, token by token. -/
def xs (i : Fin 512) (r : Fin 8192) : EReal := (m (c, main_arg0) : S8192x512.Idx → EReal) (ix2 r i)

/-- The gradients' entries that a weight meets, token by token. -/
def gs (j : Fin 1024) (r : Fin 8192) : EReal := (m (c, main_arg1) : S8192x1024.Idx → EReal) (ix2 r j)

/-- The product of two blocks. -/
theorem prod_at (a : FVec Ideal S2048x512 .bf16) (b : FVec Ideal S2048x1024 .bf16) (i : Fin 512) (j : Fin 1024) :
    k0_pay1 (F := Ideal) a b (ix2 i j) = ∑ k : Fin 2048, a (ix2 k i) * b (ix2 k j) := by
  delta k0_pay1
  pointwise []

/-- A point's product is its tokens' parts. -/
theorem part_at (t : Fin cfg0.N) (i : Fin 512) (j : Fin 1024) :
    k0_pay1 (F := Ideal) (iblk m c 0 t) (iblk m c 1 t) (ix2 i j) = ∑ k : Fin 2048, Tokens.term (xs m c i) (gs m c j) (t.val * 2048 + k.val) := by
  refine (prod_at _ _ i j).trans (Tokens.block (xs m c i) (gs m c j) _ _ t.val (fun k => ?_) (fun k => ?_) (fun k => ?_))
  · have h1 : t.val < 4 := lt_of_lt_of_eq t.isLt N_0
    omega
  · refine Eq.trans ?_ (congrFun (rows_eq m c) _)
    blk_ext [iblk, idx t]
  · refine Eq.trans ?_ (congrFun (cols_eq m c) _)
    blk_ext [iblk, idx t]

/-- The first block's product is kept as it is. -/
theorem first_at (a : FVec Ideal S2048x512 .bf16) (b : FVec Ideal S2048x1024 .bf16) (i : Fin 512) (j : Fin 1024) :
    k0_pay2 (F := Ideal) a b (ix2 i j) = k0_pay1 (F := Ideal) a b (ix2 i j) := by
  delta k0_pay2
  generalize k0_pay1 (F := Ideal) a b = p
  pointwise []

/-- A later block's product is added. -/
theorem next_at (a : FVec Ideal S2048x512 .bf16) (b : FVec Ideal S2048x1024 .bf16) (z : FVec Ideal S512x1024 .f32) (i : Fin 512) (j : Fin 1024) :
    k0_pay3 (F := Ideal) a b z (ix2 i j) = z (ix2 i j) + k0_pay1 (F := Ideal) a b (ix2 i j) := by
  delta k0_pay3
  generalize k0_pay1 (F := Ideal) a b = p
  pointwise []

/-- The sum is written out unchanged. -/
theorem last_at (z : FVec Ideal S512x1024 .f32) (i : Fin 512) (j : Fin 1024) : k0_pay4 (F := Ideal) z (ix2 i j) = z (ix2 i j) := by
  delta k0_pay4
  pointwise []

/-- The running sum after a point is over the tokens so far. -/
theorem run (i : Fin 512) (j : Fin 1024) : ∀ n (h : n < cfg0.N),
    ((outsAt0 m c n h).2 (ix2 i j) : EReal) = ∑ r : Fin ((n + 1) * 2048), Tokens.term (xs m c i) (gs m c j) r.val := by
  refine Tokens.running 2048 (Tokens.term (xs m c i) (gs m c j)) (fun n h => (outsAt0 m c n h).2 (ix2 i j)) (fun h => ?_) (fun n h => ?_)
  · rw [outsAt0_A m c ⟨0, h⟩ rfl (by show ¬ 1 ≤ 0; decide) (by show ¬ 0 % 4 = 3; decide)]
    frame_out
    refine ((first_at _ _ i j).trans (part_at m c ⟨0, h⟩ i j)).trans ?_
    simp only [Nat.zero_mul, Nat.zero_add]
  · have hn : n + 1 < 4 := lt_of_lt_of_eq h N_0
    by_cases h2 : (n + 1) % 4 = 3
    · rw [outsAt0_C m c ⟨n + 1, h⟩ (by show ¬ (n + 1) % 4 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _
    · rw [outsAt0_B m c ⟨n + 1, h⟩ (by show ¬ (n + 1) % 4 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _

/-- What the last point writes out is the running sum. -/
theorem written (t : Fin cfg0.N) (h2 : t.val % 4 = 3) (i : Fin 512) (j : Fin 1024) :
    ((outsAt0 m c t.val t.isLt).1 (ix2 i j) : EReal) = (outsAt0 m c t.val t.isLt).2 (ix2 i j) := by
  rw [outsAt0_C m c t (by omega) (by omega) h2]
  frame_out
  exact last_at _ i j

/-- The reference's gradient at an index. -/
theorem ref_at (x : FVec Ideal S8192x512 .f32) (g : FVec Ideal S8192x1024 .f32) (i : Fin 512) (j : Fin 1024) :
    Reference17Ideal.Read.val_main_v4 (F := Ideal) x g (ix2 i j) = ∑ r : Fin 8192, g (ix2 r j) * x (ix2 r i) := by
  delta Reference17Ideal.Read.val_main_v4 Reference17Ideal.Read.val_main_v3 Reference17Ideal.Read.val_main_v2
  pointwise []

/-- What the last point writes out is the reference's gradient. -/
theorem tile (t : Fin cfg0.N) (h2 : t.val % 4 = 3) (y z : S512x1024.Idx) (e0 : (z 0).val = (y 0).val) (e1 : (z 1).val = (y 1).val) :
    (outsAt0 m c t.val t.isLt).1 y = Reference17Ideal.Read.val_main_v4 (F := Ideal) (m (c, main_arg0)) (m (c, main_arg1)) z := by
  obtain ⟨i, j, rfl⟩ : ∃ (i : Fin 512) (j : Fin 1024), y = ix2 i j := ⟨y 0, y 1, by ext a; fin_cases a <;> rfl⟩
  obtain rfl : z = ix2 i j := by ext a; fin_cases a; exacts [e0, e1]
  have ht : t = (⟨3, lt_of_lt_of_eq (by decide) N_0.symm⟩ : Fin cfg0.N) := Fin.ext (by have := lt_of_lt_of_eq t.isLt N_0; show t.val = 3; omega)
  subst ht
  refine (written m c _ h2 i j).trans ((run m c i j 3 _).trans (Eq.trans ?_ (ref_at _ _ i j).symm))
  exact Tokens.total (xs m c i) (gs m c j)

/-- The array after the last point. -/
theorem final : (dats m 0 c).arrAt 2 (cfgs 0).N = Reference17Ideal.Read.val_main_v4 (F := Ideal) (m (c, main_arg0)) (m (c, main_arg1)) := by
  refine (dats m 0 c).arrAt_eq_of_covers 2 _ (by decide +kernel) fun t hf y => ?_
  blk_simp
  rw [after0_2]
  exact tile m c t ((flush0_2 t).mp hf) y _ (by blk_simp [idx t]) (by blk_simp [idx t])

end Cert.Kernel17Ideal.Prod
end
-- ==== Proof.GluGrad.lean ====
module
public import Idealize.ShloMosaic.Lib.Pipeline.ValueKit
public import Idealize.ShloMosaic.Lib.StableHlo.RunRead
public import proofs.«01_k».proof.Proof.Gen.Kernel18Ideal.Value
public import proofs.«01_k».proof.Proof.Gen.Reference18Ideal.Read
public import proofs.«01_k».proof.Proof.Tokens

@[expose] public section
set_option maxRecDepth 16384
noncomputable section

/-! The gradient of the S5's gate weights: a product over the tokens, summed block by block over the grid. -/

namespace Cert.Kernel18Ideal.Prod
open Idealize Idealize.ShloMosaic Idealize.ShloMosaic.TcCoe Idealize.SL.Sem Cert.Kernel18Ideal Cert.Kernel18Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![t.val, 0] ∧ win0_2.index t = ![0, 0] :=
  (by decide +kernel : ∀ t : Fin grid0.N, _)

/-- The host hands the rows over as they are. -/
theorem rows_eq : (V m c main_v0 : S8192x256.Idx → EReal) = m (c, main_arg0) := by
  unfold V
  after_reads_simp
  try rfl

/-- The host hands the gradients over as they are. -/
theorem cols_eq : (V m c main_v1 : S8192x2048.Idx → EReal) = m (c, main_arg1) := by
  unfold V
  after_reads_simp
  try rfl

/-- The rows' entries that a weight meets, token by token. -/
def xs (i : Fin 256) (r : Fin 8192) : EReal := (m (c, main_arg0) : S8192x256.Idx → EReal) (ix2 r i)

/-- The gradients' entries that a weight meets, token by token. -/
def gs (j : Fin 2048) (r : Fin 8192) : EReal := (m (c, main_arg1) : S8192x2048.Idx → EReal) (ix2 r j)

/-- The product of two blocks. -/
theorem prod_at (a : FVec Ideal S2048x256 .bf16) (b : FVec Ideal S2048x2048 .bf16) (i : Fin 256) (j : Fin 2048) :
    k0_pay1 (F := Ideal) a b (ix2 i j) = ∑ k : Fin 2048, a (ix2 k i) * b (ix2 k j) := by
  delta k0_pay1
  pointwise []

/-- A point's product is its tokens' parts. -/
theorem part_at (t : Fin cfg0.N) (i : Fin 256) (j : Fin 2048) :
    k0_pay1 (F := Ideal) (iblk m c 0 t) (iblk m c 1 t) (ix2 i j) = ∑ k : Fin 2048, Tokens.term (xs m c i) (gs m c j) (t.val * 2048 + k.val) := by
  refine (prod_at _ _ i j).trans (Tokens.block (xs m c i) (gs m c j) _ _ t.val (fun k => ?_) (fun k => ?_) (fun k => ?_))
  · have h1 : t.val < 4 := lt_of_lt_of_eq t.isLt N_0
    omega
  · refine Eq.trans ?_ (congrFun (rows_eq m c) _)
    blk_ext [iblk, idx t]
  · refine Eq.trans ?_ (congrFun (cols_eq m c) _)
    blk_ext [iblk, idx t]

/-- The first block's product is kept as it is. -/
theorem first_at (a : FVec Ideal S2048x256 .bf16) (b : FVec Ideal S2048x2048 .bf16) (i : Fin 256) (j : Fin 2048) :
    k0_pay2 (F := Ideal) a b (ix2 i j) = k0_pay1 (F := Ideal) a b (ix2 i j) := by
  delta k0_pay2
  generalize k0_pay1 (F := Ideal) a b = p
  pointwise []

/-- A later block's product is added. -/
theorem next_at (a : FVec Ideal S2048x256 .bf16) (b : FVec Ideal S2048x2048 .bf16) (z : FVec Ideal S256x2048 .f32) (i : Fin 256) (j : Fin 2048) :
    k0_pay3 (F := Ideal) a b z (ix2 i j) = z (ix2 i j) + k0_pay1 (F := Ideal) a b (ix2 i j) := by
  delta k0_pay3
  generalize k0_pay1 (F := Ideal) a b = p
  pointwise []

/-- The sum is written out unchanged. -/
theorem last_at (z : FVec Ideal S256x2048 .f32) (i : Fin 256) (j : Fin 2048) : k0_pay4 (F := Ideal) z (ix2 i j) = z (ix2 i j) := by
  delta k0_pay4
  pointwise []

/-- The running sum after a point is over the tokens so far. -/
theorem run (i : Fin 256) (j : Fin 2048) : ∀ n (h : n < cfg0.N),
    ((outsAt0 m c n h).2 (ix2 i j) : EReal) = ∑ r : Fin ((n + 1) * 2048), Tokens.term (xs m c i) (gs m c j) r.val := by
  refine Tokens.running 2048 (Tokens.term (xs m c i) (gs m c j)) (fun n h => (outsAt0 m c n h).2 (ix2 i j)) (fun h => ?_) (fun n h => ?_)
  · rw [outsAt0_A m c ⟨0, h⟩ rfl (by show ¬ 1 ≤ 0; decide) (by show ¬ 0 % 4 = 3; decide)]
    frame_out
    refine ((first_at _ _ i j).trans (part_at m c ⟨0, h⟩ i j)).trans ?_
    simp only [Nat.zero_mul, Nat.zero_add]
  · have hn : n + 1 < 4 := lt_of_lt_of_eq h N_0
    by_cases h2 : (n + 1) % 4 = 3
    · rw [outsAt0_C m c ⟨n + 1, h⟩ (by show ¬ (n + 1) % 4 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _
    · rw [outsAt0_B m c ⟨n + 1, h⟩ (by show ¬ (n + 1) % 4 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _

/-- What the last point writes out is the running sum. -/
theorem written (t : Fin cfg0.N) (h2 : t.val % 4 = 3) (i : Fin 256) (j : Fin 2048) :
    ((outsAt0 m c t.val t.isLt).1 (ix2 i j) : EReal) = (outsAt0 m c t.val t.isLt).2 (ix2 i j) := by
  rw [outsAt0_C m c t (by omega) (by omega) h2]
  frame_out
  exact last_at _ i j

/-- The reference's gradient at an index. -/
theorem ref_at (x : FVec Ideal S8192x256 .f32) (g : FVec Ideal S8192x2048 .f32) (i : Fin 256) (j : Fin 2048) :
    Reference18Ideal.Read.val_main_v4 (F := Ideal) x g (ix2 i j) = ∑ r : Fin 8192, g (ix2 r j) * x (ix2 r i) := by
  delta Reference18Ideal.Read.val_main_v4 Reference18Ideal.Read.val_main_v3 Reference18Ideal.Read.val_main_v2
  pointwise []

/-- What the last point writes out is the reference's gradient. -/
theorem tile (t : Fin cfg0.N) (h2 : t.val % 4 = 3) (y z : S256x2048.Idx) (e0 : (z 0).val = (y 0).val) (e1 : (z 1).val = (y 1).val) :
    (outsAt0 m c t.val t.isLt).1 y = Reference18Ideal.Read.val_main_v4 (F := Ideal) (m (c, main_arg0)) (m (c, main_arg1)) z := by
  obtain ⟨i, j, rfl⟩ : ∃ (i : Fin 256) (j : Fin 2048), y = ix2 i j := ⟨y 0, y 1, by ext a; fin_cases a <;> rfl⟩
  obtain rfl : z = ix2 i j := by ext a; fin_cases a; exacts [e0, e1]
  have ht : t = (⟨3, lt_of_lt_of_eq (by decide) N_0.symm⟩ : Fin cfg0.N) := Fin.ext (by have := lt_of_lt_of_eq t.isLt N_0; show t.val = 3; omega)
  subst ht
  refine (written m c _ h2 i j).trans ((run m c i j 3 _).trans (Eq.trans ?_ (ref_at _ _ i j).symm))
  exact Tokens.total (xs m c i) (gs m c j)

/-- The array after the last point. -/
theorem final : (dats m 0 c).arrAt 2 (cfgs 0).N = Reference18Ideal.Read.val_main_v4 (F := Ideal) (m (c, main_arg0)) (m (c, main_arg1)) := by
  refine (dats m 0 c).arrAt_eq_of_covers 2 _ (by decide +kernel) fun t hf y => ?_
  blk_simp
  rw [after0_2]
  exact tile m c t ((flush0_2 t).mp hf) y _ (by blk_simp [idx t]) (by blk_simp [idx t])

end Cert.Kernel18Ideal.Prod
end
-- ==== Proof.ConvOutGrad.lean ====
module
public import Idealize.ShloMosaic.Lib.Pipeline.ValueKit
public import Idealize.ShloMosaic.Lib.StableHlo.RunRead
public import proofs.«01_k».proof.Proof.Gen.Kernel19Ideal.Value
public import proofs.«01_k».proof.Proof.Gen.Reference19Ideal.Read
public import proofs.«01_k».proof.Proof.Tokens

@[expose] public section
set_option maxRecDepth 16384
noncomputable section

/-! The gradient of the convolution's output weights: a product over the tokens, summed block by block over the grid. -/

namespace Cert.Kernel19Ideal.Prod
open Idealize Idealize.ShloMosaic Idealize.ShloMosaic.TcCoe Idealize.SL.Sem Cert.Kernel19Ideal Cert.Kernel19Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![t.val, 0] ∧ win0_2.index t = ![0, 0] :=
  (by decide +kernel : ∀ t : Fin grid0.N, _)

/-- The host hands the rows over as they are. -/
theorem rows_eq : (V m c main_v0 : S8192x256.Idx → EReal) = m (c, main_arg0) := by
  unfold V
  after_reads_simp
  try rfl

/-- The host hands the gradients over as they are. -/
theorem cols_eq : (V m c main_v1 : S8192x1024.Idx → EReal) = m (c, main_arg1) := by
  unfold V
  after_reads_simp
  try rfl

/-- The rows' entries that a weight meets, token by token. -/
def xs (i : Fin 256) (r : Fin 8192) : EReal := (m (c, main_arg0) : S8192x256.Idx → EReal) (ix2 r i)

/-- The gradients' entries that a weight meets, token by token. -/
def gs (j : Fin 1024) (r : Fin 8192) : EReal := (m (c, main_arg1) : S8192x1024.Idx → EReal) (ix2 r j)

/-- The product of two blocks. -/
theorem prod_at (a : FVec Ideal S2048x256 .bf16) (b : FVec Ideal S2048x1024 .bf16) (i : Fin 256) (j : Fin 1024) :
    k0_pay1 (F := Ideal) a b (ix2 i j) = ∑ k : Fin 2048, a (ix2 k i) * b (ix2 k j) := by
  delta k0_pay1
  pointwise []

/-- A point's product is its tokens' parts. -/
theorem part_at (t : Fin cfg0.N) (i : Fin 256) (j : Fin 1024) :
    k0_pay1 (F := Ideal) (iblk m c 0 t) (iblk m c 1 t) (ix2 i j) = ∑ k : Fin 2048, Tokens.term (xs m c i) (gs m c j) (t.val * 2048 + k.val) := by
  refine (prod_at _ _ i j).trans (Tokens.block (xs m c i) (gs m c j) _ _ t.val (fun k => ?_) (fun k => ?_) (fun k => ?_))
  · have h1 : t.val < 4 := lt_of_lt_of_eq t.isLt N_0
    omega
  · refine Eq.trans ?_ (congrFun (rows_eq m c) _)
    blk_ext [iblk, idx t]
  · refine Eq.trans ?_ (congrFun (cols_eq m c) _)
    blk_ext [iblk, idx t]

/-- The first block's product is kept as it is. -/
theorem first_at (a : FVec Ideal S2048x256 .bf16) (b : FVec Ideal S2048x1024 .bf16) (i : Fin 256) (j : Fin 1024) :
    k0_pay2 (F := Ideal) a b (ix2 i j) = k0_pay1 (F := Ideal) a b (ix2 i j) := by
  delta k0_pay2
  generalize k0_pay1 (F := Ideal) a b = p
  pointwise []

/-- A later block's product is added. -/
theorem next_at (a : FVec Ideal S2048x256 .bf16) (b : FVec Ideal S2048x1024 .bf16) (z : FVec Ideal S256x1024 .f32) (i : Fin 256) (j : Fin 1024) :
    k0_pay3 (F := Ideal) a b z (ix2 i j) = z (ix2 i j) + k0_pay1 (F := Ideal) a b (ix2 i j) := by
  delta k0_pay3
  generalize k0_pay1 (F := Ideal) a b = p
  pointwise []

/-- The sum is written out unchanged. -/
theorem last_at (z : FVec Ideal S256x1024 .f32) (i : Fin 256) (j : Fin 1024) : k0_pay4 (F := Ideal) z (ix2 i j) = z (ix2 i j) := by
  delta k0_pay4
  pointwise []

/-- The running sum after a point is over the tokens so far. -/
theorem run (i : Fin 256) (j : Fin 1024) : ∀ n (h : n < cfg0.N),
    ((outsAt0 m c n h).2 (ix2 i j) : EReal) = ∑ r : Fin ((n + 1) * 2048), Tokens.term (xs m c i) (gs m c j) r.val := by
  refine Tokens.running 2048 (Tokens.term (xs m c i) (gs m c j)) (fun n h => (outsAt0 m c n h).2 (ix2 i j)) (fun h => ?_) (fun n h => ?_)
  · rw [outsAt0_A m c ⟨0, h⟩ rfl (by show ¬ 1 ≤ 0; decide) (by show ¬ 0 % 4 = 3; decide)]
    frame_out
    refine ((first_at _ _ i j).trans (part_at m c ⟨0, h⟩ i j)).trans ?_
    simp only [Nat.zero_mul, Nat.zero_add]
  · have hn : n + 1 < 4 := lt_of_lt_of_eq h N_0
    by_cases h2 : (n + 1) % 4 = 3
    · rw [outsAt0_C m c ⟨n + 1, h⟩ (by show ¬ (n + 1) % 4 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _
    · rw [outsAt0_B m c ⟨n + 1, h⟩ (by show ¬ (n + 1) % 4 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _

/-- What the last point writes out is the running sum. -/
theorem written (t : Fin cfg0.N) (h2 : t.val % 4 = 3) (i : Fin 256) (j : Fin 1024) :
    ((outsAt0 m c t.val t.isLt).1 (ix2 i j) : EReal) = (outsAt0 m c t.val t.isLt).2 (ix2 i j) := by
  rw [outsAt0_C m c t (by omega) (by omega) h2]
  frame_out
  exact last_at _ i j

/-- The reference's gradient at an index. -/
theorem ref_at (x : FVec Ideal S8192x256 .f32) (g : FVec Ideal S8192x1024 .f32) (i : Fin 256) (j : Fin 1024) :
    Reference19Ideal.Read.val_main_v4 (F := Ideal) x g (ix2 i j) = ∑ r : Fin 8192, g (ix2 r j) * x (ix2 r i) := by
  delta Reference19Ideal.Read.val_main_v4 Reference19Ideal.Read.val_main_v3 Reference19Ideal.Read.val_main_v2
  pointwise []

/-- What the last point writes out is the reference's gradient. -/
theorem tile (t : Fin cfg0.N) (h2 : t.val % 4 = 3) (y z : S256x1024.Idx) (e0 : (z 0).val = (y 0).val) (e1 : (z 1).val = (y 1).val) :
    (outsAt0 m c t.val t.isLt).1 y = Reference19Ideal.Read.val_main_v4 (F := Ideal) (m (c, main_arg0)) (m (c, main_arg1)) z := by
  obtain ⟨i, j, rfl⟩ : ∃ (i : Fin 256) (j : Fin 1024), y = ix2 i j := ⟨y 0, y 1, by ext a; fin_cases a <;> rfl⟩
  obtain rfl : z = ix2 i j := by ext a; fin_cases a; exacts [e0, e1]
  have ht : t = (⟨3, lt_of_lt_of_eq (by decide) N_0.symm⟩ : Fin cfg0.N) := Fin.ext (by have := lt_of_lt_of_eq t.isLt N_0; show t.val = 3; omega)
  subst ht
  refine (written m c _ h2 i j).trans ((run m c i j 3 _).trans (Eq.trans ?_ (ref_at _ _ i j).symm))
  exact Tokens.total (xs m c i) (gs m c j)

/-- The array after the last point. -/
theorem final : (dats m 0 c).arrAt 2 (cfgs 0).N = Reference19Ideal.Read.val_main_v4 (F := Ideal) (m (c, main_arg0)) (m (c, main_arg1)) := by
  refine (dats m 0 c).arrAt_eq_of_covers 2 _ (by decide +kernel) fun t hf y => ?_
  blk_simp
  rw [after0_2]
  exact tile m c t ((flush0_2 t).mp hf) y _ (by blk_simp [idx t]) (by blk_simp [idx t])

end Cert.Kernel19Ideal.Prod
end
-- ==== Proof.PleGateGrad.lean ====
module
public import Idealize.ShloMosaic.Lib.Pipeline.ValueKit
public import Idealize.ShloMosaic.Lib.StableHlo.RunRead
public import proofs.«01_k».proof.Proof.Gen.Kernel20Ideal.Value
public import proofs.«01_k».proof.Proof.Gen.Reference20Ideal.Read
public import proofs.«01_k».proof.Proof.Tokens

@[expose] public section
set_option maxRecDepth 16384
noncomputable section

/-! The gradient of the per-layer embedding's gate weights: a product over the tokens, summed block by block over the grid. -/

namespace Cert.Kernel20Ideal.Prod
open Idealize Idealize.ShloMosaic Idealize.ShloMosaic.TcCoe Idealize.SL.Sem Cert.Kernel20Ideal Cert.Kernel20Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![t.val, 0] ∧ win0_2.index t = ![0, 0] :=
  (by decide +kernel : ∀ t : Fin grid0.N, _)

/-- The host hands the rows over as they are. -/
theorem rows_eq : (V m c main_v0 : S8192x1024.Idx → EReal) = m (c, main_arg0) := by
  unfold V
  after_reads_simp
  try rfl

/-- The host hands the gradients over as they are. -/
theorem cols_eq : (V m c main_v1 : S8192x1024.Idx → EReal) = m (c, main_arg1) := by
  unfold V
  after_reads_simp
  try rfl

/-- The rows' entries that a weight meets, token by token. -/
def xs (i : Fin 1024) (r : Fin 8192) : EReal := (m (c, main_arg0) : S8192x1024.Idx → EReal) (ix2 r i)

/-- The gradients' entries that a weight meets, token by token. -/
def gs (j : Fin 1024) (r : Fin 8192) : EReal := (m (c, main_arg1) : S8192x1024.Idx → EReal) (ix2 r j)

/-- The product of two blocks. -/
theorem prod_at (a : FVec Ideal S2048x1024 .bf16) (b : FVec Ideal S2048x1024 .bf16) (i : Fin 1024) (j : Fin 1024) :
    k0_pay1 (F := Ideal) a b (ix2 i j) = ∑ k : Fin 2048, a (ix2 k i) * b (ix2 k j) := by
  delta k0_pay1
  pointwise []

/-- A point's product is its tokens' parts. -/
theorem part_at (t : Fin cfg0.N) (i : Fin 1024) (j : Fin 1024) :
    k0_pay1 (F := Ideal) (iblk m c 0 t) (iblk m c 1 t) (ix2 i j) = ∑ k : Fin 2048, Tokens.term (xs m c i) (gs m c j) (t.val * 2048 + k.val) := by
  refine (prod_at _ _ i j).trans (Tokens.block (xs m c i) (gs m c j) _ _ t.val (fun k => ?_) (fun k => ?_) (fun k => ?_))
  · have h1 : t.val < 4 := lt_of_lt_of_eq t.isLt N_0
    omega
  · refine Eq.trans ?_ (congrFun (rows_eq m c) _)
    blk_ext [iblk, idx t]
  · refine Eq.trans ?_ (congrFun (cols_eq m c) _)
    blk_ext [iblk, idx t]

/-- The first block's product is kept as it is. -/
theorem first_at (a : FVec Ideal S2048x1024 .bf16) (b : FVec Ideal S2048x1024 .bf16) (i : Fin 1024) (j : Fin 1024) :
    k0_pay2 (F := Ideal) a b (ix2 i j) = k0_pay1 (F := Ideal) a b (ix2 i j) := by
  delta k0_pay2
  generalize k0_pay1 (F := Ideal) a b = p
  pointwise []

/-- A later block's product is added. -/
theorem next_at (a : FVec Ideal S2048x1024 .bf16) (b : FVec Ideal S2048x1024 .bf16) (z : FVec Ideal S1024x1024 .f32) (i : Fin 1024) (j : Fin 1024) :
    k0_pay3 (F := Ideal) a b z (ix2 i j) = z (ix2 i j) + k0_pay1 (F := Ideal) a b (ix2 i j) := by
  delta k0_pay3
  generalize k0_pay1 (F := Ideal) a b = p
  pointwise []

/-- The sum is written out unchanged. -/
theorem last_at (z : FVec Ideal S1024x1024 .f32) (i : Fin 1024) (j : Fin 1024) : k0_pay4 (F := Ideal) z (ix2 i j) = z (ix2 i j) := by
  delta k0_pay4
  pointwise []

/-- The running sum after a point is over the tokens so far. -/
theorem run (i : Fin 1024) (j : Fin 1024) : ∀ n (h : n < cfg0.N),
    ((outsAt0 m c n h).2 (ix2 i j) : EReal) = ∑ r : Fin ((n + 1) * 2048), Tokens.term (xs m c i) (gs m c j) r.val := by
  refine Tokens.running 2048 (Tokens.term (xs m c i) (gs m c j)) (fun n h => (outsAt0 m c n h).2 (ix2 i j)) (fun h => ?_) (fun n h => ?_)
  · rw [outsAt0_A m c ⟨0, h⟩ rfl (by show ¬ 1 ≤ 0; decide) (by show ¬ 0 % 4 = 3; decide)]
    frame_out
    refine ((first_at _ _ i j).trans (part_at m c ⟨0, h⟩ i j)).trans ?_
    simp only [Nat.zero_mul, Nat.zero_add]
  · have hn : n + 1 < 4 := lt_of_lt_of_eq h N_0
    by_cases h2 : (n + 1) % 4 = 3
    · rw [outsAt0_C m c ⟨n + 1, h⟩ (by show ¬ (n + 1) % 4 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _
    · rw [outsAt0_B m c ⟨n + 1, h⟩ (by show ¬ (n + 1) % 4 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _

/-- What the last point writes out is the running sum. -/
theorem written (t : Fin cfg0.N) (h2 : t.val % 4 = 3) (i : Fin 1024) (j : Fin 1024) :
    ((outsAt0 m c t.val t.isLt).1 (ix2 i j) : EReal) = (outsAt0 m c t.val t.isLt).2 (ix2 i j) := by
  rw [outsAt0_C m c t (by omega) (by omega) h2]
  frame_out
  exact last_at _ i j

/-- The reference's gradient at an index. -/
theorem ref_at (x : FVec Ideal S8192x1024 .f32) (g : FVec Ideal S8192x1024 .f32) (i : Fin 1024) (j : Fin 1024) :
    Reference20Ideal.Read.val_main_v4 (F := Ideal) x g (ix2 i j) = ∑ r : Fin 8192, g (ix2 r j) * x (ix2 r i) := by
  delta Reference20Ideal.Read.val_main_v4 Reference20Ideal.Read.val_main_v3 Reference20Ideal.Read.val_main_v2
  pointwise []

/-- What the last point writes out is the reference's gradient. -/
theorem tile (t : Fin cfg0.N) (h2 : t.val % 4 = 3) (y z : S1024x1024.Idx) (e0 : (z 0).val = (y 0).val) (e1 : (z 1).val = (y 1).val) :
    (outsAt0 m c t.val t.isLt).1 y = Reference20Ideal.Read.val_main_v4 (F := Ideal) (m (c, main_arg0)) (m (c, main_arg1)) z := by
  obtain ⟨i, j, rfl⟩ : ∃ (i : Fin 1024) (j : Fin 1024), y = ix2 i j := ⟨y 0, y 1, by ext a; fin_cases a <;> rfl⟩
  obtain rfl : z = ix2 i j := by ext a; fin_cases a; exacts [e0, e1]
  have ht : t = (⟨3, lt_of_lt_of_eq (by decide) N_0.symm⟩ : Fin cfg0.N) := Fin.ext (by have := lt_of_lt_of_eq t.isLt N_0; show t.val = 3; omega)
  subst ht
  refine (written m c _ h2 i j).trans ((run m c i j 3 _).trans (Eq.trans ?_ (ref_at _ _ i j).symm))
  exact Tokens.total (xs m c i) (gs m c j)

/-- The array after the last point. -/
theorem final : (dats m 0 c).arrAt 2 (cfgs 0).N = Reference20Ideal.Read.val_main_v4 (F := Ideal) (m (c, main_arg0)) (m (c, main_arg1)) := by
  refine (dats m 0 c).arrAt_eq_of_covers 2 _ (by decide +kernel) fun t hf y => ?_
  blk_simp
  rw [after0_2]
  exact tile m c t ((flush0_2 t).mp hf) y _ (by blk_simp [idx t]) (by blk_simp [idx t])

end Cert.Kernel20Ideal.Prod
end
-- ==== Proof.PleInGrad.lean ====
module
public import Idealize.ShloMosaic.Lib.Pipeline.ValueKit
public import Idealize.ShloMosaic.Lib.StableHlo.RunRead
public import proofs.«01_k».proof.Proof.Gen.Kernel21Ideal.Value
public import proofs.«01_k».proof.Proof.Gen.Reference21Ideal.Read
public import proofs.«01_k».proof.Proof.Tokens

@[expose] public section
set_option maxRecDepth 16384
noncomputable section

/-! The gradient of the per-layer embedding's input weights: a product over the tokens, summed block by block over the grid. -/

namespace Cert.Kernel21Ideal.Prod
open Idealize Idealize.ShloMosaic Idealize.ShloMosaic.TcCoe Idealize.SL.Sem Cert.Kernel21Ideal Cert.Kernel21Ideal.Gen

variable (m : (ℓ : Loc nD τ sig) → Buf (Elt Ideal) ℓ) (c : Dev nD)

/-- The blocks that the windows stage at a point. -/
theorem idx : ∀ t : Fin cfg0.N, win0_0.index t = ![t.val, 0] ∧ win0_1.index t = ![t.val, 0] ∧ win0_2.index t = ![0, 0] :=
  (by decide +kernel : ∀ t : Fin grid0.N, _)

/-- The host hands the rows over as they are. -/
theorem rows_eq : (V m c main_arg0 : S8192x256.Idx → EReal) = m (c, main_arg0) := by
  unfold V
  after_reads_simp
  try rfl

/-- The host hands the gradients over as they are. -/
theorem cols_eq : (V m c main_v0 : S8192x1024.Idx → EReal) = m (c, main_arg1) := by
  unfold V
  after_reads_simp
  try rfl

/-- The rows' entries that a weight meets, token by token. -/
def xs (i : Fin 256) (r : Fin 8192) : EReal := (m (c, main_arg0) : S8192x256.Idx → EReal) (ix2 r i)

/-- The gradients' entries that a weight meets, token by token. -/
def gs (j : Fin 1024) (r : Fin 8192) : EReal := (m (c, main_arg1) : S8192x1024.Idx → EReal) (ix2 r j)

/-- The product of two blocks. -/
theorem prod_at (a : FVec Ideal S2048x256 .f32) (b : FVec Ideal S2048x1024 .bf16) (i : Fin 256) (j : Fin 1024) :
    k0_pay1 (F := Ideal) a b (ix2 i j) = ∑ k : Fin 2048, a (ix2 k i) * b (ix2 k j) := by
  delta k0_pay1
  pointwise []

/-- A point's product is its tokens' parts. -/
theorem part_at (t : Fin cfg0.N) (i : Fin 256) (j : Fin 1024) :
    k0_pay1 (F := Ideal) (iblk m c 0 t) (iblk m c 1 t) (ix2 i j) = ∑ k : Fin 2048, Tokens.term (xs m c i) (gs m c j) (t.val * 2048 + k.val) := by
  refine (prod_at _ _ i j).trans (Tokens.block (xs m c i) (gs m c j) _ _ t.val (fun k => ?_) (fun k => ?_) (fun k => ?_))
  · have h1 : t.val < 4 := lt_of_lt_of_eq t.isLt N_0
    omega
  · refine Eq.trans ?_ (congrFun (rows_eq m c) _)
    blk_ext [iblk, idx t]
  · refine Eq.trans ?_ (congrFun (cols_eq m c) _)
    blk_ext [iblk, idx t]

/-- The first block's product is kept as it is. -/
theorem first_at (a : FVec Ideal S2048x256 .f32) (b : FVec Ideal S2048x1024 .bf16) (i : Fin 256) (j : Fin 1024) :
    k0_pay2 (F := Ideal) a b (ix2 i j) = k0_pay1 (F := Ideal) a b (ix2 i j) := by
  delta k0_pay2
  generalize k0_pay1 (F := Ideal) a b = p
  pointwise []

/-- A later block's product is added. -/
theorem next_at (a : FVec Ideal S2048x256 .f32) (b : FVec Ideal S2048x1024 .bf16) (z : FVec Ideal S256x1024 .f32) (i : Fin 256) (j : Fin 1024) :
    k0_pay3 (F := Ideal) a b z (ix2 i j) = z (ix2 i j) + k0_pay1 (F := Ideal) a b (ix2 i j) := by
  delta k0_pay3
  generalize k0_pay1 (F := Ideal) a b = p
  pointwise []

/-- The sum is written out unchanged. -/
theorem last_at (z : FVec Ideal S256x1024 .f32) (i : Fin 256) (j : Fin 1024) : k0_pay4 (F := Ideal) z (ix2 i j) = z (ix2 i j) := by
  delta k0_pay4
  pointwise []

/-- The running sum after a point is over the tokens so far. -/
theorem run (i : Fin 256) (j : Fin 1024) : ∀ n (h : n < cfg0.N),
    ((outsAt0 m c n h).2 (ix2 i j) : EReal) = ∑ r : Fin ((n + 1) * 2048), Tokens.term (xs m c i) (gs m c j) r.val := by
  refine Tokens.running 2048 (Tokens.term (xs m c i) (gs m c j)) (fun n h => (outsAt0 m c n h).2 (ix2 i j)) (fun h => ?_) (fun n h => ?_)
  · rw [outsAt0_A m c ⟨0, h⟩ rfl (by show ¬ 1 ≤ 0; decide) (by show ¬ 0 % 4 = 3; decide)]
    frame_out
    refine ((first_at _ _ i j).trans (part_at m c ⟨0, h⟩ i j)).trans ?_
    simp only [Nat.zero_mul, Nat.zero_add]
  · have hn : n + 1 < 4 := lt_of_lt_of_eq h N_0
    by_cases h2 : (n + 1) % 4 = 3
    · rw [outsAt0_C m c ⟨n + 1, h⟩ (by show ¬ (n + 1) % 4 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _
    · rw [outsAt0_B m c ⟨n + 1, h⟩ (by show ¬ (n + 1) % 4 = 0; omega) (by show 1 ≤ n + 1; omega) h2]
      frame_out
      refine (next_at _ _ _ i j).trans (congrArg₂ (fun u v : EReal => u + v) ?_ (part_at m c ⟨n + 1, h⟩ i j))
      exact congrFun (Memref.IsWhole.read_unread _ _) _

/-- What the last point writes out is the running sum. -/
theorem written (t : Fin cfg0.N) (h2 : t.val % 4 = 3) (i : Fin 256) (j : Fin 1024) :
    ((outsAt0 m c t.val t.isLt).1 (ix2 i j) : EReal) = (outsAt0 m c t.val t.isLt).2 (ix2 i j) := by
  rw [outsAt0_C m c t (by omega) (by omega) h2]
  frame_out
  exact last_at _ i j

/-- The reference's gradient at an index. -/
theorem ref_at (x : FVec Ideal S8192x256 .f32) (g : FVec Ideal S8192x1024 .f32) (i : Fin 256) (j : Fin 1024) :
    Reference21Ideal.Read.val_main_v4 (F := Ideal) x g (ix2 i j) = ∑ r : Fin 8192, g (ix2 r j) * x (ix2 r i) := by
  delta Reference21Ideal.Read.val_main_v4 Reference21Ideal.Read.val_main_v3 Reference21Ideal.Read.val_main_v2
  pointwise []

/-- What the last point writes out is the reference's gradient. -/
theorem tile (t : Fin cfg0.N) (h2 : t.val % 4 = 3) (y z : S256x1024.Idx) (e0 : (z 0).val = (y 0).val) (e1 : (z 1).val = (y 1).val) :
    (outsAt0 m c t.val t.isLt).1 y = Reference21Ideal.Read.val_main_v4 (F := Ideal) (m (c, main_arg0)) (m (c, main_arg1)) z := by
  obtain ⟨i, j, rfl⟩ : ∃ (i : Fin 256) (j : Fin 1024), y = ix2 i j := ⟨y 0, y 1, by ext a; fin_cases a <;> rfl⟩
  obtain rfl : z = ix2 i j := by ext a; fin_cases a; exacts [e0, e1]
  have ht : t = (⟨3, lt_of_lt_of_eq (by decide) N_0.symm⟩ : Fin cfg0.N) := Fin.ext (by have := lt_of_lt_of_eq t.isLt N_0; show t.val = 3; omega)
  subst ht
  refine (written m c _ h2 i j).trans ((run m c i j 3 _).trans (Eq.trans ?_ (ref_at _ _ i j).symm))
  exact Tokens.total (xs m c i) (gs m c j)

/-- The array after the last point. -/
theorem final : (dats m 0 c).arrAt 2 (cfgs 0).N = Reference21Ideal.Read.val_main_v4 (F := Ideal) (m (c, main_arg0)) (m (c, main_arg1)) := by
  refine (dats m 0 c).arrAt_eq_of_covers 2 _ (by decide +kernel) fun t hf y => ?_
  blk_simp
  rw [after0_2]
  exact tile m c t ((flush0_2 t).mp hf) y _ (by blk_simp [idx t]) (by blk_simp [idx t])

end Cert.Kernel21Ideal.Prod
end
-- ==== Proof.AdamStep.lean ====
module
public import Idealize.ShloMosaic.Lib.Pipeline.ValueKit
public import Idealize.ShloMosaic.Lib.StableHlo.RunRead

@[expose] public section
noncomputable section

/-! The optimiser's step of one element, over the extended reals: AdamW at its tenth step. The last three theorems say that
reference.py's lines, on arrays of any shape, take this step element by element; `k` gives an array filled with a number. -/

namespace Cert.AdamStep
open Idealize Idealize.ShloMosaic

/-- The new first moment: 0.9 of the old one and 0.1 of the gradient. -/
def first (g m : EReal) : EReal := Ideal.ofBits .f32 0x3F666666#32 * m + Ideal.ofBits .f32 0x3DCCCCCD#32 * g

/-- The new second moment: 0.999 of the old one and 0.001 of the gradient's square. -/
def second (g v : EReal) : EReal := Ideal.ofBits .f32 0x3F7FBE77#32 * v + Ideal.ofBits .f32 0x3A83126F#32 * (g * g)

/-- The weight's change from the new moments `a` and `b`: each is divided by what it misses of its start at zero; the first
is divided by the second's root, a little of the weight is added, and the rate multiplies the sum. -/
def change (w a b : EReal) : EReal :=
  Ideal.ofBits .f32 0xBA83126F#32 *
    (Ideal.div (Ideal.div a (Ideal.ofBits .f32 0x3F26BD02#32))
        (Ideal.sqrt (Ideal.div b (Ideal.ofBits .f32 0x3C231ACC#32)) + Ideal.ofBits .f32 0x322BCC77#32)
      + Ideal.ofBits .f32 0x3C23D70A#32 * w)

variable {s : Shape} (k : BitVec 32 → FVec Ideal s .f32) (hk : ∀ b i, k b i = Ideal.ofBits .f32 b)

include hk in
/-- The reference's new first moment. -/
theorem first_eq (g a : FVec Ideal s .f32) : addf (mulf (k 0x3F666666#32) a) (mulf (k 0x3DCCCCCD#32) g) = fun i => first (g i) (a i) := by
  funext i
  delta first
  rw [← hk 0x3F666666#32 i, ← hk 0x3DCCCCCD#32 i]
  pointwise []

include hk in
/-- The reference's new second moment. -/
theorem second_eq (g b : FVec Ideal s .f32) :
    addf (mulf (k 0x3F7FBE77#32) b) (mulf (k 0x3A83126F#32) (mulf g g)) = fun i => second (g i) (b i) := by
  funext i
  delta second
  rw [← hk 0x3F7FBE77#32 i, ← hk 0x3A83126F#32 i]
  pointwise []

include hk in
/-- The reference's change of the weight, from the new moments. -/
theorem change_eq (w a b : FVec Ideal s .f32) :
    mulf (k 0xBA83126F#32) (addf (Host.divf (Host.divf a (k 0x3F26BD02#32)) (addf (Host.sqrt (Host.divf b (k 0x3C231ACC#32))) (k 0x322BCC77#32)))
      (mulf (k 0x3C23D70A#32) w)) = fun i => change (w i) (a i) (b i) := by
  funext i
  delta change
  rw [← hk 0xBA83126F#32 i, ← hk 0x3F26BD02#32 i, ← hk 0x3C231ACC#32 i, ← hk 0x322BCC77#32 i, ← hk 0x3C23D70A#32 i]
  pointwise []

end Cert.AdamStep
end
-- ==== Proof.AdamIn.lean ====
module
public import Idealize.ShloMosaic.Lib.Pipeline.ValueKit
public import Idealize.ShloMosaic.Lib.StableHlo.RunRead
public import proofs.«01_k».proof.Proof.Gen.Kernel22Ideal.Value
public import proofs.«01_k».proof.Proof.Gen.Reference22Ideal.Read
public import proofs.«01_k».proof.Proof.AdamStep

@[expose] public section
set_option maxRecDepth 16384
noncomputable section

/-! The optimiser's step on a chip's part of the mixer's input weights, block by block. -/

namespace Cert.Kernel22Ideal.Prod
open Idealize Idealize.ShloMosaic Idealize.ShloMosaic.TcCoe Idealize.SL.Sem Cert.Kernel22Ideal Cert.Kernel22Ideal.Gen Cert.AdamStep

variable (m : (ℓ : Loc nD τ sig) → Buf (Elt Ideal) ℓ) (c : Dev nD)

/-- Every window stages the block of rows that the point names. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An argument as rows, the layers one after another. -/
abbrev rows (x : S4x1024x1152.Idx → EReal) : S4096x1152.Idx → EReal := shapeCast (s := S4x1024x1152) S4096x1152 x shapeCasts_S4x1024x1152_S4096x1152

/-- The host hands over the four arguments as rows. -/
theorem host_eq : (V m c main_v0 : S4096x1152.Idx → EReal) = rows (m (c, main_arg0)) ∧ (V m c main_v1 : S4096x1152.Idx → EReal) = rows (m (c, main_arg1))
    ∧ (V m c main_v2 : S4096x1152.Idx → EReal) = rows (m (c, main_arg2)) ∧ (V m c main_v3 : S4096x1152.Idx → EReal) = rows (m (c, main_arg3)) := by
  refine ⟨?_, ?_, ?_, ?_⟩ <;> unfold V <;> after_reads_simp <;> rfl

/-- An element of the blocks, read from the arguments. -/
theorem blk_at (t : Fin cfg0.N) (y : S256x1152.Idx) (z : S4096x1152.Idx) (e0 : (z 0).val = t.val * 256 + (y 0).val) (e1 : (z 1).val = (y 1).val) :
    iblk m c 0 t y = rows (m (c, main_arg0)) z ∧ iblk m c 1 t y = rows (m (c, main_arg1)) z
      ∧ iblk m c 2 t y = rows (m (c, main_arg2)) z ∧ iblk m c 3 t y = rows (m (c, main_arg3)) z := by
  obtain ⟨h0, h1, h2, h3⟩ := host_eq m c
  refine ⟨Eq.trans ?_ (congrFun h0 z), Eq.trans ?_ (congrFun h1 z), Eq.trans ?_ (congrFun h2 z), Eq.trans ?_ (congrFun h3 z)⟩ <;>
    blk_ext [iblk, idx t]

/-- The body's new first moment. -/
theorem first_at (g a : FVec Ideal S256x1152 .f32) (y : S256x1152.Idx) : k0_pay2 (F := Ideal) g a y = first (g y) (a y) := by
  delta k0_pay2 k0_pay1 first
  pointwise []

/-- The body's new second moment. -/
theorem second_at (g b : FVec Ideal S256x1152 .f32) (y : S256x1152.Idx) : k0_pay3 (F := Ideal) g b y = second (g y) (b y) := by
  delta k0_pay3 k0_pay1 second
  pointwise []

/-- The body's change of the weight. -/
theorem change_at (w g a b : FVec Ideal S256x1152 .f32) (y : S256x1152.Idx) :
    k0_pay4 (F := Ideal) w g a b y = change (w y) (first (g y) (a y)) (second (g y) (b y)) := by
  rw [← first_at, ← second_at]
  delta k0_pay4 change
  generalize k0_pay2 (F := Ideal) g a = p
  generalize k0_pay3 (F := Ideal) g b = q
  pointwise []

/-- An array of the reference that is filled with a number. -/
abbrev fill (b : BitVec 32) : FVec Ideal S4x1024x1152 .f32 := broadcastInDim S4x1024x1152 ![] Reference22Ideal.Facts₀.bcast_S_S4x1024x1152 (constant (F := Ideal) Reference22Ideal.S_ .f32 b)

theorem fill_at (b : BitVec 32) (i : S4x1024x1152.Idx) : fill b i = Ideal.ofBits .f32 b := by
  pointwise []

/-- The reference's new first moment. -/
theorem ref_first (g a : FVec Ideal S4x1024x1152 .f32) : Reference22Ideal.Read.val_main_v4 (F := Ideal) g a = fun i => first (g i) (a i) :=
  first_eq fill fill_at g a

/-- The reference's new second moment. -/
theorem ref_second (g b : FVec Ideal S4x1024x1152 .f32) : Reference22Ideal.Read.val_main_v10 (F := Ideal) g b = fun i => second (g i) (b i) :=
  second_eq fill fill_at g b

/-- The reference's change of the weight. -/
theorem ref_change (w g a b : FVec Ideal S4x1024x1152 .f32) :
    Reference22Ideal.Read.val_main_v23 (F := Ideal) w g a b = fun i => change (w i) (first (g i) (a i)) (second (g i) (b i)) :=
  (change_eq fill fill_at w (Reference22Ideal.Read.val_main_v4 (F := Ideal) g a) (Reference22Ideal.Read.val_main_v10 (F := Ideal) g b)).trans
    (by rw [ref_first, ref_second])

/-- A block of the weights' changes is the reference's. -/
theorem tile_change (t : Fin cfg0.N) (y : S256x1152.Idx) (z : S4096x1152.Idx) (e0 : (z 0).val = t.val * 256 + (y 0).val) (e1 : (z 1).val = (y 1).val) :
    out0_4 (iblk m c 0 t) (iblk m c 1 t) (iblk m c 2 t) (iblk m c 3 t) y = Reference22Ideal.Read.val_main_v24 (F := Ideal) (m (c, main_arg0)) (m (c, main_arg1)) (m (c, main_arg2)) (m (c, main_arg3)) z := by
  obtain ⟨h0, h1, h2, h3⟩ := blk_at m c t y z e0 e1
  unfold out0_4 Reference22Ideal.Read.val_main_v24
  rw [View.canon_cons_unit_zero (by decide), View.ld_unit_zero (by decide), View.ld_unit_zero (by decide), View.ld_unit_zero (by decide), View.ld_unit_zero (by decide), ref_change]
  refine (change_at _ _ _ _ _).trans ?_
  rw [h0, h1, h2, h3]
  rfl

/-- The array of the weights' changes after the last point. -/
theorem final_change : (dats m 0 c).arrAt 4 (cfgs 0).N = Reference22Ideal.Read.val_main_v24 (F := Ideal) (m (c, main_arg0)) (m (c, main_arg1)) (m (c, main_arg2)) (m (c, main_arg3)) := by
  refine (dats m 0 c).arrAt_eq_of_covers 4 _ (by decide +kernel) fun t hf y => ?_
  blk_simp
  rw [after0_4]
  exact tile_change m c t y _ (by blk_simp [idx t]) (by blk_simp [idx t])

/-- A block of the first moments is the reference's. -/
theorem tile_first (t : Fin cfg0.N) (y : S256x1152.Idx) (z : S4096x1152.Idx) (e0 : (z 0).val = t.val * 256 + (y 0).val) (e1 : (z 1).val = (y 1).val) :
    out0_5 (iblk m c 0 t) (iblk m c 1 t) (iblk m c 2 t) (iblk m c 3 t) y = Reference22Ideal.Read.val_main_v25 (F := Ideal) (m (c, main_arg1)) (m (c, main_arg2)) z := by
  obtain ⟨-, h1, h2, -⟩ := blk_at m c t y z e0 e1
  unfold out0_5 Reference22Ideal.Read.val_main_v25
  rw [View.canon_cons_unit_zero (by decide), View.ld_unit_zero (by decide), View.ld_unit_zero (by decide), ref_first]
  refine (first_at _ _ _).trans ?_
  rw [h1, h2]
  rfl

/-- The array of the first moments after the last point. -/
theorem final_first : (dats m 0 c).arrAt 5 (cfgs 0).N = Reference22Ideal.Read.val_main_v25 (F := Ideal) (m (c, main_arg1)) (m (c, main_arg2)) := by
  refine (dats m 0 c).arrAt_eq_of_covers 5 _ (by decide +kernel) fun t hf y => ?_
  blk_simp
  rw [after0_5]
  exact tile_first m c t y _ (by blk_simp [idx t]) (by blk_simp [idx t])

/-- A block of the second moments is the reference's. -/
theorem tile_second (t : Fin cfg0.N) (y : S256x1152.Idx) (z : S4096x1152.Idx) (e0 : (z 0).val = t.val * 256 + (y 0).val) (e1 : (z 1).val = (y 1).val) :
    out0_6 (iblk m c 0 t) (iblk m c 1 t) (iblk m c 2 t) (iblk m c 3 t) y = Reference22Ideal.Read.val_main_v26 (F := Ideal) (m (c, main_arg1)) (m (c, main_arg3)) z := by
  obtain ⟨-, h1, -, h3⟩ := blk_at m c t y z e0 e1
  unfold out0_6 Reference22Ideal.Read.val_main_v26
  rw [View.canon_cons_unit_zero (by decide), View.ld_unit_zero (by decide), View.ld_unit_zero (by decide), ref_second]
  refine (second_at _ _ _).trans ?_
  rw [h1, h3]
  rfl

/-- The array of the second moments after the last point. -/
theorem final_second : (dats m 0 c).arrAt 6 (cfgs 0).N = Reference22Ideal.Read.val_main_v26 (F := Ideal) (m (c, main_arg1)) (m (c, main_arg3)) := by
  refine (dats m 0 c).arrAt_eq_of_covers 6 _ (by decide +kernel) fun t hf y => ?_
  blk_simp
  rw [after0_6]
  exact tile_second m c t y _ (by blk_simp [idx t]) (by blk_simp [idx t])

end Cert.Kernel22Ideal.Prod
end
-- ==== Proof.AdamFfnIn.lean ====
module
public import Idealize.ShloMosaic.Lib.Pipeline.ValueKit
public import Idealize.ShloMosaic.Lib.StableHlo.RunRead
public import proofs.«01_k».proof.Proof.Gen.Kernel23Ideal.Value
public import proofs.«01_k».proof.Proof.Gen.Reference23Ideal.Read
public import proofs.«01_k».proof.Proof.AdamStep

@[expose] public section
set_option maxRecDepth 16384
noncomputable section

/-! The optimiser's step on a chip's part of the SwiGLU's input weights, block by block. -/

namespace Cert.Kernel23Ideal.Prod
open Idealize Idealize.ShloMosaic Idealize.ShloMosaic.TcCoe Idealize.SL.Sem Cert.Kernel23Ideal Cert.Kernel23Ideal.Gen Cert.AdamStep

variable (m : (ℓ : Loc nD τ sig) → Buf (Elt Ideal) ℓ) (c : Dev nD)

/-- Every window stages the block of rows that the point names. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An argument as rows, the layers one after another. -/
abbrev rows (x : S4x1024x1408.Idx → EReal) : S4096x1408.Idx → EReal := shapeCast (s := S4x1024x1408) S4096x1408 x shapeCasts_S4x1024x1408_S4096x1408

/-- The host hands over the four arguments as rows. -/
theorem host_eq : (V m c main_v0 : S4096x1408.Idx → EReal) = rows (m (c, main_arg0)) ∧ (V m c main_v1 : S4096x1408.Idx → EReal) = rows (m (c, main_arg1))
    ∧ (V m c main_v2 : S4096x1408.Idx → EReal) = rows (m (c, main_arg2)) ∧ (V m c main_v3 : S4096x1408.Idx → EReal) = rows (m (c, main_arg3)) := by
  refine ⟨?_, ?_, ?_, ?_⟩ <;> unfold V <;> after_reads_simp <;> rfl

/-- An element of the blocks, read from the arguments. -/
theorem blk_at (t : Fin cfg0.N) (y : S256x1408.Idx) (z : S4096x1408.Idx) (e0 : (z 0).val = t.val * 256 + (y 0).val) (e1 : (z 1).val = (y 1).val) :
    iblk m c 0 t y = rows (m (c, main_arg0)) z ∧ iblk m c 1 t y = rows (m (c, main_arg1)) z
      ∧ iblk m c 2 t y = rows (m (c, main_arg2)) z ∧ iblk m c 3 t y = rows (m (c, main_arg3)) z := by
  obtain ⟨h0, h1, h2, h3⟩ := host_eq m c
  refine ⟨Eq.trans ?_ (congrFun h0 z), Eq.trans ?_ (congrFun h1 z), Eq.trans ?_ (congrFun h2 z), Eq.trans ?_ (congrFun h3 z)⟩ <;>
    blk_ext [iblk, idx t]

/-- The body's new first moment. -/
theorem first_at (g a : FVec Ideal S256x1408 .f32) (y : S256x1408.Idx) : k0_pay2 (F := Ideal) g a y = first (g y) (a y) := by
  delta k0_pay2 k0_pay1 first
  pointwise []

/-- The body's new second moment. -/
theorem second_at (g b : FVec Ideal S256x1408 .f32) (y : S256x1408.Idx) : k0_pay3 (F := Ideal) g b y = second (g y) (b y) := by
  delta k0_pay3 k0_pay1 second
  pointwise []

/-- The body's change of the weight. -/
theorem change_at (w g a b : FVec Ideal S256x1408 .f32) (y : S256x1408.Idx) :
    k0_pay4 (F := Ideal) w g a b y = change (w y) (first (g y) (a y)) (second (g y) (b y)) := by
  rw [← first_at, ← second_at]
  delta k0_pay4 change
  generalize k0_pay2 (F := Ideal) g a = p
  generalize k0_pay3 (F := Ideal) g b = q
  pointwise []

/-- An array of the reference that is filled with a number. -/
abbrev fill (b : BitVec 32) : FVec Ideal S4x1024x1408 .f32 := broadcastInDim S4x1024x1408 ![] Reference23Ideal.Facts₀.bcast_S_S4x1024x1408 (constant (F := Ideal) Reference23Ideal.S_ .f32 b)

theorem fill_at (b : BitVec 32) (i : S4x1024x1408.Idx) : fill b i = Ideal.ofBits .f32 b := by
  pointwise []

/-- The reference's new first moment. -/
theorem ref_first (g a : FVec Ideal S4x1024x1408 .f32) : Reference23Ideal.Read.val_main_v4 (F := Ideal) g a = fun i => first (g i) (a i) :=
  first_eq fill fill_at g a

/-- The reference's new second moment. -/
theorem ref_second (g b : FVec Ideal S4x1024x1408 .f32) : Reference23Ideal.Read.val_main_v10 (F := Ideal) g b = fun i => second (g i) (b i) :=
  second_eq fill fill_at g b

/-- The reference's change of the weight. -/
theorem ref_change (w g a b : FVec Ideal S4x1024x1408 .f32) :
    Reference23Ideal.Read.val_main_v23 (F := Ideal) w g a b = fun i => change (w i) (first (g i) (a i)) (second (g i) (b i)) :=
  (change_eq fill fill_at w (Reference23Ideal.Read.val_main_v4 (F := Ideal) g a) (Reference23Ideal.Read.val_main_v10 (F := Ideal) g b)).trans
    (by rw [ref_first, ref_second])

/-- A block of the weights' changes is the reference's. -/
theorem tile_change (t : Fin cfg0.N) (y : S256x1408.Idx) (z : S4096x1408.Idx) (e0 : (z 0).val = t.val * 256 + (y 0).val) (e1 : (z 1).val = (y 1).val) :
    out0_4 (iblk m c 0 t) (iblk m c 1 t) (iblk m c 2 t) (iblk m c 3 t) y = Reference23Ideal.Read.val_main_v24 (F := Ideal) (m (c, main_arg0)) (m (c, main_arg1)) (m (c, main_arg2)) (m (c, main_arg3)) z := by
  obtain ⟨h0, h1, h2, h3⟩ := blk_at m c t y z e0 e1
  unfold out0_4 Reference23Ideal.Read.val_main_v24
  rw [View.canon_cons_unit_zero (by decide), View.ld_unit_zero (by decide), View.ld_unit_zero (by decide), View.ld_unit_zero (by decide), View.ld_unit_zero (by decide), ref_change]
  refine (change_at _ _ _ _ _).trans ?_
  rw [h0, h1, h2, h3]
  rfl

/-- The array of the weights' changes after the last point. -/
theorem final_change : (dats m 0 c).arrAt 4 (cfgs 0).N = Reference23Ideal.Read.val_main_v24 (F := Ideal) (m (c, main_arg0)) (m (c, main_arg1)) (m (c, main_arg2)) (m (c, main_arg3)) := by
  refine (dats m 0 c).arrAt_eq_of_covers 4 _ (by decide +kernel) fun t hf y => ?_
  blk_simp
  rw [after0_4]
  exact tile_change m c t y _ (by blk_simp [idx t]) (by blk_simp [idx t])

/-- A block of the first moments is the reference's. -/
theorem tile_first (t : Fin cfg0.N) (y : S256x1408.Idx) (z : S4096x1408.Idx) (e0 : (z 0).val = t.val * 256 + (y 0).val) (e1 : (z 1).val = (y 1).val) :
    out0_5 (iblk m c 0 t) (iblk m c 1 t) (iblk m c 2 t) (iblk m c 3 t) y = Reference23Ideal.Read.val_main_v25 (F := Ideal) (m (c, main_arg1)) (m (c, main_arg2)) z := by
  obtain ⟨-, h1, h2, -⟩ := blk_at m c t y z e0 e1
  unfold out0_5 Reference23Ideal.Read.val_main_v25
  rw [View.canon_cons_unit_zero (by decide), View.ld_unit_zero (by decide), View.ld_unit_zero (by decide), ref_first]
  refine (first_at _ _ _).trans ?_
  rw [h1, h2]
  rfl

/-- The array of the first moments after the last point. -/
theorem final_first : (dats m 0 c).arrAt 5 (cfgs 0).N = Reference23Ideal.Read.val_main_v25 (F := Ideal) (m (c, main_arg1)) (m (c, main_arg2)) := by
  refine (dats m 0 c).arrAt_eq_of_covers 5 _ (by decide +kernel) fun t hf y => ?_
  blk_simp
  rw [after0_5]
  exact tile_first m c t y _ (by blk_simp [idx t]) (by blk_simp [idx t])

/-- A block of the second moments is the reference's. -/
theorem tile_second (t : Fin cfg0.N) (y : S256x1408.Idx) (z : S4096x1408.Idx) (e0 : (z 0).val = t.val * 256 + (y 0).val) (e1 : (z 1).val = (y 1).val) :
    out0_6 (iblk m c 0 t) (iblk m c 1 t) (iblk m c 2 t) (iblk m c 3 t) y = Reference23Ideal.Read.val_main_v26 (F := Ideal) (m (c, main_arg1)) (m (c, main_arg3)) z := by
  obtain ⟨-, h1, -, h3⟩ := blk_at m c t y z e0 e1
  unfold out0_6 Reference23Ideal.Read.val_main_v26
  rw [View.canon_cons_unit_zero (by decide), View.ld_unit_zero (by decide), View.ld_unit_zero (by decide), ref_second]
  refine (second_at _ _ _).trans ?_
  rw [h1, h3]
  rfl

/-- The array of the second moments after the last point. -/
theorem final_second : (dats m 0 c).arrAt 6 (cfgs 0).N = Reference23Ideal.Read.val_main_v26 (F := Ideal) (m (c, main_arg1)) (m (c, main_arg3)) := by
  refine (dats m 0 c).arrAt_eq_of_covers 6 _ (by decide +kernel) fun t hf y => ?_
  blk_simp
  rw [after0_6]
  exact tile_second m c t y _ (by blk_simp [idx t]) (by blk_simp [idx t])

end Cert.Kernel23Ideal.Prod
end
-- ==== Proof.AdamFfnOut.lean ====
module
public import Idealize.ShloMosaic.Lib.Pipeline.ValueKit
public import Idealize.ShloMosaic.Lib.StableHlo.RunRead
public import proofs.«01_k».proof.Proof.Gen.Kernel24Ideal.Value
public import proofs.«01_k».proof.Proof.Gen.Reference24Ideal.Read
public import proofs.«01_k».proof.Proof.AdamStep

@[expose] public section
set_option maxRecDepth 16384
noncomputable section

/-! The optimiser's step on a chip's part of the SwiGLU's output weights, block by block. -/

namespace Cert.Kernel24Ideal.Prod
open Idealize Idealize.ShloMosaic Idealize.ShloMosaic.TcCoe Idealize.SL.Sem Cert.Kernel24Ideal Cert.Kernel24Ideal.Gen Cert.AdamStep

variable (m : (ℓ : Loc nD τ sig) → Buf (Elt Ideal) ℓ) (c : Dev nD)

/-- Every window stages the block of rows that the point names. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An argument as rows, the layers one after another. -/
abbrev rows (x : S4x704x1024.Idx → EReal) : S2816x1024.Idx → EReal := shapeCast (s := S4x704x1024) S2816x1024 x shapeCasts_S4x704x1024_S2816x1024

/-- The host hands over the four arguments as rows. -/
theorem host_eq : (V m c main_v0 : S2816x1024.Idx → EReal) = rows (m (c, main_arg0)) ∧ (V m c main_v1 : S2816x1024.Idx → EReal) = rows (m (c, main_arg1))
    ∧ (V m c main_v2 : S2816x1024.Idx → EReal) = rows (m (c, main_arg2)) ∧ (V m c main_v3 : S2816x1024.Idx → EReal) = rows (m (c, main_arg3)) := by
  refine ⟨?_, ?_, ?_, ?_⟩ <;> unfold V <;> after_reads_simp <;> rfl

/-- An element of the blocks, read from the arguments. -/
theorem blk_at (t : Fin cfg0.N) (y : S256x1024.Idx) (z : S2816x1024.Idx) (e0 : (z 0).val = t.val * 256 + (y 0).val) (e1 : (z 1).val = (y 1).val) :
    iblk m c 0 t y = rows (m (c, main_arg0)) z ∧ iblk m c 1 t y = rows (m (c, main_arg1)) z
      ∧ iblk m c 2 t y = rows (m (c, main_arg2)) z ∧ iblk m c 3 t y = rows (m (c, main_arg3)) z := by
  obtain ⟨h0, h1, h2, h3⟩ := host_eq m c
  refine ⟨Eq.trans ?_ (congrFun h0 z), Eq.trans ?_ (congrFun h1 z), Eq.trans ?_ (congrFun h2 z), Eq.trans ?_ (congrFun h3 z)⟩ <;>
    blk_ext [iblk, idx t]

/-- The body's new first moment. -/
theorem first_at (g a : FVec Ideal S256x1024 .f32) (y : S256x1024.Idx) : k0_pay2 (F := Ideal) g a y = first (g y) (a y) := by
  delta k0_pay2 k0_pay1 first
  pointwise []

/-- The body's new second moment. -/
theorem second_at (g b : FVec Ideal S256x1024 .f32) (y : S256x1024.Idx) : k0_pay3 (F := Ideal) g b y = second (g y) (b y) := by
  delta k0_pay3 k0_pay1 second
  pointwise []

/-- The body's change of the weight. -/
theorem change_at (w g a b : FVec Ideal S256x1024 .f32) (y : S256x1024.Idx) :
    k0_pay4 (F := Ideal) w g a b y = change (w y) (first (g y) (a y)) (second (g y) (b y)) := by
  rw [← first_at, ← second_at]
  delta k0_pay4 change
  generalize k0_pay2 (F := Ideal) g a = p
  generalize k0_pay3 (F := Ideal) g b = q
  pointwise []

/-- An array of the reference that is filled with a number. -/
abbrev fill (b : BitVec 32) : FVec Ideal S4x704x1024 .f32 := broadcastInDim S4x704x1024 ![] Reference24Ideal.Facts₀.bcast_S_S4x704x1024 (constant (F := Ideal) Reference24Ideal.S_ .f32 b)

theorem fill_at (b : BitVec 32) (i : S4x704x1024.Idx) : fill b i = Ideal.ofBits .f32 b := by
  pointwise []

/-- The reference's new first moment. -/
theorem ref_first (g a : FVec Ideal S4x704x1024 .f32) : Reference24Ideal.Read.val_main_v4 (F := Ideal) g a = fun i => first (g i) (a i) :=
  first_eq fill fill_at g a

/-- The reference's new second moment. -/
theorem ref_second (g b : FVec Ideal S4x704x1024 .f32) : Reference24Ideal.Read.val_main_v10 (F := Ideal) g b = fun i => second (g i) (b i) :=
  second_eq fill fill_at g b

/-- The reference's change of the weight. -/
theorem ref_change (w g a b : FVec Ideal S4x704x1024 .f32) :
    Reference24Ideal.Read.val_main_v23 (F := Ideal) w g a b = fun i => change (w i) (first (g i) (a i)) (second (g i) (b i)) :=
  (change_eq fill fill_at w (Reference24Ideal.Read.val_main_v4 (F := Ideal) g a) (Reference24Ideal.Read.val_main_v10 (F := Ideal) g b)).trans
    (by rw [ref_first, ref_second])

/-- A block of the weights' changes is the reference's. -/
theorem tile_change (t : Fin cfg0.N) (y : S256x1024.Idx) (z : S2816x1024.Idx) (e0 : (z 0).val = t.val * 256 + (y 0).val) (e1 : (z 1).val = (y 1).val) :
    out0_4 (iblk m c 0 t) (iblk m c 1 t) (iblk m c 2 t) (iblk m c 3 t) y = Reference24Ideal.Read.val_main_v24 (F := Ideal) (m (c, main_arg0)) (m (c, main_arg1)) (m (c, main_arg2)) (m (c, main_arg3)) z := by
  obtain ⟨h0, h1, h2, h3⟩ := blk_at m c t y z e0 e1
  unfold out0_4 Reference24Ideal.Read.val_main_v24
  rw [View.canon_cons_unit_zero (by decide), View.ld_unit_zero (by decide), View.ld_unit_zero (by decide), View.ld_unit_zero (by decide), View.ld_unit_zero (by decide), ref_change]
  refine (change_at _ _ _ _ _).trans ?_
  rw [h0, h1, h2, h3]
  rfl

/-- The array of the weights' changes after the last point. -/
theorem final_change : (dats m 0 c).arrAt 4 (cfgs 0).N = Reference24Ideal.Read.val_main_v24 (F := Ideal) (m (c, main_arg0)) (m (c, main_arg1)) (m (c, main_arg2)) (m (c, main_arg3)) := by
  refine (dats m 0 c).arrAt_eq_of_covers 4 _ (by decide +kernel) fun t hf y => ?_
  blk_simp
  rw [after0_4]
  exact tile_change m c t y _ (by blk_simp [idx t]) (by blk_simp [idx t])

/-- A block of the first moments is the reference's. -/
theorem tile_first (t : Fin cfg0.N) (y : S256x1024.Idx) (z : S2816x1024.Idx) (e0 : (z 0).val = t.val * 256 + (y 0).val) (e1 : (z 1).val = (y 1).val) :
    out0_5 (iblk m c 0 t) (iblk m c 1 t) (iblk m c 2 t) (iblk m c 3 t) y = Reference24Ideal.Read.val_main_v25 (F := Ideal) (m (c, main_arg1)) (m (c, main_arg2)) z := by
  obtain ⟨-, h1, h2, -⟩ := blk_at m c t y z e0 e1
  unfold out0_5 Reference24Ideal.Read.val_main_v25
  rw [View.canon_cons_unit_zero (by decide), View.ld_unit_zero (by decide), View.ld_unit_zero (by decide), ref_first]
  refine (first_at _ _ _).trans ?_
  rw [h1, h2]
  rfl

/-- The array of the first moments after the last point. -/
theorem final_first : (dats m 0 c).arrAt 5 (cfgs 0).N = Reference24Ideal.Read.val_main_v25 (F := Ideal) (m (c, main_arg1)) (m (c, main_arg2)) := by
  refine (dats m 0 c).arrAt_eq_of_covers 5 _ (by decide +kernel) fun t hf y => ?_
  blk_simp
  rw [after0_5]
  exact tile_first m c t y _ (by blk_simp [idx t]) (by blk_simp [idx t])

/-- A block of the second moments is the reference's. -/
theorem tile_second (t : Fin cfg0.N) (y : S256x1024.Idx) (z : S2816x1024.Idx) (e0 : (z 0).val = t.val * 256 + (y 0).val) (e1 : (z 1).val = (y 1).val) :
    out0_6 (iblk m c 0 t) (iblk m c 1 t) (iblk m c 2 t) (iblk m c 3 t) y = Reference24Ideal.Read.val_main_v26 (F := Ideal) (m (c, main_arg1)) (m (c, main_arg3)) z := by
  obtain ⟨-, h1, -, h3⟩ := blk_at m c t y z e0 e1
  unfold out0_6 Reference24Ideal.Read.val_main_v26
  rw [View.canon_cons_unit_zero (by decide), View.ld_unit_zero (by decide), View.ld_unit_zero (by decide), ref_second]
  refine (second_at _ _ _).trans ?_
  rw [h1, h3]
  rfl

/-- The array of the second moments after the last point. -/
theorem final_second : (dats m 0 c).arrAt 6 (cfgs 0).N = Reference24Ideal.Read.val_main_v26 (F := Ideal) (m (c, main_arg1)) (m (c, main_arg3)) := by
  refine (dats m 0 c).arrAt_eq_of_covers 6 _ (by decide +kernel) fun t hf y => ?_
  blk_simp
  rw [after0_6]
  exact tile_second m c t y _ (by blk_simp [idx t]) (by blk_simp [idx t])

end Cert.Kernel24Ideal.Prod
end
-- ==== Proof.AdamMix.lean ====
module
public import Idealize.ShloMosaic.Lib.Pipeline.ValueKit
public import Idealize.ShloMosaic.Lib.StableHlo.RunRead
public import proofs.«01_k».proof.Proof.Gen.Kernel25Ideal.Value
public import proofs.«01_k».proof.Proof.Gen.Reference25Ideal.Read
public import proofs.«01_k».proof.Proof.AdamStep

@[expose] public section
set_option maxRecDepth 16384
noncomputable section

/-! The optimiser's step on a chip's part of the mixer's output weights, or of the per-layer embedding's gate weights, block by block. -/

namespace Cert.Kernel25Ideal.Prod
open Idealize Idealize.ShloMosaic Idealize.ShloMosaic.TcCoe Idealize.SL.Sem Cert.Kernel25Ideal Cert.Kernel25Ideal.Gen Cert.AdamStep

variable (m : (ℓ : Loc nD τ sig) → Buf (Elt Ideal) ℓ) (c : Dev nD)

/-- Every window stages the block of rows that the point names. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An argument as rows, the layers one after another. -/
abbrev rows (x : S4x256x1024.Idx → EReal) : S1024x1024.Idx → EReal := shapeCast (s := S4x256x1024) S1024x1024 x shapeCasts_S4x256x1024_S1024x1024

/-- The host hands over the four arguments as rows. -/
theorem host_eq : (V m c main_v0 : S1024x1024.Idx → EReal) = rows (m (c, main_arg0)) ∧ (V m c main_v1 : S1024x1024.Idx → EReal) = rows (m (c, main_arg1))
    ∧ (V m c main_v2 : S1024x1024.Idx → EReal) = rows (m (c, main_arg2)) ∧ (V m c main_v3 : S1024x1024.Idx → EReal) = rows (m (c, main_arg3)) := by
  refine ⟨?_, ?_, ?_, ?_⟩ <;> unfold V <;> after_reads_simp <;> rfl

/-- An element of the blocks, read from the arguments. -/
theorem blk_at (t : Fin cfg0.N) (y : S256x1024.Idx) (z : S1024x1024.Idx) (e0 : (z 0).val = t.val * 256 + (y 0).val) (e1 : (z 1).val = (y 1).val) :
    iblk m c 0 t y = rows (m (c, main_arg0)) z ∧ iblk m c 1 t y = rows (m (c, main_arg1)) z
      ∧ iblk m c 2 t y = rows (m (c, main_arg2)) z ∧ iblk m c 3 t y = rows (m (c, main_arg3)) z := by
  obtain ⟨h0, h1, h2, h3⟩ := host_eq m c
  refine ⟨Eq.trans ?_ (congrFun h0 z), Eq.trans ?_ (congrFun h1 z), Eq.trans ?_ (congrFun h2 z), Eq.trans ?_ (congrFun h3 z)⟩ <;>
    blk_ext [iblk, idx t]

/-- The body's new first moment. -/
theorem first_at (g a : FVec Ideal S256x1024 .f32) (y : S256x1024.Idx) : k0_pay2 (F := Ideal) g a y = first (g y) (a y) := by
  delta k0_pay2 k0_pay1 first
  pointwise []

/-- The body's new second moment. -/
theorem second_at (g b : FVec Ideal S256x1024 .f32) (y : S256x1024.Idx) : k0_pay3 (F := Ideal) g b y = second (g y) (b y) := by
  delta k0_pay3 k0_pay1 second
  pointwise []

/-- The body's change of the weight. -/
theorem change_at (w g a b : FVec Ideal S256x1024 .f32) (y : S256x1024.Idx) :
    k0_pay4 (F := Ideal) w g a b y = change (w y) (first (g y) (a y)) (second (g y) (b y)) := by
  rw [← first_at, ← second_at]
  delta k0_pay4 change
  generalize k0_pay2 (F := Ideal) g a = p
  generalize k0_pay3 (F := Ideal) g b = q
  pointwise []

/-- An array of the reference that is filled with a number. -/
abbrev fill (b : BitVec 32) : FVec Ideal S4x256x1024 .f32 := broadcastInDim S4x256x1024 ![] Reference25Ideal.Facts₀.bcast_S_S4x256x1024 (constant (F := Ideal) Reference25Ideal.S_ .f32 b)

theorem fill_at (b : BitVec 32) (i : S4x256x1024.Idx) : fill b i = Ideal.ofBits .f32 b := by
  pointwise []

/-- The reference's new first moment. -/
theorem ref_first (g a : FVec Ideal S4x256x1024 .f32) : Reference25Ideal.Read.val_main_v4 (F := Ideal) g a = fun i => first (g i) (a i) :=
  first_eq fill fill_at g a

/-- The reference's new second moment. -/
theorem ref_second (g b : FVec Ideal S4x256x1024 .f32) : Reference25Ideal.Read.val_main_v10 (F := Ideal) g b = fun i => second (g i) (b i) :=
  second_eq fill fill_at g b

/-- The reference's change of the weight. -/
theorem ref_change (w g a b : FVec Ideal S4x256x1024 .f32) :
    Reference25Ideal.Read.val_main_v23 (F := Ideal) w g a b = fun i => change (w i) (first (g i) (a i)) (second (g i) (b i)) :=
  (change_eq fill fill_at w (Reference25Ideal.Read.val_main_v4 (F := Ideal) g a) (Reference25Ideal.Read.val_main_v10 (F := Ideal) g b)).trans
    (by rw [ref_first, ref_second])

/-- A block of the weights' changes is the reference's. -/
theorem tile_change (t : Fin cfg0.N) (y : S256x1024.Idx) (z : S1024x1024.Idx) (e0 : (z 0).val = t.val * 256 + (y 0).val) (e1 : (z 1).val = (y 1).val) :
    out0_4 (iblk m c 0 t) (iblk m c 1 t) (iblk m c 2 t) (iblk m c 3 t) y = Reference25Ideal.Read.val_main_v24 (F := Ideal) (m (c, main_arg0)) (m (c, main_arg1)) (m (c, main_arg2)) (m (c, main_arg3)) z := by
  obtain ⟨h0, h1, h2, h3⟩ := blk_at m c t y z e0 e1
  unfold out0_4 Reference25Ideal.Read.val_main_v24
  rw [View.canon_cons_unit_zero (by decide), View.ld_unit_zero (by decide), View.ld_unit_zero (by decide), View.ld_unit_zero (by decide), View.ld_unit_zero (by decide), ref_change]
  refine (change_at _ _ _ _ _).trans ?_
  rw [h0, h1, h2, h3]
  rfl

/-- The array of the weights' changes after the last point. -/
theorem final_change : (dats m 0 c).arrAt 4 (cfgs 0).N = Reference25Ideal.Read.val_main_v24 (F := Ideal) (m (c, main_arg0)) (m (c, main_arg1)) (m (c, main_arg2)) (m (c, main_arg3)) := by
  refine (dats m 0 c).arrAt_eq_of_covers 4 _ (by decide +kernel) fun t hf y => ?_
  blk_simp
  rw [after0_4]
  exact tile_change m c t y _ (by blk_simp [idx t]) (by blk_simp [idx t])

/-- A block of the first moments is the reference's. -/
theorem tile_first (t : Fin cfg0.N) (y : S256x1024.Idx) (z : S1024x1024.Idx) (e0 : (z 0).val = t.val * 256 + (y 0).val) (e1 : (z 1).val = (y 1).val) :
    out0_5 (iblk m c 0 t) (iblk m c 1 t) (iblk m c 2 t) (iblk m c 3 t) y = Reference25Ideal.Read.val_main_v25 (F := Ideal) (m (c, main_arg1)) (m (c, main_arg2)) z := by
  obtain ⟨-, h1, h2, -⟩ := blk_at m c t y z e0 e1
  unfold out0_5 Reference25Ideal.Read.val_main_v25
  rw [View.canon_cons_unit_zero (by decide), View.ld_unit_zero (by decide), View.ld_unit_zero (by decide), ref_first]
  refine (first_at _ _ _).trans ?_
  rw [h1, h2]
  rfl

/-- The array of the first moments after the last point. -/
theorem final_first : (dats m 0 c).arrAt 5 (cfgs 0).N = Reference25Ideal.Read.val_main_v25 (F := Ideal) (m (c, main_arg1)) (m (c, main_arg2)) := by
  refine (dats m 0 c).arrAt_eq_of_covers 5 _ (by decide +kernel) fun t hf y => ?_
  blk_simp
  rw [after0_5]
  exact tile_first m c t y _ (by blk_simp [idx t]) (by blk_simp [idx t])

/-- A block of the second moments is the reference's. -/
theorem tile_second (t : Fin cfg0.N) (y : S256x1024.Idx) (z : S1024x1024.Idx) (e0 : (z 0).val = t.val * 256 + (y 0).val) (e1 : (z 1).val = (y 1).val) :
    out0_6 (iblk m c 0 t) (iblk m c 1 t) (iblk m c 2 t) (iblk m c 3 t) y = Reference25Ideal.Read.val_main_v26 (F := Ideal) (m (c, main_arg1)) (m (c, main_arg3)) z := by
  obtain ⟨-, h1, -, h3⟩ := blk_at m c t y z e0 e1
  unfold out0_6 Reference25Ideal.Read.val_main_v26
  rw [View.canon_cons_unit_zero (by decide), View.ld_unit_zero (by decide), View.ld_unit_zero (by decide), ref_second]
  refine (second_at _ _ _).trans ?_
  rw [h1, h3]
  rfl

/-- The array of the second moments after the last point. -/
theorem final_second : (dats m 0 c).arrAt 6 (cfgs 0).N = Reference25Ideal.Read.val_main_v26 (F := Ideal) (m (c, main_arg1)) (m (c, main_arg3)) := by
  refine (dats m 0 c).arrAt_eq_of_covers 6 _ (by decide +kernel) fun t hf y => ?_
  blk_simp
  rw [after0_6]
  exact tile_second m c t y _ (by blk_simp [idx t]) (by blk_simp [idx t])

end Cert.Kernel25Ideal.Prod
end
-- ==== Proof.AdamAttnOut.lean ====
module
public import Idealize.ShloMosaic.Lib.Pipeline.ValueKit
public import Idealize.ShloMosaic.Lib.StableHlo.RunRead
public import proofs.«01_k».proof.Proof.Gen.Kernel26Ideal.Value
public import proofs.«01_k».proof.Proof.Gen.Reference26Ideal.Read
public import proofs.«01_k».proof.Proof.AdamStep

@[expose] public section
set_option maxRecDepth 16384
noncomputable section

/-! The optimiser's step on a chip's part of the attention's output weights, block by block. -/

namespace Cert.Kernel26Ideal.Prod
open Idealize Idealize.ShloMosaic Idealize.ShloMosaic.TcCoe Idealize.SL.Sem Cert.Kernel26Ideal Cert.Kernel26Ideal.Gen Cert.AdamStep

variable (m : (ℓ : Loc nD τ sig) → Buf (Elt Ideal) ℓ) (c : Dev nD)

/-- Every window stages the block of rows that the point names. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An argument as rows, the layers one after another. -/
abbrev rows (x : S4x512x256.Idx → EReal) : S2048x256.Idx → EReal := shapeCast (s := S4x512x256) S2048x256 x shapeCasts_S4x512x256_S2048x256

/-- The host hands over the four arguments as rows. -/
theorem host_eq : (V m c main_v0 : S2048x256.Idx → EReal) = rows (m (c, main_arg0)) ∧ (V m c main_v1 : S2048x256.Idx → EReal) = rows (m (c, main_arg1))
    ∧ (V m c main_v2 : S2048x256.Idx → EReal) = rows (m (c, main_arg2)) ∧ (V m c main_v3 : S2048x256.Idx → EReal) = rows (m (c, main_arg3)) := by
  refine ⟨?_, ?_, ?_, ?_⟩ <;> unfold V <;> after_reads_simp <;> rfl

/-- An element of the blocks, read from the arguments. -/
theorem blk_at (t : Fin cfg0.N) (y : S2048x256.Idx) (z : S2048x256.Idx) (e0 : (z 0).val = t.val * 2048 + (y 0).val) (e1 : (z 1).val = (y 1).val) :
    iblk m c 0 t y = rows (m (c, main_arg0)) z ∧ iblk m c 1 t y = rows (m (c, main_arg1)) z
      ∧ iblk m c 2 t y = rows (m (c, main_arg2)) z ∧ iblk m c 3 t y = rows (m (c, main_arg3)) z := by
  obtain ⟨h0, h1, h2, h3⟩ := host_eq m c
  refine ⟨Eq.trans ?_ (congrFun h0 z), Eq.trans ?_ (congrFun h1 z), Eq.trans ?_ (congrFun h2 z), Eq.trans ?_ (congrFun h3 z)⟩ <;>
    blk_ext [iblk, idx t]

/-- The body's new first moment. -/
theorem first_at (g a : FVec Ideal S2048x256 .f32) (y : S2048x256.Idx) : k0_pay2 (F := Ideal) g a y = first (g y) (a y) := by
  delta k0_pay2 k0_pay1 first
  pointwise []

/-- The body's new second moment. -/
theorem second_at (g b : FVec Ideal S2048x256 .f32) (y : S2048x256.Idx) : k0_pay3 (F := Ideal) g b y = second (g y) (b y) := by
  delta k0_pay3 k0_pay1 second
  pointwise []

/-- The body's change of the weight. -/
theorem change_at (w g a b : FVec Ideal S2048x256 .f32) (y : S2048x256.Idx) :
    k0_pay4 (F := Ideal) w g a b y = change (w y) (first (g y) (a y)) (second (g y) (b y)) := by
  rw [← first_at, ← second_at]
  delta k0_pay4 change
  generalize k0_pay2 (F := Ideal) g a = p
  generalize k0_pay3 (F := Ideal) g b = q
  pointwise []

/-- An array of the reference that is filled with a number. -/
abbrev fill (b : BitVec 32) : FVec Ideal S4x512x256 .f32 := broadcastInDim S4x512x256 ![] Reference26Ideal.Facts₀.bcast_S_S4x512x256 (constant (F := Ideal) Reference26Ideal.S_ .f32 b)

theorem fill_at (b : BitVec 32) (i : S4x512x256.Idx) : fill b i = Ideal.ofBits .f32 b := by
  pointwise []

/-- The reference's new first moment. -/
theorem ref_first (g a : FVec Ideal S4x512x256 .f32) : Reference26Ideal.Read.val_main_v4 (F := Ideal) g a = fun i => first (g i) (a i) :=
  first_eq fill fill_at g a

/-- The reference's new second moment. -/
theorem ref_second (g b : FVec Ideal S4x512x256 .f32) : Reference26Ideal.Read.val_main_v10 (F := Ideal) g b = fun i => second (g i) (b i) :=
  second_eq fill fill_at g b

/-- The reference's change of the weight. -/
theorem ref_change (w g a b : FVec Ideal S4x512x256 .f32) :
    Reference26Ideal.Read.val_main_v23 (F := Ideal) w g a b = fun i => change (w i) (first (g i) (a i)) (second (g i) (b i)) :=
  (change_eq fill fill_at w (Reference26Ideal.Read.val_main_v4 (F := Ideal) g a) (Reference26Ideal.Read.val_main_v10 (F := Ideal) g b)).trans
    (by rw [ref_first, ref_second])

/-- A block of the weights' changes is the reference's. -/
theorem tile_change (t : Fin cfg0.N) (y : S2048x256.Idx) (z : S2048x256.Idx) (e0 : (z 0).val = t.val * 2048 + (y 0).val) (e1 : (z 1).val = (y 1).val) :
    out0_4 (iblk m c 0 t) (iblk m c 1 t) (iblk m c 2 t) (iblk m c 3 t) y = Reference26Ideal.Read.val_main_v24 (F := Ideal) (m (c, main_arg0)) (m (c, main_arg1)) (m (c, main_arg2)) (m (c, main_arg3)) z := by
  obtain ⟨h0, h1, h2, h3⟩ := blk_at m c t y z e0 e1
  unfold out0_4 Reference26Ideal.Read.val_main_v24
  rw [View.canon_cons_unit_zero (by decide), View.ld_unit_zero (by decide), View.ld_unit_zero (by decide), View.ld_unit_zero (by decide), View.ld_unit_zero (by decide), ref_change]
  refine (change_at _ _ _ _ _).trans ?_
  rw [h0, h1, h2, h3]
  rfl

/-- The array of the weights' changes after the last point. -/
theorem final_change : (dats m 0 c).arrAt 4 (cfgs 0).N = Reference26Ideal.Read.val_main_v24 (F := Ideal) (m (c, main_arg0)) (m (c, main_arg1)) (m (c, main_arg2)) (m (c, main_arg3)) := by
  refine (dats m 0 c).arrAt_eq_of_covers 4 _ (by decide +kernel) fun t hf y => ?_
  blk_simp
  rw [after0_4]
  exact tile_change m c t y _ (by blk_simp [idx t]) (by blk_simp [idx t])

/-- A block of the first moments is the reference's. -/
theorem tile_first (t : Fin cfg0.N) (y : S2048x256.Idx) (z : S2048x256.Idx) (e0 : (z 0).val = t.val * 2048 + (y 0).val) (e1 : (z 1).val = (y 1).val) :
    out0_5 (iblk m c 0 t) (iblk m c 1 t) (iblk m c 2 t) (iblk m c 3 t) y = Reference26Ideal.Read.val_main_v25 (F := Ideal) (m (c, main_arg1)) (m (c, main_arg2)) z := by
  obtain ⟨-, h1, h2, -⟩ := blk_at m c t y z e0 e1
  unfold out0_5 Reference26Ideal.Read.val_main_v25
  rw [View.canon_cons_unit_zero (by decide), View.ld_unit_zero (by decide), View.ld_unit_zero (by decide), ref_first]
  refine (first_at _ _ _).trans ?_
  rw [h1, h2]
  rfl

/-- The array of the first moments after the last point. -/
theorem final_first : (dats m 0 c).arrAt 5 (cfgs 0).N = Reference26Ideal.Read.val_main_v25 (F := Ideal) (m (c, main_arg1)) (m (c, main_arg2)) := by
  refine (dats m 0 c).arrAt_eq_of_covers 5 _ (by decide +kernel) fun t hf y => ?_
  blk_simp
  rw [after0_5]
  exact tile_first m c t y _ (by blk_simp [idx t]) (by blk_simp [idx t])

/-- A block of the second moments is the reference's. -/
theorem tile_second (t : Fin cfg0.N) (y : S2048x256.Idx) (z : S2048x256.Idx) (e0 : (z 0).val = t.val * 2048 + (y 0).val) (e1 : (z 1).val = (y 1).val) :
    out0_6 (iblk m c 0 t) (iblk m c 1 t) (iblk m c 2 t) (iblk m c 3 t) y = Reference26Ideal.Read.val_main_v26 (F := Ideal) (m (c, main_arg1)) (m (c, main_arg3)) z := by
  obtain ⟨-, h1, -, h3⟩ := blk_at m c t y z e0 e1
  unfold out0_6 Reference26Ideal.Read.val_main_v26
  rw [View.canon_cons_unit_zero (by decide), View.ld_unit_zero (by decide), View.ld_unit_zero (by decide), ref_second]
  refine (second_at _ _ _).trans ?_
  rw [h1, h3]
  rfl

/-- The array of the second moments after the last point. -/
theorem final_second : (dats m 0 c).arrAt 6 (cfgs 0).N = Reference26Ideal.Read.val_main_v26 (F := Ideal) (m (c, main_arg1)) (m (c, main_arg3)) := by
  refine (dats m 0 c).arrAt_eq_of_covers 6 _ (by decide +kernel) fun t hf y => ?_
  blk_simp
  rw [after0_6]
  exact tile_second m c t y _ (by blk_simp [idx t]) (by blk_simp [idx t])

end Cert.Kernel26Ideal.Prod
end
-- ==== Proof.AdamGlu.lean ====
module
public import Idealize.ShloMosaic.Lib.Pipeline.ValueKit
public import Idealize.ShloMosaic.Lib.StableHlo.RunRead
public import proofs.«01_k».proof.Proof.Gen.Kernel27Ideal.Value
public import proofs.«01_k».proof.Proof.Gen.Reference27Ideal.Read
public import proofs.«01_k».proof.Proof.AdamStep

@[expose] public section
set_option maxRecDepth 16384
noncomputable section

/-! The optimiser's step on a chip's part of the S5's gate weights, block by block. -/

namespace Cert.Kernel27Ideal.Prod
open Idealize Idealize.ShloMosaic Idealize.ShloMosaic.TcCoe Idealize.SL.Sem Cert.Kernel27Ideal Cert.Kernel27Ideal.Gen Cert.AdamStep

variable (m : (ℓ : Loc nD τ sig) → Buf (Elt Ideal) ℓ) (c : Dev nD)

/-- Every window stages the block of rows that the point names. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An argument as rows, the layers one after another. -/
abbrev rows (x : S4x256x512.Idx → EReal) : S1024x512.Idx → EReal := shapeCast (s := S4x256x512) S1024x512 x shapeCasts_S4x256x512_S1024x512

/-- The host hands over the four arguments as rows. -/
theorem host_eq : (V m c main_v0 : S1024x512.Idx → EReal) = rows (m (c, main_arg0)) ∧ (V m c main_v1 : S1024x512.Idx → EReal) = rows (m (c, main_arg1))
    ∧ (V m c main_v2 : S1024x512.Idx → EReal) = rows (m (c, main_arg2)) ∧ (V m c main_v3 : S1024x512.Idx → EReal) = rows (m (c, main_arg3)) := by
  refine ⟨?_, ?_, ?_, ?_⟩ <;> unfold V <;> after_reads_simp <;> rfl

/-- An element of the blocks, read from the arguments. -/
theorem blk_at (t : Fin cfg0.N) (y : S1024x512.Idx) (z : S1024x512.Idx) (e0 : (z 0).val = t.val * 1024 + (y 0).val) (e1 : (z 1).val = (y 1).val) :
    iblk m c 0 t y = rows (m (c, main_arg0)) z ∧ iblk m c 1 t y = rows (m (c, main_arg1)) z
      ∧ iblk m c 2 t y = rows (m (c, main_arg2)) z ∧ iblk m c 3 t y = rows (m (c, main_arg3)) z := by
  obtain ⟨h0, h1, h2, h3⟩ := host_eq m c
  refine ⟨Eq.trans ?_ (congrFun h0 z), Eq.trans ?_ (congrFun h1 z), Eq.trans ?_ (congrFun h2 z), Eq.trans ?_ (congrFun h3 z)⟩ <;>
    blk_ext [iblk, idx t]

/-- The body's new first moment. -/
theorem first_at (g a : FVec Ideal S1024x512 .f32) (y : S1024x512.Idx) : k0_pay2 (F := Ideal) g a y = first (g y) (a y) := by
  delta k0_pay2 k0_pay1 first
  pointwise []

/-- The body's new second moment. -/
theorem second_at (g b : FVec Ideal S1024x512 .f32) (y : S1024x512.Idx) : k0_pay3 (F := Ideal) g b y = second (g y) (b y) := by
  delta k0_pay3 k0_pay1 second
  pointwise []

/-- The body's change of the weight. -/
theorem change_at (w g a b : FVec Ideal S1024x512 .f32) (y : S1024x512.Idx) :
    k0_pay4 (F := Ideal) w g a b y = change (w y) (first (g y) (a y)) (second (g y) (b y)) := by
  rw [← first_at, ← second_at]
  delta k0_pay4 change
  generalize k0_pay2 (F := Ideal) g a = p
  generalize k0_pay3 (F := Ideal) g b = q
  pointwise []

/-- An array of the reference that is filled with a number. -/
abbrev fill (b : BitVec 32) : FVec Ideal S4x256x512 .f32 := broadcastInDim S4x256x512 ![] Reference27Ideal.Facts₀.bcast_S_S4x256x512 (constant (F := Ideal) Reference27Ideal.S_ .f32 b)

theorem fill_at (b : BitVec 32) (i : S4x256x512.Idx) : fill b i = Ideal.ofBits .f32 b := by
  pointwise []

/-- The reference's new first moment. -/
theorem ref_first (g a : FVec Ideal S4x256x512 .f32) : Reference27Ideal.Read.val_main_v4 (F := Ideal) g a = fun i => first (g i) (a i) :=
  first_eq fill fill_at g a

/-- The reference's new second moment. -/
theorem ref_second (g b : FVec Ideal S4x256x512 .f32) : Reference27Ideal.Read.val_main_v10 (F := Ideal) g b = fun i => second (g i) (b i) :=
  second_eq fill fill_at g b

/-- The reference's change of the weight. -/
theorem ref_change (w g a b : FVec Ideal S4x256x512 .f32) :
    Reference27Ideal.Read.val_main_v23 (F := Ideal) w g a b = fun i => change (w i) (first (g i) (a i)) (second (g i) (b i)) :=
  (change_eq fill fill_at w (Reference27Ideal.Read.val_main_v4 (F := Ideal) g a) (Reference27Ideal.Read.val_main_v10 (F := Ideal) g b)).trans
    (by rw [ref_first, ref_second])

/-- A block of the weights' changes is the reference's. -/
theorem tile_change (t : Fin cfg0.N) (y : S1024x512.Idx) (z : S1024x512.Idx) (e0 : (z 0).val = t.val * 1024 + (y 0).val) (e1 : (z 1).val = (y 1).val) :
    out0_4 (iblk m c 0 t) (iblk m c 1 t) (iblk m c 2 t) (iblk m c 3 t) y = Reference27Ideal.Read.val_main_v24 (F := Ideal) (m (c, main_arg0)) (m (c, main_arg1)) (m (c, main_arg2)) (m (c, main_arg3)) z := by
  obtain ⟨h0, h1, h2, h3⟩ := blk_at m c t y z e0 e1
  unfold out0_4 Reference27Ideal.Read.val_main_v24
  rw [View.canon_cons_unit_zero (by decide), View.ld_unit_zero (by decide), View.ld_unit_zero (by decide), View.ld_unit_zero (by decide), View.ld_unit_zero (by decide), ref_change]
  refine (change_at _ _ _ _ _).trans ?_
  rw [h0, h1, h2, h3]
  rfl

/-- The array of the weights' changes after the last point. -/
theorem final_change : (dats m 0 c).arrAt 4 (cfgs 0).N = Reference27Ideal.Read.val_main_v24 (F := Ideal) (m (c, main_arg0)) (m (c, main_arg1)) (m (c, main_arg2)) (m (c, main_arg3)) := by
  refine (dats m 0 c).arrAt_eq_of_covers 4 _ (by decide +kernel) fun t hf y => ?_
  blk_simp
  rw [after0_4]
  exact tile_change m c t y _ (by blk_simp [idx t]) (by blk_simp [idx t])

/-- A block of the first moments is the reference's. -/
theorem tile_first (t : Fin cfg0.N) (y : S1024x512.Idx) (z : S1024x512.Idx) (e0 : (z 0).val = t.val * 1024 + (y 0).val) (e1 : (z 1).val = (y 1).val) :
    out0_5 (iblk m c 0 t) (iblk m c 1 t) (iblk m c 2 t) (iblk m c 3 t) y = Reference27Ideal.Read.val_main_v25 (F := Ideal) (m (c, main_arg1)) (m (c, main_arg2)) z := by
  obtain ⟨-, h1, h2, -⟩ := blk_at m c t y z e0 e1
  unfold out0_5 Reference27Ideal.Read.val_main_v25
  rw [View.canon_cons_unit_zero (by decide), View.ld_unit_zero (by decide), View.ld_unit_zero (by decide), ref_first]
  refine (first_at _ _ _).trans ?_
  rw [h1, h2]
  rfl

/-- The array of the first moments after the last point. -/
theorem final_first : (dats m 0 c).arrAt 5 (cfgs 0).N = Reference27Ideal.Read.val_main_v25 (F := Ideal) (m (c, main_arg1)) (m (c, main_arg2)) := by
  refine (dats m 0 c).arrAt_eq_of_covers 5 _ (by decide +kernel) fun t hf y => ?_
  blk_simp
  rw [after0_5]
  exact tile_first m c t y _ (by blk_simp [idx t]) (by blk_simp [idx t])

/-- A block of the second moments is the reference's. -/
theorem tile_second (t : Fin cfg0.N) (y : S1024x512.Idx) (z : S1024x512.Idx) (e0 : (z 0).val = t.val * 1024 + (y 0).val) (e1 : (z 1).val = (y 1).val) :
    out0_6 (iblk m c 0 t) (iblk m c 1 t) (iblk m c 2 t) (iblk m c 3 t) y = Reference27Ideal.Read.val_main_v26 (F := Ideal) (m (c, main_arg1)) (m (c, main_arg3)) z := by
  obtain ⟨-, h1, -, h3⟩ := blk_at m c t y z e0 e1
  unfold out0_6 Reference27Ideal.Read.val_main_v26
  rw [View.canon_cons_unit_zero (by decide), View.ld_unit_zero (by decide), View.ld_unit_zero (by decide), ref_second]
  refine (second_at _ _ _).trans ?_
  rw [h1, h3]
  rfl

/-- The array of the second moments after the last point. -/
theorem final_second : (dats m 0 c).arrAt 6 (cfgs 0).N = Reference27Ideal.Read.val_main_v26 (F := Ideal) (m (c, main_arg1)) (m (c, main_arg3)) := by
  refine (dats m 0 c).arrAt_eq_of_covers 6 _ (by decide +kernel) fun t hf y => ?_
  blk_simp
  rw [after0_6]
  exact tile_second m c t y _ (by blk_simp [idx t]) (by blk_simp [idx t])

end Cert.Kernel27Ideal.Prod
end
-- ==== Proof.AdamConvOut.lean ====
module
public import Idealize.ShloMosaic.Lib.Pipeline.ValueKit
public import Idealize.ShloMosaic.Lib.StableHlo.RunRead
public import proofs.«01_k».proof.Proof.Gen.Kernel28Ideal.Value
public import proofs.«01_k».proof.Proof.Gen.Reference28Ideal.Read
public import proofs.«01_k».proof.Proof.AdamStep

@[expose] public section
set_option maxRecDepth 16384
noncomputable section

/-! The optimiser's step on a chip's part of the convolution's output weights, or of the per-layer embedding's input weights, block by block. -/

namespace Cert.Kernel28Ideal.Prod
open Idealize Idealize.ShloMosaic Idealize.ShloMosaic.TcCoe Idealize.SL.Sem Cert.Kernel28Ideal Cert.Kernel28Ideal.Gen Cert.AdamStep

variable (m : (ℓ : Loc nD τ sig) → Buf (Elt Ideal) ℓ) (c : Dev nD)

/-- Every window stages the block of rows that the point names. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An argument as rows, the layers one after another. -/
abbrev rows (x : S4x256x256.Idx → EReal) : S1024x256.Idx → EReal := shapeCast (s := S4x256x256) S1024x256 x shapeCasts_S4x256x256_S1024x256

/-- The host hands over the four arguments as rows. -/
theorem host_eq : (V m c main_v0 : S1024x256.Idx → EReal) = rows (m (c, main_arg0)) ∧ (V m c main_v1 : S1024x256.Idx → EReal) = rows (m (c, main_arg1))
    ∧ (V m c main_v2 : S1024x256.Idx → EReal) = rows (m (c, main_arg2)) ∧ (V m c main_v3 : S1024x256.Idx → EReal) = rows (m (c, main_arg3)) := by
  refine ⟨?_, ?_, ?_, ?_⟩ <;> unfold V <;> after_reads_simp <;> rfl

/-- An element of the blocks, read from the arguments. -/
theorem blk_at (t : Fin cfg0.N) (y : S1024x256.Idx) (z : S1024x256.Idx) (e0 : (z 0).val = t.val * 1024 + (y 0).val) (e1 : (z 1).val = (y 1).val) :
    iblk m c 0 t y = rows (m (c, main_arg0)) z ∧ iblk m c 1 t y = rows (m (c, main_arg1)) z
      ∧ iblk m c 2 t y = rows (m (c, main_arg2)) z ∧ iblk m c 3 t y = rows (m (c, main_arg3)) z := by
  obtain ⟨h0, h1, h2, h3⟩ := host_eq m c
  refine ⟨Eq.trans ?_ (congrFun h0 z), Eq.trans ?_ (congrFun h1 z), Eq.trans ?_ (congrFun h2 z), Eq.trans ?_ (congrFun h3 z)⟩ <;>
    blk_ext [iblk, idx t]

/-- The body's new first moment. -/
theorem first_at (g a : FVec Ideal S1024x256 .f32) (y : S1024x256.Idx) : k0_pay2 (F := Ideal) g a y = first (g y) (a y) := by
  delta k0_pay2 k0_pay1 first
  pointwise []

/-- The body's new second moment. -/
theorem second_at (g b : FVec Ideal S1024x256 .f32) (y : S1024x256.Idx) : k0_pay3 (F := Ideal) g b y = second (g y) (b y) := by
  delta k0_pay3 k0_pay1 second
  pointwise []

/-- The body's change of the weight. -/
theorem change_at (w g a b : FVec Ideal S1024x256 .f32) (y : S1024x256.Idx) :
    k0_pay4 (F := Ideal) w g a b y = change (w y) (first (g y) (a y)) (second (g y) (b y)) := by
  rw [← first_at, ← second_at]
  delta k0_pay4 change
  generalize k0_pay2 (F := Ideal) g a = p
  generalize k0_pay3 (F := Ideal) g b = q
  pointwise []

/-- An array of the reference that is filled with a number. -/
abbrev fill (b : BitVec 32) : FVec Ideal S4x256x256 .f32 := broadcastInDim S4x256x256 ![] Reference28Ideal.Facts₀.bcast_S_S4x256x256 (constant (F := Ideal) Reference28Ideal.S_ .f32 b)

theorem fill_at (b : BitVec 32) (i : S4x256x256.Idx) : fill b i = Ideal.ofBits .f32 b := by
  pointwise []

/-- The reference's new first moment. -/
theorem ref_first (g a : FVec Ideal S4x256x256 .f32) : Reference28Ideal.Read.val_main_v4 (F := Ideal) g a = fun i => first (g i) (a i) :=
  first_eq fill fill_at g a

/-- The reference's new second moment. -/
theorem ref_second (g b : FVec Ideal S4x256x256 .f32) : Reference28Ideal.Read.val_main_v10 (F := Ideal) g b = fun i => second (g i) (b i) :=
  second_eq fill fill_at g b

/-- The reference's change of the weight. -/
theorem ref_change (w g a b : FVec Ideal S4x256x256 .f32) :
    Reference28Ideal.Read.val_main_v23 (F := Ideal) w g a b = fun i => change (w i) (first (g i) (a i)) (second (g i) (b i)) :=
  (change_eq fill fill_at w (Reference28Ideal.Read.val_main_v4 (F := Ideal) g a) (Reference28Ideal.Read.val_main_v10 (F := Ideal) g b)).trans
    (by rw [ref_first, ref_second])

/-- A block of the weights' changes is the reference's. -/
theorem tile_change (t : Fin cfg0.N) (y : S1024x256.Idx) (z : S1024x256.Idx) (e0 : (z 0).val = t.val * 1024 + (y 0).val) (e1 : (z 1).val = (y 1).val) :
    out0_4 (iblk m c 0 t) (iblk m c 1 t) (iblk m c 2 t) (iblk m c 3 t) y = Reference28Ideal.Read.val_main_v24 (F := Ideal) (m (c, main_arg0)) (m (c, main_arg1)) (m (c, main_arg2)) (m (c, main_arg3)) z := by
  obtain ⟨h0, h1, h2, h3⟩ := blk_at m c t y z e0 e1
  unfold out0_4 Reference28Ideal.Read.val_main_v24
  rw [View.canon_cons_unit_zero (by decide), View.ld_unit_zero (by decide), View.ld_unit_zero (by decide), View.ld_unit_zero (by decide), View.ld_unit_zero (by decide), ref_change]
  refine (change_at _ _ _ _ _).trans ?_
  rw [h0, h1, h2, h3]
  rfl

/-- The array of the weights' changes after the last point. -/
theorem final_change : (dats m 0 c).arrAt 4 (cfgs 0).N = Reference28Ideal.Read.val_main_v24 (F := Ideal) (m (c, main_arg0)) (m (c, main_arg1)) (m (c, main_arg2)) (m (c, main_arg3)) := by
  refine (dats m 0 c).arrAt_eq_of_covers 4 _ (by decide +kernel) fun t hf y => ?_
  blk_simp
  rw [after0_4]
  exact tile_change m c t y _ (by blk_simp [idx t]) (by blk_simp [idx t])

/-- A block of the first moments is the reference's. -/
theorem tile_first (t : Fin cfg0.N) (y : S1024x256.Idx) (z : S1024x256.Idx) (e0 : (z 0).val = t.val * 1024 + (y 0).val) (e1 : (z 1).val = (y 1).val) :
    out0_5 (iblk m c 0 t) (iblk m c 1 t) (iblk m c 2 t) (iblk m c 3 t) y = Reference28Ideal.Read.val_main_v25 (F := Ideal) (m (c, main_arg1)) (m (c, main_arg2)) z := by
  obtain ⟨-, h1, h2, -⟩ := blk_at m c t y z e0 e1
  unfold out0_5 Reference28Ideal.Read.val_main_v25
  rw [View.canon_cons_unit_zero (by decide), View.ld_unit_zero (by decide), View.ld_unit_zero (by decide), ref_first]
  refine (first_at _ _ _).trans ?_
  rw [h1, h2]
  rfl

/-- The array of the first moments after the last point. -/
theorem final_first : (dats m 0 c).arrAt 5 (cfgs 0).N = Reference28Ideal.Read.val_main_v25 (F := Ideal) (m (c, main_arg1)) (m (c, main_arg2)) := by
  refine (dats m 0 c).arrAt_eq_of_covers 5 _ (by decide +kernel) fun t hf y => ?_
  blk_simp
  rw [after0_5]
  exact tile_first m c t y _ (by blk_simp [idx t]) (by blk_simp [idx t])

/-- A block of the second moments is the reference's. -/
theorem tile_second (t : Fin cfg0.N) (y : S1024x256.Idx) (z : S1024x256.Idx) (e0 : (z 0).val = t.val * 1024 + (y 0).val) (e1 : (z 1).val = (y 1).val) :
    out0_6 (iblk m c 0 t) (iblk m c 1 t) (iblk m c 2 t) (iblk m c 3 t) y = Reference28Ideal.Read.val_main_v26 (F := Ideal) (m (c, main_arg1)) (m (c, main_arg3)) z := by
  obtain ⟨-, h1, -, h3⟩ := blk_at m c t y z e0 e1
  unfold out0_6 Reference28Ideal.Read.val_main_v26
  rw [View.canon_cons_unit_zero (by decide), View.ld_unit_zero (by decide), View.ld_unit_zero (by decide), ref_second]
  refine (second_at _ _ _).trans ?_
  rw [h1, h3]
  rfl

/-- The array of the second moments after the last point. -/
theorem final_second : (dats m 0 c).arrAt 6 (cfgs 0).N = Reference28Ideal.Read.val_main_v26 (F := Ideal) (m (c, main_arg1)) (m (c, main_arg3)) := by
  refine (dats m 0 c).arrAt_eq_of_covers 6 _ (by decide +kernel) fun t hf y => ?_
  blk_simp
  rw [after0_6]
  exact tile_second m c t y _ (by blk_simp [idx t]) (by blk_simp [idx t])

end Cert.Kernel28Ideal.Prod
end
-- ==== Proof.AdamSmall.lean ====
module
public import Idealize.ShloMosaic.Lib.Pipeline.ValueKit
public import Idealize.ShloMosaic.Lib.StableHlo.RunRead
public import proofs.«01_k».proof.Proof.Gen.Kernel29Ideal.Value
public import proofs.«01_k».proof.Proof.Gen.Reference29Ideal.Read
public import proofs.«01_k».proof.Proof.AdamStep

@[expose] public section
set_option maxRecDepth 16384
noncomputable section

/-! The optimiser's step on the small weights, packed one after another, block by block. -/

namespace Cert.Kernel29Ideal.Prod
open Idealize Idealize.ShloMosaic Idealize.ShloMosaic.TcCoe Idealize.SL.Sem Cert.Kernel29Ideal Cert.Kernel29Ideal.Gen Cert.AdamStep

variable (m : (ℓ : Loc nD τ sig) → Buf (Elt Ideal) ℓ) (c : Dev nD)

/-- Every window stages the block of rows that the point names. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- An element of the blocks, read from the arguments. -/
theorem blk_at (t : Fin cfg0.N) (y : S2472x128.Idx) (z : S2472x128.Idx) (e0 : (z 0).val = t.val * 2472 + (y 0).val) (e1 : (z 1).val = (y 1).val) :
    iblk m c 0 t y = (m (c, main_arg0) : S2472x128.Idx → EReal) z ∧ iblk m c 1 t y = (m (c, main_arg1) : S2472x128.Idx → EReal) z
      ∧ iblk m c 2 t y = (m (c, main_arg2) : S2472x128.Idx → EReal) z ∧ iblk m c 3 t y = (m (c, main_arg3) : S2472x128.Idx → EReal) z := by
  refine ⟨?_, ?_, ?_, ?_⟩ <;> blk_ext [iblk, idx t]

/-- The body's new first moment. -/
theorem first_at (g a : FVec Ideal S2472x128 .f32) (y : S2472x128.Idx) : k0_pay1 (F := Ideal) g a y = first (g y) (a y) := by
  delta k0_pay1 first
  pointwise []

/-- The body's new second moment. -/
theorem second_at (g b : FVec Ideal S2472x128 .f32) (y : S2472x128.Idx) : k0_pay2 (F := Ideal) g b y = second (g y) (b y) := by
  delta k0_pay2 second
  pointwise []

/-- The body's change of the weight. -/
theorem change_at (w g a b : FVec Ideal S2472x128 .f32) (y : S2472x128.Idx) :
    k0_pay3 (F := Ideal) w g a b y = change (w y) (first (g y) (a y)) (second (g y) (b y)) := by
  rw [← first_at, ← second_at]
  delta k0_pay3 change
  generalize k0_pay1 (F := Ideal) g a = p
  generalize k0_pay2 (F := Ideal) g b = q
  pointwise []

/-- An array of the reference that is filled with a number. -/
abbrev fill (b : BitVec 32) : FVec Ideal S2472x128 .f32 := broadcastInDim S2472x128 ![] Reference29Ideal.Facts₀.bcast_S_S2472x128 (constant (F := Ideal) Reference29Ideal.S_ .f32 b)

theorem fill_at (b : BitVec 32) (i : S2472x128.Idx) : fill b i = Ideal.ofBits .f32 b := by
  pointwise []

/-- The reference's new first moment. -/
theorem ref_first (g a : FVec Ideal S2472x128 .f32) : Reference29Ideal.Read.val_main_v4 (F := Ideal) g a = fun i => first (g i) (a i) :=
  first_eq fill fill_at g a

/-- The reference's new second moment. -/
theorem ref_second (g b : FVec Ideal S2472x128 .f32) : Reference29Ideal.Read.val_main_v10 (F := Ideal) g b = fun i => second (g i) (b i) :=
  second_eq fill fill_at g b

/-- The reference's change of the weight. -/
theorem ref_change (w g a b : FVec Ideal S2472x128 .f32) :
    Reference29Ideal.Read.val_main_v23 (F := Ideal) w g a b = fun i => change (w i) (first (g i) (a i)) (second (g i) (b i)) :=
  (change_eq fill fill_at w (Reference29Ideal.Read.val_main_v4 (F := Ideal) g a) (Reference29Ideal.Read.val_main_v10 (F := Ideal) g b)).trans
    (by rw [ref_first, ref_second])

/-- A block of the weights' changes is the reference's. -/
theorem tile_change (t : Fin cfg0.N) (y : S2472x128.Idx) (z : S2472x128.Idx) (e0 : (z 0).val = t.val * 2472 + (y 0).val) (e1 : (z 1).val = (y 1).val) :
    out0_4 (iblk m c 0 t) (iblk m c 1 t) (iblk m c 2 t) (iblk m c 3 t) y = Reference29Ideal.Read.val_main_v23 (F := Ideal) (m (c, main_arg0)) (m (c, main_arg1)) (m (c, main_arg2)) (m (c, main_arg3)) z := by
  obtain ⟨h0, h1, h2, h3⟩ := blk_at m c t y z e0 e1
  unfold out0_4
  rw [View.canon_cons_unit_zero (by decide), View.ld_unit_zero (by decide), View.ld_unit_zero (by decide), View.ld_unit_zero (by decide), View.ld_unit_zero (by decide), ref_change]
  refine (change_at _ _ _ _ _).trans ?_
  rw [h0, h1, h2, h3]

/-- The array of the weights' changes after the last point. -/
theorem final_change : (dats m 0 c).arrAt 4 (cfgs 0).N = Reference29Ideal.Read.val_main_v23 (F := Ideal) (m (c, main_arg0)) (m (c, main_arg1)) (m (c, main_arg2)) (m (c, main_arg3)) := by
  refine (dats m 0 c).arrAt_eq_of_covers 4 _ (by decide +kernel) fun t hf y => ?_
  blk_simp
  rw [after0_4]
  exact tile_change m c t y _ (by blk_simp [idx t]) (by blk_simp [idx t])

/-- A block of the first moments is the reference's. -/
theorem tile_first (t : Fin cfg0.N) (y : S2472x128.Idx) (z : S2472x128.Idx) (e0 : (z 0).val = t.val * 2472 + (y 0).val) (e1 : (z 1).val = (y 1).val) :
    out0_5 (iblk m c 0 t) (iblk m c 1 t) (iblk m c 2 t) (iblk m c 3 t) y = Reference29Ideal.Read.val_main_v4 (F := Ideal) (m (c, main_arg1)) (m (c, main_arg2)) z := by
  obtain ⟨-, h1, h2, -⟩ := blk_at m c t y z e0 e1
  unfold out0_5
  rw [View.canon_cons_unit_zero (by decide), View.ld_unit_zero (by decide), View.ld_unit_zero (by decide), ref_first]
  refine (first_at _ _ _).trans ?_
  rw [h1, h2]

/-- The array of the first moments after the last point. -/
theorem final_first : (dats m 0 c).arrAt 5 (cfgs 0).N = Reference29Ideal.Read.val_main_v4 (F := Ideal) (m (c, main_arg1)) (m (c, main_arg2)) := by
  refine (dats m 0 c).arrAt_eq_of_covers 5 _ (by decide +kernel) fun t hf y => ?_
  blk_simp
  rw [after0_5]
  exact tile_first m c t y _ (by blk_simp [idx t]) (by blk_simp [idx t])

/-- A block of the second moments is the reference's. -/
theorem tile_second (t : Fin cfg0.N) (y : S2472x128.Idx) (z : S2472x128.Idx) (e0 : (z 0).val = t.val * 2472 + (y 0).val) (e1 : (z 1).val = (y 1).val) :
    out0_6 (iblk m c 0 t) (iblk m c 1 t) (iblk m c 2 t) (iblk m c 3 t) y = Reference29Ideal.Read.val_main_v10 (F := Ideal) (m (c, main_arg1)) (m (c, main_arg3)) z := by
  obtain ⟨-, h1, -, h3⟩ := blk_at m c t y z e0 e1
  unfold out0_6
  rw [View.canon_cons_unit_zero (by decide), View.ld_unit_zero (by decide), View.ld_unit_zero (by decide), ref_second]
  refine (second_at _ _ _).trans ?_
  rw [h1, h3]

/-- The array of the second moments after the last point. -/
theorem final_second : (dats m 0 c).arrAt 6 (cfgs 0).N = Reference29Ideal.Read.val_main_v10 (F := Ideal) (m (c, main_arg1)) (m (c, main_arg3)) := by
  refine (dats m 0 c).arrAt_eq_of_covers 6 _ (by decide +kernel) fun t hf y => ?_
  blk_simp
  rw [after0_6]
  exact tile_second m c t y _ (by blk_simp [idx t]) (by blk_simp [idx t])

end Cert.Kernel29Ideal.Prod
end
-- ==== Proof.LossHead.lean ====
module
public import Idealize.ShloMosaic.Lib.Pipeline.ValueKit
public import Idealize.ShloMosaic.Lib.StableHlo.RunRead
public import proofs.«01_k».proof.Proof.Gen.Kernel30Ideal.Value
public import proofs.«01_k».proof.Proof.Gen.Reference30Ideal.Read
public import proofs.«01_k».proof.Proof.InBack

@[expose] public section
set_option maxRecDepth 16384
noncomputable section

/-! The last norm and the loss: each point makes a block of rows of the gradient and adds its part of the loss by columns and of the
gain's gradient. -/

namespace Cert.Kernel30Ideal.Prod
open Idealize Idealize.ShloMosaic Idealize.ShloMosaic.TcCoe Idealize.SL.Sem Cert.Kernel30Ideal Cert.Kernel30Ideal.Gen
open Cert.Kernel4Ideal.Prod (mean back row_eq div_count out_sum sum_rows)

variable (m : (ℓ : Loc nD τ sig) → Buf (Elt Ideal) ℓ) (c : Dev nD)

/-- The blocks that the windows stage at a point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

/-- The gain as the host hands it over. -/
def gain : FVec Ideal S1x1024 .f32 := shapeCast S1x1024 (m (c, main_arg2) : FVec Ideal S1024 .f32) shapeCasts_S1024_S1x1024

/-- What the host hands over is `gain`. -/
theorem gain_eq : V m c main_v0 = gain m c := by
  unfold V
  after_reads_simp
  try rfl

/-- The rows are handed over as they are. -/
theorem rows_eq : V m c main_arg0 = m (c, main_arg0) := by
  unfold V
  after_reads_simp
  try rfl

/-- The targets are handed over as they are. -/
theorem goals_eq : V m c main_arg1 = m (c, main_arg1) := by
  unfold V
  after_reads_simp
  try rfl

/-- The row's element. -/
def row (r : Fin 8192) (j : Fin 1024) : EReal := (m (c, main_arg0) : FVec Ideal S8192x1024 .f32) (ix2 r j)

/-- The target. -/
def goal (r : Fin 8192) (j : Fin 1024) : EReal := (m (c, main_arg1) : FVec Ideal S8192x1024 .f32) (ix2 r j)

/-- The gain of a column. -/
def gn (j : Fin 1024) : EReal := (m (c, main_arg2) : FVec Ideal S1024 .f32) (ix1 j)

/-- A block of the rows, read from the argument. -/
theorem rows_at (t : Fin cfg0.N) (i : Fin 512) (j : Fin 1024) (r : Fin 8192) (hr : r.val = t.val * 512 + i) :
    iblk m c 0 t (ix2 i j) = row m c r j := by
  have e : iblk m c 0 t (ix2 i j) = (V m c main_arg0 : FVec Ideal S8192x1024 .f32) (ix2 r j) := by
    blk_ext [iblk, idx t]
  rw [e, rows_eq]
  rfl

/-- A block of the targets, read from the argument. -/
theorem goals_at (t : Fin cfg0.N) (i : Fin 512) (j : Fin 1024) (r : Fin 8192) (hr : r.val = t.val * 512 + i) :
    iblk m c 1 t (ix2 i j) = goal m c r j := by
  have e : iblk m c 1 t (ix2 i j) = (V m c main_arg1 : FVec Ideal S8192x1024 .f32) (ix2 r j) := by
    blk_ext [iblk, idx t]
  rw [e, goals_eq]
  rfl

/-- The gain, read from the argument. -/
theorem gain_at (t : Fin cfg0.N) (z : Fin 1) (j : Fin 1024) : iblk m c 2 t (ix2 z j) = gn m c j := by
  have e : iblk m c 2 t (ix2 z j) = (V m c main_v0 : FVec Ideal S1x1024 .f32) (ix2 z j) := by
    blk_ext [iblk, idx t]
  rw [e, gain_eq]
  delta gain gn
  pointwise []

/-- The root that a row is divided by. -/
theorem root_at (x : FVec Ideal S512x1024 .f32) (i : Fin 512) :
    k0_pay6 (F := Ideal) x (ix2 i 0) = Ideal.rsqrt (mean fun k => x (ix2 i k)) := by
  delta k0_pay6 mean
  pointwise []

/-- The normalised row. -/
theorem norm_at (x : FVec Ideal S512x1024 .f32) (i : Fin 512) (j : Fin 1024) :
    k0_pay7 (F := Ideal) x (ix2 i j) = x (ix2 i j) * k0_pay6 (F := Ideal) x (ix2 i 0) := by
  delta k0_pay7
  generalize k0_pay6 (F := Ideal) x = p
  pointwise []

/-- What the row misses its target by. -/
theorem miss_at (x y : FVec Ideal S512x1024 .f32) (g : FVec Ideal S1x1024 .f32) (i : Fin 512) (j : Fin 1024) :
    k0_pay8 (F := Ideal) x y g (ix2 i j) = k0_pay7 (F := Ideal) x (ix2 i j) * g (ix2 0 j) - y (ix2 i j) := by
  delta k0_pay8 k0_pay5
  generalize k0_pay7 (F := Ideal) x = q
  pointwise []

/-- Its gradient. -/
theorem slope_at (x y : FVec Ideal S512x1024 .f32) (g : FVec Ideal S1x1024 .f32) (i : Fin 512) (j : Fin 1024) :
    k0_pay9 (F := Ideal) x y g (ix2 i j) = k0_pay8 (F := Ideal) x y g (ix2 i j) * Ideal.ofBits .f32 0x3A800000#32 := by
  delta k0_pay9
  generalize k0_pay8 (F := Ideal) x y g = q
  pointwise []

/-- A row of the result. -/
theorem out_at (x y : FVec Ideal S512x1024 .f32) (g : FVec Ideal S1x1024 .f32) (i : Fin 512) (j : Fin 1024) :
    k0_pay10 (F := Ideal) x y g (ix2 i j) = k0_pay6 (F := Ideal) x (ix2 i 0) * (k0_pay9 (F := Ideal) x y g (ix2 i j) * g (ix2 0 j)
      - k0_pay7 (F := Ideal) x (ix2 i j) * Ideal.div (∑ k : Fin 1024, k0_pay9 (F := Ideal) x y g (ix2 i k) * g (ix2 0 k) * k0_pay7 (F := Ideal) x (ix2 i k))
        (Ideal.ofBits .f32 0x44800000#32)) := by
  delta k0_pay10 k0_pay5
  generalize k0_pay9 (F := Ideal) x y g = d
  generalize k0_pay7 (F := Ideal) x = q
  generalize k0_pay6 (F := Ideal) x = p
  pointwise []

/-- A point's part of the loss. -/
theorem loss_at (x y : FVec Ideal S512x1024 .f32) (g : FVec Ideal S1x1024 .f32) (z : Fin 1) (j : Fin 1024) :
    k0_pay11 (F := Ideal) x y g (ix2 z j)
      = (∑ k : Fin 512, k0_pay8 (F := Ideal) x y g (ix2 k j) * k0_pay8 (F := Ideal) x y g (ix2 k j)) * Ideal.ofBits .f32 0x3A000000#32 := by
  delta k0_pay11
  generalize k0_pay8 (F := Ideal) x y g = q
  pointwise []

/-- A point's part of the gain's gradient. -/
theorem dgain_at (x y : FVec Ideal S512x1024 .f32) (g : FVec Ideal S1x1024 .f32) (z : Fin 1) (j : Fin 1024) :
    k0_pay12 (F := Ideal) x y g (ix2 z j)
      = ∑ k : Fin 512, k0_pay9 (F := Ideal) x y g (ix2 k j) * k0_pay7 (F := Ideal) x (ix2 k j) := by
  delta k0_pay12
  generalize k0_pay9 (F := Ideal) x y g = d
  generalize k0_pay7 (F := Ideal) x = q
  pointwise []

/-- The loss after a point. -/
theorem loss_out (v a : FVec Ideal S1x1024 .f32) (y : S1x1024.Idx) : k0_pay3 (F := Ideal) v a y = (a y : EReal) + v y := by
  obtain ⟨z, j, rfl⟩ : ∃ (z : Fin 1) (j : Fin 1024), y = ix2 z j := ⟨y 0, y 1, by ext a; fin_cases a <;> rfl⟩
  delta k0_pay3
  pointwise []

/-- The gain's gradient after a point. -/
theorem dgain_out (v a : FVec Ideal S1x1024 .f32) (y : S1x1024.Idx) : k0_pay4 (F := Ideal) v a y = (a y : EReal) + v y := by
  obtain ⟨z, j, rfl⟩ : ∃ (z : Fin 1) (j : Fin 1024), y = ix2 z j := ⟨y 0, y 1, by ext a; fin_cases a <;> rfl⟩
  delta k0_pay4
  pointwise []

/-- Before the first point the loss is zero. -/
theorem zero_loss (y : S1x1024.Idx) : k0_pay1 (F := Ideal) y = (0 : EReal) := by
  delta k0_pay1
  pointwise []

/-- Before the first point the gain's gradient is zero. -/
theorem zero_dgain (y : S1x1024.Idx) : k0_pay2 (F := Ideal) y = (0 : EReal) := by
  delta k0_pay2
  pointwise []

/-- What a row misses its target by. -/
def miss (r : Fin 8192) (j : Fin 1024) : EReal := row m c r j * Ideal.rsqrt (mean (row m c r)) * gn m c j - goal m c r j

/-- The gradient of the normalised row. -/
def slope (r : Fin 8192) (j : Fin 1024) : EReal := miss m c r j * Ideal.ofBits .f32 0x3A800000#32

/-- What a point's row misses its target by. -/
theorem miss_pt (t : Fin cfg0.N) (i : Fin 512) (j : Fin 1024) (r : Fin 8192) (hr : r.val = t.val * 512 + i) :
    k0_pay8 (F := Ideal) (iblk m c 0 t) (iblk m c 1 t) (iblk m c 2 t) (ix2 i j) = miss m c r j := by
  rw [miss_at, norm_at, root_at, gain_at, goals_at m c t i j r hr]
  simp only [rows_at m c t i _ r hr]
  rfl

/-- A point's normalised row. -/
theorem norm_pt (t : Fin cfg0.N) (i : Fin 512) (j : Fin 1024) (r : Fin 8192) (hr : r.val = t.val * 512 + i) :
    k0_pay7 (F := Ideal) (iblk m c 0 t) (ix2 i j) = row m c r j * Ideal.rsqrt (mean (row m c r)) := by
  rw [norm_at, root_at]
  simp only [rows_at m c t i _ r hr]

/-- A point's gradient of the normalised row. -/
theorem slope_pt (t : Fin cfg0.N) (i : Fin 512) (j : Fin 1024) (r : Fin 8192) (hr : r.val = t.val * 512 + i) :
    k0_pay9 (F := Ideal) (iblk m c 0 t) (iblk m c 1 t) (iblk m c 2 t) (ix2 i j) = slope m c r j := by
  rw [slope_at, miss_pt m c t i j r hr]
  rfl

/-- A point's row of the result. -/
theorem out_pt (t : Fin cfg0.N) (i : Fin 512) (j : Fin 1024) (r : Fin 8192) (hr : r.val = t.val * 512 + i) :
    k0_pay10 (F := Ideal) (iblk m c 0 t) (iblk m c 1 t) (iblk m c 2 t) (ix2 i j)
      = Ideal.rsqrt (mean (row m c r)) * (slope m c r j * gn m c j - row m c r j * Ideal.rsqrt (mean (row m c r))
        * Ideal.div (∑ k, slope m c r k * gn m c k * (row m c r k * Ideal.rsqrt (mean (row m c r)))) (Ideal.ofBits .f32 0x44800000#32)) := by
  rw [out_at, root_at]
  simp only [rows_at m c t i _ r hr, slope_pt m c t i _ r hr, norm_pt m c t i _ r hr, gain_at m c t]

/-- The reference's mean of squares, for the loss. -/
theorem ref_mean (x : FVec Ideal S8192x1024 .f32) (r : Fin 8192) :
    Reference30Ideal.Read.val_main_v6 (F := Ideal) x (ix2 r 0) = mean fun k => x (ix2 r k) := by
  delta Reference30Ideal.Read.val_main_v6 Reference30Ideal.Read.val_main_v5 Reference30Ideal.Read.val_main_v4 Reference30Ideal.Read.val_main_v3
    Reference30Ideal.Read.val_main_v2 Reference30Ideal.Read.val_main_v1 Reference30Ideal.Read.val_main_v0 Reference30Ideal.Read.val_main_cst
    Reference30Ideal.Read.val_main_cst_0 Reference30Ideal.Read.val_main_cst_1 mean
  pointwise []

/-- The reference makes it again for the gradients. -/
theorem ref_again (x : FVec Ideal S8192x1024 .f32) : Reference30Ideal.Read.val_main_v27 (F := Ideal) x = Reference30Ideal.Read.val_main_v6 (F := Ideal) x := rfl

/-- The reference's root. -/
theorem ref_root (x : FVec Ideal S8192x1024 .f32) (r : Fin 8192) :
    Reference30Ideal.Read.val_main_v28 (F := Ideal) x (ix2 r 0) = Ideal.rsqrt (mean fun k => x (ix2 r k)) := by
  rw [← ref_mean, ← ref_again]
  delta Reference30Ideal.Read.val_main_v28
  generalize Reference30Ideal.Read.val_main_v27 (F := Ideal) x = p
  pointwise []

/-- What the reference's row misses its target by. -/
theorem ref_miss (x y : FVec Ideal S8192x1024 .f32) (g : FVec Ideal S1024 .f32) (r : Fin 8192) (j : Fin 1024) :
    Reference30Ideal.Read.val_main_v37 (F := Ideal) x y g (ix2 r j)
      = x (ix2 r j) * Reference30Ideal.Read.val_main_v28 (F := Ideal) x (ix2 r 0) * g (ix1 j) - y (ix2 r j) := by
  delta Reference30Ideal.Read.val_main_v37 Reference30Ideal.Read.val_main_v36 Reference30Ideal.Read.val_main_v35 Reference30Ideal.Read.val_main_v34
    Reference30Ideal.Read.val_main_v33 Reference30Ideal.Read.val_main_v32
  generalize Reference30Ideal.Read.val_main_v28 (F := Ideal) x = p
  pointwise []

/-- It is what the kernel's row misses it by. -/
theorem ref_miss_eq (r : Fin 8192) (j : Fin 1024) :
    Reference30Ideal.Read.val_main_v37 (F := Ideal) (m (c, main_arg0)) (m (c, main_arg1)) (m (c, main_arg2)) (ix2 r j) = miss m c r j := by
  rw [ref_miss, ref_root]
  rfl

/-- A half of a part is the number by which the kernel multiplies. -/
theorem scale : Ideal.div (Ideal.ofBits .f32 0x3F000000#32 * Ideal.ofBits .f32 0x3F800000#32) (Ideal.ofBits .f32 0x44800000#32)
    * Ideal.ofBits .f32 0x40000000#32 = Ideal.ofBits .f32 0x3A800000#32 := by
  rw [div_count]
  simp [Ideal.ofBits, Ideal.ieee]
  norm_cast
  norm_num

/-- The half of the mean is the number by which the kernel multiplies the loss. -/
theorem scale_loss : Ideal.ofBits .f32 0x3F000000#32 * ((1024⁻¹ : ℝ) : EReal) = Ideal.ofBits .f32 0x3A000000#32 := by
  simp [Ideal.ofBits, Ideal.ieee]
  norm_cast
  norm_num

/-- It is a number that is not negative. -/
theorem scale_real : ∃ p : ℝ, 0 ≤ p ∧ Ideal.ofBits .f32 0x3A000000#32 = (p : EReal) := by
  refine ⟨_, ?_, by simp [Ideal.ofBits, Ideal.ieee]; rfl⟩
  norm_num

/-- The reference's gradient of the normalised row. -/
theorem ref_slope (x y : FVec Ideal S8192x1024 .f32) (g : FVec Ideal S1024 .f32) (r : Fin 8192) (j : Fin 1024) :
    Reference30Ideal.Read.val_main_v51 (F := Ideal) x y g (ix2 r j)
      = Reference30Ideal.Read.val_main_v37 (F := Ideal) x y g (ix2 r j) * Ideal.ofBits .f32 0x3A800000#32 := by
  rw [← scale, mul_comm, mul_assoc]
  delta Reference30Ideal.Read.val_main_v51 Reference30Ideal.Read.val_main_v50 Reference30Ideal.Read.val_main_v49 Reference30Ideal.Read.val_main_v48
    Reference30Ideal.Read.val_main_v47 Reference30Ideal.Read.val_main_v46 Reference30Ideal.Read.val_main_v40 Reference30Ideal.Read.val_main_v39
    Reference30Ideal.Read.val_main_cst_9 Reference30Ideal.Read.val_main_cst_14 Reference30Ideal.Read.val_main_cst_15 Reference30Ideal.Read.val_main_cst_16
  generalize Reference30Ideal.Read.val_main_v37 (F := Ideal) x y g = e
  pointwise []

/-- It is the kernel's. -/
theorem ref_slope_eq (r : Fin 8192) (j : Fin 1024) :
    Reference30Ideal.Read.val_main_v51 (F := Ideal) (m (c, main_arg0)) (m (c, main_arg1)) (m (c, main_arg2)) (ix2 r j) = slope m c r j := by
  rw [ref_slope, ref_miss_eq]
  rfl

/-- The reference's gradient of the row, through the mean. -/
theorem ref_back (x y : FVec Ideal S8192x1024 .f32) (g : FVec Ideal S1024 .f32) (r : Fin 8192) (j : Fin 1024) :
    Reference30Ideal.Read.val_main_v67 (F := Ideal) x y g (ix2 r j)
      = back (∑ k : Fin 1024, x (ix2 r k) * (Reference30Ideal.Read.val_main_v51 (F := Ideal) x y g (ix2 r k) * g (ix1 k)))
        (Reference30Ideal.Read.val_main_v28 (F := Ideal) x (ix2 r 0)) (Reference30Ideal.Read.val_main_v27 (F := Ideal) x (ix2 r 0)) := by
  delta back Reference30Ideal.Read.val_main_v67 Reference30Ideal.Read.val_main_v66 Reference30Ideal.Read.val_main_v65 Reference30Ideal.Read.val_main_v64
    Reference30Ideal.Read.val_main_v63 Reference30Ideal.Read.val_main_v60 Reference30Ideal.Read.val_main_v59 Reference30Ideal.Read.val_main_v58
    Reference30Ideal.Read.val_main_v56 Reference30Ideal.Read.val_main_v55 Reference30Ideal.Read.val_main_v34 Reference30Ideal.Read.val_main_v31
    Reference30Ideal.Read.val_main_v30 Reference30Ideal.Read.val_main_v29 Reference30Ideal.Read.val_main_cst_8 Reference30Ideal.Read.val_main_cst_19
    Reference30Ideal.Read.val_main_cst_20 Reference30Ideal.Read.val_main_cst_21
  generalize Reference30Ideal.Read.val_main_v51 (F := Ideal) x y g = q
  generalize Reference30Ideal.Read.val_main_v28 (F := Ideal) x = p
  generalize Reference30Ideal.Read.val_main_v27 (F := Ideal) x = v
  pointwise []
  rw [Fin.sum_univ_one]

/-- The reference's first result. -/
theorem ref_out (x y : FVec Ideal S8192x1024 .f32) (g : FVec Ideal S1024 .f32) (r : Fin 8192) (j : Fin 1024) :
    Reference30Ideal.Read.val_main_v71 (F := Ideal) x y g (ix2 r j)
      = Reference30Ideal.Read.val_main_v51 (F := Ideal) x y g (ix2 r j) * g (ix1 j) * Reference30Ideal.Read.val_main_v28 (F := Ideal) x (ix2 r 0)
        + x (ix2 r j) * Reference30Ideal.Read.val_main_v67 (F := Ideal) x y g (ix2 r j)
        + Reference30Ideal.Read.val_main_v67 (F := Ideal) x y g (ix2 r j) * x (ix2 r j) := by
  delta Reference30Ideal.Read.val_main_v71 Reference30Ideal.Read.val_main_v70 Reference30Ideal.Read.val_main_v69 Reference30Ideal.Read.val_main_v68
    Reference30Ideal.Read.val_main_v62 Reference30Ideal.Read.val_main_v61 Reference30Ideal.Read.val_main_v56 Reference30Ideal.Read.val_main_v55
    Reference30Ideal.Read.val_main_v34
  generalize Reference30Ideal.Read.val_main_v67 (F := Ideal) x y g = b
  generalize Reference30Ideal.Read.val_main_v51 (F := Ideal) x y g = q
  generalize Reference30Ideal.Read.val_main_v28 (F := Ideal) x = p
  pointwise []

/-- The reference's loss by columns. -/
theorem ref_loss (x y : FVec Ideal S8192x1024 .f32) (g : FVec Ideal S1024 .f32) (z : Fin 1) (j : Fin 1024) :
    Reference30Ideal.Read.val_main_v20 (F := Ideal) x y g (ix2 z j)
      = Ideal.ofBits .f32 0x3F000000#32 * Ideal.div (∑ r : Fin 8192, Reference30Ideal.Read.val_main_v37 (F := Ideal) x y g (ix2 r j)
        * Reference30Ideal.Read.val_main_v37 (F := Ideal) x y g (ix2 r j)) (Ideal.ofBits .f32 0x44800000#32) := by
  have e : Reference30Ideal.Read.val_main_v13 (F := Ideal) x y g = Reference30Ideal.Read.val_main_v37 (F := Ideal) x y g := rfl
  rw [← e]
  delta Reference30Ideal.Read.val_main_v20 Reference30Ideal.Read.val_main_v19 Reference30Ideal.Read.val_main_v18 Reference30Ideal.Read.val_main_v17
    Reference30Ideal.Read.val_main_v16 Reference30Ideal.Read.val_main_v15 Reference30Ideal.Read.val_main_v14 Reference30Ideal.Read.val_main_cst_2
    Reference30Ideal.Read.val_main_cst_3 Reference30Ideal.Read.val_main_cst_4
  generalize Reference30Ideal.Read.val_main_v13 (F := Ideal) x y g = e
  pointwise []

/-- The reference's gradient of the gain. -/
theorem ref_gain (x y : FVec Ideal S8192x1024 .f32) (g : FVec Ideal S1024 .f32) (z : Fin 1) (j : Fin 1024) :
    Reference30Ideal.Read.val_main_v72 (F := Ideal) x y g (ix2 z j)
      = ∑ r : Fin 8192, x (ix2 r j) * Reference30Ideal.Read.val_main_v28 (F := Ideal) x (ix2 r 0) * Reference30Ideal.Read.val_main_v51 (F := Ideal) x y g (ix2 r j) := by
  delta Reference30Ideal.Read.val_main_v72 Reference30Ideal.Read.val_main_v57 Reference30Ideal.Read.val_main_v54 Reference30Ideal.Read.val_main_v53
    Reference30Ideal.Read.val_main_v52 Reference30Ideal.Read.val_main_v33 Reference30Ideal.Read.val_main_v32 Reference30Ideal.Read.val_main_cst_17
    Reference30Ideal.Read.val_main_cst_18
  generalize Reference30Ideal.Read.val_main_v51 (F := Ideal) x y g = q
  generalize Reference30Ideal.Read.val_main_v28 (F := Ideal) x = p
  pointwise []
  rw [Fin.sum_univ_one]

/-- A point's block of rows. -/
theorem point_row (t : Fin cfg0.N) (y : S512x1024.Idx) :
    (outsAt0 m c t.val t.isLt).1 y = k0_pay10 (F := Ideal) (iblk m c 0 t) (iblk m c 1 t) (iblk m c 2 t) y := by
  by_cases h0 : t.val % 16 = 0
  · rw [outsAt0_A m c t h0]
    frame_out
    try rfl
  · rw [outsAt0_B m c t h0]
    frame_out
    try rfl

/-- A point's block of rows is the reference's. -/
theorem tile3 (t : Fin cfg0.N) (y : S512x1024.Idx) (z : S8192x1024.Idx) (e0 : (z 0).val = t.val * 512 + (y 0).val)
    (e1 : (z 1).val = (y 1).val) : (outsAt0 m c t.val t.isLt).1 y
      = Reference30Ideal.Read.val_main_v71 (F := Ideal) (m (c, main_arg0)) (m (c, main_arg1)) (m (c, main_arg2)) z := by
  obtain ⟨i, j, rfl⟩ : ∃ (i : Fin 512) (j : Fin 1024), y = ix2 i j := ⟨y 0, y 1, by ext a; fin_cases a <;> rfl⟩
  obtain ⟨r, s, rfl⟩ : ∃ (r : Fin 8192) (s : Fin 1024), z = ix2 r s := ⟨z 0, z 1, by ext a; fin_cases a <;> rfl⟩
  obtain rfl : s = j := Fin.ext e1
  refine (point_row m c t _).trans ((out_pt m c t i s r e0).trans ?_)
  refine Eq.trans ?_ (ref_out _ _ _ r s).symm
  rw [ref_back, ref_root, ref_again, ref_mean]
  simp only [ref_slope_eq]
  have h := row_eq (slope m c r) (row m c r) (gn m c) 0 s
  rw [zero_add, zero_add] at h
  exact h

/-- A point's part of the loss. -/
def lpart (t : Fin cfg0.N) (y : S1x1024.Idx) : EReal :=
  (∑ k : Fin 512, miss m c ⟨t.val * 512 + k.val, by have h1 : t.val < 16 := lt_of_lt_of_eq t.isLt N_0; omega⟩ (y 1)
    * miss m c ⟨t.val * 512 + k.val, by have h1 : t.val < 16 := lt_of_lt_of_eq t.isLt N_0; omega⟩ (y 1)) * Ideal.ofBits .f32 0x3A000000#32

/-- A point's part of the loss at an index. -/
theorem lpart_at (t : Fin cfg0.N) (y : S1x1024.Idx) :
    k0_pay11 (F := Ideal) (iblk m c 0 t) (iblk m c 1 t) (iblk m c 2 t) y = lpart m c t y := by
  obtain ⟨z, j, rfl⟩ : ∃ (z : Fin 1) (j : Fin 1024), y = ix2 z j := ⟨y 0, y 1, by ext a; fin_cases a <;> rfl⟩
  have h1 : t.val < 16 := lt_of_lt_of_eq t.isLt N_0
  rw [loss_at]
  refine congrArg (fun u : EReal => u * Ideal.ofBits .f32 0x3A000000#32) (Finset.sum_congr rfl fun k _ => ?_)
  rw [miss_pt m c t k j ⟨t.val * 512 + k.val, by omega⟩ rfl]
  rfl

/-- One row's part of the gain's gradient. -/
def term (r : Fin 8192) (j : Fin 1024) : EReal := slope m c r j * (row m c r j * Ideal.rsqrt (mean (row m c r)))

/-- A point's part of the gain's gradient. -/
def gpart (t : Fin cfg0.N) (y : S1x1024.Idx) : EReal :=
  ∑ k : Fin 512, term m c ⟨t.val * 512 + k.val, by have h1 : t.val < 16 := lt_of_lt_of_eq t.isLt N_0; omega⟩ (y 1)

/-- A point's part of the gain's gradient at an index. -/
theorem gpart_at (t : Fin cfg0.N) (y : S1x1024.Idx) :
    k0_pay12 (F := Ideal) (iblk m c 0 t) (iblk m c 1 t) (iblk m c 2 t) y = gpart m c t y := by
  obtain ⟨z, j, rfl⟩ : ∃ (z : Fin 1) (j : Fin 1024), y = ix2 z j := ⟨y 0, y 1, by ext a; fin_cases a <;> rfl⟩
  have h1 : t.val < 16 := lt_of_lt_of_eq t.isLt N_0
  rw [dgain_at]
  refine Finset.sum_congr rfl fun k _ => ?_
  rw [slope_pt m c t k j ⟨t.val * 512 + k.val, by omega⟩ rfl, norm_pt m c t k j ⟨t.val * 512 + k.val, by omega⟩ rfl]
  rfl

/-- The loss after the first point. -/
theorem loss_A (t : Fin cfg0.N) (h0 : t.val % 16 = 0) (y : S1x1024.Idx) :
    (outsAt0 m c t.val t.isLt).2.1 y = (0 : EReal) + lpart m c t y := by
  rw [outsAt0_A m c t h0]
  frame_out
  exact (loss_out _ _ y).trans (congrArg₂ (fun u v : EReal => u + v) (zero_loss y) (lpart_at m c t y))

/-- The loss after a later point. -/
theorem loss_B (t : Fin cfg0.N) (h0 : ¬ t.val % 16 = 0) (y : S1x1024.Idx) :
    (outsAt0 m c t.val t.isLt).2.1 y
      = ((outsAt0 m c (t.val - 1) (Nat.lt_of_le_of_lt (Nat.sub_le _ _) t.isLt)).2.1 y : EReal) + lpart m c t y := by
  rw [outsAt0_B m c t h0]
  frame_out
  exact (loss_out _ _ y).trans (congrArg₂ (fun u v : EReal => u + v) rfl (lpart_at m c t y))

/-- The gain's gradient after the first point. -/
theorem dgain_A (t : Fin cfg0.N) (h0 : t.val % 16 = 0) (y : S1x1024.Idx) :
    (outsAt0 m c t.val t.isLt).2.2 y = (0 : EReal) + gpart m c t y := by
  rw [outsAt0_A m c t h0]
  frame_out
  exact (dgain_out _ _ y).trans (congrArg₂ (fun u v : EReal => u + v) (zero_dgain y) (gpart_at m c t y))

/-- The gain's gradient after a later point. -/
theorem dgain_B (t : Fin cfg0.N) (h0 : ¬ t.val % 16 = 0) (y : S1x1024.Idx) :
    (outsAt0 m c t.val t.isLt).2.2 y
      = ((outsAt0 m c (t.val - 1) (Nat.lt_of_le_of_lt (Nat.sub_le _ _) t.isLt)).2.2 y : EReal) + gpart m c t y := by
  rw [outsAt0_B m c t h0]
  frame_out
  exact (dgain_out _ _ y).trans (congrArg₂ (fun u v : EReal => u + v) rfl (gpart_at m c t y))

/-- The points' parts of the loss together. -/
theorem sum_loss (z : Fin 1) (j : Fin 1024) (p : Fin 16 → Fin cfg0.N) (hp : ∀ s, (p s).val = s.val) :
    ∑ s : Fin 16, lpart m c (p s) (ix2 z j)
      = Reference30Ideal.Read.val_main_v20 (F := Ideal) (m (c, main_arg0)) (m (c, main_arg1)) (m (c, main_arg2)) (ix2 z j) := by
  obtain ⟨q, hq, h⟩ := scale_real
  rw [ref_loss, div_count, mul_comm _ (((1024⁻¹ : ℝ) : EReal)), ← mul_assoc, scale_loss, h]
  simp only [ref_miss_eq]
  rw [← sum_rows (fun r => miss m c r j * miss m c r j) (fun s => (p s).val) hp, ← out_sum q hq]
  refine Finset.sum_congr rfl fun s _ => ?_
  delta lpart
  rw [h]
  exact mul_comm _ _

/-- The points' parts of the gain's gradient together. -/
theorem sum_gain (z : Fin 1) (j : Fin 1024) (p : Fin 16 → Fin cfg0.N) (hp : ∀ s, (p s).val = s.val) :
    ∑ s : Fin 16, gpart m c (p s) (ix2 z j)
      = Reference30Ideal.Read.val_main_v72 (F := Ideal) (m (c, main_arg0)) (m (c, main_arg1)) (m (c, main_arg2)) (ix2 z j) := by
  refine (sum_rows (fun r => term m c r j) (fun s => (p s).val) hp).trans ?_
  rw [ref_gain]
  refine Finset.sum_congr rfl fun r _ => ?_
  rw [ref_root, ref_slope_eq]
  exact mul_comm _ _

/-- What the last point leaves of the loss is the reference's. -/
theorem tile4 (t : Fin cfg0.N) (hm : t.val % 16 = 15) (y z : S1x1024.Idx) (e1 : (z 1).val = (y 1).val) : (outsAt0 m c t.val t.isLt).2.1 y
      = Reference30Ideal.Read.val_main_v20 (F := Ideal) (m (c, main_arg0)) (m (c, main_arg1)) (m (c, main_arg2)) z := by
  have ht : t.val < 16 := lt_of_lt_of_eq t.isLt N_0
  obtain ⟨a, j, rfl⟩ : ∃ (a : Fin 1) (j : Fin 1024), y = ix2 a j := ⟨y 0, y 1, by ext a; fin_cases a <;> rfl⟩
  obtain ⟨b, s, rfl⟩ : ∃ (b : Fin 1) (s : Fin 1024), z = ix2 b s := ⟨z 0, z 1, by ext a; fin_cases a <;> rfl⟩
  obtain rfl : s = j := Fin.ext e1
  obtain rfl : b = a := Subsingleton.elim _ _
  rw [Pipeline.eq_sum_fin_of_reset_step_apply_of_flush (M := EReal) (fun n h => (outsAt0 m c n h).2.1) 16 (fun _ => 0)
    (fun t y => lpart m c t y) (fun t h y => loss_A m c t h y) (fun t h y => loss_B m c t h y) t hm _, zero_add]
  exact sum_loss m c b s _ (fun s => by show 16 * (t.val / 16) + s.val = s.val; omega)

/-- What the last point leaves of the gain's gradient is the reference's. -/
theorem tile5 (t : Fin cfg0.N) (hm : t.val % 16 = 15) (y z : S1x1024.Idx) (e1 : (z 1).val = (y 1).val) : (outsAt0 m c t.val t.isLt).2.2 y
      = Reference30Ideal.Read.val_main_v72 (F := Ideal) (m (c, main_arg0)) (m (c, main_arg1)) (m (c, main_arg2)) z := by
  have ht : t.val < 16 := lt_of_lt_of_eq t.isLt N_0
  obtain ⟨a, j, rfl⟩ : ∃ (a : Fin 1) (j : Fin 1024), y = ix2 a j := ⟨y 0, y 1, by ext a; fin_cases a <;> rfl⟩
  obtain ⟨b, s, rfl⟩ : ∃ (b : Fin 1) (s : Fin 1024), z = ix2 b s := ⟨z 0, z 1, by ext a; fin_cases a <;> rfl⟩
  obtain rfl : s = j := Fin.ext e1
  obtain rfl : b = a := Subsingleton.elim _ _
  rw [Pipeline.eq_sum_fin_of_reset_step_apply_of_flush (M := EReal) (fun n h => (outsAt0 m c n h).2.2) 16 (fun _ => 0)
    (fun t y => gpart m c t y) (fun t h y => dgain_A m c t h y) (fun t h y => dgain_B m c t h y) t hm _, zero_add]
  exact sum_gain m c b s _ (fun s => by show 16 * (t.val / 16) + s.val = s.val; omega)

/-- The array of the rows' gradients after the last point. -/
theorem final_rows : (dats m 0 c).arrAt 3 (cfgs 0).N
    = Reference30Ideal.Read.val_main_v71 (F := Ideal) (m (c, main_arg0)) (m (c, main_arg1)) (m (c, main_arg2)) := by
  refine (dats m 0 c).arrAt_eq_of_covers 3 _ (by decide +kernel) fun t hf y => ?_
  blk_simp
  rw [after0_3]
  exact tile3 m c t y _ (by blk_simp [idx t]) (by blk_simp [idx t])

/-- The loss by columns after the last point. -/
theorem final_loss : (dats m 0 c).arrAt 4 (cfgs 0).N
    = Reference30Ideal.Read.val_main_v20 (F := Ideal) (m (c, main_arg0)) (m (c, main_arg1)) (m (c, main_arg2)) := by
  refine (dats m 0 c).arrAt_eq_of_covers 4 _ (by decide +kernel) fun t hf y => ?_
  blk_simp
  rw [after0_4]
  exact tile4 m c t ((flush0_4 t).mp hf) y _ (by blk_simp [idx t])

/-- The gain's gradient after the last point. -/
theorem final_gain : (dats m 0 c).arrAt 5 (cfgs 0).N
    = Reference30Ideal.Read.val_main_v72 (F := Ideal) (m (c, main_arg0)) (m (c, main_arg1)) (m (c, main_arg2)) := by
  refine (dats m 0 c).arrAt_eq_of_covers 5 _ (by decide +kernel) fun t hf y => ?_
  blk_simp
  rw [after0_5]
  exact tile5 m c t ((flush0_5 t).mp hf) y _ (by blk_simp [idx t])

end Cert.Kernel30Ideal.Prod
end
-- ==== Proof.PleBack.lean ====
module
public import Idealize.ShloMosaic.Lib.Pipeline.ValueKit
public import Idealize.ShloMosaic.Lib.StableHlo.RunRead
public import proofs.«01_k».proof.Proof.Gen.Kernel31Ideal.Value
public import proofs.«01_k».proof.Proof.Gen.Reference31Ideal.Read
public import proofs.«01_k».proof.Proof.InBack

@[expose] public section
set_option maxRecDepth 16384
noncomputable section

/-! The backward pass of the per-layer embedding: the gate's derivatives, the product with the gate's weights and the norm before it. Each
point makes a block of rows and adds its part of the gain's gradient. -/

namespace Cert.Kernel31Ideal.Prod
open Idealize Idealize.ShloMosaic Idealize.ShloMosaic.TcCoe Idealize.SL.Sem Cert.Kernel31Ideal Cert.Kernel31Ideal.Gen
open Cert.Kernel4Ideal.Prod (mean back row_eq)

variable (m : (ℓ : Loc nD τ sig) → Buf (Elt Ideal) ℓ) (c : Dev nD)

/-- The blocks that the windows stage at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The gate's pre-activations as the host hands them over. -/
def gates : FVec Ideal S8192x1024 .bf16 := truncf .bf16 (m (c, main_arg1) : FVec Ideal S8192x1024 .f32) bitsLt_bf16_f32

/-- The embedding as the host hands it over. -/
def embs : FVec Ideal S8192x1024 .bf16 := truncf .bf16 (m (c, main_arg2) : FVec Ideal S8192x1024 .f32) bitsLt_bf16_f32

/-- The gain as the host hands it over. -/
def gain : FVec Ideal S1x1024 .f32 := shapeCast S1x1024 (m (c, main_arg4) : FVec Ideal S1024 .f32) shapeCasts_S1024_S1x1024

/-- The weights as the host hands them over. -/
def cols : FVec Ideal S1024x1024 .bf16 := truncf .bf16 (m (c, main_arg5) : FVec Ideal S1024x1024 .f32) bitsLt_bf16_f32

/-- What the host hands over is `gates`. -/
theorem gates_eq : V m c main_v0 = gates m c := by
  unfold V
  after_reads_simp
  try rfl

/-- What the host hands over is `embs`. -/
theorem embs_eq : V m c main_v1 = embs m c := by
  unfold V
  after_reads_simp
  try rfl

/-- What the host hands over is `gain`. -/
theorem gain_eq : V m c main_v2 = gain m c := by
  unfold V
  after_reads_simp
  try rfl

/-- What the host hands over is `cols`. -/
theorem cols_eq : V m c main_v3 = cols m c := by
  unfold V
  after_reads_simp
  try rfl

/-- The gradients of the rows are handed over as they are. -/
theorem res_eq : V m c main_arg0 = m (c, main_arg0) := by
  unfold V
  after_reads_simp
  try rfl

/-- The rows are handed over as they are. -/
theorem rows_eq : V m c main_arg3 = m (c, main_arg3) := by
  unfold V
  after_reads_simp
  try rfl

/-- The gradient of a row after the embedding is added. -/
def res (r : Fin 8192) (j : Fin 1024) : EReal := (m (c, main_arg0) : FVec Ideal S8192x1024 .f32) (ix2 r j)

/-- The gate's pre-activation. -/
def gate (r : Fin 8192) (j : Fin 1024) : EReal := (m (c, main_arg1) : FVec Ideal S8192x1024 .f32) (ix2 r j)

/-- The embedding. -/
def emb (r : Fin 8192) (j : Fin 1024) : EReal := (m (c, main_arg2) : FVec Ideal S8192x1024 .f32) (ix2 r j)

/-- The row's element. -/
def row (r : Fin 8192) (j : Fin 1024) : EReal := (m (c, main_arg3) : FVec Ideal S8192x1024 .f32) (ix2 r j)

/-- The gain of a column. -/
def gn (j : Fin 1024) : EReal := (m (c, main_arg4) : FVec Ideal S1024 .f32) (ix1 j)

/-- The weight. -/
def wt (j k : Fin 1024) : EReal := (m (c, main_arg5) : FVec Ideal S1024x1024 .f32) (ix2 j k)

/-- A block of the gradients, read from the argument. -/
theorem res_at (t : Fin cfg0.N) (i : Fin 512) (j : Fin 1024) (r : Fin 8192) (hr : r.val = t.val * 512 + i) :
    iblk m c 0 t (ix2 i j) = res m c r j := by
  have e : iblk m c 0 t (ix2 i j) = (V m c main_arg0 : FVec Ideal S8192x1024 .f32) (ix2 r j) := by
    blk_ext [iblk, idx t]
  rw [e, res_eq]
  rfl

/-- A block of the gate's pre-activations, read from the argument. -/
theorem gates_at (t : Fin cfg0.N) (i : Fin 512) (j : Fin 1024) (r : Fin 8192) (hr : r.val = t.val * 512 + i) :
    iblk m c 1 t (ix2 i j) = gate m c r j := by
  have e : iblk m c 1 t (ix2 i j) = (V m c main_v0 : FVec Ideal S8192x1024 .bf16) (ix2 r j) := by
    blk_ext [iblk, idx t]
  rw [e, gates_eq]
  delta gates gate
  pointwise []

/-- A block of the embedding, read from the argument. -/
theorem embs_at (t : Fin cfg0.N) (i : Fin 512) (j : Fin 1024) (r : Fin 8192) (hr : r.val = t.val * 512 + i) :
    iblk m c 2 t (ix2 i j) = emb m c r j := by
  have e : iblk m c 2 t (ix2 i j) = (V m c main_v1 : FVec Ideal S8192x1024 .bf16) (ix2 r j) := by
    blk_ext [iblk, idx t]
  rw [e, embs_eq]
  delta embs emb
  pointwise []

/-- A block of the rows, read from the argument. -/
theorem rows_at (t : Fin cfg0.N) (i : Fin 512) (j : Fin 1024) (r : Fin 8192) (hr : r.val = t.val * 512 + i) :
    iblk m c 3 t (ix2 i j) = row m c r j := by
  have e : iblk m c 3 t (ix2 i j) = (V m c main_arg3 : FVec Ideal S8192x1024 .f32) (ix2 r j) := by
    blk_ext [iblk, idx t]
  rw [e, rows_eq]
  rfl

/-- The gain, read from the argument. -/
theorem gain_at (t : Fin cfg0.N) (z : Fin 1) (j : Fin 1024) : iblk m c 4 t (ix2 z j) = gn m c j := by
  have e : iblk m c 4 t (ix2 z j) = (V m c main_v2 : FVec Ideal S1x1024 .f32) (ix2 z j) := by
    blk_ext [iblk, idx t]
  rw [e, gain_eq]
  delta gain gn
  pointwise []

/-- The weights, read from the argument. -/
theorem cols_at (t : Fin cfg0.N) (j k : Fin 1024) : iblk m c 5 t (ix2 j k) = wt m c j k := by
  have e : iblk m c 5 t (ix2 j k) = (V m c main_v3 : FVec Ideal S1024x1024 .bf16) (ix2 j k) := by
    blk_ext [iblk, idx t]
  rw [e, cols_eq]
  delta cols wt
  pointwise []

/-- The gate's logistic. -/
theorem gate_at (g : FVec Ideal S512x1024 .bf16) (i : Fin 512) (j : Fin 1024) :
    k0_pay6 (F := Ideal) g (ix2 i j) = Ideal.logistic (g (ix2 i j)) := by
  delta k0_pay6
  pointwise []
  try rfl

/-- The gradient of the gate's pre-activation. -/
theorem dgate_at (z : FVec Ideal S512x1024 .f32) (g e : FVec Ideal S512x1024 .bf16) (i : Fin 512) (j : Fin 1024) :
    k0_pay7 (F := Ideal) z g e (ix2 i j) = z (ix2 i j) * e (ix2 i j) * k0_pay6 (F := Ideal) g (ix2 i j) * (1 - k0_pay6 (F := Ideal) g (ix2 i j)) := by
  delta k0_pay7
  generalize k0_pay6 (F := Ideal) g = s
  pointwise []
  try rfl

/-- The gradient of the embedding. -/
theorem demb_at (z : FVec Ideal S512x1024 .f32) (g : FVec Ideal S512x1024 .bf16) (i : Fin 512) (j : Fin 1024) :
    k0_pay8 (F := Ideal) z g (ix2 i j) = z (ix2 i j) * k0_pay6 (F := Ideal) g (ix2 i j) := by
  delta k0_pay8
  generalize k0_pay6 (F := Ideal) g = s
  pointwise []

/-- The gradient of the normalised rows. -/
theorem prod_at (z : FVec Ideal S512x1024 .f32) (g e : FVec Ideal S512x1024 .bf16) (w : FVec Ideal S1024x1024 .bf16) (i : Fin 512) (j : Fin 1024) :
    k0_pay10 (F := Ideal) z g e w (ix2 i j) = ∑ k : Fin 1024, k0_pay7 (F := Ideal) z g e (ix2 i k) * w (ix2 j k) := by
  delta k0_pay10
  generalize k0_pay7 (F := Ideal) z g e = d
  pointwise []

/-- The root that a row is divided by. -/
theorem root_at (x : FVec Ideal S512x1024 .f32) (i : Fin 512) :
    k0_pay1 (F := Ideal) (k0_pay11 (F := Ideal) x) (ix2 i 0) = Ideal.rsqrt (mean fun k => x (ix2 i k)) := by
  delta k0_pay1 k0_pay11 mean
  pointwise []

/-- The normalised row. -/
theorem norm_at (x : FVec Ideal S512x1024 .f32) (v : FVec Ideal S512x1 .f32) (i : Fin 512) (j : Fin 1024) :
    k0_pay2 (F := Ideal) x v (ix2 i j) = x (ix2 i j) * k0_pay1 (F := Ideal) v (ix2 i 0) := by
  delta k0_pay2
  generalize k0_pay1 (F := Ideal) v = p
  pointwise []

/-- A row of the third result. -/
theorem out_at (z x : FVec Ideal S512x1024 .f32) (g : FVec Ideal S1x1024 .f32) (d : FVec Ideal S512x1024 .f32) (v : FVec Ideal S512x1 .f32)
    (i : Fin 512) (j : Fin 1024) :
    k0_pay3 (F := Ideal) z x (k0_pay9 (F := Ideal) g) d v (ix2 i j) = z (ix2 i j) + k0_pay1 (F := Ideal) v (ix2 i 0) * (d (ix2 i j) * g (ix2 0 j)
      - k0_pay2 (F := Ideal) x v (ix2 i j) * Ideal.div (∑ k : Fin 1024, d (ix2 i k) * g (ix2 0 k) * k0_pay2 (F := Ideal) x v (ix2 i k))
        (Ideal.ofBits .f32 0x44800000#32)) := by
  delta k0_pay3 k0_pay9
  generalize k0_pay2 (F := Ideal) x v = q
  generalize k0_pay1 (F := Ideal) v = p
  pointwise []

/-- The gain's gradient after a point. -/
theorem gain_out (x d : FVec Ideal S512x1024 .f32) (v : FVec Ideal S512x1 .f32) (a : FVec Ideal S1x1024 .f32) (z : Fin 1) (j : Fin 1024) :
    k0_pay4 (F := Ideal) x d v a (ix2 z j) = a (ix2 z j) + ∑ k : Fin 512, d (ix2 k j) * k0_pay2 (F := Ideal) x v (ix2 k j) := by
  delta k0_pay4
  generalize k0_pay2 (F := Ideal) x v = q
  pointwise []

/-- Before the first point it is zero. -/
theorem zero_at (y : S1x1024.Idx) : k0_pay5 (F := Ideal) y = (0 : EReal) := by
  delta k0_pay5
  pointwise []

/-- The gradient of the gate's pre-activation. -/
def dgp (r : Fin 8192) (j : Fin 1024) : EReal :=
  res m c r j * emb m c r j * Ideal.logistic (gate m c r j) * (1 - Ideal.logistic (gate m c r j))

/-- The gradient of a normalised row. -/
def dh (r : Fin 8192) (j : Fin 1024) : EReal := ∑ k : Fin 1024, dgp m c r k * wt m c j k

/-- A point's gradient of the gate's pre-activation. -/
theorem dgate_pt (t : Fin cfg0.N) (i : Fin 512) (j : Fin 1024) (r : Fin 8192) (hr : r.val = t.val * 512 + i) :
    k0_pay7 (F := Ideal) (iblk m c 0 t) (iblk m c 1 t) (iblk m c 2 t) (ix2 i j) = dgp m c r j := by
  rw [dgate_at, gate_at, res_at m c t i j r hr, gates_at m c t i j r hr, embs_at m c t i j r hr]
  rfl

/-- A point's gradient of a normalised row. -/
theorem prod_pt (t : Fin cfg0.N) (i : Fin 512) (j : Fin 1024) (r : Fin 8192) (hr : r.val = t.val * 512 + i) :
    k0_pay10 (F := Ideal) (iblk m c 0 t) (iblk m c 1 t) (iblk m c 2 t) (iblk m c 5 t) (ix2 i j) = dh m c r j := by
  rw [prod_at]
  exact Finset.sum_congr rfl fun k _ => congrArg₂ (fun u v : EReal => u * v) (dgate_pt m c t i k r hr) (cols_at m c t j k)

/-- A point's root. -/
theorem root_pt (t : Fin cfg0.N) (i : Fin 512) (r : Fin 8192) (hr : r.val = t.val * 512 + i) :
    k0_pay1 (F := Ideal) (k0_pay11 (F := Ideal) (iblk m c 3 t)) (ix2 i 0) = Ideal.rsqrt (mean (row m c r)) := by
  rw [root_at]
  exact congrArg (fun f => Ideal.rsqrt (mean f)) (funext fun k => rows_at m c t i k r hr)

/-- A point's normalised row. -/
theorem norm_pt (t : Fin cfg0.N) (i : Fin 512) (j : Fin 1024) (r : Fin 8192) (hr : r.val = t.val * 512 + i) :
    k0_pay2 (F := Ideal) (iblk m c 3 t) (k0_pay11 (F := Ideal) (iblk m c 3 t)) (ix2 i j) = row m c r j * Ideal.rsqrt (mean (row m c r)) := by
  rw [norm_at, root_pt m c t i r hr, rows_at m c t i j r hr]

/-- A point's row of the third result. -/
theorem out_pt (t : Fin cfg0.N) (i : Fin 512) (j : Fin 1024) (r : Fin 8192) (hr : r.val = t.val * 512 + i) :
    k0_pay3 (F := Ideal) (iblk m c 0 t) (iblk m c 3 t) (k0_pay9 (F := Ideal) (iblk m c 4 t))
        (k0_pay10 (F := Ideal) (iblk m c 0 t) (iblk m c 1 t) (iblk m c 2 t) (iblk m c 5 t)) (k0_pay11 (F := Ideal) (iblk m c 3 t)) (ix2 i j)
      = res m c r j + Ideal.rsqrt (mean (row m c r)) * (dh m c r j * gn m c j - row m c r j * Ideal.rsqrt (mean (row m c r))
        * Ideal.div (∑ k, dh m c r k * gn m c k * (row m c r k * Ideal.rsqrt (mean (row m c r)))) (Ideal.ofBits .f32 0x44800000#32)) := by
  rw [out_at, root_pt m c t i r hr, res_at m c t i j r hr]
  simp only [prod_pt m c t i _ r hr, norm_pt m c t i _ r hr, gain_at m c t]

/-- The reference's logistic. -/
theorem ref_gate (g : FVec Ideal S8192x1024 .f32) (r : Fin 8192) (j : Fin 1024) :
    Reference31Ideal.Read.val_main_v5 (F := Ideal) g (ix2 r j) = Ideal.logistic (g (ix2 r j)) := by
  delta Reference31Ideal.Read.val_main_v5 Reference31Ideal.Read.val_main_v4 Reference31Ideal.Read.val_main_v3 Reference31Ideal.Read.val_main_v2
    Reference31Ideal.Read.val_main_v1 Reference31Ideal.Read.val_main_v0 Reference31Ideal.Read.val_main_cst Reference31Ideal.Read.val_main_cst_0
  pointwise []
  try rfl

/-- The reference's gradient of the gate's pre-activation. -/
theorem ref_dgate (z g e : FVec Ideal S8192x1024 .f32) (r : Fin 8192) (j : Fin 1024) :
    Reference31Ideal.Read.val_main_v12 (F := Ideal) z g e (ix2 r j) = z (ix2 r j) * e (ix2 r j) * (Ideal.logistic (g (ix2 r j)) * (1 - Ideal.logistic (g (ix2 r j)))) := by
  rw [← ref_gate]
  delta Reference31Ideal.Read.val_main_v12 Reference31Ideal.Read.val_main_v11 Reference31Ideal.Read.val_main_v8 Reference31Ideal.Read.val_main_v7
    Reference31Ideal.Read.val_main_v6 Reference31Ideal.Read.val_main_cst_1
  generalize Reference31Ideal.Read.val_main_v5 (F := Ideal) g = s
  pointwise []
  try rfl

/-- It is the kernel's. -/
theorem ref_dgate_eq (r : Fin 8192) (j : Fin 1024) :
    Reference31Ideal.Read.val_main_v12 (F := Ideal) (m (c, main_arg0)) (m (c, main_arg1)) (m (c, main_arg2)) (ix2 r j) = dgp m c r j :=
  (ref_dgate _ _ _ r j).trans (mul_assoc _ _ _).symm

/-- The reference's second result, which is rounded. -/
theorem ref_gates (z g e : FVec Ideal S8192x1024 .f32) (r : Fin 8192) (j : Fin 1024) :
    Reference31Ideal.Read.val_main_v52 (F := Ideal) z g e (ix2 r j) = Reference31Ideal.Read.val_main_v12 (F := Ideal) z g e (ix2 r j) := by
  delta Reference31Ideal.Read.val_main_v52
  generalize Reference31Ideal.Read.val_main_v12 (F := Ideal) z g e = s
  pointwise []

/-- The reference's first result. -/
theorem ref_embs (z g : FVec Ideal S8192x1024 .f32) (r : Fin 8192) (j : Fin 1024) :
    Reference31Ideal.Read.val_main_v51 (F := Ideal) z g (ix2 r j) = Ideal.logistic (g (ix2 r j)) * z (ix2 r j) := by
  rw [← ref_gate]
  delta Reference31Ideal.Read.val_main_v51 Reference31Ideal.Read.val_main_v10
  generalize Reference31Ideal.Read.val_main_v5 (F := Ideal) g = s
  pointwise []

/-- The reference's gradient of the normalised rows. -/
theorem ref_prod (z g e : FVec Ideal S8192x1024 .f32) (w : FVec Ideal S1024x1024 .f32) (r : Fin 8192) (j : Fin 1024) :
    Reference31Ideal.Read.val_main_v30 (F := Ideal) z g e w (ix2 r j)
      = ∑ k : Fin 1024, Reference31Ideal.Read.val_main_v12 (F := Ideal) z g e (ix2 r k) * w (ix2 j k) := by
  delta Reference31Ideal.Read.val_main_v30
  generalize Reference31Ideal.Read.val_main_v12 (F := Ideal) z g e = s
  pointwise []

/-- It is the kernel's. -/
theorem ref_prod_eq (r : Fin 8192) (j : Fin 1024) :
    Reference31Ideal.Read.val_main_v30 (F := Ideal) (m (c, main_arg0)) (m (c, main_arg1)) (m (c, main_arg2)) (m (c, main_arg5)) (ix2 r j) = dh m c r j := by
  rw [ref_prod]
  simp only [ref_dgate_eq]
  rfl

/-- The reference's mean of squares. -/
theorem ref_mean (x : FVec Ideal S8192x1024 .f32) (r : Fin 8192) :
    Reference31Ideal.Read.val_main_v19 (F := Ideal) x (ix2 r 0) = mean fun k => x (ix2 r k) := by
  delta Reference31Ideal.Read.val_main_v19 Reference31Ideal.Read.val_main_v18 Reference31Ideal.Read.val_main_v17 Reference31Ideal.Read.val_main_v16
    Reference31Ideal.Read.val_main_v15 Reference31Ideal.Read.val_main_v14 Reference31Ideal.Read.val_main_v13 Reference31Ideal.Read.val_main_cst_2
    Reference31Ideal.Read.val_main_cst_3 Reference31Ideal.Read.val_main_cst_4 mean
  pointwise []

/-- The reference's root. -/
theorem ref_root (x : FVec Ideal S8192x1024 .f32) (r : Fin 8192) :
    Reference31Ideal.Read.val_main_v20 (F := Ideal) x (ix2 r 0) = Ideal.rsqrt (mean fun k => x (ix2 r k)) := by
  rw [← ref_mean]
  delta Reference31Ideal.Read.val_main_v20
  generalize Reference31Ideal.Read.val_main_v19 (F := Ideal) x = p
  pointwise []

/-- The reference's gradient of the row, through the mean. -/
theorem ref_back (z g e x : FVec Ideal S8192x1024 .f32) (a : FVec Ideal S1024 .f32) (w : FVec Ideal S1024x1024 .f32) (r : Fin 8192) (j : Fin 1024) :
    Reference31Ideal.Read.val_main_v46 (F := Ideal) z g e x a w (ix2 r j)
      = back (∑ k : Fin 1024, x (ix2 r k) * (Reference31Ideal.Read.val_main_v30 (F := Ideal) z g e w (ix2 r k) * a (ix1 k)))
        (Reference31Ideal.Read.val_main_v20 (F := Ideal) x (ix2 r 0)) (Reference31Ideal.Read.val_main_v19 (F := Ideal) x (ix2 r 0)) := by
  delta back Reference31Ideal.Read.val_main_v46 Reference31Ideal.Read.val_main_v45 Reference31Ideal.Read.val_main_v44 Reference31Ideal.Read.val_main_v43
    Reference31Ideal.Read.val_main_v42 Reference31Ideal.Read.val_main_v39 Reference31Ideal.Read.val_main_v38 Reference31Ideal.Read.val_main_v37
    Reference31Ideal.Read.val_main_v35 Reference31Ideal.Read.val_main_v34 Reference31Ideal.Read.val_main_v26 Reference31Ideal.Read.val_main_v23
    Reference31Ideal.Read.val_main_v22 Reference31Ideal.Read.val_main_v21 Reference31Ideal.Read.val_main_cst_5 Reference31Ideal.Read.val_main_cst_8
    Reference31Ideal.Read.val_main_cst_9 Reference31Ideal.Read.val_main_cst_10
  generalize Reference31Ideal.Read.val_main_v30 (F := Ideal) z g e w = q
  generalize Reference31Ideal.Read.val_main_v20 (F := Ideal) x = p
  generalize Reference31Ideal.Read.val_main_v19 (F := Ideal) x = v
  pointwise []
  rw [Fin.sum_univ_one]

/-- The reference's third result. -/
theorem ref_out (z g e x : FVec Ideal S8192x1024 .f32) (a : FVec Ideal S1024 .f32) (w : FVec Ideal S1024x1024 .f32) (r : Fin 8192) (j : Fin 1024) :
    Reference31Ideal.Read.val_main_v53 (F := Ideal) z g e x a w (ix2 r j)
      = z (ix2 r j) + (Reference31Ideal.Read.val_main_v30 (F := Ideal) z g e w (ix2 r j) * a (ix1 j) * Reference31Ideal.Read.val_main_v20 (F := Ideal) x (ix2 r 0)
        + x (ix2 r j) * Reference31Ideal.Read.val_main_v46 (F := Ideal) z g e x a w (ix2 r j)
        + Reference31Ideal.Read.val_main_v46 (F := Ideal) z g e x a w (ix2 r j) * x (ix2 r j)) := by
  delta Reference31Ideal.Read.val_main_v53 Reference31Ideal.Read.val_main_v50 Reference31Ideal.Read.val_main_v49 Reference31Ideal.Read.val_main_v48
    Reference31Ideal.Read.val_main_v47 Reference31Ideal.Read.val_main_v41 Reference31Ideal.Read.val_main_v40 Reference31Ideal.Read.val_main_v35
    Reference31Ideal.Read.val_main_v34 Reference31Ideal.Read.val_main_v26
  generalize Reference31Ideal.Read.val_main_v46 (F := Ideal) z g e x a w = b
  generalize Reference31Ideal.Read.val_main_v30 (F := Ideal) z g e w = q
  generalize Reference31Ideal.Read.val_main_v20 (F := Ideal) x = p
  pointwise []

/-- The reference's gradient of the gain. -/
theorem ref_gain (z g e x : FVec Ideal S8192x1024 .f32) (w : FVec Ideal S1024x1024 .f32) (b : Fin 1) (j : Fin 1024) :
    Reference31Ideal.Read.val_main_v54 (F := Ideal) z g e x w (ix2 b j)
      = ∑ r : Fin 8192, x (ix2 r j) * Reference31Ideal.Read.val_main_v20 (F := Ideal) x (ix2 r 0) * Reference31Ideal.Read.val_main_v30 (F := Ideal) z g e w (ix2 r j) := by
  delta Reference31Ideal.Read.val_main_v54 Reference31Ideal.Read.val_main_v36 Reference31Ideal.Read.val_main_v33 Reference31Ideal.Read.val_main_v32
    Reference31Ideal.Read.val_main_v31 Reference31Ideal.Read.val_main_v25 Reference31Ideal.Read.val_main_v24 Reference31Ideal.Read.val_main_cst_6
    Reference31Ideal.Read.val_main_cst_7
  generalize Reference31Ideal.Read.val_main_v30 (F := Ideal) z g e w = q
  generalize Reference31Ideal.Read.val_main_v20 (F := Ideal) x = p
  pointwise []
  rw [Fin.sum_univ_one]

/-- A point's block of the first result. -/
theorem point_emb (t : Fin cfg0.N) (y : S512x1024.Idx) :
    (outsAt0 m c t.val t.isLt).1 y = k0_pay8 (F := Ideal) (iblk m c 0 t) (iblk m c 1 t) y := by
  by_cases h0 : t.val % 16 = 0
  · rw [outsAt0_A m c t h0]
    frame_out
    try rfl
  · rw [outsAt0_B m c t h0]
    frame_out
    try rfl

/-- A point's block of the second result. -/
theorem point_gate (t : Fin cfg0.N) (y : S512x1024.Idx) :
    (outsAt0 m c t.val t.isLt).2.1 y = k0_pay7 (F := Ideal) (iblk m c 0 t) (iblk m c 1 t) (iblk m c 2 t) y := by
  by_cases h0 : t.val % 16 = 0
  · rw [outsAt0_A m c t h0]
    frame_out
    try rfl
  · rw [outsAt0_B m c t h0]
    frame_out
    try rfl

/-- A point's block of the third result. -/
theorem point_row (t : Fin cfg0.N) (y : S512x1024.Idx) :
    (outsAt0 m c t.val t.isLt).2.2.1 y = k0_pay3 (F := Ideal) (iblk m c 0 t) (iblk m c 3 t) (k0_pay9 (F := Ideal) (iblk m c 4 t))
        (k0_pay10 (F := Ideal) (iblk m c 0 t) (iblk m c 1 t) (iblk m c 2 t) (iblk m c 5 t)) (k0_pay11 (F := Ideal) (iblk m c 3 t)) y := by
  by_cases h0 : t.val % 16 = 0
  · rw [outsAt0_A m c t h0]
    frame_out
    try rfl
  · rw [outsAt0_B m c t h0]
    frame_out
    try rfl

/-- A point's block of the embedding's gradient is the reference's. -/
theorem tile6 (t : Fin cfg0.N) (y : S512x1024.Idx) (z : S8192x1024.Idx) (e0 : (z 0).val = t.val * 512 + (y 0).val)
    (e1 : (z 1).val = (y 1).val) : (outsAt0 m c t.val t.isLt).1 y
      = Reference31Ideal.Read.val_main_v51 (F := Ideal) (m (c, main_arg0)) (m (c, main_arg1)) z := by
  obtain ⟨i, j, rfl⟩ : ∃ (i : Fin 512) (j : Fin 1024), y = ix2 i j := ⟨y 0, y 1, by ext a; fin_cases a <;> rfl⟩
  obtain ⟨r, s, rfl⟩ : ∃ (r : Fin 8192) (s : Fin 1024), z = ix2 r s := ⟨z 0, z 1, by ext a; fin_cases a <;> rfl⟩
  obtain rfl : s = j := Fin.ext e1
  refine (point_emb m c t _).trans ?_
  rw [demb_at, gate_at, res_at m c t i s r e0, gates_at m c t i s r e0]
  exact (mul_comm _ _).trans (ref_embs _ _ r s).symm

/-- A point's block of the pre-activations' gradient is the reference's. -/
theorem tile7 (t : Fin cfg0.N) (y : S512x1024.Idx) (z : S8192x1024.Idx) (e0 : (z 0).val = t.val * 512 + (y 0).val)
    (e1 : (z 1).val = (y 1).val) : (outsAt0 m c t.val t.isLt).2.1 y
      = Reference31Ideal.Read.val_main_v52 (F := Ideal) (m (c, main_arg0)) (m (c, main_arg1)) (m (c, main_arg2)) z := by
  obtain ⟨i, j, rfl⟩ : ∃ (i : Fin 512) (j : Fin 1024), y = ix2 i j := ⟨y 0, y 1, by ext a; fin_cases a <;> rfl⟩
  obtain ⟨r, s, rfl⟩ : ∃ (r : Fin 8192) (s : Fin 1024), z = ix2 r s := ⟨z 0, z 1, by ext a; fin_cases a <;> rfl⟩
  obtain rfl : s = j := Fin.ext e1
  exact (point_gate m c t _).trans ((dgate_pt m c t i s r e0).trans ((ref_gates _ _ _ r s).trans (ref_dgate_eq m c r s)).symm)

/-- A point's block of rows is the reference's. -/
theorem tile8 (t : Fin cfg0.N) (y : S512x1024.Idx) (z : S8192x1024.Idx) (e0 : (z 0).val = t.val * 512 + (y 0).val)
    (e1 : (z 1).val = (y 1).val) : (outsAt0 m c t.val t.isLt).2.2.1 y
      = Reference31Ideal.Read.val_main_v53 (F := Ideal) (m (c, main_arg0)) (m (c, main_arg1)) (m (c, main_arg2)) (m (c, main_arg3)) (m (c, main_arg4))
        (m (c, main_arg5)) z := by
  obtain ⟨i, j, rfl⟩ : ∃ (i : Fin 512) (j : Fin 1024), y = ix2 i j := ⟨y 0, y 1, by ext a; fin_cases a <;> rfl⟩
  obtain ⟨r, s, rfl⟩ : ∃ (r : Fin 8192) (s : Fin 1024), z = ix2 r s := ⟨z 0, z 1, by ext a; fin_cases a <;> rfl⟩
  obtain rfl : s = j := Fin.ext e1
  refine (point_row m c t _).trans ((out_pt m c t i s r e0).trans ?_)
  refine Eq.trans ?_ (ref_out _ _ _ _ _ _ r s).symm
  rw [ref_back, ref_root, ref_mean]
  simp only [ref_prod_eq]
  exact row_eq (dh m c r) (row m c r) (gn m c) (res m c r s) s

/-- One row's part of the gain's gradient. -/
def term (r : Fin 8192) (j : Fin 1024) : EReal := dh m c r j * (row m c r j * Ideal.rsqrt (mean (row m c r)))

/-- A point's part. -/
def gpart (t : Fin cfg0.N) (y : S1x1024.Idx) : EReal :=
  ∑ k : Fin 512, term m c ⟨t.val * 512 + k.val, by have h1 : t.val < 16 := lt_of_lt_of_eq t.isLt N_0; omega⟩ (y 1)

/-- The running sum after a point, from what it was before. -/
theorem step (t : Fin cfg0.N) (a : FVec Ideal S1x1024 .f32) (y : S1x1024.Idx) :
    k0_pay4 (F := Ideal) (iblk m c 3 t) (k0_pay10 (F := Ideal) (iblk m c 0 t) (iblk m c 1 t) (iblk m c 2 t) (iblk m c 5 t))
        (k0_pay11 (F := Ideal) (iblk m c 3 t)) a y = (a y : EReal) + gpart m c t y := by
  obtain ⟨z, j, rfl⟩ : ∃ (z : Fin 1) (j : Fin 1024), y = ix2 z j := ⟨y 0, y 1, by ext a; fin_cases a <;> rfl⟩
  have h1 : t.val < 16 := lt_of_lt_of_eq t.isLt N_0
  rw [gain_out]
  refine congrArg (fun u : EReal => a (ix2 z j) + u) (Finset.sum_congr rfl fun k _ => ?_)
  rw [prod_pt m c t k j ⟨t.val * 512 + k.val, by omega⟩ rfl, norm_pt m c t k j ⟨t.val * 512 + k.val, by omega⟩ rfl]
  rfl

/-- The running sum after the first point. -/
theorem point_A (t : Fin cfg0.N) (h0 : t.val % 16 = 0) (y : S1x1024.Idx) :
    (outsAt0 m c t.val t.isLt).2.2.2 y = (0 : EReal) + gpart m c t y := by
  rw [outsAt0_A m c t h0]
  frame_out
  exact (step m c t _ y).trans (congrArg (fun u : EReal => u + gpart m c t y) (zero_at y))

/-- The running sum after a later point. -/
theorem point_B (t : Fin cfg0.N) (h0 : ¬ t.val % 16 = 0) (y : S1x1024.Idx) :
    (outsAt0 m c t.val t.isLt).2.2.2 y
      = ((outsAt0 m c (t.val - 1) (Nat.lt_of_le_of_lt (Nat.sub_le _ _) t.isLt)).2.2.2 y : EReal) + gpart m c t y := by
  rw [outsAt0_B m c t h0]
  frame_out
  exact step m c t _ y

/-- The points' parts together are the sum over all rows. -/
theorem sum_parts (z : Fin 1) (j : Fin 1024) (p : Fin 16 → Fin cfg0.N) (hp : ∀ s, (p s).val = s.val) :
    ∑ s : Fin 16, gpart m c (p s) (ix2 z j)
      = Reference31Ideal.Read.val_main_v54 (F := Ideal) (m (c, main_arg0)) (m (c, main_arg1)) (m (c, main_arg2)) (m (c, main_arg3)) (m (c, main_arg5)) (ix2 z j) := by
  rw [ref_gain]
  refine (Cert.Kernel4Ideal.Prod.sum_rows (fun r => term m c r j) (fun s => (p s).val) hp).trans (Finset.sum_congr rfl fun r _ => ?_)
  rw [ref_root, ref_prod_eq]
  exact mul_comm _ _

/-- What the last point leaves of the fourth result is the reference's. -/
theorem tile9 (t : Fin cfg0.N) (hm : t.val % 16 = 15) (y z : S1x1024.Idx) (e1 : (z 1).val = (y 1).val) : (outsAt0 m c t.val t.isLt).2.2.2 y
      = Reference31Ideal.Read.val_main_v54 (F := Ideal) (m (c, main_arg0)) (m (c, main_arg1)) (m (c, main_arg2)) (m (c, main_arg3)) (m (c, main_arg5)) z := by
  have ht : t.val < 16 := lt_of_lt_of_eq t.isLt N_0
  obtain ⟨a, j, rfl⟩ : ∃ (a : Fin 1) (j : Fin 1024), y = ix2 a j := ⟨y 0, y 1, by ext a; fin_cases a <;> rfl⟩
  obtain ⟨b, s, rfl⟩ : ∃ (b : Fin 1) (s : Fin 1024), z = ix2 b s := ⟨z 0, z 1, by ext a; fin_cases a <;> rfl⟩
  obtain rfl : s = j := Fin.ext e1
  obtain rfl : b = a := Subsingleton.elim _ _
  rw [Pipeline.eq_sum_fin_of_reset_step_apply_of_flush (M := EReal) (fun n h => (outsAt0 m c n h).2.2.2) 16 (fun _ => 0)
    (fun t y => gpart m c t y) (fun t h y => point_A m c t h y) (fun t h y => point_B m c t h y) t hm _, zero_add]
  exact sum_parts m c b s _ (fun s => by show 16 * (t.val / 16) + s.val = s.val; omega)

/-- The embedding's gradient after the last point. -/
theorem final_emb : (dats m 0 c).arrAt 6 (cfgs 0).N
    = Reference31Ideal.Read.val_main_v51 (F := Ideal) (m (c, main_arg0)) (m (c, main_arg1)) := by
  refine (dats m 0 c).arrAt_eq_of_covers 6 _ (by decide +kernel) fun t hf y => ?_
  blk_simp
  rw [after0_6]
  exact tile6 m c t y _ (by blk_simp [idx t]) (by blk_simp [idx t])

/-- The pre-activations' gradient after the last point. -/
theorem final_gate : (dats m 0 c).arrAt 7 (cfgs 0).N
    = Reference31Ideal.Read.val_main_v52 (F := Ideal) (m (c, main_arg0)) (m (c, main_arg1)) (m (c, main_arg2)) := by
  refine (dats m 0 c).arrAt_eq_of_covers 7 _ (by decide +kernel) fun t hf y => ?_
  blk_simp
  rw [after0_7]
  exact tile7 m c t y _ (by blk_simp [idx t]) (by blk_simp [idx t])

/-- The rows' gradient after the last point. -/
theorem final_rows : (dats m 0 c).arrAt 8 (cfgs 0).N
    = Reference31Ideal.Read.val_main_v53 (F := Ideal) (m (c, main_arg0)) (m (c, main_arg1)) (m (c, main_arg2)) (m (c, main_arg3)) (m (c, main_arg4))
      (m (c, main_arg5)) := by
  refine (dats m 0 c).arrAt_eq_of_covers 8 _ (by decide +kernel) fun t hf y => ?_
  blk_simp
  rw [after0_8]
  exact tile8 m c t y _ (by blk_simp [idx t]) (by blk_simp [idx t])

/-- The gain's gradient after the last point. -/
theorem final_gain : (dats m 0 c).arrAt 9 (cfgs 0).N
    = Reference31Ideal.Read.val_main_v54 (F := Ideal) (m (c, main_arg0)) (m (c, main_arg1)) (m (c, main_arg2)) (m (c, main_arg3)) (m (c, main_arg5)) := by
  refine (dats m 0 c).arrAt_eq_of_covers 9 _ (by decide +kernel) fun t hf y => ?_
  blk_simp
  rw [after0_9]
  exact tile9 m c t ((flush0_9 t).mp hf) y _ (by blk_simp [idx t])

end Cert.Kernel31Ideal.Prod
end
-- ==== Proof.Norm.lean ====
module
public import proofs.«01_k».proof.Proof.InBack

@[expose] public section
noncomputable section

/-! The norm of a row, as the forward calls and reference.py's lines both take it. -/

namespace Cert.Norm
open Idealize Idealize.ShloMosaic
open Cert.Kernel4Ideal.Prod (mean)

/-- A row divided by the root of its mean of squares, times the gain. -/
def normed (x g : Fin 1024 → EReal) (j : Fin 1024) : EReal := x j * Ideal.rsqrt (mean x) * g j

/-- Equal rows and gains have equal norms. -/
theorem normed_congr {x x' g g' : Fin 1024 → EReal} (hx : ∀ k, x k = x' k) (hg : ∀ k, g k = g' k) (j : Fin 1024) :
    normed x g j = normed x' g' j := by
  rw [funext hx, funext hg]

end Cert.Norm
end
-- ==== Proof.MixOut.lean ====
module
public import Idealize.ShloMosaic.Lib.Pipeline.ValueKit
public import Idealize.ShloMosaic.Lib.StableHlo.RunRead
public import proofs.«01_k».proof.Proof.Gen.Kernel32Ideal.Value
public import proofs.«01_k».proof.Proof.Gen.Reference32Ideal.Read
public import proofs.«01_k».proof.Proof.Norm

@[expose] public section
set_option maxRecDepth 16384
noncomputable section

/-! The forward product of the mixer's output weights with the residual, and the norm after it, block by block. -/

namespace Cert.Kernel32Ideal.Prod
open Idealize Idealize.ShloMosaic Idealize.ShloMosaic.TcCoe Idealize.SL.Sem Cert.Kernel32Ideal Cert.Kernel32Ideal.Gen
open Cert.Kernel4Ideal.Prod (mean)
open Cert.Norm

variable (m : (ℓ : Loc nD τ sig) → Buf (Elt Ideal) ℓ) (c : Dev nD)

/-- The blocks that the windows stage at a point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The gain as the host hands it over. -/
def gain : FVec Ideal S1x1024 .f32 := shapeCast S1x1024 (m (c, main_arg3) : FVec Ideal S1024 .f32) shapeCasts_S1024_S1x1024

/-- The host hands the branches over as they are. -/
theorem merged_eq : (V m c main_v0 : S8192x1024.Idx → EReal) = m (c, main_arg0) := by
  unfold V
  after_reads_simp
  try rfl

/-- The host hands the weights over as they are. -/
theorem cols_eq : (V m c main_v1 : S1024x1024.Idx → EReal) = m (c, main_arg1) := by
  unfold V
  after_reads_simp
  try rfl

/-- What the host hands over is `gain`. -/
theorem gain_eq : V m c main_v2 = gain m c := by
  unfold V
  after_reads_simp
  try rfl

/-- The residual is handed over as it is. -/
theorem rows_eq : V m c main_arg2 = m (c, main_arg2) := by
  unfold V
  after_reads_simp
  try rfl

/-- The gain of a column. -/
def gn (j : Fin 1024) : EReal := (m (c, main_arg3) : FVec Ideal S1024 .f32) (ix1 j)

/-- The merged branches. -/
def merged (r : Fin 8192) (j : Fin 1024) : EReal := (m (c, main_arg0) : FVec Ideal S8192x1024 .f32) (ix2 r j)

/-- The weight. -/
def wt (k j : Fin 1024) : EReal := (m (c, main_arg1) : FVec Ideal S1024x1024 .f32) (ix2 k j)

/-- The residual. -/
def res (r : Fin 8192) (j : Fin 1024) : EReal := (m (c, main_arg2) : FVec Ideal S8192x1024 .f32) (ix2 r j)

/-- A row after the product is added to the residual. -/
def sumrow (r : Fin 8192) (j : Fin 1024) : EReal := res m c r j + ∑ k : Fin 1024, merged m c r k * wt m c k j

/-- A block of the branches, read from the argument. -/
theorem merged_at (t : Fin cfg0.N) (i : Fin 512) (k : Fin 1024) (r : Fin 8192) (hr : r.val = t.val * 512 + i) :
    iblk m c 0 t (ix2 i k) = merged m c r k := by
  refine Eq.trans ?_ (congrFun (merged_eq m c) _)
  blk_ext [iblk, idx t]

/-- The weights, read from the argument. -/
theorem cols_at (t : Fin cfg0.N) (k j : Fin 1024) :
    iblk m c 1 t (ix2 k j) = wt m c k j := by
  refine Eq.trans ?_ (congrFun (cols_eq m c) _)
  blk_ext [iblk, idx t]

/-- A block of the residual, read from the argument. -/
theorem rows_at (t : Fin cfg0.N) (i : Fin 512) (j : Fin 1024) (r : Fin 8192) (hr : r.val = t.val * 512 + i) :
    iblk m c 2 t (ix2 i j) = res m c r j := by
  refine Eq.trans ?_ (congrFun (rows_eq m c) _)
  blk_ext [iblk, idx t]

/-- The gain, read from the argument. -/
theorem gain_at (t : Fin cfg0.N) (z : Fin 1) (j : Fin 1024) : iblk m c 3 t (ix2 z j) = gn m c j := by
  have e : iblk m c 3 t (ix2 z j) = (V m c main_v2 : FVec Ideal S1x1024 .f32) (ix2 z j) := by
    blk_ext [iblk, idx t]
  rw [e, gain_eq]
  delta gain gn
  pointwise []

/-- What a point stores first: the residual and the product. -/
theorem sum_at (x : FVec Ideal S512x1024 .f32) (a : FVec Ideal S512x1024 .bf16) (w : FVec Ideal S1024x1024 .bf16) (i : Fin 512) (j : Fin 1024) :
    k0_pay1 (F := Ideal) x a w (ix2 i j) = x (ix2 i j) + ∑ k : Fin 1024, a (ix2 i k) * w (ix2 k j) := by
  delta k0_pay1
  pointwise []

/-- What a point stores second: the norm of these rows. -/
theorem norm_at (x : FVec Ideal S512x1024 .f32) (a : FVec Ideal S512x1024 .bf16) (w : FVec Ideal S1024x1024 .bf16) (g : FVec Ideal S1x1024 .f32)
    (i : Fin 512) (j : Fin 1024) :
    k0_pay2 (F := Ideal) x a w g (ix2 i j) = normed (fun k => k0_pay1 (F := Ideal) x a w (ix2 i k)) (fun k => g (ix2 0 k)) j := by
  delta k0_pay2 normed mean
  generalize k0_pay1 (F := Ideal) x a w = p
  pointwise []

/-- The reference's first result. -/
theorem ref_sum (a : FVec Ideal S8192x1024 .f32) (w : FVec Ideal S1024x1024 .f32) (x : FVec Ideal S8192x1024 .f32) (r : Fin 8192) (j : Fin 1024) :
    Reference32Ideal.Read.val_main_v1 (F := Ideal) a w x (ix2 r j) = x (ix2 r j) + ∑ k : Fin 1024, a (ix2 r k) * w (ix2 k j) := by
  delta Reference32Ideal.Read.val_main_v1 Reference32Ideal.Read.val_main_v0
  pointwise []

/-- The reference's second result. -/
theorem ref_norm (a : FVec Ideal S8192x1024 .f32) (w : FVec Ideal S1024x1024 .f32) (x : FVec Ideal S8192x1024 .f32) (g : FVec Ideal S1024 .f32)
    (r : Fin 8192) (j : Fin 1024) :
    Reference32Ideal.Read.val_main_v15 (F := Ideal) a w x g (ix2 r j)
      = normed (fun k => Reference32Ideal.Read.val_main_v1 (F := Ideal) a w x (ix2 r k)) (fun k => g (ix1 k)) j := by
  delta Reference32Ideal.Read.val_main_v15 Reference32Ideal.Read.val_main_v14 Reference32Ideal.Read.val_main_v13 Reference32Ideal.Read.val_main_v12
    Reference32Ideal.Read.val_main_v11 Reference32Ideal.Read.val_main_v10 Reference32Ideal.Read.val_main_v9 Reference32Ideal.Read.val_main_v8
    Reference32Ideal.Read.val_main_v7 Reference32Ideal.Read.val_main_v6 Reference32Ideal.Read.val_main_v5 Reference32Ideal.Read.val_main_v4
    Reference32Ideal.Read.val_main_v3 Reference32Ideal.Read.val_main_v2 Reference32Ideal.Read.val_main_cst Reference32Ideal.Read.val_main_cst_0
    Reference32Ideal.Read.val_main_cst_1 normed mean
  generalize Reference32Ideal.Read.val_main_v1 (F := Ideal) a w x = p
  pointwise []

/-- A point's sum of residual and product. -/
theorem sum_pt (t : Fin cfg0.N) (i : Fin 512) (j : Fin 1024) (r : Fin 8192) (hr : r.val = t.val * 512 + i) :
    k0_pay1 (F := Ideal) (iblk m c 2 t) (iblk m c 0 t) (iblk m c 1 t) (ix2 i j) = sumrow m c r j := by
  refine (sum_at _ _ _ i j).trans (congrArg₂ (fun u v : EReal => u + v) (rows_at m c t i j r hr) ?_)
  exact Finset.sum_congr rfl fun k _ => congrArg₂ (fun u v : EReal => u * v) (merged_at m c t i k r hr) (cols_at m c t k j)

/-- A point's first tile is the reference's. -/
theorem tile4 (t : Fin cfg0.N) (y : S512x1024.Idx) (z : S8192x1024.Idx) (e0 : (z 0).val = t.val * 512 + (y 0).val) (e1 : (z 1).val = (y 1).val) :
    out0_4 (iblk m c 0 t) (iblk m c 1 t) (iblk m c 2 t) (iblk m c 3 t) y
      = Reference32Ideal.Read.val_main_v1 (F := Ideal) (m (c, main_arg0)) (m (c, main_arg1)) (m (c, main_arg2)) z := by
  obtain ⟨i, j, rfl⟩ : ∃ (i : Fin 512) (j : Fin 1024), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_4
  rw [View.canon_cons_unit_zero (by decide), View.ld_unit_zero (by decide), View.ld_unit_zero (by decide), View.ld_unit_zero (by decide)]
  exact (sum_pt m c t i j r e0).trans (ref_sum _ _ _ r j).symm

/-- A point's second tile is the reference's. -/
theorem tile5 (t : Fin cfg0.N) (y : S512x1024.Idx) (z : S8192x1024.Idx) (e0 : (z 0).val = t.val * 512 + (y 0).val) (e1 : (z 1).val = (y 1).val) :
    out0_5 (iblk m c 0 t) (iblk m c 1 t) (iblk m c 2 t) (iblk m c 3 t) y
      = Reference32Ideal.Read.val_main_v15 (F := Ideal) (m (c, main_arg0)) (m (c, main_arg1)) (m (c, main_arg2)) (m (c, main_arg3)) z := by
  obtain ⟨i, j, rfl⟩ : ∃ (i : Fin 512) (j : Fin 1024), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_5
  rw [View.canon_cons_unit_zero (by decide), View.ld_unit_zero (by decide), View.ld_unit_zero (by decide), View.ld_unit_zero (by decide), View.ld_unit_zero (by decide)]
  refine (norm_at _ _ _ _ i j).trans (Eq.trans ?_ (ref_norm _ _ _ _ r j).symm)
  exact normed_congr (fun k => (sum_pt m c t i k r e0).trans (ref_sum _ _ _ r k).symm) (fun k => gain_at m c t 0 k) j

/-- The rows after the last point. -/
theorem final_rows : (dats m 0 c).arrAt 4 (cfgs 0).N
    = Reference32Ideal.Read.val_main_v1 (F := Ideal) (m (c, main_arg0)) (m (c, main_arg1)) (m (c, main_arg2)) := by
  refine (dats m 0 c).arrAt_eq_of_covers 4 _ (by decide +kernel) fun t hf y => ?_
  blk_simp
  rw [after0_4]
  exact tile4 m c t y _ (by blk_simp [idx t]) (by blk_simp [idx t])

/-- The normalised rows after the last point. -/
theorem final_norm : (dats m 0 c).arrAt 5 (cfgs 0).N
    = Reference32Ideal.Read.val_main_v15 (F := Ideal) (m (c, main_arg0)) (m (c, main_arg1)) (m (c, main_arg2)) (m (c, main_arg3)) := by
  refine (dats m 0 c).arrAt_eq_of_covers 5 _ (by decide +kernel) fun t hf y => ?_
  blk_simp
  rw [after0_5]
  exact tile5 m c t y _ (by blk_simp [idx t]) (by blk_simp [idx t])

end Cert.Kernel32Ideal.Prod
end
-- ==== Proof.Ple.lean ====
module
public import Idealize.ShloMosaic.Lib.Pipeline.ValueKit
public import Idealize.ShloMosaic.Lib.StableHlo.RunRead
public import proofs.«01_k».proof.Proof.Gen.Kernel33Ideal.Value
public import proofs.«01_k».proof.Proof.Gen.Reference33Ideal.Read
public import proofs.«01_k».proof.Proof.Norm

@[expose] public section
set_option maxRecDepth 16384
noncomputable section

/-! The per-layer embedding: the norm, the gate's product, the embedding's product and the gated sum, block by block. -/

namespace Cert.Kernel33Ideal.Prod
open Idealize Idealize.ShloMosaic Idealize.ShloMosaic.TcCoe Idealize.SL.Sem Cert.Kernel33Ideal Cert.Kernel33Ideal.Gen
open Cert.Kernel4Ideal.Prod (mean)
open Cert.Norm

variable (m : (ℓ : Loc nD τ sig) → Buf (Elt Ideal) ℓ) (c : Dev nD)

/-- The blocks that the windows stage at a point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The gain as the host hands it over. -/
def gain : FVec Ideal S1x1024 .f32 := shapeCast S1x1024 (m (c, main_arg2) : FVec Ideal S1024 .f32) shapeCasts_S1024_S1x1024

/-- What the host hands over is `gain`. -/
theorem gain_eq : V m c main_v0 = gain m c := by
  unfold V
  after_reads_simp
  try rfl

/-- The rows are handed over as they are. -/
theorem rows_eq : (V m c main_arg0 : S8192x1024.Idx → EReal) = m (c, main_arg0) := by
  unfold V
  after_reads_simp
  try rfl

/-- The layer's own inputs are handed over as they are. -/
theorem given_eq : (V m c main_arg1 : S8192x256.Idx → EReal) = m (c, main_arg1) := by
  unfold V
  after_reads_simp
  try rfl

/-- The host hands the embedding's weights over as they are. -/
theorem into_eq : (V m c main_v1 : S256x1024.Idx → EReal) = m (c, main_arg3) := by
  unfold V
  after_reads_simp
  try rfl

/-- The host hands the gate's weights over as they are. -/
theorem cols_eq : (V m c main_v2 : S1024x1024.Idx → EReal) = m (c, main_arg4) := by
  unfold V
  after_reads_simp
  try rfl

/-- The row's element. -/
def row (r : Fin 8192) (j : Fin 1024) : EReal := (m (c, main_arg0) : FVec Ideal S8192x1024 .f32) (ix2 r j)

/-- The layer's own input. -/
def inp (r : Fin 8192) (j : Fin 256) : EReal := (m (c, main_arg1) : FVec Ideal S8192x256 .f32) (ix2 r j)

/-- The gain of a column. -/
def gn (j : Fin 1024) : EReal := (m (c, main_arg2) : FVec Ideal S1024 .f32) (ix1 j)

/-- The embedding's weight. -/
def wi (k : Fin 256) (j : Fin 1024) : EReal := (m (c, main_arg3) : FVec Ideal S256x1024 .f32) (ix2 k j)

/-- The gate's weight. -/
def wg (k j : Fin 1024) : EReal := (m (c, main_arg4) : FVec Ideal S1024x1024 .f32) (ix2 k j)

/-- A block of the rows, read from the argument. -/
theorem rows_at (t : Fin cfg0.N) (i : Fin 512) (j : Fin 1024) (r : Fin 8192) (hr : r.val = t.val * 512 + i) :
    iblk m c 0 t (ix2 i j) = row m c r j := by
  refine Eq.trans ?_ (congrFun (rows_eq m c) _)
  blk_ext [iblk, idx t]

/-- A block of the layer's own inputs, read from the argument. -/
theorem given_at (t : Fin cfg0.N) (i : Fin 512) (j : Fin 256) (r : Fin 8192) (hr : r.val = t.val * 512 + i) :
    iblk m c 1 t (ix2 i j) = inp m c r j := by
  refine Eq.trans ?_ (congrFun (given_eq m c) _)
  blk_ext [iblk, idx t]

/-- The gain, read from the argument. -/
theorem gain_at (t : Fin cfg0.N) (z : Fin 1) (j : Fin 1024) : iblk m c 2 t (ix2 z j) = gn m c j := by
  have e : iblk m c 2 t (ix2 z j) = (V m c main_v0 : FVec Ideal S1x1024 .f32) (ix2 z j) := by
    blk_ext [iblk, idx t]
  rw [e, gain_eq]
  delta gain gn
  pointwise []

/-- The embedding's weights, read from the argument. -/
theorem into_at (t : Fin cfg0.N) (k : Fin 256) (j : Fin 1024) : iblk m c 3 t (ix2 k j) = wi m c k j := by
  refine Eq.trans ?_ (congrFun (into_eq m c) _)
  blk_ext [iblk, idx t]

/-- The gate's weights, read from the argument. -/
theorem cols_at (t : Fin cfg0.N) (k j : Fin 1024) : iblk m c 4 t (ix2 k j) = wg m c k j := by
  refine Eq.trans ?_ (congrFun (cols_eq m c) _)
  blk_ext [iblk, idx t]

/-- The embedding at a point. -/
theorem emb_at (p : FVec Ideal S512x256 .f32) (w : FVec Ideal S256x1024 .bf16) (i : Fin 512) (j : Fin 1024) :
    k0_pay1 (F := Ideal) p w (ix2 i j) = ∑ k : Fin 256, p (ix2 i k) * w (ix2 k j) := by
  delta k0_pay1
  pointwise []

/-- The norm at a point. -/
theorem norm_at (x : FVec Ideal S512x1024 .f32) (g : FVec Ideal S1x1024 .f32) (i : Fin 512) (j : Fin 1024) :
    k0_pay2 (F := Ideal) x g (ix2 i j) = normed (fun k => x (ix2 i k)) (fun k => g (ix2 0 k)) j := by
  delta k0_pay2 normed mean
  pointwise []

/-- The gate's pre-activations at a point. -/
theorem gate_at (x : FVec Ideal S512x1024 .f32) (g : FVec Ideal S1x1024 .f32) (w : FVec Ideal S1024x1024 .bf16) (i : Fin 512) (j : Fin 1024) :
    k0_pay3 (F := Ideal) x g w (ix2 i j) = ∑ k : Fin 1024, k0_pay2 (F := Ideal) x g (ix2 i k) * w (ix2 k j) := by
  delta k0_pay3
  generalize k0_pay2 (F := Ideal) x g = h
  pointwise []

/-- The gated sum at a point. -/
theorem out_at (x : FVec Ideal S512x1024 .f32) (p : FVec Ideal S512x256 .f32) (u : FVec Ideal S256x1024 .bf16) (g : FVec Ideal S1x1024 .f32)
    (w : FVec Ideal S1024x1024 .bf16) (i : Fin 512) (j : Fin 1024) :
    k0_pay4 (F := Ideal) x p u g w (ix2 i j)
      = x (ix2 i j) + Ideal.logistic (k0_pay3 (F := Ideal) x g w (ix2 i j)) * k0_pay1 (F := Ideal) p u (ix2 i j) := by
  delta k0_pay4
  generalize k0_pay3 (F := Ideal) x g w = s
  generalize k0_pay1 (F := Ideal) p u = e
  pointwise []
  try rfl

/-- The embedding. -/
def emb (r : Fin 8192) (j : Fin 1024) : EReal := ∑ k : Fin 256, inp m c r k * wi m c k j

/-- The gate's pre-activation. -/
def gate (r : Fin 8192) (j : Fin 1024) : EReal := ∑ k : Fin 1024, normed (row m c r) (gn m c) k * wg m c k j

/-- A point's embedding. -/
theorem emb_pt (t : Fin cfg0.N) (i : Fin 512) (j : Fin 1024) (r : Fin 8192) (hr : r.val = t.val * 512 + i) :
    k0_pay1 (F := Ideal) (iblk m c 1 t) (iblk m c 3 t) (ix2 i j) = emb m c r j :=
  (emb_at _ _ i j).trans (Finset.sum_congr rfl fun k _ => congrArg₂ (fun u v : EReal => u * v) (given_at m c t i k r hr) (into_at m c t k j))

/-- A point's norm. -/
theorem norm_pt (t : Fin cfg0.N) (i : Fin 512) (j : Fin 1024) (r : Fin 8192) (hr : r.val = t.val * 512 + i) :
    k0_pay2 (F := Ideal) (iblk m c 0 t) (iblk m c 2 t) (ix2 i j) = normed (row m c r) (gn m c) j :=
  (norm_at _ _ i j).trans (normed_congr (fun k => rows_at m c t i k r hr) (fun k => gain_at m c t 0 k) j)

/-- A point's pre-activation. -/
theorem gate_pt (t : Fin cfg0.N) (i : Fin 512) (j : Fin 1024) (r : Fin 8192) (hr : r.val = t.val * 512 + i) :
    k0_pay3 (F := Ideal) (iblk m c 0 t) (iblk m c 2 t) (iblk m c 4 t) (ix2 i j) = gate m c r j :=
  (gate_at _ _ _ i j).trans (Finset.sum_congr rfl fun k _ => congrArg₂ (fun u v : EReal => u * v) (norm_pt m c t i k r hr) (cols_at m c t k j))

/-- A point's gated sum. -/
theorem out_pt (t : Fin cfg0.N) (i : Fin 512) (j : Fin 1024) (r : Fin 8192) (hr : r.val = t.val * 512 + i) :
    k0_pay4 (F := Ideal) (iblk m c 0 t) (iblk m c 1 t) (iblk m c 3 t) (iblk m c 2 t) (iblk m c 4 t) (ix2 i j)
      = row m c r j + Ideal.logistic (gate m c r j) * emb m c r j := by
  rw [out_at, gate_pt m c t i j r hr, emb_pt m c t i j r hr, rows_at m c t i j r hr]

/-- The reference's embedding. -/
theorem ref_emb (r : Fin 8192) (j : Fin 1024) :
    Reference33Ideal.Read.val_main_v0 (F := Ideal) (m (c, main_arg1)) (m (c, main_arg3)) (ix2 r j) = emb m c r j := by
  delta Reference33Ideal.Read.val_main_v0 emb inp wi
  pointwise []

/-- The reference's norm. -/
theorem ref_norm (r : Fin 8192) (j : Fin 1024) :
    Reference33Ideal.Read.val_main_v13 (F := Ideal) (m (c, main_arg0)) (m (c, main_arg2)) (ix2 r j) = normed (row m c r) (gn m c) j := by
  delta Reference33Ideal.Read.val_main_v13 Reference33Ideal.Read.val_main_v12 Reference33Ideal.Read.val_main_v11 Reference33Ideal.Read.val_main_v10 Reference33Ideal.Read.val_main_v9 Reference33Ideal.Read.val_main_v8 Reference33Ideal.Read.val_main_v7 Reference33Ideal.Read.val_main_v6 Reference33Ideal.Read.val_main_v5 Reference33Ideal.Read.val_main_v4 Reference33Ideal.Read.val_main_v3 Reference33Ideal.Read.val_main_v2 Reference33Ideal.Read.val_main_v1 Reference33Ideal.Read.val_main_cst Reference33Ideal.Read.val_main_cst_0 Reference33Ideal.Read.val_main_cst_1 normed mean row gn
  pointwise []

/-- The reference's pre-activation. -/
theorem ref_gate (r : Fin 8192) (j : Fin 1024) :
    Reference33Ideal.Read.val_main_v14 (F := Ideal) (m (c, main_arg0)) (m (c, main_arg2)) (m (c, main_arg4)) (ix2 r j) = gate m c r j := by
  delta gate wg
  simp only [← ref_norm]
  delta Reference33Ideal.Read.val_main_v14
  generalize Reference33Ideal.Read.val_main_v13 (F := Ideal) (m (c, main_arg0)) (m (c, main_arg2)) = h
  pointwise []

/-- The reference's gated sum. -/
theorem ref_out (r : Fin 8192) (j : Fin 1024) :
    Reference33Ideal.Read.val_main_v22 (F := Ideal) (m (c, main_arg0)) (m (c, main_arg1)) (m (c, main_arg2)) (m (c, main_arg3)) (m (c, main_arg4)) (ix2 r j)
      = row m c r j + Ideal.logistic (gate m c r j) * emb m c r j := by
  rw [← ref_gate, ← ref_emb]
  delta Reference33Ideal.Read.val_main_v22 Reference33Ideal.Read.val_main_v21 Reference33Ideal.Read.val_main_v20 Reference33Ideal.Read.val_main_v19 Reference33Ideal.Read.val_main_v18 Reference33Ideal.Read.val_main_v17 Reference33Ideal.Read.val_main_v16 Reference33Ideal.Read.val_main_v15 Reference33Ideal.Read.val_main_cst_2 Reference33Ideal.Read.val_main_cst_3 row
  generalize Reference33Ideal.Read.val_main_v14 (F := Ideal) (m (c, main_arg0)) (m (c, main_arg2)) (m (c, main_arg4)) = s
  generalize Reference33Ideal.Read.val_main_v0 (F := Ideal) (m (c, main_arg1)) (m (c, main_arg3)) = e
  pointwise []
  try rfl

/-- The reference's second result, which is rounded. -/
theorem ref_gate_cast (x : FVec Ideal S8192x1024 .f32) (g : FVec Ideal S1024 .f32) (w : FVec Ideal S1024x1024 .f32) (r : Fin 8192) (j : Fin 1024) :
    Reference33Ideal.Read.val_main_v23 (F := Ideal) x g w (ix2 r j) = Reference33Ideal.Read.val_main_v14 (F := Ideal) x g w (ix2 r j) := by
  delta Reference33Ideal.Read.val_main_v23
  generalize Reference33Ideal.Read.val_main_v14 (F := Ideal) x g w = s
  pointwise []

/-- The reference's third result, which is rounded. -/
theorem ref_norm_cast (x : FVec Ideal S8192x1024 .f32) (g : FVec Ideal S1024 .f32) (r : Fin 8192) (j : Fin 1024) :
    Reference33Ideal.Read.val_main_v24 (F := Ideal) x g (ix2 r j) = Reference33Ideal.Read.val_main_v13 (F := Ideal) x g (ix2 r j) := by
  delta Reference33Ideal.Read.val_main_v24
  generalize Reference33Ideal.Read.val_main_v13 (F := Ideal) x g = s
  pointwise []

/-- The reference's fourth result, which is rounded. -/
theorem ref_emb_cast (p : FVec Ideal S8192x256 .f32) (w : FVec Ideal S256x1024 .f32) (r : Fin 8192) (j : Fin 1024) :
    Reference33Ideal.Read.val_main_v25 (F := Ideal) p w (ix2 r j) = Reference33Ideal.Read.val_main_v0 (F := Ideal) p w (ix2 r j) := by
  delta Reference33Ideal.Read.val_main_v25
  generalize Reference33Ideal.Read.val_main_v0 (F := Ideal) p w = s
  pointwise []

/-- A point's first tile is the reference's. -/
theorem tile5 (t : Fin cfg0.N) (y : S512x1024.Idx) (z : S8192x1024.Idx) (e0 : (z 0).val = t.val * 512 + (y 0).val) (e1 : (z 1).val = (y 1).val) :
    out0_5 (iblk m c 0 t) (iblk m c 1 t) (iblk m c 2 t) (iblk m c 3 t) (iblk m c 4 t) y
      = Reference33Ideal.Read.val_main_v22 (F := Ideal) (m (c, main_arg0)) (m (c, main_arg1)) (m (c, main_arg2)) (m (c, main_arg3)) (m (c, main_arg4)) z := by
  obtain ⟨i, j, rfl⟩ : ∃ (i : Fin 512) (j : Fin 1024), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_5
  rw [View.canon_cons_unit_zero (by decide), View.ld_unit_zero (by decide), View.ld_unit_zero (by decide), View.ld_unit_zero (by decide), View.ld_unit_zero (by decide), View.ld_unit_zero (by decide)]
  exact (out_pt m c t i j r e0).trans (ref_out m c r j).symm

/-- A point's second tile is the reference's. -/
theorem tile6 (t : Fin cfg0.N) (y : S512x1024.Idx) (z : S8192x1024.Idx) (e0 : (z 0).val = t.val * 512 + (y 0).val) (e1 : (z 1).val = (y 1).val) :
    out0_6 (iblk m c 0 t) (iblk m c 1 t) (iblk m c 2 t) (iblk m c 3 t) (iblk m c 4 t) y
      = Reference33Ideal.Read.val_main_v23 (F := Ideal) (m (c, main_arg0)) (m (c, main_arg2)) (m (c, main_arg4)) z := by
  obtain ⟨i, j, rfl⟩ : ∃ (i : Fin 512) (j : Fin 1024), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_6
  rw [View.canon_cons_unit_zero (by decide), View.ld_unit_zero (by decide), View.ld_unit_zero (by decide), View.ld_unit_zero (by decide)]
  exact (gate_pt m c t i j r e0).trans ((ref_gate_cast _ _ _ r j).trans (ref_gate m c r j)).symm

/-- A point's third tile is the reference's. -/
theorem tile7 (t : Fin cfg0.N) (y : S512x1024.Idx) (z : S8192x1024.Idx) (e0 : (z 0).val = t.val * 512 + (y 0).val) (e1 : (z 1).val = (y 1).val) :
    out0_7 (iblk m c 0 t) (iblk m c 1 t) (iblk m c 2 t) (iblk m c 3 t) (iblk m c 4 t) y
      = Reference33Ideal.Read.val_main_v24 (F := Ideal) (m (c, main_arg0)) (m (c, main_arg2)) z := by
  obtain ⟨i, j, rfl⟩ : ∃ (i : Fin 512) (j : Fin 1024), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_7
  rw [View.canon_cons_unit_zero (by decide), View.ld_unit_zero (by decide), View.ld_unit_zero (by decide)]
  exact (norm_pt m c t i j r e0).trans ((ref_norm_cast _ _ r j).trans (ref_norm m c r j)).symm

/-- A point's fourth tile is the reference's. -/
theorem tile8 (t : Fin cfg0.N) (y : S512x1024.Idx) (z : S8192x1024.Idx) (e0 : (z 0).val = t.val * 512 + (y 0).val) (e1 : (z 1).val = (y 1).val) :
    out0_8 (iblk m c 0 t) (iblk m c 1 t) (iblk m c 2 t) (iblk m c 3 t) (iblk m c 4 t) y
      = Reference33Ideal.Read.val_main_v25 (F := Ideal) (m (c, main_arg1)) (m (c, main_arg3)) z := by
  obtain ⟨i, j, rfl⟩ : ∃ (i : Fin 512) (j : Fin 1024), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_8
  rw [View.canon_cons_unit_zero (by decide), View.ld_unit_zero (by decide), View.ld_unit_zero (by decide)]
  exact (emb_pt m c t i j r e0).trans ((ref_emb_cast _ _ r j).trans (ref_emb m c r j)).symm

/-- The gated sum after the last point. -/
theorem final_rows : (dats m 0 c).arrAt 5 (cfgs 0).N
    = Reference33Ideal.Read.val_main_v22 (F := Ideal) (m (c, main_arg0)) (m (c, main_arg1)) (m (c, main_arg2)) (m (c, main_arg3)) (m (c, main_arg4)) := by
  refine (dats m 0 c).arrAt_eq_of_covers 5 _ (by decide +kernel) fun t hf y => ?_
  blk_simp
  rw [after0_5]
  exact tile5 m c t y _ (by blk_simp [idx t]) (by blk_simp [idx t])

/-- The pre-activations after the last point. -/
theorem final_gate : (dats m 0 c).arrAt 6 (cfgs 0).N
    = Reference33Ideal.Read.val_main_v23 (F := Ideal) (m (c, main_arg0)) (m (c, main_arg2)) (m (c, main_arg4)) := by
  refine (dats m 0 c).arrAt_eq_of_covers 6 _ (by decide +kernel) fun t hf y => ?_
  blk_simp
  rw [after0_6]
  exact tile6 m c t y _ (by blk_simp [idx t]) (by blk_simp [idx t])

/-- The normalised rows after the last point. -/
theorem final_norm : (dats m 0 c).arrAt 7 (cfgs 0).N
    = Reference33Ideal.Read.val_main_v24 (F := Ideal) (m (c, main_arg0)) (m (c, main_arg2)) := by
  refine (dats m 0 c).arrAt_eq_of_covers 7 _ (by decide +kernel) fun t hf y => ?_
  blk_simp
  rw [after0_7]
  exact tile7 m c t y _ (by blk_simp [idx t]) (by blk_simp [idx t])

/-- The embedding after the last point. -/
theorem final_emb : (dats m 0 c).arrAt 8 (cfgs 0).N
    = Reference33Ideal.Read.val_main_v25 (F := Ideal) (m (c, main_arg1)) (m (c, main_arg3)) := by
  refine (dats m 0 c).arrAt_eq_of_covers 8 _ (by decide +kernel) fun t hf y => ?_
  blk_simp
  rw [after0_8]
  exact tile8 m c t y _ (by blk_simp [idx t]) (by blk_simp [idx t])

end Cert.Kernel33Ideal.Prod
end
-- ==== Proof.MixNorm.lean ====
module
public import Idealize.ShloMosaic.Lib.Pipeline.ValueKit
public import Idealize.ShloMosaic.Lib.StableHlo.RunRead
public import proofs.«01_k».proof.Proof.Gen.Kernel34Ideal.Value
public import proofs.«01_k».proof.Proof.Gen.Reference34Ideal.Read
public import proofs.«01_k».proof.Proof.Norm

@[expose] public section
set_option maxRecDepth 16384
noncomputable section

/-! The norm before the mixer, block by block. -/

namespace Cert.Kernel34Ideal.Prod
open Idealize Idealize.ShloMosaic Idealize.ShloMosaic.TcCoe Idealize.SL.Sem Cert.Kernel34Ideal Cert.Kernel34Ideal.Gen
open Cert.Kernel4Ideal.Prod (mean)
open Cert.Norm

variable (m : (ℓ : Loc nD τ sig) → Buf (Elt Ideal) ℓ) (c : Dev nD)

/-- The blocks that the windows stage at a point. -/
theorem idx : ∀ t : Fin cfg0.N, win0_0.index t = ![t.val, 0] ∧ win0_1.index t = ![0, 0] ∧ win0_2.index t = ![t.val, 0] :=
  (by decide +kernel : ∀ t : Fin grid0.N, _)

/-- The gain as the host hands it over. -/
def gain : FVec Ideal S1x1024 .f32 := shapeCast S1x1024 (m (c, main_arg1) : FVec Ideal S1024 .f32) shapeCasts_S1024_S1x1024

/-- What the host hands over is `gain`. -/
theorem gain_eq : V m c main_v0 = gain m c := by
  unfold V
  after_reads_simp
  try rfl

/-- The rows are handed over as they are. -/
theorem rows_eq : V m c main_arg0 = m (c, main_arg0) := by
  unfold V
  after_reads_simp
  try rfl

/-- The row's element. -/
def row (r : Fin 8192) (j : Fin 1024) : EReal := (m (c, main_arg0) : FVec Ideal S8192x1024 .f32) (ix2 r j)

/-- The gain of a column. -/
def gn (j : Fin 1024) : EReal := (m (c, main_arg1) : FVec Ideal S1024 .f32) (ix1 j)

/-- A block of the rows, read from the argument. -/
theorem rows_at (t : Fin cfg0.N) (i : Fin 512) (j : Fin 1024) (r : Fin 8192) (hr : r.val = t.val * 512 + i) :
    iblk m c 0 t (ix2 i j) = row m c r j := by
  have e : iblk m c 0 t (ix2 i j) = (V m c main_arg0 : FVec Ideal S8192x1024 .f32) (ix2 r j) := by
    blk_ext [iblk, idx t]
  rw [e, rows_eq]
  rfl

/-- The gain, read from the argument. -/
theorem gain_at (t : Fin cfg0.N) (z : Fin 1) (j : Fin 1024) : iblk m c 1 t (ix2 z j) = gn m c j := by
  have e : iblk m c 1 t (ix2 z j) = (V m c main_v0 : FVec Ideal S1x1024 .f32) (ix2 z j) := by
    blk_ext [iblk, idx t]
  rw [e, gain_eq]
  delta gain gn
  pointwise []

/-- What a point stores: the norm of its rows. -/
theorem out_at (x : FVec Ideal S512x1024 .f32) (g : FVec Ideal S1x1024 .f32) (i : Fin 512) (j : Fin 1024) :
    k0_pay1 (F := Ideal) x g (ix2 i j) = normed (fun k => x (ix2 i k)) (fun k => g (ix2 0 k)) j := by
  delta k0_pay1 normed mean
  pointwise []

/-- The reference's norm. -/
theorem ref_at (x : FVec Ideal S8192x1024 .f32) (g : FVec Ideal S1024 .f32) (r : Fin 8192) (j : Fin 1024) :
    Reference34Ideal.Read.val_main_v13 (F := Ideal) x g (ix2 r j) = normed (fun k => x (ix2 r k)) (fun k => g (ix1 k)) j := by
  delta Reference34Ideal.Read.val_main_v13 Reference34Ideal.Read.val_main_v12 Reference34Ideal.Read.val_main_v11 Reference34Ideal.Read.val_main_v10
    Reference34Ideal.Read.val_main_v9 Reference34Ideal.Read.val_main_v8 Reference34Ideal.Read.val_main_v7 Reference34Ideal.Read.val_main_v6
    Reference34Ideal.Read.val_main_v5 Reference34Ideal.Read.val_main_v4 Reference34Ideal.Read.val_main_v3 Reference34Ideal.Read.val_main_v2
    Reference34Ideal.Read.val_main_v1 Reference34Ideal.Read.val_main_v0 Reference34Ideal.Read.val_main_cst Reference34Ideal.Read.val_main_cst_0
    Reference34Ideal.Read.val_main_cst_1 normed mean
  pointwise []

/-- A point's tile is the reference's. -/
theorem tile (t : Fin cfg0.N) (y : S512x1024.Idx) (z : S8192x1024.Idx) (e0 : (z 0).val = t.val * 512 + (y 0).val) (e1 : (z 1).val = (y 1).val) :
    out0_2 (iblk m c 0 t) (iblk m c 1 t) y = Reference34Ideal.Read.val_main_v13 (F := Ideal) (m (c, main_arg0)) (m (c, main_arg1)) z := by
  obtain ⟨i, j, rfl⟩ : ∃ (i : Fin 512) (j : Fin 1024), y = ix2 i j := ⟨y 0, y 1, by ext a; fin_cases a <;> rfl⟩
  obtain ⟨r, rfl⟩ : ∃ r : Fin 8192, z = ix2 r j := ⟨z 0, by ext a; fin_cases a; exacts [rfl, e1]⟩
  unfold out0_2
  rw [View.canon_cons_unit_zero (by decide), View.ld_unit_zero (by decide), View.ld_unit_zero (by decide)]
  refine (out_at _ _ _ _).trans (Eq.trans ?_ (ref_at _ _ _ _).symm)
  exact normed_congr (fun k => rows_at m c t i k r e0) (fun k => gain_at m c t 0 k) j

/-- The array after the last point. -/
theorem final : (dats m 0 c).arrAt 2 (cfgs 0).N = Reference34Ideal.Read.val_main_v13 (F := Ideal) (m (c, main_arg0)) (m (c, main_arg1)) := by
  refine (dats m 0 c).arrAt_eq_of_covers 2 _ (by decide +kernel) fun t hf y => ?_
  blk_simp
  rw [after0_2]
  exact tile m c t y _ (by blk_simp [idx t]) (by blk_simp [idx t])

end Cert.Kernel34Ideal.Prod
end
-- ==== Proof.Merge.lean ====
module
public import Idealize.ShloMosaic.Lib.Pipeline.ValueKit
public import Idealize.ShloMosaic.Lib.StableHlo.RunRead
public import proofs.«01_k».proof.Proof.Gen.Kernel35Ideal.Value
public import proofs.«01_k».proof.Proof.Gen.Reference35Ideal.Read

@[expose] public section
set_option maxRecDepth 16384
noncomputable section

/-! The gates and the merge of the three branches, block by block. -/

namespace Cert.Kernel35Ideal.Prod
open Idealize Idealize.ShloMosaic Idealize.ShloMosaic.TcCoe Idealize.SL.Sem Cert.Kernel35Ideal Cert.Kernel35Ideal.Gen

variable (m : (ℓ : Loc nD τ sig) → Buf (Elt Ideal) ℓ) (c : Dev nD)

/-- The blocks that the windows stage at a point. -/
theorem idx : ∀ t : Fin cfg0.N, win0_0.index t = ![t.val % 16, t.val / 16 + 3]
    ∧ win0_1.index t = ![t.val % 16, t.val / 16 + 5]
    ∧ win0_2.index t = ![t.val % 16, t.val / 16 + 7]
    ∧ win0_3.index t = ![0, t.val / 16]
    ∧ win0_4.index t = ![0, t.val / 16 + 2]
    ∧ win0_5.index t = ![0, t.val / 16 + 4]
    ∧ win0_6.index t = ![t.val % 16, t.val / 16]
    ∧ win0_7.index t = ![t.val % 16, t.val / 16]
    ∧ win0_8.index t = ![t.val % 16, t.val / 16 + 2]
    ∧ win0_9.index t = ![t.val % 16, t.val / 16]
    ∧ win0_10.index t = ![t.val % 16, t.val / 16] :=
  (by decide +kernel : ∀ t : Fin grid0.N, _)

/-- The gates' biases as the host hands them over. -/
def bias : FVec Ideal S1x3072 .f32 := shapeCast S1x3072 (m (c, main_arg1) : FVec Ideal S3072 .f32) shapeCasts_S3072_S1x3072

/-- What the host hands over is `bias`. -/
theorem bias_eq : V m c main_v4 = bias m c := by
  unfold V
  after_reads_simp
  try rfl

/-- The host hands the input products over as they are. -/
theorem pre_eq : (V m c main_v0 : S8192x4608.Idx → EReal) = m (c, main_arg0) := by
  unfold V
  after_reads_simp
  try rfl

/-- The host hands the attention's branch over as it is. -/
theorem attn_eq : (V m c main_v1 : S8192x1024.Idx → EReal) = m (c, main_arg2) := by
  unfold V
  after_reads_simp
  try rfl

/-- The host hands the S5's gate input over as it is. -/
theorem glu_eq : (V m c main_v2 : S8192x2048.Idx → EReal) = m (c, main_arg3) := by
  unfold V
  after_reads_simp
  try rfl

/-- The host hands the convolution's branch over as it is. -/
theorem conv_eq : (V m c main_v3 : S8192x1024.Idx → EReal) = m (c, main_arg4) := by
  unfold V
  after_reads_simp
  try rfl

/-- The input product, from which the gates come. -/
def pre (r : Fin 8192) (k : Fin 4608) : EReal := (m (c, main_arg0) : FVec Ideal S8192x4608 .f32) (ix2 r k)

/-- The gate's bias. -/
def bs (k : Fin 3072) : EReal := (m (c, main_arg1) : FVec Ideal S3072 .f32) (ix1 k)

/-- The attention's branch. -/
def attn (r : Fin 8192) (j : Fin 1024) : EReal := (m (c, main_arg2) : FVec Ideal S8192x1024 .f32) (ix2 r j)

/-- The S5's gate input: what is gated, then the gate. -/
def glu (r : Fin 8192) (k : Fin 2048) : EReal := (m (c, main_arg3) : FVec Ideal S8192x2048 .f32) (ix2 r k)

/-- The convolution's branch. -/
def conv (r : Fin 8192) (j : Fin 1024) : EReal := (m (c, main_arg4) : FVec Ideal S8192x1024 .f32) (ix2 r j)

/-- The first gate's input at a point, read from the argument. -/
theorem at0 (t : Fin cfg0.N) (i j : Fin 512) (r : Fin 8192) (k : Fin 4608) (hr : r.val = t.val % 16 * 512 + i) (hk : k.val = (t.val / 16 + 3) * 512 + j) :
    iblk m c 0 t (ix2 i j) = pre m c r k := by
  refine Eq.trans ?_ (congrFun (pre_eq m c) _)
  blk_ext [iblk, idx t]

/-- The second gate's input at a point, read from the argument. -/
theorem at1 (t : Fin cfg0.N) (i j : Fin 512) (r : Fin 8192) (k : Fin 4608) (hr : r.val = t.val % 16 * 512 + i) (hk : k.val = (t.val / 16 + 5) * 512 + j) :
    iblk m c 1 t (ix2 i j) = pre m c r k := by
  refine Eq.trans ?_ (congrFun (pre_eq m c) _)
  blk_ext [iblk, idx t]

/-- The third gate's input at a point, read from the argument. -/
theorem at2 (t : Fin cfg0.N) (i j : Fin 512) (r : Fin 8192) (k : Fin 4608) (hr : r.val = t.val % 16 * 512 + i) (hk : k.val = (t.val / 16 + 7) * 512 + j) :
    iblk m c 2 t (ix2 i j) = pre m c r k := by
  refine Eq.trans ?_ (congrFun (pre_eq m c) _)
  blk_ext [iblk, idx t]

/-- The attention's branch at a point, read from the argument. -/
theorem at6 (t : Fin cfg0.N) (i j : Fin 512) (r : Fin 8192) (k : Fin 1024) (hr : r.val = t.val % 16 * 512 + i) (hk : k.val = t.val / 16 * 512 + j) :
    iblk m c 6 t (ix2 i j) = attn m c r k := by
  refine Eq.trans ?_ (congrFun (attn_eq m c) _)
  blk_ext [iblk, idx t]

/-- What the S5's gate multiplies at a point, read from the argument. -/
theorem at7 (t : Fin cfg0.N) (i j : Fin 512) (r : Fin 8192) (k : Fin 2048) (hr : r.val = t.val % 16 * 512 + i) (hk : k.val = t.val / 16 * 512 + j) :
    iblk m c 7 t (ix2 i j) = glu m c r k := by
  refine Eq.trans ?_ (congrFun (glu_eq m c) _)
  blk_ext [iblk, idx t]

/-- The S5's gate at a point, read from the argument. -/
theorem at8 (t : Fin cfg0.N) (i j : Fin 512) (r : Fin 8192) (k : Fin 2048) (hr : r.val = t.val % 16 * 512 + i) (hk : k.val = (t.val / 16 + 2) * 512 + j) :
    iblk m c 8 t (ix2 i j) = glu m c r k := by
  refine Eq.trans ?_ (congrFun (glu_eq m c) _)
  blk_ext [iblk, idx t]

/-- The convolution's branch at a point, read from the argument. -/
theorem at9 (t : Fin cfg0.N) (i j : Fin 512) (r : Fin 8192) (k : Fin 1024) (hr : r.val = t.val % 16 * 512 + i) (hk : k.val = t.val / 16 * 512 + j) :
    iblk m c 9 t (ix2 i j) = conv m c r k := by
  refine Eq.trans ?_ (congrFun (conv_eq m c) _)
  blk_ext [iblk, idx t]

/-- The first gate's bias at a point, read from the argument. -/
theorem at3 (t : Fin cfg0.N) (z : Fin 1) (j : Fin 512) (k : Fin 3072) (hk : k.val = t.val / 16 * 512 + j) : iblk m c 3 t (ix2 z j) = bs m c k := by
  have e : iblk m c 3 t (ix2 z j) = (V m c main_v4 : FVec Ideal S1x3072 .f32) (ix2 z k) := by
    blk_ext [iblk, idx t]
  rw [e, bias_eq]
  delta bias bs
  pointwise []

/-- The second gate's bias at a point, read from the argument. -/
theorem at4 (t : Fin cfg0.N) (z : Fin 1) (j : Fin 512) (k : Fin 3072) (hk : k.val = (t.val / 16 + 2) * 512 + j) : iblk m c 4 t (ix2 z j) = bs m c k := by
  have e : iblk m c 4 t (ix2 z j) = (V m c main_v4 : FVec Ideal S1x3072 .f32) (ix2 z k) := by
    blk_ext [iblk, idx t]
  rw [e, bias_eq]
  delta bias bs
  pointwise []

/-- The third gate's bias at a point, read from the argument. -/
theorem at5 (t : Fin cfg0.N) (z : Fin 1) (j : Fin 512) (k : Fin 3072) (hk : k.val = (t.val / 16 + 4) * 512 + j) : iblk m c 5 t (ix2 z j) = bs m c k := by
  have e : iblk m c 5 t (ix2 z j) = (V m c main_v4 : FVec Ideal S1x3072 .f32) (ix2 z k) := by
    blk_ext [iblk, idx t]
  rw [e, bias_eq]
  delta bias bs
  pointwise []

/-- What a point stores: the branches times their gates. -/
theorem out_at (p q s : FVec Ideal S512x512 .bf16) (a b e : FVec Ideal S1x512 .f32) (u v w x : FVec Ideal S512x512 .bf16) (i j : Fin 512) :
    k0_pay1 (F := Ideal) (k0_pay2 (F := Ideal) x) (k0_pay3 (F := Ideal) q b) (k0_pay4 (F := Ideal) s e) (k0_pay5 (F := Ideal) v w)
        (k0_pay6 (F := Ideal) p a u) (ix2 i j)
      = Ideal.logistic (p (ix2 i j) + a (ix2 0 j)) * u (ix2 i j)
        + Ideal.logistic (q (ix2 i j) + b (ix2 0 j)) * (v (ix2 i j) * Ideal.logistic (w (ix2 i j)))
        + Ideal.logistic (s (ix2 i j) + e (ix2 0 j)) * x (ix2 i j) := by
  delta k0_pay1 k0_pay2 k0_pay3 k0_pay4 k0_pay5 k0_pay6
  pointwise []
  try rfl

/-- The merge of the three branches. -/
def merged (r : Fin 8192) (j : Fin 1024) : EReal :=
  Ideal.logistic (pre m c r ⟨1536 + j, by omega⟩ + bs m c ⟨j, by omega⟩) * attn m c r j
    + Ideal.logistic (pre m c r ⟨2560 + j, by omega⟩ + bs m c ⟨1024 + j, by omega⟩)
      * (glu m c r ⟨j, by omega⟩ * Ideal.logistic (glu m c r ⟨1024 + j, by omega⟩))
    + Ideal.logistic (pre m c r ⟨3584 + j, by omega⟩ + bs m c ⟨2048 + j, by omega⟩) * conv m c r j

/-- A point's merge. -/
theorem out_pt (t : Fin cfg0.N) (i j : Fin 512) (r : Fin 8192) (s : Fin 1024) (hr : r.val = t.val % 16 * 512 + i) (hs : s.val = t.val / 16 * 512 + j) :
    k0_pay1 (F := Ideal) (k0_pay2 (F := Ideal) (iblk m c 9 t)) (k0_pay3 (F := Ideal) (iblk m c 1 t) (iblk m c 4 t))
        (k0_pay4 (F := Ideal) (iblk m c 2 t) (iblk m c 5 t)) (k0_pay5 (F := Ideal) (iblk m c 7 t) (iblk m c 8 t))
        (k0_pay6 (F := Ideal) (iblk m c 0 t) (iblk m c 3 t) (iblk m c 6 t)) (ix2 i j) = merged m c r s := by
  rw [out_at, at0 m c t i j r ⟨1536 + s, by omega⟩ hr (by dsimp only; omega), at1 m c t i j r ⟨2560 + s, by omega⟩ hr (by dsimp only; omega),
    at2 m c t i j r ⟨3584 + s, by omega⟩ hr (by dsimp only; omega), at3 m c t 0 j ⟨s, by omega⟩ hs, at4 m c t 0 j ⟨1024 + s, by omega⟩ (by dsimp only; omega),
    at5 m c t 0 j ⟨2048 + s, by omega⟩ (by dsimp only; omega), at6 m c t i j r s hr hs, at7 m c t i j r ⟨s, by omega⟩ hr hs,
    at8 m c t i j r ⟨1024 + s, by omega⟩ hr (by dsimp only; omega), at9 m c t i j r s hr hs]
  rfl

/-- The reference's gates. -/
theorem ref_gate (r : Fin 8192) (k : Fin 3072) :
    Reference35Ideal.Read.val_main_v18 (F := Ideal) (m (c, main_arg0)) (m (c, main_arg1)) (ix2 r k)
      = Ideal.logistic (pre m c r ⟨1536 + k, by omega⟩ + bs m c k) := by
  delta Reference35Ideal.Read.val_main_v18 Reference35Ideal.Read.val_main_v17 Reference35Ideal.Read.val_main_v16 Reference35Ideal.Read.val_main_v15 Reference35Ideal.Read.val_main_v14 Reference35Ideal.Read.val_main_v13 Reference35Ideal.Read.val_main_v12 Reference35Ideal.Read.val_main_v11 Reference35Ideal.Read.val_main_v10 Reference35Ideal.Read.val_main_v9 Reference35Ideal.Read.val_main_cst_1 Reference35Ideal.Read.val_main_cst_2 pre bs
  pointwise []
  try rfl

/-- The reference's S5 branch. -/
theorem ref_glu (r : Fin 8192) (j : Fin 1024) :
    Reference35Ideal.Read.val_main_v8 (F := Ideal) (m (c, main_arg3)) (ix2 r j)
      = glu m c r ⟨j, by omega⟩ * Ideal.logistic (glu m c r ⟨1024 + j, by omega⟩) := by
  delta Reference35Ideal.Read.val_main_v8 Reference35Ideal.Read.val_main_v7 Reference35Ideal.Read.val_main_v6 Reference35Ideal.Read.val_main_v5 Reference35Ideal.Read.val_main_v4 Reference35Ideal.Read.val_main_v3 Reference35Ideal.Read.val_main_v2 Reference35Ideal.Read.val_main_v1 Reference35Ideal.Read.val_main_v0 Reference35Ideal.Read.val_main_cst Reference35Ideal.Read.val_main_cst_0 glu
  pointwise []
  try rfl

/-- The reference's merge, from its gates. -/
theorem ref_sum (z : FVec Ideal S8192x4608 .f32) (b : FVec Ideal S3072 .f32) (x : FVec Ideal S8192x1024 .f32) (u : FVec Ideal S8192x2048 .f32)
    (y : FVec Ideal S8192x1024 .f32) (r : Fin 8192) (j : Fin 1024) :
    Reference35Ideal.Read.val_main_v27 (F := Ideal) z b x u y (ix2 r j)
      = Reference35Ideal.Read.val_main_v18 (F := Ideal) z b (ix2 r ⟨j, by omega⟩) * x (ix2 r j)
        + Reference35Ideal.Read.val_main_v18 (F := Ideal) z b (ix2 r ⟨1024 + j, by omega⟩) * Reference35Ideal.Read.val_main_v8 (F := Ideal) u (ix2 r j)
        + Reference35Ideal.Read.val_main_v18 (F := Ideal) z b (ix2 r ⟨2048 + j, by omega⟩) * y (ix2 r j) := by
  delta Reference35Ideal.Read.val_main_v27 Reference35Ideal.Read.val_main_v26 Reference35Ideal.Read.val_main_v25 Reference35Ideal.Read.val_main_v24 Reference35Ideal.Read.val_main_v23 Reference35Ideal.Read.val_main_v22 Reference35Ideal.Read.val_main_v21 Reference35Ideal.Read.val_main_v20 Reference35Ideal.Read.val_main_v19
  generalize Reference35Ideal.Read.val_main_v18 (F := Ideal) z b = g
  generalize Reference35Ideal.Read.val_main_v8 (F := Ideal) u = s
  pointwise []
  try rfl

/-- The reference's result. -/
theorem ref_at (r : Fin 8192) (j : Fin 1024) :
    Reference35Ideal.Read.val_main_v27 (F := Ideal) (m (c, main_arg0)) (m (c, main_arg1)) (m (c, main_arg2)) (m (c, main_arg3)) (m (c, main_arg4)) (ix2 r j)
      = merged m c r j := by
  refine (ref_sum _ _ _ _ _ r j).trans ?_
  rw [ref_gate, ref_gate, ref_gate, ref_glu]
  delta merged attn conv
  simp only [← Nat.add_assoc, Nat.reduceAdd]

/-- A point's tile is the reference's. -/
theorem tile (t : Fin cfg0.N) (y : S512x512.Idx) (z : S8192x1024.Idx) (e0 : (z 0).val = t.val % 16 * 512 + (y 0).val)
    (e1 : (z 1).val = t.val / 16 * 512 + (y 1).val) :
    out0_10 (iblk m c 0 t) (iblk m c 1 t) (iblk m c 2 t) (iblk m c 3 t) (iblk m c 4 t) (iblk m c 5 t) (iblk m c 6 t) (iblk m c 7 t) (iblk m c 8 t) (iblk m c 9 t) y
      = Reference35Ideal.Read.val_main_v27 (F := Ideal) (m (c, main_arg0)) (m (c, main_arg1)) (m (c, main_arg2)) (m (c, main_arg3)) (m (c, main_arg4)) z := by
  obtain ⟨i, j, rfl⟩ : ∃ (i j : Fin 512), y = ix2 i j := ⟨y 0, y 1, by ext a; fin_cases a <;> rfl⟩
  obtain ⟨r, s, rfl⟩ : ∃ (r : Fin 8192) (s : Fin 1024), z = ix2 r s := ⟨z 0, z 1, by ext a; fin_cases a <;> rfl⟩
  unfold out0_10
  rw [View.canon_cons_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide), View.ld_unit_zero (by decide)]
  exact (out_pt m c t i j r s e0 e1).trans (ref_at m c r s).symm

/-- The array after the last point. -/
theorem final : (dats m 0 c).arrAt 10 (cfgs 0).N
    = Reference35Ideal.Read.val_main_v27 (F := Ideal) (m (c, main_arg0)) (m (c, main_arg1)) (m (c, main_arg2)) (m (c, main_arg3)) (m (c, main_arg4)) := by
  refine (dats m 0 c).arrAt_eq_of_covers 10 _ (by decide +kernel) fun t hf y => ?_
  blk_simp
  rw [after0_10]
  exact tile m c t y _ (by blk_simp [idx t]) (by blk_simp [idx t])

end Cert.Kernel35Ideal.Prod
end
-- ==== Proof.FfnNormBack.lean ====
module
public import Idealize.ShloMosaic.Lib.Pipeline.ValueKit
public import Idealize.ShloMosaic.Lib.StableHlo.RunRead
public import proofs.«01_k».proof.Proof.Gen.Kernel36Ideal.Value
public import proofs.«01_k».proof.Proof.Gen.Reference36Ideal.Read
public import proofs.«01_k».proof.Proof.InBack

@[expose] public section
set_option maxRecDepth 16384
noncomputable section

/-! The backward pass of the norm before the SwiGLU, block by block. Each point adds its part of the gain's gradient. -/

namespace Cert.Kernel36Ideal.Prod
open Idealize Idealize.ShloMosaic Idealize.ShloMosaic.TcCoe Idealize.SL.Sem Cert.Kernel36Ideal Cert.Kernel36Ideal.Gen
open Cert.Kernel4Ideal.Prod (mean back row_eq)

variable (m : (ℓ : Loc nD τ sig) → Buf (Elt Ideal) ℓ) (c : Dev nD)

/-- The blocks that the windows stage at a point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- The gain as the host hands it over. -/
def gain : FVec Ideal S1x1024 .f32 := shapeCast S1x1024 (m (c, main_arg3) : FVec Ideal S1024 .f32) shapeCasts_S1024_S1x1024

/-- The host hands the gradients of the normalised rows over as they are. -/
theorem grads_eq : (V m c main_v0 : S8192x1024.Idx → EReal) = m (c, main_arg0) := by
  unfold V
  after_reads_simp
  try rfl

/-- What the host hands over is `gain`. -/
theorem gain_eq : V m c main_v1 = gain m c := by
  unfold V
  after_reads_simp
  try rfl

/-- The rows are handed over as they are. -/
theorem rows_eq : V m c main_arg1 = m (c, main_arg1) := by
  unfold V
  after_reads_simp
  try rfl

/-- The residual's gradients are handed over as they are. -/
theorem res_eq : V m c main_arg2 = m (c, main_arg2) := by
  unfold V
  after_reads_simp
  try rfl

/-- The gradient of a normalised row. -/
def dh (r : Fin 8192) (j : Fin 1024) : EReal := (m (c, main_arg0) : FVec Ideal S8192x1024 .f32) (ix2 r j)

/-- The row's element. -/
def row (r : Fin 8192) (j : Fin 1024) : EReal := (m (c, main_arg1) : FVec Ideal S8192x1024 .f32) (ix2 r j)

/-- The gradient that the residual passes on. -/
def res (r : Fin 8192) (j : Fin 1024) : EReal := (m (c, main_arg2) : FVec Ideal S8192x1024 .f32) (ix2 r j)

/-- The gain of a column. -/
def gn (j : Fin 1024) : EReal := (m (c, main_arg3) : FVec Ideal S1024 .f32) (ix1 j)

/-- A block of the gradients, read from the argument. -/
theorem grads_at (t : Fin cfg0.N) (i : Fin 512) (j : Fin 1024) (r : Fin 8192) (hr : r.val = t.val * 512 + i) :
    iblk m c 0 t (ix2 i j) = dh m c r j := by
  refine Eq.trans ?_ (congrFun (grads_eq m c) _)
  blk_ext [iblk, idx t]

/-- A block of the rows, read from the argument. -/
theorem rows_at (t : Fin cfg0.N) (i : Fin 512) (j : Fin 1024) (r : Fin 8192) (hr : r.val = t.val * 512 + i) :
    iblk m c 1 t (ix2 i j) = row m c r j := by
  refine Eq.trans ?_ (congrFun (rows_eq m c) _)
  blk_ext [iblk, idx t]

/-- A block of the residual's gradients, read from the argument. -/
theorem res_at (t : Fin cfg0.N) (i : Fin 512) (j : Fin 1024) (r : Fin 8192) (hr : r.val = t.val * 512 + i) :
    iblk m c 2 t (ix2 i j) = res m c r j := by
  refine Eq.trans ?_ (congrFun (res_eq m c) _)
  blk_ext [iblk, idx t]

/-- The gain, read from the argument. -/
theorem gain_at (t : Fin cfg0.N) (z : Fin 1) (j : Fin 1024) : iblk m c 3 t (ix2 z j) = gn m c j := by
  have e : iblk m c 3 t (ix2 z j) = (V m c main_v1 : FVec Ideal S1x1024 .f32) (ix2 z j) := by
    blk_ext [iblk, idx t]
  rw [e, gain_eq]
  delta gain gn
  pointwise []

/-- The gradients as the body reads them. -/
theorem cast_at (d : FVec Ideal S512x1024 .bf16) (y : S512x1024.Idx) : k0_pay2 (F := Ideal) d y = (d y : EReal) := by
  delta k0_pay2
  pointwise []

/-- The root that a row is divided by. -/
theorem root_at (x : FVec Ideal S512x1024 .f32) (i : Fin 512) :
    k0_pay3 (F := Ideal) x (ix2 i 0) = Ideal.rsqrt (mean fun k => x (ix2 i k)) := by
  delta k0_pay3 mean
  pointwise []

/-- The normalised row. -/
theorem norm_at (x : FVec Ideal S512x1024 .f32) (i : Fin 512) (j : Fin 1024) :
    k0_pay4 (F := Ideal) x (ix2 i j) = x (ix2 i j) * k0_pay3 (F := Ideal) x (ix2 i 0) := by
  delta k0_pay4
  generalize k0_pay3 (F := Ideal) x = p
  pointwise []

/-- A row of the first result. -/
theorem out_at (d : FVec Ideal S512x1024 .bf16) (x z : FVec Ideal S512x1024 .f32) (g : FVec Ideal S1x1024 .f32) (i : Fin 512) (j : Fin 1024) :
    k0_pay5 (F := Ideal) d x z g (ix2 i j) = z (ix2 i j) + k0_pay3 (F := Ideal) x (ix2 i 0) * (k0_pay2 (F := Ideal) d (ix2 i j) * g (ix2 0 j)
      - k0_pay4 (F := Ideal) x (ix2 i j) * Ideal.div (∑ k : Fin 1024, k0_pay2 (F := Ideal) d (ix2 i k) * g (ix2 0 k) * k0_pay4 (F := Ideal) x (ix2 i k))
        (Ideal.ofBits .f32 0x44800000#32)) := by
  delta k0_pay5
  generalize k0_pay4 (F := Ideal) x = q
  generalize k0_pay3 (F := Ideal) x = p
  generalize k0_pay2 (F := Ideal) d = e
  pointwise []

/-- A point's part of the gain's gradient. -/
theorem part_at (d : FVec Ideal S512x1024 .bf16) (x : FVec Ideal S512x1024 .f32) (z : Fin 1) (j : Fin 1024) :
    k0_pay6 (F := Ideal) d x (ix2 z j) = ∑ k : Fin 512, k0_pay2 (F := Ideal) d (ix2 k j) * k0_pay4 (F := Ideal) x (ix2 k j) := by
  delta k0_pay6
  generalize k0_pay4 (F := Ideal) x = q
  generalize k0_pay2 (F := Ideal) d = e
  pointwise []

/-- The gain's gradient after a point. -/
theorem gain_out (s : FVec Ideal S1x1024 .f32) (a : FVec Ideal S1x1024 .f32) (y : S1x1024.Idx) :
    k0_pay1 (F := Ideal) s a y = (a y : EReal) + s y := by
  delta k0_pay1
  pointwise []

/-- Before the first point it is zero. -/
theorem zero_at (y : S1x1024.Idx) : k0_pay7 (F := Ideal) y = (0 : EReal) := by
  delta k0_pay7
  pointwise []

/-- A point's gradient of a normalised row. -/
theorem cast_pt (t : Fin cfg0.N) (i : Fin 512) (j : Fin 1024) (r : Fin 8192) (hr : r.val = t.val * 512 + i) :
    k0_pay2 (F := Ideal) (iblk m c 0 t) (ix2 i j) = dh m c r j :=
  (cast_at _ _).trans (grads_at m c t i j r hr)

/-- A point's root. -/
theorem root_pt (t : Fin cfg0.N) (i : Fin 512) (r : Fin 8192) (hr : r.val = t.val * 512 + i) :
    k0_pay3 (F := Ideal) (iblk m c 1 t) (ix2 i 0) = Ideal.rsqrt (mean (row m c r)) := by
  rw [root_at]
  exact congrArg (fun f => Ideal.rsqrt (mean f)) (funext fun k => rows_at m c t i k r hr)

/-- A point's normalised row. -/
theorem norm_pt (t : Fin cfg0.N) (i : Fin 512) (j : Fin 1024) (r : Fin 8192) (hr : r.val = t.val * 512 + i) :
    k0_pay4 (F := Ideal) (iblk m c 1 t) (ix2 i j) = row m c r j * Ideal.rsqrt (mean (row m c r)) := by
  rw [norm_at, root_pt m c t i r hr, rows_at m c t i j r hr]

/-- A point's row of the first result. -/
theorem out_pt (t : Fin cfg0.N) (i : Fin 512) (j : Fin 1024) (r : Fin 8192) (hr : r.val = t.val * 512 + i) :
    k0_pay5 (F := Ideal) (iblk m c 0 t) (iblk m c 1 t) (iblk m c 2 t) (iblk m c 3 t) (ix2 i j)
      = res m c r j + Ideal.rsqrt (mean (row m c r)) * (dh m c r j * gn m c j - row m c r j * Ideal.rsqrt (mean (row m c r))
        * Ideal.div (∑ k, dh m c r k * gn m c k * (row m c r k * Ideal.rsqrt (mean (row m c r)))) (Ideal.ofBits .f32 0x44800000#32)) := by
  rw [out_at, root_pt m c t i r hr, res_at m c t i j r hr]
  simp only [cast_pt m c t i _ r hr, norm_pt m c t i _ r hr, gain_at m c t]

/-- The reference's mean of squares. -/
theorem ref_mean (x : FVec Ideal S8192x1024 .f32) (r : Fin 8192) :
    Reference36Ideal.Read.val_main_v6 (F := Ideal) x (ix2 r 0) = mean fun k => x (ix2 r k) := by
  delta Reference36Ideal.Read.val_main_v6 Reference36Ideal.Read.val_main_v5 Reference36Ideal.Read.val_main_v4 Reference36Ideal.Read.val_main_v3 Reference36Ideal.Read.val_main_v2 Reference36Ideal.Read.val_main_v1 Reference36Ideal.Read.val_main_v0 Reference36Ideal.Read.val_main_cst Reference36Ideal.Read.val_main_cst_0 Reference36Ideal.Read.val_main_cst_1 mean
  pointwise []

/-- The reference's root. -/
theorem ref_root (x : FVec Ideal S8192x1024 .f32) (r : Fin 8192) :
    Reference36Ideal.Read.val_main_v7 (F := Ideal) x (ix2 r 0) = Ideal.rsqrt (mean fun k => x (ix2 r k)) := by
  rw [← ref_mean]
  delta Reference36Ideal.Read.val_main_v7
  generalize Reference36Ideal.Read.val_main_v6 (F := Ideal) x = p
  pointwise []

/-- The reference's gradient of the row, through the mean. -/
theorem ref_back (q x : FVec Ideal S8192x1024 .f32) (a : FVec Ideal S1024 .f32) (r : Fin 8192) (j : Fin 1024) :
    Reference36Ideal.Read.val_main_v31 (F := Ideal) q x a (ix2 r j)
      = back (∑ k : Fin 1024, x (ix2 r k) * (q (ix2 r k) * a (ix1 k)))
        (Reference36Ideal.Read.val_main_v7 (F := Ideal) x (ix2 r 0)) (Reference36Ideal.Read.val_main_v6 (F := Ideal) x (ix2 r 0)) := by
  delta back Reference36Ideal.Read.val_main_v31 Reference36Ideal.Read.val_main_v30 Reference36Ideal.Read.val_main_v29 Reference36Ideal.Read.val_main_v28 Reference36Ideal.Read.val_main_v27 Reference36Ideal.Read.val_main_v24 Reference36Ideal.Read.val_main_v23 Reference36Ideal.Read.val_main_v22 Reference36Ideal.Read.val_main_v20 Reference36Ideal.Read.val_main_v19 Reference36Ideal.Read.val_main_v13 Reference36Ideal.Read.val_main_v10 Reference36Ideal.Read.val_main_v9 Reference36Ideal.Read.val_main_v8 Reference36Ideal.Read.val_main_cst_2 Reference36Ideal.Read.val_main_cst_5 Reference36Ideal.Read.val_main_cst_6 Reference36Ideal.Read.val_main_cst_7
  generalize Reference36Ideal.Read.val_main_v7 (F := Ideal) x = p
  generalize Reference36Ideal.Read.val_main_v6 (F := Ideal) x = v
  pointwise []
  rw [Fin.sum_univ_one]

/-- The reference's first result. -/
theorem ref_out (q x z : FVec Ideal S8192x1024 .f32) (a : FVec Ideal S1024 .f32) (r : Fin 8192) (j : Fin 1024) :
    Reference36Ideal.Read.val_main_v36 (F := Ideal) q x z a (ix2 r j)
      = z (ix2 r j) + (q (ix2 r j) * a (ix1 j) * Reference36Ideal.Read.val_main_v7 (F := Ideal) x (ix2 r 0)
        + x (ix2 r j) * Reference36Ideal.Read.val_main_v31 (F := Ideal) q x a (ix2 r j)
        + Reference36Ideal.Read.val_main_v31 (F := Ideal) q x a (ix2 r j) * x (ix2 r j)) := by
  delta Reference36Ideal.Read.val_main_v36 Reference36Ideal.Read.val_main_v35 Reference36Ideal.Read.val_main_v34 Reference36Ideal.Read.val_main_v33 Reference36Ideal.Read.val_main_v32 Reference36Ideal.Read.val_main_v26 Reference36Ideal.Read.val_main_v25 Reference36Ideal.Read.val_main_v20 Reference36Ideal.Read.val_main_v19 Reference36Ideal.Read.val_main_v13
  generalize Reference36Ideal.Read.val_main_v31 (F := Ideal) q x a = b
  generalize Reference36Ideal.Read.val_main_v7 (F := Ideal) x = p
  pointwise []

/-- The reference's gradient of the gain. -/
theorem ref_gain (q x : FVec Ideal S8192x1024 .f32) (b : Fin 1) (j : Fin 1024) :
    Reference36Ideal.Read.val_main_v37 (F := Ideal) q x (ix2 b j)
      = ∑ r : Fin 8192, x (ix2 r j) * Reference36Ideal.Read.val_main_v7 (F := Ideal) x (ix2 r 0) * q (ix2 r j) := by
  delta Reference36Ideal.Read.val_main_v37 Reference36Ideal.Read.val_main_v21 Reference36Ideal.Read.val_main_v18 Reference36Ideal.Read.val_main_v17 Reference36Ideal.Read.val_main_v16 Reference36Ideal.Read.val_main_v12 Reference36Ideal.Read.val_main_v11 Reference36Ideal.Read.val_main_cst_3 Reference36Ideal.Read.val_main_cst_4
  generalize Reference36Ideal.Read.val_main_v7 (F := Ideal) x = p
  pointwise []
  rw [Fin.sum_univ_one]

/-- A point's block of the first result. -/
theorem point_row (t : Fin cfg0.N) (y : S512x1024.Idx) :
    (outsAt0 m c t.val t.isLt).1 y = k0_pay5 (F := Ideal) (iblk m c 0 t) (iblk m c 1 t) (iblk m c 2 t) (iblk m c 3 t) y := by
  by_cases h0 : t.val % 16 = 0
  · rw [outsAt0_A m c t h0]
    frame_out
    try rfl
  · rw [outsAt0_B m c t h0]
    frame_out
    try rfl

/-- A point's block of rows is the reference's. -/
theorem tile4 (t : Fin cfg0.N) (y : S512x1024.Idx) (z : S8192x1024.Idx) (e0 : (z 0).val = t.val * 512 + (y 0).val)
    (e1 : (z 1).val = (y 1).val) : (outsAt0 m c t.val t.isLt).1 y
      = Reference36Ideal.Read.val_main_v36 (F := Ideal) (m (c, main_arg0)) (m (c, main_arg1)) (m (c, main_arg2)) (m (c, main_arg3)) z := by
  obtain ⟨i, j, rfl⟩ : ∃ (i : Fin 512) (j : Fin 1024), y = ix2 i j := ⟨y 0, y 1, by ext a; fin_cases a <;> rfl⟩
  obtain ⟨r, s, rfl⟩ : ∃ (r : Fin 8192) (s : Fin 1024), z = ix2 r s := ⟨z 0, z 1, by ext a; fin_cases a <;> rfl⟩
  obtain rfl : s = j := Fin.ext e1
  refine (point_row m c t _).trans ((out_pt m c t i s r e0).trans ?_)
  refine Eq.trans ?_ (ref_out _ _ _ _ r s).symm
  rw [ref_back, ref_root, ref_mean]
  exact row_eq (dh m c r) (row m c r) (gn m c) (res m c r s) s

/-- One row's part of the gain's gradient. -/
def term (r : Fin 8192) (j : Fin 1024) : EReal := dh m c r j * (row m c r j * Ideal.rsqrt (mean (row m c r)))

/-- A point's part. -/
def gpart (t : Fin cfg0.N) (y : S1x1024.Idx) : EReal :=
  ∑ k : Fin 512, term m c ⟨t.val * 512 + k.val, by have h1 : t.val < 16 := lt_of_lt_of_eq t.isLt N_0; omega⟩ (y 1)

/-- The running sum after a point, from what it was before. -/
theorem step (t : Fin cfg0.N) (a : FVec Ideal S1x1024 .f32) (y : S1x1024.Idx) :
    k0_pay1 (F := Ideal) (k0_pay6 (F := Ideal) (iblk m c 0 t) (iblk m c 1 t)) a y = (a y : EReal) + gpart m c t y := by
  obtain ⟨z, j, rfl⟩ : ∃ (z : Fin 1) (j : Fin 1024), y = ix2 z j := ⟨y 0, y 1, by ext a; fin_cases a <;> rfl⟩
  have h1 : t.val < 16 := lt_of_lt_of_eq t.isLt N_0
  rw [gain_out, part_at]
  refine congrArg (fun u : EReal => a (ix2 z j) + u) (Finset.sum_congr rfl fun k _ => ?_)
  rw [cast_pt m c t k j ⟨t.val * 512 + k.val, by omega⟩ rfl, norm_pt m c t k j ⟨t.val * 512 + k.val, by omega⟩ rfl]
  rfl

/-- The running sum after the first point. -/
theorem point_A (t : Fin cfg0.N) (h0 : t.val % 16 = 0) (y : S1x1024.Idx) :
    (outsAt0 m c t.val t.isLt).2 y = (0 : EReal) + gpart m c t y := by
  rw [outsAt0_A m c t h0]
  frame_out
  exact (step m c t _ y).trans (congrArg (fun u : EReal => u + gpart m c t y) (zero_at y))

/-- The running sum after a later point. -/
theorem point_B (t : Fin cfg0.N) (h0 : ¬ t.val % 16 = 0) (y : S1x1024.Idx) :
    (outsAt0 m c t.val t.isLt).2 y
      = ((outsAt0 m c (t.val - 1) (Nat.lt_of_le_of_lt (Nat.sub_le _ _) t.isLt)).2 y : EReal) + gpart m c t y := by
  rw [outsAt0_B m c t h0]
  frame_out
  exact step m c t _ y

/-- The points' parts together are the sum over all rows. -/
theorem sum_parts (z : Fin 1) (j : Fin 1024) (p : Fin 16 → Fin cfg0.N) (hp : ∀ s, (p s).val = s.val) :
    ∑ s : Fin 16, gpart m c (p s) (ix2 z j)
      = Reference36Ideal.Read.val_main_v37 (F := Ideal) (m (c, main_arg0)) (m (c, main_arg1)) (ix2 z j) := by
  rw [ref_gain]
  refine (Cert.Kernel4Ideal.Prod.sum_rows (fun r => term m c r j) (fun s => (p s).val) hp).trans (Finset.sum_congr rfl fun r _ => ?_)
  rw [ref_root]
  exact mul_comm _ _

/-- What the last point leaves of the second result is the reference's. -/
theorem tile5 (t : Fin cfg0.N) (hm : t.val % 16 = 15) (y z : S1x1024.Idx) (e1 : (z 1).val = (y 1).val) : (outsAt0 m c t.val t.isLt).2 y
      = Reference36Ideal.Read.val_main_v37 (F := Ideal) (m (c, main_arg0)) (m (c, main_arg1)) z := by
  have ht : t.val < 16 := lt_of_lt_of_eq t.isLt N_0
  obtain ⟨a, j, rfl⟩ : ∃ (a : Fin 1) (j : Fin 1024), y = ix2 a j := ⟨y 0, y 1, by ext a; fin_cases a <;> rfl⟩
  obtain ⟨b, s, rfl⟩ : ∃ (b : Fin 1) (s : Fin 1024), z = ix2 b s := ⟨z 0, z 1, by ext a; fin_cases a <;> rfl⟩
  obtain rfl : s = j := Fin.ext e1
  obtain rfl : b = a := Subsingleton.elim _ _
  rw [Pipeline.eq_sum_fin_of_reset_step_apply_of_flush (M := EReal) (fun n h => (outsAt0 m c n h).2) 16 (fun _ => 0)
    (fun t y => gpart m c t y) (fun t h y => point_A m c t h y) (fun t h y => point_B m c t h y) t hm _, zero_add]
  exact sum_parts m c b s _ (fun s => by show 16 * (t.val / 16) + s.val = s.val; omega)

/-- The rows' gradient after the last point. -/
theorem final_rows : (dats m 0 c).arrAt 4 (cfgs 0).N = Reference36Ideal.Read.val_main_v36 (F := Ideal) (m (c, main_arg0)) (m (c, main_arg1)) (m (c, main_arg2)) (m (c, main_arg3)) := by
  refine (dats m 0 c).arrAt_eq_of_covers 4 _ (by decide +kernel) fun t hf y => ?_
  blk_simp
  rw [after0_4]
  exact tile4 m c t y _ (by blk_simp [idx t]) (by blk_simp [idx t])

/-- The gain's gradient after the last point. -/
theorem final_gain : (dats m 0 c).arrAt 5 (cfgs 0).N = Reference36Ideal.Read.val_main_v37 (F := Ideal) (m (c, main_arg0)) (m (c, main_arg1)) := by
  refine (dats m 0 c).arrAt_eq_of_covers 5 _ (by decide +kernel) fun t hf y => ?_
  blk_simp
  rw [after0_5]
  exact tile5 m c t ((flush0_5 t).mp hf) y _ (by blk_simp [idx t])

end Cert.Kernel36Ideal.Prod
end
-- ==== Proof.AttnOutSum.lean ====
module
public import Idealize.ShloMosaic.Lib.Pipeline.ValueKit
public import Idealize.ShloMosaic.Lib.StableHlo.RunRead
public import proofs.«01_k».proof.Proof.Gen.Kernel37Ideal.Value
public import proofs.«01_k».proof.Proof.Gen.Reference37Ideal.Read
public import proofs.«01_k».proof.Proof.Gen.On_summed37

@[expose] public section
set_option maxRecDepth 16384
noncomputable section

/-! The sum over the chips of the gradient of the attention's output weights, block by block. -/

namespace Cert.Kernel37Ideal.Prod
open Idealize Idealize.ShloMosaic Idealize.ShloMosaic.TcCoe Idealize.SL.Sem Cert.Kernel37Ideal Cert.Kernel37Ideal.Gen

variable (m : (ℓ : Loc nD τ sig) → Buf (Elt Ideal) ℓ) (c : Dev nD)

/-- The blocks that the windows stage at a point. -/
theorem idx : ∀ t : Fin cfg0.N, win0_0.index t = ![t.val, 0, 0, 0] ∧ win0_1.index t = ![0, t.val, 0, 0]
    ∧ win0_2.index t = ![1, t.val, 0, 0] ∧ win0_3.index t = ![2, t.val, 0, 0] ∧ win0_4.index t = ![t.val, 0, 0] :=
  (by decide +kernel : ∀ t : Fin grid0.N, _)

/-- The host hands the two arguments over as they are. -/
theorem host_eq : (V m c main_v0 : S2x4x512x256.Idx → EReal) = m (c, main_arg0)
    ∧ (V m c main_v1 : S3x2x512x256.Idx → EReal) = m (c, main_arg1) := by
  constructor <;> unfold V <;> after_reads_simp <;> try rfl

/-- What the chip has itself. -/
def own (h : Fin 2) (i : Fin 512) (j : Fin 256) : EReal := (m (c, main_arg0) : FVec Ideal S2x4x512x256 .f32) (ix4 h 0 i j)

/-- What it got from another chip. -/
def got (k : Fin 3) (h : Fin 2) (i : Fin 512) (j : Fin 256) : EReal := (m (c, main_arg1) : FVec Ideal S3x2x512x256 .f32) (ix4 k h i j)

/-- The blocks, read from the arguments. -/
theorem blk_at (t : Fin cfg0.N) (p : Fin 512) (j : Fin 256) (h : Fin 2) (i : Fin 512) (eh : h.val = t.val) (ei : i.val = p) :
    iblk m c 0 t (ix4 0 0 p j) = own m c h i j ∧ iblk m c 1 t (ix4 0 0 p j) = got m c 0 h i j
      ∧ iblk m c 2 t (ix4 0 0 p j) = got m c 1 h i j ∧ iblk m c 3 t (ix4 0 0 p j) = got m c 2 h i j := by
  obtain ⟨h0, h1⟩ := host_eq m c
  refine ⟨Eq.trans ?_ (congrFun h0 _), Eq.trans ?_ (congrFun h1 _), Eq.trans ?_ (congrFun h1 _), Eq.trans ?_ (congrFun h1 _)⟩ <;>
    blk_ext [iblk, idx t]

/-- What a point stores. -/
theorem out_at (a b d e : FVec Ideal S1x1x512x256 .bf16) (z : Fin 1) (p : Fin 512) (j : Fin 256) :
    k0_pay1 (F := Ideal) a b d e (ix3 z p j) = (a (ix4 0 0 p j) + b (ix4 0 0 p j) + d (ix4 0 0 p j) + e (ix4 0 0 p j) : EReal) := by
  delta k0_pay1
  pointwise []

/-- The reference's sum. -/
theorem ref_sum (h : Fin 2) (i : Fin 512) (j : Fin 256) :
    Reference37Ideal.Read.val_main_v10 (F := Ideal) (m (c, main_arg0)) (m (c, main_arg1)) (ix3 h i j)
      = own m c h i j + got m c 0 h i j + got m c 1 h i j + got m c 2 h i j := by
  delta Reference37Ideal.Read.val_main_v10 Reference37Ideal.Read.val_main_v9 Reference37Ideal.Read.val_main_v8 Reference37Ideal.Read.val_main_v7 Reference37Ideal.Read.val_main_v6 Reference37Ideal.Read.val_main_v5 Reference37Ideal.Read.val_main_v4 Reference37Ideal.Read.val_main_v3 Reference37Ideal.Read.val_main_v2 Reference37Ideal.Read.val_main_v1 Reference37Ideal.Read.val_main_v0 own got
  pointwise []
  try rfl

/-- Its result in the layers that the core sums. -/
theorem ref_at (x : FVec Ideal S2x4x512x256 .f32) (y : FVec Ideal S3x2x512x256 .f32) (g : Fin 4) (h : Fin 2) (e : h.val = g.val) (i : Fin 512) (j : Fin 256) :
    Reference37Ideal.Read.val_main_v12 (F := Ideal) x y (ix3 g i j) = Reference37Ideal.Read.val_main_v10 (F := Ideal) x y (ix3 h i j) := by
  delta Reference37Ideal.Read.val_main_v12
  generalize Reference37Ideal.Read.val_main_v10 (F := Ideal) x y = p
  obtain ⟨g, hg⟩ := g
  obtain ⟨h, hh⟩ := h
  obtain rfl : h = g := e
  pointwise []
  exact dif_pos hh

/-- A point's block is the reference's. -/
theorem tile (t : Fin cfg0.N) (y : S1x512x256.Idx) (z : S4x512x256.Idx) (e0 : (z 0).val = t.val) (e1 : (z 1).val = (y 1).val)
    (e2 : (z 2).val = (y 2).val) : out0_4 (iblk m c 0 t) (iblk m c 1 t) (iblk m c 2 t) (iblk m c 3 t) y
      = Reference37Ideal.Read.val_main_v12 (F := Ideal) (m (c, main_arg0)) (m (c, main_arg1)) z := by
  obtain ⟨q, p, j, rfl⟩ : ∃ (q : Fin 1) (p : Fin 512) (j : Fin 256), y = ix3 q p j := ⟨y 0, y 1, y 2, by ext a; fin_cases a <;> rfl⟩
  obtain ⟨g, i, s, rfl⟩ : ∃ (g : Fin 4) (i : Fin 512) (s : Fin 256), z = ix3 g i s := ⟨z 0, z 1, z 2, by ext a; fin_cases a <;> rfl⟩
  obtain rfl : s = j := Fin.ext e2
  have hg : g.val < 2 := by
    have e := e0
    have l : t.val < 2 := t.isLt
    change g.val = _ at e
    omega
  obtain ⟨b0, b1, b2, b3⟩ := blk_at m c t p s ⟨g.val, hg⟩ i e0 e1
  unfold out0_4
  rw [View.canon_cons_unit_zero (by decide), View.ld_unit_zero (by decide), View.ld_unit_zero (by decide), View.ld_unit_zero (by decide),
    View.ld_unit_zero (by decide)]
  refine (out_at _ _ _ _ q p s).trans ?_
  rw [b0, b1, b2, b3]
  exact ((ref_at _ _ g ⟨g.val, hg⟩ rfl i s).trans (ref_sum m c _ i s)).symm

/-- The array after the last point, in the layers that the core sums. -/
theorem final (i : S4x512x256.Idx) (hi : (i 0).val < 2) : (dats m 0 c).arrAt 4 (cfgs 0).N i
    = Reference37Ideal.Read.val_main_v12 (F := Ideal) (m (c, main_arg0)) (m (c, main_arg1)) i := by
  refine ((dats m 0 c).arrAt_apply_of_coversWhere 4 (P := fun i : S4x512x256.Idx => (i 0).val < 2)
    (Reference37Ideal.Read.val_main_v12 (F := Ideal) (m (c, main_arg0)) (m (c, main_arg1))) (fun β => β (0 : Fin 3) < 2) (by decide +kernel)
    (fun t hf y => ?_) (fun j => ?_) i).trans (if_pos hi)
  · blk_simp
    rw [after0_4]
    exact tile m c t y _ (by blk_simp [idx t]) (by blk_simp [idx t]) (by blk_simp [idx t])
  · blk_simp [Pipeline.Window.cell_apply, Nat.div_one]

/-- The mask selects the layers that the core sums. -/
theorem mask_iff [On_summed37.Facts] (x : FVec Ideal S2x4x512x256 .f32) (y : FVec Ideal S3x2x512x256 .f32) (i : S4x512x256.Idx) :
    On_summed37.fn x y i = 1#1 ↔ (i 0).val < 2 := by
  have key : ∀ r < 4, IntOp.cmpi .slt (BitVec.ofNat 32 r) 2#32 = 1#1 ↔ r < 2 := by decide
  show IntOp.cmpi .slt (BitVec.ofNat 32 (i 0 : Nat)) 2#32 = 1#1 ↔ _
  exact key _ (i 0).isLt

end Cert.Kernel37Ideal.Prod
end
-- ==== Proof.InSum.lean ====
module
public import Idealize.ShloMosaic.Lib.Pipeline.ValueKit
public import Idealize.ShloMosaic.Lib.StableHlo.RunRead
public import proofs.«01_k».proof.Proof.Gen.Kernel38Ideal.Value
public import proofs.«01_k».proof.Proof.Gen.Reference38Ideal.Read
public import proofs.«01_k».proof.Proof.Gen.On_summed38

@[expose] public section
set_option maxRecDepth 16384
noncomputable section

/-! The sum over the chips of the gradient of the mixer's input weights, block by block. -/

namespace Cert.Kernel38Ideal.Prod
open Idealize Idealize.ShloMosaic Idealize.ShloMosaic.TcCoe Idealize.SL.Sem Cert.Kernel38Ideal Cert.Kernel38Ideal.Gen

variable (m : (ℓ : Loc nD τ sig) → Buf (Elt Ideal) ℓ) (c : Dev nD)

/-- The blocks that the windows stage at a point. -/
theorem idx : ∀ t : Fin cfg0.N, win0_0.index t = ![t.val / 2, 0, t.val % 2, 0] ∧ win0_1.index t = ![0, t.val / 2, t.val % 2, 0]
    ∧ win0_2.index t = ![1, t.val / 2, t.val % 2, 0] ∧ win0_3.index t = ![2, t.val / 2, t.val % 2, 0] ∧ win0_4.index t = ![t.val / 2, t.val % 2, 0] :=
  (by decide +kernel : ∀ t : Fin grid0.N, _)

/-- The host hands the two arguments over as they are. -/
theorem host_eq : (V m c main_v0 : S2x4x1024x1152.Idx → EReal) = m (c, main_arg0)
    ∧ (V m c main_v1 : S3x2x1024x1152.Idx → EReal) = m (c, main_arg1) := by
  constructor <;> unfold V <;> after_reads_simp <;> try rfl

/-- What the chip has itself. -/
def own (h : Fin 2) (i : Fin 1024) (j : Fin 1152) : EReal := (m (c, main_arg0) : FVec Ideal S2x4x1024x1152 .f32) (ix4 h 0 i j)

/-- What it got from another chip. -/
def got (k : Fin 3) (h : Fin 2) (i : Fin 1024) (j : Fin 1152) : EReal := (m (c, main_arg1) : FVec Ideal S3x2x1024x1152 .f32) (ix4 k h i j)

/-- The blocks, read from the arguments. -/
theorem blk_at (t : Fin cfg0.N) (p : Fin 512) (j : Fin 1152) (h : Fin 2) (i : Fin 1024) (eh : h.val = t.val / 2) (ei : i.val = t.val % 2 * 512 + p) :
    iblk m c 0 t (ix4 0 0 p j) = own m c h i j ∧ iblk m c 1 t (ix4 0 0 p j) = got m c 0 h i j
      ∧ iblk m c 2 t (ix4 0 0 p j) = got m c 1 h i j ∧ iblk m c 3 t (ix4 0 0 p j) = got m c 2 h i j := by
  obtain ⟨h0, h1⟩ := host_eq m c
  refine ⟨Eq.trans ?_ (congrFun h0 _), Eq.trans ?_ (congrFun h1 _), Eq.trans ?_ (congrFun h1 _), Eq.trans ?_ (congrFun h1 _)⟩ <;>
    blk_ext [iblk, idx t]

/-- What a point stores. -/
theorem out_at (a b d e : FVec Ideal S1x1x512x1152 .bf16) (z : Fin 1) (p : Fin 512) (j : Fin 1152) :
    k0_pay1 (F := Ideal) a b d e (ix3 z p j) = (a (ix4 0 0 p j) + b (ix4 0 0 p j) + d (ix4 0 0 p j) + e (ix4 0 0 p j) : EReal) := by
  delta k0_pay1
  pointwise []

/-- The reference's sum. -/
theorem ref_sum (h : Fin 2) (i : Fin 1024) (j : Fin 1152) :
    Reference38Ideal.Read.val_main_v10 (F := Ideal) (m (c, main_arg0)) (m (c, main_arg1)) (ix3 h i j)
      = own m c h i j + got m c 0 h i j + got m c 1 h i j + got m c 2 h i j := by
  delta Reference38Ideal.Read.val_main_v10 Reference38Ideal.Read.val_main_v9 Reference38Ideal.Read.val_main_v8 Reference38Ideal.Read.val_main_v7 Reference38Ideal.Read.val_main_v6 Reference38Ideal.Read.val_main_v5 Reference38Ideal.Read.val_main_v4 Reference38Ideal.Read.val_main_v3 Reference38Ideal.Read.val_main_v2 Reference38Ideal.Read.val_main_v1 Reference38Ideal.Read.val_main_v0 own got
  pointwise []
  try rfl

/-- Its result in the layers that the core sums. -/
theorem ref_at (x : FVec Ideal S2x4x1024x1152 .f32) (y : FVec Ideal S3x2x1024x1152 .f32) (g : Fin 4) (h : Fin 2) (e : h.val = g.val) (i : Fin 1024) (j : Fin 1152) :
    Reference38Ideal.Read.val_main_v12 (F := Ideal) x y (ix3 g i j) = Reference38Ideal.Read.val_main_v10 (F := Ideal) x y (ix3 h i j) := by
  delta Reference38Ideal.Read.val_main_v12
  generalize Reference38Ideal.Read.val_main_v10 (F := Ideal) x y = p
  obtain ⟨g, hg⟩ := g
  obtain ⟨h, hh⟩ := h
  obtain rfl : h = g := e
  pointwise []
  exact dif_pos hh

/-- A point's block is the reference's. -/
theorem tile (t : Fin cfg0.N) (y : S1x512x1152.Idx) (z : S4x1024x1152.Idx) (e0 : (z 0).val = t.val / 2) (e1 : (z 1).val = t.val % 2 * 512 + (y 1).val)
    (e2 : (z 2).val = (y 2).val) : out0_4 (iblk m c 0 t) (iblk m c 1 t) (iblk m c 2 t) (iblk m c 3 t) y
      = Reference38Ideal.Read.val_main_v12 (F := Ideal) (m (c, main_arg0)) (m (c, main_arg1)) z := by
  obtain ⟨q, p, j, rfl⟩ : ∃ (q : Fin 1) (p : Fin 512) (j : Fin 1152), y = ix3 q p j := ⟨y 0, y 1, y 2, by ext a; fin_cases a <;> rfl⟩
  obtain ⟨g, i, s, rfl⟩ : ∃ (g : Fin 4) (i : Fin 1024) (s : Fin 1152), z = ix3 g i s := ⟨z 0, z 1, z 2, by ext a; fin_cases a <;> rfl⟩
  obtain rfl : s = j := Fin.ext e2
  have hg : g.val < 2 := by
    have e := e0
    have l : t.val < 4 := t.isLt
    change g.val = _ at e
    omega
  obtain ⟨b0, b1, b2, b3⟩ := blk_at m c t p s ⟨g.val, hg⟩ i e0 e1
  unfold out0_4
  rw [View.canon_cons_unit_zero (by decide), View.ld_unit_zero (by decide), View.ld_unit_zero (by decide), View.ld_unit_zero (by decide),
    View.ld_unit_zero (by decide)]
  refine (out_at _ _ _ _ q p s).trans ?_
  rw [b0, b1, b2, b3]
  exact ((ref_at _ _ g ⟨g.val, hg⟩ rfl i s).trans (ref_sum m c _ i s)).symm

/-- The array after the last point, in the layers that the core sums. -/
theorem final (i : S4x1024x1152.Idx) (hi : (i 0).val < 2) : (dats m 0 c).arrAt 4 (cfgs 0).N i
    = Reference38Ideal.Read.val_main_v12 (F := Ideal) (m (c, main_arg0)) (m (c, main_arg1)) i := by
  refine ((dats m 0 c).arrAt_apply_of_coversWhere 4 (P := fun i : S4x1024x1152.Idx => (i 0).val < 2)
    (Reference38Ideal.Read.val_main_v12 (F := Ideal) (m (c, main_arg0)) (m (c, main_arg1))) (fun β => β (0 : Fin 3) < 2) (by decide +kernel)
    (fun t hf y => ?_) (fun j => ?_) i).trans (if_pos hi)
  · blk_simp
    rw [after0_4]
    exact tile m c t y _ (by blk_simp [idx t]) (by blk_simp [idx t]) (by blk_simp [idx t])
  · blk_simp [Pipeline.Window.cell_apply, Nat.div_one]

/-- The mask selects the layers that the core sums. -/
theorem mask_iff [On_summed38.Facts] (x : FVec Ideal S2x4x1024x1152 .f32) (y : FVec Ideal S3x2x1024x1152 .f32) (i : S4x1024x1152.Idx) :
    On_summed38.fn x y i = 1#1 ↔ (i 0).val < 2 := by
  have key : ∀ r < 4, IntOp.cmpi .slt (BitVec.ofNat 32 r) 2#32 = 1#1 ↔ r < 2 := by decide
  show IntOp.cmpi .slt (BitVec.ofNat 32 (i 0 : Nat)) 2#32 = 1#1 ↔ _
  exact key _ (i 0).isLt

end Cert.Kernel38Ideal.Prod
end
-- ==== Proof.FfnInSum.lean ====
module
public import Idealize.ShloMosaic.Lib.Pipeline.ValueKit
public import Idealize.ShloMosaic.Lib.StableHlo.RunRead
public import proofs.«01_k».proof.Proof.Gen.Kernel39Ideal.Value
public import proofs.«01_k».proof.Proof.Gen.Reference39Ideal.Read
public import proofs.«01_k».proof.Proof.Gen.On_summed39

@[expose] public section
set_option maxRecDepth 16384
noncomputable section

/-! The sum over the chips of the gradient of the SwiGLU's input weights, block by block. -/

namespace Cert.Kernel39Ideal.Prod
open Idealize Idealize.ShloMosaic Idealize.ShloMosaic.TcCoe Idealize.SL.Sem Cert.Kernel39Ideal Cert.Kernel39Ideal.Gen

variable (m : (ℓ : Loc nD τ sig) → Buf (Elt Ideal) ℓ) (c : Dev nD)

/-- The blocks that the windows stage at a point. -/
theorem idx : ∀ t : Fin cfg0.N, win0_0.index t = ![t.val / 2, 0, t.val % 2, 0] ∧ win0_1.index t = ![0, t.val / 2, t.val % 2, 0]
    ∧ win0_2.index t = ![1, t.val / 2, t.val % 2, 0] ∧ win0_3.index t = ![2, t.val / 2, t.val % 2, 0] ∧ win0_4.index t = ![t.val / 2, t.val % 2, 0] :=
  (by decide +kernel : ∀ t : Fin grid0.N, _)

/-- The host hands the two arguments over as they are. -/
theorem host_eq : (V m c main_v0 : S2x4x1024x1408.Idx → EReal) = m (c, main_arg0)
    ∧ (V m c main_v1 : S3x2x1024x1408.Idx → EReal) = m (c, main_arg1) := by
  constructor <;> unfold V <;> after_reads_simp <;> try rfl

/-- What the chip has itself. -/
def own (h : Fin 2) (i : Fin 1024) (j : Fin 1408) : EReal := (m (c, main_arg0) : FVec Ideal S2x4x1024x1408 .f32) (ix4 h 0 i j)

/-- What it got from another chip. -/
def got (k : Fin 3) (h : Fin 2) (i : Fin 1024) (j : Fin 1408) : EReal := (m (c, main_arg1) : FVec Ideal S3x2x1024x1408 .f32) (ix4 k h i j)

/-- The blocks, read from the arguments. -/
theorem blk_at (t : Fin cfg0.N) (p : Fin 512) (j : Fin 1408) (h : Fin 2) (i : Fin 1024) (eh : h.val = t.val / 2) (ei : i.val = t.val % 2 * 512 + p) :
    iblk m c 0 t (ix4 0 0 p j) = own m c h i j ∧ iblk m c 1 t (ix4 0 0 p j) = got m c 0 h i j
      ∧ iblk m c 2 t (ix4 0 0 p j) = got m c 1 h i j ∧ iblk m c 3 t (ix4 0 0 p j) = got m c 2 h i j := by
  obtain ⟨h0, h1⟩ := host_eq m c
  refine ⟨Eq.trans ?_ (congrFun h0 _), Eq.trans ?_ (congrFun h1 _), Eq.trans ?_ (congrFun h1 _), Eq.trans ?_ (congrFun h1 _)⟩ <;>
    blk_ext [iblk, idx t]

/-- What a point stores. -/
theorem out_at (a b d e : FVec Ideal S1x1x512x1408 .bf16) (z : Fin 1) (p : Fin 512) (j : Fin 1408) :
    k0_pay1 (F := Ideal) a b d e (ix3 z p j) = (a (ix4 0 0 p j) + b (ix4 0 0 p j) + d (ix4 0 0 p j) + e (ix4 0 0 p j) : EReal) := by
  delta k0_pay1
  pointwise []

/-- The reference's sum. -/
theorem ref_sum (h : Fin 2) (i : Fin 1024) (j : Fin 1408) :
    Reference39Ideal.Read.val_main_v10 (F := Ideal) (m (c, main_arg0)) (m (c, main_arg1)) (ix3 h i j)
      = own m c h i j + got m c 0 h i j + got m c 1 h i j + got m c 2 h i j := by
  delta Reference39Ideal.Read.val_main_v10 Reference39Ideal.Read.val_main_v9 Reference39Ideal.Read.val_main_v8 Reference39Ideal.Read.val_main_v7 Reference39Ideal.Read.val_main_v6 Reference39Ideal.Read.val_main_v5 Reference39Ideal.Read.val_main_v4 Reference39Ideal.Read.val_main_v3 Reference39Ideal.Read.val_main_v2 Reference39Ideal.Read.val_main_v1 Reference39Ideal.Read.val_main_v0 own got
  pointwise []
  try rfl

/-- Its result in the layers that the core sums. -/
theorem ref_at (x : FVec Ideal S2x4x1024x1408 .f32) (y : FVec Ideal S3x2x1024x1408 .f32) (g : Fin 4) (h : Fin 2) (e : h.val = g.val) (i : Fin 1024) (j : Fin 1408) :
    Reference39Ideal.Read.val_main_v12 (F := Ideal) x y (ix3 g i j) = Reference39Ideal.Read.val_main_v10 (F := Ideal) x y (ix3 h i j) := by
  delta Reference39Ideal.Read.val_main_v12
  generalize Reference39Ideal.Read.val_main_v10 (F := Ideal) x y = p
  obtain ⟨g, hg⟩ := g
  obtain ⟨h, hh⟩ := h
  obtain rfl : h = g := e
  pointwise []
  exact dif_pos hh

/-- A point's block is the reference's. -/
theorem tile (t : Fin cfg0.N) (y : S1x512x1408.Idx) (z : S4x1024x1408.Idx) (e0 : (z 0).val = t.val / 2) (e1 : (z 1).val = t.val % 2 * 512 + (y 1).val)
    (e2 : (z 2).val = (y 2).val) : out0_4 (iblk m c 0 t) (iblk m c 1 t) (iblk m c 2 t) (iblk m c 3 t) y
      = Reference39Ideal.Read.val_main_v12 (F := Ideal) (m (c, main_arg0)) (m (c, main_arg1)) z := by
  obtain ⟨q, p, j, rfl⟩ : ∃ (q : Fin 1) (p : Fin 512) (j : Fin 1408), y = ix3 q p j := ⟨y 0, y 1, y 2, by ext a; fin_cases a <;> rfl⟩
  obtain ⟨g, i, s, rfl⟩ : ∃ (g : Fin 4) (i : Fin 1024) (s : Fin 1408), z = ix3 g i s := ⟨z 0, z 1, z 2, by ext a; fin_cases a <;> rfl⟩
  obtain rfl : s = j := Fin.ext e2
  have hg : g.val < 2 := by
    have e := e0
    have l : t.val < 4 := t.isLt
    change g.val = _ at e
    omega
  obtain ⟨b0, b1, b2, b3⟩ := blk_at m c t p s ⟨g.val, hg⟩ i e0 e1
  unfold out0_4
  rw [View.canon_cons_unit_zero (by decide), View.ld_unit_zero (by decide), View.ld_unit_zero (by decide), View.ld_unit_zero (by decide),
    View.ld_unit_zero (by decide)]
  refine (out_at _ _ _ _ q p s).trans ?_
  rw [b0, b1, b2, b3]
  exact ((ref_at _ _ g ⟨g.val, hg⟩ rfl i s).trans (ref_sum m c _ i s)).symm

/-- The array after the last point, in the layers that the core sums. -/
theorem final (i : S4x1024x1408.Idx) (hi : (i 0).val < 2) : (dats m 0 c).arrAt 4 (cfgs 0).N i
    = Reference39Ideal.Read.val_main_v12 (F := Ideal) (m (c, main_arg0)) (m (c, main_arg1)) i := by
  refine ((dats m 0 c).arrAt_apply_of_coversWhere 4 (P := fun i : S4x1024x1408.Idx => (i 0).val < 2)
    (Reference39Ideal.Read.val_main_v12 (F := Ideal) (m (c, main_arg0)) (m (c, main_arg1))) (fun β => β (0 : Fin 3) < 2) (by decide +kernel)
    (fun t hf y => ?_) (fun j => ?_) i).trans (if_pos hi)
  · blk_simp
    rw [after0_4]
    exact tile m c t y _ (by blk_simp [idx t]) (by blk_simp [idx t]) (by blk_simp [idx t])
  · blk_simp [Pipeline.Window.cell_apply, Nat.div_one]

/-- The mask selects the layers that the core sums. -/
theorem mask_iff [On_summed39.Facts] (x : FVec Ideal S2x4x1024x1408 .f32) (y : FVec Ideal S3x2x1024x1408 .f32) (i : S4x1024x1408.Idx) :
    On_summed39.fn x y i = 1#1 ↔ (i 0).val < 2 := by
  have key : ∀ r < 4, IntOp.cmpi .slt (BitVec.ofNat 32 r) 2#32 = 1#1 ↔ r < 2 := by decide
  show IntOp.cmpi .slt (BitVec.ofNat 32 (i 0 : Nat)) 2#32 = 1#1 ↔ _
  exact key _ (i 0).isLt

end Cert.Kernel39Ideal.Prod
end
-- ==== Proof.FfnOutSum.lean ====
module
public import Idealize.ShloMosaic.Lib.Pipeline.ValueKit
public import Idealize.ShloMosaic.Lib.StableHlo.RunRead
public import proofs.«01_k».proof.Proof.Gen.Kernel40Ideal.Value
public import proofs.«01_k».proof.Proof.Gen.Reference40Ideal.Read
public import proofs.«01_k».proof.Proof.Gen.On_summed40

@[expose] public section
set_option maxRecDepth 16384
noncomputable section

/-! The sum over the chips of the gradient of the SwiGLU's output weights, block by block. -/

namespace Cert.Kernel40Ideal.Prod
open Idealize Idealize.ShloMosaic Idealize.ShloMosaic.TcCoe Idealize.SL.Sem Cert.Kernel40Ideal Cert.Kernel40Ideal.Gen

variable (m : (ℓ : Loc nD τ sig) → Buf (Elt Ideal) ℓ) (c : Dev nD)

/-- The blocks that the windows stage at a point. -/
theorem idx : ∀ t : Fin cfg0.N, win0_0.index t = ![t.val / 2, 0, t.val % 2, 0] ∧ win0_1.index t = ![0, t.val / 2, t.val % 2, 0]
    ∧ win0_2.index t = ![1, t.val / 2, t.val % 2, 0] ∧ win0_3.index t = ![2, t.val / 2, t.val % 2, 0] ∧ win0_4.index t = ![t.val / 2, t.val % 2, 0] :=
  (by decide +kernel : ∀ t : Fin grid0.N, _)

/-- The host hands the two arguments over as they are. -/
theorem host_eq : (V m c main_v0 : S2x4x704x1024.Idx → EReal) = m (c, main_arg0)
    ∧ (V m c main_v1 : S3x2x704x1024.Idx → EReal) = m (c, main_arg1) := by
  constructor <;> unfold V <;> after_reads_simp <;> try rfl

/-- What the chip has itself. -/
def own (h : Fin 2) (i : Fin 704) (j : Fin 1024) : EReal := (m (c, main_arg0) : FVec Ideal S2x4x704x1024 .f32) (ix4 h 0 i j)

/-- What it got from another chip. -/
def got (k : Fin 3) (h : Fin 2) (i : Fin 704) (j : Fin 1024) : EReal := (m (c, main_arg1) : FVec Ideal S3x2x704x1024 .f32) (ix4 k h i j)

/-- The blocks, read from the arguments. -/
theorem blk_at (t : Fin cfg0.N) (p : Fin 352) (j : Fin 1024) (h : Fin 2) (i : Fin 704) (eh : h.val = t.val / 2) (ei : i.val = t.val % 2 * 352 + p) :
    iblk m c 0 t (ix4 0 0 p j) = own m c h i j ∧ iblk m c 1 t (ix4 0 0 p j) = got m c 0 h i j
      ∧ iblk m c 2 t (ix4 0 0 p j) = got m c 1 h i j ∧ iblk m c 3 t (ix4 0 0 p j) = got m c 2 h i j := by
  obtain ⟨h0, h1⟩ := host_eq m c
  refine ⟨Eq.trans ?_ (congrFun h0 _), Eq.trans ?_ (congrFun h1 _), Eq.trans ?_ (congrFun h1 _), Eq.trans ?_ (congrFun h1 _)⟩ <;>
    blk_ext [iblk, idx t]

/-- What a point stores. -/
theorem out_at (a b d e : FVec Ideal S1x1x352x1024 .bf16) (z : Fin 1) (p : Fin 352) (j : Fin 1024) :
    k0_pay1 (F := Ideal) a b d e (ix3 z p j) = (a (ix4 0 0 p j) + b (ix4 0 0 p j) + d (ix4 0 0 p j) + e (ix4 0 0 p j) : EReal) := by
  delta k0_pay1
  pointwise []

/-- The reference's sum. -/
theorem ref_sum (h : Fin 2) (i : Fin 704) (j : Fin 1024) :
    Reference40Ideal.Read.val_main_v10 (F := Ideal) (m (c, main_arg0)) (m (c, main_arg1)) (ix3 h i j)
      = own m c h i j + got m c 0 h i j + got m c 1 h i j + got m c 2 h i j := by
  delta Reference40Ideal.Read.val_main_v10 Reference40Ideal.Read.val_main_v9 Reference40Ideal.Read.val_main_v8 Reference40Ideal.Read.val_main_v7 Reference40Ideal.Read.val_main_v6 Reference40Ideal.Read.val_main_v5 Reference40Ideal.Read.val_main_v4 Reference40Ideal.Read.val_main_v3 Reference40Ideal.Read.val_main_v2 Reference40Ideal.Read.val_main_v1 Reference40Ideal.Read.val_main_v0 own got
  pointwise []
  try rfl

/-- Its result in the layers that the core sums. -/
theorem ref_at (x : FVec Ideal S2x4x704x1024 .f32) (y : FVec Ideal S3x2x704x1024 .f32) (g : Fin 4) (h : Fin 2) (e : h.val = g.val) (i : Fin 704) (j : Fin 1024) :
    Reference40Ideal.Read.val_main_v12 (F := Ideal) x y (ix3 g i j) = Reference40Ideal.Read.val_main_v10 (F := Ideal) x y (ix3 h i j) := by
  delta Reference40Ideal.Read.val_main_v12
  generalize Reference40Ideal.Read.val_main_v10 (F := Ideal) x y = p
  obtain ⟨g, hg⟩ := g
  obtain ⟨h, hh⟩ := h
  obtain rfl : h = g := e
  pointwise []
  exact dif_pos hh

/-- A point's block is the reference's. -/
theorem tile (t : Fin cfg0.N) (y : S1x352x1024.Idx) (z : S4x704x1024.Idx) (e0 : (z 0).val = t.val / 2) (e1 : (z 1).val = t.val % 2 * 352 + (y 1).val)
    (e2 : (z 2).val = (y 2).val) : out0_4 (iblk m c 0 t) (iblk m c 1 t) (iblk m c 2 t) (iblk m c 3 t) y
      = Reference40Ideal.Read.val_main_v12 (F := Ideal) (m (c, main_arg0)) (m (c, main_arg1)) z := by
  obtain ⟨q, p, j, rfl⟩ : ∃ (q : Fin 1) (p : Fin 352) (j : Fin 1024), y = ix3 q p j := ⟨y 0, y 1, y 2, by ext a; fin_cases a <;> rfl⟩
  obtain ⟨g, i, s, rfl⟩ : ∃ (g : Fin 4) (i : Fin 704) (s : Fin 1024), z = ix3 g i s := ⟨z 0, z 1, z 2, by ext a; fin_cases a <;> rfl⟩
  obtain rfl : s = j := Fin.ext e2
  have hg : g.val < 2 := by
    have e := e0
    have l : t.val < 4 := t.isLt
    change g.val = _ at e
    omega
  obtain ⟨b0, b1, b2, b3⟩ := blk_at m c t p s ⟨g.val, hg⟩ i e0 e1
  unfold out0_4
  rw [View.canon_cons_unit_zero (by decide), View.ld_unit_zero (by decide), View.ld_unit_zero (by decide), View.ld_unit_zero (by decide),
    View.ld_unit_zero (by decide)]
  refine (out_at _ _ _ _ q p s).trans ?_
  rw [b0, b1, b2, b3]
  exact ((ref_at _ _ g ⟨g.val, hg⟩ rfl i s).trans (ref_sum m c _ i s)).symm

/-- The array after the last point, in the layers that the core sums. -/
theorem final (i : S4x704x1024.Idx) (hi : (i 0).val < 2) : (dats m 0 c).arrAt 4 (cfgs 0).N i
    = Reference40Ideal.Read.val_main_v12 (F := Ideal) (m (c, main_arg0)) (m (c, main_arg1)) i := by
  refine ((dats m 0 c).arrAt_apply_of_coversWhere 4 (P := fun i : S4x704x1024.Idx => (i 0).val < 2)
    (Reference40Ideal.Read.val_main_v12 (F := Ideal) (m (c, main_arg0)) (m (c, main_arg1))) (fun β => β (0 : Fin 3) < 2) (by decide +kernel)
    (fun t hf y => ?_) (fun j => ?_) i).trans (if_pos hi)
  · blk_simp
    rw [after0_4]
    exact tile m c t y _ (by blk_simp [idx t]) (by blk_simp [idx t]) (by blk_simp [idx t])
  · blk_simp [Pipeline.Window.cell_apply, Nat.div_one]

/-- The mask selects the layers that the core sums. -/
theorem mask_iff [On_summed40.Facts] (x : FVec Ideal S2x4x704x1024 .f32) (y : FVec Ideal S3x2x704x1024 .f32) (i : S4x704x1024.Idx) :
    On_summed40.fn x y i = 1#1 ↔ (i 0).val < 2 := by
  have key : ∀ r < 4, IntOp.cmpi .slt (BitVec.ofNat 32 r) 2#32 = 1#1 ↔ r < 2 := by decide
  show IntOp.cmpi .slt (BitVec.ofNat 32 (i 0 : Nat)) 2#32 = 1#1 ↔ _
  exact key _ (i 0).isLt

end Cert.Kernel40Ideal.Prod
end
-- ==== Proof.MixSum.lean ====
module
public import Idealize.ShloMosaic.Lib.Pipeline.ValueKit
public import Idealize.ShloMosaic.Lib.StableHlo.RunRead
public import proofs.«01_k».proof.Proof.Gen.Kernel41Ideal.Value
public import proofs.«01_k».proof.Proof.Gen.Reference41Ideal.Read
public import proofs.«01_k».proof.Proof.Gen.On_summed41

@[expose] public section
set_option maxRecDepth 16384
noncomputable section

/-! The sum over the chips of the gradient of the mixer's output weights, and of the per-layer embedding's gate weights, block by block. -/

namespace Cert.Kernel41Ideal.Prod
open Idealize Idealize.ShloMosaic Idealize.ShloMosaic.TcCoe Idealize.SL.Sem Cert.Kernel41Ideal Cert.Kernel41Ideal.Gen

variable (m : (ℓ : Loc nD τ sig) → Buf (Elt Ideal) ℓ) (c : Dev nD)

/-- The blocks that the windows stage at a point. -/
theorem idx : ∀ t : Fin cfg0.N, win0_0.index t = ![t.val, 0, 0, 0] ∧ win0_1.index t = ![0, t.val, 0, 0]
    ∧ win0_2.index t = ![1, t.val, 0, 0] ∧ win0_3.index t = ![2, t.val, 0, 0] ∧ win0_4.index t = ![t.val, 0, 0] :=
  (by decide +kernel : ∀ t : Fin grid0.N, _)

/-- The host hands the two arguments over as they are. -/
theorem host_eq : (V m c main_v0 : S2x4x256x1024.Idx → EReal) = m (c, main_arg0)
    ∧ (V m c main_v1 : S3x2x256x1024.Idx → EReal) = m (c, main_arg1) := by
  constructor <;> unfold V <;> after_reads_simp <;> try rfl

/-- What the chip has itself. -/
def own (h : Fin 2) (i : Fin 256) (j : Fin 1024) : EReal := (m (c, main_arg0) : FVec Ideal S2x4x256x1024 .f32) (ix4 h 0 i j)

/-- What it got from another chip. -/
def got (k : Fin 3) (h : Fin 2) (i : Fin 256) (j : Fin 1024) : EReal := (m (c, main_arg1) : FVec Ideal S3x2x256x1024 .f32) (ix4 k h i j)

/-- The blocks, read from the arguments. -/
theorem blk_at (t : Fin cfg0.N) (p : Fin 256) (j : Fin 1024) (h : Fin 2) (i : Fin 256) (eh : h.val = t.val) (ei : i.val = p) :
    iblk m c 0 t (ix4 0 0 p j) = own m c h i j ∧ iblk m c 1 t (ix4 0 0 p j) = got m c 0 h i j
      ∧ iblk m c 2 t (ix4 0 0 p j) = got m c 1 h i j ∧ iblk m c 3 t (ix4 0 0 p j) = got m c 2 h i j := by
  obtain ⟨h0, h1⟩ := host_eq m c
  refine ⟨Eq.trans ?_ (congrFun h0 _), Eq.trans ?_ (congrFun h1 _), Eq.trans ?_ (congrFun h1 _), Eq.trans ?_ (congrFun h1 _)⟩ <;>
    blk_ext [iblk, idx t]

/-- What a point stores. -/
theorem out_at (a b d e : FVec Ideal S1x1x256x1024 .bf16) (z : Fin 1) (p : Fin 256) (j : Fin 1024) :
    k0_pay1 (F := Ideal) a b d e (ix3 z p j) = (a (ix4 0 0 p j) + b (ix4 0 0 p j) + d (ix4 0 0 p j) + e (ix4 0 0 p j) : EReal) := by
  delta k0_pay1
  pointwise []

/-- The reference's sum. -/
theorem ref_sum (h : Fin 2) (i : Fin 256) (j : Fin 1024) :
    Reference41Ideal.Read.val_main_v10 (F := Ideal) (m (c, main_arg0)) (m (c, main_arg1)) (ix3 h i j)
      = own m c h i j + got m c 0 h i j + got m c 1 h i j + got m c 2 h i j := by
  delta Reference41Ideal.Read.val_main_v10 Reference41Ideal.Read.val_main_v9 Reference41Ideal.Read.val_main_v8 Reference41Ideal.Read.val_main_v7 Reference41Ideal.Read.val_main_v6 Reference41Ideal.Read.val_main_v5 Reference41Ideal.Read.val_main_v4 Reference41Ideal.Read.val_main_v3 Reference41Ideal.Read.val_main_v2 Reference41Ideal.Read.val_main_v1 Reference41Ideal.Read.val_main_v0 own got
  pointwise []
  try rfl

/-- Its result in the layers that the core sums. -/
theorem ref_at (x : FVec Ideal S2x4x256x1024 .f32) (y : FVec Ideal S3x2x256x1024 .f32) (g : Fin 4) (h : Fin 2) (e : h.val = g.val) (i : Fin 256) (j : Fin 1024) :
    Reference41Ideal.Read.val_main_v12 (F := Ideal) x y (ix3 g i j) = Reference41Ideal.Read.val_main_v10 (F := Ideal) x y (ix3 h i j) := by
  delta Reference41Ideal.Read.val_main_v12
  generalize Reference41Ideal.Read.val_main_v10 (F := Ideal) x y = p
  obtain ⟨g, hg⟩ := g
  obtain ⟨h, hh⟩ := h
  obtain rfl : h = g := e
  pointwise []
  exact dif_pos hh

/-- A point's block is the reference's. -/
theorem tile (t : Fin cfg0.N) (y : S1x256x1024.Idx) (z : S4x256x1024.Idx) (e0 : (z 0).val = t.val) (e1 : (z 1).val = (y 1).val)
    (e2 : (z 2).val = (y 2).val) : out0_4 (iblk m c 0 t) (iblk m c 1 t) (iblk m c 2 t) (iblk m c 3 t) y
      = Reference41Ideal.Read.val_main_v12 (F := Ideal) (m (c, main_arg0)) (m (c, main_arg1)) z := by
  obtain ⟨q, p, j, rfl⟩ : ∃ (q : Fin 1) (p : Fin 256) (j : Fin 1024), y = ix3 q p j := ⟨y 0, y 1, y 2, by ext a; fin_cases a <;> rfl⟩
  obtain ⟨g, i, s, rfl⟩ : ∃ (g : Fin 4) (i : Fin 256) (s : Fin 1024), z = ix3 g i s := ⟨z 0, z 1, z 2, by ext a; fin_cases a <;> rfl⟩
  obtain rfl : s = j := Fin.ext e2
  have hg : g.val < 2 := by
    have e := e0
    have l : t.val < 2 := t.isLt
    change g.val = _ at e
    omega
  obtain ⟨b0, b1, b2, b3⟩ := blk_at m c t p s ⟨g.val, hg⟩ i e0 e1
  unfold out0_4
  rw [View.canon_cons_unit_zero (by decide), View.ld_unit_zero (by decide), View.ld_unit_zero (by decide), View.ld_unit_zero (by decide),
    View.ld_unit_zero (by decide)]
  refine (out_at _ _ _ _ q p s).trans ?_
  rw [b0, b1, b2, b3]
  exact ((ref_at _ _ g ⟨g.val, hg⟩ rfl i s).trans (ref_sum m c _ i s)).symm

/-- The array after the last point, in the layers that the core sums. -/
theorem final (i : S4x256x1024.Idx) (hi : (i 0).val < 2) : (dats m 0 c).arrAt 4 (cfgs 0).N i
    = Reference41Ideal.Read.val_main_v12 (F := Ideal) (m (c, main_arg0)) (m (c, main_arg1)) i := by
  refine ((dats m 0 c).arrAt_apply_of_coversWhere 4 (P := fun i : S4x256x1024.Idx => (i 0).val < 2)
    (Reference41Ideal.Read.val_main_v12 (F := Ideal) (m (c, main_arg0)) (m (c, main_arg1))) (fun β => β (0 : Fin 3) < 2) (by decide +kernel)
    (fun t hf y => ?_) (fun j => ?_) i).trans (if_pos hi)
  · blk_simp
    rw [after0_4]
    exact tile m c t y _ (by blk_simp [idx t]) (by blk_simp [idx t]) (by blk_simp [idx t])
  · blk_simp [Pipeline.Window.cell_apply, Nat.div_one]

/-- The mask selects the layers that the core sums. -/
theorem mask_iff [On_summed41.Facts] (x : FVec Ideal S2x4x256x1024 .f32) (y : FVec Ideal S3x2x256x1024 .f32) (i : S4x256x1024.Idx) :
    On_summed41.fn x y i = 1#1 ↔ (i 0).val < 2 := by
  have key : ∀ r < 4, IntOp.cmpi .slt (BitVec.ofNat 32 r) 2#32 = 1#1 ↔ r < 2 := by decide
  show IntOp.cmpi .slt (BitVec.ofNat 32 (i 0 : Nat)) 2#32 = 1#1 ↔ _
  exact key _ (i 0).isLt

end Cert.Kernel41Ideal.Prod
end
-- ==== Proof.GluSum.lean ====
module
public import Idealize.ShloMosaic.Lib.Pipeline.ValueKit
public import Idealize.ShloMosaic.Lib.StableHlo.RunRead
public import proofs.«01_k».proof.Proof.Gen.Kernel42Ideal.Value
public import proofs.«01_k».proof.Proof.Gen.Reference42Ideal.Read
public import proofs.«01_k».proof.Proof.Gen.On_summed42

@[expose] public section
set_option maxRecDepth 16384
noncomputable section

/-! The sum over the chips of the gradient of the S5's gate weights, block by block. -/

namespace Cert.Kernel42Ideal.Prod
open Idealize Idealize.ShloMosaic Idealize.ShloMosaic.TcCoe Idealize.SL.Sem Cert.Kernel42Ideal Cert.Kernel42Ideal.Gen

variable (m : (ℓ : Loc nD τ sig) → Buf (Elt Ideal) ℓ) (c : Dev nD)

/-- The blocks that the windows stage at a point. -/
theorem idx : ∀ t : Fin cfg0.N, win0_0.index t = ![t.val, 0, 0, 0] ∧ win0_1.index t = ![0, t.val, 0, 0]
    ∧ win0_2.index t = ![1, t.val, 0, 0] ∧ win0_3.index t = ![2, t.val, 0, 0] ∧ win0_4.index t = ![t.val, 0, 0] :=
  (by decide +kernel : ∀ t : Fin grid0.N, _)

/-- The host hands the two arguments over as they are. -/
theorem host_eq : (V m c main_v0 : S2x4x256x512.Idx → EReal) = m (c, main_arg0)
    ∧ (V m c main_v1 : S3x2x256x512.Idx → EReal) = m (c, main_arg1) := by
  constructor <;> unfold V <;> after_reads_simp <;> try rfl

/-- What the chip has itself. -/
def own (h : Fin 2) (i : Fin 256) (j : Fin 512) : EReal := (m (c, main_arg0) : FVec Ideal S2x4x256x512 .f32) (ix4 h 0 i j)

/-- What it got from another chip. -/
def got (k : Fin 3) (h : Fin 2) (i : Fin 256) (j : Fin 512) : EReal := (m (c, main_arg1) : FVec Ideal S3x2x256x512 .f32) (ix4 k h i j)

/-- The blocks, read from the arguments. -/
theorem blk_at (t : Fin cfg0.N) (p : Fin 256) (j : Fin 512) (h : Fin 2) (i : Fin 256) (eh : h.val = t.val) (ei : i.val = p) :
    iblk m c 0 t (ix4 0 0 p j) = own m c h i j ∧ iblk m c 1 t (ix4 0 0 p j) = got m c 0 h i j
      ∧ iblk m c 2 t (ix4 0 0 p j) = got m c 1 h i j ∧ iblk m c 3 t (ix4 0 0 p j) = got m c 2 h i j := by
  obtain ⟨h0, h1⟩ := host_eq m c
  refine ⟨Eq.trans ?_ (congrFun h0 _), Eq.trans ?_ (congrFun h1 _), Eq.trans ?_ (congrFun h1 _), Eq.trans ?_ (congrFun h1 _)⟩ <;>
    blk_ext [iblk, idx t]

/-- What a point stores. -/
theorem out_at (a b d e : FVec Ideal S1x1x256x512 .bf16) (z : Fin 1) (p : Fin 256) (j : Fin 512) :
    k0_pay1 (F := Ideal) a b d e (ix3 z p j) = (a (ix4 0 0 p j) + b (ix4 0 0 p j) + d (ix4 0 0 p j) + e (ix4 0 0 p j) : EReal) := by
  delta k0_pay1
  pointwise []

/-- The reference's sum. -/
theorem ref_sum (h : Fin 2) (i : Fin 256) (j : Fin 512) :
    Reference42Ideal.Read.val_main_v10 (F := Ideal) (m (c, main_arg0)) (m (c, main_arg1)) (ix3 h i j)
      = own m c h i j + got m c 0 h i j + got m c 1 h i j + got m c 2 h i j := by
  delta Reference42Ideal.Read.val_main_v10 Reference42Ideal.Read.val_main_v9 Reference42Ideal.Read.val_main_v8 Reference42Ideal.Read.val_main_v7 Reference42Ideal.Read.val_main_v6 Reference42Ideal.Read.val_main_v5 Reference42Ideal.Read.val_main_v4 Reference42Ideal.Read.val_main_v3 Reference42Ideal.Read.val_main_v2 Reference42Ideal.Read.val_main_v1 Reference42Ideal.Read.val_main_v0 own got
  pointwise []
  try rfl

/-- Its result in the layers that the core sums. -/
theorem ref_at (x : FVec Ideal S2x4x256x512 .f32) (y : FVec Ideal S3x2x256x512 .f32) (g : Fin 4) (h : Fin 2) (e : h.val = g.val) (i : Fin 256) (j : Fin 512) :
    Reference42Ideal.Read.val_main_v12 (F := Ideal) x y (ix3 g i j) = Reference42Ideal.Read.val_main_v10 (F := Ideal) x y (ix3 h i j) := by
  delta Reference42Ideal.Read.val_main_v12
  generalize Reference42Ideal.Read.val_main_v10 (F := Ideal) x y = p
  obtain ⟨g, hg⟩ := g
  obtain ⟨h, hh⟩ := h
  obtain rfl : h = g := e
  pointwise []
  exact dif_pos hh

/-- A point's block is the reference's. -/
theorem tile (t : Fin cfg0.N) (y : S1x256x512.Idx) (z : S4x256x512.Idx) (e0 : (z 0).val = t.val) (e1 : (z 1).val = (y 1).val)
    (e2 : (z 2).val = (y 2).val) : out0_4 (iblk m c 0 t) (iblk m c 1 t) (iblk m c 2 t) (iblk m c 3 t) y
      = Reference42Ideal.Read.val_main_v12 (F := Ideal) (m (c, main_arg0)) (m (c, main_arg1)) z := by
  obtain ⟨q, p, j, rfl⟩ : ∃ (q : Fin 1) (p : Fin 256) (j : Fin 512), y = ix3 q p j := ⟨y 0, y 1, y 2, by ext a; fin_cases a <;> rfl⟩
  obtain ⟨g, i, s, rfl⟩ : ∃ (g : Fin 4) (i : Fin 256) (s : Fin 512), z = ix3 g i s := ⟨z 0, z 1, z 2, by ext a; fin_cases a <;> rfl⟩
  obtain rfl : s = j := Fin.ext e2
  have hg : g.val < 2 := by
    have e := e0
    have l : t.val < 2 := t.isLt
    change g.val = _ at e
    omega
  obtain ⟨b0, b1, b2, b3⟩ := blk_at m c t p s ⟨g.val, hg⟩ i e0 e1
  unfold out0_4
  rw [View.canon_cons_unit_zero (by decide), View.ld_unit_zero (by decide), View.ld_unit_zero (by decide), View.ld_unit_zero (by decide),
    View.ld_unit_zero (by decide)]
  refine (out_at _ _ _ _ q p s).trans ?_
  rw [b0, b1, b2, b3]
  exact ((ref_at _ _ g ⟨g.val, hg⟩ rfl i s).trans (ref_sum m c _ i s)).symm

/-- The array after the last point, in the layers that the core sums. -/
theorem final (i : S4x256x512.Idx) (hi : (i 0).val < 2) : (dats m 0 c).arrAt 4 (cfgs 0).N i
    = Reference42Ideal.Read.val_main_v12 (F := Ideal) (m (c, main_arg0)) (m (c, main_arg1)) i := by
  refine ((dats m 0 c).arrAt_apply_of_coversWhere 4 (P := fun i : S4x256x512.Idx => (i 0).val < 2)
    (Reference42Ideal.Read.val_main_v12 (F := Ideal) (m (c, main_arg0)) (m (c, main_arg1))) (fun β => β (0 : Fin 3) < 2) (by decide +kernel)
    (fun t hf y => ?_) (fun j => ?_) i).trans (if_pos hi)
  · blk_simp
    rw [after0_4]
    exact tile m c t y _ (by blk_simp [idx t]) (by blk_simp [idx t]) (by blk_simp [idx t])
  · blk_simp [Pipeline.Window.cell_apply, Nat.div_one]

/-- The mask selects the layers that the core sums. -/
theorem mask_iff [On_summed42.Facts] (x : FVec Ideal S2x4x256x512 .f32) (y : FVec Ideal S3x2x256x512 .f32) (i : S4x256x512.Idx) :
    On_summed42.fn x y i = 1#1 ↔ (i 0).val < 2 := by
  have key : ∀ r < 4, IntOp.cmpi .slt (BitVec.ofNat 32 r) 2#32 = 1#1 ↔ r < 2 := by decide
  show IntOp.cmpi .slt (BitVec.ofNat 32 (i 0 : Nat)) 2#32 = 1#1 ↔ _
  exact key _ (i 0).isLt

end Cert.Kernel42Ideal.Prod
end
-- ==== Proof.ConvOutSum.lean ====
module
public import Idealize.ShloMosaic.Lib.Pipeline.ValueKit
public import Idealize.ShloMosaic.Lib.StableHlo.RunRead
public import proofs.«01_k».proof.Proof.Gen.Kernel43Ideal.Value
public import proofs.«01_k».proof.Proof.Gen.Reference43Ideal.Read
public import proofs.«01_k».proof.Proof.Gen.On_summed43

@[expose] public section
set_option maxRecDepth 16384
noncomputable section

/-! The sum over the chips of the gradient of the convolution's output weights, and of the per-layer embedding's input weights, block by block. -/

namespace Cert.Kernel43Ideal.Prod
open Idealize Idealize.ShloMosaic Idealize.ShloMosaic.TcCoe Idealize.SL.Sem Cert.Kernel43Ideal Cert.Kernel43Ideal.Gen

variable (m : (ℓ : Loc nD τ sig) → Buf (Elt Ideal) ℓ) (c : Dev nD)

/-- The blocks that the windows stage at a point. -/
theorem idx : ∀ t : Fin cfg0.N, win0_0.index t = ![t.val, 0, 0, 0] ∧ win0_1.index t = ![0, t.val, 0, 0]
    ∧ win0_2.index t = ![1, t.val, 0, 0] ∧ win0_3.index t = ![2, t.val, 0, 0] ∧ win0_4.index t = ![t.val, 0, 0] :=
  (by decide +kernel : ∀ t : Fin grid0.N, _)

/-- The host hands the two arguments over as they are. -/
theorem host_eq : (V m c main_v0 : S2x4x256x256.Idx → EReal) = m (c, main_arg0)
    ∧ (V m c main_v1 : S3x2x256x256.Idx → EReal) = m (c, main_arg1) := by
  constructor <;> unfold V <;> after_reads_simp <;> try rfl

/-- What the chip has itself. -/
def own (h : Fin 2) (i : Fin 256) (j : Fin 256) : EReal := (m (c, main_arg0) : FVec Ideal S2x4x256x256 .f32) (ix4 h 0 i j)

/-- What it got from another chip. -/
def got (k : Fin 3) (h : Fin 2) (i : Fin 256) (j : Fin 256) : EReal := (m (c, main_arg1) : FVec Ideal S3x2x256x256 .f32) (ix4 k h i j)

/-- The blocks, read from the arguments. -/
theorem blk_at (t : Fin cfg0.N) (p : Fin 256) (j : Fin 256) (h : Fin 2) (i : Fin 256) (eh : h.val = t.val) (ei : i.val = p) :
    iblk m c 0 t (ix4 0 0 p j) = own m c h i j ∧ iblk m c 1 t (ix4 0 0 p j) = got m c 0 h i j
      ∧ iblk m c 2 t (ix4 0 0 p j) = got m c 1 h i j ∧ iblk m c 3 t (ix4 0 0 p j) = got m c 2 h i j := by
  obtain ⟨h0, h1⟩ := host_eq m c
  refine ⟨Eq.trans ?_ (congrFun h0 _), Eq.trans ?_ (congrFun h1 _), Eq.trans ?_ (congrFun h1 _), Eq.trans ?_ (congrFun h1 _)⟩ <;>
    blk_ext [iblk, idx t]

/-- What a point stores. -/
theorem out_at (a b d e : FVec Ideal S1x1x256x256 .bf16) (z : Fin 1) (p : Fin 256) (j : Fin 256) :
    k0_pay1 (F := Ideal) a b d e (ix3 z p j) = (a (ix4 0 0 p j) + b (ix4 0 0 p j) + d (ix4 0 0 p j) + e (ix4 0 0 p j) : EReal) := by
  delta k0_pay1
  pointwise []

/-- The reference's sum. -/
theorem ref_sum (h : Fin 2) (i : Fin 256) (j : Fin 256) :
    Reference43Ideal.Read.val_main_v10 (F := Ideal) (m (c, main_arg0)) (m (c, main_arg1)) (ix3 h i j)
      = own m c h i j + got m c 0 h i j + got m c 1 h i j + got m c 2 h i j := by
  delta Reference43Ideal.Read.val_main_v10 Reference43Ideal.Read.val_main_v9 Reference43Ideal.Read.val_main_v8 Reference43Ideal.Read.val_main_v7 Reference43Ideal.Read.val_main_v6 Reference43Ideal.Read.val_main_v5 Reference43Ideal.Read.val_main_v4 Reference43Ideal.Read.val_main_v3 Reference43Ideal.Read.val_main_v2 Reference43Ideal.Read.val_main_v1 Reference43Ideal.Read.val_main_v0 own got
  pointwise []
  try rfl

/-- Its result in the layers that the core sums. -/
theorem ref_at (x : FVec Ideal S2x4x256x256 .f32) (y : FVec Ideal S3x2x256x256 .f32) (g : Fin 4) (h : Fin 2) (e : h.val = g.val) (i : Fin 256) (j : Fin 256) :
    Reference43Ideal.Read.val_main_v12 (F := Ideal) x y (ix3 g i j) = Reference43Ideal.Read.val_main_v10 (F := Ideal) x y (ix3 h i j) := by
  delta Reference43Ideal.Read.val_main_v12
  generalize Reference43Ideal.Read.val_main_v10 (F := Ideal) x y = p
  obtain ⟨g, hg⟩ := g
  obtain ⟨h, hh⟩ := h
  obtain rfl : h = g := e
  pointwise []
  exact dif_pos hh

/-- A point's block is the reference's. -/
theorem tile (t : Fin cfg0.N) (y : S1x256x256.Idx) (z : S4x256x256.Idx) (e0 : (z 0).val = t.val) (e1 : (z 1).val = (y 1).val)
    (e2 : (z 2).val = (y 2).val) : out0_4 (iblk m c 0 t) (iblk m c 1 t) (iblk m c 2 t) (iblk m c 3 t) y
      = Reference43Ideal.Read.val_main_v12 (F := Ideal) (m (c, main_arg0)) (m (c, main_arg1)) z := by
  obtain ⟨q, p, j, rfl⟩ : ∃ (q : Fin 1) (p : Fin 256) (j : Fin 256), y = ix3 q p j := ⟨y 0, y 1, y 2, by ext a; fin_cases a <;> rfl⟩
  obtain ⟨g, i, s, rfl⟩ : ∃ (g : Fin 4) (i : Fin 256) (s : Fin 256), z = ix3 g i s := ⟨z 0, z 1, z 2, by ext a; fin_cases a <;> rfl⟩
  obtain rfl : s = j := Fin.ext e2
  have hg : g.val < 2 := by
    have e := e0
    have l : t.val < 2 := t.isLt
    change g.val = _ at e
    omega
  obtain ⟨b0, b1, b2, b3⟩ := blk_at m c t p s ⟨g.val, hg⟩ i e0 e1
  unfold out0_4
  rw [View.canon_cons_unit_zero (by decide), View.ld_unit_zero (by decide), View.ld_unit_zero (by decide), View.ld_unit_zero (by decide),
    View.ld_unit_zero (by decide)]
  refine (out_at _ _ _ _ q p s).trans ?_
  rw [b0, b1, b2, b3]
  exact ((ref_at _ _ g ⟨g.val, hg⟩ rfl i s).trans (ref_sum m c _ i s)).symm

/-- The array after the last point, in the layers that the core sums. -/
theorem final (i : S4x256x256.Idx) (hi : (i 0).val < 2) : (dats m 0 c).arrAt 4 (cfgs 0).N i
    = Reference43Ideal.Read.val_main_v12 (F := Ideal) (m (c, main_arg0)) (m (c, main_arg1)) i := by
  refine ((dats m 0 c).arrAt_apply_of_coversWhere 4 (P := fun i : S4x256x256.Idx => (i 0).val < 2)
    (Reference43Ideal.Read.val_main_v12 (F := Ideal) (m (c, main_arg0)) (m (c, main_arg1))) (fun β => β (0 : Fin 3) < 2) (by decide +kernel)
    (fun t hf y => ?_) (fun j => ?_) i).trans (if_pos hi)
  · blk_simp
    rw [after0_4]
    exact tile m c t y _ (by blk_simp [idx t]) (by blk_simp [idx t]) (by blk_simp [idx t])
  · blk_simp [Pipeline.Window.cell_apply, Nat.div_one]

/-- The mask selects the layers that the core sums. -/
theorem mask_iff [On_summed43.Facts] (x : FVec Ideal S2x4x256x256 .f32) (y : FVec Ideal S3x2x256x256 .f32) (i : S4x256x256.Idx) :
    On_summed43.fn x y i = 1#1 ↔ (i 0).val < 2 := by
  have key : ∀ r < 4, IntOp.cmpi .slt (BitVec.ofNat 32 r) 2#32 = 1#1 ↔ r < 2 := by decide
  show IntOp.cmpi .slt (BitVec.ofNat 32 (i 0 : Nat)) 2#32 = 1#1 ↔ _
  exact key _ (i 0).isLt

end Cert.Kernel43Ideal.Prod
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.AttnGiven
public import proofs.«01_k».proof.Proof.AttnResult
public import proofs.«01_k».proof.Proof.AttnSum
public import proofs.«01_k».proof.Proof.AttnPre
public import proofs.«01_k».proof.Proof.Gen.Kernel3.Frame
public import proofs.«01_k».proof.Proof.Gen.Reference3Ideal.Run
public import proofs.«01_k».proof.Proof.FfnInGrad
public import proofs.«01_k».proof.Proof.Gen.Kernel5.Frame
public import proofs.«01_k».proof.Proof.Gen.Reference5Ideal.Run
public import proofs.«01_k».proof.Proof.InGrad
public import proofs.«01_k».proof.Proof.Gen.Kernel6.Frame
public import proofs.«01_k».proof.Proof.Gen.Reference6Ideal.Run
public import proofs.«01_k».proof.Proof.FfnIn
public import proofs.«01_k».proof.Proof.Gen.Kernel7.Frame
public import proofs.«01_k».proof.Proof.Gen.Reference7Ideal.Run
public import proofs.«01_k».proof.Proof.In
public import proofs.«01_k».proof.Proof.Gen.Kernel8.Frame
public import proofs.«01_k».proof.Proof.Gen.Reference8Ideal.Run
public import proofs.«01_k».proof.Proof.FfnOut
public import proofs.«01_k».proof.Proof.Gen.Kernel9.Frame
public import proofs.«01_k».proof.Proof.Gen.Reference9Ideal.Run
public import proofs.«01_k».proof.Proof.FfnOutBack
public import proofs.«01_k».proof.Proof.Gen.Kernel10.Frame
public import proofs.«01_k».proof.Proof.Gen.Reference10Ideal.Run
public import proofs.«01_k».proof.Proof.FfnOutGrad
public import proofs.«01_k».proof.Proof.Gen.Kernel2.Frame
public import proofs.«01_k».proof.Proof.Gen.Reference2Ideal.Run
public import proofs.«01_k».proof.Proof.FfnInBack
public import proofs.«01_k».proof.Proof.Gen.Kernel4.Frame
public import proofs.«01_k».proof.Proof.Gen.Reference4Ideal.Run
public import proofs.«01_k».proof.Proof.InBack
public import proofs.«01_k».proof.Proof.Gen.Kernel11.Frame
public import proofs.«01_k».proof.Proof.Gen.Reference11Ideal.Run
public import proofs.«01_k».proof.Proof.MixBack
public import proofs.«01_k».proof.Proof.Gen.Kernel12.Frame
public import proofs.«01_k».proof.Proof.Gen.Reference12Ideal.Run
public import proofs.«01_k».proof.Proof.AttnOutBack
public import proofs.«01_k».proof.Proof.Gen.Kernel13.Frame
public import proofs.«01_k».proof.Proof.Gen.Reference13Ideal.Run
public import proofs.«01_k».proof.Proof.GluBack
public import proofs.«01_k».proof.Proof.Gen.Kernel14.Frame
public import proofs.«01_k».proof.Proof.Gen.Reference14Ideal.Run
public import proofs.«01_k».proof.Proof.ConvOutBack
public import proofs.«01_k».proof.Proof.Gen.Kernel15.Frame
public import proofs.«01_k».proof.Proof.Gen.Reference15Ideal.Run
public import proofs.«01_k».proof.Proof.AttnOutProd
public import proofs.«01_k».proof.Proof.Gen.Kernel16.Frame
public import proofs.«01_k».proof.Proof.Gen.Reference16Ideal.Run
public import proofs.«01_k».proof.Proof.MixGrad
public import proofs.«01_k».proof.Proof.Gen.Kernel17.Frame
public import proofs.«01_k».proof.Proof.Gen.Reference17Ideal.Run
public import proofs.«01_k».proof.Proof.AttnOutGrad
public import proofs.«01_k».proof.Proof.Gen.Kernel18.Frame
public import proofs.«01_k».proof.Proof.Gen.Reference18Ideal.Run
public import proofs.«01_k».proof.Proof.GluGrad
public import proofs.«01_k».proof.Proof.Gen.Kernel19.Frame
public import proofs.«01_k».proof.Proof.Gen.Reference19Ideal.Run
public import proofs.«01_k».proof.Proof.ConvOutGrad
public import proofs.«01_k».proof.Proof.Gen.Kernel20.Frame
public import proofs.«01_k».proof.Proof.Gen.Reference20Ideal.Run
public import proofs.«01_k».proof.Proof.PleGateGrad
public import proofs.«01_k».proof.Proof.Gen.Kernel21.Frame
public import proofs.«01_k».proof.Proof.Gen.Reference21Ideal.Run
public import proofs.«01_k».proof.Proof.PleInGrad
public import proofs.«01_k».proof.Proof.Gen.Kernel22.Frame
public import proofs.«01_k».proof.Proof.Gen.Reference22Ideal.Run
public import proofs.«01_k».proof.Proof.AdamIn
public import proofs.«01_k».proof.Proof.Gen.Kernel23.Frame
public import proofs.«01_k».proof.Proof.Gen.Reference23Ideal.Run
public import proofs.«01_k».proof.Proof.AdamFfnIn
public import proofs.«01_k».proof.Proof.Gen.Kernel24.Frame
public import proofs.«01_k».proof.Proof.Gen.Reference24Ideal.Run
public import proofs.«01_k».proof.Proof.AdamFfnOut
public import proofs.«01_k».proof.Proof.Gen.Kernel25.Frame
public import proofs.«01_k».proof.Proof.Gen.Reference25Ideal.Run
public import proofs.«01_k».proof.Proof.AdamMix
public import proofs.«01_k».proof.Proof.Gen.Kernel26.Frame
public import proofs.«01_k».proof.Proof.Gen.Reference26Ideal.Run
public import proofs.«01_k».proof.Proof.AdamAttnOut
public import proofs.«01_k».proof.Proof.Gen.Kernel27.Frame
public import proofs.«01_k».proof.Proof.Gen.Reference27Ideal.Run
public import proofs.«01_k».proof.Proof.AdamGlu
public import proofs.«01_k».proof.Proof.Gen.Kernel28.Frame
public import proofs.«01_k».proof.Proof.Gen.Reference28Ideal.Run
public import proofs.«01_k».proof.Proof.AdamConvOut
public import proofs.«01_k».proof.Proof.Gen.Kernel29.Frame
public import proofs.«01_k».proof.Proof.Gen.Reference29Ideal.Run
public import proofs.«01_k».proof.Proof.AdamSmall
public import proofs.«01_k».proof.Proof.Gen.Kernel30.Frame
public import proofs.«01_k».proof.Proof.Gen.Reference30Ideal.Run
public import proofs.«01_k».proof.Proof.LossHead
public import proofs.«01_k».proof.Proof.Gen.Kernel31.Frame
public import proofs.«01_k».proof.Proof.Gen.Reference31Ideal.Run
public import proofs.«01_k».proof.Proof.PleBack
public import proofs.«01_k».proof.Proof.Gen.Kernel32.Frame
public import proofs.«01_k».proof.Proof.Gen.Reference32Ideal.Run
public import proofs.«01_k».proof.Proof.MixOut
public import proofs.«01_k».proof.Proof.Gen.Kernel33.Frame
public import proofs.«01_k».proof.Proof.Gen.Reference33Ideal.Run
public import proofs.«01_k».proof.Proof.Ple
public import proofs.«01_k».proof.Proof.Gen.Kernel34.Frame
public import proofs.«01_k».proof.Proof.Gen.Reference34Ideal.Run
public import proofs.«01_k».proof.Proof.MixNorm
public import proofs.«01_k».proof.Proof.Gen.Kernel35.Frame
public import proofs.«01_k».proof.Proof.Gen.Reference35Ideal.Run
public import proofs.«01_k».proof.Proof.Merge
public import proofs.«01_k».proof.Proof.Gen.Kernel36.Frame
public import proofs.«01_k».proof.Proof.Gen.Reference36Ideal.Run
public import proofs.«01_k».proof.Proof.FfnNormBack
public import proofs.«01_k».proof.Proof.Gen.Kernel37.Frame
public import proofs.«01_k».proof.Proof.Gen.Reference37Ideal.Run
public import proofs.«01_k».proof.Proof.AttnOutSum
public import proofs.«01_k».proof.Proof.Gen.Kernel38.Frame
public import proofs.«01_k».proof.Proof.Gen.Reference38Ideal.Run
public import proofs.«01_k».proof.Proof.InSum
public import proofs.«01_k».proof.Proof.Gen.Kernel39.Frame
public import proofs.«01_k».proof.Proof.Gen.Reference39Ideal.Run
public import proofs.«01_k».proof.Proof.FfnInSum
public import proofs.«01_k».proof.Proof.Gen.Kernel40.Frame
public import proofs.«01_k».proof.Proof.Gen.Reference40Ideal.Run
public import proofs.«01_k».proof.Proof.FfnOutSum
public import proofs.«01_k».proof.Proof.Gen.Kernel41.Frame
public import proofs.«01_k».proof.Proof.Gen.Reference41Ideal.Run
public import proofs.«01_k».proof.Proof.MixSum
public import proofs.«01_k».proof.Proof.Gen.Kernel42.Frame
public import proofs.«01_k».proof.Proof.Gen.Reference42Ideal.Run
public import proofs.«01_k».proof.Proof.GluSum
public import proofs.«01_k».proof.Proof.Gen.Kernel43.Frame
public import proofs.«01_k».proof.Proof.Gen.Reference43Ideal.Run
public import proofs.«01_k».proof.Proof.ConvOutSum
public import Idealize.ShloMosaic.Adequacy
public import Idealize.ShloMosaic.Init

@[expose] public section

noncomputable section

namespace Cert.Proof

open Idealize.ShloMosaic Idealize.SL.Sem

attribute [local instance] Cert.Kernel3.Gen.facts Cert.Kernel3Ideal.Gen.facts Cert.Reference3Ideal.Gen.facts Cert.Kernel5.Gen.facts Cert.Kernel5Ideal.Gen.facts Cert.Reference5Ideal.Gen.facts Cert.Kernel6.Gen.facts Cert.Kernel6Ideal.Gen.facts Cert.Reference6Ideal.Gen.facts Cert.Kernel7.Gen.facts Cert.Kernel7Ideal.Gen.facts Cert.Reference7Ideal.Gen.facts Cert.Kernel8.Gen.facts Cert.Kernel8Ideal.Gen.facts Cert.Reference8Ideal.Gen.facts Cert.Kernel9.Gen.facts Cert.Kernel9Ideal.Gen.facts Cert.Reference9Ideal.Gen.facts Cert.Kernel10.Gen.facts Cert.Kernel10Ideal.Gen.facts Cert.Reference10Ideal.Gen.facts Cert.Kernel2.Gen.facts Cert.Kernel2Ideal.Gen.facts Cert.Reference2Ideal.Gen.facts Cert.Kernel4.Gen.facts Cert.Kernel4Ideal.Gen.facts Cert.Reference4Ideal.Gen.facts Cert.Kernel11.Gen.facts Cert.Kernel11Ideal.Gen.facts Cert.Reference11Ideal.Gen.facts Cert.Kernel12.Gen.facts Cert.Kernel12Ideal.Gen.facts Cert.Reference12Ideal.Gen.facts Cert.Kernel13.Gen.facts Cert.Kernel13Ideal.Gen.facts Cert.Reference13Ideal.Gen.facts Cert.Kernel14.Gen.facts Cert.Kernel14Ideal.Gen.facts Cert.Reference14Ideal.Gen.facts Cert.Kernel15.Gen.facts Cert.Kernel15Ideal.Gen.facts Cert.Reference15Ideal.Gen.facts Cert.Kernel16.Gen.facts Cert.Kernel16Ideal.Gen.facts Cert.Reference16Ideal.Gen.facts Cert.Kernel17.Gen.facts Cert.Kernel17Ideal.Gen.facts Cert.Reference17Ideal.Gen.facts Cert.Kernel18.Gen.facts Cert.Kernel18Ideal.Gen.facts Cert.Reference18Ideal.Gen.facts Cert.Kernel19.Gen.facts Cert.Kernel19Ideal.Gen.facts Cert.Reference19Ideal.Gen.facts Cert.Kernel20.Gen.facts Cert.Kernel20Ideal.Gen.facts Cert.Reference20Ideal.Gen.facts Cert.Kernel21.Gen.facts Cert.Kernel21Ideal.Gen.facts Cert.Reference21Ideal.Gen.facts Cert.Kernel22.Gen.facts Cert.Kernel22Ideal.Gen.facts Cert.Reference22Ideal.Gen.facts Cert.Kernel23.Gen.facts Cert.Kernel23Ideal.Gen.facts Cert.Reference23Ideal.Gen.facts Cert.Kernel24.Gen.facts Cert.Kernel24Ideal.Gen.facts Cert.Reference24Ideal.Gen.facts Cert.Kernel25.Gen.facts Cert.Kernel25Ideal.Gen.facts Cert.Reference25Ideal.Gen.facts Cert.Kernel26.Gen.facts Cert.Kernel26Ideal.Gen.facts Cert.Reference26Ideal.Gen.facts Cert.Kernel27.Gen.facts Cert.Kernel27Ideal.Gen.facts Cert.Reference27Ideal.Gen.facts Cert.Kernel28.Gen.facts Cert.Kernel28Ideal.Gen.facts Cert.Reference28Ideal.Gen.facts Cert.Kernel29.Gen.facts Cert.Kernel29Ideal.Gen.facts Cert.Reference29Ideal.Gen.facts Cert.Kernel30.Gen.facts Cert.Kernel30Ideal.Gen.facts Cert.Reference30Ideal.Gen.facts Cert.Kernel31.Gen.facts Cert.Kernel31Ideal.Gen.facts Cert.Reference31Ideal.Gen.facts Cert.Kernel32.Gen.facts Cert.Kernel32Ideal.Gen.facts Cert.Reference32Ideal.Gen.facts Cert.Kernel33.Gen.facts Cert.Kernel33Ideal.Gen.facts Cert.Reference33Ideal.Gen.facts Cert.Kernel34.Gen.facts Cert.Kernel34Ideal.Gen.facts Cert.Reference34Ideal.Gen.facts Cert.Kernel35.Gen.facts Cert.Kernel35Ideal.Gen.facts Cert.Reference35Ideal.Gen.facts Cert.Kernel36.Gen.facts Cert.Kernel36Ideal.Gen.facts Cert.Reference36Ideal.Gen.facts Cert.Kernel37.Gen.facts Cert.Kernel37Ideal.Gen.facts Cert.Reference37Ideal.Gen.facts Cert.Kernel38.Gen.facts Cert.Kernel38Ideal.Gen.facts Cert.Reference38Ideal.Gen.facts Cert.Kernel39.Gen.facts Cert.Kernel39Ideal.Gen.facts Cert.Reference39Ideal.Gen.facts Cert.Kernel40.Gen.facts Cert.Kernel40Ideal.Gen.facts Cert.Reference40Ideal.Gen.facts Cert.Kernel41.Gen.facts Cert.Kernel41Ideal.Gen.facts Cert.Reference41Ideal.Gen.facts Cert.Kernel42.Gen.facts Cert.Kernel42Ideal.Gen.facts Cert.Reference42Ideal.Gen.facts Cert.Kernel43.Gen.facts Cert.Kernel43Ideal.Gen.facts Cert.Reference43Ideal.Gen.facts Cert.Pre_finite2.facts Cert.On_summed37.Gen.facts Cert.On_summed38.Gen.facts Cert.On_summed39.Gen.facts Cert.On_summed40.Gen.facts Cert.On_summed41.Gen.facts Cert.On_summed42.Gen.facts Cert.On_summed43.Gen.facts
  Cert.Kernel.Gen.facts Cert.KernelIdeal.Gen.facts Cert.ReferenceIdeal.Gen.facts Cert.Pre_finite.facts

/-- The reference runs, keeps its arguments and has no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩) (Cert.ReferenceIdeal.Value.run m ρ)

/-- The kernel's two results are the reference's, at arguments that hold real numbers. -/
theorem algebraic : Cert.algebraic_KernelIdeal_ReferenceIdeal_pre_finite := by
  intro m ρ m' ρ' hpre hagree
  have hreal : ∀ c : Dev Cert.KernelIdeal.nD, ∃ D : Cert.Attn.Data, Cert.ReferenceIdeal.Stage.Holds D
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) :=
    fun c => ⟨_, Cert.Pre_finite.holds _ _ _ _ _ (hpre c)⟩
  choose D hD using hreal
  refine ⟨fun c => Cert.KernelIdeal.Tiles.ref9 (D c), fun c => Cert.KernelIdeal.Tiles.ref10 (D c),
    (θ_run Cert.KernelIdeal.defs _ _).mono (fun r h c => ?_) (Cert.KernelIdeal.Value.run_blocks m ρ),
    (θ_run Cert.ReferenceIdeal.defs _ _).mono (fun r h c => ?_) (Cert.ReferenceIdeal.Value.run m' ρ')⟩
  · have E := Cert.KernelIdeal.Entry.given m c (D c) (hD c)
    exact ⟨(h c).1.trans (Cert.KernelIdeal.Tiles.final9 E), (h c).2.1.trans (Cert.KernelIdeal.Tiles.final10 E), (h c).2.2⟩
  · obtain ⟨a0, a1, a2, a3, a4⟩ := hagree c
    have H := hD c
    rw [← a0, ← a1, ← a2, ← a3, ← a4] at H
    exact ⟨(h c).1.trans ((Cert.ReferenceIdeal.Read.val_main_v147_eq _).trans (Cert.ReferenceIdeal.Stage.result9 H)),
      (h c).2.1.trans ((Cert.ReferenceIdeal.Read.val_main_v148_eq _).trans (Cert.ReferenceIdeal.Stage.result10 H)), (h c).2.2⟩

/-- The reference of the gradient of the SwiGLU's input weights runs, keeps its arguments and has no semaphore. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩) (Cert.Reference3Ideal.Value.run m ρ)

/-- The gradient of the SwiGLU's input weights: the kernel's result is the reference's. -/
theorem algebraic3 : Cert.algebraic_Kernel3Ideal_Reference3Ideal := by
  intro m ρ m' ρ' _ hagree
  refine ⟨fun c => Cert.Reference3Ideal.Read.val_main_v6 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun r h c => ?_) (Cert.Kernel3Ideal.Value.run_blocks m ρ),
    (θ_run Cert.Reference3Ideal.defs _ _).mono (fun r h c => ?_) (Cert.Reference3Ideal.Value.run m' ρ')⟩
  · exact ⟨(h c).1.trans (Cert.Kernel3Ideal.Prod.final m c), (h c).2⟩
  · obtain ⟨a0, a1⟩ := hagree c
    beta_reduce
    rw [← a0, ← a1]
    exact ⟨(h c).1.trans (Cert.Reference3Ideal.Read.val_main_v6_eq _ _), (h c).2⟩

/-- The reference of the gradient of the block's input weights runs, keeps its arguments and has no semaphore. -/
theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩) (Cert.Reference5Ideal.Value.run m ρ)

/-- The gradient of the block's input weights: the kernel's result is the reference's. -/
theorem algebraic5 : Cert.algebraic_Kernel5Ideal_Reference5Ideal := by
  intro m ρ m' ρ' _ hagree
  refine ⟨fun c => Cert.Reference5Ideal.Read.val_main_v6 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run Cert.Kernel5Ideal.defs _ _).mono (fun r h c => ?_) (Cert.Kernel5Ideal.Value.run_blocks m ρ),
    (θ_run Cert.Reference5Ideal.defs _ _).mono (fun r h c => ?_) (Cert.Reference5Ideal.Value.run m' ρ')⟩
  · exact ⟨(h c).1.trans (Cert.Kernel5Ideal.Prod.final m c), (h c).2⟩
  · obtain ⟨a0, a1⟩ := hagree c
    beta_reduce
    rw [← a0, ← a1]
    exact ⟨(h c).1.trans (Cert.Reference5Ideal.Read.val_main_v6_eq _ _), (h c).2⟩

/-- The reference of the forward product of the SwiGLU's input weights runs, keeps its arguments and has no semaphore. -/
theorem frame_reference6 : Cert.quiescent_Reference6Ideal := fun m ρ _ =>
  (θ_run Cert.Reference6Ideal.defs _ _).mono
    (fun r h => ⟨fun c => (h c).2, Idealize.ShloMosaic.sem_eq_zero_of_no_sems (by decide) r.2⟩) (Cert.Reference6Ideal.Value.run m ρ)

/-- The forward product of the SwiGLU's input weights: the kernel's result is the reference's. -/
theorem algebraic6 : Cert.algebraic_Kernel6Ideal_Reference6Ideal := by
  intro m ρ m' ρ' _ hagree
  refine ⟨fun c => Cert.Reference6Ideal.Read.val_main_v1 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun r h c => ?_) (Cert.Kernel6Ideal.Value.run_blocks m ρ),
    (θ_run Cert.Reference6Ideal.defs _ _).mono (fun r h c => ?_) (Cert.Reference6Ideal.Value.run m' ρ')⟩
  · exact ⟨(h c).1.trans (Cert.Kernel6Ideal.Prod.final m c), (h c).2⟩
  · obtain ⟨a0, a1⟩ := hagree c
    beta_reduce
    rw [← a0, ← a1]
    exact ⟨(h c).1.trans (Cert.Reference6Ideal.Read.val_main_v1_eq _ _), (h c).2⟩

/-- The reference of the forward product of the block's input weights runs, keeps its arguments and has no semaphore. -/
theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩) (Cert.Reference7Ideal.Value.run m ρ)

/-- The forward product of the block's input weights: the kernel's result is the reference's. -/
theorem algebraic7 : Cert.algebraic_Kernel7Ideal_Reference7Ideal := by
  intro m ρ m' ρ' _ hagree
  refine ⟨fun c => Cert.Reference7Ideal.Read.val_main_v1 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    (θ_run Cert.Kernel7Ideal.defs _ _).mono (fun r h c => ?_) (Cert.Kernel7Ideal.Value.run_blocks m ρ),
    (θ_run Cert.Reference7Ideal.defs _ _).mono (fun r h c => ?_) (Cert.Reference7Ideal.Value.run m' ρ')⟩
  · exact ⟨(h c).1.trans (Cert.Kernel7Ideal.Prod.final m c), (h c).2⟩
  · obtain ⟨a0, a1⟩ := hagree c
    beta_reduce
    rw [← a0, ← a1]
    exact ⟨(h c).1.trans (Cert.Reference7Ideal.Read.val_main_v1_eq _ _), (h c).2⟩

/-- The reference of the forward product of the SwiGLU's output weights runs, keeps its arguments and has no semaphore. -/
theorem frame_reference8 : Cert.quiescent_Reference8Ideal := fun m ρ _ =>
  (θ_run Cert.Reference8Ideal.defs _ _).mono
    (fun r h => ⟨fun c => (h c).2.2, Idealize.ShloMosaic.sem_eq_zero_of_no_sems (by decide) r.2⟩) (Cert.Reference8Ideal.Value.run m ρ)

/-- The forward product of the SwiGLU's output weights: the kernel's results are the reference's. -/
theorem algebraic8 : Cert.algebraic_Kernel8Ideal_Reference8Ideal := by
  intro m ρ m' ρ' _ hagree
  refine ⟨fun c => Cert.Reference8Ideal.Read.val_main_v5 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    fun c => Cert.Reference8Ideal.Read.val_main_v6 (F := Ideal) (m ((c.tc : Thread Cert.Kernel8Ideal.nD Cert.Kernel8Ideal.τ).loc Cert.Kernel8Ideal.main_arg0)),
    (θ_run Cert.Kernel8Ideal.defs _ _).mono (fun r h c => ?_) (Cert.Kernel8Ideal.Value.run_blocks m ρ),
    (θ_run Cert.Reference8Ideal.defs _ _).mono (fun r h c => ?_) (Cert.Reference8Ideal.Value.run m' ρ')⟩
  · exact ⟨(h c).1.trans (Cert.Kernel8Ideal.Prod.final4 m c), (h c).2.1.trans (Cert.Kernel8Ideal.Prod.final5 m c), (h c).2.2⟩
  · obtain ⟨a0, a1, a2⟩ := hagree c
    beta_reduce
    rw [← a0, ← a1, ← a2]
    exact ⟨(h c).1.trans (Cert.Reference8Ideal.Read.val_main_v5_eq _ _ _), (h c).2.1.trans (Cert.Reference8Ideal.Read.val_main_v6_eq _), (h c).2.2⟩

/-- The reference of the backward product of the SwiGLU's output weights runs, keeps its arguments and has no semaphore. -/
theorem frame_reference9 : Cert.quiescent_Reference9Ideal := fun m ρ _ =>
  (θ_run Cert.Reference9Ideal.defs _ _).mono
    (fun r h => ⟨fun c => (h c).2, Idealize.ShloMosaic.sem_eq_zero_of_no_sems (by decide) r.2⟩) (Cert.Reference9Ideal.Value.run m ρ)

/-- The backward product of the SwiGLU's output weights: the kernel's result is the reference's. -/
theorem algebraic9 : Cert.algebraic_Kernel9Ideal_Reference9Ideal := by
  intro m ρ m' ρ' _ hagree
  refine ⟨fun c => Cert.Reference9Ideal.Read.val_main_v3 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun r h c => ?_) (Cert.Kernel9Ideal.Value.run_blocks m ρ),
    (θ_run Cert.Reference9Ideal.defs _ _).mono (fun r h c => ?_) (Cert.Reference9Ideal.Value.run m' ρ')⟩
  · exact ⟨(h c).1.trans (Cert.Kernel9Ideal.Prod.final m c), (h c).2⟩
  · obtain ⟨a0, a1⟩ := hagree c
    beta_reduce
    rw [← a0, ← a1]
    exact ⟨(h c).1.trans (Cert.Reference9Ideal.Read.val_main_v3_eq _ _), (h c).2⟩

/-- The reference of the gradient of the SwiGLU's output weights runs, keeps its arguments and has no semaphore. -/
theorem frame_reference10 : Cert.quiescent_Reference10Ideal := fun m ρ _ =>
  (θ_run Cert.Reference10Ideal.defs _ _).mono
    (fun r h => ⟨fun c => (h c).2, Idealize.ShloMosaic.sem_eq_zero_of_no_sems (by decide) r.2⟩) (Cert.Reference10Ideal.Value.run m ρ)

/-- The gradient of the SwiGLU's output weights: the kernel's result is the reference's. -/
theorem algebraic10 : Cert.algebraic_Kernel10Ideal_Reference10Ideal := by
  intro m ρ m' ρ' _ hagree
  refine ⟨fun c => Cert.Reference10Ideal.Read.val_main_v4 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run Cert.Kernel10Ideal.defs _ _).mono (fun r h c => ?_) (Cert.Kernel10Ideal.Value.run_blocks m ρ),
    (θ_run Cert.Reference10Ideal.defs _ _).mono (fun r h c => ?_) (Cert.Reference10Ideal.Value.run m' ρ')⟩
  · exact ⟨(h c).1.trans (Cert.Kernel10Ideal.Prod.final m c), (h c).2⟩
  · obtain ⟨a0, a1⟩ := hagree c
    beta_reduce
    rw [← a0, ← a1]
    exact ⟨(h c).1.trans (Cert.Reference10Ideal.Read.val_main_v4_eq _ _), (h c).2⟩

/-- The reference of the backward product of the SwiGLU's input weights runs, keeps its arguments and has no semaphore. -/
theorem frame_reference2 : Cert.quiescent_Reference2Ideal := fun m ρ _ =>
  (θ_run Cert.Reference2Ideal.defs _ _).mono
    (fun r h => ⟨fun c => (h c).2.2, Idealize.ShloMosaic.sem_eq_zero_of_no_sems (by decide) r.2⟩) (Cert.Reference2Ideal.Value.run m ρ)

/-- The backward product of the SwiGLU's input weights: the kernel's results are the reference's. -/
theorem algebraic2 : Cert.algebraic_Kernel2Ideal_Reference2Ideal_pre_finite2 := by
  intro m ρ m' ρ' hpre hagree
  have H : ∀ c, Cert.Kernel2Ideal.Prod.Given m c := fun c r k => Cert.Pre_finite2.real _ _ _ (hpre c) r k _ rfl
  refine ⟨fun c => Cert.Reference2Ideal.Read.val_main_v10 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => Cert.Reference2Ideal.Read.val_main_v11 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    (θ_run Cert.Kernel2Ideal.defs _ _).mono (fun r h c => ?_) (Cert.Kernel2Ideal.Value.run_blocks m ρ),
    (θ_run Cert.Reference2Ideal.defs _ _).mono (fun r h c => ?_) (Cert.Reference2Ideal.Value.run m' ρ')⟩
  · exact ⟨(h c).1.trans (Cert.Kernel2Ideal.Prod.final4 m c (H c)), (h c).2.1.trans (Cert.Kernel2Ideal.Prod.final5 m c (H c)), (h c).2.2⟩
  · obtain ⟨a0, a1, a2⟩ := hagree c
    beta_reduce
    rw [← a0, ← a1, ← a2]
    exact ⟨(h c).1.trans (Cert.Reference2Ideal.Read.val_main_v10_eq _ _ _), (h c).2.1.trans (Cert.Reference2Ideal.Read.val_main_v11_eq _ _ _), (h c).2.2⟩

/-- The reference of the backward pass of the block's input product and its norm runs, keeps its arguments and has no semaphore. -/
theorem frame_reference4 : Cert.quiescent_Reference4Ideal := fun m ρ _ =>
  (θ_run Cert.Reference4Ideal.defs _ _).mono
    (fun r h => ⟨fun c => (h c).2.2, Idealize.ShloMosaic.sem_eq_zero_of_no_sems (by decide) r.2⟩) (Cert.Reference4Ideal.Value.run m ρ)

/-- The backward pass of the block's input product and its norm: the kernel's results are the reference's. -/
theorem algebraic4 : Cert.algebraic_Kernel4Ideal_Reference4Ideal := by
  intro m ρ m' ρ' _ hagree
  refine ⟨fun c => Cert.Reference4Ideal.Read.val_main_v38 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)),
    fun c => Cert.Reference4Ideal.Read.val_main_v39 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    (θ_run Cert.Kernel4Ideal.defs _ _).mono (fun r h c => ?_) (Cert.Kernel4Ideal.Value.run_blocks m ρ),
    (θ_run Cert.Reference4Ideal.defs _ _).mono (fun r h c => ?_) (Cert.Reference4Ideal.Value.run m' ρ')⟩
  · exact ⟨(h c).1.trans (Cert.Kernel4Ideal.Prod.final5 m c), (h c).2.1.trans (Cert.Kernel4Ideal.Prod.final6 m c), (h c).2.2⟩
  · obtain ⟨a0, a1, a2, a3, a4⟩ := hagree c
    beta_reduce
    rw [← a0, ← a1, ← a2, ← a3, ← a4]
    exact ⟨(h c).1.trans (Cert.Reference4Ideal.Read.val_main_v38_eq _ _), (h c).2.1.trans (Cert.Reference4Ideal.Read.val_main_v39_eq _ _ _), (h c).2.2⟩

/-- The reference of the backward product of the mixer's output weights runs, keeps its arguments and has no semaphore. -/
theorem frame_reference11 : Cert.quiescent_Reference11Ideal := fun m ρ _ =>
  (θ_run Cert.Reference11Ideal.defs _ _).mono
    (fun r h => ⟨fun c => (h c).2, Idealize.ShloMosaic.sem_eq_zero_of_no_sems (by decide) r.2⟩) (Cert.Reference11Ideal.Value.run m ρ)

/-- The backward product of the mixer's output weights: the kernel's result is the reference's. -/
theorem algebraic11 : Cert.algebraic_Kernel11Ideal_Reference11Ideal := by
  intro m ρ m' ρ' _ hagree
  refine ⟨fun c => Cert.Reference11Ideal.Read.val_main_v3 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run Cert.Kernel11Ideal.defs _ _).mono (fun r h c => ?_) (Cert.Kernel11Ideal.Value.run_blocks m ρ),
    (θ_run Cert.Reference11Ideal.defs _ _).mono (fun r h c => ?_) (Cert.Reference11Ideal.Value.run m' ρ')⟩
  · exact ⟨(h c).1.trans (Cert.Kernel11Ideal.Prod.final m c), (h c).2⟩
  · obtain ⟨a0, a1⟩ := hagree c
    beta_reduce
    rw [← a0, ← a1]
    exact ⟨(h c).1.trans (Cert.Reference11Ideal.Read.val_main_v3_eq _ _), (h c).2⟩

/-- The reference of the backward product of the attention's output weights runs, keeps its arguments and has no semaphore. -/
theorem frame_reference12 : Cert.quiescent_Reference12Ideal := fun m ρ _ =>
  (θ_run Cert.Reference12Ideal.defs _ _).mono
    (fun r h => ⟨fun c => (h c).2, Idealize.ShloMosaic.sem_eq_zero_of_no_sems (by decide) r.2⟩) (Cert.Reference12Ideal.Value.run m ρ)

/-- The backward product of the attention's output weights: the kernel's result is the reference's. -/
theorem algebraic12 : Cert.algebraic_Kernel12Ideal_Reference12Ideal := by
  intro m ρ m' ρ' _ hagree
  refine ⟨fun c => Cert.Reference12Ideal.Read.val_main_v3 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run Cert.Kernel12Ideal.defs _ _).mono (fun r h c => ?_) (Cert.Kernel12Ideal.Value.run_blocks m ρ),
    (θ_run Cert.Reference12Ideal.defs _ _).mono (fun r h c => ?_) (Cert.Reference12Ideal.Value.run m' ρ')⟩
  · exact ⟨(h c).1.trans (Cert.Kernel12Ideal.Prod.final m c), (h c).2⟩
  · obtain ⟨a0, a1⟩ := hagree c
    beta_reduce
    rw [← a0, ← a1]
    exact ⟨(h c).1.trans (Cert.Reference12Ideal.Read.val_main_v3_eq _ _), (h c).2⟩

/-- The reference of the backward product of the S5's gate weights runs, keeps its arguments and has no semaphore. -/
theorem frame_reference13 : Cert.quiescent_Reference13Ideal := fun m ρ _ =>
  (θ_run Cert.Reference13Ideal.defs _ _).mono
    (fun r h => ⟨fun c => (h c).2, Idealize.ShloMosaic.sem_eq_zero_of_no_sems (by decide) r.2⟩) (Cert.Reference13Ideal.Value.run m ρ)

/-- The backward product of the S5's gate weights: the kernel's result is the reference's. -/
theorem algebraic13 : Cert.algebraic_Kernel13Ideal_Reference13Ideal := by
  intro m ρ m' ρ' _ hagree
  refine ⟨fun c => Cert.Reference13Ideal.Read.val_main_v3 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    (θ_run Cert.Kernel13Ideal.defs _ _).mono (fun r h c => ?_) (Cert.Kernel13Ideal.Value.run_blocks m ρ),
    (θ_run Cert.Reference13Ideal.defs _ _).mono (fun r h c => ?_) (Cert.Reference13Ideal.Value.run m' ρ')⟩
  · exact ⟨(h c).1.trans (Cert.Kernel13Ideal.Prod.final m c), (h c).2⟩
  · obtain ⟨a0, a1⟩ := hagree c
    beta_reduce
    rw [← a0, ← a1]
    exact ⟨(h c).1.trans (Cert.Reference13Ideal.Read.val_main_v3_eq _ _), (h c).2⟩

/-- The reference of the backward product of the convolution's output weights runs, keeps its arguments and has no semaphore. -/
theorem frame_reference14 : Cert.quiescent_Reference14Ideal := fun m ρ _ =>
  (θ_run Cert.Reference14Ideal.defs _ _).mono
    (fun r h => ⟨fun c => (h c).2, Idealize.ShloMosaic.sem_eq_zero_of_no_sems (by decide) r.2⟩) (Cert.Reference14Ideal.Value.run m ρ)

/-- The backward product of the convolution's output weights: the kernel's result is the reference's. -/
theorem algebraic14 : Cert.algebraic_Kernel14Ideal_Reference14Ideal := by
  intro m ρ m' ρ' _ hagree
  refine ⟨fun c => Cert.Reference14Ideal.Read.val_main_v3 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run Cert.Kernel14Ideal.defs _ _).mono (fun r h c => ?_) (Cert.Kernel14Ideal.Value.run_blocks m ρ),
    (θ_run Cert.Reference14Ideal.defs _ _).mono (fun r h c => ?_) (Cert.Reference14Ideal.Value.run m' ρ')⟩
  · exact ⟨(h c).1.trans (Cert.Kernel14Ideal.Prod.final m c), (h c).2⟩
  · obtain ⟨a0, a1⟩ := hagree c
    beta_reduce
    rw [← a0, ← a1]
    exact ⟨(h c).1.trans (Cert.Reference14Ideal.Read.val_main_v3_eq _ _), (h c).2⟩

/-- The reference of the forward product of the attention's output weights runs, keeps its arguments and has no semaphore. -/
theorem frame_reference15 : Cert.quiescent_Reference15Ideal := fun m ρ _ =>
  (θ_run Cert.Reference15Ideal.defs _ _).mono
    (fun r h => ⟨fun c => (h c).2, Idealize.ShloMosaic.sem_eq_zero_of_no_sems (by decide) r.2⟩) (Cert.Reference15Ideal.Value.run m ρ)

/-- The forward product of the attention's output weights: the kernel's result is the reference's. -/
theorem algebraic15 : Cert.algebraic_Kernel15Ideal_Reference15Ideal := by
  intro m ρ m' ρ' _ hagree
  refine ⟨fun c => Cert.Reference15Ideal.Read.val_main_v1 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run Cert.Kernel15Ideal.defs _ _).mono (fun r h c => ?_) (Cert.Kernel15Ideal.Value.run_blocks m ρ),
    (θ_run Cert.Reference15Ideal.defs _ _).mono (fun r h c => ?_) (Cert.Reference15Ideal.Value.run m' ρ')⟩
  · exact ⟨(h c).1.trans (Cert.Kernel15Ideal.Prod.final m c), (h c).2⟩
  · obtain ⟨a0, a1⟩ := hagree c
    beta_reduce
    rw [← a0, ← a1]
    exact ⟨(h c).1.trans (Cert.Reference15Ideal.Read.val_main_v1_eq _ _), (h c).2⟩

/-- The reference of the gradient of the mixer's output weights runs, keeps its arguments and has no semaphore. -/
theorem frame_reference16 : Cert.quiescent_Reference16Ideal := fun m ρ _ =>
  (θ_run Cert.Reference16Ideal.defs _ _).mono
    (fun r h => ⟨fun c => (h c).2, Idealize.ShloMosaic.sem_eq_zero_of_no_sems (by decide) r.2⟩) (Cert.Reference16Ideal.Value.run m ρ)

/-- The gradient of the mixer's output weights: the kernel's result is the reference's. -/
theorem algebraic16 : Cert.algebraic_Kernel16Ideal_Reference16Ideal := by
  intro m ρ m' ρ' _ hagree
  refine ⟨fun c => Cert.Reference16Ideal.Read.val_main_v4 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    (θ_run Cert.Kernel16Ideal.defs _ _).mono (fun r h c => ?_) (Cert.Kernel16Ideal.Value.run_blocks m ρ),
    (θ_run Cert.Reference16Ideal.defs _ _).mono (fun r h c => ?_) (Cert.Reference16Ideal.Value.run m' ρ')⟩
  · exact ⟨(h c).1.trans (Cert.Kernel16Ideal.Prod.final m c), (h c).2⟩
  · obtain ⟨a0, a1⟩ := hagree c
    beta_reduce
    rw [← a0, ← a1]
    exact ⟨(h c).1.trans (Cert.Reference16Ideal.Read.val_main_v4_eq _ _), (h c).2⟩

/-- The reference of the gradient of the attention's output weights runs, keeps its arguments and has no semaphore. -/
theorem frame_reference17 : Cert.quiescent_Reference17Ideal := fun m ρ _ =>
  (θ_run Cert.Reference17Ideal.defs _ _).mono
    (fun r h => ⟨fun c => (h c).2, Idealize.ShloMosaic.sem_eq_zero_of_no_sems (by decide) r.2⟩) (Cert.Reference17Ideal.Value.run m ρ)

/-- The gradient of the attention's output weights: the kernel's result is the reference's. -/
theorem algebraic17 : Cert.algebraic_Kernel17Ideal_Reference17Ideal := by
  intro m ρ m' ρ' _ hagree
  refine ⟨fun c => Cert.Reference17Ideal.Read.val_main_v4 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
    (θ_run Cert.Kernel17Ideal.defs _ _).mono (fun r h c => ?_) (Cert.Kernel17Ideal.Value.run_blocks m ρ),
    (θ_run Cert.Reference17Ideal.defs _ _).mono (fun r h c => ?_) (Cert.Reference17Ideal.Value.run m' ρ')⟩
  · exact ⟨(h c).1.trans (Cert.Kernel17Ideal.Prod.final m c), (h c).2⟩
  · obtain ⟨a0, a1⟩ := hagree c
    beta_reduce
    rw [← a0, ← a1]
    exact ⟨(h c).1.trans (Cert.Reference17Ideal.Read.val_main_v4_eq _ _), (h c).2⟩

/-- The reference of the gradient of the S5's gate weights runs, keeps its arguments and has no semaphore. -/
theorem frame_reference18 : Cert.quiescent_Reference18Ideal := fun m ρ _ =>
  (θ_run Cert.Reference18Ideal.defs _ _).mono
    (fun r h => ⟨fun c => (h c).2, Idealize.ShloMosaic.sem_eq_zero_of_no_sems (by decide) r.2⟩) (Cert.Reference18Ideal.Value.run m ρ)

/-- The gradient of the S5's gate weights: the kernel's result is the reference's. -/
theorem algebraic18 : Cert.algebraic_Kernel18Ideal_Reference18Ideal := by
  intro m ρ m' ρ' _ hagree
  refine ⟨fun c => Cert.Reference18Ideal.Read.val_main_v4 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    (θ_run Cert.Kernel18Ideal.defs _ _).mono (fun r h c => ?_) (Cert.Kernel18Ideal.Value.run_blocks m ρ),
    (θ_run Cert.Reference18Ideal.defs _ _).mono (fun r h c => ?_) (Cert.Reference18Ideal.Value.run m' ρ')⟩
  · exact ⟨(h c).1.trans (Cert.Kernel18Ideal.Prod.final m c), (h c).2⟩
  · obtain ⟨a0, a1⟩ := hagree c
    beta_reduce
    rw [← a0, ← a1]
    exact ⟨(h c).1.trans (Cert.Reference18Ideal.Read.val_main_v4_eq _ _), (h c).2⟩

/-- The reference of the gradient of the convolution's output weights runs, keeps its arguments and has no semaphore. -/
theorem frame_reference19 : Cert.quiescent_Reference19Ideal := fun m ρ _ =>
  (θ_run Cert.Reference19Ideal.defs _ _).mono
    (fun r h => ⟨fun c => (h c).2, Idealize.ShloMosaic.sem_eq_zero_of_no_sems (by decide) r.2⟩) (Cert.Reference19Ideal.Value.run m ρ)

/-- The gradient of the convolution's output weights: the kernel's result is the reference's. -/
theorem algebraic19 : Cert.algebraic_Kernel19Ideal_Reference19Ideal := by
  intro m ρ m' ρ' _ hagree
  refine ⟨fun c => Cert.Reference19Ideal.Read.val_main_v4 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    (θ_run Cert.Kernel19Ideal.defs _ _).mono (fun r h c => ?_) (Cert.Kernel19Ideal.Value.run_blocks m ρ),
    (θ_run Cert.Reference19Ideal.defs _ _).mono (fun r h c => ?_) (Cert.Reference19Ideal.Value.run m' ρ')⟩
  · exact ⟨(h c).1.trans (Cert.Kernel19Ideal.Prod.final m c), (h c).2⟩
  · obtain ⟨a0, a1⟩ := hagree c
    beta_reduce
    rw [← a0, ← a1]
    exact ⟨(h c).1.trans (Cert.Reference19Ideal.Read.val_main_v4_eq _ _), (h c).2⟩

/-- The reference of the gradient of the per-layer embedding's gate weights runs, keeps its arguments and has no semaphore. -/
theorem frame_reference20 : Cert.quiescent_Reference20Ideal := fun m ρ _ =>
  (θ_run Cert.Reference20Ideal.defs _ _).mono
    (fun r h => ⟨fun c => (h c).2, Idealize.ShloMosaic.sem_eq_zero_of_no_sems (by decide) r.2⟩) (Cert.Reference20Ideal.Value.run m ρ)

/-- The gradient of the per-layer embedding's gate weights: the kernel's result is the reference's. -/
theorem algebraic20 : Cert.algebraic_Kernel20Ideal_Reference20Ideal := by
  intro m ρ m' ρ' _ hagree
  refine ⟨fun c => Cert.Reference20Ideal.Read.val_main_v4 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)),
    (θ_run Cert.Kernel20Ideal.defs _ _).mono (fun r h c => ?_) (Cert.Kernel20Ideal.Value.run_blocks m ρ),
    (θ_run Cert.Reference20Ideal.defs _ _).mono (fun r h c => ?_) (Cert.Reference20Ideal.Value.run m' ρ')⟩
  · exact ⟨(h c).1.trans (Cert.Kernel20Ideal.Prod.final m c), (h c).2⟩
  · obtain ⟨a0, a1⟩ := hagree c
    beta_reduce
    rw [← a0, ← a1]
    exact ⟨(h c).1.trans (Cert.Reference20Ideal.Read.val_main_v4_eq _ _), (h c).2⟩

/-- The reference of the gradient of the per-layer embedding's input weights runs, keeps its arguments and has no semaphore. -/
theorem frame_reference21 : Cert.quiescent_Reference21Ideal := fun m ρ _ =>
  (θ_run Cert.Reference21Ideal.defs _ _).mono
    (fun r h => ⟨fun c => (h c).2, Idealize.ShloMosaic.sem_eq_zero_of_no_sems (by decide) r.2⟩) (Cert.Reference21Ideal.Value.run m ρ)

/-- The gradient of the per-layer embedding's input weights: the kernel's result is the reference's. -/
theorem algebraic21 : Cert.algebraic_Kernel21Ideal_Reference21Ideal := by
  intro m ρ m' ρ' _ hagree
  refine ⟨fun c => Cert.Reference21Ideal.Read.val_main_v4 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)),
    (θ_run Cert.Kernel21Ideal.defs _ _).mono (fun r h c => ?_) (Cert.Kernel21Ideal.Value.run_blocks m ρ),
    (θ_run Cert.Reference21Ideal.defs _ _).mono (fun r h c => ?_) (Cert.Reference21Ideal.Value.run m' ρ')⟩
  · exact ⟨(h c).1.trans (Cert.Kernel21Ideal.Prod.final m c), (h c).2⟩
  · obtain ⟨a0, a1⟩ := hagree c
    beta_reduce
    rw [← a0, ← a1]
    exact ⟨(h c).1.trans (Cert.Reference21Ideal.Read.val_main_v4_eq _ _), (h c).2⟩

/-- The reference of the optimiser's step of the mixer's input weights runs, keeps its arguments and has no semaphore. -/
theorem frame_reference22 : Cert.quiescent_Reference22Ideal := fun m ρ _ =>
  (θ_run Cert.Reference22Ideal.defs _ _).mono
    (fun r h => ⟨fun c => (h c).2.2.2, Idealize.ShloMosaic.sem_eq_zero_of_no_sems (by decide) r.2⟩) (Cert.Reference22Ideal.Value.run m ρ)

/-- The optimiser's step of the mixer's input weights: the kernel's results are the reference's. -/
theorem algebraic22 : Cert.algebraic_Kernel22Ideal_Reference22Ideal := by
  intro m ρ m' ρ' _ hagree
  refine ⟨fun c => Cert.Reference22Ideal.Read.val_main_v24 (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)),
    fun c => Cert.Reference22Ideal.Read.val_main_v25 (F := Ideal) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)),
    fun c => Cert.Reference22Ideal.Read.val_main_v26 (F := Ideal) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg3)),
    (θ_run Cert.Kernel22Ideal.defs _ _).mono (fun r h c => ?_) (Cert.Kernel22Ideal.Value.run_blocks m ρ),
    (θ_run Cert.Reference22Ideal.defs _ _).mono (fun r h c => ?_) (Cert.Reference22Ideal.Value.run m' ρ')⟩
  · exact ⟨(h c).1.trans (Cert.Kernel22Ideal.Prod.final_change m c), (h c).2.1.trans (Cert.Kernel22Ideal.Prod.final_first m c), (h c).2.2.1.trans (Cert.Kernel22Ideal.Prod.final_second m c), (h c).2.2.2⟩
  · obtain ⟨a0, a1, a2, a3⟩ := hagree c
    beta_reduce
    rw [← a0, ← a1, ← a2, ← a3]
    exact ⟨(h c).1.trans (Cert.Reference22Ideal.Read.val_main_v24_eq _ _ _ _), (h c).2.1.trans (Cert.Reference22Ideal.Read.val_main_v25_eq _ _), (h c).2.2.1.trans (Cert.Reference22Ideal.Read.val_main_v26_eq _ _), (h c).2.2.2⟩

/-- The reference of the optimiser's step of the SwiGLU's input weights runs, keeps its arguments and has no semaphore. -/
theorem frame_reference23 : Cert.quiescent_Reference23Ideal := fun m ρ _ =>
  (θ_run Cert.Reference23Ideal.defs _ _).mono
    (fun r h => ⟨fun c => (h c).2.2.2, Idealize.ShloMosaic.sem_eq_zero_of_no_sems (by decide) r.2⟩) (Cert.Reference23Ideal.Value.run m ρ)

/-- The optimiser's step of the SwiGLU's input weights: the kernel's results are the reference's. -/
theorem algebraic23 : Cert.algebraic_Kernel23Ideal_Reference23Ideal := by
  intro m ρ m' ρ' _ hagree
  refine ⟨fun c => Cert.Reference23Ideal.Read.val_main_v24 (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)),
    fun c => Cert.Reference23Ideal.Read.val_main_v25 (F := Ideal) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)),
    fun c => Cert.Reference23Ideal.Read.val_main_v26 (F := Ideal) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg3)),
    (θ_run Cert.Kernel23Ideal.defs _ _).mono (fun r h c => ?_) (Cert.Kernel23Ideal.Value.run_blocks m ρ),
    (θ_run Cert.Reference23Ideal.defs _ _).mono (fun r h c => ?_) (Cert.Reference23Ideal.Value.run m' ρ')⟩
  · exact ⟨(h c).1.trans (Cert.Kernel23Ideal.Prod.final_change m c), (h c).2.1.trans (Cert.Kernel23Ideal.Prod.final_first m c), (h c).2.2.1.trans (Cert.Kernel23Ideal.Prod.final_second m c), (h c).2.2.2⟩
  · obtain ⟨a0, a1, a2, a3⟩ := hagree c
    beta_reduce
    rw [← a0, ← a1, ← a2, ← a3]
    exact ⟨(h c).1.trans (Cert.Reference23Ideal.Read.val_main_v24_eq _ _ _ _), (h c).2.1.trans (Cert.Reference23Ideal.Read.val_main_v25_eq _ _), (h c).2.2.1.trans (Cert.Reference23Ideal.Read.val_main_v26_eq _ _), (h c).2.2.2⟩

/-- The reference of the optimiser's step of the SwiGLU's output weights runs, keeps its arguments and has no semaphore. -/
theorem frame_reference24 : Cert.quiescent_Reference24Ideal := fun m ρ _ =>
  (θ_run Cert.Reference24Ideal.defs _ _).mono
    (fun r h => ⟨fun c => (h c).2.2.2, Idealize.ShloMosaic.sem_eq_zero_of_no_sems (by decide) r.2⟩) (Cert.Reference24Ideal.Value.run m ρ)

/-- The optimiser's step of the SwiGLU's output weights: the kernel's results are the reference's. -/
theorem algebraic24 : Cert.algebraic_Kernel24Ideal_Reference24Ideal := by
  intro m ρ m' ρ' _ hagree
  refine ⟨fun c => Cert.Reference24Ideal.Read.val_main_v24 (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)),
    fun c => Cert.Reference24Ideal.Read.val_main_v25 (F := Ideal) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)),
    fun c => Cert.Reference24Ideal.Read.val_main_v26 (F := Ideal) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg3)),
    (θ_run Cert.Kernel24Ideal.defs _ _).mono (fun r h c => ?_) (Cert.Kernel24Ideal.Value.run_blocks m ρ),
    (θ_run Cert.Reference24Ideal.defs _ _).mono (fun r h c => ?_) (Cert.Reference24Ideal.Value.run m' ρ')⟩
  · exact ⟨(h c).1.trans (Cert.Kernel24Ideal.Prod.final_change m c), (h c).2.1.trans (Cert.Kernel24Ideal.Prod.final_first m c), (h c).2.2.1.trans (Cert.Kernel24Ideal.Prod.final_second m c), (h c).2.2.2⟩
  · obtain ⟨a0, a1, a2, a3⟩ := hagree c
    beta_reduce
    rw [← a0, ← a1, ← a2, ← a3]
    exact ⟨(h c).1.trans (Cert.Reference24Ideal.Read.val_main_v24_eq _ _ _ _), (h c).2.1.trans (Cert.Reference24Ideal.Read.val_main_v25_eq _ _), (h c).2.2.1.trans (Cert.Reference24Ideal.Read.val_main_v26_eq _ _), (h c).2.2.2⟩

/-- The reference of the optimiser's step of the mixer's output weights runs, keeps its arguments and has no semaphore. -/
theorem frame_reference25 : Cert.quiescent_Reference25Ideal := fun m ρ _ =>
  (θ_run Cert.Reference25Ideal.defs _ _).mono
    (fun r h => ⟨fun c => (h c).2.2.2, Idealize.ShloMosaic.sem_eq_zero_of_no_sems (by decide) r.2⟩) (Cert.Reference25Ideal.Value.run m ρ)

/-- The optimiser's step of the mixer's output weights: the kernel's results are the reference's. -/
theorem algebraic25 : Cert.algebraic_Kernel25Ideal_Reference25Ideal := by
  intro m ρ m' ρ' _ hagree
  refine ⟨fun c => Cert.Reference25Ideal.Read.val_main_v24 (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)),
    fun c => Cert.Reference25Ideal.Read.val_main_v25 (F := Ideal) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)),
    fun c => Cert.Reference25Ideal.Read.val_main_v26 (F := Ideal) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg3)),
    (θ_run Cert.Kernel25Ideal.defs _ _).mono (fun r h c => ?_) (Cert.Kernel25Ideal.Value.run_blocks m ρ),
    (θ_run Cert.Reference25Ideal.defs _ _).mono (fun r h c => ?_) (Cert.Reference25Ideal.Value.run m' ρ')⟩
  · exact ⟨(h c).1.trans (Cert.Kernel25Ideal.Prod.final_change m c), (h c).2.1.trans (Cert.Kernel25Ideal.Prod.final_first m c), (h c).2.2.1.trans (Cert.Kernel25Ideal.Prod.final_second m c), (h c).2.2.2⟩
  · obtain ⟨a0, a1, a2, a3⟩ := hagree c
    beta_reduce
    rw [← a0, ← a1, ← a2, ← a3]
    exact ⟨(h c).1.trans (Cert.Reference25Ideal.Read.val_main_v24_eq _ _ _ _), (h c).2.1.trans (Cert.Reference25Ideal.Read.val_main_v25_eq _ _), (h c).2.2.1.trans (Cert.Reference25Ideal.Read.val_main_v26_eq _ _), (h c).2.2.2⟩

/-- The reference of the optimiser's step of the attention's output weights runs, keeps its arguments and has no semaphore. -/
theorem frame_reference26 : Cert.quiescent_Reference26Ideal := fun m ρ _ =>
  (θ_run Cert.Reference26Ideal.defs _ _).mono
    (fun r h => ⟨fun c => (h c).2.2.2, Idealize.ShloMosaic.sem_eq_zero_of_no_sems (by decide) r.2⟩) (Cert.Reference26Ideal.Value.run m ρ)

/-- The optimiser's step of the attention's output weights: the kernel's results are the reference's. -/
theorem algebraic26 : Cert.algebraic_Kernel26Ideal_Reference26Ideal := by
  intro m ρ m' ρ' _ hagree
  refine ⟨fun c => Cert.Reference26Ideal.Read.val_main_v24 (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)),
    fun c => Cert.Reference26Ideal.Read.val_main_v25 (F := Ideal) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)),
    fun c => Cert.Reference26Ideal.Read.val_main_v26 (F := Ideal) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg3)),
    (θ_run Cert.Kernel26Ideal.defs _ _).mono (fun r h c => ?_) (Cert.Kernel26Ideal.Value.run_blocks m ρ),
    (θ_run Cert.Reference26Ideal.defs _ _).mono (fun r h c => ?_) (Cert.Reference26Ideal.Value.run m' ρ')⟩
  · exact ⟨(h c).1.trans (Cert.Kernel26Ideal.Prod.final_change m c), (h c).2.1.trans (Cert.Kernel26Ideal.Prod.final_first m c), (h c).2.2.1.trans (Cert.Kernel26Ideal.Prod.final_second m c), (h c).2.2.2⟩
  · obtain ⟨a0, a1, a2, a3⟩ := hagree c
    beta_reduce
    rw [← a0, ← a1, ← a2, ← a3]
    exact ⟨(h c).1.trans (Cert.Reference26Ideal.Read.val_main_v24_eq _ _ _ _), (h c).2.1.trans (Cert.Reference26Ideal.Read.val_main_v25_eq _ _), (h c).2.2.1.trans (Cert.Reference26Ideal.Read.val_main_v26_eq _ _), (h c).2.2.2⟩

/-- The reference of the optimiser's step of the S5's gate weights runs, keeps its arguments and has no semaphore. -/
theorem frame_reference27 : Cert.quiescent_Reference27Ideal := fun m ρ _ =>
  (θ_run Cert.Reference27Ideal.defs _ _).mono
    (fun r h => ⟨fun c => (h c).2.2.2, Idealize.ShloMosaic.sem_eq_zero_of_no_sems (by decide) r.2⟩) (Cert.Reference27Ideal.Value.run m ρ)

/-- The optimiser's step of the S5's gate weights: the kernel's results are the reference's. -/
theorem algebraic27 : Cert.algebraic_Kernel27Ideal_Reference27Ideal := by
  intro m ρ m' ρ' _ hagree
  refine ⟨fun c => Cert.Reference27Ideal.Read.val_main_v24 (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)),
    fun c => Cert.Reference27Ideal.Read.val_main_v25 (F := Ideal) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)),
    fun c => Cert.Reference27Ideal.Read.val_main_v26 (F := Ideal) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg3)),
    (θ_run Cert.Kernel27Ideal.defs _ _).mono (fun r h c => ?_) (Cert.Kernel27Ideal.Value.run_blocks m ρ),
    (θ_run Cert.Reference27Ideal.defs _ _).mono (fun r h c => ?_) (Cert.Reference27Ideal.Value.run m' ρ')⟩
  · exact ⟨(h c).1.trans (Cert.Kernel27Ideal.Prod.final_change m c), (h c).2.1.trans (Cert.Kernel27Ideal.Prod.final_first m c), (h c).2.2.1.trans (Cert.Kernel27Ideal.Prod.final_second m c), (h c).2.2.2⟩
  · obtain ⟨a0, a1, a2, a3⟩ := hagree c
    beta_reduce
    rw [← a0, ← a1, ← a2, ← a3]
    exact ⟨(h c).1.trans (Cert.Reference27Ideal.Read.val_main_v24_eq _ _ _ _), (h c).2.1.trans (Cert.Reference27Ideal.Read.val_main_v25_eq _ _), (h c).2.2.1.trans (Cert.Reference27Ideal.Read.val_main_v26_eq _ _), (h c).2.2.2⟩

/-- The reference of the optimiser's step of the convolution's output weights runs, keeps its arguments and has no semaphore. -/
theorem frame_reference28 : Cert.quiescent_Reference28Ideal := fun m ρ _ =>
  (θ_run Cert.Reference28Ideal.defs _ _).mono
    (fun r h => ⟨fun c => (h c).2.2.2, Idealize.ShloMosaic.sem_eq_zero_of_no_sems (by decide) r.2⟩) (Cert.Reference28Ideal.Value.run m ρ)

/-- The optimiser's step of the convolution's output weights: the kernel's results are the reference's. -/
theorem algebraic28 : Cert.algebraic_Kernel28Ideal_Reference28Ideal := by
  intro m ρ m' ρ' _ hagree
  refine ⟨fun c => Cert.Reference28Ideal.Read.val_main_v24 (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)),
    fun c => Cert.Reference28Ideal.Read.val_main_v25 (F := Ideal) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)),
    fun c => Cert.Reference28Ideal.Read.val_main_v26 (F := Ideal) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg3)),
    (θ_run Cert.Kernel28Ideal.defs _ _).mono (fun r h c => ?_) (Cert.Kernel28Ideal.Value.run_blocks m ρ),
    (θ_run Cert.Reference28Ideal.defs _ _).mono (fun r h c => ?_) (Cert.Reference28Ideal.Value.run m' ρ')⟩
  · exact ⟨(h c).1.trans (Cert.Kernel28Ideal.Prod.final_change m c), (h c).2.1.trans (Cert.Kernel28Ideal.Prod.final_first m c), (h c).2.2.1.trans (Cert.Kernel28Ideal.Prod.final_second m c), (h c).2.2.2⟩
  · obtain ⟨a0, a1, a2, a3⟩ := hagree c
    beta_reduce
    rw [← a0, ← a1, ← a2, ← a3]
    exact ⟨(h c).1.trans (Cert.Reference28Ideal.Read.val_main_v24_eq _ _ _ _), (h c).2.1.trans (Cert.Reference28Ideal.Read.val_main_v25_eq _ _), (h c).2.2.1.trans (Cert.Reference28Ideal.Read.val_main_v26_eq _ _), (h c).2.2.2⟩

/-- The reference of the optimiser's step of the small weights runs, keeps its arguments and has no semaphore. -/
theorem frame_reference29 : Cert.quiescent_Reference29Ideal := fun m ρ _ =>
  (θ_run Cert.Reference29Ideal.defs _ _).mono
    (fun r h => ⟨fun c => (h c).2.2.2, Idealize.ShloMosaic.sem_eq_zero_of_no_sems (by decide) r.2⟩) (Cert.Reference29Ideal.Value.run m ρ)

/-- The optimiser's step of the small weights: the kernel's results are the reference's. -/
theorem algebraic29 : Cert.algebraic_Kernel29Ideal_Reference29Ideal := by
  intro m ρ m' ρ' _ hagree
  refine ⟨fun c => Cert.Reference29Ideal.Read.val_main_v23 (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)),
    fun c => Cert.Reference29Ideal.Read.val_main_v4 (F := Ideal) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)),
    fun c => Cert.Reference29Ideal.Read.val_main_v10 (F := Ideal) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg3)),
    (θ_run Cert.Kernel29Ideal.defs _ _).mono (fun r h c => ?_) (Cert.Kernel29Ideal.Value.run_blocks m ρ),
    (θ_run Cert.Reference29Ideal.defs _ _).mono (fun r h c => ?_) (Cert.Reference29Ideal.Value.run m' ρ')⟩
  · exact ⟨(h c).1.trans (Cert.Kernel29Ideal.Prod.final_change m c), (h c).2.1.trans (Cert.Kernel29Ideal.Prod.final_first m c), (h c).2.2.1.trans (Cert.Kernel29Ideal.Prod.final_second m c), (h c).2.2.2⟩
  · obtain ⟨a0, a1, a2, a3⟩ := hagree c
    beta_reduce
    rw [← a0, ← a1, ← a2, ← a3]
    exact ⟨(h c).1.trans (Cert.Reference29Ideal.Read.val_main_v23_eq _ _ _ _), (h c).2.1.trans (Cert.Reference29Ideal.Read.val_main_v4_eq _ _), (h c).2.2.1.trans (Cert.Reference29Ideal.Read.val_main_v10_eq _ _), (h c).2.2.2⟩

/-- The reference of the last norm and the loss runs, keeps its arguments and has no semaphore. -/
theorem frame_reference30 : Cert.quiescent_Reference30Ideal := fun m ρ _ =>
  (θ_run Cert.Reference30Ideal.defs _ _).mono
    (fun r h => ⟨fun c => (h c).2.2.2, Idealize.ShloMosaic.sem_eq_zero_of_no_sems (by decide) r.2⟩) (Cert.Reference30Ideal.Value.run m ρ)

/-- The last norm and the loss: the kernel's results are the reference's. -/
theorem algebraic30 : Cert.algebraic_Kernel30Ideal_Reference30Ideal := by
  intro m ρ m' ρ' _ hagree
  refine ⟨fun c => Cert.Reference30Ideal.Read.val_main_v71 (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)),
    fun c => Cert.Reference30Ideal.Read.val_main_v20 (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)),
    fun c => Cert.Reference30Ideal.Read.val_main_v72 (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)),
    (θ_run Cert.Kernel30Ideal.defs _ _).mono (fun r h c => ?_) (Cert.Kernel30Ideal.Value.run_blocks m ρ),
    (θ_run Cert.Reference30Ideal.defs _ _).mono (fun r h c => ?_) (Cert.Reference30Ideal.Value.run m' ρ')⟩
  · exact ⟨(h c).1.trans (Cert.Kernel30Ideal.Prod.final_rows m c), (h c).2.1.trans (Cert.Kernel30Ideal.Prod.final_loss m c), (h c).2.2.1.trans (Cert.Kernel30Ideal.Prod.final_gain m c), (h c).2.2.2⟩
  · obtain ⟨a0, a1, a2⟩ := hagree c
    beta_reduce
    rw [← a0, ← a1, ← a2]
    exact ⟨(h c).1.trans (Cert.Reference30Ideal.Read.val_main_v71_eq _ _), (h c).2.1.trans (Cert.Reference30Ideal.Read.val_main_v20_eq _ _ _), (h c).2.2.1.trans (Cert.Reference30Ideal.Read.val_main_v72_eq _ _ _), (h c).2.2.2⟩

/-- The reference of the backward pass of the per-layer embedding runs, keeps its arguments and has no semaphore. -/
theorem frame_reference31 : Cert.quiescent_Reference31Ideal := fun m ρ _ =>
  (θ_run Cert.Reference31Ideal.defs _ _).mono
    (fun r h => ⟨fun c => (h c).2.2.2.2, Idealize.ShloMosaic.sem_eq_zero_of_no_sems (by decide) r.2⟩) (Cert.Reference31Ideal.Value.run m ρ)

/-- The backward pass of the per-layer embedding: the kernel's results are the reference's. -/
theorem algebraic31 : Cert.algebraic_Kernel31Ideal_Reference31Ideal := by
  intro m ρ m' ρ' _ hagree
  refine ⟨fun c => Cert.Reference31Ideal.Read.val_main_v51 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)),
    fun c => Cert.Reference31Ideal.Read.val_main_v52 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)),
    fun c => Cert.Reference31Ideal.Read.val_main_v53 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)),
    fun c => Cert.Reference31Ideal.Read.val_main_v54 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg5)),
    (θ_run Cert.Kernel31Ideal.defs _ _).mono (fun r h c => ?_) (Cert.Kernel31Ideal.Value.run_blocks m ρ),
    (θ_run Cert.Reference31Ideal.defs _ _).mono (fun r h c => ?_) (Cert.Reference31Ideal.Value.run m' ρ')⟩
  · exact ⟨(h c).1.trans (Cert.Kernel31Ideal.Prod.final_emb m c), (h c).2.1.trans (Cert.Kernel31Ideal.Prod.final_gate m c), (h c).2.2.1.trans (Cert.Kernel31Ideal.Prod.final_rows m c), (h c).2.2.2.1.trans (Cert.Kernel31Ideal.Prod.final_gain m c), (h c).2.2.2.2⟩
  · obtain ⟨a0, a1, a2, a3, a4, a5⟩ := hagree c
    beta_reduce
    rw [← a0, ← a1, ← a2, ← a3, ← a4, ← a5]
    exact ⟨(h c).1.trans (Cert.Reference31Ideal.Read.val_main_v51_eq _ _), (h c).2.1.trans (Cert.Reference31Ideal.Read.val_main_v52_eq _ _ _), (h c).2.2.1.trans (Cert.Reference31Ideal.Read.val_main_v53_eq _ _), (h c).2.2.2.1.trans (Cert.Reference31Ideal.Read.val_main_v54_eq _ _ _ _ _), (h c).2.2.2.2⟩

/-- The reference of the mixer's output product and the norm after it runs, keeps its arguments and has no semaphore. -/
theorem frame_reference32 : Cert.quiescent_Reference32Ideal := fun m ρ _ =>
  (θ_run Cert.Reference32Ideal.defs _ _).mono
    (fun r h => ⟨fun c => (h c).2.2, Idealize.ShloMosaic.sem_eq_zero_of_no_sems (by decide) r.2⟩) (Cert.Reference32Ideal.Value.run m ρ)

/-- The mixer's output product and the norm after it: the kernel's results are the reference's. -/
theorem algebraic32 : Cert.algebraic_Kernel32Ideal_Reference32Ideal := by
  intro m ρ m' ρ' _ hagree
  refine ⟨fun c => Cert.Reference32Ideal.Read.val_main_v1 (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)),
    fun c => Cert.Reference32Ideal.Read.val_main_v15 (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)),
    (θ_run Cert.Kernel32Ideal.defs _ _).mono (fun r h c => ?_) (Cert.Kernel32Ideal.Value.run_blocks m ρ),
    (θ_run Cert.Reference32Ideal.defs _ _).mono (fun r h c => ?_) (Cert.Reference32Ideal.Value.run m' ρ')⟩
  · exact ⟨(h c).1.trans (Cert.Kernel32Ideal.Prod.final_rows m c), (h c).2.1.trans (Cert.Kernel32Ideal.Prod.final_norm m c), (h c).2.2⟩
  · obtain ⟨a0, a1, a2, a3⟩ := hagree c
    beta_reduce
    rw [← a0, ← a1, ← a2, ← a3]
    exact ⟨(h c).1.trans (Cert.Reference32Ideal.Read.val_main_v1_eq _ _ _), (h c).2.1.trans (Cert.Reference32Ideal.Read.val_main_v15_eq _ _ _ _), (h c).2.2⟩

/-- The reference of the per-layer embedding runs, keeps its arguments and has no semaphore. -/
theorem frame_reference33 : Cert.quiescent_Reference33Ideal := fun m ρ _ =>
  (θ_run Cert.Reference33Ideal.defs _ _).mono
    (fun r h => ⟨fun c => (h c).2.2.2.2, Idealize.ShloMosaic.sem_eq_zero_of_no_sems (by decide) r.2⟩) (Cert.Reference33Ideal.Value.run m ρ)

/-- The per-layer embedding: the kernel's results are the reference's. -/
theorem algebraic33 : Cert.algebraic_Kernel33Ideal_Reference33Ideal := by
  intro m ρ m' ρ' _ hagree
  refine ⟨fun c => Cert.Reference33Ideal.Read.val_main_v22 (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)) (m ((c.tc : Thread Cert.Kernel33Ideal.nD Cert.Kernel33Ideal.τ).loc Cert.Kernel33Ideal.main_arg4)),
    fun c => Cert.Reference33Ideal.Read.val_main_v23 (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg4)),
    fun c => Cert.Reference33Ideal.Read.val_main_v24 (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg2)),
    fun c => Cert.Reference33Ideal.Read.val_main_v25 (F := Ideal) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg3)),
    (θ_run Cert.Kernel33Ideal.defs _ _).mono (fun r h c => ?_) (Cert.Kernel33Ideal.Value.run_blocks m ρ),
    (θ_run Cert.Reference33Ideal.defs _ _).mono (fun r h c => ?_) (Cert.Reference33Ideal.Value.run m' ρ')⟩
  · exact ⟨(h c).1.trans (Cert.Kernel33Ideal.Prod.final_rows m c), (h c).2.1.trans (Cert.Kernel33Ideal.Prod.final_gate m c), (h c).2.2.1.trans (Cert.Kernel33Ideal.Prod.final_norm m c), (h c).2.2.2.1.trans (Cert.Kernel33Ideal.Prod.final_emb m c), (h c).2.2.2.2⟩
  · obtain ⟨a0, a1, a2, a3, a4⟩ := hagree c
    beta_reduce
    rw [← a0, ← a1, ← a2, ← a3, ← a4]
    exact ⟨(h c).1.trans (Cert.Reference33Ideal.Read.val_main_v22_eq _ _ _ _ _), (h c).2.1.trans (Cert.Reference33Ideal.Read.val_main_v23_eq _ _ _), (h c).2.2.1.trans (Cert.Reference33Ideal.Read.val_main_v24_eq _ _), (h c).2.2.2.1.trans (Cert.Reference33Ideal.Read.val_main_v25_eq _ _), (h c).2.2.2.2⟩

/-- The reference of the norm before the mixer runs, keeps its arguments and has no semaphore. -/
theorem frame_reference34 : Cert.quiescent_Reference34Ideal := fun m ρ _ =>
  (θ_run Cert.Reference34Ideal.defs _ _).mono
    (fun r h => ⟨fun c => (h c).2, Idealize.ShloMosaic.sem_eq_zero_of_no_sems (by decide) r.2⟩) (Cert.Reference34Ideal.Value.run m ρ)

/-- The norm before the mixer: the kernel's result is the reference's. -/
theorem algebraic34 : Cert.algebraic_Kernel34Ideal_Reference34Ideal := by
  intro m ρ m' ρ' _ hagree
  refine ⟨fun c => Cert.Reference34Ideal.Read.val_main_v13 (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)),
    (θ_run Cert.Kernel34Ideal.defs _ _).mono (fun r h c => ?_) (Cert.Kernel34Ideal.Value.run_blocks m ρ),
    (θ_run Cert.Reference34Ideal.defs _ _).mono (fun r h c => ?_) (Cert.Reference34Ideal.Value.run m' ρ')⟩
  · exact ⟨(h c).1.trans (Cert.Kernel34Ideal.Prod.final m c), (h c).2⟩
  · obtain ⟨a0, a1⟩ := hagree c
    beta_reduce
    rw [← a0, ← a1]
    exact ⟨(h c).1.trans (Cert.Reference34Ideal.Read.val_main_v13_eq _ _), (h c).2⟩

/-- The reference of the gates and the merge of the three branches runs, keeps its arguments and has no semaphore. -/
theorem frame_reference35 : Cert.quiescent_Reference35Ideal := fun m ρ _ =>
  (θ_run Cert.Reference35Ideal.defs _ _).mono
    (fun r h => ⟨fun c => (h c).2, Idealize.ShloMosaic.sem_eq_zero_of_no_sems (by decide) r.2⟩) (Cert.Reference35Ideal.Value.run m ρ)

/-- The gates and the merge of the three branches: the kernel's result is the reference's. -/
theorem algebraic35 : Cert.algebraic_Kernel35Ideal_Reference35Ideal := by
  intro m ρ m' ρ' _ hagree
  refine ⟨fun c => Cert.Reference35Ideal.Read.val_main_v27 (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)) (m ((c.tc : Thread Cert.Kernel35Ideal.nD Cert.Kernel35Ideal.τ).loc Cert.Kernel35Ideal.main_arg4)),
    (θ_run Cert.Kernel35Ideal.defs _ _).mono (fun r h c => ?_) (Cert.Kernel35Ideal.Value.run_blocks m ρ),
    (θ_run Cert.Reference35Ideal.defs _ _).mono (fun r h c => ?_) (Cert.Reference35Ideal.Value.run m' ρ')⟩
  · exact ⟨(h c).1.trans (Cert.Kernel35Ideal.Prod.final m c), (h c).2⟩
  · obtain ⟨a0, a1, a2, a3, a4⟩ := hagree c
    beta_reduce
    rw [← a0, ← a1, ← a2, ← a3, ← a4]
    exact ⟨(h c).1.trans (Cert.Reference35Ideal.Read.val_main_v27_eq _ _ _ _ _), (h c).2⟩

/-- The reference of the backward pass of the norm before the SwiGLU runs, keeps its arguments and has no semaphore. -/
theorem frame_reference36 : Cert.quiescent_Reference36Ideal := fun m ρ _ =>
  (θ_run Cert.Reference36Ideal.defs _ _).mono
    (fun r h => ⟨fun c => (h c).2.2, Idealize.ShloMosaic.sem_eq_zero_of_no_sems (by decide) r.2⟩) (Cert.Reference36Ideal.Value.run m ρ)

/-- The backward pass of the norm before the SwiGLU: the kernel's results are the reference's. -/
theorem algebraic36 : Cert.algebraic_Kernel36Ideal_Reference36Ideal := by
  intro m ρ m' ρ' _ hagree
  refine ⟨fun c => Cert.Reference36Ideal.Read.val_main_v36 (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg1)) (m ((c.tc : Thread Cert.Kernel36Ideal.nD Cert.Kernel36Ideal.τ).loc Cert.Kernel36Ideal.main_arg2)) (m ((c.tc : Thread Cert.Kernel36Ideal.nD Cert.Kernel36Ideal.τ).loc Cert.Kernel36Ideal.main_arg3)),
    fun c => Cert.Reference36Ideal.Read.val_main_v37 (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg1)),
    (θ_run Cert.Kernel36Ideal.defs _ _).mono (fun r h c => ?_) (Cert.Kernel36Ideal.Value.run_blocks m ρ),
    (θ_run Cert.Reference36Ideal.defs _ _).mono (fun r h c => ?_) (Cert.Reference36Ideal.Value.run m' ρ')⟩
  · exact ⟨(h c).1.trans (Cert.Kernel36Ideal.Prod.final_rows m c), (h c).2.1.trans (Cert.Kernel36Ideal.Prod.final_gain m c), (h c).2.2⟩
  · obtain ⟨a0, a1, a2, a3⟩ := hagree c
    beta_reduce
    rw [← a0, ← a1, ← a2, ← a3]
    exact ⟨(h c).1.trans (Cert.Reference36Ideal.Read.val_main_v36_eq _ _ _ _), (h c).2.1.trans (Cert.Reference36Ideal.Read.val_main_v37_eq _ _), (h c).2.2⟩

/-- The reference of the sum over the chips of the gradient of the attention's output weights runs, keeps its arguments and has no semaphore. -/
theorem frame_reference37 : Cert.quiescent_Reference37Ideal := fun m ρ _ =>
  (θ_run Cert.Reference37Ideal.defs _ _).mono
    (fun r h => ⟨fun c => (h c).2, Idealize.ShloMosaic.sem_eq_zero_of_no_sems (by decide) r.2⟩) (Cert.Reference37Ideal.Value.run m ρ)

/-- The sum over the chips of the gradient of the attention's output weights: the kernel's result is the reference's. -/
theorem algebraic37 : Cert.algebraic_Kernel37Ideal_Reference37Ideal_on_summed37 := by
  intro m ρ m' ρ' _ hagree
  refine ⟨fun c => Cert.Reference37Ideal.Read.val_main_v12 (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)),
    (θ_run Cert.Kernel37Ideal.defs _ _).mono (fun r h c => ?_) (Cert.Kernel37Ideal.Value.run_blocks m ρ),
    (θ_run Cert.Reference37Ideal.defs _ _).mono (fun r h c => ?_) (Cert.Reference37Ideal.Value.run m' ρ')⟩
  · exact ⟨fun i hi => (congrFun (h c).1 i).trans (Cert.Kernel37Ideal.Prod.final m c i ((Cert.Kernel37Ideal.Prod.mask_iff _ _ i).mp hi)), (h c).2⟩
  · obtain ⟨a0, a1⟩ := hagree c
    beta_reduce
    rw [← a0, ← a1]
    exact ⟨fun i _ => (congrFun (h c).1 i).trans (congrFun (Cert.Reference37Ideal.Read.val_main_v12_eq _ _) i), (h c).2⟩

/-- The reference of the sum over the chips of the gradient of the mixer's input weights runs, keeps its arguments and has no semaphore. -/
theorem frame_reference38 : Cert.quiescent_Reference38Ideal := fun m ρ _ =>
  (θ_run Cert.Reference38Ideal.defs _ _).mono
    (fun r h => ⟨fun c => (h c).2, Idealize.ShloMosaic.sem_eq_zero_of_no_sems (by decide) r.2⟩) (Cert.Reference38Ideal.Value.run m ρ)

/-- The sum over the chips of the gradient of the mixer's input weights: the kernel's result is the reference's. -/
theorem algebraic38 : Cert.algebraic_Kernel38Ideal_Reference38Ideal_on_summed38 := by
  intro m ρ m' ρ' _ hagree
  refine ⟨fun c => Cert.Reference38Ideal.Read.val_main_v12 (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)),
    (θ_run Cert.Kernel38Ideal.defs _ _).mono (fun r h c => ?_) (Cert.Kernel38Ideal.Value.run_blocks m ρ),
    (θ_run Cert.Reference38Ideal.defs _ _).mono (fun r h c => ?_) (Cert.Reference38Ideal.Value.run m' ρ')⟩
  · exact ⟨fun i hi => (congrFun (h c).1 i).trans (Cert.Kernel38Ideal.Prod.final m c i ((Cert.Kernel38Ideal.Prod.mask_iff _ _ i).mp hi)), (h c).2⟩
  · obtain ⟨a0, a1⟩ := hagree c
    beta_reduce
    rw [← a0, ← a1]
    exact ⟨fun i _ => (congrFun (h c).1 i).trans (congrFun (Cert.Reference38Ideal.Read.val_main_v12_eq _ _) i), (h c).2⟩

/-- The reference of the sum over the chips of the gradient of the SwiGLU's input weights runs, keeps its arguments and has no semaphore. -/
theorem frame_reference39 : Cert.quiescent_Reference39Ideal := fun m ρ _ =>
  (θ_run Cert.Reference39Ideal.defs _ _).mono
    (fun r h => ⟨fun c => (h c).2, Idealize.ShloMosaic.sem_eq_zero_of_no_sems (by decide) r.2⟩) (Cert.Reference39Ideal.Value.run m ρ)

/-- The sum over the chips of the gradient of the SwiGLU's input weights: the kernel's result is the reference's. -/
theorem algebraic39 : Cert.algebraic_Kernel39Ideal_Reference39Ideal_on_summed39 := by
  intro m ρ m' ρ' _ hagree
  refine ⟨fun c => Cert.Reference39Ideal.Read.val_main_v12 (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)),
    (θ_run Cert.Kernel39Ideal.defs _ _).mono (fun r h c => ?_) (Cert.Kernel39Ideal.Value.run_blocks m ρ),
    (θ_run Cert.Reference39Ideal.defs _ _).mono (fun r h c => ?_) (Cert.Reference39Ideal.Value.run m' ρ')⟩
  · exact ⟨fun i hi => (congrFun (h c).1 i).trans (Cert.Kernel39Ideal.Prod.final m c i ((Cert.Kernel39Ideal.Prod.mask_iff _ _ i).mp hi)), (h c).2⟩
  · obtain ⟨a0, a1⟩ := hagree c
    beta_reduce
    rw [← a0, ← a1]
    exact ⟨fun i _ => (congrFun (h c).1 i).trans (congrFun (Cert.Reference39Ideal.Read.val_main_v12_eq _ _) i), (h c).2⟩

/-- The reference of the sum over the chips of the gradient of the SwiGLU's output weights runs, keeps its arguments and has no semaphore. -/
theorem frame_reference40 : Cert.quiescent_Reference40Ideal := fun m ρ _ =>
  (θ_run Cert.Reference40Ideal.defs _ _).mono
    (fun r h => ⟨fun c => (h c).2, Idealize.ShloMosaic.sem_eq_zero_of_no_sems (by decide) r.2⟩) (Cert.Reference40Ideal.Value.run m ρ)

/-- The sum over the chips of the gradient of the SwiGLU's output weights: the kernel's result is the reference's. -/
theorem algebraic40 : Cert.algebraic_Kernel40Ideal_Reference40Ideal_on_summed40 := by
  intro m ρ m' ρ' _ hagree
  refine ⟨fun c => Cert.Reference40Ideal.Read.val_main_v12 (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)),
    (θ_run Cert.Kernel40Ideal.defs _ _).mono (fun r h c => ?_) (Cert.Kernel40Ideal.Value.run_blocks m ρ),
    (θ_run Cert.Reference40Ideal.defs _ _).mono (fun r h c => ?_) (Cert.Reference40Ideal.Value.run m' ρ')⟩
  · exact ⟨fun i hi => (congrFun (h c).1 i).trans (Cert.Kernel40Ideal.Prod.final m c i ((Cert.Kernel40Ideal.Prod.mask_iff _ _ i).mp hi)), (h c).2⟩
  · obtain ⟨a0, a1⟩ := hagree c
    beta_reduce
    rw [← a0, ← a1]
    exact ⟨fun i _ => (congrFun (h c).1 i).trans (congrFun (Cert.Reference40Ideal.Read.val_main_v12_eq _ _) i), (h c).2⟩

/-- The reference of the sum over the chips of the gradient of the mixer's output weights, and of the per-layer embedding's gate weights runs, keeps its arguments and has no semaphore. -/
theorem frame_reference41 : Cert.quiescent_Reference41Ideal := fun m ρ _ =>
  (θ_run Cert.Reference41Ideal.defs _ _).mono
    (fun r h => ⟨fun c => (h c).2, Idealize.ShloMosaic.sem_eq_zero_of_no_sems (by decide) r.2⟩) (Cert.Reference41Ideal.Value.run m ρ)

/-- The sum over the chips of the gradient of the mixer's output weights, and of the per-layer embedding's gate weights: the kernel's result is the reference's. -/
theorem algebraic41 : Cert.algebraic_Kernel41Ideal_Reference41Ideal_on_summed41 := by
  intro m ρ m' ρ' _ hagree
  refine ⟨fun c => Cert.Reference41Ideal.Read.val_main_v12 (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)),
    (θ_run Cert.Kernel41Ideal.defs _ _).mono (fun r h c => ?_) (Cert.Kernel41Ideal.Value.run_blocks m ρ),
    (θ_run Cert.Reference41Ideal.defs _ _).mono (fun r h c => ?_) (Cert.Reference41Ideal.Value.run m' ρ')⟩
  · exact ⟨fun i hi => (congrFun (h c).1 i).trans (Cert.Kernel41Ideal.Prod.final m c i ((Cert.Kernel41Ideal.Prod.mask_iff _ _ i).mp hi)), (h c).2⟩
  · obtain ⟨a0, a1⟩ := hagree c
    beta_reduce
    rw [← a0, ← a1]
    exact ⟨fun i _ => (congrFun (h c).1 i).trans (congrFun (Cert.Reference41Ideal.Read.val_main_v12_eq _ _) i), (h c).2⟩

/-- The reference of the sum over the chips of the gradient of the S5's gate weights runs, keeps its arguments and has no semaphore. -/
theorem frame_reference42 : Cert.quiescent_Reference42Ideal := fun m ρ _ =>
  (θ_run Cert.Reference42Ideal.defs _ _).mono
    (fun r h => ⟨fun c => (h c).2, Idealize.ShloMosaic.sem_eq_zero_of_no_sems (by decide) r.2⟩) (Cert.Reference42Ideal.Value.run m ρ)

/-- The sum over the chips of the gradient of the S5's gate weights: the kernel's result is the reference's. -/
theorem algebraic42 : Cert.algebraic_Kernel42Ideal_Reference42Ideal_on_summed42 := by
  intro m ρ m' ρ' _ hagree
  refine ⟨fun c => Cert.Reference42Ideal.Read.val_main_v12 (F := Ideal) (m ((c.tc : Thread Cert.Kernel42Ideal.nD Cert.Kernel42Ideal.τ).loc Cert.Kernel42Ideal.main_arg0)) (m ((c.tc : Thread Cert.Kernel42Ideal.nD Cert.Kernel42Ideal.τ).loc Cert.Kernel42Ideal.main_arg1)),
    (θ_run Cert.Kernel42Ideal.defs _ _).mono (fun r h c => ?_) (Cert.Kernel42Ideal.Value.run_blocks m ρ),
    (θ_run Cert.Reference42Ideal.defs _ _).mono (fun r h c => ?_) (Cert.Reference42Ideal.Value.run m' ρ')⟩
  · exact ⟨fun i hi => (congrFun (h c).1 i).trans (Cert.Kernel42Ideal.Prod.final m c i ((Cert.Kernel42Ideal.Prod.mask_iff _ _ i).mp hi)), (h c).2⟩
  · obtain ⟨a0, a1⟩ := hagree c
    beta_reduce
    rw [← a0, ← a1]
    exact ⟨fun i _ => (congrFun (h c).1 i).trans (congrFun (Cert.Reference42Ideal.Read.val_main_v12_eq _ _) i), (h c).2⟩

/-- The reference of the sum over the chips of the gradient of the convolution's output weights, and of the per-layer embedding's input weights runs, keeps its arguments and has no semaphore. -/
theorem frame_reference43 : Cert.quiescent_Reference43Ideal := fun m ρ _ =>
  (θ_run Cert.Reference43Ideal.defs _ _).mono
    (fun r h => ⟨fun c => (h c).2, Idealize.ShloMosaic.sem_eq_zero_of_no_sems (by decide) r.2⟩) (Cert.Reference43Ideal.Value.run m ρ)

/-- The sum over the chips of the gradient of the convolution's output weights, and of the per-layer embedding's input weights: the kernel's result is the reference's. -/
theorem algebraic43 : Cert.algebraic_Kernel43Ideal_Reference43Ideal_on_summed43 := by
  intro m ρ m' ρ' _ hagree
  refine ⟨fun c => Cert.Reference43Ideal.Read.val_main_v12 (F := Ideal) (m ((c.tc : Thread Cert.Kernel43Ideal.nD Cert.Kernel43Ideal.τ).loc Cert.Kernel43Ideal.main_arg0)) (m ((c.tc : Thread Cert.Kernel43Ideal.nD Cert.Kernel43Ideal.τ).loc Cert.Kernel43Ideal.main_arg1)),
    (θ_run Cert.Kernel43Ideal.defs _ _).mono (fun r h c => ?_) (Cert.Kernel43Ideal.Value.run_blocks m ρ),
    (θ_run Cert.Reference43Ideal.defs _ _).mono (fun r h c => ?_) (Cert.Reference43Ideal.Value.run m' ρ')⟩
  · exact ⟨fun i hi => (congrFun (h c).1 i).trans (Cert.Kernel43Ideal.Prod.final m c i ((Cert.Kernel43Ideal.Prod.mask_iff _ _ i).mp hi)), (h c).2⟩
  · obtain ⟨a0, a1⟩ := hagree c
    beta_reduce
    rw [← a0, ← a1]
    exact ⟨fun i _ => (congrFun (h c).1 i).trans (congrFun (Cert.Reference43Ideal.Read.val_main_v12_eq _ _) i), (h c).2⟩

theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel2.Gen.facts, Cert.Kernel2Ideal.Gen.facts, Cert.Reference2Ideal.Gen.facts,
    Cert.Kernel4.Gen.facts, Cert.Kernel4Ideal.Gen.facts, Cert.Reference4Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Cert.Kernel43.Gen.facts, Cert.Kernel43Ideal.Gen.facts, Cert.Reference43Ideal.Gen.facts,
    Cert.Pre_finite.facts, Cert.Pre_finite2.facts, Cert.On_summed37.Gen.facts, Cert.On_summed38.Gen.facts, Cert.On_summed39.Gen.facts, Cert.On_summed40.Gen.facts, Cert.On_summed41.Gen.facts, Cert.On_summed42.Gen.facts, Cert.On_summed43.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel3.Gen.frame m ρ, fun m ρ _ => Cert.Kernel3Ideal.Gen.frame m ρ, frame_reference3,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel2.Gen.frame m ρ, fun m ρ _ => Cert.Kernel2Ideal.Gen.frame m ρ, fun m ρ _ => Cert.Kernel2Ideal.Gen.frame m ρ, frame_reference2, fun m ρ _ => frame_reference2 m ρ trivial,
    fun m ρ _ => Cert.Kernel4.Gen.frame m ρ, fun m ρ _ => Cert.Kernel4Ideal.Gen.frame m ρ, frame_reference4,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    fun m ρ _ => Cert.Kernel25.Gen.frame m ρ, fun m ρ _ => Cert.Kernel25Ideal.Gen.frame m ρ, frame_reference25,
    fun m ρ _ => Cert.Kernel26.Gen.frame m ρ, fun m ρ _ => Cert.Kernel26Ideal.Gen.frame m ρ, frame_reference26,
    fun m ρ _ => Cert.Kernel27.Gen.frame m ρ, fun m ρ _ => Cert.Kernel27Ideal.Gen.frame m ρ, frame_reference27,
    fun m ρ _ => Cert.Kernel28.Gen.frame m ρ, fun m ρ _ => Cert.Kernel28Ideal.Gen.frame m ρ, frame_reference28,
    fun m ρ _ => Cert.Kernel29.Gen.frame m ρ, fun m ρ _ => Cert.Kernel29Ideal.Gen.frame m ρ, frame_reference29,
    fun m ρ _ => Cert.Kernel30.Gen.frame m ρ, fun m ρ _ => Cert.Kernel30Ideal.Gen.frame m ρ, frame_reference30,
    fun m ρ _ => Cert.Kernel31.Gen.frame m ρ, fun m ρ _ => Cert.Kernel31Ideal.Gen.frame m ρ, frame_reference31,
    fun m ρ _ => Cert.Kernel32.Gen.frame m ρ, fun m ρ _ => Cert.Kernel32Ideal.Gen.frame m ρ, frame_reference32,
    fun m ρ _ => Cert.Kernel33.Gen.frame m ρ, fun m ρ _ => Cert.Kernel33Ideal.Gen.frame m ρ, frame_reference33,
    fun m ρ _ => Cert.Kernel34.Gen.frame m ρ, fun m ρ _ => Cert.Kernel34Ideal.Gen.frame m ρ, frame_reference34,
    fun m ρ _ => Cert.Kernel35.Gen.frame m ρ, fun m ρ _ => Cert.Kernel35Ideal.Gen.frame m ρ, frame_reference35,
    fun m ρ _ => Cert.Kernel36.Gen.frame m ρ, fun m ρ _ => Cert.Kernel36Ideal.Gen.frame m ρ, frame_reference36,
    fun m ρ _ => Cert.Kernel37.Gen.frame m ρ, fun m ρ _ => Cert.Kernel37Ideal.Gen.frame m ρ, frame_reference37,
    fun m ρ _ => Cert.Kernel38.Gen.frame m ρ, fun m ρ _ => Cert.Kernel38Ideal.Gen.frame m ρ, frame_reference38,
    fun m ρ _ => Cert.Kernel39.Gen.frame m ρ, fun m ρ _ => Cert.Kernel39Ideal.Gen.frame m ρ, frame_reference39,
    fun m ρ _ => Cert.Kernel40.Gen.frame m ρ, fun m ρ _ => Cert.Kernel40Ideal.Gen.frame m ρ, frame_reference40,
    fun m ρ _ => Cert.Kernel41.Gen.frame m ρ, fun m ρ _ => Cert.Kernel41Ideal.Gen.frame m ρ, frame_reference41,
    fun m ρ _ => Cert.Kernel42.Gen.frame m ρ, fun m ρ _ => Cert.Kernel42Ideal.Gen.frame m ρ, frame_reference42,
    fun m ρ _ => Cert.Kernel43.Gen.frame m ρ, fun m ρ _ => Cert.Kernel43Ideal.Gen.frame m ρ, frame_reference43,
    trivial, algebraic, trivial, algebraic3, trivial, algebraic5, trivial, algebraic6, trivial, algebraic7, trivial, algebraic8, trivial, algebraic9, trivial, algebraic10, trivial, algebraic2, trivial, algebraic4, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25, trivial, algebraic26, trivial, algebraic27, trivial, algebraic28, trivial, algebraic29, trivial, algebraic30, trivial, algebraic31, trivial, algebraic32, trivial, algebraic33, trivial, algebraic34, trivial, algebraic35, trivial, algebraic36, trivial, algebraic37, trivial, algebraic38, trivial, algebraic39, trivial, algebraic40, trivial, algebraic41, trivial, algebraic42, trivial, algebraic43⟩

end Cert.Proof

end
